-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_WgIn (m : (ℓ : Loc Cert.WgIn.nD Cert.WgIn.τ Cert.WgIn.sig) → Buf (Elt Bits) ℓ) : Prop :=
  True

def Pre_WgInIdeal (m : (ℓ : Loc Cert.WgInIdeal.nD Cert.WgInIdeal.τ Cert.WgInIdeal.sig) → Buf (Elt Ideal) ℓ) : Prop :=
  True

def Pre_WgInReferenceIdeal (m : (ℓ : Loc Cert.WgInReferenceIdeal.nD Cert.WgInReferenceIdeal.τ Cert.WgInReferenceIdeal.sig) → Buf (Elt Ideal) ℓ) : Prop :=
  True

def Pre_WgOut (m : (ℓ : Loc Cert.WgOut.nD Cert.WgOut.τ Cert.WgOut.sig) → Buf (Elt Bits) ℓ) : Prop :=
  True

def Pre_WgOutIdeal (m : (ℓ : Loc Cert.WgOutIdeal.nD Cert.WgOutIdeal.τ Cert.WgOutIdeal.sig) → Buf (Elt Ideal) ℓ) : Prop :=
  True

def Pre_WgOutReferenceIdeal (m : (ℓ : Loc Cert.WgOutReferenceIdeal.nD Cert.WgOutReferenceIdeal.τ Cert.WgOutReferenceIdeal.sig) → Buf (Elt Ideal) ℓ) : Prop :=
  True

def Pre_WgFfnIn (m : (ℓ : Loc Cert.WgFfnIn.nD Cert.WgFfnIn.τ Cert.WgFfnIn.sig) → Buf (Elt Bits) ℓ) : Prop :=
  True

def Pre_WgFfnInIdeal (m : (ℓ : Loc Cert.WgFfnInIdeal.nD Cert.WgFfnInIdeal.τ Cert.WgFfnInIdeal.sig) → Buf (Elt Ideal) ℓ) : Prop :=
  True

def Pre_WgFfnInReferenceIdeal (m : (ℓ : Loc Cert.WgFfnInReferenceIdeal.nD Cert.WgFfnInReferenceIdeal.τ Cert.WgFfnInReferenceIdeal.sig) → Buf (Elt Ideal) ℓ) : Prop :=
  True

def Pre_WgFfnOut (m : (ℓ : Loc Cert.WgFfnOut.nD Cert.WgFfnOut.τ Cert.WgFfnOut.sig) → Buf (Elt Bits) ℓ) : Prop :=
  True

def Pre_WgFfnOutIdeal (m : (ℓ : Loc Cert.WgFfnOutIdeal.nD Cert.WgFfnOutIdeal.τ Cert.WgFfnOutIdeal.sig) → Buf (Elt Ideal) ℓ) : Prop :=
  True

def Pre_WgFfnOutReferenceIdeal (m : (ℓ : Loc Cert.WgFfnOutReferenceIdeal.nD Cert.WgFfnOutReferenceIdeal.τ Cert.WgFfnOutReferenceIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2.2 = (fun _ => 1#1)

def Pre_InBwdReferenceIdeal (m : (ℓ : Loc Cert.InBwdReferenceIdeal.nD Cert.InBwdReferenceIdeal.τ Cert.InBwdReferenceIdeal.sig) → Buf (Elt Ideal) ℓ) : Prop :=
  True

def Pre_InBwdReferenceIdeal_finite_in [hPre_finite_in : Cert.Pre_finite_in.Facts] (m : (ℓ : Loc Cert.InBwdReferenceIdeal.nD Cert.InBwdReferenceIdeal.τ Cert.InBwdReferenceIdeal.sig) → Buf (Elt Ideal) ℓ) : Prop :=
  ∀ c : Dev Cert.InBwdReferenceIdeal.nD,
    (Cert.Pre_finite_in.fn (F := Ideal) (m ((c.tc : Thread Cert.InBwdReferenceIdeal.nD Cert.InBwdReferenceIdeal.τ).loc Cert.InBwdReferenceIdeal.main_arg0)) (m ((c.tc : Thread Cert.InBwdReferenceIdeal.nD Cert.InBwdReferenceIdeal.τ).loc Cert.InBwdReferenceIdeal.main_arg1)) (m ((c.tc : Thread Cert.InBwdReferenceIdeal.nD Cert.InBwdReferenceIdeal.τ).loc Cert.InBwdReferenceIdeal.main_arg2)) (m ((c.tc : Thread Cert.InBwdReferenceIdeal.nD Cert.InBwdReferenceIdeal.τ).loc Cert.InBwdReferenceIdeal.main_arg3)) (m ((c.tc : Thread Cert.InBwdReferenceIdeal.nD Cert.InBwdReferenceIdeal.τ).loc Cert.InBwdReferenceIdeal.main_arg4)) (m ((c.tc : Thread Cert.InBwdReferenceIdeal.nD Cert.InBwdReferenceIdeal.τ).loc Cert.InBwdReferenceIdeal.main_arg5))).1 = (fun _ => 1#1)
    ∧ (Cert.Pre_finite_in.fn (F := Ideal) (m ((c.tc : Thread Cert.InBwdReferenceIdeal.nD Cert.InBwdReferenceIdeal.τ).loc Cert.InBwdReferenceIdeal.main_arg0)) (m ((c.tc : Thread Cert.InBwdReferenceIdeal.nD Cert.InBwdReferenceIdeal.τ).loc Cert.InBwdReferenceIdeal.main_arg1)) (m ((c.tc : Thread Cert.InBwdReferenceIdeal.nD Cert.InBwdReferenceIdeal.τ).loc Cert.InBwdReferenceIdeal.main_arg2)) (m ((c.tc : Thread Cert.InBwdReferenceIdeal.nD Cert.InBwdReferenceIdeal.τ).loc Cert.InBwdReferenceIdeal.main_arg3)) (m ((c.tc : Thread Cert.InBwdReferenceIdeal.nD Cert.InBwdReferenceIdeal.τ).loc Cert.InBwdReferenceIdeal.main_arg4)) (m ((c.tc : Thread Cert.InBwdReferenceIdeal.nD Cert.InBwdReferenceIdeal.τ).loc Cert.InBwdReferenceIdeal.main_arg5))).2.1 = (fun _ => 1#1)
    ∧ (Cert.Pre_finite_in.fn (F := Ideal) (m ((c.tc : Thread Cert.InBwdReferenceIdeal.nD Cert.InBwdReferenceIdeal.τ).loc Cert.InBwdReferenceIdeal.main_arg0)) (m ((c.tc : Thread Cert.InBwdReferenceIdeal.nD Cert.InBwdReferenceIdeal.τ).loc Cert.InBwdReferenceIdeal.main_arg1)) (m ((c.tc : Thread Cert.InBwdReferenceIdeal.nD Cert.InBwdReferenceIdeal.τ).loc Cert.InBwdReferenceIdeal.main_arg2)) (m ((c.tc : Thread Cert.InBwdReferenceIdeal.nD Cert.InBwdReferenceIdeal.τ).loc Cert.InBwdReferenceIdeal.main_arg3)) (m ((c.tc : Thread Cert.InBwdReferenceIdeal.nD Cert.InBwdReferenceIdeal.τ).loc Cert.InBwdReferenceIdeal.main_arg4)) (m ((c.tc : Thread Cert.InBwdReferenceIdeal.nD Cert.InBwdReferenceIdeal.τ).loc Cert.InBwdReferenceIdeal.main_arg5))).2.2.1 = (fun _ => 1#1)
    ∧ (Cert.Pre_finite_in.fn (F := Ideal) (m ((c.tc : Thread Cert.InBwdReferenceIdeal.nD Cert.InBwdReferenceIdeal.τ).loc Cert.InBwdReferenceIdeal.main_arg0)) (m ((c.tc : Thread Cert.InBwdReferenceIdeal.nD Cert.InBwdReferenceIdeal.τ).loc Cert.InBwdReferenceIdeal.main_arg1)) (m ((c.tc : Thread Cert.InBwdReferenceIdeal.nD Cert.InBwdReferenceIdeal.τ).loc Cert.InBwdReferenceIdeal.main_arg2)) (m ((c.tc : Thread Cert.InBwdReferenceIdeal.nD Cert.InBwdReferenceIdeal.τ).loc Cert.InBwdReferenceIdeal.main_arg3)) (m ((c.tc : Thread Cert.InBwdReferenceIdeal.nD Cert.InBwdReferenceIdeal.τ).loc Cert.InBwdReferenceIdeal.main_arg4)) (m ((c.tc : Thread Cert.InBwdReferenceIdeal.nD Cert.InBwdReferenceIdeal.τ).loc Cert.InBwdReferenceIdeal.main_arg5))).2.2.2.1 = (fun _ => 1#1)
    ∧ (Cert.Pre_finite_in.fn (F := Ideal) (m ((c.tc : Thread Cert.InBwdReferenceIdeal.nD Cert.InBwdReferenceIdeal.τ).loc Cert.InBwdReferenceIdeal.main_arg0)) (m ((c.tc : Thread Cert.InBwdReferenceIdeal.nD Cert.InBwdReferenceIdeal.τ).loc Cert.InBwdReferenceIdeal.main_arg1)) (m ((c.tc : Thread Cert.InBwdReferenceIdeal.nD Cert.InBwdReferenceIdeal.τ).loc Cert.InBwdReferenceIdeal.main_arg2)) (m ((c.tc : Thread Cert.InBwdReferenceIdeal.nD Cert.InBwdReferenceIdeal.τ).loc Cert.InBwdReferenceIdeal.main_arg3)) (m ((c.tc : Thread Cert.InBwdReferenceIdeal.nD Cert.InBwdReferenceIdeal.τ).loc Cert.InBwdReferenceIdeal.main_arg4)) (m ((c.tc : Thread Cert.InBwdReferenceIdeal.nD Cert.InBwdReferenceIdeal.τ).loc Cert.InBwdReferenceIdeal.main_arg5))).2.2.2.2 = (fun _ => 1#1)

def Pre_FfnInBwd (m : (ℓ : Loc Cert.FfnInBwd.nD Cert.FfnInBwd.τ Cert.FfnInBwd.sig) → Buf (Elt Bits) ℓ) : Prop :=
  True

def Pre_FfnInBwdIdeal (m : (ℓ : Loc Cert.FfnInBwdIdeal.nD Cert.FfnInBwdIdeal.τ Cert.FfnInBwdIdeal.sig) → Buf (Elt Ideal) ℓ) : Prop :=
  True

def Pre_FfnInBwdIdeal_finite_ffn_in [hPre_finite_ffn_in : Cert.Pre_finite_ffn_in.Facts] (m : (ℓ : Loc Cert.FfnInBwdIdeal.nD Cert.FfnInBwdIdeal.τ Cert.FfnInBwdIdeal.sig) → Buf (Elt Ideal) ℓ) : Prop :=
  ∀ c : Dev Cert.FfnInBwdIdeal.nD,
    (Cert.Pre_finite_ffn_in.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).1 = (fun _ => 1#1)
    ∧ (Cert.Pre_finite_ffn_in.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).2.1 = (fun _ => 1#1)
    ∧ (Cert.Pre_finite_ffn_in.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).2.2.1 = (fun _ => 1#1)
    ∧ (Cert.Pre_finite_ffn_in.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).2.2.2.1 = (fun _ => 1#1)
    ∧ (Cert.Pre_finite_ffn_in.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5))).2.2.2.2 = (fun _ => 1#1)

def Pre_FfnInBwdReferenceIdeal (m : (ℓ : Loc Cert.FfnInBwdReferenceIdeal.nD Cert.FfnInBwdReferenceIdeal.τ Cert.FfnInBwdReferenceIdeal.sig) → Buf (Elt Ideal) ℓ) : Prop :=
  True

def Pre_FfnInBwdReferenceIdeal_finite_ffn_in [hPre_finite_ffn_in : Cert.Pre_finite_ffn_in.Facts] (m : (ℓ : Loc Cert.FfnInBwdReferenceIdeal.nD Cert.FfnInBwdReferenceIdeal.τ Cert.FfnInBwdReferenceIdeal.sig) → Buf (Elt Ideal) ℓ) : Prop :=
  ∀ c : Dev Cert.FfnInBwdReferenceIdeal.nD,
    (Cert.Pre_finite_ffn_in.fn (F := Ideal) (m ((c.tc : Thread Cert.FfnInBwdReferenceIdeal.nD Cert.FfnInBwdReferenceIdeal.τ).loc Cert.FfnInBwdReferenceIdeal.main_arg0)) (m ((c.tc : Thread Cert.FfnInBwdReferenceIdeal.nD Cert.FfnInBwdReferenceIdeal.τ).loc Cert.FfnInBwdReferenceIdeal.main_arg1)) (m ((c.tc : Thread Cert.FfnInBwdReferenceIdeal.nD Cert.FfnInBwdReferenceIdeal.τ).loc Cert.FfnInBwdReferenceIdeal.main_arg2)) (m ((c.tc : Thread Cert.FfnInBwdReferenceIdeal.nD Cert.FfnInBwdReferenceIdeal.τ).loc Cert.FfnInBwdReferenceIdeal.main_arg3)) (m ((c.tc : Thread Cert.FfnInBwdReferenceIdeal.nD Cert.FfnInBwdReferenceIdeal.τ).loc Cert.FfnInBwdReferenceIdeal.main_arg4)) (m ((c.tc : Thread Cert.FfnInBwdReferenceIdeal.nD Cert.FfnInBwdReferenceIdeal.τ).loc Cert.FfnInBwdReferenceIdeal.main_arg5))).1 = (fun _ => 1#1)
    ∧ (Cert.Pre_finite_ffn_in.fn (F := Ideal) (m ((c.tc : Thread Cert.FfnInBwdReferenceIdeal.nD Cert.FfnInBwdReferenceIdeal.τ).loc Cert.FfnInBwdReferenceIdeal.main_arg0)) (m ((c.tc : Thread Cert.FfnInBwdReferenceIdeal.nD Cert.FfnInBwdReferenceIdeal.τ).loc Cert.FfnInBwdReferenceIdeal.main_arg1)) (m ((c.tc : Thread Cert.FfnInBwdReferenceIdeal.nD Cert.FfnInBwdReferenceIdeal.τ).loc Cert.FfnInBwdReferenceIdeal.main_arg2)) (m ((c.tc : Thread Cert.FfnInBwdReferenceIdeal.nD Cert.FfnInBwdReferenceIdeal.τ).loc Cert.FfnInBwdReferenceIdeal.main_arg3)) (m ((c.tc : Thread Cert.FfnInBwdReferenceIdeal.nD Cert.FfnInBwdReferenceIdeal.τ).loc Cert.FfnInBwdReferenceIdeal.main_arg4)) (m ((c.tc : Thread Cert.FfnInBwdReferenceIdeal.nD Cert.FfnInBwdReferenceIdeal.τ).loc Cert.FfnInBwdReferenceIdeal.main_arg5))).2.1 = (fun _ => 1#1)
    ∧ (Cert.Pre_finite_ffn_in.fn (F := Ideal) (m ((c.tc : Thread Cert.FfnInBwdReferenceIdeal.nD Cert.FfnInBwdReferenceIdeal.τ).loc Cert.FfnInBwdReferenceIdeal.main_arg0)) (m ((c.tc : Thread Cert.FfnInBwdReferenceIdeal.nD Cert.FfnInBwdReferenceIdeal.τ).loc Cert.FfnInBwdReferenceIdeal.main_arg1)) (m ((c.tc : Thread Cert.FfnInBwdReferenceIdeal.nD Cert.FfnInBwdReferenceIdeal.τ).loc Cert.FfnInBwdReferenceIdeal.main_arg2)) (m ((c.tc : Thread Cert.FfnInBwdReferenceIdeal.nD Cert.FfnInBwdReferenceIdeal.τ).loc Cert.FfnInBwdReferenceIdeal.main_arg3)) (m ((c.tc : Thread Cert.FfnInBwdReferenceIdeal.nD Cert.FfnInBwdReferenceIdeal.τ).loc Cert.FfnInBwdReferenceIdeal.main_arg4)) (m ((c.tc : Thread Cert.FfnInBwdReferenceIdeal.nD Cert.FfnInBwdReferenceIdeal.τ).loc Cert.FfnInBwdReferenceIdeal.main_arg5))).2.2.1 = (fun _ => 1#1)
    ∧ (Cert.Pre_finite_ffn_in.fn (F := Ideal) (m ((c.tc : Thread Cert.FfnInBwdReferenceIdeal.nD Cert.FfnInBwdReferenceIdeal.τ).loc Cert.FfnInBwdReferenceIdeal.main_arg0)) (m ((c.tc : Thread Cert.FfnInBwdReferenceIdeal.nD Cert.FfnInBwdReferenceIdeal.τ).loc Cert.FfnInBwdReferenceIdeal.main_arg1)) (m ((c.tc : Thread Cert.FfnInBwdReferenceIdeal.nD Cert.FfnInBwdReferenceIdeal.τ).loc Cert.FfnInBwdReferenceIdeal.main_arg2)) (m ((c.tc : Thread Cert.FfnInBwdReferenceIdeal.nD Cert.FfnInBwdReferenceIdeal.τ).loc Cert.FfnInBwdReferenceIdeal.main_arg3)) (m ((c.tc : Thread Cert.FfnInBwdReferenceIdeal.nD Cert.FfnInBwdReferenceIdeal.τ).loc Cert.FfnInBwdReferenceIdeal.main_arg4)) (m ((c.tc : Thread Cert.FfnInBwdReferenceIdeal.nD Cert.FfnInBwdReferenceIdeal.τ).loc Cert.FfnInBwdReferenceIdeal.main_arg5))).2.2.2.1 = (fun _ => 1#1)
    ∧ (Cert.Pre_finite_ffn_in.fn (F := Ideal) (m ((c.tc : Thread Cert.FfnInBwdReferenceIdeal.nD Cert.FfnInBwdReferenceIdeal.τ).loc Cert.FfnInBwdReferenceIdeal.main_arg0)) (m ((c.tc : Thread Cert.FfnInBwdReferenceIdeal.nD Cert.FfnInBwdReferenceIdeal.τ).loc Cert.FfnInBwdReferenceIdeal.main_arg1)) (m ((c.tc : Thread Cert.FfnInBwdReferenceIdeal.nD Cert.FfnInBwdReferenceIdeal.τ).loc Cert.FfnInBwdReferenceIdeal.main_arg2)) (m ((c.tc : Thread Cert.FfnInBwdReferenceIdeal.nD Cert.FfnInBwdReferenceIdeal.τ).loc Cert.FfnInBwdReferenceIdeal.main_arg3)) (m ((c.tc : Thread Cert.FfnInBwdReferenceIdeal.nD Cert.FfnInBwdReferenceIdeal.τ).loc Cert.FfnInBwdReferenceIdeal.main_arg4)) (m ((c.tc : Thread Cert.FfnInBwdReferenceIdeal.nD Cert.FfnInBwdReferenceIdeal.τ).loc Cert.FfnInBwdReferenceIdeal.main_arg5))).2.2.2.2 = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_FfnOutBwd (m : (ℓ : Loc Cert.FfnOutBwd.nD Cert.FfnOutBwd.τ Cert.FfnOutBwd.sig) → Buf (Elt Bits) ℓ) : Prop :=
  True

def Pre_FfnOutBwdIdeal (m : (ℓ : Loc Cert.FfnOutBwdIdeal.nD Cert.FfnOutBwdIdeal.τ Cert.FfnOutBwdIdeal.sig) → Buf (Elt Ideal) ℓ) : Prop :=
  True

def Pre_FfnOutBwdIdeal_finite_ffn_out [hPre_finite_ffn_out : Cert.Pre_finite_ffn_out.Facts] (m : (ℓ : Loc Cert.FfnOutBwdIdeal.nD Cert.FfnOutBwdIdeal.τ Cert.FfnOutBwdIdeal.sig) → Buf (Elt Ideal) ℓ) : Prop :=
  ∀ c : Dev Cert.FfnOutBwdIdeal.nD,
    (Cert.Pre_finite_ffn_out.fn (F := Ideal) (m ((c.tc : Thread Cert.FfnOutBwdIdeal.nD Cert.FfnOutBwdIdeal.τ).loc Cert.FfnOutBwdIdeal.main_arg0)) (m ((c.tc : Thread Cert.FfnOutBwdIdeal.nD Cert.FfnOutBwdIdeal.τ).loc Cert.FfnOutBwdIdeal.main_arg1)) (m ((c.tc : Thread Cert.FfnOutBwdIdeal.nD Cert.FfnOutBwdIdeal.τ).loc Cert.FfnOutBwdIdeal.main_arg2)) (m ((c.tc : Thread Cert.FfnOutBwdIdeal.nD Cert.FfnOutBwdIdeal.τ).loc Cert.FfnOutBwdIdeal.main_arg3))).1 = (fun _ => 1#1)
    ∧ (Cert.Pre_finite_ffn_out.fn (F := Ideal) (m ((c.tc : Thread Cert.FfnOutBwdIdeal.nD Cert.FfnOutBwdIdeal.τ).loc Cert.FfnOutBwdIdeal.main_arg0)) (m ((c.tc : Thread Cert.FfnOutBwdIdeal.nD Cert.FfnOutBwdIdeal.τ).loc Cert.FfnOutBwdIdeal.main_arg1)) (m ((c.tc : Thread Cert.FfnOutBwdIdeal.nD Cert.FfnOutBwdIdeal.τ).loc Cert.FfnOutBwdIdeal.main_arg2)) (m ((c.tc : Thread Cert.FfnOutBwdIdeal.nD Cert.FfnOutBwdIdeal.τ).loc Cert.FfnOutBwdIdeal.main_arg3))).2.1 = (fun _ => 1#1)
    ∧ (Cert.Pre_finite_ffn_out.fn (F := Ideal) (m ((c.tc : Thread Cert.FfnOutBwdIdeal.nD Cert.FfnOutBwdIdeal.τ).loc Cert.FfnOutBwdIdeal.main_arg0)) (m ((c.tc : Thread Cert.FfnOutBwdIdeal.nD Cert.FfnOutBwdIdeal.τ).loc Cert.FfnOutBwdIdeal.main_arg1)) (m ((c.tc : Thread Cert.FfnOutBwdIdeal.nD Cert.FfnOutBwdIdeal.τ).loc Cert.FfnOutBwdIdeal.main_arg2)) (m ((c.tc : Thread Cert.FfnOutBwdIdeal.nD Cert.FfnOutBwdIdeal.τ).loc Cert.FfnOutBwdIdeal.main_arg3))).2.2.1 = (fun _ => 1#1)
    ∧ (Cert.Pre_finite_ffn_out.fn (F := Ideal) (m ((c.tc : Thread Cert.FfnOutBwdIdeal.nD Cert.FfnOutBwdIdeal.τ).loc Cert.FfnOutBwdIdeal.main_arg0)) (m ((c.tc : Thread Cert.FfnOutBwdIdeal.nD Cert.FfnOutBwdIdeal.τ).loc Cert.FfnOutBwdIdeal.main_arg1)) (m ((c.tc : Thread Cert.FfnOutBwdIdeal.nD Cert.FfnOutBwdIdeal.τ).loc Cert.FfnOutBwdIdeal.main_arg2)) (m ((c.tc : Thread Cert.FfnOutBwdIdeal.nD Cert.FfnOutBwdIdeal.τ).loc Cert.FfnOutBwdIdeal.main_arg3))).2.2.2 = (fun _ => 1#1)

def Pre_FfnOutBwdReferenceIdeal (m : (ℓ : Loc Cert.FfnOutBwdReferenceIdeal.nD Cert.FfnOutBwdReferenceIdeal.τ Cert.FfnOutBwdReferenceIdeal.sig) → Buf (Elt Ideal) ℓ) : Prop :=
  True

def Pre_FfnOutBwdReferenceIdeal_finite_ffn_out [hPre_finite_ffn_out : Cert.Pre_finite_ffn_out.Facts] (m : (ℓ : Loc Cert.FfnOutBwdReferenceIdeal.nD Cert.FfnOutBwdReferenceIdeal.τ Cert.FfnOutBwdReferenceIdeal.sig) → Buf (Elt Ideal) ℓ) : Prop :=
  ∀ c : Dev Cert.FfnOutBwdReferenceIdeal.nD,
    (Cert.Pre_finite_ffn_out.fn (F := Ideal) (m ((c.tc : Thread Cert.FfnOutBwdReferenceIdeal.nD Cert.FfnOutBwdReferenceIdeal.τ).loc Cert.FfnOutBwdReferenceIdeal.main_arg0)) (m ((c.tc : Thread Cert.FfnOutBwdReferenceIdeal.nD Cert.FfnOutBwdReferenceIdeal.τ).loc Cert.FfnOutBwdReferenceIdeal.main_arg1)) (m ((c.tc : Thread Cert.FfnOutBwdReferenceIdeal.nD Cert.FfnOutBwdReferenceIdeal.τ).loc Cert.FfnOutBwdReferenceIdeal.main_arg2)) (m ((c.tc : Thread Cert.FfnOutBwdReferenceIdeal.nD Cert.FfnOutBwdReferenceIdeal.τ).loc Cert.FfnOutBwdReferenceIdeal.main_arg3))).1 = (fun _ => 1#1)
    ∧ (Cert.Pre_finite_ffn_out.fn (F := Ideal) (m ((c.tc : Thread Cert.FfnOutBwdReferenceIdeal.nD Cert.FfnOutBwdReferenceIdeal.τ).loc Cert.FfnOutBwdReferenceIdeal.main_arg0)) (m ((c.tc : Thread Cert.FfnOutBwdReferenceIdeal.nD Cert.FfnOutBwdReferenceIdeal.τ).loc Cert.FfnOutBwdReferenceIdeal.main_arg1)) (m ((c.tc : Thread Cert.FfnOutBwdReferenceIdeal.nD Cert.FfnOutBwdReferenceIdeal.τ).loc Cert.FfnOutBwdReferenceIdeal.main_arg2)) (m ((c.tc : Thread Cert.FfnOutBwdReferenceIdeal.nD Cert.FfnOutBwdReferenceIdeal.τ).loc Cert.FfnOutBwdReferenceIdeal.main_arg3))).2.1 = (fun _ => 1#1)
    ∧ (Cert.Pre_finite_ffn_out.fn (F := Ideal) (m ((c.tc : Thread Cert.FfnOutBwdReferenceIdeal.nD Cert.FfnOutBwdReferenceIdeal.τ).loc Cert.FfnOutBwdReferenceIdeal.main_arg0)) (m ((c.tc : Thread Cert.FfnOutBwdReferenceIdeal.nD Cert.FfnOutBwdReferenceIdeal.τ).loc Cert.FfnOutBwdReferenceIdeal.main_arg1)) (m ((c.tc : Thread Cert.FfnOutBwdReferenceIdeal.nD Cert.FfnOutBwdReferenceIdeal.τ).loc Cert.FfnOutBwdReferenceIdeal.main_arg2)) (m ((c.tc : Thread Cert.FfnOutBwdReferenceIdeal.nD Cert.FfnOutBwdReferenceIdeal.τ).loc Cert.FfnOutBwdReferenceIdeal.main_arg3))).2.2.1 = (fun _ => 1#1)
    ∧ (Cert.Pre_finite_ffn_out.fn (F := Ideal) (m ((c.tc : Thread Cert.FfnOutBwdReferenceIdeal.nD Cert.FfnOutBwdReferenceIdeal.τ).loc Cert.FfnOutBwdReferenceIdeal.main_arg0)) (m ((c.tc : Thread Cert.FfnOutBwdReferenceIdeal.nD Cert.FfnOutBwdReferenceIdeal.τ).loc Cert.FfnOutBwdReferenceIdeal.main_arg1)) (m ((c.tc : Thread Cert.FfnOutBwdReferenceIdeal.nD Cert.FfnOutBwdReferenceIdeal.τ).loc Cert.FfnOutBwdReferenceIdeal.main_arg2)) (m ((c.tc : Thread Cert.FfnOutBwdReferenceIdeal.nD Cert.FfnOutBwdReferenceIdeal.τ).loc Cert.FfnOutBwdReferenceIdeal.main_arg3))).2.2.2 = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_FfnInFwd (m : (ℓ : Loc Cert.FfnInFwd.nD Cert.FfnInFwd.τ Cert.FfnInFwd.sig) → Buf (Elt Bits) ℓ) : Prop :=
  True

def Pre_FfnInFwdIdeal (m : (ℓ : Loc Cert.FfnInFwdIdeal.nD Cert.FfnInFwdIdeal.τ Cert.FfnInFwdIdeal.sig) → Buf (Elt Ideal) ℓ) : Prop :=
  True

def Pre_FfnInFwdReferenceIdeal (m : (ℓ : Loc Cert.FfnInFwdReferenceIdeal.nD Cert.FfnInFwdReferenceIdeal.τ Cert.FfnInFwdReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_FfnOutFwd (m : (ℓ : Loc Cert.FfnOutFwd.nD Cert.FfnOutFwd.τ Cert.FfnOutFwd.sig) → Buf (Elt Bits) ℓ) : Prop :=
  True

def Pre_FfnOutFwdIdeal (m : (ℓ : Loc Cert.FfnOutFwdIdeal.nD Cert.FfnOutFwdIdeal.τ Cert.FfnOutFwdIdeal.sig) → Buf (Elt Ideal) ℓ) : Prop :=
  True

def Pre_FfnOutFwdReferenceIdeal (m : (ℓ : Loc Cert.FfnOutFwdReferenceIdeal.nD Cert.FfnOutFwdReferenceIdeal.τ Cert.FfnOutFwdReferenceIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossFwdReferenceIdeal (m : (ℓ : Loc Cert.LossFwdReferenceIdeal.nD Cert.LossFwdReferenceIdeal.τ Cert.LossFwdReferenceIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdReferenceIdeal (m : (ℓ : Loc Cert.ModBwdReferenceIdeal.nD Cert.ModBwdReferenceIdeal.τ Cert.ModBwdReferenceIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModReferenceIdeal (m : (ℓ : Loc Cert.AdamModReferenceIdeal.nD Cert.AdamModReferenceIdeal.τ Cert.AdamModReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInReferenceIdeal (m : (ℓ : Loc Cert.AdamFfnInReferenceIdeal.nD Cert.AdamFfnInReferenceIdeal.τ Cert.AdamFfnInReferenceIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutReferenceIdeal (m : (ℓ : Loc Cert.AdamFfnOutReferenceIdeal.nD Cert.AdamFfnOutReferenceIdeal.τ Cert.AdamFfnOutReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvBwdReferenceIdeal (m : (ℓ : Loc Cert.ConvBwdReferenceIdeal.nD Cert.ConvBwdReferenceIdeal.τ Cert.ConvBwdReferenceIdeal.sig) → Buf (Elt Ideal) ℓ) : Prop :=
  True

def Pre_ConvBwdReferenceIdeal_finite_conv [hPre_finite_conv : Cert.Pre_finite_conv.Facts] (m : (ℓ : Loc Cert.ConvBwdReferenceIdeal.nD Cert.ConvBwdReferenceIdeal.τ Cert.ConvBwdReferenceIdeal.sig) → Buf (Elt Ideal) ℓ) : Prop :=
  ∀ c : Dev Cert.ConvBwdReferenceIdeal.nD,
    (Cert.Pre_finite_conv.fn (F := Ideal) (m ((c.tc : Thread Cert.ConvBwdReferenceIdeal.nD Cert.ConvBwdReferenceIdeal.τ).loc Cert.ConvBwdReferenceIdeal.main_arg0)) (m ((c.tc : Thread Cert.ConvBwdReferenceIdeal.nD Cert.ConvBwdReferenceIdeal.τ).loc Cert.ConvBwdReferenceIdeal.main_arg1)) (m ((c.tc : Thread Cert.ConvBwdReferenceIdeal.nD Cert.ConvBwdReferenceIdeal.τ).loc Cert.ConvBwdReferenceIdeal.main_arg2)) (m ((c.tc : Thread Cert.ConvBwdReferenceIdeal.nD Cert.ConvBwdReferenceIdeal.τ).loc Cert.ConvBwdReferenceIdeal.main_arg3))) = (fun _ => 1#1)

def Pre_SwBwd (m : (ℓ : Loc Cert.SwBwd.nD Cert.SwBwd.τ Cert.SwBwd.sig) → Buf (Elt Bits) ℓ) : Prop :=
  True

def Pre_SwBwdIdeal (m : (ℓ : Loc Cert.SwBwdIdeal.nD Cert.SwBwdIdeal.τ Cert.SwBwdIdeal.sig) → Buf (Elt Ideal) ℓ) : Prop :=
  True

def Pre_SwBwdIdeal_finite_sw [hPre_finite_sw : Cert.Pre_finite_sw.Facts] (m : (ℓ : Loc Cert.SwBwdIdeal.nD Cert.SwBwdIdeal.τ Cert.SwBwdIdeal.sig) → Buf (Elt Ideal) ℓ) : Prop :=
  ∀ c : Dev Cert.SwBwdIdeal.nD,
    (Cert.Pre_finite_sw.fn (F := Ideal) (m ((c.tc : Thread Cert.SwBwdIdeal.nD Cert.SwBwdIdeal.τ).loc Cert.SwBwdIdeal.main_arg0)) (m ((c.tc : Thread Cert.SwBwdIdeal.nD Cert.SwBwdIdeal.τ).loc Cert.SwBwdIdeal.main_arg1)) (m ((c.tc : Thread Cert.SwBwdIdeal.nD Cert.SwBwdIdeal.τ).loc Cert.SwBwdIdeal.main_arg2)) (m ((c.tc : Thread Cert.SwBwdIdeal.nD Cert.SwBwdIdeal.τ).loc Cert.SwBwdIdeal.main_arg3)) (m ((c.tc : Thread Cert.SwBwdIdeal.nD Cert.SwBwdIdeal.τ).loc Cert.SwBwdIdeal.main_arg4)) (m ((c.tc : Thread Cert.SwBwdIdeal.nD Cert.SwBwdIdeal.τ).loc Cert.SwBwdIdeal.main_arg5)) (m ((c.tc : Thread Cert.SwBwdIdeal.nD Cert.SwBwdIdeal.τ).loc Cert.SwBwdIdeal.main_arg6)) (m ((c.tc : Thread Cert.SwBwdIdeal.nD Cert.SwBwdIdeal.τ).loc Cert.SwBwdIdeal.main_arg7))).1 = (fun _ => 1#1)
    ∧ (Cert.Pre_finite_sw.fn (F := Ideal) (m ((c.tc : Thread Cert.SwBwdIdeal.nD Cert.SwBwdIdeal.τ).loc Cert.SwBwdIdeal.main_arg0)) (m ((c.tc : Thread Cert.SwBwdIdeal.nD Cert.SwBwdIdeal.τ).loc Cert.SwBwdIdeal.main_arg1)) (m ((c.tc : Thread Cert.SwBwdIdeal.nD Cert.SwBwdIdeal.τ).loc Cert.SwBwdIdeal.main_arg2)) (m ((c.tc : Thread Cert.SwBwdIdeal.nD Cert.SwBwdIdeal.τ).loc Cert.SwBwdIdeal.main_arg3)) (m ((c.tc : Thread Cert.SwBwdIdeal.nD Cert.SwBwdIdeal.τ).loc Cert.SwBwdIdeal.main_arg4)) (m ((c.tc : Thread Cert.SwBwdIdeal.nD Cert.SwBwdIdeal.τ).loc Cert.SwBwdIdeal.main_arg5)) (m ((c.tc : Thread Cert.SwBwdIdeal.nD Cert.SwBwdIdeal.τ).loc Cert.SwBwdIdeal.main_arg6)) (m ((c.tc : Thread Cert.SwBwdIdeal.nD Cert.SwBwdIdeal.τ).loc Cert.SwBwdIdeal.main_arg7))).2.1 = (fun _ => 1#1)
    ∧ (Cert.Pre_finite_sw.fn (F := Ideal) (m ((c.tc : Thread Cert.SwBwdIdeal.nD Cert.SwBwdIdeal.τ).loc Cert.SwBwdIdeal.main_arg0)) (m ((c.tc : Thread Cert.SwBwdIdeal.nD Cert.SwBwdIdeal.τ).loc Cert.SwBwdIdeal.main_arg1)) (m ((c.tc : Thread Cert.SwBwdIdeal.nD Cert.SwBwdIdeal.τ).loc Cert.SwBwdIdeal.main_arg2)) (m ((c.tc : Thread Cert.SwBwdIdeal.nD Cert.SwBwdIdeal.τ).loc Cert.SwBwdIdeal.main_arg3)) (m ((c.tc : Thread Cert.SwBwdIdeal.nD Cert.SwBwdIdeal.τ).loc Cert.SwBwdIdeal.main_arg4)) (m ((c.tc : Thread Cert.SwBwdIdeal.nD Cert.SwBwdIdeal.τ).loc Cert.SwBwdIdeal.main_arg5)) (m ((c.tc : Thread Cert.SwBwdIdeal.nD Cert.SwBwdIdeal.τ).loc Cert.SwBwdIdeal.main_arg6)) (m ((c.tc : Thread Cert.SwBwdIdeal.nD Cert.SwBwdIdeal.τ).loc Cert.SwBwdIdeal.main_arg7))).2.2.1 = (fun _ => 1#1)
    ∧ (Cert.Pre_finite_sw.fn (F := Ideal) (m ((c.tc : Thread Cert.SwBwdIdeal.nD Cert.SwBwdIdeal.τ).loc Cert.SwBwdIdeal.main_arg0)) (m ((c.tc : Thread Cert.SwBwdIdeal.nD Cert.SwBwdIdeal.τ).loc Cert.SwBwdIdeal.main_arg1)) (m ((c.tc : Thread Cert.SwBwdIdeal.nD Cert.SwBwdIdeal.τ).loc Cert.SwBwdIdeal.main_arg2)) (m ((c.tc : Thread Cert.SwBwdIdeal.nD Cert.SwBwdIdeal.τ).loc Cert.SwBwdIdeal.main_arg3)) (m ((c.tc : Thread Cert.SwBwdIdeal.nD Cert.SwBwdIdeal.τ).loc Cert.SwBwdIdeal.main_arg4)) (m ((c.tc : Thread Cert.SwBwdIdeal.nD Cert.SwBwdIdeal.τ).loc Cert.SwBwdIdeal.main_arg5)) (m ((c.tc : Thread Cert.SwBwdIdeal.nD Cert.SwBwdIdeal.τ).loc Cert.SwBwdIdeal.main_arg6)) (m ((c.tc : Thread Cert.SwBwdIdeal.nD Cert.SwBwdIdeal.τ).loc Cert.SwBwdIdeal.main_arg7))).2.2.2.1 = (fun _ => 1#1)
    ∧ (Cert.Pre_finite_sw.fn (F := Ideal) (m ((c.tc : Thread Cert.SwBwdIdeal.nD Cert.SwBwdIdeal.τ).loc Cert.SwBwdIdeal.main_arg0)) (m ((c.tc : Thread Cert.SwBwdIdeal.nD Cert.SwBwdIdeal.τ).loc Cert.SwBwdIdeal.main_arg1)) (m ((c.tc : Thread Cert.SwBwdIdeal.nD Cert.SwBwdIdeal.τ).loc Cert.SwBwdIdeal.main_arg2)) (m ((c.tc : Thread Cert.SwBwdIdeal.nD Cert.SwBwdIdeal.τ).loc Cert.SwBwdIdeal.main_arg3)) (m ((c.tc : Thread Cert.SwBwdIdeal.nD Cert.SwBwdIdeal.τ).loc Cert.SwBwdIdeal.main_arg4)) (m ((c.tc : Thread Cert.SwBwdIdeal.nD Cert.SwBwdIdeal.τ).loc Cert.SwBwdIdeal.main_arg5)) (m ((c.tc : Thread Cert.SwBwdIdeal.nD Cert.SwBwdIdeal.τ).loc Cert.SwBwdIdeal.main_arg6)) (m ((c.tc : Thread Cert.SwBwdIdeal.nD Cert.SwBwdIdeal.τ).loc Cert.SwBwdIdeal.main_arg7))).2.2.2.2.1 = (fun _ => 1#1)
    ∧ (Cert.Pre_finite_sw.fn (F := Ideal) (m ((c.tc : Thread Cert.SwBwdIdeal.nD Cert.SwBwdIdeal.τ).loc Cert.SwBwdIdeal.main_arg0)) (m ((c.tc : Thread Cert.SwBwdIdeal.nD Cert.SwBwdIdeal.τ).loc Cert.SwBwdIdeal.main_arg1)) (m ((c.tc : Thread Cert.SwBwdIdeal.nD Cert.SwBwdIdeal.τ).loc Cert.SwBwdIdeal.main_arg2)) (m ((c.tc : Thread Cert.SwBwdIdeal.nD Cert.SwBwdIdeal.τ).loc Cert.SwBwdIdeal.main_arg3)) (m ((c.tc : Thread Cert.SwBwdIdeal.nD Cert.SwBwdIdeal.τ).loc Cert.SwBwdIdeal.main_arg4)) (m ((c.tc : Thread Cert.SwBwdIdeal.nD Cert.SwBwdIdeal.τ).loc Cert.SwBwdIdeal.main_arg5)) (m ((c.tc : Thread Cert.SwBwdIdeal.nD Cert.SwBwdIdeal.τ).loc Cert.SwBwdIdeal.main_arg6)) (m ((c.tc : Thread Cert.SwBwdIdeal.nD Cert.SwBwdIdeal.τ).loc Cert.SwBwdIdeal.main_arg7))).2.2.2.2.2.1 = (fun _ => 1#1)
    ∧ (Cert.Pre_finite_sw.fn (F := Ideal) (m ((c.tc : Thread Cert.SwBwdIdeal.nD Cert.SwBwdIdeal.τ).loc Cert.SwBwdIdeal.main_arg0)) (m ((c.tc : Thread Cert.SwBwdIdeal.nD Cert.SwBwdIdeal.τ).loc Cert.SwBwdIdeal.main_arg1)) (m ((c.tc : Thread Cert.SwBwdIdeal.nD Cert.SwBwdIdeal.τ).loc Cert.SwBwdIdeal.main_arg2)) (m ((c.tc : Thread Cert.SwBwdIdeal.nD Cert.SwBwdIdeal.τ).loc Cert.SwBwdIdeal.main_arg3)) (m ((c.tc : Thread Cert.SwBwdIdeal.nD Cert.SwBwdIdeal.τ).loc Cert.SwBwdIdeal.main_arg4)) (m ((c.tc : Thread Cert.SwBwdIdeal.nD Cert.SwBwdIdeal.τ).loc Cert.SwBwdIdeal.main_arg5)) (m ((c.tc : Thread Cert.SwBwdIdeal.nD Cert.SwBwdIdeal.τ).loc Cert.SwBwdIdeal.main_arg6)) (m ((c.tc : Thread Cert.SwBwdIdeal.nD Cert.SwBwdIdeal.τ).loc Cert.SwBwdIdeal.main_arg7))).2.2.2.2.2.2 = (fun _ => 1#1)

def Pre_SwBwdReferenceIdeal (m : (ℓ : Loc Cert.SwBwdReferenceIdeal.nD Cert.SwBwdReferenceIdeal.τ Cert.SwBwdReferenceIdeal.sig) → Buf (Elt Ideal) ℓ) : Prop :=
  True

def Pre_SwBwdReferenceIdeal_finite_sw [hPre_finite_sw : Cert.Pre_finite_sw.Facts] (m : (ℓ : Loc Cert.SwBwdReferenceIdeal.nD Cert.SwBwdReferenceIdeal.τ Cert.SwBwdReferenceIdeal.sig) → Buf (Elt Ideal) ℓ) : Prop :=
  ∀ c : Dev Cert.SwBwdReferenceIdeal.nD,
    (Cert.Pre_finite_sw.fn (F := Ideal) (m ((c.tc : Thread Cert.SwBwdReferenceIdeal.nD Cert.SwBwdReferenceIdeal.τ).loc Cert.SwBwdReferenceIdeal.main_arg0)) (m ((c.tc : Thread Cert.SwBwdReferenceIdeal.nD Cert.SwBwdReferenceIdeal.τ).loc Cert.SwBwdReferenceIdeal.main_arg1)) (m ((c.tc : Thread Cert.SwBwdReferenceIdeal.nD Cert.SwBwdReferenceIdeal.τ).loc Cert.SwBwdReferenceIdeal.main_arg2)) (m ((c.tc : Thread Cert.SwBwdReferenceIdeal.nD Cert.SwBwdReferenceIdeal.τ).loc Cert.SwBwdReferenceIdeal.main_arg3)) (m ((c.tc : Thread Cert.SwBwdReferenceIdeal.nD Cert.SwBwdReferenceIdeal.τ).loc Cert.SwBwdReferenceIdeal.main_arg4)) (m ((c.tc : Thread Cert.SwBwdReferenceIdeal.nD Cert.SwBwdReferenceIdeal.τ).loc Cert.SwBwdReferenceIdeal.main_arg5)) (m ((c.tc : Thread Cert.SwBwdReferenceIdeal.nD Cert.SwBwdReferenceIdeal.τ).loc Cert.SwBwdReferenceIdeal.main_arg6)) (m ((c.tc : Thread Cert.SwBwdReferenceIdeal.nD Cert.SwBwdReferenceIdeal.τ).loc Cert.SwBwdReferenceIdeal.main_arg7))).1 = (fun _ => 1#1)
    ∧ (Cert.Pre_finite_sw.fn (F := Ideal) (m ((c.tc : Thread Cert.SwBwdReferenceIdeal.nD Cert.SwBwdReferenceIdeal.τ).loc Cert.SwBwdReferenceIdeal.main_arg0)) (m ((c.tc : Thread Cert.SwBwdReferenceIdeal.nD Cert.SwBwdReferenceIdeal.τ).loc Cert.SwBwdReferenceIdeal.main_arg1)) (m ((c.tc : Thread Cert.SwBwdReferenceIdeal.nD Cert.SwBwdReferenceIdeal.τ).loc Cert.SwBwdReferenceIdeal.main_arg2)) (m ((c.tc : Thread Cert.SwBwdReferenceIdeal.nD Cert.SwBwdReferenceIdeal.τ).loc Cert.SwBwdReferenceIdeal.main_arg3)) (m ((c.tc : Thread Cert.SwBwdReferenceIdeal.nD Cert.SwBwdReferenceIdeal.τ).loc Cert.SwBwdReferenceIdeal.main_arg4)) (m ((c.tc : Thread Cert.SwBwdReferenceIdeal.nD Cert.SwBwdReferenceIdeal.τ).loc Cert.SwBwdReferenceIdeal.main_arg5)) (m ((c.tc : Thread Cert.SwBwdReferenceIdeal.nD Cert.SwBwdReferenceIdeal.τ).loc Cert.SwBwdReferenceIdeal.main_arg6)) (m ((c.tc : Thread Cert.SwBwdReferenceIdeal.nD Cert.SwBwdReferenceIdeal.τ).loc Cert.SwBwdReferenceIdeal.main_arg7))).2.1 = (fun _ => 1#1)
    ∧ (Cert.Pre_finite_sw.fn (F := Ideal) (m ((c.tc : Thread Cert.SwBwdReferenceIdeal.nD Cert.SwBwdReferenceIdeal.τ).loc Cert.SwBwdReferenceIdeal.main_arg0)) (m ((c.tc : Thread Cert.SwBwdReferenceIdeal.nD Cert.SwBwdReferenceIdeal.τ).loc Cert.SwBwdReferenceIdeal.main_arg1)) (m ((c.tc : Thread Cert.SwBwdReferenceIdeal.nD Cert.SwBwdReferenceIdeal.τ).loc Cert.SwBwdReferenceIdeal.main_arg2)) (m ((c.tc : Thread Cert.SwBwdReferenceIdeal.nD Cert.SwBwdReferenceIdeal.τ).loc Cert.SwBwdReferenceIdeal.main_arg3)) (m ((c.tc : Thread Cert.SwBwdReferenceIdeal.nD Cert.SwBwdReferenceIdeal.τ).loc Cert.SwBwdReferenceIdeal.main_arg4)) (m ((c.tc : Thread Cert.SwBwdReferenceIdeal.nD Cert.SwBwdReferenceIdeal.τ).loc Cert.SwBwdReferenceIdeal.main_arg5)) (m ((c.tc : Thread Cert.SwBwdReferenceIdeal.nD Cert.SwBwdReferenceIdeal.τ).loc Cert.SwBwdReferenceIdeal.main_arg6)) (m ((c.tc : Thread Cert.SwBwdReferenceIdeal.nD Cert.SwBwdReferenceIdeal.τ).loc Cert.SwBwdReferenceIdeal.main_arg7))).2.2.1 = (fun _ => 1#1)
    ∧ (Cert.Pre_finite_sw.fn (F := Ideal) (m ((c.tc : Thread Cert.SwBwdReferenceIdeal.nD Cert.SwBwdReferenceIdeal.τ).loc Cert.SwBwdReferenceIdeal.main_arg0)) (m ((c.tc : Thread Cert.SwBwdReferenceIdeal.nD Cert.SwBwdReferenceIdeal.τ).loc Cert.SwBwdReferenceIdeal.main_arg1)) (m ((c.tc : Thread Cert.SwBwdReferenceIdeal.nD Cert.SwBwdReferenceIdeal.τ).loc Cert.SwBwdReferenceIdeal.main_arg2)) (m ((c.tc : Thread Cert.SwBwdReferenceIdeal.nD Cert.SwBwdReferenceIdeal.τ).loc Cert.SwBwdReferenceIdeal.main_arg3)) (m ((c.tc : Thread Cert.SwBwdReferenceIdeal.nD Cert.SwBwdReferenceIdeal.τ).loc Cert.SwBwdReferenceIdeal.main_arg4)) (m ((c.tc : Thread Cert.SwBwdReferenceIdeal.nD Cert.SwBwdReferenceIdeal.τ).loc Cert.SwBwdReferenceIdeal.main_arg5)) (m ((c.tc : Thread Cert.SwBwdReferenceIdeal.nD Cert.SwBwdReferenceIdeal.τ).loc Cert.SwBwdReferenceIdeal.main_arg6)) (m ((c.tc : Thread Cert.SwBwdReferenceIdeal.nD Cert.SwBwdReferenceIdeal.τ).loc Cert.SwBwdReferenceIdeal.main_arg7))).2.2.2.1 = (fun _ => 1#1)
    ∧ (Cert.Pre_finite_sw.fn (F := Ideal) (m ((c.tc : Thread Cert.SwBwdReferenceIdeal.nD Cert.SwBwdReferenceIdeal.τ).loc Cert.SwBwdReferenceIdeal.main_arg0)) (m ((c.tc : Thread Cert.SwBwdReferenceIdeal.nD Cert.SwBwdReferenceIdeal.τ).loc Cert.SwBwdReferenceIdeal.main_arg1)) (m ((c.tc : Thread Cert.SwBwdReferenceIdeal.nD Cert.SwBwdReferenceIdeal.τ).loc Cert.SwBwdReferenceIdeal.main_arg2)) (m ((c.tc : Thread Cert.SwBwdReferenceIdeal.nD Cert.SwBwdReferenceIdeal.τ).loc Cert.SwBwdReferenceIdeal.main_arg3)) (m ((c.tc : Thread Cert.SwBwdReferenceIdeal.nD Cert.SwBwdReferenceIdeal.τ).loc Cert.SwBwdReferenceIdeal.main_arg4)) (m ((c.tc : Thread Cert.SwBwdReferenceIdeal.nD Cert.SwBwdReferenceIdeal.τ).loc Cert.SwBwdReferenceIdeal.main_arg5)) (m ((c.tc : Thread Cert.SwBwdReferenceIdeal.nD Cert.SwBwdReferenceIdeal.τ).loc Cert.SwBwdReferenceIdeal.main_arg6)) (m ((c.tc : Thread Cert.SwBwdReferenceIdeal.nD Cert.SwBwdReferenceIdeal.τ).loc Cert.SwBwdReferenceIdeal.main_arg7))).2.2.2.2.1 = (fun _ => 1#1)
    ∧ (Cert.Pre_finite_sw.fn (F := Ideal) (m ((c.tc : Thread Cert.SwBwdReferenceIdeal.nD Cert.SwBwdReferenceIdeal.τ).loc Cert.SwBwdReferenceIdeal.main_arg0)) (m ((c.tc : Thread Cert.SwBwdReferenceIdeal.nD Cert.SwBwdReferenceIdeal.τ).loc Cert.SwBwdReferenceIdeal.main_arg1)) (m ((c.tc : Thread Cert.SwBwdReferenceIdeal.nD Cert.SwBwdReferenceIdeal.τ).loc Cert.SwBwdReferenceIdeal.main_arg2)) (m ((c.tc : Thread Cert.SwBwdReferenceIdeal.nD Cert.SwBwdReferenceIdeal.τ).loc Cert.SwBwdReferenceIdeal.main_arg3)) (m ((c.tc : Thread Cert.SwBwdReferenceIdeal.nD Cert.SwBwdReferenceIdeal.τ).loc Cert.SwBwdReferenceIdeal.main_arg4)) (m ((c.tc : Thread Cert.SwBwdReferenceIdeal.nD Cert.SwBwdReferenceIdeal.τ).loc Cert.SwBwdReferenceIdeal.main_arg5)) (m ((c.tc : Thread Cert.SwBwdReferenceIdeal.nD Cert.SwBwdReferenceIdeal.τ).loc Cert.SwBwdReferenceIdeal.main_arg6)) (m ((c.tc : Thread Cert.SwBwdReferenceIdeal.nD Cert.SwBwdReferenceIdeal.τ).loc Cert.SwBwdReferenceIdeal.main_arg7))).2.2.2.2.2.1 = (fun _ => 1#1)
    ∧ (Cert.Pre_finite_sw.fn (F := Ideal) (m ((c.tc : Thread Cert.SwBwdReferenceIdeal.nD Cert.SwBwdReferenceIdeal.τ).loc Cert.SwBwdReferenceIdeal.main_arg0)) (m ((c.tc : Thread Cert.SwBwdReferenceIdeal.nD Cert.SwBwdReferenceIdeal.τ).loc Cert.SwBwdReferenceIdeal.main_arg1)) (m ((c.tc : Thread Cert.SwBwdReferenceIdeal.nD Cert.SwBwdReferenceIdeal.τ).loc Cert.SwBwdReferenceIdeal.main_arg2)) (m ((c.tc : Thread Cert.SwBwdReferenceIdeal.nD Cert.SwBwdReferenceIdeal.τ).loc Cert.SwBwdReferenceIdeal.main_arg3)) (m ((c.tc : Thread Cert.SwBwdReferenceIdeal.nD Cert.SwBwdReferenceIdeal.τ).loc Cert.SwBwdReferenceIdeal.main_arg4)) (m ((c.tc : Thread Cert.SwBwdReferenceIdeal.nD Cert.SwBwdReferenceIdeal.τ).loc Cert.SwBwdReferenceIdeal.main_arg5)) (m ((c.tc : Thread Cert.SwBwdReferenceIdeal.nD Cert.SwBwdReferenceIdeal.τ).loc Cert.SwBwdReferenceIdeal.main_arg6)) (m ((c.tc : Thread Cert.SwBwdReferenceIdeal.nD Cert.SwBwdReferenceIdeal.τ).loc Cert.SwBwdReferenceIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_WgIn [hWgIn : Cert.WgIn.Facts] : Prop :=
  ∀ (m : (ℓ : Loc Cert.WgIn.nD Cert.WgIn.τ Cert.WgIn.sig) → Buf (Elt Bits) ℓ) (g : Dev Cert.WgIn.nD → PrngReg), Pre_WgIn m →
    θ_run (Cert.WgIn.defs (F := Bits)) (onTc (τ := Cert.WgIn.τ) (Cert.WgIn.main (F := Bits))) ⟨m, fun _ => 0, g⟩ (fun r => (∀ c : Dev Cert.WgIn.nD,
      r.2.mem ((c.tc : Thread Cert.WgIn.nD Cert.WgIn.τ).loc Cert.WgIn.main_arg0) = m ((c.tc : Thread Cert.WgIn.nD Cert.WgIn.τ).loc Cert.WgIn.main_arg0)
      ∧ r.2.mem ((c.tc : Thread Cert.WgIn.nD Cert.WgIn.τ).loc Cert.WgIn.main_arg1) = m ((c.tc : Thread Cert.WgIn.nD Cert.WgIn.τ).loc Cert.WgIn.main_arg1))
      ∧ r.2.sem = fun _ => 0)

def quiescent_WgInIdeal [hWgInIdeal : Cert.WgInIdeal.Facts] : Prop :=
  ∀ (m : (ℓ : Loc Cert.WgInIdeal.nD Cert.WgInIdeal.τ Cert.WgInIdeal.sig) → Buf (Elt Ideal) ℓ) (g : Dev Cert.WgInIdeal.nD → PrngReg), Pre_WgInIdeal m →
    θ_run (Cert.WgInIdeal.defs (F := Ideal)) (onTc (τ := Cert.WgInIdeal.τ) (Cert.WgInIdeal.main (F := Ideal))) ⟨m, fun _ => 0, g⟩ (fun r => (∀ c : Dev Cert.WgInIdeal.nD,
      r.2.mem ((c.tc : Thread Cert.WgInIdeal.nD Cert.WgInIdeal.τ).loc Cert.WgInIdeal.main_arg0) = m ((c.tc : Thread Cert.WgInIdeal.nD Cert.WgInIdeal.τ).loc Cert.WgInIdeal.main_arg0)
      ∧ r.2.mem ((c.tc : Thread Cert.WgInIdeal.nD Cert.WgInIdeal.τ).loc Cert.WgInIdeal.main_arg1) = m ((c.tc : Thread Cert.WgInIdeal.nD Cert.WgInIdeal.τ).loc Cert.WgInIdeal.main_arg1))
      ∧ r.2.sem = fun _ => 0)

def quiescent_WgInReferenceIdeal [hWgInReferenceIdeal : Cert.WgInReferenceIdeal.Facts] : Prop :=
  ∀ (m : (ℓ : Loc Cert.WgInReferenceIdeal.nD Cert.WgInReferenceIdeal.τ Cert.WgInReferenceIdeal.sig) → Buf (Elt Ideal) ℓ) (g : Dev Cert.WgInReferenceIdeal.nD → PrngReg), Pre_WgInReferenceIdeal m →
    θ_run (Cert.WgInReferenceIdeal.defs (F := Ideal)) (onTc (τ := Cert.WgInReferenceIdeal.τ) (Cert.WgInReferenceIdeal.main (F := Ideal))) ⟨m, fun _ => 0, g⟩ (fun r => (∀ c : Dev Cert.WgInReferenceIdeal.nD,
      r.2.mem ((c.tc : Thread Cert.WgInReferenceIdeal.nD Cert.WgInReferenceIdeal.τ).loc Cert.WgInReferenceIdeal.main_arg0) = m ((c.tc : Thread Cert.WgInReferenceIdeal.nD Cert.WgInReferenceIdeal.τ).loc Cert.WgInReferenceIdeal.main_arg0)
      ∧ r.2.mem ((c.tc : Thread Cert.WgInReferenceIdeal.nD Cert.WgInReferenceIdeal.τ).loc Cert.WgInReferenceIdeal.main_arg1) = m ((c.tc : Thread Cert.WgInReferenceIdeal.nD Cert.WgInReferenceIdeal.τ).loc Cert.WgInReferenceIdeal.main_arg1))
      ∧ r.2.sem = fun _ => 0)

def quiescent_WgOut [hWgOut : Cert.WgOut.Facts] : Prop :=
  ∀ (m : (ℓ : Loc Cert.WgOut.nD Cert.WgOut.τ Cert.WgOut.sig) → Buf (Elt Bits) ℓ) (g : Dev Cert.WgOut.nD → PrngReg), Pre_WgOut m →
    θ_run (Cert.WgOut.defs (F := Bits)) (onTc (τ := Cert.WgOut.τ) (Cert.WgOut.main (F := Bits))) ⟨m, fun _ => 0, g⟩ (fun r => (∀ c : Dev Cert.WgOut.nD,
      r.2.mem ((c.tc : Thread Cert.WgOut.nD Cert.WgOut.τ).loc Cert.WgOut.main_arg0) = m ((c.tc : Thread Cert.WgOut.nD Cert.WgOut.τ).loc Cert.WgOut.main_arg0)
      ∧ r.2.mem ((c.tc : Thread Cert.WgOut.nD Cert.WgOut.τ).loc Cert.WgOut.main_arg1) = m ((c.tc : Thread Cert.WgOut.nD Cert.WgOut.τ).loc Cert.WgOut.main_arg1))
      ∧ r.2.sem = fun _ => 0)

def quiescent_WgOutIdeal [hWgOutIdeal : Cert.WgOutIdeal.Facts] : Prop :=
  ∀ (m : (ℓ : Loc Cert.WgOutIdeal.nD Cert.WgOutIdeal.τ Cert.WgOutIdeal.sig) → Buf (Elt Ideal) ℓ) (g : Dev Cert.WgOutIdeal.nD → PrngReg), Pre_WgOutIdeal m →
    θ_run (Cert.WgOutIdeal.defs (F := Ideal)) (onTc (τ := Cert.WgOutIdeal.τ) (Cert.WgOutIdeal.main (F := Ideal))) ⟨m, fun _ => 0, g⟩ (fun r => (∀ c : Dev Cert.WgOutIdeal.nD,
      r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
      ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1))
      ∧ r.2.sem = fun _ => 0)

def quiescent_WgOutReferenceIdeal [hWgOutReferenceIdeal : Cert.WgOutReferenceIdeal.Facts] : Prop :=
  ∀ (m : (ℓ : Loc Cert.WgOutReferenceIdeal.nD Cert.WgOutReferenceIdeal.τ Cert.WgOutReferenceIdeal.sig) → Buf (Elt Ideal) ℓ) (g : Dev Cert.WgOutReferenceIdeal.nD → PrngReg), Pre_WgOutReferenceIdeal m →
    θ_run (Cert.WgOutReferenceIdeal.defs (F := Ideal)) (onTc (τ := Cert.WgOutReferenceIdeal.τ) (Cert.WgOutReferenceIdeal.main (F := Ideal))) ⟨m, fun _ => 0, g⟩ (fun r => (∀ c : Dev Cert.WgOutReferenceIdeal.nD,
      r.2.mem ((c.tc : Thread Cert.WgOutReferenceIdeal.nD Cert.WgOutReferenceIdeal.τ).loc Cert.WgOutReferenceIdeal.main_arg0) = m ((c.tc : Thread Cert.WgOutReferenceIdeal.nD Cert.WgOutReferenceIdeal.τ).loc Cert.WgOutReferenceIdeal.main_arg0)
      ∧ r.2.mem ((c.tc : Thread Cert.WgOutReferenceIdeal.nD Cert.WgOutReferenceIdeal.τ).loc Cert.WgOutReferenceIdeal.main_arg1) = m ((c.tc : Thread Cert.WgOutReferenceIdeal.nD Cert.WgOutReferenceIdeal.τ).loc Cert.WgOutReferenceIdeal.main_arg1))
      ∧ r.2.sem = fun _ => 0)

def quiescent_WgFfnIn [hWgFfnIn : Cert.WgFfnIn.Facts] : Prop :=
  ∀ (m : (ℓ : Loc Cert.WgFfnIn.nD Cert.WgFfnIn.τ Cert.WgFfnIn.sig) → Buf (Elt Bits) ℓ) (g : Dev Cert.WgFfnIn.nD → PrngReg), Pre_WgFfnIn m →
    θ_run (Cert.WgFfnIn.defs (F := Bits)) (onTc (τ := Cert.WgFfnIn.τ) (Cert.WgFfnIn.main (F := Bits))) ⟨m, fun _ => 0, g⟩ (fun r => (∀ c : Dev Cert.WgFfnIn.nD,
      r.2.mem ((c.tc : Thread Cert.WgFfnIn.nD Cert.WgFfnIn.τ).loc Cert.WgFfnIn.main_arg0) = m ((c.tc : Thread Cert.WgFfnIn.nD Cert.WgFfnIn.τ).loc Cert.WgFfnIn.main_arg0)
      ∧ r.2.mem ((c.tc : Thread Cert.WgFfnIn.nD Cert.WgFfnIn.τ).loc Cert.WgFfnIn.main_arg1) = m ((c.tc : Thread Cert.WgFfnIn.nD Cert.WgFfnIn.τ).loc Cert.WgFfnIn.main_arg1))
      ∧ r.2.sem = fun _ => 0)

def quiescent_WgFfnInIdeal [hWgFfnInIdeal : Cert.WgFfnInIdeal.Facts] : Prop :=
  ∀ (m : (ℓ : Loc Cert.WgFfnInIdeal.nD Cert.WgFfnInIdeal.τ Cert.WgFfnInIdeal.sig) → Buf (Elt Ideal) ℓ) (g : Dev Cert.WgFfnInIdeal.nD → PrngReg), Pre_WgFfnInIdeal m →
    θ_run (Cert.WgFfnInIdeal.defs (F := Ideal)) (onTc (τ := Cert.WgFfnInIdeal.τ) (Cert.WgFfnInIdeal.main (F := Ideal))) ⟨m, fun _ => 0, g⟩ (fun r => (∀ c : Dev Cert.WgFfnInIdeal.nD,
      r.2.mem ((c.tc : Thread Cert.WgFfnInIdeal.nD Cert.WgFfnInIdeal.τ).loc Cert.WgFfnInIdeal.main_arg0) = m ((c.tc : Thread Cert.WgFfnInIdeal.nD Cert.WgFfnInIdeal.τ).loc Cert.WgFfnInIdeal.main_arg0)
      ∧ r.2.mem ((c.tc : Thread Cert.WgFfnInIdeal.nD Cert.WgFfnInIdeal.τ).loc Cert.WgFfnInIdeal.main_arg1) = m ((c.tc : Thread Cert.WgFfnInIdeal.nD Cert.WgFfnInIdeal.τ).loc Cert.WgFfnInIdeal.main_arg1))
      ∧ r.2.sem = fun _ => 0)

def quiescent_WgFfnInReferenceIdeal [hWgFfnInReferenceIdeal : Cert.WgFfnInReferenceIdeal.Facts] : Prop :=
  ∀ (m : (ℓ : Loc Cert.WgFfnInReferenceIdeal.nD Cert.WgFfnInReferenceIdeal.τ Cert.WgFfnInReferenceIdeal.sig) → Buf (Elt Ideal) ℓ) (g : Dev Cert.WgFfnInReferenceIdeal.nD → PrngReg), Pre_WgFfnInReferenceIdeal m →
    θ_run (Cert.WgFfnInReferenceIdeal.defs (F := Ideal)) (onTc (τ := Cert.WgFfnInReferenceIdeal.τ) (Cert.WgFfnInReferenceIdeal.main (F := Ideal))) ⟨m, fun _ => 0, g⟩ (fun r => (∀ c : Dev Cert.WgFfnInReferenceIdeal.nD,
      r.2.mem ((c.tc : Thread Cert.WgFfnInReferenceIdeal.nD Cert.WgFfnInReferenceIdeal.τ).loc Cert.WgFfnInReferenceIdeal.main_arg0) = m ((c.tc : Thread Cert.WgFfnInReferenceIdeal.nD Cert.WgFfnInReferenceIdeal.τ).loc Cert.WgFfnInReferenceIdeal.main_arg0)
      ∧ r.2.mem ((c.tc : Thread Cert.WgFfnInReferenceIdeal.nD Cert.WgFfnInReferenceIdeal.τ).loc Cert.WgFfnInReferenceIdeal.main_arg1) = m ((c.tc : Thread Cert.WgFfnInReferenceIdeal.nD Cert.WgFfnInReferenceIdeal.τ).loc Cert.WgFfnInReferenceIdeal.main_arg1))
      ∧ r.2.sem = fun _ => 0)

def quiescent_WgFfnOut [hWgFfnOut : Cert.WgFfnOut.Facts] : Prop :=
  ∀ (m : (ℓ : Loc Cert.WgFfnOut.nD Cert.WgFfnOut.τ Cert.WgFfnOut.sig) → Buf (Elt Bits) ℓ) (g : Dev Cert.WgFfnOut.nD → PrngReg), Pre_WgFfnOut m →
    θ_run (Cert.WgFfnOut.defs (F := Bits)) (onTc (τ := Cert.WgFfnOut.τ) (Cert.WgFfnOut.main (F := Bits))) ⟨m, fun _ => 0, g⟩ (fun r => (∀ c : Dev Cert.WgFfnOut.nD,
      r.2.mem ((c.tc : Thread Cert.WgFfnOut.nD Cert.WgFfnOut.τ).loc Cert.WgFfnOut.main_arg0) = m ((c.tc : Thread Cert.WgFfnOut.nD Cert.WgFfnOut.τ).loc Cert.WgFfnOut.main_arg0)
      ∧ r.2.mem ((c.tc : Thread Cert.WgFfnOut.nD Cert.WgFfnOut.τ).loc Cert.WgFfnOut.main_arg1) = m ((c.tc : Thread Cert.WgFfnOut.nD Cert.WgFfnOut.τ).loc Cert.WgFfnOut.main_arg1))
      ∧ r.2.sem = fun _ => 0)

def quiescent_WgFfnOutIdeal [hWgFfnOutIdeal : Cert.WgFfnOutIdeal.Facts] : Prop :=
  ∀ (m : (ℓ : Loc Cert.WgFfnOutIdeal.nD Cert.WgFfnOutIdeal.τ Cert.WgFfnOutIdeal.sig) → Buf (Elt Ideal) ℓ) (g : Dev Cert.WgFfnOutIdeal.nD → PrngReg), Pre_WgFfnOutIdeal m →
    θ_run (Cert.WgFfnOutIdeal.defs (F := Ideal)) (onTc (τ := Cert.WgFfnOutIdeal.τ) (Cert.WgFfnOutIdeal.main (F := Ideal))) ⟨m, fun _ => 0, g⟩ (fun r => (∀ c : Dev Cert.WgFfnOutIdeal.nD,
      r.2.mem ((c.tc : Thread Cert.WgFfnOutIdeal.nD Cert.WgFfnOutIdeal.τ).loc Cert.WgFfnOutIdeal.main_arg0) = m ((c.tc : Thread Cert.WgFfnOutIdeal.nD Cert.WgFfnOutIdeal.τ).loc Cert.WgFfnOutIdeal.main_arg0)
      ∧ r.2.mem ((c.tc : Thread Cert.WgFfnOutIdeal.nD Cert.WgFfnOutIdeal.τ).loc Cert.WgFfnOutIdeal.main_arg1) = m ((c.tc : Thread Cert.WgFfnOutIdeal.nD Cert.WgFfnOutIdeal.τ).loc Cert.WgFfnOutIdeal.main_arg1))
      ∧ r.2.sem = fun _ => 0)

def quiescent_WgFfnOutReferenceIdeal [hWgFfnOutReferenceIdeal : Cert.WgFfnOutReferenceIdeal.Facts] : Prop :=
  ∀ (m : (ℓ : Loc Cert.WgFfnOutReferenceIdeal.nD Cert.WgFfnOutReferenceIdeal.τ Cert.WgFfnOutReferenceIdeal.sig) → Buf (Elt Ideal) ℓ) (g : Dev Cert.WgFfnOutReferenceIdeal.nD → PrngReg), Pre_WgFfnOutReferenceIdeal m →
    θ_run (Cert.WgFfnOutReferenceIdeal.defs (F := Ideal)) (onTc (τ := Cert.WgFfnOutReferenceIdeal.τ) (Cert.WgFfnOutReferenceIdeal.main (F := Ideal))) ⟨m, fun _ => 0, g⟩ (fun r => (∀ c : Dev Cert.WgFfnOutReferenceIdeal.nD,
      r.2.mem ((c.tc : Thread Cert.WgFfnOutReferenceIdeal.nD Cert.WgFfnOutReferenceIdeal.τ).loc Cert.WgFfnOutReferenceIdeal.main_arg0) = m ((c.tc : Thread Cert.WgFfnOutReferenceIdeal.nD Cert.WgFfnOutReferenceIdeal.τ).loc Cert.WgFfnOutReferenceIdeal.main_arg0)
      ∧ r.2.mem ((c.tc : Thread Cert.WgFfnOutReferenceIdeal.nD Cert.WgFfnOutReferenceIdeal.τ).loc Cert.WgFfnOutReferenceIdeal.main_arg1) = m ((c.tc : Thread Cert.WgFfnOutReferenceIdeal.nD Cert.WgFfnOutReferenceIdeal.τ).loc Cert.WgFfnOutReferenceIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m ((c.tc : Thread Cert.InBwdReferenceIdeal.nD Cert.InBwdReferenceIdeal.τ).loc Cert.InBwdReferenceIdeal.main_arg3)
      ∧ r.2.mem ((c.tc : Thread Cert.InBwdReferenceIdeal.nD Cert.InBwdReferenceIdeal.τ).loc Cert.InBwdReferenceIdeal.main_arg4) = m ((c.tc : Thread Cert.InBwdReferenceIdeal.nD Cert.InBwdReferenceIdeal.τ).loc Cert.InBwdReferenceIdeal.main_arg4)
      ∧ r.2.mem ((c.tc : Thread Cert.InBwdReferenceIdeal.nD Cert.InBwdReferenceIdeal.τ).loc Cert.InBwdReferenceIdeal.main_arg5) = m ((c.tc : Thread Cert.InBwdReferenceIdeal.nD Cert.InBwdReferenceIdeal.τ).loc Cert.InBwdReferenceIdeal.main_arg5))
      ∧ r.2.sem = fun _ => 0)

def quiescent_InBwdReferenceIdeal_pre_finite_in [hInBwdReferenceIdeal : Cert.InBwdReferenceIdeal.Facts] [hPre_finite_in : Cert.Pre_finite_in.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal_finite_in m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m ((c.tc : Thread Cert.InBwdReferenceIdeal.nD Cert.InBwdReferenceIdeal.τ).loc Cert.InBwdReferenceIdeal.main_arg3)
      ∧ r.2.mem ((c.tc : Thread Cert.InBwdReferenceIdeal.nD Cert.InBwdReferenceIdeal.τ).loc Cert.InBwdReferenceIdeal.main_arg4) = m ((c.tc : Thread Cert.InBwdReferenceIdeal.nD Cert.InBwdReferenceIdeal.τ).loc Cert.InBwdReferenceIdeal.main_arg4)
      ∧ r.2.mem ((c.tc : Thread Cert.InBwdReferenceIdeal.nD Cert.InBwdReferenceIdeal.τ).loc Cert.InBwdReferenceIdeal.main_arg5) = m ((c.tc : Thread Cert.InBwdReferenceIdeal.nD Cert.InBwdReferenceIdeal.τ).loc Cert.InBwdReferenceIdeal.main_arg5))
      ∧ r.2.sem = fun _ => 0)

def quiescent_FfnInBwd [hFfnInBwd : Cert.FfnInBwd.Facts] : Prop :=
  ∀ (m : (ℓ : Loc Cert.FfnInBwd.nD Cert.FfnInBwd.τ Cert.FfnInBwd.sig) → Buf (Elt Bits) ℓ) (g : Dev Cert.FfnInBwd.nD → PrngReg), Pre_FfnInBwd m →
    θ_run (Cert.FfnInBwd.defs (F := Bits)) (onTc (τ := Cert.FfnInBwd.τ) (Cert.FfnInBwd.main (F := Bits))) ⟨m, fun _ => 0, g⟩ (fun r => (∀ c : Dev Cert.FfnInBwd.nD,
      r.2.mem ((c.tc : Thread Cert.FfnInBwd.nD Cert.FfnInBwd.τ).loc Cert.FfnInBwd.main_arg0) = m ((c.tc : Thread Cert.FfnInBwd.nD Cert.FfnInBwd.τ).loc Cert.FfnInBwd.main_arg0)
      ∧ r.2.mem ((c.tc : Thread Cert.FfnInBwd.nD Cert.FfnInBwd.τ).loc Cert.FfnInBwd.main_arg1) = m ((c.tc : Thread Cert.FfnInBwd.nD Cert.FfnInBwd.τ).loc Cert.FfnInBwd.main_arg1)
      ∧ r.2.mem ((c.tc : Thread Cert.FfnInBwd.nD Cert.FfnInBwd.τ).loc Cert.FfnInBwd.main_arg2) = m ((c.tc : Thread Cert.FfnInBwd.nD Cert.FfnInBwd.τ).loc Cert.FfnInBwd.main_arg2)
      ∧ r.2.mem ((c.tc : Thread Cert.FfnInBwd.nD Cert.FfnInBwd.τ).loc Cert.FfnInBwd.main_arg3) = m ((c.tc : Thread Cert.FfnInBwd.nD Cert.FfnInBwd.τ).loc Cert.FfnInBwd.main_arg3)
      ∧ r.2.mem ((c.tc : Thread Cert.FfnInBwd.nD Cert.FfnInBwd.τ).loc Cert.FfnInBwd.main_arg4) = m ((c.tc : Thread Cert.FfnInBwd.nD Cert.FfnInBwd.τ).loc Cert.FfnInBwd.main_arg4)
      ∧ r.2.mem ((c.tc : Thread Cert.FfnInBwd.nD Cert.FfnInBwd.τ).loc Cert.FfnInBwd.main_arg5) = m ((c.tc : Thread Cert.FfnInBwd.nD Cert.FfnInBwd.τ).loc Cert.FfnInBwd.main_arg5))
      ∧ r.2.sem = fun _ => 0)

def quiescent_FfnInBwdIdeal [hFfnInBwdIdeal : Cert.FfnInBwdIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
      ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5))
      ∧ r.2.sem = fun _ => 0)

def quiescent_FfnInBwdIdeal_pre_finite_ffn_in [hFfnInBwdIdeal : Cert.FfnInBwdIdeal.Facts] [hPre_finite_ffn_in : Cert.Pre_finite_ffn_in.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal_finite_ffn_in m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
      ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5))
      ∧ r.2.sem = fun _ => 0)

def quiescent_FfnInBwdReferenceIdeal [hFfnInBwdReferenceIdeal : Cert.FfnInBwdReferenceIdeal.Facts] : Prop :=
  ∀ (m : (ℓ : Loc Cert.FfnInBwdReferenceIdeal.nD Cert.FfnInBwdReferenceIdeal.τ Cert.FfnInBwdReferenceIdeal.sig) → Buf (Elt Ideal) ℓ) (g : Dev Cert.FfnInBwdReferenceIdeal.nD → PrngReg), Pre_FfnInBwdReferenceIdeal m →
    θ_run (Cert.FfnInBwdReferenceIdeal.defs (F := Ideal)) (onTc (τ := Cert.FfnInBwdReferenceIdeal.τ) (Cert.FfnInBwdReferenceIdeal.main (F := Ideal))) ⟨m, fun _ => 0, g⟩ (fun r => (∀ c : Dev Cert.FfnInBwdReferenceIdeal.nD,
      r.2.mem ((c.tc : Thread Cert.FfnInBwdReferenceIdeal.nD Cert.FfnInBwdReferenceIdeal.τ).loc Cert.FfnInBwdReferenceIdeal.main_arg0) = m ((c.tc : Thread Cert.FfnInBwdReferenceIdeal.nD Cert.FfnInBwdReferenceIdeal.τ).loc Cert.FfnInBwdReferenceIdeal.main_arg0)
      ∧ r.2.mem ((c.tc : Thread Cert.FfnInBwdReferenceIdeal.nD Cert.FfnInBwdReferenceIdeal.τ).loc Cert.FfnInBwdReferenceIdeal.main_arg1) = m ((c.tc : Thread Cert.FfnInBwdReferenceIdeal.nD Cert.FfnInBwdReferenceIdeal.τ).loc Cert.FfnInBwdReferenceIdeal.main_arg1)
      ∧ r.2.mem ((c.tc : Thread Cert.FfnInBwdReferenceIdeal.nD Cert.FfnInBwdReferenceIdeal.τ).loc Cert.FfnInBwdReferenceIdeal.main_arg2) = m ((c.tc : Thread Cert.FfnInBwdReferenceIdeal.nD Cert.FfnInBwdReferenceIdeal.τ).loc Cert.FfnInBwdReferenceIdeal.main_arg2)
      ∧ r.2.mem ((c.tc : Thread Cert.FfnInBwdReferenceIdeal.nD Cert.FfnInBwdReferenceIdeal.τ).loc Cert.FfnInBwdReferenceIdeal.main_arg3) = m ((c.tc : Thread Cert.FfnInBwdReferenceIdeal.nD Cert.FfnInBwdReferenceIdeal.τ).loc Cert.FfnInBwdReferenceIdeal.main_arg3)
      ∧ r.2.mem ((c.tc : Thread Cert.FfnInBwdReferenceIdeal.nD Cert.FfnInBwdReferenceIdeal.τ).loc Cert.FfnInBwdReferenceIdeal.main_arg4) = m ((c.tc : Thread Cert.FfnInBwdReferenceIdeal.nD Cert.FfnInBwdReferenceIdeal.τ).loc Cert.FfnInBwdReferenceIdeal.main_arg4)
      ∧ r.2.mem ((c.tc : Thread Cert.FfnInBwdReferenceIdeal.nD Cert.FfnInBwdReferenceIdeal.τ).loc Cert.FfnInBwdReferenceIdeal.main_arg5) = m ((c.tc : Thread Cert.FfnInBwdReferenceIdeal.nD Cert.FfnInBwdReferenceIdeal.τ).loc Cert.FfnInBwdReferenceIdeal.main_arg5))
      ∧ r.2.sem = fun _ => 0)

def quiescent_FfnInBwdReferenceIdeal_pre_finite_ffn_in [hFfnInBwdReferenceIdeal : Cert.FfnInBwdReferenceIdeal.Facts] [hPre_finite_ffn_in : Cert.Pre_finite_ffn_in.Facts] : Prop :=
  ∀ (m : (ℓ : Loc Cert.FfnInBwdReferenceIdeal.nD Cert.FfnInBwdReferenceIdeal.τ Cert.FfnInBwdReferenceIdeal.sig) → Buf (Elt Ideal) ℓ) (g : Dev Cert.FfnInBwdReferenceIdeal.nD → PrngReg), Pre_FfnInBwdReferenceIdeal_finite_ffn_in m →
    θ_run (Cert.FfnInBwdReferenceIdeal.defs (F := Ideal)) (onTc (τ := Cert.FfnInBwdReferenceIdeal.τ) (Cert.FfnInBwdReferenceIdeal.main (F := Ideal))) ⟨m, fun _ => 0, g⟩ (fun r => (∀ c : Dev Cert.FfnInBwdReferenceIdeal.nD,
      r.2.mem ((c.tc : Thread Cert.FfnInBwdReferenceIdeal.nD Cert.FfnInBwdReferenceIdeal.τ).loc Cert.FfnInBwdReferenceIdeal.main_arg0) = m ((c.tc : Thread Cert.FfnInBwdReferenceIdeal.nD Cert.FfnInBwdReferenceIdeal.τ).loc Cert.FfnInBwdReferenceIdeal.main_arg0)
      ∧ r.2.mem ((c.tc : Thread Cert.FfnInBwdReferenceIdeal.nD Cert.FfnInBwdReferenceIdeal.τ).loc Cert.FfnInBwdReferenceIdeal.main_arg1) = m ((c.tc : Thread Cert.FfnInBwdReferenceIdeal.nD Cert.FfnInBwdReferenceIdeal.τ).loc Cert.FfnInBwdReferenceIdeal.main_arg1)
      ∧ r.2.mem ((c.tc : Thread Cert.FfnInBwdReferenceIdeal.nD Cert.FfnInBwdReferenceIdeal.τ).loc Cert.FfnInBwdReferenceIdeal.main_arg2) = m ((c.tc : Thread Cert.FfnInBwdReferenceIdeal.nD Cert.FfnInBwdReferenceIdeal.τ).loc Cert.FfnInBwdReferenceIdeal.main_arg2)
      ∧ r.2.mem ((c.tc : Thread Cert.FfnInBwdReferenceIdeal.nD Cert.FfnInBwdReferenceIdeal.τ).loc Cert.FfnInBwdReferenceIdeal.main_arg3) = m ((c.tc : Thread Cert.FfnInBwdReferenceIdeal.nD Cert.FfnInBwdReferenceIdeal.τ).loc Cert.FfnInBwdReferenceIdeal.main_arg3)
      ∧ r.2.mem ((c.tc : Thread Cert.FfnInBwdReferenceIdeal.nD Cert.FfnInBwdReferenceIdeal.τ).loc Cert.FfnInBwdReferenceIdeal.main_arg4) = m ((c.tc : Thread Cert.FfnInBwdReferenceIdeal.nD Cert.FfnInBwdReferenceIdeal.τ).loc Cert.FfnInBwdReferenceIdeal.main_arg4)
      ∧ r.2.mem ((c.tc : Thread Cert.FfnInBwdReferenceIdeal.nD Cert.FfnInBwdReferenceIdeal.τ).loc Cert.FfnInBwdReferenceIdeal.main_arg5) = m ((c.tc : Thread Cert.FfnInBwdReferenceIdeal.nD Cert.FfnInBwdReferenceIdeal.τ).loc Cert.FfnInBwdReferenceIdeal.main_arg5))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3))
      ∧ r.2.sem = fun _ => 0)

def quiescent_FfnOutBwd [hFfnOutBwd : Cert.FfnOutBwd.Facts] : Prop :=
  ∀ (m : (ℓ : Loc Cert.FfnOutBwd.nD Cert.FfnOutBwd.τ Cert.FfnOutBwd.sig) → Buf (Elt Bits) ℓ) (g : Dev Cert.FfnOutBwd.nD → PrngReg), Pre_FfnOutBwd m →
    θ_run (Cert.FfnOutBwd.defs (F := Bits)) (onTc (τ := Cert.FfnOutBwd.τ) (Cert.FfnOutBwd.main (F := Bits))) ⟨m, fun _ => 0, g⟩ (fun r => (∀ c : Dev Cert.FfnOutBwd.nD,
      r.2.mem ((c.tc : Thread Cert.FfnOutBwd.nD Cert.FfnOutBwd.τ).loc Cert.FfnOutBwd.main_arg0) = m ((c.tc : Thread Cert.FfnOutBwd.nD Cert.FfnOutBwd.τ).loc Cert.FfnOutBwd.main_arg0)
      ∧ r.2.mem ((c.tc : Thread Cert.FfnOutBwd.nD Cert.FfnOutBwd.τ).loc Cert.FfnOutBwd.main_arg1) = m ((c.tc : Thread Cert.FfnOutBwd.nD Cert.FfnOutBwd.τ).loc Cert.FfnOutBwd.main_arg1)
      ∧ r.2.mem ((c.tc : Thread Cert.FfnOutBwd.nD Cert.FfnOutBwd.τ).loc Cert.FfnOutBwd.main_arg2) = m ((c.tc : Thread Cert.FfnOutBwd.nD Cert.FfnOutBwd.τ).loc Cert.FfnOutBwd.main_arg2)
      ∧ r.2.mem ((c.tc : Thread Cert.FfnOutBwd.nD Cert.FfnOutBwd.τ).loc Cert.FfnOutBwd.main_arg3) = m ((c.tc : Thread Cert.FfnOutBwd.nD Cert.FfnOutBwd.τ).loc Cert.FfnOutBwd.main_arg3))
      ∧ r.2.sem = fun _ => 0)

def quiescent_FfnOutBwdIdeal [hFfnOutBwdIdeal : Cert.FfnOutBwdIdeal.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg), Pre_FfnOutBwdIdeal m →
    θ_run (Cert.FfnOutBwdIdeal.defs (F := Ideal)) (onTc (τ := Cert.FfnOutBwdIdeal.τ) (Cert.FfnOutBwdIdeal.main (F := Ideal))) ⟨m, fun _ => 0, g⟩ (fun r => (∀ c : Dev Cert.FfnOutBwdIdeal.nD,
      r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
      ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
      ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
      ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ r.2.sem = fun _ => 0)

def quiescent_FfnOutBwdIdeal_pre_finite_ffn_out [hFfnOutBwdIdeal : Cert.FfnOutBwdIdeal.Facts] [hPre_finite_ffn_out : Cert.Pre_finite_ffn_out.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg), Pre_FfnOutBwdIdeal_finite_ffn_out m →
    θ_run (Cert.FfnOutBwdIdeal.defs (F := Ideal)) (onTc (τ := Cert.FfnOutBwdIdeal.τ) (Cert.FfnOutBwdIdeal.main (F := Ideal))) ⟨m, fun _ => 0, g⟩ (fun r => (∀ c : Dev Cert.FfnOutBwdIdeal.nD,
      r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
      ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
      ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
      ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ r.2.sem = fun _ => 0)

def quiescent_FfnOutBwdReferenceIdeal [hFfnOutBwdReferenceIdeal : Cert.FfnOutBwdReferenceIdeal.Facts] : Prop :=
  ∀ (m : (ℓ : Loc Cert.FfnOutBwdReferenceIdeal.nD Cert.FfnOutBwdReferenceIdeal.τ Cert.FfnOutBwdReferenceIdeal.sig) → Buf (Elt Ideal) ℓ) (g : Dev Cert.FfnOutBwdReferenceIdeal.nD → PrngReg), Pre_FfnOutBwdReferenceIdeal m →
    θ_run (Cert.FfnOutBwdReferenceIdeal.defs (F := Ideal)) (onTc (τ := Cert.FfnOutBwdReferenceIdeal.τ) (Cert.FfnOutBwdReferenceIdeal.main (F := Ideal))) ⟨m, fun _ => 0, g⟩ (fun r => (∀ c : Dev Cert.FfnOutBwdReferenceIdeal.nD,
      r.2.mem ((c.tc : Thread Cert.FfnOutBwdReferenceIdeal.nD Cert.FfnOutBwdReferenceIdeal.τ).loc Cert.FfnOutBwdReferenceIdeal.main_arg0) = m ((c.tc : Thread Cert.FfnOutBwdReferenceIdeal.nD Cert.FfnOutBwdReferenceIdeal.τ).loc Cert.FfnOutBwdReferenceIdeal.main_arg0)
      ∧ r.2.mem ((c.tc : Thread Cert.FfnOutBwdReferenceIdeal.nD Cert.FfnOutBwdReferenceIdeal.τ).loc Cert.FfnOutBwdReferenceIdeal.main_arg1) = m ((c.tc : Thread Cert.FfnOutBwdReferenceIdeal.nD Cert.FfnOutBwdReferenceIdeal.τ).loc Cert.FfnOutBwdReferenceIdeal.main_arg1)
      ∧ r.2.mem ((c.tc : Thread Cert.FfnOutBwdReferenceIdeal.nD Cert.FfnOutBwdReferenceIdeal.τ).loc Cert.FfnOutBwdReferenceIdeal.main_arg2) = m ((c.tc : Thread Cert.FfnOutBwdReferenceIdeal.nD Cert.FfnOutBwdReferenceIdeal.τ).loc Cert.FfnOutBwdReferenceIdeal.main_arg2)
      ∧ r.2.mem ((c.tc : Thread Cert.FfnOutBwdReferenceIdeal.nD Cert.FfnOutBwdReferenceIdeal.τ).loc Cert.FfnOutBwdReferenceIdeal.main_arg3) = m ((c.tc : Thread Cert.FfnOutBwdReferenceIdeal.nD Cert.FfnOutBwdReferenceIdeal.τ).loc Cert.FfnOutBwdReferenceIdeal.main_arg3))
      ∧ r.2.sem = fun _ => 0)

def quiescent_FfnOutBwdReferenceIdeal_pre_finite_ffn_out [hFfnOutBwdReferenceIdeal : Cert.FfnOutBwdReferenceIdeal.Facts] [hPre_finite_ffn_out : Cert.Pre_finite_ffn_out.Facts] : Prop :=
  ∀ (m : (ℓ : Loc Cert.FfnOutBwdReferenceIdeal.nD Cert.FfnOutBwdReferenceIdeal.τ Cert.FfnOutBwdReferenceIdeal.sig) → Buf (Elt Ideal) ℓ) (g : Dev Cert.FfnOutBwdReferenceIdeal.nD → PrngReg), Pre_FfnOutBwdReferenceIdeal_finite_ffn_out m →
    θ_run (Cert.FfnOutBwdReferenceIdeal.defs (F := Ideal)) (onTc (τ := Cert.FfnOutBwdReferenceIdeal.τ) (Cert.FfnOutBwdReferenceIdeal.main (F := Ideal))) ⟨m, fun _ => 0, g⟩ (fun r => (∀ c : Dev Cert.FfnOutBwdReferenceIdeal.nD,
      r.2.mem ((c.tc : Thread Cert.FfnOutBwdReferenceIdeal.nD Cert.FfnOutBwdReferenceIdeal.τ).loc Cert.FfnOutBwdReferenceIdeal.main_arg0) = m ((c.tc : Thread Cert.FfnOutBwdReferenceIdeal.nD Cert.FfnOutBwdReferenceIdeal.τ).loc Cert.FfnOutBwdReferenceIdeal.main_arg0)
      ∧ r.2.mem ((c.tc : Thread Cert.FfnOutBwdReferenceIdeal.nD Cert.FfnOutBwdReferenceIdeal.τ).loc Cert.FfnOutBwdReferenceIdeal.main_arg1) = m ((c.tc : Thread Cert.FfnOutBwdReferenceIdeal.nD Cert.FfnOutBwdReferenceIdeal.τ).loc Cert.FfnOutBwdReferenceIdeal.main_arg1)
      ∧ r.2.mem ((c.tc : Thread Cert.FfnOutBwdReferenceIdeal.nD Cert.FfnOutBwdReferenceIdeal.τ).loc Cert.FfnOutBwdReferenceIdeal.main_arg2) = m ((c.tc : Thread Cert.FfnOutBwdReferenceIdeal.nD Cert.FfnOutBwdReferenceIdeal.τ).loc Cert.FfnOutBwdReferenceIdeal.main_arg2)
      ∧ r.2.mem ((c.tc : Thread Cert.FfnOutBwdReferenceIdeal.nD Cert.FfnOutBwdReferenceIdeal.τ).loc Cert.FfnOutBwdReferenceIdeal.main_arg3) = m ((c.tc : Thread Cert.FfnOutBwdReferenceIdeal.nD Cert.FfnOutBwdReferenceIdeal.τ).loc Cert.FfnOutBwdReferenceIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3)
      ∧ r.2.mem ((c.tc : Thread Cert.InFwd.nD Cert.InFwd.τ).loc Cert.InFwd.main_arg4) = m ((c.tc : Thread Cert.InFwd.nD Cert.InFwd.τ).loc Cert.InFwd.main_arg4))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1)
      ∧ r.2.mem ((c.tc : Thread Cert.InFwdReferenceIdeal.nD Cert.InFwdReferenceIdeal.τ).loc Cert.InFwdReferenceIdeal.main_arg2) = m ((c.tc : Thread Cert.InFwdReferenceIdeal.nD Cert.InFwdReferenceIdeal.τ).loc Cert.InFwdReferenceIdeal.main_arg2)
      ∧ r.2.mem ((c.tc : Thread Cert.InFwdReferenceIdeal.nD Cert.InFwdReferenceIdeal.τ).loc Cert.InFwdReferenceIdeal.main_arg3) = m ((c.tc : Thread Cert.InFwdReferenceIdeal.nD Cert.InFwdReferenceIdeal.τ).loc Cert.InFwdReferenceIdeal.main_arg3)
      ∧ r.2.mem ((c.tc : Thread Cert.InFwdReferenceIdeal.nD Cert.InFwdReferenceIdeal.τ).loc Cert.InFwdReferenceIdeal.main_arg4) = m ((c.tc : Thread Cert.InFwdReferenceIdeal.nD Cert.InFwdReferenceIdeal.τ).loc Cert.InFwdReferenceIdeal.main_arg4))
      ∧ r.2.sem = fun _ => 0)

def quiescent_FfnInFwd [hFfnInFwd : Cert.FfnInFwd.Facts] : Prop :=
  ∀ (m : (ℓ : Loc Cert.FfnInFwd.nD Cert.FfnInFwd.τ Cert.FfnInFwd.sig) → Buf (Elt Bits) ℓ) (g : Dev Cert.FfnInFwd.nD → PrngReg), Pre_FfnInFwd m →
    θ_run (Cert.FfnInFwd.defs (F := Bits)) (onTc (τ := Cert.FfnInFwd.τ) (Cert.FfnInFwd.main (F := Bits))) ⟨m, fun _ => 0, g⟩ (fun r => (∀ c : Dev Cert.FfnInFwd.nD,
      r.2.mem ((c.tc : Thread Cert.FfnInFwd.nD Cert.FfnInFwd.τ).loc Cert.FfnInFwd.main_arg0) = m ((c.tc : Thread Cert.FfnInFwd.nD Cert.FfnInFwd.τ).loc Cert.FfnInFwd.main_arg0)
      ∧ r.2.mem ((c.tc : Thread Cert.FfnInFwd.nD Cert.FfnInFwd.τ).loc Cert.FfnInFwd.main_arg1) = m ((c.tc : Thread Cert.FfnInFwd.nD Cert.FfnInFwd.τ).loc Cert.FfnInFwd.main_arg1)
      ∧ r.2.mem ((c.tc : Thread Cert.FfnInFwd.nD Cert.FfnInFwd.τ).loc Cert.FfnInFwd.main_arg2) = m ((c.tc : Thread Cert.FfnInFwd.nD Cert.FfnInFwd.τ).loc Cert.FfnInFwd.main_arg2)
      ∧ r.2.mem ((c.tc : Thread Cert.FfnInFwd.nD Cert.FfnInFwd.τ).loc Cert.FfnInFwd.main_arg3) = m ((c.tc : Thread Cert.FfnInFwd.nD Cert.FfnInFwd.τ).loc Cert.FfnInFwd.main_arg3)
      ∧ r.2.mem ((c.tc : Thread Cert.FfnInFwd.nD Cert.FfnInFwd.τ).loc Cert.FfnInFwd.main_arg4) = m ((c.tc : Thread Cert.FfnInFwd.nD Cert.FfnInFwd.τ).loc Cert.FfnInFwd.main_arg4))
      ∧ r.2.sem = fun _ => 0)

def quiescent_FfnInFwdIdeal [hFfnInFwdIdeal : Cert.FfnInFwdIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg), Pre_FfnInFwdIdeal m →
    θ_run (Cert.FfnInFwdIdeal.defs (F := Ideal)) (onTc (τ := Cert.FfnInFwdIdeal.τ) (Cert.FfnInFwdIdeal.main (F := Ideal))) ⟨m, fun _ => 0, g⟩ (fun r => (∀ c : Dev Cert.FfnInFwdIdeal.nD,
      r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
      ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1)
      ∧ r.2.mem ((c.tc : Thread Cert.FfnInFwdIdeal.nD Cert.FfnInFwdIdeal.τ).loc Cert.FfnInFwdIdeal.main_arg2) = m ((c.tc : Thread Cert.FfnInFwdIdeal.nD Cert.FfnInFwdIdeal.τ).loc Cert.FfnInFwdIdeal.main_arg2)
      ∧ r.2.mem ((c.tc : Thread Cert.FfnInFwdIdeal.nD Cert.FfnInFwdIdeal.τ).loc Cert.FfnInFwdIdeal.main_arg3) = m ((c.tc : Thread Cert.FfnInFwdIdeal.nD Cert.FfnInFwdIdeal.τ).loc Cert.FfnInFwdIdeal.main_arg3)
      ∧ r.2.mem ((c.tc : Thread Cert.FfnInFwdIdeal.nD Cert.FfnInFwdIdeal.τ).loc Cert.FfnInFwdIdeal.main_arg4) = m ((c.tc : Thread Cert.FfnInFwdIdeal.nD Cert.FfnInFwdIdeal.τ).loc Cert.FfnInFwdIdeal.main_arg4))
      ∧ r.2.sem = fun _ => 0)

def quiescent_FfnInFwdReferenceIdeal [hFfnInFwdReferenceIdeal : Cert.FfnInFwdReferenceIdeal.Facts] : Prop :=
  ∀ (m : (ℓ : Loc Cert.FfnInFwdReferenceIdeal.nD Cert.FfnInFwdReferenceIdeal.τ Cert.FfnInFwdReferenceIdeal.sig) → Buf (Elt Ideal) ℓ) (g : Dev Cert.FfnInFwdReferenceIdeal.nD → PrngReg), Pre_FfnInFwdReferenceIdeal m →
    θ_run (Cert.FfnInFwdReferenceIdeal.defs (F := Ideal)) (onTc (τ := Cert.FfnInFwdReferenceIdeal.τ) (Cert.FfnInFwdReferenceIdeal.main (F := Ideal))) ⟨m, fun _ => 0, g⟩ (fun r => (∀ c : Dev Cert.FfnInFwdReferenceIdeal.nD,
      r.2.mem ((c.tc : Thread Cert.FfnInFwdReferenceIdeal.nD Cert.FfnInFwdReferenceIdeal.τ).loc Cert.FfnInFwdReferenceIdeal.main_arg0) = m ((c.tc : Thread Cert.FfnInFwdReferenceIdeal.nD Cert.FfnInFwdReferenceIdeal.τ).loc Cert.FfnInFwdReferenceIdeal.main_arg0)
      ∧ r.2.mem ((c.tc : Thread Cert.FfnInFwdReferenceIdeal.nD Cert.FfnInFwdReferenceIdeal.τ).loc Cert.FfnInFwdReferenceIdeal.main_arg1) = m ((c.tc : Thread Cert.FfnInFwdReferenceIdeal.nD Cert.FfnInFwdReferenceIdeal.τ).loc Cert.FfnInFwdReferenceIdeal.main_arg1)
      ∧ r.2.mem ((c.tc : Thread Cert.FfnInFwdReferenceIdeal.nD Cert.FfnInFwdReferenceIdeal.τ).loc Cert.FfnInFwdReferenceIdeal.main_arg2) = m ((c.tc : Thread Cert.FfnInFwdReferenceIdeal.nD Cert.FfnInFwdReferenceIdeal.τ).loc Cert.FfnInFwdReferenceIdeal.main_arg2)
      ∧ r.2.mem ((c.tc : Thread Cert.FfnInFwdReferenceIdeal.nD Cert.FfnInFwdReferenceIdeal.τ).loc Cert.FfnInFwdReferenceIdeal.main_arg3) = m ((c.tc : Thread Cert.FfnInFwdReferenceIdeal.nD Cert.FfnInFwdReferenceIdeal.τ).loc Cert.FfnInFwdReferenceIdeal.main_arg3)
      ∧ r.2.mem ((c.tc : Thread Cert.FfnInFwdReferenceIdeal.nD Cert.FfnInFwdReferenceIdeal.τ).loc Cert.FfnInFwdReferenceIdeal.main_arg4) = m ((c.tc : Thread Cert.FfnInFwdReferenceIdeal.nD Cert.FfnInFwdReferenceIdeal.τ).loc Cert.FfnInFwdReferenceIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2)
      ∧ r.2.mem ((c.tc : Thread Cert.OutFwdReferenceIdeal.nD Cert.OutFwdReferenceIdeal.τ).loc Cert.OutFwdReferenceIdeal.main_arg3) = m ((c.tc : Thread Cert.OutFwdReferenceIdeal.nD Cert.OutFwdReferenceIdeal.τ).loc Cert.OutFwdReferenceIdeal.main_arg3))
      ∧ r.2.sem = fun _ => 0)

def quiescent_FfnOutFwd [hFfnOutFwd : Cert.FfnOutFwd.Facts] : Prop :=
  ∀ (m : (ℓ : Loc Cert.FfnOutFwd.nD Cert.FfnOutFwd.τ Cert.FfnOutFwd.sig) → Buf (Elt Bits) ℓ) (g : Dev Cert.FfnOutFwd.nD → PrngReg), Pre_FfnOutFwd m →
    θ_run (Cert.FfnOutFwd.defs (F := Bits)) (onTc (τ := Cert.FfnOutFwd.τ) (Cert.FfnOutFwd.main (F := Bits))) ⟨m, fun _ => 0, g⟩ (fun r => (∀ c : Dev Cert.FfnOutFwd.nD,
      r.2.mem ((c.tc : Thread Cert.FfnOutFwd.nD Cert.FfnOutFwd.τ).loc Cert.FfnOutFwd.main_arg0) = m ((c.tc : Thread Cert.FfnOutFwd.nD Cert.FfnOutFwd.τ).loc Cert.FfnOutFwd.main_arg0)
      ∧ r.2.mem ((c.tc : Thread Cert.FfnOutFwd.nD Cert.FfnOutFwd.τ).loc Cert.FfnOutFwd.main_arg1) = m ((c.tc : Thread Cert.FfnOutFwd.nD Cert.FfnOutFwd.τ).loc Cert.FfnOutFwd.main_arg1)
      ∧ r.2.mem ((c.tc : Thread Cert.FfnOutFwd.nD Cert.FfnOutFwd.τ).loc Cert.FfnOutFwd.main_arg2) = m ((c.tc : Thread Cert.FfnOutFwd.nD Cert.FfnOutFwd.τ).loc Cert.FfnOutFwd.main_arg2)
      ∧ r.2.mem ((c.tc : Thread Cert.FfnOutFwd.nD Cert.FfnOutFwd.τ).loc Cert.FfnOutFwd.main_arg3) = m ((c.tc : Thread Cert.FfnOutFwd.nD Cert.FfnOutFwd.τ).loc Cert.FfnOutFwd.main_arg3))
      ∧ r.2.sem = fun _ => 0)

def quiescent_FfnOutFwdIdeal [hFfnOutFwdIdeal : Cert.FfnOutFwdIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg), Pre_FfnOutFwdIdeal m →
    θ_run (Cert.FfnOutFwdIdeal.defs (F := Ideal)) (onTc (τ := Cert.FfnOutFwdIdeal.τ) (Cert.FfnOutFwdIdeal.main (F := Ideal))) ⟨m, fun _ => 0, g⟩ (fun r => (∀ c : Dev Cert.FfnOutFwdIdeal.nD,
      r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
      ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1)
      ∧ r.2.mem ((c.tc : Thread Cert.FfnOutFwdIdeal.nD Cert.FfnOutFwdIdeal.τ).loc Cert.FfnOutFwdIdeal.main_arg2) = m ((c.tc : Thread Cert.FfnOutFwdIdeal.nD Cert.FfnOutFwdIdeal.τ).loc Cert.FfnOutFwdIdeal.main_arg2)
      ∧ r.2.mem ((c.tc : Thread Cert.FfnOutFwdIdeal.nD Cert.FfnOutFwdIdeal.τ).loc Cert.FfnOutFwdIdeal.main_arg3) = m ((c.tc : Thread Cert.FfnOutFwdIdeal.nD Cert.FfnOutFwdIdeal.τ).loc Cert.FfnOutFwdIdeal.main_arg3))
      ∧ r.2.sem = fun _ => 0)

def quiescent_FfnOutFwdReferenceIdeal [hFfnOutFwdReferenceIdeal : Cert.FfnOutFwdReferenceIdeal.Facts] : Prop :=
  ∀ (m : (ℓ : Loc Cert.FfnOutFwdReferenceIdeal.nD Cert.FfnOutFwdReferenceIdeal.τ Cert.FfnOutFwdReferenceIdeal.sig) → Buf (Elt Ideal) ℓ) (g : Dev Cert.FfnOutFwdReferenceIdeal.nD → PrngReg), Pre_FfnOutFwdReferenceIdeal m →
    θ_run (Cert.FfnOutFwdReferenceIdeal.defs (F := Ideal)) (onTc (τ := Cert.FfnOutFwdReferenceIdeal.τ) (Cert.FfnOutFwdReferenceIdeal.main (F := Ideal))) ⟨m, fun _ => 0, g⟩ (fun r => (∀ c : Dev Cert.FfnOutFwdReferenceIdeal.nD,
      r.2.mem ((c.tc : Thread Cert.FfnOutFwdReferenceIdeal.nD Cert.FfnOutFwdReferenceIdeal.τ).loc Cert.FfnOutFwdReferenceIdeal.main_arg0) = m ((c.tc : Thread Cert.FfnOutFwdReferenceIdeal.nD Cert.FfnOutFwdReferenceIdeal.τ).loc Cert.FfnOutFwdReferenceIdeal.main_arg0)
      ∧ r.2.mem ((c.tc : Thread Cert.FfnOutFwdReferenceIdeal.nD Cert.FfnOutFwdReferenceIdeal.τ).loc Cert.FfnOutFwdReferenceIdeal.main_arg1) = m ((c.tc : Thread Cert.FfnOutFwdReferenceIdeal.nD Cert.FfnOutFwdReferenceIdeal.τ).loc Cert.FfnOutFwdReferenceIdeal.main_arg1)
      ∧ r.2.mem ((c.tc : Thread Cert.FfnOutFwdReferenceIdeal.nD Cert.FfnOutFwdReferenceIdeal.τ).loc Cert.FfnOutFwdReferenceIdeal.main_arg2) = m ((c.tc : Thread Cert.FfnOutFwdReferenceIdeal.nD Cert.FfnOutFwdReferenceIdeal.τ).loc Cert.FfnOutFwdReferenceIdeal.main_arg2)
      ∧ r.2.mem ((c.tc : Thread Cert.FfnOutFwdReferenceIdeal.nD Cert.FfnOutFwdReferenceIdeal.τ).loc Cert.FfnOutFwdReferenceIdeal.main_arg3) = m ((c.tc : Thread Cert.FfnOutFwdReferenceIdeal.nD Cert.FfnOutFwdReferenceIdeal.τ).loc Cert.FfnOutFwdReferenceIdeal.main_arg3))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1)
      ∧ r.2.mem ((c.tc : Thread Cert.LossFwd.nD Cert.LossFwd.τ).loc Cert.LossFwd.main_arg2) = m ((c.tc : Thread Cert.LossFwd.nD Cert.LossFwd.τ).loc Cert.LossFwd.main_arg2)
      ∧ r.2.mem ((c.tc : Thread Cert.LossFwd.nD Cert.LossFwd.τ).loc Cert.LossFwd.main_arg3) = m ((c.tc : Thread Cert.LossFwd.nD Cert.LossFwd.τ).loc Cert.LossFwd.main_arg3)
      ∧ r.2.mem ((c.tc : Thread Cert.LossFwd.nD Cert.LossFwd.τ).loc Cert.LossFwd.main_arg4) = m ((c.tc : Thread Cert.LossFwd.nD Cert.LossFwd.τ).loc Cert.LossFwd.main_arg4))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
      ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
      ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
      ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4))
      ∧ r.2.sem = fun _ => 0)

def quiescent_LossFwdReferenceIdeal [hLossFwdReferenceIdeal : Cert.LossFwdReferenceIdeal.Facts] : Prop :=
  ∀ (m : (ℓ : Loc Cert.LossFwdReferenceIdeal.nD Cert.LossFwdReferenceIdeal.τ Cert.LossFwdReferenceIdeal.sig) → Buf (Elt Ideal) ℓ) (g : Dev Cert.LossFwdReferenceIdeal.nD → PrngReg), Pre_LossFwdReferenceIdeal m →
    θ_run (Cert.LossFwdReferenceIdeal.defs (F := Ideal)) (onTc (τ := Cert.LossFwdReferenceIdeal.τ) (Cert.LossFwdReferenceIdeal.main (F := Ideal))) ⟨m, fun _ => 0, g⟩ (fun r => (∀ c : Dev Cert.LossFwdReferenceIdeal.nD,
      r.2.mem ((c.tc : Thread Cert.LossFwdReferenceIdeal.nD Cert.LossFwdReferenceIdeal.τ).loc Cert.LossFwdReferenceIdeal.main_arg0) = m ((c.tc : Thread Cert.LossFwdReferenceIdeal.nD Cert.LossFwdReferenceIdeal.τ).loc Cert.LossFwdReferenceIdeal.main_arg0)
      ∧ r.2.mem ((c.tc : Thread Cert.LossFwdReferenceIdeal.nD Cert.LossFwdReferenceIdeal.τ).loc Cert.LossFwdReferenceIdeal.main_arg1) = m ((c.tc : Thread Cert.LossFwdReferenceIdeal.nD Cert.LossFwdReferenceIdeal.τ).loc Cert.LossFwdReferenceIdeal.main_arg1)
      ∧ r.2.mem ((c.tc : Thread Cert.LossFwdReferenceIdeal.nD Cert.LossFwdReferenceIdeal.τ).loc Cert.LossFwdReferenceIdeal.main_arg2) = m ((c.tc : Thread Cert.LossFwdReferenceIdeal.nD Cert.LossFwdReferenceIdeal.τ).loc Cert.LossFwdReferenceIdeal.main_arg2)
      ∧ r.2.mem ((c.tc : Thread Cert.LossFwdReferenceIdeal.nD Cert.LossFwdReferenceIdeal.τ).loc Cert.LossFwdReferenceIdeal.main_arg3) = m ((c.tc : Thread Cert.LossFwdReferenceIdeal.nD Cert.LossFwdReferenceIdeal.τ).loc Cert.LossFwdReferenceIdeal.main_arg3)
      ∧ r.2.mem ((c.tc : Thread Cert.LossFwdReferenceIdeal.nD Cert.LossFwdReferenceIdeal.τ).loc Cert.LossFwdReferenceIdeal.main_arg4) = m ((c.tc : Thread Cert.LossFwdReferenceIdeal.nD Cert.LossFwdReferenceIdeal.τ).loc Cert.LossFwdReferenceIdeal.main_arg4))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1))
      ∧ r.2.sem = fun _ => 0)

def quiescent_ModBwdReferenceIdeal [hModBwdReferenceIdeal : Cert.ModBwdReferenceIdeal.Facts] : Prop :=
  ∀ (m : (ℓ : Loc Cert.ModBwdReferenceIdeal.nD Cert.ModBwdReferenceIdeal.τ Cert.ModBwdReferenceIdeal.sig) → Buf (Elt Ideal) ℓ) (g : Dev Cert.ModBwdReferenceIdeal.nD → PrngReg), Pre_ModBwdReferenceIdeal m →
    θ_run (Cert.ModBwdReferenceIdeal.defs (F := Ideal)) (onTc (τ := Cert.ModBwdReferenceIdeal.τ) (Cert.ModBwdReferenceIdeal.main (F := Ideal))) ⟨m, fun _ => 0, g⟩ (fun r => (∀ c : Dev Cert.ModBwdReferenceIdeal.nD,
      r.2.mem ((c.tc : Thread Cert.ModBwdReferenceIdeal.nD Cert.ModBwdReferenceIdeal.τ).loc Cert.ModBwdReferenceIdeal.main_arg0) = m ((c.tc : Thread Cert.ModBwdReferenceIdeal.nD Cert.ModBwdReferenceIdeal.τ).loc Cert.ModBwdReferenceIdeal.main_arg0)
      ∧ r.2.mem ((c.tc : Thread Cert.ModBwdReferenceIdeal.nD Cert.ModBwdReferenceIdeal.τ).loc Cert.ModBwdReferenceIdeal.main_arg1) = m ((c.tc : Thread Cert.ModBwdReferenceIdeal.nD Cert.ModBwdReferenceIdeal.τ).loc Cert.ModBwdReferenceIdeal.main_arg1))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModReferenceIdeal [hAdamModReferenceIdeal : Cert.AdamModReferenceIdeal.Facts] : Prop :=
  ∀ (m : (ℓ : Loc Cert.AdamModReferenceIdeal.nD Cert.AdamModReferenceIdeal.τ Cert.AdamModReferenceIdeal.sig) → Buf (Elt Ideal) ℓ) (g : Dev Cert.AdamModReferenceIdeal.nD → PrngReg), Pre_AdamModReferenceIdeal m →
    θ_run (Cert.AdamModReferenceIdeal.defs (F := Ideal)) (onTc (τ := Cert.AdamModReferenceIdeal.τ) (Cert.AdamModReferenceIdeal.main (F := Ideal))) ⟨m, fun _ => 0, g⟩ (fun r => (∀ c : Dev Cert.AdamModReferenceIdeal.nD,
      r.2.mem ((c.tc : Thread Cert.AdamModReferenceIdeal.nD Cert.AdamModReferenceIdeal.τ).loc Cert.AdamModReferenceIdeal.main_arg0) = m ((c.tc : Thread Cert.AdamModReferenceIdeal.nD Cert.AdamModReferenceIdeal.τ).loc Cert.AdamModReferenceIdeal.main_arg0)
      ∧ r.2.mem ((c.tc : Thread Cert.AdamModReferenceIdeal.nD Cert.AdamModReferenceIdeal.τ).loc Cert.AdamModReferenceIdeal.main_arg1) = m ((c.tc : Thread Cert.AdamModReferenceIdeal.nD Cert.AdamModReferenceIdeal.τ).loc Cert.AdamModReferenceIdeal.main_arg1)
      ∧ r.2.mem ((c.tc : Thread Cert.AdamModReferenceIdeal.nD Cert.AdamModReferenceIdeal.τ).loc Cert.AdamModReferenceIdeal.main_arg2) = m ((c.tc : Thread Cert.AdamModReferenceIdeal.nD Cert.AdamModReferenceIdeal.τ).loc Cert.AdamModReferenceIdeal.main_arg2)
      ∧ r.2.mem ((c.tc : Thread Cert.AdamModReferenceIdeal.nD Cert.AdamModReferenceIdeal.τ).loc Cert.AdamModReferenceIdeal.main_arg3) = m ((c.tc : Thread Cert.AdamModReferenceIdeal.nD Cert.AdamModReferenceIdeal.τ).loc Cert.AdamModReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ r.2.sem = fun _ => 0)

def quiescent_AdamFfnInReferenceIdeal [hAdamFfnInReferenceIdeal : Cert.AdamFfnInReferenceIdeal.Facts] : Prop :=
  ∀ (m : (ℓ : Loc Cert.AdamFfnInReferenceIdeal.nD Cert.AdamFfnInReferenceIdeal.τ Cert.AdamFfnInReferenceIdeal.sig) → Buf (Elt Ideal) ℓ) (g : Dev Cert.AdamFfnInReferenceIdeal.nD → PrngReg), Pre_AdamFfnInReferenceIdeal m →
    θ_run (Cert.AdamFfnInReferenceIdeal.defs (F := Ideal)) (onTc (τ := Cert.AdamFfnInReferenceIdeal.τ) (Cert.AdamFfnInReferenceIdeal.main (F := Ideal))) ⟨m, fun _ => 0, g⟩ (fun r => (∀ c : Dev Cert.AdamFfnInReferenceIdeal.nD,
      r.2.mem ((c.tc : Thread Cert.AdamFfnInReferenceIdeal.nD Cert.AdamFfnInReferenceIdeal.τ).loc Cert.AdamFfnInReferenceIdeal.main_arg0) = m ((c.tc : Thread Cert.AdamFfnInReferenceIdeal.nD Cert.AdamFfnInReferenceIdeal.τ).loc Cert.AdamFfnInReferenceIdeal.main_arg0)
      ∧ r.2.mem ((c.tc : Thread Cert.AdamFfnInReferenceIdeal.nD Cert.AdamFfnInReferenceIdeal.τ).loc Cert.AdamFfnInReferenceIdeal.main_arg1) = m ((c.tc : Thread Cert.AdamFfnInReferenceIdeal.nD Cert.AdamFfnInReferenceIdeal.τ).loc Cert.AdamFfnInReferenceIdeal.main_arg1)
      ∧ r.2.mem ((c.tc : Thread Cert.AdamFfnInReferenceIdeal.nD Cert.AdamFfnInReferenceIdeal.τ).loc Cert.AdamFfnInReferenceIdeal.main_arg2) = m ((c.tc : Thread Cert.AdamFfnInReferenceIdeal.nD Cert.AdamFfnInReferenceIdeal.τ).loc Cert.AdamFfnInReferenceIdeal.main_arg2)
      ∧ r.2.mem ((c.tc : Thread Cert.AdamFfnInReferenceIdeal.nD Cert.AdamFfnInReferenceIdeal.τ).loc Cert.AdamFfnInReferenceIdeal.main_arg3) = m ((c.tc : Thread Cert.AdamFfnInReferenceIdeal.nD Cert.AdamFfnInReferenceIdeal.τ).loc Cert.AdamFfnInReferenceIdeal.main_arg3)
      ∧ r.2.mem ((c.tc : Thread Cert.AdamFfnInReferenceIdeal.nD Cert.AdamFfnInReferenceIdeal.τ).loc Cert.AdamFfnInReferenceIdeal.main_arg4) = m ((c.tc : Thread Cert.AdamFfnInReferenceIdeal.nD Cert.AdamFfnInReferenceIdeal.τ).loc Cert.AdamFfnInReferenceIdeal.main_arg4))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ r.2.sem = fun _ => 0)

def quiescent_AdamFfnOutReferenceIdeal [hAdamFfnOutReferenceIdeal : Cert.AdamFfnOutReferenceIdeal.Facts] : Prop :=
  ∀ (m : (ℓ : Loc Cert.AdamFfnOutReferenceIdeal.nD Cert.AdamFfnOutReferenceIdeal.τ Cert.AdamFfnOutReferenceIdeal.sig) → Buf (Elt Ideal) ℓ) (g : Dev Cert.AdamFfnOutReferenceIdeal.nD → PrngReg), Pre_AdamFfnOutReferenceIdeal m →
    θ_run (Cert.AdamFfnOutReferenceIdeal.defs (F := Ideal)) (onTc (τ := Cert.AdamFfnOutReferenceIdeal.τ) (Cert.AdamFfnOutReferenceIdeal.main (F := Ideal))) ⟨m, fun _ => 0, g⟩ (fun r => (∀ c : Dev Cert.AdamFfnOutReferenceIdeal.nD,
      r.2.mem ((c.tc : Thread Cert.AdamFfnOutReferenceIdeal.nD Cert.AdamFfnOutReferenceIdeal.τ).loc Cert.AdamFfnOutReferenceIdeal.main_arg0) = m ((c.tc : Thread Cert.AdamFfnOutReferenceIdeal.nD Cert.AdamFfnOutReferenceIdeal.τ).loc Cert.AdamFfnOutReferenceIdeal.main_arg0)
      ∧ r.2.mem ((c.tc : Thread Cert.AdamFfnOutReferenceIdeal.nD Cert.AdamFfnOutReferenceIdeal.τ).loc Cert.AdamFfnOutReferenceIdeal.main_arg1) = m ((c.tc : Thread Cert.AdamFfnOutReferenceIdeal.nD Cert.AdamFfnOutReferenceIdeal.τ).loc Cert.AdamFfnOutReferenceIdeal.main_arg1)
      ∧ r.2.mem ((c.tc : Thread Cert.AdamFfnOutReferenceIdeal.nD Cert.AdamFfnOutReferenceIdeal.τ).loc Cert.AdamFfnOutReferenceIdeal.main_arg2) = m ((c.tc : Thread Cert.AdamFfnOutReferenceIdeal.nD Cert.AdamFfnOutReferenceIdeal.τ).loc Cert.AdamFfnOutReferenceIdeal.main_arg2)
      ∧ r.2.mem ((c.tc : Thread Cert.AdamFfnOutReferenceIdeal.nD Cert.AdamFfnOutReferenceIdeal.τ).loc Cert.AdamFfnOutReferenceIdeal.main_arg3) = m ((c.tc : Thread Cert.AdamFfnOutReferenceIdeal.nD Cert.AdamFfnOutReferenceIdeal.τ).loc Cert.AdamFfnOutReferenceIdeal.main_arg3)
      ∧ r.2.mem ((c.tc : Thread Cert.AdamFfnOutReferenceIdeal.nD Cert.AdamFfnOutReferenceIdeal.τ).loc Cert.AdamFfnOutReferenceIdeal.main_arg4) = m ((c.tc : Thread Cert.AdamFfnOutReferenceIdeal.nD Cert.AdamFfnOutReferenceIdeal.τ).loc Cert.AdamFfnOutReferenceIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdReferenceIdeal [hConvBwdReferenceIdeal : Cert.ConvBwdReferenceIdeal.Facts] : Prop :=
  ∀ (m : (ℓ : Loc Cert.ConvBwdReferenceIdeal.nD Cert.ConvBwdReferenceIdeal.τ Cert.ConvBwdReferenceIdeal.sig) → Buf (Elt Ideal) ℓ) (g : Dev Cert.ConvBwdReferenceIdeal.nD → PrngReg), Pre_ConvBwdReferenceIdeal m →
    θ_run (Cert.ConvBwdReferenceIdeal.defs (F := Ideal)) (onTc (τ := Cert.ConvBwdReferenceIdeal.τ) (Cert.ConvBwdReferenceIdeal.main (F := Ideal))) ⟨m, fun _ => 0, g⟩ (fun r => (∀ c : Dev Cert.ConvBwdReferenceIdeal.nD,
      r.2.mem ((c.tc : Thread Cert.ConvBwdReferenceIdeal.nD Cert.ConvBwdReferenceIdeal.τ).loc Cert.ConvBwdReferenceIdeal.main_arg0) = m ((c.tc : Thread Cert.ConvBwdReferenceIdeal.nD Cert.ConvBwdReferenceIdeal.τ).loc Cert.ConvBwdReferenceIdeal.main_arg0)
      ∧ r.2.mem ((c.tc : Thread Cert.ConvBwdReferenceIdeal.nD Cert.ConvBwdReferenceIdeal.τ).loc Cert.ConvBwdReferenceIdeal.main_arg1) = m ((c.tc : Thread Cert.ConvBwdReferenceIdeal.nD Cert.ConvBwdReferenceIdeal.τ).loc Cert.ConvBwdReferenceIdeal.main_arg1)
      ∧ r.2.mem ((c.tc : Thread Cert.ConvBwdReferenceIdeal.nD Cert.ConvBwdReferenceIdeal.τ).loc Cert.ConvBwdReferenceIdeal.main_arg2) = m ((c.tc : Thread Cert.ConvBwdReferenceIdeal.nD Cert.ConvBwdReferenceIdeal.τ).loc Cert.ConvBwdReferenceIdeal.main_arg2)
      ∧ r.2.mem ((c.tc : Thread Cert.ConvBwdReferenceIdeal.nD Cert.ConvBwdReferenceIdeal.τ).loc Cert.ConvBwdReferenceIdeal.main_arg3) = m ((c.tc : Thread Cert.ConvBwdReferenceIdeal.nD Cert.ConvBwdReferenceIdeal.τ).loc Cert.ConvBwdReferenceIdeal.main_arg3))
      ∧ r.2.sem = fun _ => 0)

def quiescent_ConvBwdReferenceIdeal_pre_finite_conv [hConvBwdReferenceIdeal : Cert.ConvBwdReferenceIdeal.Facts] [hPre_finite_conv : Cert.Pre_finite_conv.Facts] : Prop :=
  ∀ (m : (ℓ : Loc Cert.ConvBwdReferenceIdeal.nD Cert.ConvBwdReferenceIdeal.τ Cert.ConvBwdReferenceIdeal.sig) → Buf (Elt Ideal) ℓ) (g : Dev Cert.ConvBwdReferenceIdeal.nD → PrngReg), Pre_ConvBwdReferenceIdeal_finite_conv m →
    θ_run (Cert.ConvBwdReferenceIdeal.defs (F := Ideal)) (onTc (τ := Cert.ConvBwdReferenceIdeal.τ) (Cert.ConvBwdReferenceIdeal.main (F := Ideal))) ⟨m, fun _ => 0, g⟩ (fun r => (∀ c : Dev Cert.ConvBwdReferenceIdeal.nD,
      r.2.mem ((c.tc : Thread Cert.ConvBwdReferenceIdeal.nD Cert.ConvBwdReferenceIdeal.τ).loc Cert.ConvBwdReferenceIdeal.main_arg0) = m ((c.tc : Thread Cert.ConvBwdReferenceIdeal.nD Cert.ConvBwdReferenceIdeal.τ).loc Cert.ConvBwdReferenceIdeal.main_arg0)
      ∧ r.2.mem ((c.tc : Thread Cert.ConvBwdReferenceIdeal.nD Cert.ConvBwdReferenceIdeal.τ).loc Cert.ConvBwdReferenceIdeal.main_arg1) = m ((c.tc : Thread Cert.ConvBwdReferenceIdeal.nD Cert.ConvBwdReferenceIdeal.τ).loc Cert.ConvBwdReferenceIdeal.main_arg1)
      ∧ r.2.mem ((c.tc : Thread Cert.ConvBwdReferenceIdeal.nD Cert.ConvBwdReferenceIdeal.τ).loc Cert.ConvBwdReferenceIdeal.main_arg2) = m ((c.tc : Thread Cert.ConvBwdReferenceIdeal.nD Cert.ConvBwdReferenceIdeal.τ).loc Cert.ConvBwdReferenceIdeal.main_arg2)
      ∧ r.2.mem ((c.tc : Thread Cert.ConvBwdReferenceIdeal.nD Cert.ConvBwdReferenceIdeal.τ).loc Cert.ConvBwdReferenceIdeal.main_arg3) = m ((c.tc : Thread Cert.ConvBwdReferenceIdeal.nD Cert.ConvBwdReferenceIdeal.τ).loc Cert.ConvBwdReferenceIdeal.main_arg3))
      ∧ r.2.sem = fun _ => 0)

def quiescent_SwBwd [hSwBwd : Cert.SwBwd.Facts] : Prop :=
  ∀ (m : (ℓ : Loc Cert.SwBwd.nD Cert.SwBwd.τ Cert.SwBwd.sig) → Buf (Elt Bits) ℓ) (g : Dev Cert.SwBwd.nD → PrngReg), Pre_SwBwd m →
    θ_run (Cert.SwBwd.defs (F := Bits)) (onTc (τ := Cert.SwBwd.τ) (Cert.SwBwd.main (F := Bits))) ⟨m, fun _ => 0, g⟩ (fun r => (∀ c : Dev Cert.SwBwd.nD,
      r.2.mem ((c.tc : Thread Cert.SwBwd.nD Cert.SwBwd.τ).loc Cert.SwBwd.main_arg0) = m ((c.tc : Thread Cert.SwBwd.nD Cert.SwBwd.τ).loc Cert.SwBwd.main_arg0)
      ∧ r.2.mem ((c.tc : Thread Cert.SwBwd.nD Cert.SwBwd.τ).loc Cert.SwBwd.main_arg1) = m ((c.tc : Thread Cert.SwBwd.nD Cert.SwBwd.τ).loc Cert.SwBwd.main_arg1)
      ∧ r.2.mem ((c.tc : Thread Cert.SwBwd.nD Cert.SwBwd.τ).loc Cert.SwBwd.main_arg2) = m ((c.tc : Thread Cert.SwBwd.nD Cert.SwBwd.τ).loc Cert.SwBwd.main_arg2)
      ∧ r.2.mem ((c.tc : Thread Cert.SwBwd.nD Cert.SwBwd.τ).loc Cert.SwBwd.main_arg3) = m ((c.tc : Thread Cert.SwBwd.nD Cert.SwBwd.τ).loc Cert.SwBwd.main_arg3)
      ∧ r.2.mem ((c.tc : Thread Cert.SwBwd.nD Cert.SwBwd.τ).loc Cert.SwBwd.main_arg4) = m ((c.tc : Thread Cert.SwBwd.nD Cert.SwBwd.τ).loc Cert.SwBwd.main_arg4)
      ∧ r.2.mem ((c.tc : Thread Cert.SwBwd.nD Cert.SwBwd.τ).loc Cert.SwBwd.main_arg5) = m ((c.tc : Thread Cert.SwBwd.nD Cert.SwBwd.τ).loc Cert.SwBwd.main_arg5)
      ∧ r.2.mem ((c.tc : Thread Cert.SwBwd.nD Cert.SwBwd.τ).loc Cert.SwBwd.main_arg6) = m ((c.tc : Thread Cert.SwBwd.nD Cert.SwBwd.τ).loc Cert.SwBwd.main_arg6)
      ∧ r.2.mem ((c.tc : Thread Cert.SwBwd.nD Cert.SwBwd.τ).loc Cert.SwBwd.main_arg7) = m ((c.tc : Thread Cert.SwBwd.nD Cert.SwBwd.τ).loc Cert.SwBwd.main_arg7))
      ∧ r.2.sem = fun _ => 0)

def quiescent_SwBwdIdeal [hSwBwdIdeal : Cert.SwBwdIdeal.Facts] : Prop :=
  ∀ (m : (ℓ : Loc Cert.SwBwdIdeal.nD Cert.SwBwdIdeal.τ Cert.SwBwdIdeal.sig) → Buf (Elt Ideal) ℓ) (g : Dev Cert.SwBwdIdeal.nD → PrngReg), Pre_SwBwdIdeal m →
    θ_run (Cert.SwBwdIdeal.defs (F := Ideal)) (onTc (τ := Cert.SwBwdIdeal.τ) (Cert.SwBwdIdeal.main (F := Ideal))) ⟨m, fun _ => 0, g⟩ (fun r => (∀ c : Dev Cert.SwBwdIdeal.nD,
      r.2.mem ((c.tc : Thread Cert.SwBwdIdeal.nD Cert.SwBwdIdeal.τ).loc Cert.SwBwdIdeal.main_arg0) = m ((c.tc : Thread Cert.SwBwdIdeal.nD Cert.SwBwdIdeal.τ).loc Cert.SwBwdIdeal.main_arg0)
      ∧ r.2.mem ((c.tc : Thread Cert.SwBwdIdeal.nD Cert.SwBwdIdeal.τ).loc Cert.SwBwdIdeal.main_arg1) = m ((c.tc : Thread Cert.SwBwdIdeal.nD Cert.SwBwdIdeal.τ).loc Cert.SwBwdIdeal.main_arg1)
      ∧ r.2.mem ((c.tc : Thread Cert.SwBwdIdeal.nD Cert.SwBwdIdeal.τ).loc Cert.SwBwdIdeal.main_arg2) = m ((c.tc : Thread Cert.SwBwdIdeal.nD Cert.SwBwdIdeal.τ).loc Cert.SwBwdIdeal.main_arg2)
      ∧ r.2.mem ((c.tc : Thread Cert.SwBwdIdeal.nD Cert.SwBwdIdeal.τ).loc Cert.SwBwdIdeal.main_arg3) = m ((c.tc : Thread Cert.SwBwdIdeal.nD Cert.SwBwdIdeal.τ).loc Cert.SwBwdIdeal.main_arg3)
      ∧ r.2.mem ((c.tc : Thread Cert.SwBwdIdeal.nD Cert.SwBwdIdeal.τ).loc Cert.SwBwdIdeal.main_arg4) = m ((c.tc : Thread Cert.SwBwdIdeal.nD Cert.SwBwdIdeal.τ).loc Cert.SwBwdIdeal.main_arg4)
      ∧ r.2.mem ((c.tc : Thread Cert.SwBwdIdeal.nD Cert.SwBwdIdeal.τ).loc Cert.SwBwdIdeal.main_arg5) = m ((c.tc : Thread Cert.SwBwdIdeal.nD Cert.SwBwdIdeal.τ).loc Cert.SwBwdIdeal.main_arg5)
      ∧ r.2.mem ((c.tc : Thread Cert.SwBwdIdeal.nD Cert.SwBwdIdeal.τ).loc Cert.SwBwdIdeal.main_arg6) = m ((c.tc : Thread Cert.SwBwdIdeal.nD Cert.SwBwdIdeal.τ).loc Cert.SwBwdIdeal.main_arg6)
      ∧ r.2.mem ((c.tc : Thread Cert.SwBwdIdeal.nD Cert.SwBwdIdeal.τ).loc Cert.SwBwdIdeal.main_arg7) = m ((c.tc : Thread Cert.SwBwdIdeal.nD Cert.SwBwdIdeal.τ).loc Cert.SwBwdIdeal.main_arg7))
      ∧ r.2.sem = fun _ => 0)

def quiescent_SwBwdIdeal_pre_finite_sw [hSwBwdIdeal : Cert.SwBwdIdeal.Facts] [hPre_finite_sw : Cert.Pre_finite_sw.Facts] : Prop :=
  ∀ (m : (ℓ : Loc Cert.SwBwdIdeal.nD Cert.SwBwdIdeal.τ Cert.SwBwdIdeal.sig) → Buf (Elt Ideal) ℓ) (g : Dev Cert.SwBwdIdeal.nD → PrngReg), Pre_SwBwdIdeal_finite_sw m →
    θ_run (Cert.SwBwdIdeal.defs (F := Ideal)) (onTc (τ := Cert.SwBwdIdeal.τ) (Cert.SwBwdIdeal.main (F := Ideal))) ⟨m, fun _ => 0, g⟩ (fun r => (∀ c : Dev Cert.SwBwdIdeal.nD,
      r.2.mem ((c.tc : Thread Cert.SwBwdIdeal.nD Cert.SwBwdIdeal.τ).loc Cert.SwBwdIdeal.main_arg0) = m ((c.tc : Thread Cert.SwBwdIdeal.nD Cert.SwBwdIdeal.τ).loc Cert.SwBwdIdeal.main_arg0)
      ∧ r.2.mem ((c.tc : Thread Cert.SwBwdIdeal.nD Cert.SwBwdIdeal.τ).loc Cert.SwBwdIdeal.main_arg1) = m ((c.tc : Thread Cert.SwBwdIdeal.nD Cert.SwBwdIdeal.τ).loc Cert.SwBwdIdeal.main_arg1)
      ∧ r.2.mem ((c.tc : Thread Cert.SwBwdIdeal.nD Cert.SwBwdIdeal.τ).loc Cert.SwBwdIdeal.main_arg2) = m ((c.tc : Thread Cert.SwBwdIdeal.nD Cert.SwBwdIdeal.τ).loc Cert.SwBwdIdeal.main_arg2)
      ∧ r.2.mem ((c.tc : Thread Cert.SwBwdIdeal.nD Cert.SwBwdIdeal.τ).loc Cert.SwBwdIdeal.main_arg3) = m ((c.tc : Thread Cert.SwBwdIdeal.nD Cert.SwBwdIdeal.τ).loc Cert.SwBwdIdeal.main_arg3)
      ∧ r.2.mem ((c.tc : Thread Cert.SwBwdIdeal.nD Cert.SwBwdIdeal.τ).loc Cert.SwBwdIdeal.main_arg4) = m ((c.tc : Thread Cert.SwBwdIdeal.nD Cert.SwBwdIdeal.τ).loc Cert.SwBwdIdeal.main_arg4)
      ∧ r.2.mem ((c.tc : Thread Cert.SwBwdIdeal.nD Cert.SwBwdIdeal.τ).loc Cert.SwBwdIdeal.main_arg5) = m ((c.tc : Thread Cert.SwBwdIdeal.nD Cert.SwBwdIdeal.τ).loc Cert.SwBwdIdeal.main_arg5)
      ∧ r.2.mem ((c.tc : Thread Cert.SwBwdIdeal.nD Cert.SwBwdIdeal.τ).loc Cert.SwBwdIdeal.main_arg6) = m ((c.tc : Thread Cert.SwBwdIdeal.nD Cert.SwBwdIdeal.τ).loc Cert.SwBwdIdeal.main_arg6)
      ∧ r.2.mem ((c.tc : Thread Cert.SwBwdIdeal.nD Cert.SwBwdIdeal.τ).loc Cert.SwBwdIdeal.main_arg7) = m ((c.tc : Thread Cert.SwBwdIdeal.nD Cert.SwBwdIdeal.τ).loc Cert.SwBwdIdeal.main_arg7))
      ∧ r.2.sem = fun _ => 0)

def quiescent_SwBwdReferenceIdeal [hSwBwdReferenceIdeal : Cert.SwBwdReferenceIdeal.Facts] : Prop :=
  ∀ (m : (ℓ : Loc Cert.SwBwdReferenceIdeal.nD Cert.SwBwdReferenceIdeal.τ Cert.SwBwdReferenceIdeal.sig) → Buf (Elt Ideal) ℓ) (g : Dev Cert.SwBwdReferenceIdeal.nD → PrngReg), Pre_SwBwdReferenceIdeal m →
    θ_run (Cert.SwBwdReferenceIdeal.defs (F := Ideal)) (onTc (τ := Cert.SwBwdReferenceIdeal.τ) (Cert.SwBwdReferenceIdeal.main (F := Ideal))) ⟨m, fun _ => 0, g⟩ (fun r => (∀ c : Dev Cert.SwBwdReferenceIdeal.nD,
      r.2.mem ((c.tc : Thread Cert.SwBwdReferenceIdeal.nD Cert.SwBwdReferenceIdeal.τ).loc Cert.SwBwdReferenceIdeal.main_arg0) = m ((c.tc : Thread Cert.SwBwdReferenceIdeal.nD Cert.SwBwdReferenceIdeal.τ).loc Cert.SwBwdReferenceIdeal.main_arg0)
      ∧ r.2.mem ((c.tc : Thread Cert.SwBwdReferenceIdeal.nD Cert.SwBwdReferenceIdeal.τ).loc Cert.SwBwdReferenceIdeal.main_arg1) = m ((c.tc : Thread Cert.SwBwdReferenceIdeal.nD Cert.SwBwdReferenceIdeal.τ).loc Cert.SwBwdReferenceIdeal.main_arg1)
      ∧ r.2.mem ((c.tc : Thread Cert.SwBwdReferenceIdeal.nD Cert.SwBwdReferenceIdeal.τ).loc Cert.SwBwdReferenceIdeal.main_arg2) = m ((c.tc : Thread Cert.SwBwdReferenceIdeal.nD Cert.SwBwdReferenceIdeal.τ).loc Cert.SwBwdReferenceIdeal.main_arg2)
      ∧ r.2.mem ((c.tc : Thread Cert.SwBwdReferenceIdeal.nD Cert.SwBwdReferenceIdeal.τ).loc Cert.SwBwdReferenceIdeal.main_arg3) = m ((c.tc : Thread Cert.SwBwdReferenceIdeal.nD Cert.SwBwdReferenceIdeal.τ).loc Cert.SwBwdReferenceIdeal.main_arg3)
      ∧ r.2.mem ((c.tc : Thread Cert.SwBwdReferenceIdeal.nD Cert.SwBwdReferenceIdeal.τ).loc Cert.SwBwdReferenceIdeal.main_arg4) = m ((c.tc : Thread Cert.SwBwdReferenceIdeal.nD Cert.SwBwdReferenceIdeal.τ).loc Cert.SwBwdReferenceIdeal.main_arg4)
      ∧ r.2.mem ((c.tc : Thread Cert.SwBwdReferenceIdeal.nD Cert.SwBwdReferenceIdeal.τ).loc Cert.SwBwdReferenceIdeal.main_arg5) = m ((c.tc : Thread Cert.SwBwdReferenceIdeal.nD Cert.SwBwdReferenceIdeal.τ).loc Cert.SwBwdReferenceIdeal.main_arg5)
      ∧ r.2.mem ((c.tc : Thread Cert.SwBwdReferenceIdeal.nD Cert.SwBwdReferenceIdeal.τ).loc Cert.SwBwdReferenceIdeal.main_arg6) = m ((c.tc : Thread Cert.SwBwdReferenceIdeal.nD Cert.SwBwdReferenceIdeal.τ).loc Cert.SwBwdReferenceIdeal.main_arg6)
      ∧ r.2.mem ((c.tc : Thread Cert.SwBwdReferenceIdeal.nD Cert.SwBwdReferenceIdeal.τ).loc Cert.SwBwdReferenceIdeal.main_arg7) = m ((c.tc : Thread Cert.SwBwdReferenceIdeal.nD Cert.SwBwdReferenceIdeal.τ).loc Cert.SwBwdReferenceIdeal.main_arg7))
      ∧ r.2.sem = fun _ => 0)

def quiescent_SwBwdReferenceIdeal_pre_finite_sw [hSwBwdReferenceIdeal : Cert.SwBwdReferenceIdeal.Facts] [hPre_finite_sw : Cert.Pre_finite_sw.Facts] : Prop :=
  ∀ (m : (ℓ : Loc Cert.SwBwdReferenceIdeal.nD Cert.SwBwdReferenceIdeal.τ Cert.SwBwdReferenceIdeal.sig) → Buf (Elt Ideal) ℓ) (g : Dev Cert.SwBwdReferenceIdeal.nD → PrngReg), Pre_SwBwdReferenceIdeal_finite_sw m →
    θ_run (Cert.SwBwdReferenceIdeal.defs (F := Ideal)) (onTc (τ := Cert.SwBwdReferenceIdeal.τ) (Cert.SwBwdReferenceIdeal.main (F := Ideal))) ⟨m, fun _ => 0, g⟩ (fun r => (∀ c : Dev Cert.SwBwdReferenceIdeal.nD,
      r.2.mem ((c.tc : Thread Cert.SwBwdReferenceIdeal.nD Cert.SwBwdReferenceIdeal.τ).loc Cert.SwBwdReferenceIdeal.main_arg0) = m ((c.tc : Thread Cert.SwBwdReferenceIdeal.nD Cert.SwBwdReferenceIdeal.τ).loc Cert.SwBwdReferenceIdeal.main_arg0)
      ∧ r.2.mem ((c.tc : Thread Cert.SwBwdReferenceIdeal.nD Cert.SwBwdReferenceIdeal.τ).loc Cert.SwBwdReferenceIdeal.main_arg1) = m ((c.tc : Thread Cert.SwBwdReferenceIdeal.nD Cert.SwBwdReferenceIdeal.τ).loc Cert.SwBwdReferenceIdeal.main_arg1)
      ∧ r.2.mem ((c.tc : Thread Cert.SwBwdReferenceIdeal.nD Cert.SwBwdReferenceIdeal.τ).loc Cert.SwBwdReferenceIdeal.main_arg2) = m ((c.tc : Thread Cert.SwBwdReferenceIdeal.nD Cert.SwBwdReferenceIdeal.τ).loc Cert.SwBwdReferenceIdeal.main_arg2)
      ∧ r.2.mem ((c.tc : Thread Cert.SwBwdReferenceIdeal.nD Cert.SwBwdReferenceIdeal.τ).loc Cert.SwBwdReferenceIdeal.main_arg3) = m ((c.tc : Thread Cert.SwBwdReferenceIdeal.nD Cert.SwBwdReferenceIdeal.τ).loc Cert.SwBwdReferenceIdeal.main_arg3)
      ∧ r.2.mem ((c.tc : Thread Cert.SwBwdReferenceIdeal.nD Cert.SwBwdReferenceIdeal.τ).loc Cert.SwBwdReferenceIdeal.main_arg4) = m ((c.tc : Thread Cert.SwBwdReferenceIdeal.nD Cert.SwBwdReferenceIdeal.τ).loc Cert.SwBwdReferenceIdeal.main_arg4)
      ∧ r.2.mem ((c.tc : Thread Cert.SwBwdReferenceIdeal.nD Cert.SwBwdReferenceIdeal.τ).loc Cert.SwBwdReferenceIdeal.main_arg5) = m ((c.tc : Thread Cert.SwBwdReferenceIdeal.nD Cert.SwBwdReferenceIdeal.τ).loc Cert.SwBwdReferenceIdeal.main_arg5)
      ∧ r.2.mem ((c.tc : Thread Cert.SwBwdReferenceIdeal.nD Cert.SwBwdReferenceIdeal.τ).loc Cert.SwBwdReferenceIdeal.main_arg6) = m ((c.tc : Thread Cert.SwBwdReferenceIdeal.nD Cert.SwBwdReferenceIdeal.τ).loc Cert.SwBwdReferenceIdeal.main_arg6)
      ∧ r.2.mem ((c.tc : Thread Cert.SwBwdReferenceIdeal.nD Cert.SwBwdReferenceIdeal.τ).loc Cert.SwBwdReferenceIdeal.main_arg7) = m ((c.tc : Thread Cert.SwBwdReferenceIdeal.nD Cert.SwBwdReferenceIdeal.τ).loc Cert.SwBwdReferenceIdeal.main_arg7))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_WgIn_WgInIdeal : Prop :=
  True

def algebraic_WgInIdeal_WgInReferenceIdeal [hWgInIdeal : Cert.WgInIdeal.Facts] [hWgInReferenceIdeal : Cert.WgInReferenceIdeal.Facts] : Prop :=
  ∀ (m : (ℓ : Loc Cert.WgInIdeal.nD Cert.WgInIdeal.τ Cert.WgInIdeal.sig) → Buf (Elt Ideal) ℓ) (g : Dev Cert.WgInIdeal.nD → PrngReg)
    (m' : (ℓ : Loc Cert.WgInReferenceIdeal.nD Cert.WgInReferenceIdeal.τ Cert.WgInReferenceIdeal.sig) → Buf (Elt Ideal) ℓ) (g' : Dev Cert.WgInReferenceIdeal.nD → PrngReg), Pre_WgInIdeal m →
    (∀ c : Dev Cert.WgInIdeal.nD,
      m' ((c.tc : Thread Cert.WgInReferenceIdeal.nD Cert.WgInReferenceIdeal.τ).loc Cert.WgInReferenceIdeal.main_arg0) = m ((c.tc : Thread Cert.WgInIdeal.nD Cert.WgInIdeal.τ).loc Cert.WgInIdeal.main_arg0)
      ∧ m' ((c.tc : Thread Cert.WgInReferenceIdeal.nD Cert.WgInReferenceIdeal.τ).loc Cert.WgInReferenceIdeal.main_arg1) = m ((c.tc : Thread Cert.WgInIdeal.nD Cert.WgInIdeal.τ).loc Cert.WgInIdeal.main_arg1)) →
    ∃ (v0 : (c : Dev Cert.WgInIdeal.nD) → Buf (Elt Ideal) ((c.tc : Thread Cert.WgInIdeal.nD Cert.WgInIdeal.τ).loc Cert.WgInIdeal.main_v0_0)) (v1 : (c : Dev Cert.WgInIdeal.nD) → Buf (Elt Ideal) ((c.tc : Thread Cert.WgInIdeal.nD Cert.WgInIdeal.τ).loc Cert.WgInIdeal.main_v0_1)),
      θ_run (Cert.WgInIdeal.defs (F := Ideal)) (onTc (τ := Cert.WgInIdeal.τ) (Cert.WgInIdeal.main (F := Ideal))) ⟨m, fun _ => 0, g⟩ (fun r => ∀ c : Dev Cert.WgInIdeal.nD,
          r.2.mem ((c.tc : Thread Cert.WgInIdeal.nD Cert.WgInIdeal.τ).loc Cert.WgInIdeal.main_v0_0) = v0 c
          ∧ r.2.mem ((c.tc : Thread Cert.WgInIdeal.nD Cert.WgInIdeal.τ).loc Cert.WgInIdeal.main_v0_1) = v1 c
          ∧ r.2.mem ((c.tc : Thread Cert.WgInIdeal.nD Cert.WgInIdeal.τ).loc Cert.WgInIdeal.main_arg0) = m ((c.tc : Thread Cert.WgInIdeal.nD Cert.WgInIdeal.τ).loc Cert.WgInIdeal.main_arg0)
          ∧ r.2.mem ((c.tc : Thread Cert.WgInIdeal.nD Cert.WgInIdeal.τ).loc Cert.WgInIdeal.main_arg1) = m ((c.tc : Thread Cert.WgInIdeal.nD Cert.WgInIdeal.τ).loc Cert.WgInIdeal.main_arg1))
      ∧ θ_run (Cert.WgInReferenceIdeal.defs (F := Ideal)) (onTc (τ := Cert.WgInReferenceIdeal.τ) (Cert.WgInReferenceIdeal.main (F := Ideal))) ⟨m', fun _ => 0, g'⟩ (fun r => ∀ c : Dev Cert.WgInReferenceIdeal.nD,
          r.2.mem ((c.tc : Thread Cert.WgInReferenceIdeal.nD Cert.WgInReferenceIdeal.τ).loc Cert.WgInReferenceIdeal.main_v5) = v0 c
          ∧ r.2.mem ((c.tc : Thread Cert.WgInReferenceIdeal.nD Cert.WgInReferenceIdeal.τ).loc Cert.WgInReferenceIdeal.main_v6) = v1 c
          ∧ r.2.mem ((c.tc : Thread Cert.WgInReferenceIdeal.nD Cert.WgInReferenceIdeal.τ).loc Cert.WgInReferenceIdeal.main_arg0) = m' ((c.tc : Thread Cert.WgInReferenceIdeal.nD Cert.WgInReferenceIdeal.τ).loc Cert.WgInReferenceIdeal.main_arg0)
          ∧ r.2.mem ((c.tc : Thread Cert.WgInReferenceIdeal.nD Cert.WgInReferenceIdeal.τ).loc Cert.WgInReferenceIdeal.main_arg1) = m' ((c.tc : Thread Cert.WgInReferenceIdeal.nD Cert.WgInReferenceIdeal.τ).loc Cert.WgInReferenceIdeal.main_arg1))

def preserves_WgOut_WgOutIdeal : Prop :=
  True

def algebraic_WgOutIdeal_WgOutReferenceIdeal [hWgOutIdeal : Cert.WgOutIdeal.Facts] [hWgOutReferenceIdeal : Cert.WgOutReferenceIdeal.Facts] : Prop :=
  ∀ (m : (ℓ : Loc Cert.WgOutIdeal.nD Cert.WgOutIdeal.τ Cert.WgOutIdeal.sig) → Buf (Elt Ideal) ℓ) (g : Dev Cert.WgOutIdeal.nD → PrngReg)
    (m' : (ℓ : Loc Cert.WgOutReferenceIdeal.nD Cert.WgOutReferenceIdeal.τ Cert.WgOutReferenceIdeal.sig) → Buf (Elt Ideal) ℓ) (g' : Dev Cert.WgOutReferenceIdeal.nD → PrngReg), Pre_WgOutIdeal m →
    (∀ c : Dev Cert.WgOutIdeal.nD,
      m' ((c.tc : Thread Cert.WgOutReferenceIdeal.nD Cert.WgOutReferenceIdeal.τ).loc Cert.WgOutReferenceIdeal.main_arg0) = m ((c.tc : Thread Cert.WgOutIdeal.nD Cert.WgOutIdeal.τ).loc Cert.WgOutIdeal.main_arg0)
      ∧ m' ((c.tc : Thread Cert.WgOutReferenceIdeal.nD Cert.WgOutReferenceIdeal.τ).loc Cert.WgOutReferenceIdeal.main_arg1) = m ((c.tc : Thread Cert.WgOutIdeal.nD Cert.WgOutIdeal.τ).loc Cert.WgOutIdeal.main_arg1)) →
    ∃ (v0 : (c : Dev Cert.WgOutIdeal.nD) → Buf (Elt Ideal) ((c.tc : Thread Cert.WgOutIdeal.nD Cert.WgOutIdeal.τ).loc Cert.WgOutIdeal.main_v0_0)) (v1 : (c : Dev Cert.WgOutIdeal.nD) → Buf (Elt Ideal) ((c.tc : Thread Cert.WgOutIdeal.nD Cert.WgOutIdeal.τ).loc Cert.WgOutIdeal.main_v0_1)),
      θ_run (Cert.WgOutIdeal.defs (F := Ideal)) (onTc (τ := Cert.WgOutIdeal.τ) (Cert.WgOutIdeal.main (F := Ideal))) ⟨m, fun _ => 0, g⟩ (fun r => ∀ c : Dev Cert.WgOutIdeal.nD,
          r.2.mem ((c.tc : Thread Cert.WgOutIdeal.nD Cert.WgOutIdeal.τ).loc Cert.WgOutIdeal.main_v0_0) = v0 c
          ∧ r.2.mem ((c.tc : Thread Cert.WgOutIdeal.nD Cert.WgOutIdeal.τ).loc Cert.WgOutIdeal.main_v0_1) = v1 c
          ∧ r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
          ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1))
      ∧ θ_run (Cert.WgOutReferenceIdeal.defs (F := Ideal)) (onTc (τ := Cert.WgOutReferenceIdeal.τ) (Cert.WgOutReferenceIdeal.main (F := Ideal))) ⟨m', fun _ => 0, g'⟩ (fun r => ∀ c : Dev Cert.WgOutReferenceIdeal.nD,
          r.2.mem ((c.tc : Thread Cert.WgOutReferenceIdeal.nD Cert.WgOutReferenceIdeal.τ).loc Cert.WgOutReferenceIdeal.main_v4) = v0 c
          ∧ r.2.mem ((c.tc : Thread Cert.WgOutReferenceIdeal.nD Cert.WgOutReferenceIdeal.τ).loc Cert.WgOutReferenceIdeal.main_v5) = v1 c
          ∧ r.2.mem ((c.tc : Thread Cert.WgOutReferenceIdeal.nD Cert.WgOutReferenceIdeal.τ).loc Cert.WgOutReferenceIdeal.main_arg0) = m' ((c.tc : Thread Cert.WgOutReferenceIdeal.nD Cert.WgOutReferenceIdeal.τ).loc Cert.WgOutReferenceIdeal.main_arg0)
          ∧ r.2.mem ((c.tc : Thread Cert.WgOutReferenceIdeal.nD Cert.WgOutReferenceIdeal.τ).loc Cert.WgOutReferenceIdeal.main_arg1) = m' ((c.tc : Thread Cert.WgOutReferenceIdeal.nD Cert.WgOutReferenceIdeal.τ).loc Cert.WgOutReferenceIdeal.main_arg1))

def preserves_WgFfnIn_WgFfnInIdeal : Prop :=
  True

def algebraic_WgFfnInIdeal_WgFfnInReferenceIdeal [hWgFfnInIdeal : Cert.WgFfnInIdeal.Facts] [hWgFfnInReferenceIdeal : Cert.WgFfnInReferenceIdeal.Facts] : Prop :=
  ∀ (m : (ℓ : Loc Cert.WgFfnInIdeal.nD Cert.WgFfnInIdeal.τ Cert.WgFfnInIdeal.sig) → Buf (Elt Ideal) ℓ) (g : Dev Cert.WgFfnInIdeal.nD → PrngReg)
    (m' : (ℓ : Loc Cert.WgFfnInReferenceIdeal.nD Cert.WgFfnInReferenceIdeal.τ Cert.WgFfnInReferenceIdeal.sig) → Buf (Elt Ideal) ℓ) (g' : Dev Cert.WgFfnInReferenceIdeal.nD → PrngReg), Pre_WgFfnInIdeal m →
    (∀ c : Dev Cert.WgFfnInIdeal.nD,
      m' ((c.tc : Thread Cert.WgFfnInReferenceIdeal.nD Cert.WgFfnInReferenceIdeal.τ).loc Cert.WgFfnInReferenceIdeal.main_arg0) = m ((c.tc : Thread Cert.WgFfnInIdeal.nD Cert.WgFfnInIdeal.τ).loc Cert.WgFfnInIdeal.main_arg0)
      ∧ m' ((c.tc : Thread Cert.WgFfnInReferenceIdeal.nD Cert.WgFfnInReferenceIdeal.τ).loc Cert.WgFfnInReferenceIdeal.main_arg1) = m ((c.tc : Thread Cert.WgFfnInIdeal.nD Cert.WgFfnInIdeal.τ).loc Cert.WgFfnInIdeal.main_arg1)) →
    ∃ (v0 : (c : Dev Cert.WgFfnInIdeal.nD) → Buf (Elt Ideal) ((c.tc : Thread Cert.WgFfnInIdeal.nD Cert.WgFfnInIdeal.τ).loc Cert.WgFfnInIdeal.main_v0_0)) (v1 : (c : Dev Cert.WgFfnInIdeal.nD) → Buf (Elt Ideal) ((c.tc : Thread Cert.WgFfnInIdeal.nD Cert.WgFfnInIdeal.τ).loc Cert.WgFfnInIdeal.main_v0_1)),
      θ_run (Cert.WgFfnInIdeal.defs (F := Ideal)) (onTc (τ := Cert.WgFfnInIdeal.τ) (Cert.WgFfnInIdeal.main (F := Ideal))) ⟨m, fun _ => 0, g⟩ (fun r => ∀ c : Dev Cert.WgFfnInIdeal.nD,
          r.2.mem ((c.tc : Thread Cert.WgFfnInIdeal.nD Cert.WgFfnInIdeal.τ).loc Cert.WgFfnInIdeal.main_v0_0) = v0 c
          ∧ r.2.mem ((c.tc : Thread Cert.WgFfnInIdeal.nD Cert.WgFfnInIdeal.τ).loc Cert.WgFfnInIdeal.main_v0_1) = v1 c
          ∧ r.2.mem ((c.tc : Thread Cert.WgFfnInIdeal.nD Cert.WgFfnInIdeal.τ).loc Cert.WgFfnInIdeal.main_arg0) = m ((c.tc : Thread Cert.WgFfnInIdeal.nD Cert.WgFfnInIdeal.τ).loc Cert.WgFfnInIdeal.main_arg0)
          ∧ r.2.mem ((c.tc : Thread Cert.WgFfnInIdeal.nD Cert.WgFfnInIdeal.τ).loc Cert.WgFfnInIdeal.main_arg1) = m ((c.tc : Thread Cert.WgFfnInIdeal.nD Cert.WgFfnInIdeal.τ).loc Cert.WgFfnInIdeal.main_arg1))
      ∧ θ_run (Cert.WgFfnInReferenceIdeal.defs (F := Ideal)) (onTc (τ := Cert.WgFfnInReferenceIdeal.τ) (Cert.WgFfnInReferenceIdeal.main (F := Ideal))) ⟨m', fun _ => 0, g'⟩ (fun r => ∀ c : Dev Cert.WgFfnInReferenceIdeal.nD,
          r.2.mem ((c.tc : Thread Cert.WgFfnInReferenceIdeal.nD Cert.WgFfnInReferenceIdeal.τ).loc Cert.WgFfnInReferenceIdeal.main_v5) = v0 c
          ∧ r.2.mem ((c.tc : Thread Cert.WgFfnInReferenceIdeal.nD Cert.WgFfnInReferenceIdeal.τ).loc Cert.WgFfnInReferenceIdeal.main_v6) = v1 c
          ∧ r.2.mem ((c.tc : Thread Cert.WgFfnInReferenceIdeal.nD Cert.WgFfnInReferenceIdeal.τ).loc Cert.WgFfnInReferenceIdeal.main_arg0) = m' ((c.tc : Thread Cert.WgFfnInReferenceIdeal.nD Cert.WgFfnInReferenceIdeal.τ).loc Cert.WgFfnInReferenceIdeal.main_arg0)
          ∧ r.2.mem ((c.tc : Thread Cert.WgFfnInReferenceIdeal.nD Cert.WgFfnInReferenceIdeal.τ).loc Cert.WgFfnInReferenceIdeal.main_arg1) = m' ((c.tc : Thread Cert.WgFfnInReferenceIdeal.nD Cert.WgFfnInReferenceIdeal.τ).loc Cert.WgFfnInReferenceIdeal.main_arg1))

def preserves_WgFfnOut_WgFfnOutIdeal : Prop :=
  True

def algebraic_WgFfnOutIdeal_WgFfnOutReferenceIdeal [hWgFfnOutIdeal : Cert.WgFfnOutIdeal.Facts] [hWgFfnOutReferenceIdeal : Cert.WgFfnOutReferenceIdeal.Facts] : Prop :=
  ∀ (m : (ℓ : Loc Cert.WgFfnOutIdeal.nD Cert.WgFfnOutIdeal.τ Cert.WgFfnOutIdeal.sig) → Buf (Elt Ideal) ℓ) (g : Dev Cert.WgFfnOutIdeal.nD → PrngReg)
    (m' : (ℓ : Loc Cert.WgFfnOutReferenceIdeal.nD Cert.WgFfnOutReferenceIdeal.τ Cert.WgFfnOutReferenceIdeal.sig) → Buf (Elt Ideal) ℓ) (g' : Dev Cert.WgFfnOutReferenceIdeal.nD → PrngReg), Pre_WgFfnOutIdeal m →
    (∀ c : Dev Cert.WgFfnOutIdeal.nD,
      m' ((c.tc : Thread Cert.WgFfnOutReferenceIdeal.nD Cert.WgFfnOutReferenceIdeal.τ).loc Cert.WgFfnOutReferenceIdeal.main_arg0) = m ((c.tc : Thread Cert.WgFfnOutIdeal.nD Cert.WgFfnOutIdeal.τ).loc Cert.WgFfnOutIdeal.main_arg0)
      ∧ m' ((c.tc : Thread Cert.WgFfnOutReferenceIdeal.nD Cert.WgFfnOutReferenceIdeal.τ).loc Cert.WgFfnOutReferenceIdeal.main_arg1) = m ((c.tc : Thread Cert.WgFfnOutIdeal.nD Cert.WgFfnOutIdeal.τ).loc Cert.WgFfnOutIdeal.main_arg1)) →
    ∃ (v0 : (c : Dev Cert.WgFfnOutIdeal.nD) → Buf (Elt Ideal) ((c.tc : Thread Cert.WgFfnOutIdeal.nD Cert.WgFfnOutIdeal.τ).loc Cert.WgFfnOutIdeal.main_v0_0)) (v1 : (c : Dev Cert.WgFfnOutIdeal.nD) → Buf (Elt Ideal) ((c.tc : Thread Cert.WgFfnOutIdeal.nD Cert.WgFfnOutIdeal.τ).loc Cert.WgFfnOutIdeal.main_v0_1)),
      θ_run (Cert.WgFfnOutIdeal.defs (F := Ideal)) (onTc (τ := Cert.WgFfnOutIdeal.τ) (Cert.WgFfnOutIdeal.main (F := Ideal))) ⟨m, fun _ => 0, g⟩ (fun r => ∀ c : Dev Cert.WgFfnOutIdeal.nD,
          r.2.mem ((c.tc : Thread Cert.WgFfnOutIdeal.nD Cert.WgFfnOutIdeal.τ).loc Cert.WgFfnOutIdeal.main_v0_0) = v0 c
          ∧ r.2.mem ((c.tc : Thread Cert.WgFfnOutIdeal.nD Cert.WgFfnOutIdeal.τ).loc Cert.WgFfnOutIdeal.main_v0_1) = v1 c
          ∧ r.2.mem ((c.tc : Thread Cert.WgFfnOutIdeal.nD Cert.WgFfnOutIdeal.τ).loc Cert.WgFfnOutIdeal.main_arg0) = m ((c.tc : Thread Cert.WgFfnOutIdeal.nD Cert.WgFfnOutIdeal.τ).loc Cert.WgFfnOutIdeal.main_arg0)
          ∧ r.2.mem ((c.tc : Thread Cert.WgFfnOutIdeal.nD Cert.WgFfnOutIdeal.τ).loc Cert.WgFfnOutIdeal.main_arg1) = m ((c.tc : Thread Cert.WgFfnOutIdeal.nD Cert.WgFfnOutIdeal.τ).loc Cert.WgFfnOutIdeal.main_arg1))
      ∧ θ_run (Cert.WgFfnOutReferenceIdeal.defs (F := Ideal)) (onTc (τ := Cert.WgFfnOutReferenceIdeal.τ) (Cert.WgFfnOutReferenceIdeal.main (F := Ideal))) ⟨m', fun _ => 0, g'⟩ (fun r => ∀ c : Dev Cert.WgFfnOutReferenceIdeal.nD,
          r.2.mem ((c.tc : Thread Cert.WgFfnOutReferenceIdeal.nD Cert.WgFfnOutReferenceIdeal.τ).loc Cert.WgFfnOutReferenceIdeal.main_v5) = v0 c
          ∧ r.2.mem ((c.tc : Thread Cert.WgFfnOutReferenceIdeal.nD Cert.WgFfnOutReferenceIdeal.τ).loc Cert.WgFfnOutReferenceIdeal.main_v6) = v1 c
          ∧ r.2.mem ((c.tc : Thread Cert.WgFfnOutReferenceIdeal.nD Cert.WgFfnOutReferenceIdeal.τ).loc Cert.WgFfnOutReferenceIdeal.main_arg0) = m' ((c.tc : Thread Cert.WgFfnOutReferenceIdeal.nD Cert.WgFfnOutReferenceIdeal.τ).loc Cert.WgFfnOutReferenceIdeal.main_arg0)
          ∧ r.2.mem ((c.tc : Thread Cert.WgFfnOutReferenceIdeal.nD Cert.WgFfnOutReferenceIdeal.τ).loc Cert.WgFfnOutReferenceIdeal.main_arg1) = m' ((c.tc : Thread Cert.WgFfnOutReferenceIdeal.nD Cert.WgFfnOutReferenceIdeal.τ).loc Cert.WgFfnOutReferenceIdeal.main_arg1))

def preserves_InBwd_InBwdIdeal : Prop :=
  True

def algebraic_InBwdIdeal_InBwdReferenceIdeal_pre_finite_in [hInBwdIdeal : Cert.InBwdIdeal.Facts] [hInBwdReferenceIdeal : Cert.InBwdReferenceIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdIdeal_finite_in m →
    (∀ c : Dev Cert.InBwdIdeal.nD,
      m' ((c.tc : Thread Cert.InBwdReferenceIdeal.nD Cert.InBwdReferenceIdeal.τ).loc Cert.InBwdReferenceIdeal.main_arg0) = m ((c.tc : Thread Cert.InBwdIdeal.nD Cert.InBwdIdeal.τ).loc Cert.InBwdIdeal.main_arg0)
      ∧ m' ((c.tc : Thread Cert.InBwdReferenceIdeal.nD Cert.InBwdReferenceIdeal.τ).loc Cert.InBwdReferenceIdeal.main_arg1) = m ((c.tc : Thread Cert.InBwdIdeal.nD Cert.InBwdIdeal.τ).loc Cert.InBwdIdeal.main_arg1)
      ∧ m' ((c.tc : Thread Cert.InBwdReferenceIdeal.nD Cert.InBwdReferenceIdeal.τ).loc Cert.InBwdReferenceIdeal.main_arg2) = m ((c.tc : Thread Cert.InBwdIdeal.nD Cert.InBwdIdeal.τ).loc Cert.InBwdIdeal.main_arg2)
      ∧ m' ((c.tc : Thread Cert.InBwdReferenceIdeal.nD Cert.InBwdReferenceIdeal.τ).loc Cert.InBwdReferenceIdeal.main_arg3) = m ((c.tc : Thread Cert.InBwdIdeal.nD Cert.InBwdIdeal.τ).loc Cert.InBwdIdeal.main_arg3)
      ∧ m' ((c.tc : Thread Cert.InBwdReferenceIdeal.nD Cert.InBwdReferenceIdeal.τ).loc Cert.InBwdReferenceIdeal.main_arg4) = m ((c.tc : Thread Cert.InBwdIdeal.nD Cert.InBwdIdeal.τ).loc Cert.InBwdIdeal.main_arg4)
      ∧ m' ((c.tc : Thread Cert.InBwdReferenceIdeal.nD Cert.InBwdReferenceIdeal.τ).loc Cert.InBwdReferenceIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)) (v2 : (c : Dev Cert.InBwdIdeal.nD) → Buf (Elt Ideal) ((c.tc : Thread Cert.InBwdIdeal.nD Cert.InBwdIdeal.τ).loc Cert.InBwdIdeal.main_v0_2)) (v3 : (c : Dev Cert.InBwdIdeal.nD) → Buf (Elt Ideal) ((c.tc : Thread Cert.InBwdIdeal.nD Cert.InBwdIdeal.τ).loc Cert.InBwdIdeal.main_v0_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_v0_2) = v2 c
          ∧ r.2.mem ((c.tc : Thread Cert.InBwdIdeal.nD Cert.InBwdIdeal.τ).loc Cert.InBwdIdeal.main_v0_3) = v3 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v52) = v0 c
          ∧ r.2.mem ((c.tc : Thread Cert.InBwdReferenceIdeal.nD Cert.InBwdReferenceIdeal.τ).loc Cert.InBwdReferenceIdeal.main_v35) = v1 c
          ∧ r.2.mem ((c.tc : Thread Cert.InBwdReferenceIdeal.nD Cert.InBwdReferenceIdeal.τ).loc Cert.InBwdReferenceIdeal.main_v30) = v2 c
          ∧ r.2.mem ((c.tc : Thread Cert.InBwdReferenceIdeal.nD Cert.InBwdReferenceIdeal.τ).loc Cert.InBwdReferenceIdeal.main_v27) = v3 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1)
          ∧ r.2.mem ((c.tc : Thread Cert.InBwdReferenceIdeal.nD Cert.InBwdReferenceIdeal.τ).loc Cert.InBwdReferenceIdeal.main_arg2) = m' ((c.tc : Thread Cert.InBwdReferenceIdeal.nD Cert.InBwdReferenceIdeal.τ).loc Cert.InBwdReferenceIdeal.main_arg2)
          ∧ r.2.mem ((c.tc : Thread Cert.InBwdReferenceIdeal.nD Cert.InBwdReferenceIdeal.τ).loc Cert.InBwdReferenceIdeal.main_arg3) = m' ((c.tc : Thread Cert.InBwdReferenceIdeal.nD Cert.InBwdReferenceIdeal.τ).loc Cert.InBwdReferenceIdeal.main_arg3)
          ∧ r.2.mem ((c.tc : Thread Cert.InBwdReferenceIdeal.nD Cert.InBwdReferenceIdeal.τ).loc Cert.InBwdReferenceIdeal.main_arg4) = m' ((c.tc : Thread Cert.InBwdReferenceIdeal.nD Cert.InBwdReferenceIdeal.τ).loc Cert.InBwdReferenceIdeal.main_arg4)
          ∧ r.2.mem ((c.tc : Thread Cert.InBwdReferenceIdeal.nD Cert.InBwdReferenceIdeal.τ).loc Cert.InBwdReferenceIdeal.main_arg5) = m' ((c.tc : Thread Cert.InBwdReferenceIdeal.nD Cert.InBwdReferenceIdeal.τ).loc Cert.InBwdReferenceIdeal.main_arg5))

def preserves_FfnInBwd_FfnInBwdIdeal : Prop :=
  True

def algebraic_FfnInBwdIdeal_FfnInBwdReferenceIdeal_pre_finite_ffn_in [hFfnInBwdIdeal : Cert.FfnInBwdIdeal.Facts] [hFfnInBwdReferenceIdeal : Cert.FfnInBwdReferenceIdeal.Facts] [hPre_finite_ffn_in : Cert.Pre_finite_ffn_in.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg)
    (m' : (ℓ : Loc Cert.FfnInBwdReferenceIdeal.nD Cert.FfnInBwdReferenceIdeal.τ Cert.FfnInBwdReferenceIdeal.sig) → Buf (Elt Ideal) ℓ) (g' : Dev Cert.FfnInBwdReferenceIdeal.nD → PrngReg), Pre_FfnInBwdIdeal_finite_ffn_in m →
    (∀ c : Dev Cert.FfnInBwdIdeal.nD,
      m' ((c.tc : Thread Cert.FfnInBwdReferenceIdeal.nD Cert.FfnInBwdReferenceIdeal.τ).loc Cert.FfnInBwdReferenceIdeal.main_arg0) = m ((c.tc : Thread Cert.FfnInBwdIdeal.nD Cert.FfnInBwdIdeal.τ).loc Cert.FfnInBwdIdeal.main_arg0)
      ∧ m' ((c.tc : Thread Cert.FfnInBwdReferenceIdeal.nD Cert.FfnInBwdReferenceIdeal.τ).loc Cert.FfnInBwdReferenceIdeal.main_arg1) = m ((c.tc : Thread Cert.FfnInBwdIdeal.nD Cert.FfnInBwdIdeal.τ).loc Cert.FfnInBwdIdeal.main_arg1)
      ∧ m' ((c.tc : Thread Cert.FfnInBwdReferenceIdeal.nD Cert.FfnInBwdReferenceIdeal.τ).loc Cert.FfnInBwdReferenceIdeal.main_arg2) = m ((c.tc : Thread Cert.FfnInBwdIdeal.nD Cert.FfnInBwdIdeal.τ).loc Cert.FfnInBwdIdeal.main_arg2)
      ∧ m' ((c.tc : Thread Cert.FfnInBwdReferenceIdeal.nD Cert.FfnInBwdReferenceIdeal.τ).loc Cert.FfnInBwdReferenceIdeal.main_arg3) = m ((c.tc : Thread Cert.FfnInBwdIdeal.nD Cert.FfnInBwdIdeal.τ).loc Cert.FfnInBwdIdeal.main_arg3)
      ∧ m' ((c.tc : Thread Cert.FfnInBwdReferenceIdeal.nD Cert.FfnInBwdReferenceIdeal.τ).loc Cert.FfnInBwdReferenceIdeal.main_arg4) = m ((c.tc : Thread Cert.FfnInBwdIdeal.nD Cert.FfnInBwdIdeal.τ).loc Cert.FfnInBwdIdeal.main_arg4)
      ∧ m' ((c.tc : Thread Cert.FfnInBwdReferenceIdeal.nD Cert.FfnInBwdReferenceIdeal.τ).loc Cert.FfnInBwdReferenceIdeal.main_arg5) = m ((c.tc : Thread Cert.FfnInBwdIdeal.nD Cert.FfnInBwdIdeal.τ).loc Cert.FfnInBwdIdeal.main_arg5)) →
    ∃ (v0 : (c : Dev Cert.FfnInBwdIdeal.nD) → Buf (Elt Ideal) ((c.tc : Thread Cert.FfnInBwdIdeal.nD Cert.FfnInBwdIdeal.τ).loc Cert.FfnInBwdIdeal.main_v0_0)) (v1 : (c : Dev Cert.FfnInBwdIdeal.nD) → Buf (Elt Ideal) ((c.tc : Thread Cert.FfnInBwdIdeal.nD Cert.FfnInBwdIdeal.τ).loc Cert.FfnInBwdIdeal.main_v0_1)) (v2 : (c : Dev Cert.FfnInBwdIdeal.nD) → Buf (Elt Ideal) ((c.tc : Thread Cert.FfnInBwdIdeal.nD Cert.FfnInBwdIdeal.τ).loc Cert.FfnInBwdIdeal.main_v0_2)) (v3 : (c : Dev Cert.FfnInBwdIdeal.nD) → Buf (Elt Ideal) ((c.tc : Thread Cert.FfnInBwdIdeal.nD Cert.FfnInBwdIdeal.τ).loc Cert.FfnInBwdIdeal.main_v0_3)),
      θ_run (Cert.FfnInBwdIdeal.defs (F := Ideal)) (onTc (τ := Cert.FfnInBwdIdeal.τ) (Cert.FfnInBwdIdeal.main (F := Ideal))) ⟨m, fun _ => 0, g⟩ (fun r => ∀ c : Dev Cert.FfnInBwdIdeal.nD,
          r.2.mem ((c.tc : Thread Cert.FfnInBwdIdeal.nD Cert.FfnInBwdIdeal.τ).loc Cert.FfnInBwdIdeal.main_v0_0) = v0 c
          ∧ r.2.mem ((c.tc : Thread Cert.FfnInBwdIdeal.nD Cert.FfnInBwdIdeal.τ).loc Cert.FfnInBwdIdeal.main_v0_1) = v1 c
          ∧ r.2.mem ((c.tc : Thread Cert.FfnInBwdIdeal.nD Cert.FfnInBwdIdeal.τ).loc Cert.FfnInBwdIdeal.main_v0_2) = v2 c
          ∧ r.2.mem ((c.tc : Thread Cert.FfnInBwdIdeal.nD Cert.FfnInBwdIdeal.τ).loc Cert.FfnInBwdIdeal.main_v0_3) = v3 c
          ∧ r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
          ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
          ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
          ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
          ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
          ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5))
      ∧ θ_run (Cert.FfnInBwdReferenceIdeal.defs (F := Ideal)) (onTc (τ := Cert.FfnInBwdReferenceIdeal.τ) (Cert.FfnInBwdReferenceIdeal.main (F := Ideal))) ⟨m', fun _ => 0, g'⟩ (fun r => ∀ c : Dev Cert.FfnInBwdReferenceIdeal.nD,
          r.2.mem ((c.tc : Thread Cert.FfnInBwdReferenceIdeal.nD Cert.FfnInBwdReferenceIdeal.τ).loc Cert.FfnInBwdReferenceIdeal.main_v52) = v0 c
          ∧ r.2.mem ((c.tc : Thread Cert.FfnInBwdReferenceIdeal.nD Cert.FfnInBwdReferenceIdeal.τ).loc Cert.FfnInBwdReferenceIdeal.main_v35) = v1 c
          ∧ r.2.mem ((c.tc : Thread Cert.FfnInBwdReferenceIdeal.nD Cert.FfnInBwdReferenceIdeal.τ).loc Cert.FfnInBwdReferenceIdeal.main_v30) = v2 c
          ∧ r.2.mem ((c.tc : Thread Cert.FfnInBwdReferenceIdeal.nD Cert.FfnInBwdReferenceIdeal.τ).loc Cert.FfnInBwdReferenceIdeal.main_v27) = v3 c
          ∧ r.2.mem ((c.tc : Thread Cert.FfnInBwdReferenceIdeal.nD Cert.FfnInBwdReferenceIdeal.τ).loc Cert.FfnInBwdReferenceIdeal.main_arg0) = m' ((c.tc : Thread Cert.FfnInBwdReferenceIdeal.nD Cert.FfnInBwdReferenceIdeal.τ).loc Cert.FfnInBwdReferenceIdeal.main_arg0)
          ∧ r.2.mem ((c.tc : Thread Cert.FfnInBwdReferenceIdeal.nD Cert.FfnInBwdReferenceIdeal.τ).loc Cert.FfnInBwdReferenceIdeal.main_arg1) = m' ((c.tc : Thread Cert.FfnInBwdReferenceIdeal.nD Cert.FfnInBwdReferenceIdeal.τ).loc Cert.FfnInBwdReferenceIdeal.main_arg1)
          ∧ r.2.mem ((c.tc : Thread Cert.FfnInBwdReferenceIdeal.nD Cert.FfnInBwdReferenceIdeal.τ).loc Cert.FfnInBwdReferenceIdeal.main_arg2) = m' ((c.tc : Thread Cert.FfnInBwdReferenceIdeal.nD Cert.FfnInBwdReferenceIdeal.τ).loc Cert.FfnInBwdReferenceIdeal.main_arg2)
          ∧ r.2.mem ((c.tc : Thread Cert.FfnInBwdReferenceIdeal.nD Cert.FfnInBwdReferenceIdeal.τ).loc Cert.FfnInBwdReferenceIdeal.main_arg3) = m' ((c.tc : Thread Cert.FfnInBwdReferenceIdeal.nD Cert.FfnInBwdReferenceIdeal.τ).loc Cert.FfnInBwdReferenceIdeal.main_arg3)
          ∧ r.2.mem ((c.tc : Thread Cert.FfnInBwdReferenceIdeal.nD Cert.FfnInBwdReferenceIdeal.τ).loc Cert.FfnInBwdReferenceIdeal.main_arg4) = m' ((c.tc : Thread Cert.FfnInBwdReferenceIdeal.nD Cert.FfnInBwdReferenceIdeal.τ).loc Cert.FfnInBwdReferenceIdeal.main_arg4)
          ∧ r.2.mem ((c.tc : Thread Cert.FfnInBwdReferenceIdeal.nD Cert.FfnInBwdReferenceIdeal.τ).loc Cert.FfnInBwdReferenceIdeal.main_arg5) = m' ((c.tc : Thread Cert.FfnInBwdReferenceIdeal.nD Cert.FfnInBwdReferenceIdeal.τ).loc Cert.FfnInBwdReferenceIdeal.main_arg5))

def preserves_OutBwd_OutBwdIdeal : Prop :=
  True

def algebraic_OutBwdIdeal_OutBwdReferenceIdeal [hOutBwdIdeal : Cert.OutBwdIdeal.Facts] [hOutBwdReferenceIdeal : Cert.OutBwdReferenceIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)
      ∧ m' ((c.tc : Thread Cert.OutBwdReferenceIdeal.nD Cert.OutBwdReferenceIdeal.τ).loc Cert.OutBwdReferenceIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v2_0)) (v1 : (c : Dev Cert.OutBwdIdeal.nD) → Buf (Elt Ideal) ((c.tc : Thread Cert.OutBwdIdeal.nD Cert.OutBwdIdeal.τ).loc Cert.OutBwdIdeal.main_v2_1)) (v2 : (c : Dev Cert.OutBwdIdeal.nD) → Buf (Elt Ideal) ((c.tc : Thread Cert.OutBwdIdeal.nD Cert.OutBwdIdeal.τ).loc Cert.OutBwdIdeal.main_v2_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2_0) = v0 c
          ∧ r.2.mem ((c.tc : Thread Cert.OutBwdIdeal.nD Cert.OutBwdIdeal.τ).loc Cert.OutBwdIdeal.main_v2_1) = v1 c
          ∧ r.2.mem ((c.tc : Thread Cert.OutBwdIdeal.nD Cert.OutBwdIdeal.τ).loc Cert.OutBwdIdeal.main_v2_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v9) = v0 c
          ∧ r.2.mem ((c.tc : Thread Cert.OutBwdReferenceIdeal.nD Cert.OutBwdReferenceIdeal.τ).loc Cert.OutBwdReferenceIdeal.main_v10) = v1 c
          ∧ r.2.mem ((c.tc : Thread Cert.OutBwdReferenceIdeal.nD Cert.OutBwdReferenceIdeal.τ).loc Cert.OutBwdReferenceIdeal.main_v8) = v2 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2)
          ∧ r.2.mem ((c.tc : Thread Cert.OutBwdReferenceIdeal.nD Cert.OutBwdReferenceIdeal.τ).loc Cert.OutBwdReferenceIdeal.main_arg3) = m' ((c.tc : Thread Cert.OutBwdReferenceIdeal.nD Cert.OutBwdReferenceIdeal.τ).loc Cert.OutBwdReferenceIdeal.main_arg3))

def preserves_FfnOutBwd_FfnOutBwdIdeal : Prop :=
  True

def algebraic_FfnOutBwdIdeal_FfnOutBwdReferenceIdeal_pre_finite_ffn_out [hFfnOutBwdIdeal : Cert.FfnOutBwdIdeal.Facts] [hFfnOutBwdReferenceIdeal : Cert.FfnOutBwdReferenceIdeal.Facts] [hPre_finite_ffn_out : Cert.Pre_finite_ffn_out.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg)
    (m' : (ℓ : Loc Cert.FfnOutBwdReferenceIdeal.nD Cert.FfnOutBwdReferenceIdeal.τ Cert.FfnOutBwdReferenceIdeal.sig) → Buf (Elt Ideal) ℓ) (g' : Dev Cert.FfnOutBwdReferenceIdeal.nD → PrngReg), Pre_FfnOutBwdIdeal_finite_ffn_out m →
    (∀ c : Dev Cert.FfnOutBwdIdeal.nD,
      m' ((c.tc : Thread Cert.FfnOutBwdReferenceIdeal.nD Cert.FfnOutBwdReferenceIdeal.τ).loc Cert.FfnOutBwdReferenceIdeal.main_arg0) = m ((c.tc : Thread Cert.FfnOutBwdIdeal.nD Cert.FfnOutBwdIdeal.τ).loc Cert.FfnOutBwdIdeal.main_arg0)
      ∧ m' ((c.tc : Thread Cert.FfnOutBwdReferenceIdeal.nD Cert.FfnOutBwdReferenceIdeal.τ).loc Cert.FfnOutBwdReferenceIdeal.main_arg1) = m ((c.tc : Thread Cert.FfnOutBwdIdeal.nD Cert.FfnOutBwdIdeal.τ).loc Cert.FfnOutBwdIdeal.main_arg1)
      ∧ m' ((c.tc : Thread Cert.FfnOutBwdReferenceIdeal.nD Cert.FfnOutBwdReferenceIdeal.τ).loc Cert.FfnOutBwdReferenceIdeal.main_arg2) = m ((c.tc : Thread Cert.FfnOutBwdIdeal.nD Cert.FfnOutBwdIdeal.τ).loc Cert.FfnOutBwdIdeal.main_arg2)
      ∧ m' ((c.tc : Thread Cert.FfnOutBwdReferenceIdeal.nD Cert.FfnOutBwdReferenceIdeal.τ).loc Cert.FfnOutBwdReferenceIdeal.main_arg3) = m ((c.tc : Thread Cert.FfnOutBwdIdeal.nD Cert.FfnOutBwdIdeal.τ).loc Cert.FfnOutBwdIdeal.main_arg3)) →
    ∃ (v0 : (c : Dev Cert.FfnOutBwdIdeal.nD) → Buf (Elt Ideal) ((c.tc : Thread Cert.FfnOutBwdIdeal.nD Cert.FfnOutBwdIdeal.τ).loc Cert.FfnOutBwdIdeal.main_v7_0)) (v1 : (c : Dev Cert.FfnOutBwdIdeal.nD) → Buf (Elt Ideal) ((c.tc : Thread Cert.FfnOutBwdIdeal.nD Cert.FfnOutBwdIdeal.τ).loc Cert.FfnOutBwdIdeal.main_v7_1)) (v2 : (c : Dev Cert.FfnOutBwdIdeal.nD) → Buf (Elt Ideal) ((c.tc : Thread Cert.FfnOutBwdIdeal.nD Cert.FfnOutBwdIdeal.τ).loc Cert.FfnOutBwdIdeal.main_v7_2)),
      θ_run (Cert.FfnOutBwdIdeal.defs (F := Ideal)) (onTc (τ := Cert.FfnOutBwdIdeal.τ) (Cert.FfnOutBwdIdeal.main (F := Ideal))) ⟨m, fun _ => 0, g⟩ (fun r => ∀ c : Dev Cert.FfnOutBwdIdeal.nD,
          r.2.mem ((c.tc : Thread Cert.FfnOutBwdIdeal.nD Cert.FfnOutBwdIdeal.τ).loc Cert.FfnOutBwdIdeal.main_v7_0) = v0 c
          ∧ r.2.mem ((c.tc : Thread Cert.FfnOutBwdIdeal.nD Cert.FfnOutBwdIdeal.τ).loc Cert.FfnOutBwdIdeal.main_v7_1) = v1 c
          ∧ r.2.mem ((c.tc : Thread Cert.FfnOutBwdIdeal.nD Cert.FfnOutBwdIdeal.τ).loc Cert.FfnOutBwdIdeal.main_v7_2) = v2 c
          ∧ r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
          ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
          ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
          ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ θ_run (Cert.FfnOutBwdReferenceIdeal.defs (F := Ideal)) (onTc (τ := Cert.FfnOutBwdReferenceIdeal.τ) (Cert.FfnOutBwdReferenceIdeal.main (F := Ideal))) ⟨m', fun _ => 0, g'⟩ (fun r => ∀ c : Dev Cert.FfnOutBwdReferenceIdeal.nD,
          r.2.mem ((c.tc : Thread Cert.FfnOutBwdReferenceIdeal.nD Cert.FfnOutBwdReferenceIdeal.τ).loc Cert.FfnOutBwdReferenceIdeal.main_v19) = v0 c
          ∧ r.2.mem ((c.tc : Thread Cert.FfnOutBwdReferenceIdeal.nD Cert.FfnOutBwdReferenceIdeal.τ).loc Cert.FfnOutBwdReferenceIdeal.main_v20) = v1 c
          ∧ r.2.mem ((c.tc : Thread Cert.FfnOutBwdReferenceIdeal.nD Cert.FfnOutBwdReferenceIdeal.τ).loc Cert.FfnOutBwdReferenceIdeal.main_v13) = v2 c
          ∧ r.2.mem ((c.tc : Thread Cert.FfnOutBwdReferenceIdeal.nD Cert.FfnOutBwdReferenceIdeal.τ).loc Cert.FfnOutBwdReferenceIdeal.main_arg0) = m' ((c.tc : Thread Cert.FfnOutBwdReferenceIdeal.nD Cert.FfnOutBwdReferenceIdeal.τ).loc Cert.FfnOutBwdReferenceIdeal.main_arg0)
          ∧ r.2.mem ((c.tc : Thread Cert.FfnOutBwdReferenceIdeal.nD Cert.FfnOutBwdReferenceIdeal.τ).loc Cert.FfnOutBwdReferenceIdeal.main_arg1) = m' ((c.tc : Thread Cert.FfnOutBwdReferenceIdeal.nD Cert.FfnOutBwdReferenceIdeal.τ).loc Cert.FfnOutBwdReferenceIdeal.main_arg1)
          ∧ r.2.mem ((c.tc : Thread Cert.FfnOutBwdReferenceIdeal.nD Cert.FfnOutBwdReferenceIdeal.τ).loc Cert.FfnOutBwdReferenceIdeal.main_arg2) = m' ((c.tc : Thread Cert.FfnOutBwdReferenceIdeal.nD Cert.FfnOutBwdReferenceIdeal.τ).loc Cert.FfnOutBwdReferenceIdeal.main_arg2)
          ∧ r.2.mem ((c.tc : Thread Cert.FfnOutBwdReferenceIdeal.nD Cert.FfnOutBwdReferenceIdeal.τ).loc Cert.FfnOutBwdReferenceIdeal.main_arg3) = m' ((c.tc : Thread Cert.FfnOutBwdReferenceIdeal.nD Cert.FfnOutBwdReferenceIdeal.τ).loc Cert.FfnOutBwdReferenceIdeal.main_arg3))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)
      ∧ m' ((c.tc : Thread Cert.InFwdReferenceIdeal.nD Cert.InFwdReferenceIdeal.τ).loc Cert.InFwdReferenceIdeal.main_arg2) = m ((c.tc : Thread Cert.InFwdIdeal.nD Cert.InFwdIdeal.τ).loc Cert.InFwdIdeal.main_arg2)
      ∧ m' ((c.tc : Thread Cert.InFwdReferenceIdeal.nD Cert.InFwdReferenceIdeal.τ).loc Cert.InFwdReferenceIdeal.main_arg3) = m ((c.tc : Thread Cert.InFwdIdeal.nD Cert.InFwdIdeal.τ).loc Cert.InFwdIdeal.main_arg3)
      ∧ m' ((c.tc : Thread Cert.InFwdReferenceIdeal.nD Cert.InFwdReferenceIdeal.τ).loc Cert.InFwdReferenceIdeal.main_arg4) = m ((c.tc : Thread Cert.InFwdIdeal.nD Cert.InFwdIdeal.τ).loc Cert.InFwdIdeal.main_arg4)) →
    ∃ (v0 : (c : Dev Cert.InFwdIdeal.nD) → Buf (Elt Ideal) ((c.tc : Thread Cert.InFwdIdeal.nD Cert.InFwdIdeal.τ).loc Cert.InFwdIdeal.main_v0_0)) (v1 : (c : Dev Cert.InFwdIdeal.nD) → Buf (Elt Ideal) ((c.tc : Thread Cert.InFwdIdeal.nD Cert.InFwdIdeal.τ).loc Cert.InFwdIdeal.main_v0_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_v0_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
          ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v18) = v0 c
          ∧ r.2.mem ((c.tc : Thread Cert.InFwdReferenceIdeal.nD Cert.InFwdReferenceIdeal.τ).loc Cert.InFwdReferenceIdeal.main_v20) = v1 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1)
          ∧ r.2.mem ((c.tc : Thread Cert.InFwdReferenceIdeal.nD Cert.InFwdReferenceIdeal.τ).loc Cert.InFwdReferenceIdeal.main_arg2) = m' ((c.tc : Thread Cert.InFwdReferenceIdeal.nD Cert.InFwdReferenceIdeal.τ).loc Cert.InFwdReferenceIdeal.main_arg2)
          ∧ r.2.mem ((c.tc : Thread Cert.InFwdReferenceIdeal.nD Cert.InFwdReferenceIdeal.τ).loc Cert.InFwdReferenceIdeal.main_arg3) = m' ((c.tc : Thread Cert.InFwdReferenceIdeal.nD Cert.InFwdReferenceIdeal.τ).loc Cert.InFwdReferenceIdeal.main_arg3)
          ∧ r.2.mem ((c.tc : Thread Cert.InFwdReferenceIdeal.nD Cert.InFwdReferenceIdeal.τ).loc Cert.InFwdReferenceIdeal.main_arg4) = m' ((c.tc : Thread Cert.InFwdReferenceIdeal.nD Cert.InFwdReferenceIdeal.τ).loc Cert.InFwdReferenceIdeal.main_arg4))

def preserves_FfnInFwd_FfnInFwdIdeal : Prop :=
  True

def algebraic_FfnInFwdIdeal_FfnInFwdReferenceIdeal [hFfnInFwdIdeal : Cert.FfnInFwdIdeal.Facts] [hFfnInFwdReferenceIdeal : Cert.FfnInFwdReferenceIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg)
    (m' : (ℓ : Loc Cert.FfnInFwdReferenceIdeal.nD Cert.FfnInFwdReferenceIdeal.τ Cert.FfnInFwdReferenceIdeal.sig) → Buf (Elt Ideal) ℓ) (g' : Dev Cert.FfnInFwdReferenceIdeal.nD → PrngReg), Pre_FfnInFwdIdeal m →
    (∀ c : Dev Cert.FfnInFwdIdeal.nD,
      m' ((c.tc : Thread Cert.FfnInFwdReferenceIdeal.nD Cert.FfnInFwdReferenceIdeal.τ).loc Cert.FfnInFwdReferenceIdeal.main_arg0) = m ((c.tc : Thread Cert.FfnInFwdIdeal.nD Cert.FfnInFwdIdeal.τ).loc Cert.FfnInFwdIdeal.main_arg0)
      ∧ m' ((c.tc : Thread Cert.FfnInFwdReferenceIdeal.nD Cert.FfnInFwdReferenceIdeal.τ).loc Cert.FfnInFwdReferenceIdeal.main_arg1) = m ((c.tc : Thread Cert.FfnInFwdIdeal.nD Cert.FfnInFwdIdeal.τ).loc Cert.FfnInFwdIdeal.main_arg1)
      ∧ m' ((c.tc : Thread Cert.FfnInFwdReferenceIdeal.nD Cert.FfnInFwdReferenceIdeal.τ).loc Cert.FfnInFwdReferenceIdeal.main_arg2) = m ((c.tc : Thread Cert.FfnInFwdIdeal.nD Cert.FfnInFwdIdeal.τ).loc Cert.FfnInFwdIdeal.main_arg2)
      ∧ m' ((c.tc : Thread Cert.FfnInFwdReferenceIdeal.nD Cert.FfnInFwdReferenceIdeal.τ).loc Cert.FfnInFwdReferenceIdeal.main_arg3) = m ((c.tc : Thread Cert.FfnInFwdIdeal.nD Cert.FfnInFwdIdeal.τ).loc Cert.FfnInFwdIdeal.main_arg3)
      ∧ m' ((c.tc : Thread Cert.FfnInFwdReferenceIdeal.nD Cert.FfnInFwdReferenceIdeal.τ).loc Cert.FfnInFwdReferenceIdeal.main_arg4) = m ((c.tc : Thread Cert.FfnInFwdIdeal.nD Cert.FfnInFwdIdeal.τ).loc Cert.FfnInFwdIdeal.main_arg4)) →
    ∃ (v0 : (c : Dev Cert.FfnInFwdIdeal.nD) → Buf (Elt Ideal) ((c.tc : Thread Cert.FfnInFwdIdeal.nD Cert.FfnInFwdIdeal.τ).loc Cert.FfnInFwdIdeal.main_v0_0)) (v1 : (c : Dev Cert.FfnInFwdIdeal.nD) → Buf (Elt Ideal) ((c.tc : Thread Cert.FfnInFwdIdeal.nD Cert.FfnInFwdIdeal.τ).loc Cert.FfnInFwdIdeal.main_v0_1)) (v2 : (c : Dev Cert.FfnInFwdIdeal.nD) → Buf (Elt Ideal) ((c.tc : Thread Cert.FfnInFwdIdeal.nD Cert.FfnInFwdIdeal.τ).loc Cert.FfnInFwdIdeal.main_v0_2)),
      θ_run (Cert.FfnInFwdIdeal.defs (F := Ideal)) (onTc (τ := Cert.FfnInFwdIdeal.τ) (Cert.FfnInFwdIdeal.main (F := Ideal))) ⟨m, fun _ => 0, g⟩ (fun r => ∀ c : Dev Cert.FfnInFwdIdeal.nD,
          r.2.mem ((c.tc : Thread Cert.FfnInFwdIdeal.nD Cert.FfnInFwdIdeal.τ).loc Cert.FfnInFwdIdeal.main_v0_0) = v0 c
          ∧ r.2.mem ((c.tc : Thread Cert.FfnInFwdIdeal.nD Cert.FfnInFwdIdeal.τ).loc Cert.FfnInFwdIdeal.main_v0_1) = v1 c
          ∧ r.2.mem ((c.tc : Thread Cert.FfnInFwdIdeal.nD Cert.FfnInFwdIdeal.τ).loc Cert.FfnInFwdIdeal.main_v0_2) = v2 c
          ∧ r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
          ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1)
          ∧ r.2.mem ((c.tc : Thread Cert.FfnInFwdIdeal.nD Cert.FfnInFwdIdeal.τ).loc Cert.FfnInFwdIdeal.main_arg2) = m ((c.tc : Thread Cert.FfnInFwdIdeal.nD Cert.FfnInFwdIdeal.τ).loc Cert.FfnInFwdIdeal.main_arg2)
          ∧ r.2.mem ((c.tc : Thread Cert.FfnInFwdIdeal.nD Cert.FfnInFwdIdeal.τ).loc Cert.FfnInFwdIdeal.main_arg3) = m ((c.tc : Thread Cert.FfnInFwdIdeal.nD Cert.FfnInFwdIdeal.τ).loc Cert.FfnInFwdIdeal.main_arg3)
          ∧ r.2.mem ((c.tc : Thread Cert.FfnInFwdIdeal.nD Cert.FfnInFwdIdeal.τ).loc Cert.FfnInFwdIdeal.main_arg4) = m ((c.tc : Thread Cert.FfnInFwdIdeal.nD Cert.FfnInFwdIdeal.τ).loc Cert.FfnInFwdIdeal.main_arg4))
      ∧ θ_run (Cert.FfnInFwdReferenceIdeal.defs (F := Ideal)) (onTc (τ := Cert.FfnInFwdReferenceIdeal.τ) (Cert.FfnInFwdReferenceIdeal.main (F := Ideal))) ⟨m', fun _ => 0, g'⟩ (fun r => ∀ c : Dev Cert.FfnInFwdReferenceIdeal.nD,
          r.2.mem ((c.tc : Thread Cert.FfnInFwdReferenceIdeal.nD Cert.FfnInFwdReferenceIdeal.τ).loc Cert.FfnInFwdReferenceIdeal.main_v24) = v0 c
          ∧ r.2.mem ((c.tc : Thread Cert.FfnInFwdReferenceIdeal.nD Cert.FfnInFwdReferenceIdeal.τ).loc Cert.FfnInFwdReferenceIdeal.main_v25) = v1 c
          ∧ r.2.mem ((c.tc : Thread Cert.FfnInFwdReferenceIdeal.nD Cert.FfnInFwdReferenceIdeal.τ).loc Cert.FfnInFwdReferenceIdeal.main_v26) = v2 c
          ∧ r.2.mem ((c.tc : Thread Cert.FfnInFwdReferenceIdeal.nD Cert.FfnInFwdReferenceIdeal.τ).loc Cert.FfnInFwdReferenceIdeal.main_arg0) = m' ((c.tc : Thread Cert.FfnInFwdReferenceIdeal.nD Cert.FfnInFwdReferenceIdeal.τ).loc Cert.FfnInFwdReferenceIdeal.main_arg0)
          ∧ r.2.mem ((c.tc : Thread Cert.FfnInFwdReferenceIdeal.nD Cert.FfnInFwdReferenceIdeal.τ).loc Cert.FfnInFwdReferenceIdeal.main_arg1) = m' ((c.tc : Thread Cert.FfnInFwdReferenceIdeal.nD Cert.FfnInFwdReferenceIdeal.τ).loc Cert.FfnInFwdReferenceIdeal.main_arg1)
          ∧ r.2.mem ((c.tc : Thread Cert.FfnInFwdReferenceIdeal.nD Cert.FfnInFwdReferenceIdeal.τ).loc Cert.FfnInFwdReferenceIdeal.main_arg2) = m' ((c.tc : Thread Cert.FfnInFwdReferenceIdeal.nD Cert.FfnInFwdReferenceIdeal.τ).loc Cert.FfnInFwdReferenceIdeal.main_arg2)
          ∧ r.2.mem ((c.tc : Thread Cert.FfnInFwdReferenceIdeal.nD Cert.FfnInFwdReferenceIdeal.τ).loc Cert.FfnInFwdReferenceIdeal.main_arg3) = m' ((c.tc : Thread Cert.FfnInFwdReferenceIdeal.nD Cert.FfnInFwdReferenceIdeal.τ).loc Cert.FfnInFwdReferenceIdeal.main_arg3)
          ∧ r.2.mem ((c.tc : Thread Cert.FfnInFwdReferenceIdeal.nD Cert.FfnInFwdReferenceIdeal.τ).loc Cert.FfnInFwdReferenceIdeal.main_arg4) = m' ((c.tc : Thread Cert.FfnInFwdReferenceIdeal.nD Cert.FfnInFwdReferenceIdeal.τ).loc Cert.FfnInFwdReferenceIdeal.main_arg4))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)
      ∧ m' ((c.tc : Thread Cert.OutFwdReferenceIdeal.nD Cert.OutFwdReferenceIdeal.τ).loc Cert.OutFwdReferenceIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v4) = v0 c
          ∧ r.2.mem ((c.tc : Thread Cert.OutFwdReferenceIdeal.nD Cert.OutFwdReferenceIdeal.τ).loc Cert.OutFwdReferenceIdeal.main_v1) = v1 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2)
          ∧ r.2.mem ((c.tc : Thread Cert.OutFwdReferenceIdeal.nD Cert.OutFwdReferenceIdeal.τ).loc Cert.OutFwdReferenceIdeal.main_arg3) = m' ((c.tc : Thread Cert.OutFwdReferenceIdeal.nD Cert.OutFwdReferenceIdeal.τ).loc Cert.OutFwdReferenceIdeal.main_arg3))

def preserves_FfnOutFwd_FfnOutFwdIdeal : Prop :=
  True

def algebraic_FfnOutFwdIdeal_FfnOutFwdReferenceIdeal [hFfnOutFwdIdeal : Cert.FfnOutFwdIdeal.Facts] [hFfnOutFwdReferenceIdeal : Cert.FfnOutFwdReferenceIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg)
    (m' : (ℓ : Loc Cert.FfnOutFwdReferenceIdeal.nD Cert.FfnOutFwdReferenceIdeal.τ Cert.FfnOutFwdReferenceIdeal.sig) → Buf (Elt Ideal) ℓ) (g' : Dev Cert.FfnOutFwdReferenceIdeal.nD → PrngReg), Pre_FfnOutFwdIdeal m →
    (∀ c : Dev Cert.FfnOutFwdIdeal.nD,
      m' ((c.tc : Thread Cert.FfnOutFwdReferenceIdeal.nD Cert.FfnOutFwdReferenceIdeal.τ).loc Cert.FfnOutFwdReferenceIdeal.main_arg0) = m ((c.tc : Thread Cert.FfnOutFwdIdeal.nD Cert.FfnOutFwdIdeal.τ).loc Cert.FfnOutFwdIdeal.main_arg0)
      ∧ m' ((c.tc : Thread Cert.FfnOutFwdReferenceIdeal.nD Cert.FfnOutFwdReferenceIdeal.τ).loc Cert.FfnOutFwdReferenceIdeal.main_arg1) = m ((c.tc : Thread Cert.FfnOutFwdIdeal.nD Cert.FfnOutFwdIdeal.τ).loc Cert.FfnOutFwdIdeal.main_arg1)
      ∧ m' ((c.tc : Thread Cert.FfnOutFwdReferenceIdeal.nD Cert.FfnOutFwdReferenceIdeal.τ).loc Cert.FfnOutFwdReferenceIdeal.main_arg2) = m ((c.tc : Thread Cert.FfnOutFwdIdeal.nD Cert.FfnOutFwdIdeal.τ).loc Cert.FfnOutFwdIdeal.main_arg2)
      ∧ m' ((c.tc : Thread Cert.FfnOutFwdReferenceIdeal.nD Cert.FfnOutFwdReferenceIdeal.τ).loc Cert.FfnOutFwdReferenceIdeal.main_arg3) = m ((c.tc : Thread Cert.FfnOutFwdIdeal.nD Cert.FfnOutFwdIdeal.τ).loc Cert.FfnOutFwdIdeal.main_arg3)) →
    ∃ (v0 : (c : Dev Cert.FfnOutFwdIdeal.nD) → Buf (Elt Ideal) ((c.tc : Thread Cert.FfnOutFwdIdeal.nD Cert.FfnOutFwdIdeal.τ).loc Cert.FfnOutFwdIdeal.main_v0_0)) (v1 : (c : Dev Cert.FfnOutFwdIdeal.nD) → Buf (Elt Ideal) ((c.tc : Thread Cert.FfnOutFwdIdeal.nD Cert.FfnOutFwdIdeal.τ).loc Cert.FfnOutFwdIdeal.main_v0_1)),
      θ_run (Cert.FfnOutFwdIdeal.defs (F := Ideal)) (onTc (τ := Cert.FfnOutFwdIdeal.τ) (Cert.FfnOutFwdIdeal.main (F := Ideal))) ⟨m, fun _ => 0, g⟩ (fun r => ∀ c : Dev Cert.FfnOutFwdIdeal.nD,
          r.2.mem ((c.tc : Thread Cert.FfnOutFwdIdeal.nD Cert.FfnOutFwdIdeal.τ).loc Cert.FfnOutFwdIdeal.main_v0_0) = v0 c
          ∧ r.2.mem ((c.tc : Thread Cert.FfnOutFwdIdeal.nD Cert.FfnOutFwdIdeal.τ).loc Cert.FfnOutFwdIdeal.main_v0_1) = v1 c
          ∧ r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
          ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1)
          ∧ r.2.mem ((c.tc : Thread Cert.FfnOutFwdIdeal.nD Cert.FfnOutFwdIdeal.τ).loc Cert.FfnOutFwdIdeal.main_arg2) = m ((c.tc : Thread Cert.FfnOutFwdIdeal.nD Cert.FfnOutFwdIdeal.τ).loc Cert.FfnOutFwdIdeal.main_arg2)
          ∧ r.2.mem ((c.tc : Thread Cert.FfnOutFwdIdeal.nD Cert.FfnOutFwdIdeal.τ).loc Cert.FfnOutFwdIdeal.main_arg3) = m ((c.tc : Thread Cert.FfnOutFwdIdeal.nD Cert.FfnOutFwdIdeal.τ).loc Cert.FfnOutFwdIdeal.main_arg3))
      ∧ θ_run (Cert.FfnOutFwdReferenceIdeal.defs (F := Ideal)) (onTc (τ := Cert.FfnOutFwdReferenceIdeal.τ) (Cert.FfnOutFwdReferenceIdeal.main (F := Ideal))) ⟨m', fun _ => 0, g'⟩ (fun r => ∀ c : Dev Cert.FfnOutFwdReferenceIdeal.nD,
          r.2.mem ((c.tc : Thread Cert.FfnOutFwdReferenceIdeal.nD Cert.FfnOutFwdReferenceIdeal.τ).loc Cert.FfnOutFwdReferenceIdeal.main_v5) = v0 c
          ∧ r.2.mem ((c.tc : Thread Cert.FfnOutFwdReferenceIdeal.nD Cert.FfnOutFwdReferenceIdeal.τ).loc Cert.FfnOutFwdReferenceIdeal.main_v2) = v1 c
          ∧ r.2.mem ((c.tc : Thread Cert.FfnOutFwdReferenceIdeal.nD Cert.FfnOutFwdReferenceIdeal.τ).loc Cert.FfnOutFwdReferenceIdeal.main_arg0) = m' ((c.tc : Thread Cert.FfnOutFwdReferenceIdeal.nD Cert.FfnOutFwdReferenceIdeal.τ).loc Cert.FfnOutFwdReferenceIdeal.main_arg0)
          ∧ r.2.mem ((c.tc : Thread Cert.FfnOutFwdReferenceIdeal.nD Cert.FfnOutFwdReferenceIdeal.τ).loc Cert.FfnOutFwdReferenceIdeal.main_arg1) = m' ((c.tc : Thread Cert.FfnOutFwdReferenceIdeal.nD Cert.FfnOutFwdReferenceIdeal.τ).loc Cert.FfnOutFwdReferenceIdeal.main_arg1)
          ∧ r.2.mem ((c.tc : Thread Cert.FfnOutFwdReferenceIdeal.nD Cert.FfnOutFwdReferenceIdeal.τ).loc Cert.FfnOutFwdReferenceIdeal.main_arg2) = m' ((c.tc : Thread Cert.FfnOutFwdReferenceIdeal.nD Cert.FfnOutFwdReferenceIdeal.τ).loc Cert.FfnOutFwdReferenceIdeal.main_arg2)
          ∧ r.2.mem ((c.tc : Thread Cert.FfnOutFwdReferenceIdeal.nD Cert.FfnOutFwdReferenceIdeal.τ).loc Cert.FfnOutFwdReferenceIdeal.main_arg3) = m' ((c.tc : Thread Cert.FfnOutFwdReferenceIdeal.nD Cert.FfnOutFwdReferenceIdeal.τ).loc Cert.FfnOutFwdReferenceIdeal.main_arg3))

def preserves_LossFwd_LossFwdIdeal : Prop :=
  True

def algebraic_LossFwdIdeal_LossFwdReferenceIdeal [hLossFwdIdeal : Cert.LossFwdIdeal.Facts] [hLossFwdReferenceIdeal : Cert.LossFwdReferenceIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossFwdReferenceIdeal.nD Cert.LossFwdReferenceIdeal.τ Cert.LossFwdReferenceIdeal.sig) → Buf (Elt Ideal) ℓ) (g' : Dev Cert.LossFwdReferenceIdeal.nD → PrngReg), Pre_LossFwdIdeal m →
    (∀ c : Dev Cert.LossFwdIdeal.nD,
      m' ((c.tc : Thread Cert.LossFwdReferenceIdeal.nD Cert.LossFwdReferenceIdeal.τ).loc Cert.LossFwdReferenceIdeal.main_arg0) = m ((c.tc : Thread Cert.LossFwdIdeal.nD Cert.LossFwdIdeal.τ).loc Cert.LossFwdIdeal.main_arg0)
      ∧ m' ((c.tc : Thread Cert.LossFwdReferenceIdeal.nD Cert.LossFwdReferenceIdeal.τ).loc Cert.LossFwdReferenceIdeal.main_arg1) = m ((c.tc : Thread Cert.LossFwdIdeal.nD Cert.LossFwdIdeal.τ).loc Cert.LossFwdIdeal.main_arg1)
      ∧ m' ((c.tc : Thread Cert.LossFwdReferenceIdeal.nD Cert.LossFwdReferenceIdeal.τ).loc Cert.LossFwdReferenceIdeal.main_arg2) = m ((c.tc : Thread Cert.LossFwdIdeal.nD Cert.LossFwdIdeal.τ).loc Cert.LossFwdIdeal.main_arg2)
      ∧ m' ((c.tc : Thread Cert.LossFwdReferenceIdeal.nD Cert.LossFwdReferenceIdeal.τ).loc Cert.LossFwdReferenceIdeal.main_arg3) = m ((c.tc : Thread Cert.LossFwdIdeal.nD Cert.LossFwdIdeal.τ).loc Cert.LossFwdIdeal.main_arg3)
      ∧ m' ((c.tc : Thread Cert.LossFwdReferenceIdeal.nD Cert.LossFwdReferenceIdeal.τ).loc Cert.LossFwdReferenceIdeal.main_arg4) = m ((c.tc : Thread Cert.LossFwdIdeal.nD Cert.LossFwdIdeal.τ).loc Cert.LossFwdIdeal.main_arg4)) →
    ∃ (v0 : (c : Dev Cert.LossFwdIdeal.nD) → Buf (Elt Ideal) ((c.tc : Thread Cert.LossFwdIdeal.nD Cert.LossFwdIdeal.τ).loc Cert.LossFwdIdeal.main_v0_0)) (v1 : (c : Dev Cert.LossFwdIdeal.nD) → Buf (Elt Ideal) ((c.tc : Thread Cert.LossFwdIdeal.nD Cert.LossFwdIdeal.τ).loc Cert.LossFwdIdeal.main_v0_1)) (v2 : (c : Dev Cert.LossFwdIdeal.nD) → Buf (Elt Ideal) ((c.tc : Thread Cert.LossFwdIdeal.nD Cert.LossFwdIdeal.τ).loc Cert.LossFwdIdeal.main_v0_2)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v0_0) = v0 c
          ∧ r.2.mem ((c.tc : Thread Cert.LossFwdIdeal.nD Cert.LossFwdIdeal.τ).loc Cert.LossFwdIdeal.main_v0_1) = v1 c
          ∧ r.2.mem ((c.tc : Thread Cert.LossFwdIdeal.nD Cert.LossFwdIdeal.τ).loc Cert.LossFwdIdeal.main_v0_2) = v2 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
          ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
          ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
          ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4))
      ∧ θ_run (Cert.LossFwdReferenceIdeal.defs (F := Ideal)) (onTc (τ := Cert.LossFwdReferenceIdeal.τ) (Cert.LossFwdReferenceIdeal.main (F := Ideal))) ⟨m', fun _ => 0, g'⟩ (fun r => ∀ c : Dev Cert.LossFwdReferenceIdeal.nD,
          r.2.mem ((c.tc : Thread Cert.LossFwdReferenceIdeal.nD Cert.LossFwdReferenceIdeal.τ).loc Cert.LossFwdReferenceIdeal.main_v20) = v0 c
          ∧ r.2.mem ((c.tc : Thread Cert.LossFwdReferenceIdeal.nD Cert.LossFwdReferenceIdeal.τ).loc Cert.LossFwdReferenceIdeal.main_v2) = v1 c
          ∧ r.2.mem ((c.tc : Thread Cert.LossFwdReferenceIdeal.nD Cert.LossFwdReferenceIdeal.τ).loc Cert.LossFwdReferenceIdeal.main_v21) = v2 c
          ∧ r.2.mem ((c.tc : Thread Cert.LossFwdReferenceIdeal.nD Cert.LossFwdReferenceIdeal.τ).loc Cert.LossFwdReferenceIdeal.main_arg0) = m' ((c.tc : Thread Cert.LossFwdReferenceIdeal.nD Cert.LossFwdReferenceIdeal.τ).loc Cert.LossFwdReferenceIdeal.main_arg0)
          ∧ r.2.mem ((c.tc : Thread Cert.LossFwdReferenceIdeal.nD Cert.LossFwdReferenceIdeal.τ).loc Cert.LossFwdReferenceIdeal.main_arg1) = m' ((c.tc : Thread Cert.LossFwdReferenceIdeal.nD Cert.LossFwdReferenceIdeal.τ).loc Cert.LossFwdReferenceIdeal.main_arg1)
          ∧ r.2.mem ((c.tc : Thread Cert.LossFwdReferenceIdeal.nD Cert.LossFwdReferenceIdeal.τ).loc Cert.LossFwdReferenceIdeal.main_arg2) = m' ((c.tc : Thread Cert.LossFwdReferenceIdeal.nD Cert.LossFwdReferenceIdeal.τ).loc Cert.LossFwdReferenceIdeal.main_arg2)
          ∧ r.2.mem ((c.tc : Thread Cert.LossFwdReferenceIdeal.nD Cert.LossFwdReferenceIdeal.τ).loc Cert.LossFwdReferenceIdeal.main_arg3) = m' ((c.tc : Thread Cert.LossFwdReferenceIdeal.nD Cert.LossFwdReferenceIdeal.τ).loc Cert.LossFwdReferenceIdeal.main_arg3)
          ∧ r.2.mem ((c.tc : Thread Cert.LossFwdReferenceIdeal.nD Cert.LossFwdReferenceIdeal.τ).loc Cert.LossFwdReferenceIdeal.main_arg4) = m' ((c.tc : Thread Cert.LossFwdReferenceIdeal.nD Cert.LossFwdReferenceIdeal.τ).loc Cert.LossFwdReferenceIdeal.main_arg4))

def preserves_ModBwd_ModBwdIdeal : Prop :=
  True

def algebraic_ModBwdIdeal_ModBwdReferenceIdeal [hModBwdIdeal : Cert.ModBwdIdeal.Facts] [hModBwdReferenceIdeal : Cert.ModBwdReferenceIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdReferenceIdeal.nD Cert.ModBwdReferenceIdeal.τ Cert.ModBwdReferenceIdeal.sig) → Buf (Elt Ideal) ℓ) (g' : Dev Cert.ModBwdReferenceIdeal.nD → PrngReg), Pre_ModBwdIdeal m →
    (∀ c : Dev Cert.ModBwdIdeal.nD,
      m' ((c.tc : Thread Cert.ModBwdReferenceIdeal.nD Cert.ModBwdReferenceIdeal.τ).loc Cert.ModBwdReferenceIdeal.main_arg0) = m ((c.tc : Thread Cert.ModBwdIdeal.nD Cert.ModBwdIdeal.τ).loc Cert.ModBwdIdeal.main_arg0)
      ∧ m' ((c.tc : Thread Cert.ModBwdReferenceIdeal.nD Cert.ModBwdReferenceIdeal.τ).loc Cert.ModBwdReferenceIdeal.main_arg1) = m ((c.tc : Thread Cert.ModBwdIdeal.nD Cert.ModBwdIdeal.τ).loc Cert.ModBwdIdeal.main_arg1)) →
    ∃ (v0 : (c : Dev Cert.ModBwdIdeal.nD) → Buf (Elt Ideal) ((c.tc : Thread Cert.ModBwdIdeal.nD Cert.ModBwdIdeal.τ).loc Cert.ModBwdIdeal.main_v0)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0) = v0 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1))
      ∧ θ_run (Cert.ModBwdReferenceIdeal.defs (F := Ideal)) (onTc (τ := Cert.ModBwdReferenceIdeal.τ) (Cert.ModBwdReferenceIdeal.main (F := Ideal))) ⟨m', fun _ => 0, g'⟩ (fun r => ∀ c : Dev Cert.ModBwdReferenceIdeal.nD,
          r.2.mem ((c.tc : Thread Cert.ModBwdReferenceIdeal.nD Cert.ModBwdReferenceIdeal.τ).loc Cert.ModBwdReferenceIdeal.main_v6) = v0 c
          ∧ r.2.mem ((c.tc : Thread Cert.ModBwdReferenceIdeal.nD Cert.ModBwdReferenceIdeal.τ).loc Cert.ModBwdReferenceIdeal.main_arg0) = m' ((c.tc : Thread Cert.ModBwdReferenceIdeal.nD Cert.ModBwdReferenceIdeal.τ).loc Cert.ModBwdReferenceIdeal.main_arg0)
          ∧ r.2.mem ((c.tc : Thread Cert.ModBwdReferenceIdeal.nD Cert.ModBwdReferenceIdeal.τ).loc Cert.ModBwdReferenceIdeal.main_arg1) = m' ((c.tc : Thread Cert.ModBwdReferenceIdeal.nD Cert.ModBwdReferenceIdeal.τ).loc Cert.ModBwdReferenceIdeal.main_arg1))

def preserves_AdamMod_AdamModIdeal : Prop :=
  True

def algebraic_AdamModIdeal_AdamModReferenceIdeal [hAdamModIdeal : Cert.AdamModIdeal.Facts] [hAdamModReferenceIdeal : Cert.AdamModReferenceIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModReferenceIdeal.nD Cert.AdamModReferenceIdeal.τ Cert.AdamModReferenceIdeal.sig) → Buf (Elt Ideal) ℓ) (g' : Dev Cert.AdamModReferenceIdeal.nD → PrngReg), Pre_AdamModIdeal m →
    (∀ c : Dev Cert.AdamModIdeal.nD,
      m' ((c.tc : Thread Cert.AdamModReferenceIdeal.nD Cert.AdamModReferenceIdeal.τ).loc Cert.AdamModReferenceIdeal.main_arg0) = m ((c.tc : Thread Cert.AdamModIdeal.nD Cert.AdamModIdeal.τ).loc Cert.AdamModIdeal.main_arg0)
      ∧ m' ((c.tc : Thread Cert.AdamModReferenceIdeal.nD Cert.AdamModReferenceIdeal.τ).loc Cert.AdamModReferenceIdeal.main_arg1) = m ((c.tc : Thread Cert.AdamModIdeal.nD Cert.AdamModIdeal.τ).loc Cert.AdamModIdeal.main_arg1)
      ∧ m' ((c.tc : Thread Cert.AdamModReferenceIdeal.nD Cert.AdamModReferenceIdeal.τ).loc Cert.AdamModReferenceIdeal.main_arg2) = m ((c.tc : Thread Cert.AdamModIdeal.nD Cert.AdamModIdeal.τ).loc Cert.AdamModIdeal.main_arg2)
      ∧ m' ((c.tc : Thread Cert.AdamModReferenceIdeal.nD Cert.AdamModReferenceIdeal.τ).loc Cert.AdamModReferenceIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModReferenceIdeal.defs (F := Ideal)) (onTc (τ := Cert.AdamModReferenceIdeal.τ) (Cert.AdamModReferenceIdeal.main (F := Ideal))) ⟨m', fun _ => 0, g'⟩ (fun r => ∀ c : Dev Cert.AdamModReferenceIdeal.nD,
          r.2.mem ((c.tc : Thread Cert.AdamModReferenceIdeal.nD Cert.AdamModReferenceIdeal.τ).loc Cert.AdamModReferenceIdeal.main_arg0) = v0 c
          ∧ r.2.mem ((c.tc : Thread Cert.AdamModReferenceIdeal.nD Cert.AdamModReferenceIdeal.τ).loc Cert.AdamModReferenceIdeal.main_v23) = v1 c
          ∧ r.2.mem ((c.tc : Thread Cert.AdamModReferenceIdeal.nD Cert.AdamModReferenceIdeal.τ).loc Cert.AdamModReferenceIdeal.main_v4) = v2 c
          ∧ r.2.mem ((c.tc : Thread Cert.AdamModReferenceIdeal.nD Cert.AdamModReferenceIdeal.τ).loc Cert.AdamModReferenceIdeal.main_v10) = v3 c
          ∧ r.2.mem ((c.tc : Thread Cert.AdamModReferenceIdeal.nD Cert.AdamModReferenceIdeal.τ).loc Cert.AdamModReferenceIdeal.main_arg0) = m' ((c.tc : Thread Cert.AdamModReferenceIdeal.nD Cert.AdamModReferenceIdeal.τ).loc Cert.AdamModReferenceIdeal.main_arg0)
          ∧ r.2.mem ((c.tc : Thread Cert.AdamModReferenceIdeal.nD Cert.AdamModReferenceIdeal.τ).loc Cert.AdamModReferenceIdeal.main_arg1) = m' ((c.tc : Thread Cert.AdamModReferenceIdeal.nD Cert.AdamModReferenceIdeal.τ).loc Cert.AdamModReferenceIdeal.main_arg1)
          ∧ r.2.mem ((c.tc : Thread Cert.AdamModReferenceIdeal.nD Cert.AdamModReferenceIdeal.τ).loc Cert.AdamModReferenceIdeal.main_arg2) = m' ((c.tc : Thread Cert.AdamModReferenceIdeal.nD Cert.AdamModReferenceIdeal.τ).loc Cert.AdamModReferenceIdeal.main_arg2)
          ∧ r.2.mem ((c.tc : Thread Cert.AdamModReferenceIdeal.nD Cert.AdamModReferenceIdeal.τ).loc Cert.AdamModReferenceIdeal.main_arg3) = m' ((c.tc : Thread Cert.AdamModReferenceIdeal.nD Cert.AdamModReferenceIdeal.τ).loc Cert.AdamModReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_arg0) = v0 c
          ∧ r.2.mem ((c.tc : Thread Cert.AdamConvReferenceIdeal.nD Cert.AdamConvReferenceIdeal.τ).loc Cert.AdamConvReferenceIdeal.main_v23) = v1 c
          ∧ r.2.mem ((c.tc : Thread Cert.AdamConvReferenceIdeal.nD Cert.AdamConvReferenceIdeal.τ).loc Cert.AdamConvReferenceIdeal.main_v4) = v2 c
          ∧ r.2.mem ((c.tc : Thread Cert.AdamConvReferenceIdeal.nD Cert.AdamConvReferenceIdeal.τ).loc Cert.AdamConvReferenceIdeal.main_v10) = v3 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v0) = v0 c
          ∧ r.2.mem ((c.tc : Thread Cert.AdamInReferenceIdeal.nD Cert.AdamInReferenceIdeal.τ).loc Cert.AdamInReferenceIdeal.main_v24) = v1 c
          ∧ r.2.mem ((c.tc : Thread Cert.AdamInReferenceIdeal.nD Cert.AdamInReferenceIdeal.τ).loc Cert.AdamInReferenceIdeal.main_v5) = v2 c
          ∧ r.2.mem ((c.tc : Thread Cert.AdamInReferenceIdeal.nD Cert.AdamInReferenceIdeal.τ).loc Cert.AdamInReferenceIdeal.main_v11) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v0) = v0 c
          ∧ r.2.mem ((c.tc : Thread Cert.AdamOutReferenceIdeal.nD Cert.AdamOutReferenceIdeal.τ).loc Cert.AdamOutReferenceIdeal.main_v24) = v1 c
          ∧ r.2.mem ((c.tc : Thread Cert.AdamOutReferenceIdeal.nD Cert.AdamOutReferenceIdeal.τ).loc Cert.AdamOutReferenceIdeal.main_v5) = v2 c
          ∧ r.2.mem ((c.tc : Thread Cert.AdamOutReferenceIdeal.nD Cert.AdamOutReferenceIdeal.τ).loc Cert.AdamOutReferenceIdeal.main_v11) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamFfnIn_AdamFfnInIdeal : Prop :=
  True

def algebraic_AdamFfnInIdeal_AdamFfnInReferenceIdeal [hAdamFfnInIdeal : Cert.AdamFfnInIdeal.Facts] [hAdamFfnInReferenceIdeal : Cert.AdamFfnInReferenceIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInReferenceIdeal.nD Cert.AdamFfnInReferenceIdeal.τ Cert.AdamFfnInReferenceIdeal.sig) → Buf (Elt Ideal) ℓ) (g' : Dev Cert.AdamFfnInReferenceIdeal.nD → PrngReg), Pre_AdamFfnInIdeal m →
    (∀ c : Dev Cert.AdamFfnInIdeal.nD,
      m' ((c.tc : Thread Cert.AdamFfnInReferenceIdeal.nD Cert.AdamFfnInReferenceIdeal.τ).loc Cert.AdamFfnInReferenceIdeal.main_arg0) = m ((c.tc : Thread Cert.AdamFfnInIdeal.nD Cert.AdamFfnInIdeal.τ).loc Cert.AdamFfnInIdeal.main_arg0)
      ∧ m' ((c.tc : Thread Cert.AdamFfnInReferenceIdeal.nD Cert.AdamFfnInReferenceIdeal.τ).loc Cert.AdamFfnInReferenceIdeal.main_arg1) = m ((c.tc : Thread Cert.AdamFfnInIdeal.nD Cert.AdamFfnInIdeal.τ).loc Cert.AdamFfnInIdeal.main_arg1)
      ∧ m' ((c.tc : Thread Cert.AdamFfnInReferenceIdeal.nD Cert.AdamFfnInReferenceIdeal.τ).loc Cert.AdamFfnInReferenceIdeal.main_arg2) = m ((c.tc : Thread Cert.AdamFfnInIdeal.nD Cert.AdamFfnInIdeal.τ).loc Cert.AdamFfnInIdeal.main_arg2)
      ∧ m' ((c.tc : Thread Cert.AdamFfnInReferenceIdeal.nD Cert.AdamFfnInReferenceIdeal.τ).loc Cert.AdamFfnInReferenceIdeal.main_arg3) = m ((c.tc : Thread Cert.AdamFfnInIdeal.nD Cert.AdamFfnInIdeal.τ).loc Cert.AdamFfnInIdeal.main_arg3)
      ∧ m' ((c.tc : Thread Cert.AdamFfnInReferenceIdeal.nD Cert.AdamFfnInReferenceIdeal.τ).loc Cert.AdamFfnInReferenceIdeal.main_arg4) = m ((c.tc : Thread Cert.AdamFfnInIdeal.nD Cert.AdamFfnInIdeal.τ).loc Cert.AdamFfnInIdeal.main_arg4)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ θ_run (Cert.AdamFfnInReferenceIdeal.defs (F := Ideal)) (onTc (τ := Cert.AdamFfnInReferenceIdeal.τ) (Cert.AdamFfnInReferenceIdeal.main (F := Ideal))) ⟨m', fun _ => 0, g'⟩ (fun r => ∀ c : Dev Cert.AdamFfnInReferenceIdeal.nD,
          r.2.mem ((c.tc : Thread Cert.AdamFfnInReferenceIdeal.nD Cert.AdamFfnInReferenceIdeal.τ).loc Cert.AdamFfnInReferenceIdeal.main_v0) = v0 c
          ∧ r.2.mem ((c.tc : Thread Cert.AdamFfnInReferenceIdeal.nD Cert.AdamFfnInReferenceIdeal.τ).loc Cert.AdamFfnInReferenceIdeal.main_v24) = v1 c
          ∧ r.2.mem ((c.tc : Thread Cert.AdamFfnInReferenceIdeal.nD Cert.AdamFfnInReferenceIdeal.τ).loc Cert.AdamFfnInReferenceIdeal.main_v5) = v2 c
          ∧ r.2.mem ((c.tc : Thread Cert.AdamFfnInReferenceIdeal.nD Cert.AdamFfnInReferenceIdeal.τ).loc Cert.AdamFfnInReferenceIdeal.main_v11) = v3 c
          ∧ r.2.mem ((c.tc : Thread Cert.AdamFfnInReferenceIdeal.nD Cert.AdamFfnInReferenceIdeal.τ).loc Cert.AdamFfnInReferenceIdeal.main_arg0) = m' ((c.tc : Thread Cert.AdamFfnInReferenceIdeal.nD Cert.AdamFfnInReferenceIdeal.τ).loc Cert.AdamFfnInReferenceIdeal.main_arg0)
          ∧ r.2.mem ((c.tc : Thread Cert.AdamFfnInReferenceIdeal.nD Cert.AdamFfnInReferenceIdeal.τ).loc Cert.AdamFfnInReferenceIdeal.main_arg1) = m' ((c.tc : Thread Cert.AdamFfnInReferenceIdeal.nD Cert.AdamFfnInReferenceIdeal.τ).loc Cert.AdamFfnInReferenceIdeal.main_arg1)
          ∧ r.2.mem ((c.tc : Thread Cert.AdamFfnInReferenceIdeal.nD Cert.AdamFfnInReferenceIdeal.τ).loc Cert.AdamFfnInReferenceIdeal.main_arg2) = m' ((c.tc : Thread Cert.AdamFfnInReferenceIdeal.nD Cert.AdamFfnInReferenceIdeal.τ).loc Cert.AdamFfnInReferenceIdeal.main_arg2)
          ∧ r.2.mem ((c.tc : Thread Cert.AdamFfnInReferenceIdeal.nD Cert.AdamFfnInReferenceIdeal.τ).loc Cert.AdamFfnInReferenceIdeal.main_arg3) = m' ((c.tc : Thread Cert.AdamFfnInReferenceIdeal.nD Cert.AdamFfnInReferenceIdeal.τ).loc Cert.AdamFfnInReferenceIdeal.main_arg3)
          ∧ r.2.mem ((c.tc : Thread Cert.AdamFfnInReferenceIdeal.nD Cert.AdamFfnInReferenceIdeal.τ).loc Cert.AdamFfnInReferenceIdeal.main_arg4) = m' ((c.tc : Thread Cert.AdamFfnInReferenceIdeal.nD Cert.AdamFfnInReferenceIdeal.τ).loc Cert.AdamFfnInReferenceIdeal.main_arg4))

def preserves_AdamFfnOut_AdamFfnOutIdeal : Prop :=
  True

def algebraic_AdamFfnOutIdeal_AdamFfnOutReferenceIdeal [hAdamFfnOutIdeal : Cert.AdamFfnOutIdeal.Facts] [hAdamFfnOutReferenceIdeal : Cert.AdamFfnOutReferenceIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutReferenceIdeal.nD Cert.AdamFfnOutReferenceIdeal.τ Cert.AdamFfnOutReferenceIdeal.sig) → Buf (Elt Ideal) ℓ) (g' : Dev Cert.AdamFfnOutReferenceIdeal.nD → PrngReg), Pre_AdamFfnOutIdeal m →
    (∀ c : Dev Cert.AdamFfnOutIdeal.nD,
      m' ((c.tc : Thread Cert.AdamFfnOutReferenceIdeal.nD Cert.AdamFfnOutReferenceIdeal.τ).loc Cert.AdamFfnOutReferenceIdeal.main_arg0) = m ((c.tc : Thread Cert.AdamFfnOutIdeal.nD Cert.AdamFfnOutIdeal.τ).loc Cert.AdamFfnOutIdeal.main_arg0)
      ∧ m' ((c.tc : Thread Cert.AdamFfnOutReferenceIdeal.nD Cert.AdamFfnOutReferenceIdeal.τ).loc Cert.AdamFfnOutReferenceIdeal.main_arg1) = m ((c.tc : Thread Cert.AdamFfnOutIdeal.nD Cert.AdamFfnOutIdeal.τ).loc Cert.AdamFfnOutIdeal.main_arg1)
      ∧ m' ((c.tc : Thread Cert.AdamFfnOutReferenceIdeal.nD Cert.AdamFfnOutReferenceIdeal.τ).loc Cert.AdamFfnOutReferenceIdeal.main_arg2) = m ((c.tc : Thread Cert.AdamFfnOutIdeal.nD Cert.AdamFfnOutIdeal.τ).loc Cert.AdamFfnOutIdeal.main_arg2)
      ∧ m' ((c.tc : Thread Cert.AdamFfnOutReferenceIdeal.nD Cert.AdamFfnOutReferenceIdeal.τ).loc Cert.AdamFfnOutReferenceIdeal.main_arg3) = m ((c.tc : Thread Cert.AdamFfnOutIdeal.nD Cert.AdamFfnOutIdeal.τ).loc Cert.AdamFfnOutIdeal.main_arg3)
      ∧ m' ((c.tc : Thread Cert.AdamFfnOutReferenceIdeal.nD Cert.AdamFfnOutReferenceIdeal.τ).loc Cert.AdamFfnOutReferenceIdeal.main_arg4) = m ((c.tc : Thread Cert.AdamFfnOutIdeal.nD Cert.AdamFfnOutIdeal.τ).loc Cert.AdamFfnOutIdeal.main_arg4)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ θ_run (Cert.AdamFfnOutReferenceIdeal.defs (F := Ideal)) (onTc (τ := Cert.AdamFfnOutReferenceIdeal.τ) (Cert.AdamFfnOutReferenceIdeal.main (F := Ideal))) ⟨m', fun _ => 0, g'⟩ (fun r => ∀ c : Dev Cert.AdamFfnOutReferenceIdeal.nD,
          r.2.mem ((c.tc : Thread Cert.AdamFfnOutReferenceIdeal.nD Cert.AdamFfnOutReferenceIdeal.τ).loc Cert.AdamFfnOutReferenceIdeal.main_v0) = v0 c
          ∧ r.2.mem ((c.tc : Thread Cert.AdamFfnOutReferenceIdeal.nD Cert.AdamFfnOutReferenceIdeal.τ).loc Cert.AdamFfnOutReferenceIdeal.main_v24) = v1 c
          ∧ r.2.mem ((c.tc : Thread Cert.AdamFfnOutReferenceIdeal.nD Cert.AdamFfnOutReferenceIdeal.τ).loc Cert.AdamFfnOutReferenceIdeal.main_v5) = v2 c
          ∧ r.2.mem ((c.tc : Thread Cert.AdamFfnOutReferenceIdeal.nD Cert.AdamFfnOutReferenceIdeal.τ).loc Cert.AdamFfnOutReferenceIdeal.main_v11) = v3 c
          ∧ r.2.mem ((c.tc : Thread Cert.AdamFfnOutReferenceIdeal.nD Cert.AdamFfnOutReferenceIdeal.τ).loc Cert.AdamFfnOutReferenceIdeal.main_arg0) = m' ((c.tc : Thread Cert.AdamFfnOutReferenceIdeal.nD Cert.AdamFfnOutReferenceIdeal.τ).loc Cert.AdamFfnOutReferenceIdeal.main_arg0)
          ∧ r.2.mem ((c.tc : Thread Cert.AdamFfnOutReferenceIdeal.nD Cert.AdamFfnOutReferenceIdeal.τ).loc Cert.AdamFfnOutReferenceIdeal.main_arg1) = m' ((c.tc : Thread Cert.AdamFfnOutReferenceIdeal.nD Cert.AdamFfnOutReferenceIdeal.τ).loc Cert.AdamFfnOutReferenceIdeal.main_arg1)
          ∧ r.2.mem ((c.tc : Thread Cert.AdamFfnOutReferenceIdeal.nD Cert.AdamFfnOutReferenceIdeal.τ).loc Cert.AdamFfnOutReferenceIdeal.main_arg2) = m' ((c.tc : Thread Cert.AdamFfnOutReferenceIdeal.nD Cert.AdamFfnOutReferenceIdeal.τ).loc Cert.AdamFfnOutReferenceIdeal.main_arg2)
          ∧ r.2.mem ((c.tc : Thread Cert.AdamFfnOutReferenceIdeal.nD Cert.AdamFfnOutReferenceIdeal.τ).loc Cert.AdamFfnOutReferenceIdeal.main_arg3) = m' ((c.tc : Thread Cert.AdamFfnOutReferenceIdeal.nD Cert.AdamFfnOutReferenceIdeal.τ).loc Cert.AdamFfnOutReferenceIdeal.main_arg3)
          ∧ r.2.mem ((c.tc : Thread Cert.AdamFfnOutReferenceIdeal.nD Cert.AdamFfnOutReferenceIdeal.τ).loc Cert.AdamFfnOutReferenceIdeal.main_arg4) = m' ((c.tc : Thread Cert.AdamFfnOutReferenceIdeal.nD Cert.AdamFfnOutReferenceIdeal.τ).loc Cert.AdamFfnOutReferenceIdeal.main_arg4))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_ConvBwd_ConvBwdIdeal : Prop :=
  True

def algebraic_ConvBwdIdeal_ConvBwdReferenceIdeal_pre_finite_conv [hConvBwdIdeal : Cert.ConvBwdIdeal.Facts] [hConvBwdReferenceIdeal : Cert.ConvBwdReferenceIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdReferenceIdeal.nD Cert.ConvBwdReferenceIdeal.τ Cert.ConvBwdReferenceIdeal.sig) → Buf (Elt Ideal) ℓ) (g' : Dev Cert.ConvBwdReferenceIdeal.nD → PrngReg), Pre_ConvBwdIdeal_finite_conv m →
    (∀ c : Dev Cert.ConvBwdIdeal.nD,
      m' ((c.tc : Thread Cert.ConvBwdReferenceIdeal.nD Cert.ConvBwdReferenceIdeal.τ).loc Cert.ConvBwdReferenceIdeal.main_arg0) = m ((c.tc : Thread Cert.ConvBwdIdeal.nD Cert.ConvBwdIdeal.τ).loc Cert.ConvBwdIdeal.main_arg0)
      ∧ m' ((c.tc : Thread Cert.ConvBwdReferenceIdeal.nD Cert.ConvBwdReferenceIdeal.τ).loc Cert.ConvBwdReferenceIdeal.main_arg1) = m ((c.tc : Thread Cert.ConvBwdIdeal.nD Cert.ConvBwdIdeal.τ).loc Cert.ConvBwdIdeal.main_arg1)
      ∧ m' ((c.tc : Thread Cert.ConvBwdReferenceIdeal.nD Cert.ConvBwdReferenceIdeal.τ).loc Cert.ConvBwdReferenceIdeal.main_arg2) = m ((c.tc : Thread Cert.ConvBwdIdeal.nD Cert.ConvBwdIdeal.τ).loc Cert.ConvBwdIdeal.main_arg2)
      ∧ m' ((c.tc : Thread Cert.ConvBwdReferenceIdeal.nD Cert.ConvBwdReferenceIdeal.τ).loc Cert.ConvBwdReferenceIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdReferenceIdeal.defs (F := Ideal)) (onTc (τ := Cert.ConvBwdReferenceIdeal.τ) (Cert.ConvBwdReferenceIdeal.main (F := Ideal))) ⟨m', fun _ => 0, g'⟩ (fun r => ∀ c : Dev Cert.ConvBwdReferenceIdeal.nD,
          r.2.mem ((c.tc : Thread Cert.ConvBwdReferenceIdeal.nD Cert.ConvBwdReferenceIdeal.τ).loc Cert.ConvBwdReferenceIdeal.main_v65) = v0 c
          ∧ r.2.mem ((c.tc : Thread Cert.ConvBwdReferenceIdeal.nD Cert.ConvBwdReferenceIdeal.τ).loc Cert.ConvBwdReferenceIdeal.main_v66) = v1 c
          ∧ r.2.mem ((c.tc : Thread Cert.ConvBwdReferenceIdeal.nD Cert.ConvBwdReferenceIdeal.τ).loc Cert.ConvBwdReferenceIdeal.main_arg0) = m' ((c.tc : Thread Cert.ConvBwdReferenceIdeal.nD Cert.ConvBwdReferenceIdeal.τ).loc Cert.ConvBwdReferenceIdeal.main_arg0)
          ∧ r.2.mem ((c.tc : Thread Cert.ConvBwdReferenceIdeal.nD Cert.ConvBwdReferenceIdeal.τ).loc Cert.ConvBwdReferenceIdeal.main_arg1) = m' ((c.tc : Thread Cert.ConvBwdReferenceIdeal.nD Cert.ConvBwdReferenceIdeal.τ).loc Cert.ConvBwdReferenceIdeal.main_arg1)
          ∧ r.2.mem ((c.tc : Thread Cert.ConvBwdReferenceIdeal.nD Cert.ConvBwdReferenceIdeal.τ).loc Cert.ConvBwdReferenceIdeal.main_arg2) = m' ((c.tc : Thread Cert.ConvBwdReferenceIdeal.nD Cert.ConvBwdReferenceIdeal.τ).loc Cert.ConvBwdReferenceIdeal.main_arg2)
          ∧ r.2.mem ((c.tc : Thread Cert.ConvBwdReferenceIdeal.nD Cert.ConvBwdReferenceIdeal.τ).loc Cert.ConvBwdReferenceIdeal.main_arg3) = m' ((c.tc : Thread Cert.ConvBwdReferenceIdeal.nD Cert.ConvBwdReferenceIdeal.τ).loc Cert.ConvBwdReferenceIdeal.main_arg3))

def preserves_SwBwd_SwBwdIdeal : Prop :=
  True

def algebraic_SwBwdIdeal_SwBwdReferenceIdeal_pre_finite_sw [hSwBwdIdeal : Cert.SwBwdIdeal.Facts] [hSwBwdReferenceIdeal : Cert.SwBwdReferenceIdeal.Facts] [hPre_finite_sw : Cert.Pre_finite_sw.Facts] : Prop :=
  ∀ (m : (ℓ : Loc Cert.SwBwdIdeal.nD Cert.SwBwdIdeal.τ Cert.SwBwdIdeal.sig) → Buf (Elt Ideal) ℓ) (g : Dev Cert.SwBwdIdeal.nD → PrngReg)
    (m' : (ℓ : Loc Cert.SwBwdReferenceIdeal.nD Cert.SwBwdReferenceIdeal.τ Cert.SwBwdReferenceIdeal.sig) → Buf (Elt Ideal) ℓ) (g' : Dev Cert.SwBwdReferenceIdeal.nD → PrngReg), Pre_SwBwdIdeal_finite_sw m →
    (∀ c : Dev Cert.SwBwdIdeal.nD,
      m' ((c.tc : Thread Cert.SwBwdReferenceIdeal.nD Cert.SwBwdReferenceIdeal.τ).loc Cert.SwBwdReferenceIdeal.main_arg0) = m ((c.tc : Thread Cert.SwBwdIdeal.nD Cert.SwBwdIdeal.τ).loc Cert.SwBwdIdeal.main_arg0)
      ∧ m' ((c.tc : Thread Cert.SwBwdReferenceIdeal.nD Cert.SwBwdReferenceIdeal.τ).loc Cert.SwBwdReferenceIdeal.main_arg1) = m ((c.tc : Thread Cert.SwBwdIdeal.nD Cert.SwBwdIdeal.τ).loc Cert.SwBwdIdeal.main_arg1)
      ∧ m' ((c.tc : Thread Cert.SwBwdReferenceIdeal.nD Cert.SwBwdReferenceIdeal.τ).loc Cert.SwBwdReferenceIdeal.main_arg2) = m ((c.tc : Thread Cert.SwBwdIdeal.nD Cert.SwBwdIdeal.τ).loc Cert.SwBwdIdeal.main_arg2)
      ∧ m' ((c.tc : Thread Cert.SwBwdReferenceIdeal.nD Cert.SwBwdReferenceIdeal.τ).loc Cert.SwBwdReferenceIdeal.main_arg3) = m ((c.tc : Thread Cert.SwBwdIdeal.nD Cert.SwBwdIdeal.τ).loc Cert.SwBwdIdeal.main_arg3)
      ∧ m' ((c.tc : Thread Cert.SwBwdReferenceIdeal.nD Cert.SwBwdReferenceIdeal.τ).loc Cert.SwBwdReferenceIdeal.main_arg4) = m ((c.tc : Thread Cert.SwBwdIdeal.nD Cert.SwBwdIdeal.τ).loc Cert.SwBwdIdeal.main_arg4)
      ∧ m' ((c.tc : Thread Cert.SwBwdReferenceIdeal.nD Cert.SwBwdReferenceIdeal.τ).loc Cert.SwBwdReferenceIdeal.main_arg5) = m ((c.tc : Thread Cert.SwBwdIdeal.nD Cert.SwBwdIdeal.τ).loc Cert.SwBwdIdeal.main_arg5)
      ∧ m' ((c.tc : Thread Cert.SwBwdReferenceIdeal.nD Cert.SwBwdReferenceIdeal.τ).loc Cert.SwBwdReferenceIdeal.main_arg6) = m ((c.tc : Thread Cert.SwBwdIdeal.nD Cert.SwBwdIdeal.τ).loc Cert.SwBwdIdeal.main_arg6)
      ∧ m' ((c.tc : Thread Cert.SwBwdReferenceIdeal.nD Cert.SwBwdReferenceIdeal.τ).loc Cert.SwBwdReferenceIdeal.main_arg7) = m ((c.tc : Thread Cert.SwBwdIdeal.nD Cert.SwBwdIdeal.τ).loc Cert.SwBwdIdeal.main_arg7)) →
    ∃ (v0 : (c : Dev Cert.SwBwdIdeal.nD) → Buf (Elt Ideal) ((c.tc : Thread Cert.SwBwdIdeal.nD Cert.SwBwdIdeal.τ).loc Cert.SwBwdIdeal.main_v20_0)) (v1 : (c : Dev Cert.SwBwdIdeal.nD) → Buf (Elt Ideal) ((c.tc : Thread Cert.SwBwdIdeal.nD Cert.SwBwdIdeal.τ).loc Cert.SwBwdIdeal.main_v20_1)),
      θ_run (Cert.SwBwdIdeal.defs (F := Ideal)) (onTc (τ := Cert.SwBwdIdeal.τ) (Cert.SwBwdIdeal.main (F := Ideal))) ⟨m, fun _ => 0, g⟩ (fun r => ∀ c : Dev Cert.SwBwdIdeal.nD,
          r.2.mem ((c.tc : Thread Cert.SwBwdIdeal.nD Cert.SwBwdIdeal.τ).loc Cert.SwBwdIdeal.main_v20_0) = v0 c
          ∧ r.2.mem ((c.tc : Thread Cert.SwBwdIdeal.nD Cert.SwBwdIdeal.τ).loc Cert.SwBwdIdeal.main_v20_1) = v1 c
          ∧ r.2.mem ((c.tc : Thread Cert.SwBwdIdeal.nD Cert.SwBwdIdeal.τ).loc Cert.SwBwdIdeal.main_arg0) = m ((c.tc : Thread Cert.SwBwdIdeal.nD Cert.SwBwdIdeal.τ).loc Cert.SwBwdIdeal.main_arg0)
          ∧ r.2.mem ((c.tc : Thread Cert.SwBwdIdeal.nD Cert.SwBwdIdeal.τ).loc Cert.SwBwdIdeal.main_arg1) = m ((c.tc : Thread Cert.SwBwdIdeal.nD Cert.SwBwdIdeal.τ).loc Cert.SwBwdIdeal.main_arg1)
          ∧ r.2.mem ((c.tc : Thread Cert.SwBwdIdeal.nD Cert.SwBwdIdeal.τ).loc Cert.SwBwdIdeal.main_arg2) = m ((c.tc : Thread Cert.SwBwdIdeal.nD Cert.SwBwdIdeal.τ).loc Cert.SwBwdIdeal.main_arg2)
          ∧ r.2.mem ((c.tc : Thread Cert.SwBwdIdeal.nD Cert.SwBwdIdeal.τ).loc Cert.SwBwdIdeal.main_arg3) = m ((c.tc : Thread Cert.SwBwdIdeal.nD Cert.SwBwdIdeal.τ).loc Cert.SwBwdIdeal.main_arg3)
          ∧ r.2.mem ((c.tc : Thread Cert.SwBwdIdeal.nD Cert.SwBwdIdeal.τ).loc Cert.SwBwdIdeal.main_arg4) = m ((c.tc : Thread Cert.SwBwdIdeal.nD Cert.SwBwdIdeal.τ).loc Cert.SwBwdIdeal.main_arg4)
          ∧ r.2.mem ((c.tc : Thread Cert.SwBwdIdeal.nD Cert.SwBwdIdeal.τ).loc Cert.SwBwdIdeal.main_arg5) = m ((c.tc : Thread Cert.SwBwdIdeal.nD Cert.SwBwdIdeal.τ).loc Cert.SwBwdIdeal.main_arg5)
          ∧ r.2.mem ((c.tc : Thread Cert.SwBwdIdeal.nD Cert.SwBwdIdeal.τ).loc Cert.SwBwdIdeal.main_arg6) = m ((c.tc : Thread Cert.SwBwdIdeal.nD Cert.SwBwdIdeal.τ).loc Cert.SwBwdIdeal.main_arg6)
          ∧ r.2.mem ((c.tc : Thread Cert.SwBwdIdeal.nD Cert.SwBwdIdeal.τ).loc Cert.SwBwdIdeal.main_arg7) = m ((c.tc : Thread Cert.SwBwdIdeal.nD Cert.SwBwdIdeal.τ).loc Cert.SwBwdIdeal.main_arg7))
      ∧ θ_run (Cert.SwBwdReferenceIdeal.defs (F := Ideal)) (onTc (τ := Cert.SwBwdReferenceIdeal.τ) (Cert.SwBwdReferenceIdeal.main (F := Ideal))) ⟨m', fun _ => 0, g'⟩ (fun r => ∀ c : Dev Cert.SwBwdReferenceIdeal.nD,
          r.2.mem ((c.tc : Thread Cert.SwBwdReferenceIdeal.nD Cert.SwBwdReferenceIdeal.τ).loc Cert.SwBwdReferenceIdeal.main_v171) = v0 c
          ∧ r.2.mem ((c.tc : Thread Cert.SwBwdReferenceIdeal.nD Cert.SwBwdReferenceIdeal.τ).loc Cert.SwBwdReferenceIdeal.main_v176) = v1 c
          ∧ r.2.mem ((c.tc : Thread Cert.SwBwdReferenceIdeal.nD Cert.SwBwdReferenceIdeal.τ).loc Cert.SwBwdReferenceIdeal.main_arg0) = m' ((c.tc : Thread Cert.SwBwdReferenceIdeal.nD Cert.SwBwdReferenceIdeal.τ).loc Cert.SwBwdReferenceIdeal.main_arg0)
          ∧ r.2.mem ((c.tc : Thread Cert.SwBwdReferenceIdeal.nD Cert.SwBwdReferenceIdeal.τ).loc Cert.SwBwdReferenceIdeal.main_arg1) = m' ((c.tc : Thread Cert.SwBwdReferenceIdeal.nD Cert.SwBwdReferenceIdeal.τ).loc Cert.SwBwdReferenceIdeal.main_arg1)
          ∧ r.2.mem ((c.tc : Thread Cert.SwBwdReferenceIdeal.nD Cert.SwBwdReferenceIdeal.τ).loc Cert.SwBwdReferenceIdeal.main_arg2) = m' ((c.tc : Thread Cert.SwBwdReferenceIdeal.nD Cert.SwBwdReferenceIdeal.τ).loc Cert.SwBwdReferenceIdeal.main_arg2)
          ∧ r.2.mem ((c.tc : Thread Cert.SwBwdReferenceIdeal.nD Cert.SwBwdReferenceIdeal.τ).loc Cert.SwBwdReferenceIdeal.main_arg3) = m' ((c.tc : Thread Cert.SwBwdReferenceIdeal.nD Cert.SwBwdReferenceIdeal.τ).loc Cert.SwBwdReferenceIdeal.main_arg3)
          ∧ r.2.mem ((c.tc : Thread Cert.SwBwdReferenceIdeal.nD Cert.SwBwdReferenceIdeal.τ).loc Cert.SwBwdReferenceIdeal.main_arg4) = m' ((c.tc : Thread Cert.SwBwdReferenceIdeal.nD Cert.SwBwdReferenceIdeal.τ).loc Cert.SwBwdReferenceIdeal.main_arg4)
          ∧ r.2.mem ((c.tc : Thread Cert.SwBwdReferenceIdeal.nD Cert.SwBwdReferenceIdeal.τ).loc Cert.SwBwdReferenceIdeal.main_arg5) = m' ((c.tc : Thread Cert.SwBwdReferenceIdeal.nD Cert.SwBwdReferenceIdeal.τ).loc Cert.SwBwdReferenceIdeal.main_arg5)
          ∧ r.2.mem ((c.tc : Thread Cert.SwBwdReferenceIdeal.nD Cert.SwBwdReferenceIdeal.τ).loc Cert.SwBwdReferenceIdeal.main_arg6) = m' ((c.tc : Thread Cert.SwBwdReferenceIdeal.nD Cert.SwBwdReferenceIdeal.τ).loc Cert.SwBwdReferenceIdeal.main_arg6)
          ∧ r.2.mem ((c.tc : Thread Cert.SwBwdReferenceIdeal.nD Cert.SwBwdReferenceIdeal.τ).loc Cert.SwBwdReferenceIdeal.main_arg7) = m' ((c.tc : Thread Cert.SwBwdReferenceIdeal.nD Cert.SwBwdReferenceIdeal.τ).loc Cert.SwBwdReferenceIdeal.main_arg7))

def Claim : Prop :=
  ∃ (hKernel : Cert.Kernel.Facts) (hKernelIdeal : Cert.KernelIdeal.Facts) (hReferenceIdeal : Cert.ReferenceIdeal.Facts) (hWgIn : Cert.WgIn.Facts) (hWgInIdeal : Cert.WgInIdeal.Facts) (hWgInReferenceIdeal : Cert.WgInReferenceIdeal.Facts) (hWgOut : Cert.WgOut.Facts) (hWgOutIdeal : Cert.WgOutIdeal.Facts) (hWgOutReferenceIdeal : Cert.WgOutReferenceIdeal.Facts) (hWgFfnIn : Cert.WgFfnIn.Facts) (hWgFfnInIdeal : Cert.WgFfnInIdeal.Facts) (hWgFfnInReferenceIdeal : Cert.WgFfnInReferenceIdeal.Facts) (hWgFfnOut : Cert.WgFfnOut.Facts) (hWgFfnOutIdeal : Cert.WgFfnOutIdeal.Facts) (hWgFfnOutReferenceIdeal : Cert.WgFfnOutReferenceIdeal.Facts) (hInBwd : Cert.InBwd.Facts) (hInBwdIdeal : Cert.InBwdIdeal.Facts) (hInBwdReferenceIdeal : Cert.InBwdReferenceIdeal.Facts) (hFfnInBwd : Cert.FfnInBwd.Facts) (hFfnInBwdIdeal : Cert.FfnInBwdIdeal.Facts) (hFfnInBwdReferenceIdeal : Cert.FfnInBwdReferenceIdeal.Facts) (hOutBwd : Cert.OutBwd.Facts) (hOutBwdIdeal : Cert.OutBwdIdeal.Facts) (hOutBwdReferenceIdeal : Cert.OutBwdReferenceIdeal.Facts) (hFfnOutBwd : Cert.FfnOutBwd.Facts) (hFfnOutBwdIdeal : Cert.FfnOutBwdIdeal.Facts) (hFfnOutBwdReferenceIdeal : Cert.FfnOutBwdReferenceIdeal.Facts) (hInFwd : Cert.InFwd.Facts) (hInFwdIdeal : Cert.InFwdIdeal.Facts) (hInFwdReferenceIdeal : Cert.InFwdReferenceIdeal.Facts) (hFfnInFwd : Cert.FfnInFwd.Facts) (hFfnInFwdIdeal : Cert.FfnInFwdIdeal.Facts) (hFfnInFwdReferenceIdeal : Cert.FfnInFwdReferenceIdeal.Facts) (hOutFwd : Cert.OutFwd.Facts) (hOutFwdIdeal : Cert.OutFwdIdeal.Facts) (hOutFwdReferenceIdeal : Cert.OutFwdReferenceIdeal.Facts) (hFfnOutFwd : Cert.FfnOutFwd.Facts) (hFfnOutFwdIdeal : Cert.FfnOutFwdIdeal.Facts) (hFfnOutFwdReferenceIdeal : Cert.FfnOutFwdReferenceIdeal.Facts) (hLossFwd : Cert.LossFwd.Facts) (hLossFwdIdeal : Cert.LossFwdIdeal.Facts) (hLossFwdReferenceIdeal : Cert.LossFwdReferenceIdeal.Facts) (hModBwd : Cert.ModBwd.Facts) (hModBwdIdeal : Cert.ModBwdIdeal.Facts) (hModBwdReferenceIdeal : Cert.ModBwdReferenceIdeal.Facts) (hAdamMod : Cert.AdamMod.Facts) (hAdamModIdeal : Cert.AdamModIdeal.Facts) (hAdamModReferenceIdeal : Cert.AdamModReferenceIdeal.Facts) (hAdamConv : Cert.AdamConv.Facts) (hAdamConvIdeal : Cert.AdamConvIdeal.Facts) (hAdamConvReferenceIdeal : Cert.AdamConvReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hAdamFfnIn : Cert.AdamFfnIn.Facts) (hAdamFfnInIdeal : Cert.AdamFfnInIdeal.Facts) (hAdamFfnInReferenceIdeal : Cert.AdamFfnInReferenceIdeal.Facts) (hAdamFfnOut : Cert.AdamFfnOut.Facts) (hAdamFfnOutIdeal : Cert.AdamFfnOutIdeal.Facts) (hAdamFfnOutReferenceIdeal : Cert.AdamFfnOutReferenceIdeal.Facts) (hAdamSmall : Cert.AdamSmall.Facts) (hAdamSmallIdeal : Cert.AdamSmallIdeal.Facts) (hAdamSmallReferenceIdeal : Cert.AdamSmallReferenceIdeal.Facts) (hConvBwd : Cert.ConvBwd.Facts) (hConvBwdIdeal : Cert.ConvBwdIdeal.Facts) (hConvBwdReferenceIdeal : Cert.ConvBwdReferenceIdeal.Facts) (hSwBwd : Cert.SwBwd.Facts) (hSwBwdIdeal : Cert.SwBwdIdeal.Facts) (hSwBwdReferenceIdeal : Cert.SwBwdReferenceIdeal.Facts) (hPre_finite : Cert.Pre_finite.Facts) (hPre_finite_in : Cert.Pre_finite_in.Facts) (hPre_finite_ffn_in : Cert.Pre_finite_ffn_in.Facts) (hPre_finite_ffn_out : Cert.Pre_finite_ffn_out.Facts) (hPre_finite_conv : Cert.Pre_finite_conv.Facts) (hPre_finite_sw : Cert.Pre_finite_sw.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WgIn (hWgIn := hWgIn)
    ∧ quiescent_WgInIdeal (hWgInIdeal := hWgInIdeal)
    ∧ quiescent_WgInReferenceIdeal (hWgInReferenceIdeal := hWgInReferenceIdeal)
    ∧ quiescent_WgOut (hWgOut := hWgOut)
    ∧ quiescent_WgOutIdeal (hWgOutIdeal := hWgOutIdeal)
    ∧ quiescent_WgOutReferenceIdeal (hWgOutReferenceIdeal := hWgOutReferenceIdeal)
    ∧ quiescent_WgFfnIn (hWgFfnIn := hWgFfnIn)
    ∧ quiescent_WgFfnInIdeal (hWgFfnInIdeal := hWgFfnInIdeal)
    ∧ quiescent_WgFfnInReferenceIdeal (hWgFfnInReferenceIdeal := hWgFfnInReferenceIdeal)
    ∧ quiescent_WgFfnOut (hWgFfnOut := hWgFfnOut)
    ∧ quiescent_WgFfnOutIdeal (hWgFfnOutIdeal := hWgFfnOutIdeal)
    ∧ quiescent_WgFfnOutReferenceIdeal (hWgFfnOutReferenceIdeal := hWgFfnOutReferenceIdeal)
    ∧ quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InBwdReferenceIdeal (hInBwdReferenceIdeal := hInBwdReferenceIdeal)
    ∧ quiescent_InBwdReferenceIdeal_pre_finite_in (hInBwdReferenceIdeal := hInBwdReferenceIdeal) (hPre_finite_in := hPre_finite_in)
    ∧ quiescent_FfnInBwd (hFfnInBwd := hFfnInBwd)
    ∧ quiescent_FfnInBwdIdeal (hFfnInBwdIdeal := hFfnInBwdIdeal)
    ∧ quiescent_FfnInBwdIdeal_pre_finite_ffn_in (hFfnInBwdIdeal := hFfnInBwdIdeal) (hPre_finite_ffn_in := hPre_finite_ffn_in)
    ∧ quiescent_FfnInBwdReferenceIdeal (hFfnInBwdReferenceIdeal := hFfnInBwdReferenceIdeal)
    ∧ quiescent_FfnInBwdReferenceIdeal_pre_finite_ffn_in (hFfnInBwdReferenceIdeal := hFfnInBwdReferenceIdeal) (hPre_finite_ffn_in := hPre_finite_ffn_in)
    ∧ quiescent_OutBwd (hOutBwd := hOutBwd)
    ∧ quiescent_OutBwdIdeal (hOutBwdIdeal := hOutBwdIdeal)
    ∧ quiescent_OutBwdReferenceIdeal (hOutBwdReferenceIdeal := hOutBwdReferenceIdeal)
    ∧ quiescent_FfnOutBwd (hFfnOutBwd := hFfnOutBwd)
    ∧ quiescent_FfnOutBwdIdeal (hFfnOutBwdIdeal := hFfnOutBwdIdeal)
    ∧ quiescent_FfnOutBwdIdeal_pre_finite_ffn_out (hFfnOutBwdIdeal := hFfnOutBwdIdeal) (hPre_finite_ffn_out := hPre_finite_ffn_out)
    ∧ quiescent_FfnOutBwdReferenceIdeal (hFfnOutBwdReferenceIdeal := hFfnOutBwdReferenceIdeal)
    ∧ quiescent_FfnOutBwdReferenceIdeal_pre_finite_ffn_out (hFfnOutBwdReferenceIdeal := hFfnOutBwdReferenceIdeal) (hPre_finite_ffn_out := hPre_finite_ffn_out)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_FfnInFwd (hFfnInFwd := hFfnInFwd)
    ∧ quiescent_FfnInFwdIdeal (hFfnInFwdIdeal := hFfnInFwdIdeal)
    ∧ quiescent_FfnInFwdReferenceIdeal (hFfnInFwdReferenceIdeal := hFfnInFwdReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_FfnOutFwd (hFfnOutFwd := hFfnOutFwd)
    ∧ quiescent_FfnOutFwdIdeal (hFfnOutFwdIdeal := hFfnOutFwdIdeal)
    ∧ quiescent_FfnOutFwdReferenceIdeal (hFfnOutFwdReferenceIdeal := hFfnOutFwdReferenceIdeal)
    ∧ quiescent_LossFwd (hLossFwd := hLossFwd)
    ∧ quiescent_LossFwdIdeal (hLossFwdIdeal := hLossFwdIdeal)
    ∧ quiescent_LossFwdReferenceIdeal (hLossFwdReferenceIdeal := hLossFwdReferenceIdeal)
    ∧ quiescent_ModBwd (hModBwd := hModBwd)
    ∧ quiescent_ModBwdIdeal (hModBwdIdeal := hModBwdIdeal)
    ∧ quiescent_ModBwdReferenceIdeal (hModBwdReferenceIdeal := hModBwdReferenceIdeal)
    ∧ quiescent_AdamMod (hAdamMod := hAdamMod)
    ∧ quiescent_AdamModIdeal (hAdamModIdeal := hAdamModIdeal)
    ∧ quiescent_AdamModReferenceIdeal (hAdamModReferenceIdeal := hAdamModReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamFfnIn (hAdamFfnIn := hAdamFfnIn)
    ∧ quiescent_AdamFfnInIdeal (hAdamFfnInIdeal := hAdamFfnInIdeal)
    ∧ quiescent_AdamFfnInReferenceIdeal (hAdamFfnInReferenceIdeal := hAdamFfnInReferenceIdeal)
    ∧ quiescent_AdamFfnOut (hAdamFfnOut := hAdamFfnOut)
    ∧ quiescent_AdamFfnOutIdeal (hAdamFfnOutIdeal := hAdamFfnOutIdeal)
    ∧ quiescent_AdamFfnOutReferenceIdeal (hAdamFfnOutReferenceIdeal := hAdamFfnOutReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvBwdReferenceIdeal (hConvBwdReferenceIdeal := hConvBwdReferenceIdeal)
    ∧ quiescent_ConvBwdReferenceIdeal_pre_finite_conv (hConvBwdReferenceIdeal := hConvBwdReferenceIdeal) (hPre_finite_conv := hPre_finite_conv)
    ∧ quiescent_SwBwd (hSwBwd := hSwBwd)
    ∧ quiescent_SwBwdIdeal (hSwBwdIdeal := hSwBwdIdeal)
    ∧ quiescent_SwBwdIdeal_pre_finite_sw (hSwBwdIdeal := hSwBwdIdeal) (hPre_finite_sw := hPre_finite_sw)
    ∧ quiescent_SwBwdReferenceIdeal (hSwBwdReferenceIdeal := hSwBwdReferenceIdeal)
    ∧ quiescent_SwBwdReferenceIdeal_pre_finite_sw (hSwBwdReferenceIdeal := hSwBwdReferenceIdeal) (hPre_finite_sw := hPre_finite_sw)
    ∧ preserves_Kernel_KernelIdeal
    ∧ algebraic_KernelIdeal_ReferenceIdeal_pre_finite (hKernelIdeal := hKernelIdeal) (hReferenceIdeal := hReferenceIdeal) (hPre_finite := hPre_finite)
    ∧ preserves_WgIn_WgInIdeal
    ∧ algebraic_WgInIdeal_WgInReferenceIdeal (hWgInIdeal := hWgInIdeal) (hWgInReferenceIdeal := hWgInReferenceIdeal)
    ∧ preserves_WgOut_WgOutIdeal
    ∧ algebraic_WgOutIdeal_WgOutReferenceIdeal (hWgOutIdeal := hWgOutIdeal) (hWgOutReferenceIdeal := hWgOutReferenceIdeal)
    ∧ preserves_WgFfnIn_WgFfnInIdeal
    ∧ algebraic_WgFfnInIdeal_WgFfnInReferenceIdeal (hWgFfnInIdeal := hWgFfnInIdeal) (hWgFfnInReferenceIdeal := hWgFfnInReferenceIdeal)
    ∧ preserves_WgFfnOut_WgFfnOutIdeal
    ∧ algebraic_WgFfnOutIdeal_WgFfnOutReferenceIdeal (hWgFfnOutIdeal := hWgFfnOutIdeal) (hWgFfnOutReferenceIdeal := hWgFfnOutReferenceIdeal)
    ∧ preserves_InBwd_InBwdIdeal
    ∧ algebraic_InBwdIdeal_InBwdReferenceIdeal_pre_finite_in (hInBwdIdeal := hInBwdIdeal) (hInBwdReferenceIdeal := hInBwdReferenceIdeal) (hPre_finite_in := hPre_finite_in)
    ∧ preserves_FfnInBwd_FfnInBwdIdeal
    ∧ algebraic_FfnInBwdIdeal_FfnInBwdReferenceIdeal_pre_finite_ffn_in (hFfnInBwdIdeal := hFfnInBwdIdeal) (hFfnInBwdReferenceIdeal := hFfnInBwdReferenceIdeal) (hPre_finite_ffn_in := hPre_finite_ffn_in)
    ∧ preserves_OutBwd_OutBwdIdeal
    ∧ algebraic_OutBwdIdeal_OutBwdReferenceIdeal (hOutBwdIdeal := hOutBwdIdeal) (hOutBwdReferenceIdeal := hOutBwdReferenceIdeal)
    ∧ preserves_FfnOutBwd_FfnOutBwdIdeal
    ∧ algebraic_FfnOutBwdIdeal_FfnOutBwdReferenceIdeal_pre_finite_ffn_out (hFfnOutBwdIdeal := hFfnOutBwdIdeal) (hFfnOutBwdReferenceIdeal := hFfnOutBwdReferenceIdeal) (hPre_finite_ffn_out := hPre_finite_ffn_out)
    ∧ preserves_InFwd_InFwdIdeal
    ∧ algebraic_InFwdIdeal_InFwdReferenceIdeal (hInFwdIdeal := hInFwdIdeal) (hInFwdReferenceIdeal := hInFwdReferenceIdeal)
    ∧ preserves_FfnInFwd_FfnInFwdIdeal
    ∧ algebraic_FfnInFwdIdeal_FfnInFwdReferenceIdeal (hFfnInFwdIdeal := hFfnInFwdIdeal) (hFfnInFwdReferenceIdeal := hFfnInFwdReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_FfnOutFwd_FfnOutFwdIdeal
    ∧ algebraic_FfnOutFwdIdeal_FfnOutFwdReferenceIdeal (hFfnOutFwdIdeal := hFfnOutFwdIdeal) (hFfnOutFwdReferenceIdeal := hFfnOutFwdReferenceIdeal)
    ∧ preserves_LossFwd_LossFwdIdeal
    ∧ algebraic_LossFwdIdeal_LossFwdReferenceIdeal (hLossFwdIdeal := hLossFwdIdeal) (hLossFwdReferenceIdeal := hLossFwdReferenceIdeal)
    ∧ preserves_ModBwd_ModBwdIdeal
    ∧ algebraic_ModBwdIdeal_ModBwdReferenceIdeal (hModBwdIdeal := hModBwdIdeal) (hModBwdReferenceIdeal := hModBwdReferenceIdeal)
    ∧ preserves_AdamMod_AdamModIdeal
    ∧ algebraic_AdamModIdeal_AdamModReferenceIdeal (hAdamModIdeal := hAdamModIdeal) (hAdamModReferenceIdeal := hAdamModReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamFfnIn_AdamFfnInIdeal
    ∧ algebraic_AdamFfnInIdeal_AdamFfnInReferenceIdeal (hAdamFfnInIdeal := hAdamFfnInIdeal) (hAdamFfnInReferenceIdeal := hAdamFfnInReferenceIdeal)
    ∧ preserves_AdamFfnOut_AdamFfnOutIdeal
    ∧ algebraic_AdamFfnOutIdeal_AdamFfnOutReferenceIdeal (hAdamFfnOutIdeal := hAdamFfnOutIdeal) (hAdamFfnOutReferenceIdeal := hAdamFfnOutReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_ConvBwd_ConvBwdIdeal
    ∧ algebraic_ConvBwdIdeal_ConvBwdReferenceIdeal_pre_finite_conv (hConvBwdIdeal := hConvBwdIdeal) (hConvBwdReferenceIdeal := hConvBwdReferenceIdeal) (hPre_finite_conv := hPre_finite_conv)
    ∧ preserves_SwBwd_SwBwdIdeal
    ∧ algebraic_SwBwdIdeal_SwBwdReferenceIdeal_pre_finite_sw (hSwBwdIdeal := hSwBwdIdeal) (hSwBwdReferenceIdeal := hSwBwdReferenceIdeal) (hPre_finite_sw := hPre_finite_sw)
-- ==== Pre_finite.lean ====
abbrev S4096x5120 : Shape := ⟨2, ![4096, 5120]⟩
abbrev S256 : Shape := ⟨1, ![256]⟩
abbrev S4x128x128 : Shape := ⟨3, ![4, 128, 128]⟩
abbrev S4x128 : Shape := ⟨2, ![4, 128]⟩
abbrev S4096x1024 : Shape := ⟨2, ![4096, 1024]⟩
abbrev S4096x512 : Shape := ⟨2, ![4096, 512]⟩
abbrev S4096x256 : Shape := ⟨2, ![4096, 256]⟩
abbrev S_ : Shape := ⟨0, ![]⟩

class Facts : Prop where
  slices_S4096x5120_S4096x512_0_4608 : S4096x5120.Slices ![0, 4608] S4096x512
  slices_S4096x1024_S4096x256_0_512 : S4096x1024.Slices ![0, 512] S4096x256
  bcast_S_S4096x512 : S_.BroadcastsInDim S4096x512 (![] : Fin 0 → Fin S4096x512.rank)
  bcast_S_S256 : S_.BroadcastsInDim S256 (![] : Fin 0 → Fin S256.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S4096x256 : S_.BroadcastsInDim S4096x256 (![] : Fin 0 → Fin S4096x256.rank)

variable [Facts]

def fn_part1 {F : FTy → Type} [FloatOps F] (main_v4 : IVec S4096x512 1) (main_v7 : IVec S256 1) (main_v10 : IVec S256 1) (main_v13 : IVec S4x128x128 1) (main_v16 : IVec S4x128 1) (main_v17 : FVec F S4096x256 .f32) (main_cst_4 : FVec F S_ .f32) : IVec S4096x512 1 × IVec S256 1 × IVec S256 1 × IVec S4x128x128 1 × IVec S4x128 1 × IVec S4096x256 1 :=
  let main_v18 : FVec F S4096x256 .f32 := broadcastInDim S4096x256 ![] bcast_S_S4096x256 main_cst_4
  let main_v19 : IVec S4096x256 1 := cmpf .olt main_v17 main_v18
  (main_v4, main_v7, main_v10, main_v13, main_v16, main_v19)

def fn {F : FTy → Type} [FloatOps F] (main_arg0 : FVec F S4096x5120 .f32) (main_arg1 : FVec F S256 .f32) (main_arg2 : FVec F S256 .f32) (main_arg3 : FVec F S4x128x128 .f32) (main_arg4 : FVec F S4x128 .f32) (main_arg5 : FVec F S4096x1024 .f32) (main_arg6 : FVec F S4096x5120 .bf16) : IVec S4096x512 1 × IVec S256 1 × IVec S256 1 × IVec S4x128x128 1 × IVec S4x128 1 × IVec S4096x256 1 :=
  let main_v0 : FVec F S4096x512 .f32 := (extractStridedSlice S4096x512 ![0, 4608] · slices_S4096x5120_S4096x512_0_4608) main_arg0
  let main_v1 : FVec F S4096x256 .f32 := (extractStridedSlice S4096x256 ![0, 512] · slices_S4096x1024_S4096x256_0_512) main_arg5
  let main_v2 : FVec F S4096x512 .f32 := Host.absf main_v0
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  let main_v5 : FVec F S256 .f32 := Host.absf main_arg1
  let main_cst_0 : FVec F S_ .f32 := constant S_ .f32 0x7F800000#32
  let main_v6 : FVec F S256 .f32 := broadcastInDim S256 ![] bcast_S_S256 main_cst_0
  let main_v7 : IVec S256 1 := cmpf .olt main_v5 main_v6
  let main_v8 : FVec F S256 .f32 := Host.absf main_arg2
  let main_cst_1 : FVec F S_ .f32 := constant S_ .f32 0x7F800000#32
  let main_v9 : FVec F S256 .f32 := broadcastInDim S256 ![] bcast_S_S256 main_cst_1
  let main_v10 : IVec S256 1 := cmpf .olt main_v8 main_v9
  let main_v11 : FVec F S4x128x128 .f32 := Host.absf main_arg3
  let main_cst_2 : FVec F S_ .f32 := constant S_ .f32 0x7F800000#32
  let main_v12 : FVec F S4x128x128 .f32 := broadcastInDim S4x128x128 ![] bcast_S_S4x128x128 main_cst_2
  let main_v13 : IVec S4x128x128 1 := cmpf .olt main_v11 main_v12
  let main_v14 : FVec F S4x128 .f32 := Host.absf main_arg4
  let main_cst_3 : FVec F S_ .f32 := constant S_ .f32 0x7F800000#32
  let main_v15 : FVec F S4x128 .f32 := broadcastInDim S4x128 ![] bcast_S_S4x128 main_cst_3
  let main_v16 : IVec S4x128 1 := cmpf .olt main_v14 main_v15
  let main_v17 : FVec F S4096x256 .f32 := Host.absf main_v1
  let main_cst_4 : FVec F S_ .f32 := constant S_ .f32 0x7F800000#32
  fn_part1 (F := F) main_v4 main_v7 main_v10 main_v13 main_v16 main_v17 main_cst_4
-- ==== Pre_finite_conv.lean ====
abbrev S4096x5120 : Shape := ⟨2, ![4096, 5120]⟩
abbrev S4x1536 : Shape := ⟨2, ![4, 1536]⟩
abbrev S4096x1536 : Shape := ⟨2, ![4096, 1536]⟩
abbrev S_ : Shape := ⟨0, ![]⟩

class Facts : Prop where
  bcast_S_S4096x1536 : S_.BroadcastsInDim S4096x1536 (![] : Fin 0 → Fin S4096x1536.rank)

variable [Facts]

def fn {F : FTy → Type} [FloatOps F] (main_arg0 : FVec F S4096x5120 .f32) (main_arg1 : FVec F S4x1536 .f32) (main_arg2 : FVec F S4096x1536 .f32) (main_arg3 : FVec F S4096x5120 .bf16) : IVec S4096x1536 1 :=
  let main_v0 : FVec F S4096x1536 .f32 := Host.absf main_arg2
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  main_v2
-- ==== Pre_finite_ffn_in.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .bf16) (main_arg1 : FVec F S1024x5632 .bf16) (main_arg2 : FVec F S4096x1024 .f32) (main_arg3 : FVec F S1x1024 .f32) (main_arg4 : FVec F S1x1024 .f32) (main_arg5 : FVec F S4096x1024 .f32) : IVec S4096x5632 1 × IVec S1024x5632 1 × IVec S4096x1024 1 × IVec S1x1024 1 × IVec S1x1024 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_finite_ffn_out.lean ====
abbrev S4096x1024 : Shape := ⟨2, ![4096, 1024]⟩
abbrev S1x1024 : Shape := ⟨2, ![1, 1024]⟩
abbrev S2816x1024 : Shape := ⟨2, ![2816, 1024]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1x1024 .f32) (main_arg2 : FVec F S2816x1024 .bf16) (main_arg3 : FVec F S4096x5632 .bf16) : IVec S4096x1024 1 × IVec S1x1024 1 × IVec S2816x1024 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .f32 := (extf .f32 · bitsLt_bf16_f32) main_arg2
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S4096x5632 .f32 := (extf .f32 · bitsLt_bf16_f32) main_arg3
  let main_v11 : FVec F S4096x5632 .f32 := Host.absf main_v10
  let main_cst_2 : FVec F S_ .f32 := constant S_ .f32 0x7F800000#32
  let main_v12 : FVec F S4096x5632 .f32 := broadcastInDim S4096x5632 ![] bcast_S_S4096x5632 main_cst_2
  let main_v13 : IVec S4096x5632 1 := cmpf .olt main_v11 main_v12
  (main_v2, main_v5, main_v9, main_v13)
-- ==== Pre_finite_in.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  bcast_S_S1024x5120 : S_.BroadcastsInDim S1024x5120 (![] : Fin 0 → Fin S1024x5120.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5120 .bf16) (main_arg1 : FVec F S1024x5120 .bf16) (main_arg2 : FVec F S4096x1024 .f32) (main_arg3 : FVec F S1x1024 .f32) (main_arg4 : FVec F S1x1024 .f32) (main_arg5 : FVec F S4096x1024 .f32) : IVec S4096x5120 1 × IVec S1024x5120 1 × IVec S4096x1024 1 × IVec S1x1024 1 × IVec S1x1024 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_v4 : FVec F S1024x5120 .f32 := (extf .f32 · bitsLt_bf16_f32) main_arg1
  let main_v5 : FVec F S1024x5120 .f32 := Host.absf main_v4
  let main_cst_0 : FVec F S_ .f32 := constant S_ .f32 0x7F800000#32
  let main_v6 : FVec F S1024x5120 .f32 := broadcastInDim S1024x5120 ![] bcast_S_S1024x5120 main_cst_0
  let main_v7 : IVec S1024x5120 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_finite_sw.lean ====
abbrev S4096x5120 : Shape := ⟨2, ![4096, 5120]⟩
abbrev S64 : Shape := ⟨1, ![64]⟩
abbrev S4096x8 : Shape := ⟨2, ![4096, 8]⟩
abbrev S3x2x4096x128 : Shape := ⟨4, ![3, 2, 4096, 128]⟩
abbrev S2x1x256 : Shape := ⟨3, ![2, 1, 256]⟩
abbrev S4096x512 : Shape := ⟨2, ![4096, 512]⟩
abbrev S1x2x4096x128 : Shape := ⟨4, ![1, 2, 4096, 128]⟩
abbrev S2x4096x128 : Shape := ⟨3, ![2, 4096, 128]⟩
abbrev S_ : Shape := ⟨0, ![]⟩

class Facts : Prop where
  slices_S4096x5120_S4096x512_0_2304 : S4096x5120.Slices ![0, 2304] S4096x512
  slices_S3x2x4096x128_S1x2x4096x128_0_0_0_0 : S3x2x4096x128.Slices ![0, 0, 0, 0] S1x2x4096x128
  shapeCasts_S1x2x4096x128_S2x4096x128 : S1x2x4096x128.ShapeCasts S2x4096x128
  slices_S3x2x4096x128_S1x2x4096x128_2_0_0_0 : S3x2x4096x128.Slices ![2, 0, 0, 0] S1x2x4096x128
  bcast_S_S4096x512 : S_.BroadcastsInDim S4096x512 (![] : Fin 0 → Fin S4096x512.rank)
  bcast_S_S64 : S_.BroadcastsInDim S64 (![] : Fin 0 → Fin S64.rank)
  bcast_S_S4096x8 : S_.BroadcastsInDim S4096x8 (![] : Fin 0 → Fin S4096x8.rank)
  bcast_S_S2x4096x128 : S_.BroadcastsInDim S2x4096x128 (![] : Fin 0 → Fin S2x4096x128.rank)

variable [Facts]

def fn_part1 {F : FTy → Type} [FloatOps F] (main_v2 : FVec F S2x4096x128 .f32) (main_v4 : FVec F S2x4096x128 .f32) (main_v7 : IVec S4096x512 1) (main_v10 : IVec S64 1) (main_v13 : IVec S64 1) (main_v16 : IVec S4096x8 1) (main_v17 : FVec F S4096x8 .f32) (main_v18 : FVec F S4096x8 .f32) : IVec S4096x512 1 × IVec S64 1 × IVec S64 1 × IVec S4096x8 1 × IVec S4096x8 1 × IVec S2x4096x128 1 × IVec S2x4096x128 1 :=
  let main_v19 : IVec S4096x8 1 := cmpf .olt main_v17 main_v18
  let main_v20 : FVec F S2x4096x128 .f32 := Host.absf main_v2
  let main_cst_4 : FVec F S_ .f32 := constant S_ .f32 0x7F800000#32
  let main_v21 : FVec F S2x4096x128 .f32 := broadcastInDim S2x4096x128 ![] bcast_S_S2x4096x128 main_cst_4
  let main_v22 : IVec S2x4096x128 1 := cmpf .olt main_v20 main_v21
  let main_v23 : FVec F S2x4096x128 .f32 := Host.absf main_v4
  let main_cst_5 : FVec F S_ .f32 := constant S_ .f32 0x7F800000#32
  let main_v24 : FVec F S2x4096x128 .f32 := broadcastInDim S2x4096x128 ![] bcast_S_S2x4096x128 main_cst_5
  let main_v25 : IVec S2x4096x128 1 := cmpf .olt main_v23 main_v24
  (main_v7, main_v10, main_v13, main_v16, main_v19, main_v22, main_v25)

def fn {F : FTy → Type} [FloatOps F] (main_arg0 : FVec F S4096x5120 .f32) (main_arg1 : FVec F S64 .f32) (main_arg2 : FVec F S64 .f32) (main_arg3 : FVec F S4096x8 .f32) (main_arg4 : FVec F S4096x8 .f32) (main_arg5 : FVec F S3x2x4096x128 .f32) (main_arg6 : FVec F S4096x5120 .bf16) (main_arg7 : FVec F S2x1x256 .f32) : IVec S4096x512 1 × IVec S64 1 × IVec S64 1 × IVec S4096x8 1 × IVec S4096x8 1 × IVec S2x4096x128 1 × IVec S2x4096x128 1 :=
  let main_v0 : FVec F S4096x512 .f32 := (extractStridedSlice S4096x512 ![0, 2304] · slices_S4096x5120_S4096x512_0_2304) main_arg0
  let main_v1 : FVec F S1x2x4096x128 .f32 := (extractStridedSlice S1x2x4096x128 ![0, 0, 0, 0] · slices_S3x2x4096x128_S1x2x4096x128_0_0_0_0) main_arg5
  let main_v2 : FVec F S2x4096x128 .f32 := shapeCast S2x4096x128 main_v1 shapeCasts_S1x2x4096x128_S2x4096x128
  let main_v3 : FVec F S1x2x4096x128 .f32 := (extractStridedSlice S1x2x4096x128 ![2, 0, 0, 0] · slices_S3x2x4096x128_S1x2x4096x128_2_0_0_0) main_arg5
  let main_v4 : FVec F S2x4096x128 .f32 := shapeCast S2x4096x128 main_v3 shapeCasts_S1x2x4096x128_S2x4096x128
  let main_v5 : FVec F S4096x512 .f32 := Host.absf main_v0
  let main_cst : FVec F S_ .f32 := constant S_ .f32 0x7F800000#32
  let main_v6 : FVec F S4096x512 .f32 := broadcastInDim S4096x512 ![] bcast_S_S4096x512 main_cst
  let main_v7 : IVec S4096x512 1 := cmpf .olt main_v5 main_v6
  let main_v8 : FVec F S64 .f32 := Host.absf main_arg1
  let main_cst_0 : FVec F S_ .f32 := constant S_ .f32 0x7F800000#32
  let main_v9 : FVec F S64 .f32 := broadcastInDim S64 ![] bcast_S_S64 main_cst_0
  let main_v10 : IVec S64 1 := cmpf .olt main_v8 main_v9
  let main_v11 : FVec F S64 .f32 := Host.absf main_arg2
  let main_cst_1 : FVec F S_ .f32 := constant S_ .f32 0x7F800000#32
  let main_v12 : FVec F S64 .f32 := broadcastInDim S64 ![] bcast_S_S64 main_cst_1
  let main_v13 : IVec S64 1 := cmpf .olt main_v11 main_v12
  let main_v14 : FVec F S4096x8 .f32 := Host.absf main_arg3
  let main_cst_2 : FVec F S_ .f32 := constant S_ .f32 0x7F800000#32
  let main_v15 : FVec F S4096x8 .f32 := broadcastInDim S4096x8 ![] bcast_S_S4096x8 main_cst_2
  let main_v16 : IVec S4096x8 1 := cmpf .olt main_v14 main_v15
  let main_v17 : FVec F S4096x8 .f32 := Host.absf main_arg4
  let main_cst_3 : FVec F S_ .f32 := constant S_ .f32 0x7F800000#32
  let main_v18 : FVec F S4096x8 .f32 := broadcastInDim S4096x8 ![] bcast_S_S4096x8 main_cst_3
  fn_part1 (F := F) main_v2 main_v4 main_v7 main_v10 main_v13 main_v16 main_v17 main_v18
-- ==== Kernel.lean ====
abbrev S4096x5120 : Shape := ⟨2, ![4096, 5120]⟩
abbrev S256 : Shape := ⟨1, ![256]⟩
abbrev S4x128x128 : Shape := ⟨3, ![4, 128, 128]⟩
abbrev S4x128 : Shape := ⟨2, ![4, 128]⟩
abbrev S4096x1024 : Shape := ⟨2, ![4096, 1024]⟩
abbrev S128x4 : Shape := ⟨2, ![128, 4]⟩
abbrev S_ : Shape := ⟨0, ![]⟩
abbrev S128x128 : Shape := ⟨2, ![128, 128]⟩
abbrev S1x256 : Shape := ⟨2, ![1, 256]⟩
abbrev S8x256 : Shape := ⟨2, ![8, 256]⟩
abbrev S128x512 : Shape := ⟨2, ![128, 512]⟩
abbrev S128x256 : Shape := ⟨2, ![128, 256]⟩
abbrev S128 : Shape := ⟨1, ![128]⟩
abbrev S128x1 : Shape := ⟨2, ![128, 1]⟩
abbrev S1x128x128 : Shape := ⟨3, ![1, 128, 128]⟩

abbrev nBuf : Space → Nat
  | .hbm => 17
  | .vmem => 13
  | .smem => 0
  | _ => 0

abbrev bufTy : (tb : Table) → Fin (tcTables nBuf tb) → BufTy
  | .hbm, ⟨0, _⟩ => ⟨S4096x5120, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S4096x1024, .f32⟩
  | .hbm, ⟨6, _⟩ => ⟨S4096x5120, .bf16⟩
  | .hbm, ⟨7, _⟩ => ⟨S128x4, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S1x256, .f32⟩
  | .hbm, ⟨12, _⟩ => ⟨S1x256, .f32⟩
  | .hbm, ⟨13, _⟩ => ⟨S4096x5120, .bf16⟩
  | .hbm, ⟨14, _⟩ => ⟨S4x128x128, .f32⟩
  | .hbm, ⟨15, _⟩ => ⟨S128x128, .f32⟩
  | .hbm, ⟨16, _⟩ => ⟨S8x256, .f32⟩
  | .local _ .vmem, ⟨0, _⟩ => ⟨S128x512, .f32⟩
  | .local _ .vmem, ⟨1, _⟩ => ⟨S128x512, .f32⟩
  | .local _ .vmem, ⟨2, _⟩ => ⟨S1x256, .f32⟩
  | .local _ .vmem, ⟨3, _⟩ => ⟨S1x256, .f32⟩
  | .local _ .vmem, ⟨4, _⟩ => ⟨S4x128x128, .f32⟩
  | .local _ .vmem, ⟨5, _⟩ => ⟨S128x128, .f32⟩
  | .local _ .vmem, ⟨6, _⟩ => ⟨S128x256, .f32⟩
  | .local _ .vmem, ⟨7, _⟩ => ⟨S128x256, .f32⟩
  | .local _ .vmem, ⟨8, _⟩ => ⟨S128x512, .bf16⟩
  | .local _ .vmem, ⟨9, _⟩ => ⟨S128x512, .bf16⟩
  | .local _ .vmem, ⟨10, _⟩ => ⟨S4x128x128, .f32⟩
  | .local _ .vmem, ⟨11, _⟩ => ⟨S128x128, .f32⟩
  | .local _ .vmem, ⟨12, _⟩ => ⟨S8x256, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | _ => none
-- ==== ReferenceIdeal.lean ====
abbrev S4096x5120 : Shape := ⟨2, ![4096, 5120]⟩
abbrev S256 : Shape := ⟨1, ![256]⟩
abbrev S4x128x128 : Shape := ⟨3, ![4, 128, 128]⟩
abbrev S4x128 : Shape := ⟨2, ![4, 128]⟩
abbrev S4096x1024 : Shape := ⟨2, ![4096, 1024]⟩
abbrev S4096x512 : Shape := ⟨2, ![4096, 512]⟩
abbrev S_ : Shape := ⟨0, ![]⟩
abbrev S4096x256 : Shape := ⟨2, ![4096, 256]⟩
abbrev S4096 : Shape := ⟨1, ![4096]⟩
abbrev S4096x1 : Shape := ⟨2, ![4096, 1]⟩
abbrev S1x256 : Shape := ⟨2, ![1, 256]⟩
abbrev S32x128x4x64 : Shape := ⟨4, ![32, 128, 4, 64]⟩
abbrev S128x128 : Shape := ⟨2, ![128, 128]⟩
abbrev S4x32x64x128 : Shape := ⟨4, ![4, 32, 64, 128]⟩
abbrev S128x4 : Shape := ⟨2, ![128, 4]⟩
abbrev S1x128x4x1 : Shape := ⟨4, ![1, 128, 4, 1]⟩
abbrev S4096x4608 : Shape := ⟨2, ![4096, 4608]⟩
abbrev S6x256 : Shape := ⟨2, ![6, 256]⟩
abbrev S8x256 : Shape := ⟨2, ![8, 256]⟩

abbrev nBuf : Space → Nat
  | .hbm => 175
  | .vmem => 0
  | .smem => 0
  | _ => 0

abbrev hbmTy0_0 (i : Nat) : BufTy := match i % 128 with
  | 0 => ⟨S4096x5120, .f32⟩
  | 1 => ⟨S256, .f32⟩
  | 2 => ⟨S256, .f32⟩
  | 3 => ⟨S4x128x128, .f32⟩
  | 4 => ⟨S4x128, .f32⟩
  | 5 => ⟨S4096x1024, .f32⟩
  | 6 => ⟨S4096x5120, .bf16⟩
  | 7 => ⟨S4096x512, .f32⟩
  | 8 => ⟨S_, .f32⟩
  | 9 => ⟨S4096x512, .f32⟩
  | 10 => ⟨S4096x512, .f32⟩
  | 11 => ⟨S4096x512, .f32⟩
  | 12 => ⟨S_, .f32⟩
  | 13 => ⟨S_, .f32⟩
  | 14 => ⟨S_, .f32⟩
  | 15 => ⟨S4096x512, .f32⟩
  | 16 => ⟨S4096x512, .f32⟩
  | 17 => ⟨S_, .f32⟩
  | 18 => ⟨S_, .f32⟩
  | 19 => ⟨S_, .f32⟩
  | 20 => ⟨S_, .f32⟩
  | 21 => ⟨S4096x512, .f32⟩
  | 22 => ⟨S_, .f32⟩
  | 23 => ⟨S_, .f32⟩
  | 24 => ⟨S_, .f32⟩
  | 25 => ⟨S_, .f32⟩
  | 26 => ⟨S4096x512, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S4096x512, .f32⟩
  | 33 => ⟨S4096x256, .f32⟩
  | 34 => ⟨S4096x256, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S4096x256, .f32⟩
  | 42 => ⟨S4096x256, .f32⟩
  | 43 => ⟨S4096x256, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x256, .f32⟩
  | 59 => ⟨S4096x256, .f32⟩
  | 60 => ⟨S1x256, .f32⟩
  | 61 => ⟨S4096x256, .f32⟩
  | 62 => ⟨S4096x256, .f32⟩
  | 63 => ⟨S1x256, .f32⟩
  | 64 => ⟨S4096x256, .f32⟩
  | 65 => ⟨S4096x256, .f32⟩
  | 66 => ⟨S32x128x4x64, .f32⟩
  | 67 => ⟨S_, .i1⟩
  | 68 => ⟨S128x128, .i1⟩
  | 69 => ⟨S128x128, .i32⟩
  | 70 => ⟨S_, .i32⟩
  | 71 => ⟨S128x128, .i32⟩
  | 72 => ⟨S128x128, .i32⟩
  | 73 => ⟨S128x128, .i32⟩
  | 74 => ⟨S128x128, .i1⟩
  | 75 => ⟨S_, .i1⟩
  | 76 => ⟨S128x128, .i1⟩
  | 77 => ⟨S128x128, .i1⟩
  | 78 => ⟨S_, .f32⟩
  | 79 => ⟨S_, .f32⟩
  | 80 => ⟨S4x128x128, .i1⟩
  | 81 => ⟨S4x128x128, .f32⟩
  | 82 => ⟨S4x128x128, .f32⟩
  | 83 => ⟨S_, .f32⟩
  | 84 => ⟨S4x128x128, .f32⟩
  | 85 => ⟨S4x32x64x128, .f32⟩
  | 86 => ⟨S32x128x4x64, .f32⟩
  | 87 => ⟨S128x4, .f32⟩
  | 88 => ⟨S1x128x4x1, .f32⟩
  | 89 => ⟨S32x128x4x64, .f32⟩
  | 90 => ⟨S32x128x4x64, .f32⟩
  | 91 => ⟨S4096x256, .f32⟩
  | 92 => ⟨S4096x256, .f32⟩
  | 93 => ⟨S4096x256, .f32⟩
  | 94 => ⟨S4096x256, .f32⟩
  | 95 => ⟨S4096x256, .f32⟩
  | 96 => ⟨S32x128x4x64, .f32⟩
  | 97 => ⟨S_, .f32⟩
  | 98 => ⟨S128x4, .f32⟩
  | 99 => ⟨S1x128x4x1, .f32⟩
  | 100 => ⟨S_, .f32⟩
  | 101 => ⟨S128x4, .f32⟩
  | 102 => ⟨S4x128, .f32⟩
  | 103 => ⟨S4x32x64x128, .f32⟩
  | 104 => ⟨S4x128x128, .f32⟩
  | 105 => ⟨S4x32x64x128, .f32⟩
  | 106 => ⟨S32x128x4x64, .f32⟩
  | 107 => ⟨S_, .f32⟩
  | 108 => ⟨S4x128x128, .f32⟩
  | 109 => ⟨S4x128x128, .f32⟩
  | 110 => ⟨S4096x256, .f32⟩
  | 111 => ⟨S_, .f32⟩
  | 112 => ⟨S256, .f32⟩
  | 113 => ⟨S1x256, .f32⟩
  | 114 => ⟨S_, .f32⟩
  | 115 => ⟨S256, .f32⟩
  | 116 => ⟨S4096x256, .f32⟩
  | 117 => ⟨S_, .f32⟩
  | 118 => ⟨S256, .f32⟩
  | 119 => ⟨S1x256, .f32⟩
  | 120 => ⟨S4096x256, .f32⟩
  | 121 => ⟨S4096x256, .f32⟩
  | 122 => ⟨S_, .f32⟩
  | 123 => ⟨S256, .f32⟩
  | 124 => ⟨S4096x256, .f32⟩
  | 125 => ⟨S_, .f32⟩
  | 126 => ⟨S4096, .f32⟩
  | 127 => ⟨S4096x1, .f32⟩
  | _ => ⟨S4096x5120, .f32⟩

abbrev hbmTy0_1 (i : Nat) : BufTy := match i % 128 with
  | 0 => ⟨S4096x256, .f32⟩
  | 1 => ⟨S4096x256, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096, .f32⟩
  | 22 => ⟨S4096x256, .f32⟩
  | 23 => ⟨S4096x256, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S4096x4608, .bf16⟩
  | 36 => ⟨S4096x512, .bf16⟩
  | 37 => ⟨S4096x5120, .bf16⟩
  | 38 => ⟨S128x4, .f32⟩
  | 39 => ⟨S_, .i32⟩
  | 40 => ⟨S_, .f32⟩
  | 41 => ⟨S128x128, .f32⟩
  | 42 => ⟨S1x256, .f32⟩
  | 43 => ⟨S1x256, .f32⟩
  | 44 => ⟨S_, .f32⟩
  | 45 => ⟨S6x256, .f32⟩
  | 46 => ⟨S8x256, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c : Ref sig .tc := ⟨.hbm, 67, rfl⟩
abbrev main_v49 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_0 : Ref sig .tc := ⟨.hbm, 75, rfl⟩
abbrev main_call0_v5 : Ref sig .tc := ⟨.hbm, 76, rfl⟩
abbrev main_v50 : Ref sig .tc := ⟨.hbm, 77, rfl⟩
abbrev main_cst_10 : Ref sig .tc := ⟨.hbm, 78, rfl⟩
abbrev main_call1_v0 : Ref sig .tc := ⟨.hbm, 79, rfl⟩
abbrev main_v51_1 : Ref sig .tc := ⟨.hbm, 80, rfl⟩
abbrev main_call1_v2 : Ref sig .tc := ⟨.hbm, 81, rfl⟩
abbrev main_v51_0 : Ref sig .tc := ⟨.hbm, 82, rfl⟩
abbrev main_call1_cst : Ref sig .tc := ⟨.hbm, 83, rfl⟩
abbrev main_v51_2 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call2_cst : Ref sig .tc := ⟨.hbm, 107, rfl⟩
abbrev main_call2_v0 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_v75 : Ref sig .tc := ⟨.hbm, 113, rfl⟩
abbrev main_cst_14 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_20 : Ref sig .tc := ⟨.hbm, 142, rfl⟩
abbrev main_v98 : Ref sig .tc := ⟨.hbm, 143, rfl⟩
abbrev main_v99 : Ref sig .tc := ⟨.hbm, 144, rfl⟩
abbrev main_cst_21 : Ref sig .tc := ⟨.hbm, 145, rfl⟩
abbrev main_v100 : Ref sig .tc := ⟨.hbm, 146, rfl⟩
abbrev main_v101 : Ref sig .tc := ⟨.hbm, 147, rfl⟩
abbrev main_cst_22 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_23 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_24 : Ref sig .tc := ⟨.hbm, 167, rfl⟩
abbrev main_call3_v0 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_25 : Ref sig .tc := ⟨.hbm, 172, rfl⟩
abbrev main_v122 : Ref sig .tc := ⟨.hbm, 173, rfl⟩
abbrev main_v123 : Ref sig .tc := ⟨.hbm, 174, rfl⟩

abbrev nD : Nat := 1
abbrev τ : Topo := Topo.v7x

variable {F : FTy → Type} [FloatOps F]
-- ==== WgIn.lean ====
abbrev S4096x1024 : Shape := ⟨2, ![4096, 1024]⟩
abbrev S4096x5120 : Shape := ⟨2, ![4096, 5120]⟩
abbrev S1024x5120 : Shape := ⟨2, ![1024, 5120]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S1024x5120, .f32⟩
  | .hbm, ⟨3, _⟩ => ⟨S1024x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .bf16⟩
  | .local _ .vmem, ⟨7, _⟩ => ⟨S1024x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WgInIdeal.lean ====
abbrev S4096x1024 : Shape := ⟨2, ![4096, 1024]⟩
abbrev S4096x5120 : Shape := ⟨2, ![4096, 5120]⟩
abbrev S1024x5120 : Shape := ⟨2, ![1024, 5120]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S1024x5120, .f32⟩
  | .hbm, ⟨3, _⟩ => ⟨S1024x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .bf16⟩
  | .local _ .vmem, ⟨7, _⟩ => ⟨S1024x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WgInReferenceIdeal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S_, .f32⟩
  | .hbm, ⟨3, _⟩ => ⟨S1024x5120, .f32⟩
  | .hbm, ⟨4, _⟩ => ⟨S4096x1024, .f32⟩
  | .hbm, ⟨5, _⟩ => ⟨S4096x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgOut.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== WgOutIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== WgOutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgFfnIn.lean ====
abbrev S4096x1024 : Shape := ⟨2, ![4096, 1024]⟩
abbrev S4096x5632 : Shape := ⟨2, ![4096, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .hbm, ⟨3, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WgFfnInIdeal.lean ====
abbrev S4096x1024 : Shape := ⟨2, ![4096, 1024]⟩
abbrev S4096x5632 : Shape := ⟨2, ![4096, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .hbm, ⟨3, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WgFfnInReferenceIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgFfnOut.lean ====
abbrev S4096x2816 : Shape := ⟨2, ![4096, 2816]⟩
abbrev S4096x1024 : Shape := ⟨2, ![4096, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .hbm, ⟨3, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .f32⟩
  | .local _ .vmem, ⟨5, _⟩ => ⟨S2816x512, .f32⟩
  | .local _ .vmem, ⟨6, _⟩ => ⟨S2816x512, .bf16⟩
  | .local _ .vmem, ⟨7, _⟩ => ⟨S2816x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WgFfnOutReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InBwd.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S512x5120 : Shape := ⟨2, ![512, 5120]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S1024x5120, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v50 : BitVec 1 := Scalar.cmpi .eq arg0 c7_i32
  let v51 : BitVec 32 := Scalar.extui v50
  let c0_i32_30 : BitVec 32 := 0#32
  let v52 : BitVec 1 := Scalar.cmpi .ne v51 c0_i32_30
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InBwdIdeal.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S512x5120 : Shape := ⟨2, ![512, 5120]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S1024x5120, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v50 : BitVec 1 := Scalar.cmpi .eq arg0 c7_i32
  let v51 : BitVec 32 := Scalar.extui v50
  let c0_i32_30 : BitVec 32 := 0#32
  let v52 : BitVec 1 := Scalar.cmpi .ne v51 c0_i32_30
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InBwdReferenceIdeal.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S1x1024, .f32⟩
  | .hbm, ⟨8, _⟩ => ⟨S1024x5120, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x5120, .f32⟩
  | .hbm, ⟨36, _⟩ => ⟨S4096x5120, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== FfnInBwd.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v50 : BitVec 1 := Scalar.cmpi .eq arg0 c7_i32
  let v51 : BitVec 32 := Scalar.extui v50
  let c0_i32_30 : BitVec 32 := 0#32
  let v52 : BitVec 1 := Scalar.cmpi .ne v51 c0_i32_30
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnInBwdReferenceIdeal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S1x1024, .f32⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x5632, .f32⟩
  | .hbm, ⟨36, _⟩ => ⟨S4096x5632, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== OutBwd.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutBwdReferenceIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S4096x1024, .f32⟩
  | .hbm, ⟨15, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== FfnOutBwd.lean ====
abbrev S4096x1024 : Shape := ⟨2, ![4096, 1024]⟩
abbrev S1x1024 : Shape := ⟨2, ![1, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S512x1024 : Shape := ⟨2, ![512, 1024]⟩
abbrev S512x5632 : Shape := ⟨2, ![512, 5632]⟩
abbrev S1024 : Shape := ⟨1, ![1024]⟩
abbrev S512x2816 : Shape := ⟨2, ![512, 2816]⟩

abbrev nBuf : Space → Nat
  | .hbm => 22
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S4096x5632, .bf16⟩
  | .hbm, ⟨4, _⟩ => ⟨S2816x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x5632, .bf16⟩
  | .hbm, ⟨20, _⟩ => ⟨S4096x1024, .bf16⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S2816x1024, .bf16⟩
  | .local _ .vmem, ⟨6, _⟩ => ⟨S512x5632, .bf16⟩
  | .local _ .vmem, ⟨7, _⟩ => ⟨S512x5632, .bf16⟩
  | .local _ .vmem, ⟨8, _⟩ => ⟨S512x5632, .bf16⟩
  | .local _ .vmem, ⟨9, _⟩ => ⟨S512x5632, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnOutBwdReferenceIdeal.lean ====
abbrev S4096x1024 : Shape := ⟨2, ![4096, 1024]⟩
abbrev S1x1024 : Shape := ⟨2, ![1, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S4096x5632, .bf16⟩
  | .hbm, ⟨4, _⟩ => ⟨S2816x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x5632, .f32⟩
  | .hbm, ⟨39, _⟩ => ⟨S4096x5632, .bf16⟩
  | .hbm, ⟨40, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== InFwd.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S512x1024 : Shape := ⟨2, ![512, 1024]⟩
abbrev S512x5120 : Shape := ⟨2, ![512, 5120]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5120, .bf16⟩
  | .hbm, ⟨5, _⟩ => ⟨S4096x1024, .bf16⟩
  | .hbm, ⟨6, _⟩ => ⟨S4096x5120, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x5120, .bf16⟩
  | .local _ .vmem, ⟨6, _⟩ => ⟨S512x1024, .bf16⟩
  | .local _ .vmem, ⟨7, _⟩ => ⟨S512x1024, .bf16⟩
  | .local _ .vmem, ⟨8, _⟩ => ⟨S512x5120, .f32⟩
  | .local _ .vmem, ⟨9, _⟩ => ⟨S512x5120, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InFwdReferenceIdeal.lean ====
abbrev S4096x1024 : Shape := ⟨2, ![4096, 1024]⟩
abbrev S1x1024 : Shape := ⟨2, ![1, 1024]⟩
abbrev S1024x5120 : Shape := ⟨2, ![1024, 5120]⟩
abbrev S_ : Shape := ⟨0, ![]⟩
abbrev S4096 : Shape := ⟨1, ![4096]⟩
abbrev S4096x1 : Shape := ⟨2, ![4096, 1]⟩
abbrev S4096x5120 : Shape := ⟨2, ![4096, 5120]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5120, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024x5120, .f32⟩
  | .hbm, ⟨29, _⟩ => ⟨S4096x5120, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== FfnInFwd.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S4096x1024, .bf16⟩
  | .hbm, ⟨6, _⟩ => ⟨S4096x5632, .bf16⟩
  | .hbm, ⟨7, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x5632, .bf16⟩
  | .local _ .vmem, ⟨6, _⟩ => ⟨S512x1024, .bf16⟩
  | .local _ .vmem, ⟨7, _⟩ => ⟨S512x1024, .bf16⟩
  | .local _ .vmem, ⟨8, _⟩ => ⟨S512x5632, .bf16⟩
  | .local _ .vmem, ⟨9, _⟩ => ⟨S512x5632, .bf16⟩
  | .local _ .vmem, ⟨10, _⟩ => ⟨S512x2816, .bf16⟩
  | .local _ .vmem, ⟨11, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnInFwdReferenceIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x5632, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .bf16⟩
  | .hbm, ⟨42, _⟩ => ⟨S4096x5632, .bf16⟩
  | .hbm, ⟨43, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdIdeal.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdReferenceIdeal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FfnOutFwd.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnOutFwdReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== LossFwd.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S1024 : Shape := ⟨1, ![1024]⟩
abbrev S1 : Shape := ⟨1, ![1]⟩
abbrev S1x1 : Shape := ⟨2, ![1, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossFwdReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S8x128 : Shape := ⟨2, ![8, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1024, .f32⟩
  | .hbm, ⟨33, _⟩ => ⟨S4096x1024, .f32⟩
  | .hbm, ⟨34, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== ModBwd.lean ====
abbrev S8x1024 : Shape := ⟨2, ![8, 1024]⟩
abbrev S4x8x1536 : Shape := ⟨3, ![4, 8, 1536]⟩
abbrev S4x1024x1536 : Shape := ⟨3, ![4, 1024, 1536]⟩
abbrev S1x8x1536 : Shape := ⟨3, ![1, 8, 1536]⟩
abbrev S1x1024x1536 : Shape := ⟨3, ![1, 1024, 1536]⟩
abbrev S8x1536 : Shape := ⟨2, ![8, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .local _ .vmem, ⟨0, _⟩ => ⟨S8x1024, .f32⟩
  | .local _ .vmem, ⟨1, _⟩ => ⟨S1x8x1536, .f32⟩
  | .local _ .vmem, ⟨2, _⟩ => ⟨S1x8x1536, .f32⟩
  | .local _ .vmem, ⟨3, _⟩ => ⟨S1x1024x1536, .f32⟩
  | .local _ .vmem, ⟨4, _⟩ => ⟨S1x1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModBwdReferenceIdeal.lean ====
abbrev S8x1024 : Shape := ⟨2, ![8, 1024]⟩
abbrev S4x8x1536 : Shape := ⟨3, ![4, 8, 1536]⟩
abbrev S_ : Shape := ⟨0, ![]⟩
abbrev S4x1024x1536 : Shape := ⟨3, ![4, 1024, 1536]⟩
abbrev S8x4x1536 : Shape := ⟨3, ![8, 4, 1536]⟩
abbrev S4x1536x1024 : Shape := ⟨3, ![4, 1536, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S_, .f32⟩
  | .hbm, ⟨3, _⟩ => ⟨S4x1024x1536, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x4x1536, .f32⟩
  | .hbm, ⟨14, _⟩ => ⟨S4x8x1536, .f32⟩
  | .hbm, ⟨15, _⟩ => ⟨S8x4x1536, .f32⟩
  | .hbm, ⟨16, _⟩ => ⟨S4x1536x1024, .f32⟩
  | .hbm, ⟨17, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== AdamMod.lean ====
abbrev S4096x1536 : Shape := ⟨2, ![4096, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModIdeal.lean ====
abbrev S4096x1536 : Shape := ⟨2, ![4096, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModReferenceIdeal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S16x384 : Shape := ⟨2, ![16, 384]⟩

abbrev nBuf : Space → Nat
  | .hbm => 8
  | .vmem => 8
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S16x384, .f32⟩
  | .hbm, ⟨5, _⟩ => ⟨S16x384, .f32⟩
  | .hbm, ⟨6, _⟩ => ⟨S16x384, .f32⟩
  | .hbm, ⟨7, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | .local _ .vmem, ⟨7, _⟩ => ⟨S16x384, .f32⟩
  | _, _ => ⟨S16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvReferenceIdeal.lean ====
abbrev S16x384 : Shape := ⟨2, ![16, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S_, .f32⟩
  | .hbm, ⟨5, _⟩ => ⟨S16x384, .f32⟩
  | .hbm, ⟨6, _⟩ => ⟨S16x384, .f32⟩
  | .hbm, ⟨7, _⟩ => ⟨S_, .f32⟩
  | .hbm, ⟨8, _⟩ => ⟨S16x384, .f32⟩
  | .hbm, ⟨9, _⟩ => ⟨S16x384, .f32⟩
  | .hbm, ⟨10, _⟩ => ⟨S16x384, .f32⟩
  | .hbm, ⟨11, _⟩ => ⟨S_, .f32⟩
  | .hbm, ⟨12, _⟩ => ⟨S16x384, .f32⟩
  | .hbm, ⟨13, _⟩ => ⟨S16x384, .f32⟩
  | .hbm, ⟨14, _⟩ => ⟨S16x384, .f32⟩
  | .hbm, ⟨15, _⟩ => ⟨S_, .f32⟩
  | .hbm, ⟨16, _⟩ => ⟨S16x384, .f32⟩
  | .hbm, ⟨17, _⟩ => ⟨S16x384, .f32⟩
  | .hbm, ⟨18, _⟩ => ⟨S16x384, .f32⟩
  | .hbm, ⟨19, _⟩ => ⟨S_, .f32⟩
  | .hbm, ⟨20, _⟩ => ⟨S16x384, .f32⟩
  | .hbm, ⟨21, _⟩ => ⟨S16x384, .f32⟩
  | .hbm, ⟨22, _⟩ => ⟨S_, .f32⟩
  | .hbm, ⟨23, _⟩ => ⟨S16x384, .f32⟩
  | .hbm, ⟨24, _⟩ => ⟨S16x384, .f32⟩
  | .hbm, ⟨25, _⟩ => ⟨S16x384, .f32⟩
  | .hbm, ⟨26, _⟩ => ⟨S_, .f32⟩
  | .hbm, ⟨27, _⟩ => ⟨S16x384, .f32⟩
  | .hbm, ⟨28, _⟩ => ⟨S16x384, .f32⟩
  | .hbm, ⟨29, _⟩ => ⟨S16x384, .f32⟩
  | .hbm, ⟨30, _⟩ => ⟨S_, .f32⟩
  | .hbm, ⟨31, _⟩ => ⟨S16x384, .f32⟩
  | .hbm, ⟨32, _⟩ => ⟨S16x384, .f32⟩
  | .hbm, ⟨33, _⟩ => ⟨S16x384, .f32⟩
  | .hbm, ⟨34, _⟩ => ⟨S_, .f32⟩
  | .hbm, ⟨35, _⟩ => ⟨S16x384, .f32⟩
  | .hbm, ⟨36, _⟩ => ⟨S16x384, .f32⟩
  | _, _ => ⟨S16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S4096x1218 : Shape := ⟨2, ![4096, 1218]⟩
abbrev S128x1218 : Shape := ⟨2, ![128, 1218]⟩

abbrev nBuf : Space → Nat
  | .hbm => 9
  | .vmem => 18
  | .smem => 0
  | _ => 0

abbrev bufTy : (tb : Table) → Fin (tcTables nBuf tb) → BufTy
  | .hbm, ⟨0, _⟩ => ⟨S4096x1218, .f32⟩
  | .hbm, ⟨1, _⟩ => ⟨S4096x1218, .f32⟩
  | .hbm, ⟨2, _⟩ => ⟨S4096x1218, .f32⟩
  | .hbm, ⟨3, _⟩ => ⟨S4096x1218, .f32⟩
  | .hbm, ⟨4, _⟩ => ⟨S4096x1218, .f32⟩
  | .hbm, ⟨5, _⟩ => ⟨S4096x1218, .f32⟩
  | .hbm, ⟨6, _⟩ => ⟨S4096x1218, .f32⟩
  | .hbm, ⟨7, _⟩ => ⟨S4096x1218, .f32⟩
  | .hbm, ⟨8, _⟩ => ⟨S4096x1218, .f32⟩
  | .local _ .vmem, ⟨0, _⟩ => ⟨S128x1218, .f32⟩
  | .local _ .vmem, ⟨1, _⟩ => ⟨S128x1218, .f32⟩
  | .local _ .vmem, ⟨2, _⟩ => ⟨S128x1218, .f32⟩
  | .local _ .vmem, ⟨3, _⟩ => ⟨S128x1218, .f32⟩
  | .local _ .vmem, ⟨4, _⟩ => ⟨S128x1218, .f32⟩
  | .local _ .vmem, ⟨5, _⟩ => ⟨S128x1218, .f32⟩
  | .local _ .vmem, ⟨6, _⟩ => ⟨S128x1218, .f32⟩
  | .local _ .vmem, ⟨7, _⟩ => ⟨S128x1218, .f32⟩
  | .local _ .vmem, ⟨8, _⟩ => ⟨S128x1218, .f32⟩
  | .local _ .vmem, ⟨9, _⟩ => ⟨S128x1218, .f32⟩
  | .local _ .vmem, ⟨10, _⟩ => ⟨S128x1218, .f32⟩
  | .local _ .vmem, ⟨11, _⟩ => ⟨S128x1218, .f32⟩
  | .local _ .vmem, ⟨12, _⟩ => ⟨S128x1218, .f32⟩
  | .local _ .vmem, ⟨13, _⟩ => ⟨S128x1218, .f32⟩
  | .local _ .vmem, ⟨14, _⟩ => ⟨S128x1218, .f32⟩
  | .local _ .vmem, ⟨15, _⟩ => ⟨S128x1218, .f32⟩
  | .local _ .vmem, ⟨16, _⟩ => ⟨S128x1218, .f32⟩
  | .local _ .vmem, ⟨17, _⟩ => ⟨S128x1218, .f32⟩
  | _, _ => ⟨S4096x1218, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1218 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1218 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1218 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1218 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1218 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1218 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1218 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1218 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1218 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S4096x1218 : Shape := ⟨2, ![4096, 1218]⟩
abbrev S128x1218 : Shape := ⟨2, ![128, 1218]⟩

abbrev nBuf : Space → Nat
  | .hbm => 9
  | .vmem => 18
  | .smem => 0
  | _ => 0

abbrev bufTy : (tb : Table) → Fin (tcTables nBuf tb) → BufTy
  | .hbm, ⟨0, _⟩ => ⟨S4096x1218, .f32⟩
  | .hbm, ⟨1, _⟩ => ⟨S4096x1218, .f32⟩
  | .hbm, ⟨2, _⟩ => ⟨S4096x1218, .f32⟩
  | .hbm, ⟨3, _⟩ => ⟨S4096x1218, .f32⟩
  | .hbm, ⟨4, _⟩ => ⟨S4096x1218, .f32⟩
  | .hbm, ⟨5, _⟩ => ⟨S4096x1218, .f32⟩
  | .hbm, ⟨6, _⟩ => ⟨S4096x1218, .f32⟩
  | .hbm, ⟨7, _⟩ => ⟨S4096x1218, .f32⟩
  | .hbm, ⟨8, _⟩ => ⟨S4096x1218, .f32⟩
  | .local _ .vmem, ⟨0, _⟩ => ⟨S128x1218, .f32⟩
  | .local _ .vmem, ⟨1, _⟩ => ⟨S128x1218, .f32⟩
  | .local _ .vmem, ⟨2, _⟩ => ⟨S128x1218, .f32⟩
  | .local _ .vmem, ⟨3, _⟩ => ⟨S128x1218, .f32⟩
  | .local _ .vmem, ⟨4, _⟩ => ⟨S128x1218, .f32⟩
  | .local _ .vmem, ⟨5, _⟩ => ⟨S128x1218, .f32⟩
  | .local _ .vmem, ⟨6, _⟩ => ⟨S128x1218, .f32⟩
  | .local _ .vmem, ⟨7, _⟩ => ⟨S128x1218, .f32⟩
  | .local _ .vmem, ⟨8, _⟩ => ⟨S128x1218, .f32⟩
  | .local _ .vmem, ⟨9, _⟩ => ⟨S128x1218, .f32⟩
  | .local _ .vmem, ⟨10, _⟩ => ⟨S128x1218, .f32⟩
  | .local _ .vmem, ⟨11, _⟩ => ⟨S128x1218, .f32⟩
  | .local _ .vmem, ⟨12, _⟩ => ⟨S128x1218, .f32⟩
  | .local _ .vmem, ⟨13, _⟩ => ⟨S128x1218, .f32⟩
  | .local _ .vmem, ⟨14, _⟩ => ⟨S128x1218, .f32⟩
  | .local _ .vmem, ⟨15, _⟩ => ⟨S128x1218, .f32⟩
  | .local _ .vmem, ⟨16, _⟩ => ⟨S128x1218, .f32⟩
  | .local _ .vmem, ⟨17, _⟩ => ⟨S128x1218, .f32⟩
  | _, _ => ⟨S4096x1218, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1218 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1218 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1218 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1218 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1218 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1218 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1218 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1218 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1218 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S4096x1218 : Shape := ⟨2, ![4096, 1218]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1218, .f32⟩
  | .hbm, ⟨1, _⟩ => ⟨S4096x1218, .f32⟩
  | .hbm, ⟨2, _⟩ => ⟨S4096x1218, .f32⟩
  | .hbm, ⟨3, _⟩ => ⟨S4096x1218, .f32⟩
  | .hbm, ⟨4, _⟩ => ⟨S4096x1218, .f32⟩
  | .hbm, ⟨5, _⟩ => ⟨S4096x1218, .f32⟩
  | .hbm, ⟨6, _⟩ => ⟨S_, .f32⟩
  | .hbm, ⟨7, _⟩ => ⟨S4096x1218, .f32⟩
  | .hbm, ⟨8, _⟩ => ⟨S4096x1218, .f32⟩
  | .hbm, ⟨9, _⟩ => ⟨S_, .f32⟩
  | .hbm, ⟨10, _⟩ => ⟨S4096x1218, .f32⟩
  | .hbm, ⟨11, _⟩ => ⟨S4096x1218, .f32⟩
  | .hbm, ⟨12, _⟩ => ⟨S4096x1218, .f32⟩
  | .hbm, ⟨13, _⟩ => ⟨S_, .f32⟩
  | .hbm, ⟨14, _⟩ => ⟨S4096x1218, .f32⟩
  | .hbm, ⟨15, _⟩ => ⟨S4096x1218, .f32⟩
  | .hbm, ⟨16, _⟩ => ⟨S4096x1218, .f32⟩
  | .hbm, ⟨17, _⟩ => ⟨S_, .f32⟩
  | .hbm, ⟨18, _⟩ => ⟨S4096x1218, .f32⟩
  | .hbm, ⟨19, _⟩ => ⟨S4096x1218, .f32⟩
  | .hbm, ⟨20, _⟩ => ⟨S4096x1218, .f32⟩
  | .hbm, ⟨21, _⟩ => ⟨S_, .f32⟩
  | .hbm, ⟨22, _⟩ => ⟨S4096x1218, .f32⟩
  | .hbm, ⟨23, _⟩ => ⟨S4096x1218, .f32⟩
  | .hbm, ⟨24, _⟩ => ⟨S_, .f32⟩
  | .hbm, ⟨25, _⟩ => ⟨S4096x1218, .f32⟩
  | .hbm, ⟨26, _⟩ => ⟨S4096x1218, .f32⟩
  | .hbm, ⟨27, _⟩ => ⟨S4096x1218, .f32⟩
  | .hbm, ⟨28, _⟩ => ⟨S_, .f32⟩
  | .hbm, ⟨29, _⟩ => ⟨S4096x1218, .f32⟩
  | .hbm, ⟨30, _⟩ => ⟨S4096x1218, .f32⟩
  | .hbm, ⟨31, _⟩ => ⟨S4096x1218, .f32⟩
  | .hbm, ⟨32, _⟩ => ⟨S_, .f32⟩
  | .hbm, ⟨33, _⟩ => ⟨S4096x1218, .f32⟩
  | .hbm, ⟨34, _⟩ => ⟨S4096x1218, .f32⟩
  | .hbm, ⟨35, _⟩ => ⟨S4096x1218, .f32⟩
  | .hbm, ⟨36, _⟩ => ⟨S_, .f32⟩
  | .hbm, ⟨37, _⟩ => ⟨S4096x1218, .f32⟩
  | .hbm, ⟨38, _⟩ => ⟨S4096x1218, .f32⟩
  | _, _ => ⟨S4096x1218, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutIdeal.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutReferenceIdeal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFfnIn.lean ====
abbrev S4096x1408 : Shape := ⟨2, ![4096, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnInIdeal.lean ====
abbrev S4096x1408 : Shape := ⟨2, ![4096, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnInReferenceIdeal.lean ====
abbrev S4096x1408 : Shape := ⟨2, ![4096, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S_, .f32⟩
  | .hbm, ⟨7, _⟩ => ⟨S4096x1408, .f32⟩
  | .hbm, ⟨8, _⟩ => ⟨S4096x1408, .f32⟩
  | .hbm, ⟨9, _⟩ => ⟨S_, .f32⟩
  | .hbm, ⟨10, _⟩ => ⟨S4096x1408, .f32⟩
  | .hbm, ⟨11, _⟩ => ⟨S4096x1408, .f32⟩
  | .hbm, ⟨12, _⟩ => ⟨S4096x1408, .f32⟩
  | .hbm, ⟨13, _⟩ => ⟨S_, .f32⟩
  | .hbm, ⟨14, _⟩ => ⟨S4096x1408, .f32⟩
  | .hbm, ⟨15, _⟩ => ⟨S4096x1408, .f32⟩
  | .hbm, ⟨16, _⟩ => ⟨S4096x1408, .f32⟩
  | .hbm, ⟨17, _⟩ => ⟨S_, .f32⟩
  | .hbm, ⟨18, _⟩ => ⟨S4096x1408, .f32⟩
  | .hbm, ⟨19, _⟩ => ⟨S4096x1408, .f32⟩
  | .hbm, ⟨20, _⟩ => ⟨S4096x1408, .f32⟩
  | .hbm, ⟨21, _⟩ => ⟨S_, .f32⟩
  | .hbm, ⟨22, _⟩ => ⟨S4096x1408, .f32⟩
  | .hbm, ⟨23, _⟩ => ⟨S4096x1408, .f32⟩
  | .hbm, ⟨24, _⟩ => ⟨S_, .f32⟩
  | .hbm, ⟨25, _⟩ => ⟨S4096x1408, .f32⟩
  | .hbm, ⟨26, _⟩ => ⟨S4096x1408, .f32⟩
  | .hbm, ⟨27, _⟩ => ⟨S4096x1408, .f32⟩
  | .hbm, ⟨28, _⟩ => ⟨S_, .f32⟩
  | .hbm, ⟨29, _⟩ => ⟨S4096x1408, .f32⟩
  | .hbm, ⟨30, _⟩ => ⟨S4096x1408, .f32⟩
  | .hbm, ⟨31, _⟩ => ⟨S4096x1408, .f32⟩
  | .hbm, ⟨32, _⟩ => ⟨S_, .f32⟩
  | .hbm, ⟨33, _⟩ => ⟨S4096x1408, .f32⟩
  | .hbm, ⟨34, _⟩ => ⟨S4096x1408, .f32⟩
  | .hbm, ⟨35, _⟩ => ⟨S4096x1408, .f32⟩
  | .hbm, ⟨36, _⟩ => ⟨S_, .f32⟩
  | .hbm, ⟨37, _⟩ => ⟨S4096x1408, .f32⟩
  | .hbm, ⟨38, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFfnOut.lean ====
abbrev S2816x1024 : Shape := ⟨2, ![2816, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnOutReferenceIdeal.lean ====
abbrev S2816x1024 : Shape := ⟨2, ![2816, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S_, .f32⟩
  | .hbm, ⟨7, _⟩ => ⟨S2816x1024, .f32⟩
  | .hbm, ⟨8, _⟩ => ⟨S2816x1024, .f32⟩
  | .hbm, ⟨9, _⟩ => ⟨S_, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S_, .f32⟩
  | .hbm, ⟨14, _⟩ => ⟨S2816x1024, .f32⟩
  | .hbm, ⟨15, _⟩ => ⟨S2816x1024, .f32⟩
  | .hbm, ⟨16, _⟩ => ⟨S2816x1024, .f32⟩
  | .hbm, ⟨17, _⟩ => ⟨S_, .f32⟩
  | .hbm, ⟨18, _⟩ => ⟨S2816x1024, .f32⟩
  | .hbm, ⟨19, _⟩ => ⟨S2816x1024, .f32⟩
  | .hbm, ⟨20, _⟩ => ⟨S2816x1024, .f32⟩
  | .hbm, ⟨21, _⟩ => ⟨S_, .f32⟩
  | .hbm, ⟨22, _⟩ => ⟨S2816x1024, .f32⟩
  | .hbm, ⟨23, _⟩ => ⟨S2816x1024, .f32⟩
  | .hbm, ⟨24, _⟩ => ⟨S_, .f32⟩
  | .hbm, ⟨25, _⟩ => ⟨S2816x1024, .f32⟩
  | .hbm, ⟨26, _⟩ => ⟨S2816x1024, .f32⟩
  | .hbm, ⟨27, _⟩ => ⟨S2816x1024, .f32⟩
  | .hbm, ⟨28, _⟩ => ⟨S_, .f32⟩
  | .hbm, ⟨29, _⟩ => ⟨S2816x1024, .f32⟩
  | .hbm, ⟨30, _⟩ => ⟨S2816x1024, .f32⟩
  | .hbm, ⟨31, _⟩ => ⟨S2816x1024, .f32⟩
  | .hbm, ⟨32, _⟩ => ⟨S_, .f32⟩
  | .hbm, ⟨33, _⟩ => ⟨S2816x1024, .f32⟩
  | .hbm, ⟨34, _⟩ => ⟨S2816x1024, .f32⟩
  | .hbm, ⟨35, _⟩ => ⟨S2816x1024, .f32⟩
  | .hbm, ⟨36, _⟩ => ⟨S_, .f32⟩
  | .hbm, ⟨37, _⟩ => ⟨S2816x1024, .f32⟩
  | .hbm, ⟨38, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S8x2568x128 : Shape := ⟨3, ![8, 2568, 128]⟩
abbrev S2568x128 : Shape := ⟨2, ![2568, 128]⟩
abbrev S8x24x128 : Shape := ⟨3, ![8, 24, 128]⟩
abbrev S24x128 : Shape := ⟨2, ![24, 128]⟩
abbrev S1x24x128 : Shape := ⟨3, ![1, 24, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2568x128, .f32⟩
  | .hbm, ⟨1, _⟩ => ⟨S2568x128, .f32⟩
  | .hbm, ⟨2, _⟩ => ⟨S2568x128, .f32⟩
  | .hbm, ⟨3, _⟩ => ⟨S2568x128, .f32⟩
  | .hbm, ⟨4, _⟩ => ⟨S2568x128, .f32⟩
  | .hbm, ⟨5, _⟩ => ⟨S2568x128, .f32⟩
  | .hbm, ⟨6, _⟩ => ⟨S2568x128, .f32⟩
  | .hbm, ⟨7, _⟩ => ⟨S2568x128, .f32⟩
  | .local _ .vmem, ⟨0, _⟩ => ⟨S8x24x128, .f32⟩
  | .local _ .vmem, ⟨1, _⟩ => ⟨S8x24x128, .f32⟩
  | .local _ .vmem, ⟨2, _⟩ => ⟨S24x128, .f32⟩
  | .local _ .vmem, ⟨3, _⟩ => ⟨S24x128, .f32⟩
  | .local _ .vmem, ⟨4, _⟩ => ⟨S24x128, .f32⟩
  | .local _ .vmem, ⟨5, _⟩ => ⟨S24x128, .f32⟩
  | .local _ .vmem, ⟨6, _⟩ => ⟨S24x128, .f32⟩
  | .local _ .vmem, ⟨7, _⟩ => ⟨S24x128, .f32⟩
  | .local _ .vmem, ⟨8, _⟩ => ⟨S24x128, .f32⟩
  | .local _ .vmem, ⟨9, _⟩ => ⟨S24x128, .f32⟩
  | .local _ .vmem, ⟨10, _⟩ => ⟨S24x128, .f32⟩
  | .local _ .vmem, ⟨11, _⟩ => ⟨S24x128, .f32⟩
  | .local _ .vmem, ⟨12, _⟩ => ⟨S24x128, .f32⟩
  | .local _ .vmem, ⟨13, _⟩ => ⟨S24x128, .f32⟩
  | .local _ .vmem, ⟨14, _⟩ => ⟨S24x128, .f32⟩
  | .local _ .vmem, ⟨15, _⟩ => ⟨S24x128, .f32⟩
  | _, _ => ⟨S8x2568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![107], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S24x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallReferenceIdeal.lean ====
abbrev S8x2568x128 : Shape := ⟨3, ![8, 2568, 128]⟩
abbrev S2568x128 : Shape := ⟨2, ![2568, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2568x128, .f32⟩
  | .hbm, ⟨1, _⟩ => ⟨S2568x128, .f32⟩
  | .hbm, ⟨2, _⟩ => ⟨S2568x128, .f32⟩
  | .hbm, ⟨3, _⟩ => ⟨S2568x128, .f32⟩
  | .hbm, ⟨4, _⟩ => ⟨S_, .f32⟩
  | .hbm, ⟨5, _⟩ => ⟨S2568x128, .f32⟩
  | .hbm, ⟨6, _⟩ => ⟨S_, .f32⟩
  | .hbm, ⟨7, _⟩ => ⟨S2568x128, .f32⟩
  | .hbm, ⟨8, _⟩ => ⟨S2568x128, .f32⟩
  | .hbm, ⟨9, _⟩ => ⟨S_, .f32⟩
  | .hbm, ⟨10, _⟩ => ⟨S2568x128, .f32⟩
  | .hbm, ⟨11, _⟩ => ⟨S2568x128, .f32⟩
  | .hbm, ⟨12, _⟩ => ⟨S2568x128, .f32⟩
  | .hbm, ⟨13, _⟩ => ⟨S_, .f32⟩
  | .hbm, ⟨14, _⟩ => ⟨S2568x128, .f32⟩
  | .hbm, ⟨15, _⟩ => ⟨S2568x128, .f32⟩
  | .hbm, ⟨16, _⟩ => ⟨S2568x128, .f32⟩
  | .hbm, ⟨17, _⟩ => ⟨S_, .f32⟩
  | .hbm, ⟨18, _⟩ => ⟨S2568x128, .f32⟩
  | .hbm, ⟨19, _⟩ => ⟨S2568x128, .f32⟩
  | .hbm, ⟨20, _⟩ => ⟨S2568x128, .f32⟩
  | .hbm, ⟨21, _⟩ => ⟨S_, .f32⟩
  | .hbm, ⟨22, _⟩ => ⟨S2568x128, .f32⟩
  | .hbm, ⟨23, _⟩ => ⟨S2568x128, .f32⟩
  | .hbm, ⟨24, _⟩ => ⟨S_, .f32⟩
  | .hbm, ⟨25, _⟩ => ⟨S2568x128, .f32⟩
  | .hbm, ⟨26, _⟩ => ⟨S2568x128, .f32⟩
  | .hbm, ⟨27, _⟩ => ⟨S2568x128, .f32⟩
  | .hbm, ⟨28, _⟩ => ⟨S_, .f32⟩
  | .hbm, ⟨29, _⟩ => ⟨S2568x128, .f32⟩
  | .hbm, ⟨30, _⟩ => ⟨S2568x128, .f32⟩
  | .hbm, ⟨31, _⟩ => ⟨S2568x128, .f32⟩
  | .hbm, ⟨32, _⟩ => ⟨S_, .f32⟩
  | .hbm, ⟨33, _⟩ => ⟨S2568x128, .f32⟩
  | .hbm, ⟨34, _⟩ => ⟨S2568x128, .f32⟩
  | .hbm, ⟨35, _⟩ => ⟨S2568x128, .f32⟩
  | .hbm, ⟨36, _⟩ => ⟨S_, .f32⟩
  | .hbm, ⟨37, _⟩ => ⟨S2568x128, .f32⟩
  | .hbm, ⟨38, _⟩ => ⟨S2568x128, .f32⟩
  | _, _ => ⟨S8x2568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ConvBwd.lean ====
abbrev S4096x5120 : Shape := ⟨2, ![4096, 5120]⟩
abbrev S4x1536 : Shape := ⟨2, ![4, 1536]⟩
abbrev S4096x1536 : Shape := ⟨2, ![4096, 1536]⟩
abbrev S_ : Shape := ⟨0, ![]⟩
abbrev S8x1536 : Shape := ⟨2, ![8, 1536]⟩
abbrev S4096x128 : Shape := ⟨2, ![4096, 128]⟩
abbrev S8x128 : Shape := ⟨2, ![8, 128]⟩
abbrev S1x128 : Shape := ⟨2, ![1, 128]⟩
abbrev S128 : Shape := ⟨1, ![128]⟩

abbrev nBuf : Space → Nat
  | .hbm => 9
  | .vmem => 10
  | .smem => 0
  | _ => 0

abbrev bufTy : (tb : Table) → Fin (tcTables nBuf tb) → BufTy
  | .hbm, ⟨0, _⟩ => ⟨S4096x5120, .f32⟩
  | .hbm, ⟨1, _⟩ => ⟨S4x1536, .f32⟩
  | .hbm, ⟨2, _⟩ => ⟨S4096x1536, .f32⟩
  | .hbm, ⟨3, _⟩ => ⟨S4096x5120, .bf16⟩
  | .hbm, ⟨4, _⟩ => ⟨S_, .i32⟩
  | .hbm, ⟨5, _⟩ => ⟨S_, .f32⟩
  | .hbm, ⟨6, _⟩ => ⟨S8x1536, .f32⟩
  | .hbm, ⟨7, _⟩ => ⟨S4096x5120, .bf16⟩
  | .hbm, ⟨8, _⟩ => ⟨S8x1536, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | .local _ .vmem, ⟨6, _⟩ => ⟨S4096x128, .bf16⟩
  | .local _ .vmem, ⟨7, _⟩ => ⟨S4096x128, .bf16⟩
  | .local _ .vmem, ⟨8, _⟩ => ⟨S8x128, .f32⟩
  | .local _ .vmem, ⟨9, _⟩ => ⟨S8x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvBwdReferenceIdeal.lean ====
abbrev S4096x5120 : Shape := ⟨2, ![4096, 5120]⟩
abbrev S4x1536 : Shape := ⟨2, ![4, 1536]⟩
abbrev S4096x1536 : Shape := ⟨2, ![4096, 1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S4096x3584 : Shape := ⟨2, ![4096, 3584]⟩
abbrev S8x1536 : Shape := ⟨2, ![8, 1536]⟩

abbrev nBuf : Space → Nat
  | .hbm => 103
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4x1536, .f32⟩
  | .hbm, ⟨2, _⟩ => ⟨S4096x1536, .f32⟩
  | .hbm, ⟨3, _⟩ => ⟨S4096x5120, .bf16⟩
  | .hbm, ⟨4, _⟩ => ⟨S4096x1536, .f32⟩
  | .hbm, ⟨5, _⟩ => ⟨S_, .f32⟩
  | .hbm, ⟨6, _⟩ => ⟨S3x1536, .f32⟩
  | .hbm, ⟨7, _⟩ => ⟨S4099x1536, .f32⟩
  | .hbm, ⟨8, _⟩ => ⟨S_, .f32⟩
  | .hbm, ⟨9, _⟩ => ⟨S3x1536, .f32⟩
  | .hbm, ⟨10, _⟩ => ⟨S4096x1536, .f32⟩
  | .hbm, ⟨11, _⟩ => ⟨S1x1536, .f32⟩
  | .hbm, ⟨12, _⟩ => ⟨S4096x1536, .f32⟩
  | .hbm, ⟨13, _⟩ => ⟨S4096x1536, .f32⟩
  | .hbm, ⟨14, _⟩ => ⟨S_, .f32⟩
  | .hbm, ⟨15, _⟩ => ⟨S4096x1536, .f32⟩
  | .hbm, ⟨16, _⟩ => ⟨S4096x1536, .f32⟩
  | .hbm, ⟨17, _⟩ => ⟨S4096x1536, .f32⟩
  | .hbm, ⟨18, _⟩ => ⟨S1x1536, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S1x1536, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S4096x1536, .f32⟩
  | .hbm, ⟨28, _⟩ => ⟨S1x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | .hbm, ⟨37, _⟩ => ⟨S_, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S4096x1536, .f32⟩
  | .hbm, ⟨42, _⟩ => ⟨S4096x1536, .f32⟩
  | .hbm, ⟨43, _⟩ => ⟨S4096x1536, .f32⟩
  | .hbm, ⟨44, _⟩ => ⟨S4096x1536, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S4096x1536, .f32⟩
  | .hbm, ⟨50, _⟩ => ⟨S_, .f32⟩
  | .hbm, ⟨51, _⟩ => ⟨S1536, .f32⟩
  | .hbm, ⟨52, _⟩ => ⟨S1x1536, .f32⟩
  | .hbm, ⟨53, _⟩ => ⟨S4096x1536, .f32⟩
  | .hbm, ⟨54, _⟩ => ⟨S4096x1536, .f32⟩
  | .hbm, ⟨55, _⟩ => ⟨S_, .f32⟩
  | .hbm, ⟨56, _⟩ => ⟨S4x1536, .f32⟩
  | .hbm, ⟨57, _⟩ => ⟨S_, .f32⟩
  | .hbm, ⟨58, _⟩ => ⟨S4099x1536, .f32⟩
  | .hbm, ⟨59, _⟩ => ⟨S4096x1536, .f32⟩
  | .hbm, ⟨60, _⟩ => ⟨S_, .f32⟩
  | .hbm, ⟨61, _⟩ => ⟨S1536, .f32⟩
  | .hbm, ⟨62, _⟩ => ⟨S1x1536, .f32⟩
  | .hbm, ⟨63, _⟩ => ⟨S4096x1536, .f32⟩
  | .hbm, ⟨64, _⟩ => ⟨S4096x1536, .f32⟩
  | .hbm, ⟨65, _⟩ => ⟨S_, .f32⟩
  | .hbm, ⟨66, _⟩ => ⟨S4x1536, .f32⟩
  | .hbm, ⟨67, _⟩ => ⟨S4x1536, .f32⟩
  | .hbm, ⟨68, _⟩ => ⟨S_, .f32⟩
  | .hbm, ⟨69, _⟩ => ⟨S4099x1536, .f32⟩
  | .hbm, ⟨70, _⟩ => ⟨S4099x1536, .f32⟩
  | .hbm, ⟨71, _⟩ => ⟨S4096x1536, .f32⟩
  | .hbm, ⟨72, _⟩ => ⟨S_, .f32⟩
  | .hbm, ⟨73, _⟩ => ⟨S1536, .f32⟩
  | .hbm, ⟨74, _⟩ => ⟨S1x1536, .f32⟩
  | .hbm, ⟨75, _⟩ => ⟨S4096x1536, .f32⟩
  | .hbm, ⟨76, _⟩ => ⟨S4096x1536, .f32⟩
  | .hbm, ⟨77, _⟩ => ⟨S_, .f32⟩
  | .hbm, ⟨78, _⟩ => ⟨S4x1536, .f32⟩
  | .hbm, ⟨79, _⟩ => ⟨S4x1536, .f32⟩
  | .hbm, ⟨80, _⟩ => ⟨S_, .f32⟩
  | .hbm, ⟨81, _⟩ => ⟨S4099x1536, .f32⟩
  | .hbm, ⟨82, _⟩ => ⟨S4099x1536, .f32⟩
  | .hbm, ⟨83, _⟩ => ⟨S4096x1536, .f32⟩
  | .hbm, ⟨84, _⟩ => ⟨S_, .f32⟩
  | .hbm, ⟨85, _⟩ => ⟨S1536, .f32⟩
  | .hbm, ⟨86, _⟩ => ⟨S1x1536, .f32⟩
  | .hbm, ⟨87, _⟩ => ⟨S4096x1536, .f32⟩
  | .hbm, ⟨88, _⟩ => ⟨S4096x1536, .f32⟩
  | .hbm, ⟨89, _⟩ => ⟨S_, .f32⟩
  | .hbm, ⟨90, _⟩ => ⟨S4x1536, .f32⟩
  | .hbm, ⟨91, _⟩ => ⟨S4x1536, .f32⟩
  | .hbm, ⟨92, _⟩ => ⟨S_, .f32⟩
  | .hbm, ⟨93, _⟩ => ⟨S4099x1536, .f32⟩
  | .hbm, ⟨94, _⟩ => ⟨S4099x1536, .f32⟩
  | .hbm, ⟨95, _⟩ => ⟨S3x1536, .f32⟩
  | .hbm, ⟨96, _⟩ => ⟨S4096x1536, .f32⟩
  | .hbm, ⟨97, _⟩ => ⟨S4096x1536, .bf16⟩
  | .hbm, ⟨98, _⟩ => ⟨S4096x3584, .bf16⟩
  | .hbm, ⟨99, _⟩ => ⟨S4096x5120, .bf16⟩
  | .hbm, ⟨100, _⟩ => ⟨S_, .i32⟩
  | .hbm, ⟨101, _⟩ => ⟨S_, .f32⟩
  | .hbm, ⟨102, _⟩ => ⟨S8x1536, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v25_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v25_1 : Ref sig .tc := ⟨.hbm, 43, rfl⟩
abbrev main_v25_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c : Ref sig .tc := ⟨.hbm, 100, rfl⟩
abbrev main_call2_v0 : Ref sig .tc := ⟨.hbm, 101, rfl⟩
abbrev main_v66 : Ref sig .tc := ⟨.hbm, 102, rfl⟩

abbrev nD : Nat := 1
abbrev τ : Topo := Topo.v7x

variable {F : FTy → Type} [FloatOps F]
-- ==== SwBwd.lean ====
abbrev S4096x5120 : Shape := ⟨2, ![4096, 5120]⟩
abbrev S64 : Shape := ⟨1, ![64]⟩
abbrev S4096x8 : Shape := ⟨2, ![4096, 8]⟩
abbrev S3x2x4096x128 : Shape := ⟨4, ![3, 2, 4096, 128]⟩
abbrev S2x1x256 : Shape := ⟨3, ![2, 1, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S2x256 : Shape := ⟨2, ![2, 256]⟩
abbrev S_ : Shape := ⟨0, ![]⟩
abbrev S4096x48 : Shape := ⟨2, ![4096, 48]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S512x256 : Shape := ⟨2, ![512, 256]⟩
abbrev S1x1x256 : Shape := ⟨3, ![1, 1, 256]⟩
abbrev S1x2x512x128 : Shape := ⟨4, ![1, 2, 512, 128]⟩
abbrev S1x1x512x128 : Shape := ⟨4, ![1, 1, 512, 128]⟩
abbrev S512x128 : Shape := ⟨2, ![512, 128]⟩
abbrev S256x256 : Shape := ⟨2, ![256, 256]⟩

abbrev nBuf : Space → Nat
  | .hbm => 32
  | .vmem => 16
  | .smem => 0
  | _ => 0

abbrev bufTy : (tb : Table) → Fin (tcTables nBuf tb) → BufTy
  | .hbm, ⟨0, _⟩ => ⟨S4096x5120, .f32⟩
  | .hbm, ⟨1, _⟩ => ⟨S64, .f32⟩
  | .hbm, ⟨2, _⟩ => ⟨S64, .f32⟩
  | .hbm, ⟨3, _⟩ => ⟨S4096x8, .f32⟩
  | .hbm, ⟨4, _⟩ => ⟨S4096x8, .f32⟩
  | .hbm, ⟨5, _⟩ => ⟨S3x2x4096x128, .f32⟩
  | .hbm, ⟨6, _⟩ => ⟨S4096x5120, .bf16⟩
  | .hbm, ⟨7, _⟩ => ⟨S2x1x256, .f32⟩
  | .hbm, ⟨8, _⟩ => ⟨S1x64, .f32⟩
  | .hbm, ⟨9, _⟩ => ⟨S4x64, .f32⟩
  | .hbm, ⟨10, _⟩ => ⟨S256, .f32⟩
  | .hbm, ⟨11, _⟩ => ⟨S1x64, .f32⟩
  | .hbm, ⟨12, _⟩ => ⟨S4x64, .f32⟩
  | .hbm, ⟨13, _⟩ => ⟨S256, .f32⟩
  | .hbm, ⟨14, _⟩ => ⟨S1x256, .f32⟩
  | .hbm, ⟨15, _⟩ => ⟨S1x256, .f32⟩
  | .hbm, ⟨16, _⟩ => ⟨S2x256, .f32⟩
  | .hbm, ⟨17, _⟩ => ⟨S2x1x256, .f32⟩
  | .hbm, ⟨18, _⟩ => ⟨S_, .f32⟩
  | .hbm, ⟨19, _⟩ => ⟨S4096x48, .f32⟩
  | .hbm, ⟨20, _⟩ => ⟨S4096x64, .f32⟩
  | .hbm, ⟨21, _⟩ => ⟨S_, .f32⟩
  | .hbm, ⟨22, _⟩ => ⟨S4096x48, .f32⟩
  | .hbm, ⟨23, _⟩ => ⟨S4096x64, .f32⟩
  | .hbm, ⟨24, _⟩ => ⟨S1x4096x1x64, .f32⟩
  | .hbm, ⟨25, _⟩ => ⟨S1x4096x4x64, .f32⟩
  | .hbm, ⟨26, _⟩ => ⟨S4096x256, .f32⟩
  | .hbm, ⟨27, _⟩ => ⟨S1x4096x1x64, .f32⟩
  | .hbm, ⟨28, _⟩ => ⟨S1x4096x4x64, .f32⟩
  | .hbm, ⟨29, _⟩ => ⟨S4096x256, .f32⟩
  | .hbm, ⟨30, _⟩ => ⟨S4096x5120, .bf16⟩
  | .hbm, ⟨31, _⟩ => ⟨S2x1x256, .f32⟩
  | .local _ .vmem, ⟨0, _⟩ => ⟨S512x256, .f32⟩
  | .local _ .vmem, ⟨1, _⟩ => ⟨S512x256, .f32⟩
  | .local _ .vmem, ⟨2, _⟩ => ⟨S1x1x256, .f32⟩
  | .local _ .vmem, ⟨3, _⟩ => ⟨S1x1x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x2x512x128, .f32⟩
  | .local _ .vmem, ⟨9, _⟩ => ⟨S1x2x512x128, .f32⟩
  | .local _ .vmem, ⟨10, _⟩ => ⟨S1x1x256, .f32⟩
  | .local _ .vmem, ⟨11, _⟩ => ⟨S1x1x256, .f32⟩
  | .local _ .vmem, ⟨12, _⟩ => ⟨S512x256, .bf16⟩
  | .local _ .vmem, ⟨13, _⟩ => ⟨S512x256, .bf16⟩
  | .local _ .vmem, ⟨14, _⟩ => ⟨S1x1x256, .f32⟩
  | .local _ .vmem, ⟨15, _⟩ => ⟨S1x1x256, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32 : BitVec 32 := 0#32
  let v7 : BitVec 1 := Scalar.cmpi .ne v6 c0_i32
  v7

def k0_cond3 (i : grid0.Coords) : BitVec 1 :=
  let arg0 : BitVec 32 := BitVec.ofNat 32 (i 0).val
  let c1_i32_9 : BitVec 32 := 1#32
  let v13 : BitVec 1 := Scalar.cmpi .ne arg0 c1_i32_9
  let v14 : BitVec 32 := Scalar.extui v13
  let c0_i32_10 : BitVec 32 := 0#32
  let v15 : BitVec 1 := Scalar.cmpi .ne v14 c0_i32_10
  v15

def k0_cond2 (i : grid0.Coords) : BitVec 1 :=
  let arg0 : BitVec 32 := BitVec.ofNat 32 (i 0).val
  let c1_i32_6 : BitVec 32 := 1#32
  let v8 : BitVec 1 := Scalar.cmpi .ne arg0 c1_i32_6
  let arg1 : BitVec 32 := BitVec.ofNat 32 (i 1).val
  let c0_i32_7 : BitVec 32 := 0#32
  let v9 : BitVec 1 := Scalar.cmpi .eq arg1 c0_i32_7
  let v10 : BitVec 1 := Scalar.andi v8 v9
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c3_i32 : BitVec 32 := 3#32
  let c0_i32 : BitVec 32 := 0#32
  let v1 : BitVec 1 := Scalar.cmpi .eq c3_i32 c0_i32
  let c1_i32_0 : BitVec 32 := 1#32
  let v2 : BitVec 32 := Scalar.select v1 c1_i32_0 c3_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c9_i32 : BitVec 32 := 9#32
  let v11 : BitVec 32 := Scalar.addi c9_i32 v10
  let c0_i32_4 : BitVec 32 := 0#32
  ![arg1.toNat, v11.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c3_i32 : BitVec 32 := 3#32
  let c0_i32 : BitVec 32 := 0#32
  let v1 : BitVec 1 := Scalar.cmpi .eq c3_i32 c0_i32
  let c1_i32_0 : BitVec 32 := 1#32
  let v2 : BitVec 32 := Scalar.select v1 c1_i32_0 c3_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c9_i32 : BitVec 32 := 9#32
  let v11 : BitVec 32 := Scalar.addi c9_i32 v10
  let c0_i32_4 : BitVec 32 := 0#32
  ![arg1.toNat, v11.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SwBwdReferenceIdeal.lean ====
abbrev S4096x5120 : Shape := ⟨2, ![4096, 5120]⟩
abbrev S64 : Shape := ⟨1, ![64]⟩
abbrev S4096x8 : Shape := ⟨2, ![4096, 8]⟩
abbrev S3x2x4096x128 : Shape := ⟨4, ![3, 2, 4096, 128]⟩
abbrev S2x1x256 : Shape := ⟨3, ![2, 1, 256]⟩
abbrev S3x4096x2x128 : Shape := ⟨4, ![3, 4096, 2, 128]⟩
abbrev S3x4096x4x64 : Shape := ⟨4, ![3, 4096, 4, 64]⟩
abbrev S1x4096x4x64 : Shape := ⟨4, ![1, 4096, 4, 64]⟩
abbrev S4096x4x64 : Shape := ⟨3, ![4096, 4, 64]⟩
abbrev S4096x256 : Shape := ⟨2, ![4096, 256]⟩
abbrev S1x64 : Shape := ⟨2, ![1, 64]⟩
abbrev S4x64 : Shape := ⟨2, ![4, 64]⟩
abbrev S256 : Shape := ⟨1, ![256]⟩
abbrev S_ : Shape := ⟨0, ![]⟩
abbrev S4096x4 : Shape := ⟨2, ![4096, 4]⟩
abbrev S4096x4x1 : Shape := ⟨3, ![4096, 4, 1]⟩
abbrev S1x4x64 : Shape := ⟨3, ![1, 4, 64]⟩
abbrev S4096x4x8 : Shape := ⟨3, ![4096, 4, 8]⟩
abbrev S4096x4x48 : Shape := ⟨3, ![4096, 4, 48]⟩
abbrev S4096x1x8 : Shape := ⟨3, ![4096, 1, 8]⟩
abbrev S4096x768 : Shape := ⟨2, ![4096, 768]⟩
abbrev S4096x2304 : Shape := ⟨2, ![4096, 2304]⟩
abbrev S4096x2048 : Shape := ⟨2, ![4096, 2048]⟩
abbrev S1x256 : Shape := ⟨2, ![1, 256]⟩
abbrev S2x256 : Shape := ⟨2, ![2, 256]⟩

abbrev nBuf : Space → Nat
  | .hbm => 209
  | .vmem => 0
  | .smem => 0
  | _ => 0

abbrev hbmTy0_0 (i : Nat) : BufTy := match i % 128 with
  | 0 => ⟨S4096x5120, .f32⟩
  | 1 => ⟨S64, .f32⟩
  | 2 => ⟨S64, .f32⟩
  | 3 => ⟨S4096x8, .f32⟩
  | 4 => ⟨S4096x8, .f32⟩
  | 5 => ⟨S3x2x4096x128, .f32⟩
  | 6 => ⟨S4096x5120, .bf16⟩
  | 7 => ⟨S2x1x256, .f32⟩
  | 8 => ⟨S3x4096x2x128, .f32⟩
  | 9 => ⟨S3x4096x4x64, .f32⟩
  | 10 => ⟨S1x4096x4x64, .f32⟩
  | 11 => ⟨S4096x4x64, .f32⟩
  | 12 => ⟨S1x4096x4x64, .f32⟩
  | 13 => ⟨S4096x4x64, .f32⟩
  | 14 => ⟨S1x4096x4x64, .f32⟩
  | 15 => ⟨S4096x4x64, .f32⟩
  | 16 => ⟨S4096x256, .f32⟩
  | 17 => ⟨S1x64, .f32⟩
  | 18 => ⟨S4x64, .f32⟩
  | 19 => ⟨S256, .f32⟩
  | 20 => ⟨S4096x4x64, .f32⟩
  | 21 => ⟨S4x64, .f32⟩
  | 22 => ⟨S4096x4x64, .f32⟩
  | 23 => ⟨S_, .f32⟩
  | 24 => ⟨S4096x4, .f32⟩
  | 25 => ⟨S4096x4x1, .f32⟩
  | 26 => ⟨S_, .f32⟩
  | 27 => ⟨S4096x4x1, .f32⟩
  | 28 => ⟨S4096x4x1, .f32⟩
  | 29 => ⟨S_, .f32⟩
  | 30 => ⟨S4096x4x1, .f32⟩
  | 31 => ⟨S4096x4x1, .f32⟩
  | 32 => ⟨S4096x4x1, .f32⟩
  | 33 => ⟨S4096x4x1, .f32⟩
  | 34 => ⟨S_, .f32⟩
  | 35 => ⟨S4096x4x1, .f32⟩
  | 36 => ⟨S4096x4x1, .f32⟩
  | 37 => ⟨S4096x4x64, .f32⟩
  | 38 => ⟨S4096x4x64, .f32⟩
  | 39 => ⟨S1x4x64, .f32⟩
  | 40 => ⟨S4096x4x64, .f32⟩
  | 41 => ⟨S4096x4x64, .f32⟩
  | 42 => ⟨S4096x4x8, .f32⟩
  | 43 => ⟨S4096x4x8, .f32⟩
  | 44 => ⟨S4096x4x48, .f32⟩
  | 45 => ⟨S4096x1x8, .f32⟩
  | 46 => ⟨S4096x1x8, .f32⟩
  | 47 => ⟨S4096x4x8, .f32⟩
  | 48 => ⟨S4096x4x8, .f32⟩
  | 49 => ⟨S4096x4x8, .f32⟩
  | 50 => ⟨S4096x4x8, .f32⟩
  | 51 => ⟨S4096x4x8, .f32⟩
  | 52 => ⟨S4096x4x8, .f32⟩
  | 53 => ⟨S4096x4x8, .f32⟩
  | 54 => ⟨S4096x4x8, .f32⟩
  | 55 => ⟨S4096x4x8, .f32⟩
  | 56 => ⟨S4096x4x8, .f32⟩
  | 57 => ⟨S4096x4x64, .f32⟩
  | 58 => ⟨S4096x4x8, .f32⟩
  | 59 => ⟨S4096x4x8, .f32⟩
  | 60 => ⟨S4096x4x48, .f32⟩
  | 61 => ⟨S4096x4x8, .f32⟩
  | 62 => ⟨S4096x4x8, .f32⟩
  | 63 => ⟨S4096x4x8, .f32⟩
  | 64 => ⟨S4096x4x8, .f32⟩
  | 65 => ⟨S4096x4x8, .f32⟩
  | 66 => ⟨S4096x4x8, .f32⟩
  | 67 => ⟨S4096x4x8, .f32⟩
  | 68 => ⟨S4096x4x8, .f32⟩
  | 69 => ⟨S4096x4x8, .f32⟩
  | 70 => ⟨S4096x4x8, .f32⟩
  | 71 => ⟨S4096x4x8, .f32⟩
  | 72 => ⟨S_, .f32⟩
  | 73 => ⟨S4096x4x64, .f32⟩
  | 74 => ⟨S_, .f32⟩
  | 75 => ⟨S4096x4x64, .f32⟩
  | 76 => ⟨S4096x4x64, .f32⟩
  | 77 => ⟨S_, .f32⟩
  | 78 => ⟨S4096x4x64, .f32⟩
  | 79 => ⟨S4096x4x64, .f32⟩
  | 80 => ⟨S4096x4x64, .f32⟩
  | 81 => ⟨S_, .f32⟩
  | 82 => ⟨S4x64, .f32⟩
  | 83 => ⟨S1x4x64, .f32⟩
  | 84 => ⟨S4096x4x64, .f32⟩
  | 85 => ⟨S4096x4x64, .f32⟩
  | 86 => ⟨S_, .f32⟩
  | 87 => ⟨S4x64, .f32⟩
  | 88 => ⟨S4096x4x64, .f32⟩
  | 89 => ⟨S_, .f32⟩
  | 90 => ⟨S4096x4, .f32⟩
  | 91 => ⟨S4096x4x1, .f32⟩
  | 92 => ⟨S4096x4x64, .f32⟩
  | 93 => ⟨S4096x4x64, .f32⟩
  | 94 => ⟨S4096x4x1, .f32⟩
  | 95 => ⟨S_, .f32⟩
  | 96 => ⟨S4096x4x1, .f32⟩
  | 97 => ⟨S4096x4x1, .f32⟩
  | 98 => ⟨S_, .f32⟩
  | 99 => ⟨S4096x4, .f32⟩
  | 100 => ⟨S4096x4x64, .f32⟩
  | 101 => ⟨S4096x4x64, .f32⟩
  | 102 => ⟨S4096x4x64, .f32⟩
  | 103 => ⟨S4096x4x64, .f32⟩
  | 104 => ⟨S4096x4x64, .f32⟩
  | 105 => ⟨S256, .f32⟩
  | 106 => ⟨S4096x256, .f32⟩
  | 107 => ⟨S4096x256, .f32⟩
  | 108 => ⟨S1x64, .f32⟩
  | 109 => ⟨S4x64, .f32⟩
  | 110 => ⟨S256, .f32⟩
  | 111 => ⟨S4096x4x64, .f32⟩
  | 112 => ⟨S4x64, .f32⟩
  | 113 => ⟨S4096x4x64, .f32⟩
  | 114 => ⟨S_, .f32⟩
  | 115 => ⟨S4096x4, .f32⟩
  | 116 => ⟨S4096x4x1, .f32⟩
  | 117 => ⟨S_, .f32⟩
  | 118 => ⟨S4096x4x1, .f32⟩
  | 119 => ⟨S4096x4x1, .f32⟩
  | 120 => ⟨S_, .f32⟩
  | 121 => ⟨S4096x4x1, .f32⟩
  | 122 => ⟨S4096x4x1, .f32⟩
  | 123 => ⟨S4096x4x1, .f32⟩
  | 124 => ⟨S4096x4x1, .f32⟩
  | 125 => ⟨S_, .f32⟩
  | 126 => ⟨S4096x4x1, .f32⟩
  | 127 => ⟨S4096x4x1, .f32⟩
  | _ => ⟨S4096x5120, .f32⟩

abbrev hbmTy0_1 (i : Nat) : BufTy := match i % 128 with
  | 0 => ⟨S4096x4x64, .f32⟩
  | 1 => ⟨S4096x4x64, .f32⟩
  | 2 => ⟨S1x4x64, .f32⟩
  | 3 => ⟨S4096x4x64, .f32⟩
  | 4 => ⟨S4096x4x64, .f32⟩
  | 5 => ⟨S4096x4x8, .f32⟩
  | 6 => ⟨S4096x4x8, .f32⟩
  | 7 => ⟨S4096x4x48, .f32⟩
  | 8 => ⟨S4096x1x8, .f32⟩
  | 9 => ⟨S4096x1x8, .f32⟩
  | 10 => ⟨S4096x4x8, .f32⟩
  | 11 => ⟨S4096x4x8, .f32⟩
  | 12 => ⟨S4096x4x8, .f32⟩
  | 13 => ⟨S4096x4x8, .f32⟩
  | 14 => ⟨S4096x4x8, .f32⟩
  | 15 => ⟨S4096x4x8, .f32⟩
  | 16 => ⟨S4096x4x8, .f32⟩
  | 17 => ⟨S4096x4x8, .f32⟩
  | 18 => ⟨S4096x4x8, .f32⟩
  | 19 => ⟨S4096x4x8, .f32⟩
  | 20 => ⟨S4096x4x64, .f32⟩
  | 21 => ⟨S4096x4x8, .f32⟩
  | 22 => ⟨S4096x4x8, .f32⟩
  | 23 => ⟨S4096x4x48, .f32⟩
  | 24 => ⟨S4096x4x8, .f32⟩
  | 25 => ⟨S4096x4x8, .f32⟩
  | 26 => ⟨S4096x4x8, .f32⟩
  | 27 => ⟨S4096x4x8, .f32⟩
  | 28 => ⟨S4096x4x8, .f32⟩
  | 29 => ⟨S4096x4x8, .f32⟩
  | 30 => ⟨S4096x4x8, .f32⟩
  | 31 => ⟨S4096x4x8, .f32⟩
  | 32 => ⟨S4096x4x8, .f32⟩
  | 33 => ⟨S4096x4x8, .f32⟩
  | 34 => ⟨S4096x4x8, .f32⟩
  | 35 => ⟨S_, .f32⟩
  | 36 => ⟨S4096x4x64, .f32⟩
  | 37 => ⟨S_, .f32⟩
  | 38 => ⟨S4096x4x64, .f32⟩
  | 39 => ⟨S4096x4x64, .f32⟩
  | 40 => ⟨S_, .f32⟩
  | 41 => ⟨S4096x4x64, .f32⟩
  | 42 => ⟨S4096x4x64, .f32⟩
  | 43 => ⟨S4096x4x64, .f32⟩
  | 44 => ⟨S_, .f32⟩
  | 45 => ⟨S4x64, .f32⟩
  | 46 => ⟨S1x4x64, .f32⟩
  | 47 => ⟨S4096x4x64, .f32⟩
  | 48 => ⟨S4096x4x64, .f32⟩
  | 49 => ⟨S_, .f32⟩
  | 50 => ⟨S4x64, .f32⟩
  | 51 => ⟨S4096x4x64, .f32⟩
  | 52 => ⟨S_, .f32⟩
  | 53 => ⟨S4096x4, .f32⟩
  | 54 => ⟨S4096x4x1, .f32⟩
  | 55 => ⟨S4096x4x64, .f32⟩
  | 56 => ⟨S4096x4x64, .f32⟩
  | 57 => ⟨S4096x4x1, .f32⟩
  | 58 => ⟨S_, .f32⟩
  | 59 => ⟨S4096x4x1, .f32⟩
  | 60 => ⟨S4096x4x1, .f32⟩
  | 61 => ⟨S_, .f32⟩
  | 62 => ⟨S4096x4, .f32⟩
  | 63 => ⟨S4096x4x64, .f32⟩
  | 64 => ⟨S4096x4x64, .f32⟩
  | 65 => ⟨S4096x4x64, .f32⟩
  | 66 => ⟨S4096x4x64, .f32⟩
  | 67 => ⟨S4096x4x64, .f32⟩
  | 68 => ⟨S256, .f32⟩
  | 69 => ⟨S4096x256, .f32⟩
  | 70 => ⟨S4096x256, .f32⟩
  | 71 => ⟨S4096x768, .f32⟩
  | 72 => ⟨S4096x768, .bf16⟩
  | 73 => ⟨S4096x2304, .bf16⟩
  | 74 => ⟨S4096x2048, .bf16⟩
  | 75 => ⟨S4096x5120, .bf16⟩
  | 76 => ⟨S1x256, .f32⟩
  | 77 => ⟨S1x256, .f32⟩
  | 78 => ⟨S2x256, .f32⟩
  | 79 => ⟨S2x1x256, .f32⟩
  | 80 => ⟨S2x1x256, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_3 : Ref sig .tc := ⟨.hbm, 72, rfl⟩
abbrev main_v60 : Ref sig .tc := ⟨.hbm, 73, rfl⟩
abbrev main_cst_4 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_7 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_cst_13 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_14 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_cst_15 : Ref sig .tc := ⟨.hbm, 163, rfl⟩
abbrev main_v139 : Ref sig .tc := ⟨.hbm, 164, rfl⟩
abbrev main_cst_16 : Ref sig .tc := ⟨.hbm, 165, rfl⟩
abbrev main_v140 : Ref sig .tc := ⟨.hbm, 166, rfl⟩
abbrev main_v141 : Ref sig .tc := ⟨.hbm, 167, rfl⟩
abbrev main_cst_17 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_cst_18 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_cst_19 : Ref sig .tc := ⟨.hbm, 177, rfl⟩
abbrev main_v149 : Ref sig .tc := ⟨.hbm, 178, rfl⟩
abbrev main_v150 : Ref sig .tc := ⟨.hbm, 179, rfl⟩
abbrev main_cst_20 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_cst_21 : Ref sig .tc := ⟨.hbm, 186, rfl⟩
abbrev main_v156 : Ref sig .tc := ⟨.hbm, 187, rfl⟩
abbrev main_v157 : Ref sig .tc := ⟨.hbm, 188, rfl⟩
abbrev main_cst_22 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩

abbrev nD : Nat := 1
abbrev τ : Topo := Topo.v7x

variable {F : FTy → Type} [FloatOps F]
-- ==== Proof.GmSpec.lean ====
module

public import Idealize.ShloMosaic.PureOps.Ideal
public import Idealize.ShloMosaic.PureOps.Ideal.Laws

/-! The spatial gating mixer and its gradient over the reals: one block of 128 positions. -/

@[expose] public section

set_option maxRecDepth 16384

noncomputable section

namespace Cert.Gm

open Idealize.ShloMosaic

/-- The error function on the reals. -/
def erfR (r : ℝ) : ℝ := 2 / √Real.pi * ∫ t in (0:ℝ)..r, Real.exp (-(t ^ 2))

/-- The normal distribution function. -/
def hlf (x : ℝ) : ℝ := 1 / 2 * (1 + erfR (x * (√2)⁻¹))
/-- The exact gelu. -/
def gel (x : ℝ) : ℝ := x * hlf x
/-- The derivative of the exact gelu. -/
def dgel (x : ℝ) : ℝ := hlf x + x * Real.exp (-(1 / 2) * x * x) * (√(2 * Real.pi))⁻¹

/-- The small number added to the variance. -/
def eps : ℝ := 8796093 / 2 ^ 43

/-- The mean of a row. -/
def mean (v : Fin 256 → ℝ) : ℝ := (∑ k, v k) * (1 / 256)
/-- The centred row. -/
def cen (v : Fin 256 → ℝ) (c : Fin 256) : ℝ := v c - mean v
/-- The variance of a row. -/
def var (v : Fin 256 → ℝ) : ℝ := mean fun k => cen v k * cen v k
/-- One over the standard deviation. -/
def rs (v : Fin 256 → ℝ) : ℝ := (√(var v + eps))⁻¹
/-- The normalised row. -/
def nrm (v : Fin 256 → ℝ) (c : Fin 256) : ℝ := cen v c * rs v
/-- The gradient of the normalisation: `d` is the cotangent of the normalised row. -/
def dnrm (v d : Fin 256 → ℝ) (c : Fin 256) : ℝ :=
  rs v * (d c - mean d - nrm v c * mean fun k => d k * nrm v k)

/-- The group of a column. -/
def grp (c : Fin 256) : Fin 4 := ⟨c.val / 64, by omega⟩
/-- The column of the first half. -/
def lo (c : Fin 256) : Fin 512 := ⟨c.val, by omega⟩
/-- The column of the second half. -/
def hi (c : Fin 256) : Fin 512 := ⟨256 + c.val, by omega⟩

section
variable (X : Fin 128 → Fin 512 → ℝ) (g b : Fin 256 → ℝ) (W : Fin 4 → Fin 128 → Fin 128 → ℝ)
  (B : Fin 4 → Fin 128 → ℝ) (D : Fin 128 → Fin 256 → ℝ)

/-- The half that gates. -/
def uu (r : Fin 128) (c : Fin 256) : ℝ := gel (X r (lo c))
/-- The half that is mixed. -/
def vv (r : Fin 128) (c : Fin 256) : ℝ := gel (X r (hi c))
/-- The mixed half after the layer norm. -/
def vn (r : Fin 128) (c : Fin 256) : ℝ := nrm (vv X r) c * g c + b c
/-- The masked mixing weights. -/
def wt (k : Fin 4) (r j : Fin 128) : ℝ := if j ≤ r then W k r j else 0
/-- The mixed half after the mixing. -/
def sv (r : Fin 128) (c : Fin 256) : ℝ := ∑ j, wt W (grp c) r j * vn X g b j c + B (grp c) r
/-- The cotangent of the mixing's result. -/
def dsv (r : Fin 128) (c : Fin 256) : ℝ := D r c * uu X r c
/-- The cotangent of the layer norm's result. -/
def dvn (j : Fin 128) (c : Fin 256) : ℝ := ∑ r, wt W (grp c) r j * dsv X D r c
/-- The gradient of the mixing weights. -/
def dws (k : Fin 4) (r j : Fin 128) : ℝ :=
  if j ≤ r then ∑ c, (if grp c = k then dsv X D r c else 0) * vn X g b j c else 0
/-- The gradient of the mixing biases. -/
def dbs (k : Fin 4) (r : Fin 128) : ℝ := ∑ c, if grp c = k then dsv X D r c else 0
/-- The gradient of the layer norm's scale. -/
def dlg (c : Fin 256) : ℝ := ∑ j, dvn X W D j c * nrm (vv X j) c
/-- The gradient of the layer norm's shift. -/
def dlb (c : Fin 256) : ℝ := ∑ j, dvn X W D j c
/-- The gradient of the gating half of the input. -/
def dul (r : Fin 128) (c : Fin 256) : ℝ := D r c * sv X g b W B r c * dgel (X r (lo c))
/-- The gradient of the mixed half of the input. -/
def duh (r : Fin 128) (c : Fin 256) : ℝ :=
  dnrm (vv X r) (fun k => dvn X W D r k * g k) c * dgel (X r (hi c))

end

/-- The row of the whole array that row `r` of block `n` is. -/
def row (n : ℕ) (r : Fin 128) : Fin 4096 := ⟨(128 * n + r.val) % 4096, Nat.mod_lt _ (by decide)⟩

theorem row_val {n : ℕ} (hn : n < 32) (r : Fin 128) : (row n r).val = 128 * n + r.val := by
  show (128 * n + r.val) % 4096 = _
  rw [Nat.mod_eq_of_lt (by omega)]

section
variable (P : Fin 4096 → Fin 512 → ℝ) (g b : Fin 256 → ℝ) (W : Fin 4 → Fin 128 → Fin 128 → ℝ)
  (B : Fin 4 → Fin 128 → ℝ) (D : Fin 4096 → Fin 256 → ℝ)

/-- The gradient of the mixing weights over all blocks. -/
def allW (k : Fin 4) (r j : Fin 128) : ℝ :=
  ∑ n ∈ Finset.range 32, dws (fun r => P (row n r)) g b (fun r => D (row n r)) k r j
/-- The gradient of the mixing biases over all blocks, on the first four lanes. -/
def allB (r l : Fin 128) : ℝ :=
  ∑ n ∈ Finset.range 32, if h : l.val < 4 then dbs (fun r => P (row n r)) (fun r => D (row n r)) ⟨l.val, h⟩ r else 0
/-- The gradients of the layer norm's scale (row 0) and shift (row 1) over all blocks. -/
def allN (q : Fin 8) (c : Fin 256) : ℝ :=
  ∑ n ∈ Finset.range 32, if q.val = 0 then dlg (fun r => P (row n r)) W (fun r => D (row n r)) c
    else if q.val = 1 then dlb (fun r => P (row n r)) W (fun r => D (row n r)) c else 0
/-- The gradient of the input at row `r` of block `n`. -/
def allU (n : ℕ) (r : Fin 128) (q : Fin 512) : ℝ :=
  if h : q.val < 256 then dul (fun r => P (row n r)) g b W B (fun r => D (row n r)) r ⟨q.val, h⟩
  else duh (fun r => P (row n r)) g W (fun r => D (row n r)) r ⟨q.val - 256, by omega⟩

end

/-! ### Numbers -/

theorem eps_pos : 0 < eps := by norm_num [eps]

theorem var_nonneg (v : Fin 256 → ℝ) : 0 ≤ var v := by
  unfold var mean
  exact mul_nonneg (Finset.sum_nonneg fun k _ => mul_self_nonneg _) (by norm_num)

theorem var_eps_pos (v : Fin 256 → ℝ) : 0 < var v + eps := add_pos_of_nonneg_of_pos (var_nonneg v) eps_pos

theorem ofBits_eps : Ideal.ofBits .f32 897988541#32 = ((eps : ℝ) : EReal) := by
  simp [Ideal.ofBits, Ideal.ieee, eps, -EReal.coe_mul]; norm_num

theorem ofBits_256 : Ideal.ofBits .f32 1132462080#32 = ((256 : ℝ) : EReal) := by
  simp [Ideal.ofBits, Ideal.ieee, -EReal.coe_mul]; norm_num

/-- The mean of a row of reals. -/
theorem div_256 (x : ℝ) : Ideal.div (x : EReal) (Ideal.ofBits .f32 1132462080#32) = ((x * (1 / 256) : ℝ) : EReal) := by
  rw [ofBits_256, Ideal.div_coe (by norm_num), ← EReal.coe_mul]

theorem ofBits_two : Ideal.ofBits .f32 1073741824#32 = ((2 : ℝ) : EReal) := by
  simp [Ideal.ofBits, Ideal.ieee, -EReal.coe_mul]; norm_num

theorem ofBits_four : Ideal.ofBits .f32 1082130432#32 = ((4 : ℝ) : EReal) := by
  simp [Ideal.ofBits, Ideal.ieee, -EReal.coe_mul]; norm_num

theorem ofBits_half : Ideal.ofBits .f32 1056964608#32 = (((1:ℝ)/2 : ℝ) : EReal) := by
  simp [Ideal.ofBits, Ideal.ieee, -EReal.coe_mul]; norm_num

theorem ofBits_neg_half : Ideal.ofBits .f32 3204448256#32 = ((-(1/2) : ℝ) : EReal) := by
  simp [Ideal.ofBits, Ideal.ieee, -EReal.coe_mul]; norm_num

theorem ofBits_one : Ideal.ofBits .f32 1065353216#32 = ((1 : ℝ) : EReal) := by
  simp [Ideal.ofBits, Ideal.ieee, -EReal.coe_mul]; norm_num

theorem ofBits_zero : Ideal.ofBits .f32 0#32 = ((0 : ℝ) : EReal) := by
  simp [Ideal.ofBits, Ideal.ieee, -EReal.coe_mul]

theorem rsqrt_var (v : Fin 256 → ℝ) : Ideal.rsqrt (((var v + eps : ℝ)) : EReal) = ((rs v : ℝ) : EReal) := by
  have h := var_eps_pos v
  rw [Ideal.rsqrt_coe, if_neg (not_lt.2 h.le), if_neg h.ne']
  rfl

theorem erf_real (r : ℝ) : Ideal.erf (r : EReal) = ((erfR r : ℝ) : EReal) := by
  rw [Ideal.erf_coe]; rfl

/-- A choice of two reals, read as extended reals. -/
theorem coe_ite (p : Prop) [Decidable p] (a b : ℝ) :
    (if p then (a : EReal) else (b : EReal)) = ((if p then a else b : ℝ) : EReal) := by
  split <;> rfl

/-- A finite sum of reals, read as extended reals. -/
theorem coe_sum {ι : Type} [Fintype ι] (f : ι → ℝ) : (∑ x, (f x : EReal)) = ((∑ x, f x : ℝ) : EReal) := by
  classical
  induction (Finset.univ : Finset ι) using Finset.induction_on with
  | empty => simp
  | insert a s ha ih => rw [Finset.sum_insert ha, Finset.sum_insert ha, ih, EReal.coe_add]

end Cert.Gm

end
-- ==== Proof.GmPre.lean ====
module

public import proofs.«01_k».proof.Defs
public import proofs.«01_k».proof.Proof.GmSpec
public import Idealize.ShloMosaic.Lib.Pointwise
public import Idealize.ShloMosaic.Lib.IdealHost

/-! The precondition: an element whose absolute value is below infinity is a real. -/

@[expose] public section

set_option maxRecDepth 16384

noncomputable section

namespace Cert.Gm

open Idealize.ShloMosaic

theorem ofBits_inf : Ideal.ofBits .f32 2139095040#32 = ⊤ := by
  simp [Ideal.ofBits, Ideal.ieee]

/-- Elements all below infinity in absolute value are reals. -/
theorem real_of_lt {s : Shape} (x inf : FVec Ideal s .f32) (hi : ∀ i, inf i = ⊤)
    (h : cmpf .olt (Host.absf x) inf = fun _ => 1#1) (i : s.Idx) : x i = (((x i).toReal : ℝ) : EReal) := by
  have h := congrFun h i
  pointwise [] at h
  rw [hi] at h
  have hl : max (x i) (-x i) < (⊤ : EReal) := by
    by_contra hn
    change BitVec.ofBool (decide (max (x i) (-x i) < (⊤ : EReal))) = 1#1 at h
    rw [decide_eq_false hn] at h
    exact absurd h (by decide)
  refine (EReal.coe_toReal (fun e => ?_) fun e => ?_).symm
  · rw [e] at hl
    simp at hl
  · rw [e] at hl
    simp at hl

variable [hP : Cert.Pre_finite.Facts] (m : (ℓ : Loc Cert.KernelIdeal.nD Cert.KernelIdeal.τ Cert.KernelIdeal.sig) → Buf (Elt Ideal) ℓ)

/-- Under the precondition every element of the six arguments is a real. -/
theorem pre_real (h : Cert.Pre_KernelIdeal_finite m) (c : Dev Cert.KernelIdeal.nD) :
    (∀ (r : Fin 4096) (q : Fin 512), m ((c.tc : Thread Cert.KernelIdeal.nD Cert.KernelIdeal.τ).loc Cert.KernelIdeal.main_arg0) (ix2 r ⟨4608 + q.val, by omega⟩)
      = (((m ((c.tc : Thread Cert.KernelIdeal.nD Cert.KernelIdeal.τ).loc Cert.KernelIdeal.main_arg0) (ix2 r ⟨4608 + q.val, by omega⟩) : EReal).toReal : ℝ) : EReal))
    ∧ (∀ i, m ((c.tc : Thread Cert.KernelIdeal.nD Cert.KernelIdeal.τ).loc Cert.KernelIdeal.main_arg1) i = (((m ((c.tc : Thread Cert.KernelIdeal.nD Cert.KernelIdeal.τ).loc Cert.KernelIdeal.main_arg1) i : EReal).toReal : ℝ) : EReal))
    ∧ (∀ i, m ((c.tc : Thread Cert.KernelIdeal.nD Cert.KernelIdeal.τ).loc Cert.KernelIdeal.main_arg2) i = (((m ((c.tc : Thread Cert.KernelIdeal.nD Cert.KernelIdeal.τ).loc Cert.KernelIdeal.main_arg2) i : EReal).toReal : ℝ) : EReal))
    ∧ (∀ i, m ((c.tc : Thread Cert.KernelIdeal.nD Cert.KernelIdeal.τ).loc Cert.KernelIdeal.main_arg3) i = (((m ((c.tc : Thread Cert.KernelIdeal.nD Cert.KernelIdeal.τ).loc Cert.KernelIdeal.main_arg3) i : EReal).toReal : ℝ) : EReal))
    ∧ (∀ i, m ((c.tc : Thread Cert.KernelIdeal.nD Cert.KernelIdeal.τ).loc Cert.KernelIdeal.main_arg4) i = (((m ((c.tc : Thread Cert.KernelIdeal.nD Cert.KernelIdeal.τ).loc Cert.KernelIdeal.main_arg4) i : EReal).toReal : ℝ) : EReal))
    ∧ (∀ (r : Fin 4096) (q : Fin 256), m ((c.tc : Thread Cert.KernelIdeal.nD Cert.KernelIdeal.τ).loc Cert.KernelIdeal.main_arg5) (ix2 r ⟨512 + q.val, by omega⟩)
      = (((m ((c.tc : Thread Cert.KernelIdeal.nD Cert.KernelIdeal.τ).loc Cert.KernelIdeal.main_arg5) (ix2 r ⟨512 + q.val, by omega⟩) : EReal).toReal : ℝ) : EReal)) := by
  have top (i) : constant (F := Ideal) Cert.Pre_finite.S_ .f32 0x7F800000#32 i = ⊤ := ofBits_inf
  obtain ⟨h0, h1, h2, h3, h4, h5⟩ := h c
  refine ⟨fun r q => ?_, real_of_lt _ _ (fun i => top _) h1, real_of_lt _ _ (fun i => top _) h2,
    real_of_lt _ _ (fun i => top _) h3, real_of_lt _ _ (fun i => top _) h4, fun r q => ?_⟩
  · have e := real_of_lt _ _ (fun i => top _) h0 (ix2 r q)
    pointwise [] at e
    exact e
  · have e := real_of_lt _ _ (fun i => top _) h5 (ix2 r q)
    pointwise [] at e
    exact e

end Cert.Gm
end
-- ==== Proof.GmStage.lean ====
module

public import proofs.«01_k».proof.Proof.Gen.KernelIdeal.Skeleton
public import proofs.«01_k».proof.Proof.GmSpec
public import Idealize.ShloMosaic.PureOps.IdealRules
public import Idealize.ShloMosaic.Lib.Pointwise
public import Idealize.ShloMosaic.Lib.IdealHost

/-! The kernel's pure steps over finite arguments: the gelu, the layer norm and the masks. -/

@[expose] public section

set_option maxRecDepth 16384

noncomputable section

namespace Cert.KernelIdeal.Gm

open Cert.KernelIdeal Cert.KernelIdeal.Gen Cert.Gm Idealize.ShloMosaic

theorem sqrt_half : Named.named (F := Ideal) κ "sqrt_half" (φ := .f32) 1060439283#32 = (((√2)⁻¹ : ℝ) : EReal) :=
  IdealRules.named_const.ideal_named_scalar _ _ _ _ rfl

theorem inv_sqrt_2pi : Named.named (F := Ideal) κ "inv_sqrt_2pi" (φ := .f32) 1053573674#32 = (((√(2 * Real.pi))⁻¹ : ℝ) : EReal) :=
  IdealRules.named_const.ideal_named_scalar _ _ _ _ rfl

section
variable {x0 : Vec Ideal S128x512 .f32} {x1 x2 : Vec Ideal S1x256 .f32}
  {X : Fin 128 → Fin 512 → ℝ} {g b : Fin 256 → ℝ}

theorem pay9_real (h0 : ∀ r c, x0 (ix2 r c) = ((X r c : ℝ) : EReal)) (r : Fin 128) (c : Fin 512) :
    k0_pay9 x0 (ix2 r c) = ((hlf (X r c) : ℝ) : EReal) := by
  pointwise [k0_pay9]
  rw [sqrt_half, h0, ofBits_half, ← EReal.coe_mul, Ideal.erf_def, erf_real, ← EReal.coe_one, ← EReal.coe_add, ← EReal.coe_mul]
  rfl

theorem pay10_real (h0 : ∀ r c, x0 (ix2 r c) = ((X r c : ℝ) : EReal)) (r : Fin 128) (c : Fin 512) :
    k0_pay10 x0 (ix2 r c) = ((gel (X r c) : ℝ) : EReal) := by
  pointwise [k0_pay10]
  rw [pay9_real h0, h0, ← EReal.coe_mul]
  rfl

theorem pay11_real (h0 : ∀ r c, x0 (ix2 r c) = ((X r c : ℝ) : EReal)) (r : Fin 128) (c : Fin 512) :
    k0_pay11 x0 (ix2 r c) = ((dgel (X r c) : ℝ) : EReal) := by
  pointwise [k0_pay11]
  rw [pay9_real h0, h0, inv_sqrt_2pi, ofBits_neg_half]
  simp only [← EReal.coe_mul, Ideal.exp_coe, ← EReal.coe_add]
  rfl

theorem pay12_real (h0 : ∀ r c, x0 (ix2 r c) = ((X r c : ℝ) : EReal)) (r : Fin 128) (c : Fin 256) :
    k0_pay12 x0 (ix2 r c) = ((uu X r c : ℝ) : EReal) := by
  pointwise [k0_pay12]
  rw [pay10_real h0]
  rfl

theorem pay13_real (h0 : ∀ r c, x0 (ix2 r c) = ((X r c : ℝ) : EReal)) (r : Fin 128) (c : Fin 256) :
    k0_pay13 x0 (ix2 r c) = ((cen (vv X r) c : ℝ) : EReal) := by
  pointwise [k0_pay13]
  simp only [pay10_real h0, coe_sum, div_256, ← EReal.coe_sub]
  rfl

theorem pay14_real (h0 : ∀ r c, x0 (ix2 r c) = ((X r c : ℝ) : EReal)) (r : Fin 128) :
    k0_pay14 x0 (ix2 r 0) = ((var (vv X r) : ℝ) : EReal) := by
  pointwise [k0_pay14]
  simp only [pay13_real h0, ← EReal.coe_mul, coe_sum, div_256]
  rfl

theorem pay15_real (h0 : ∀ r c, x0 (ix2 r c) = ((X r c : ℝ) : EReal)) (r : Fin 128) :
    k0_pay15 (k0_pay14 x0) (ix2 r 0) = ((rs (vv X r) : ℝ) : EReal) := by
  pointwise [k0_pay15]
  rw [pay14_real h0, ofBits_eps, ← EReal.coe_add, rsqrt_var]

theorem pay16_real (h0 : ∀ r c, x0 (ix2 r c) = ((X r c : ℝ) : EReal)) (r : Fin 128) (c : Fin 256) :
    k0_pay16 (k0_pay13 x0) (k0_pay14 x0) (ix2 r c) = ((nrm (vv X r) c : ℝ) : EReal) := by
  pointwise [k0_pay16]
  rw [pay13_real h0, pay15_real h0, ← EReal.coe_mul]
  rfl

theorem pay17_real (h0 : ∀ r c, x0 (ix2 r c) = ((X r c : ℝ) : EReal)) (h1 : ∀ c, x1 (ix2 0 c) = ((g c : ℝ) : EReal))
    (h2 : ∀ c, x2 (ix2 0 c) = ((b c : ℝ) : EReal)) (r : Fin 128) (c : Fin 256) :
    k0_pay17 (k0_pay6 x1) (k0_pay7 x2) (k0_pay13 x0) (k0_pay14 x0) (ix2 r c) = ((vn X g b r c : ℝ) : EReal) := by
  pointwise [k0_pay17, k0_pay6, k0_pay7]
  rw [pay16_real h0, h1, h2, ← EReal.coe_mul, ← EReal.coe_add]
  rfl

end

/-! ### Masks -/

theorem pay18_at (r : Fin 128) (c : Fin 256) : k0_pay18 (ix2 r c) = BitVec.ofNat 32 (grp c).val := by
  pointwise [k0_pay18]
  revert c
  decide +kernel

/-- A choice by the group of the column. -/
theorem sel_grp (a b : EReal) (c : Fin 256) (k : Fin 4) :
    Scalar.select (IntOp.cmpi .eq (BitVec.ofNat 32 (grp c).val) (BitVec.ofNat 32 k.val)) a b = if grp c = k then a else b := by
  have h : ∀ x k : Fin 4, IntOp.cmpi .eq (BitVec.ofNat 32 x.val) (BitVec.ofNat 32 k.val) = if x = k then 1#1 else 0#1 := by
    decide +kernel
  rw [h]
  split <;> simp [Scalar.select]

/-- A choice by the lower triangle. -/
theorem sel_tril (a b : EReal) (r j : Fin 128) :
    Scalar.select (k0_pay19 (ix2 r j)) a b = if j ≤ r then a else b := by
  have h : ∀ r j : Fin 128, IntOp.cmpi .sge (BitVec.ofNat 32 r.val) (BitVec.ofNat 32 j.val) = if j ≤ r then 1#1 else 0#1 := by
    decide +kernel
  pointwise [k0_pay19]
  rw [h]
  split <;> simp [Scalar.select]

/-- A choice by the lane. -/
theorem sel_lane (a b : EReal) (l : Fin 128) (k : Fin 4) :
    Scalar.select (IntOp.cmpi .eq (BitVec.ofNat 32 l.val) (BitVec.ofNat 32 k.val)) a b = if l.val = k.val then a else b := by
  have h : ∀ (x : Fin 128) (k : Fin 4), IntOp.cmpi .eq (BitVec.ofNat 32 x.val) (BitVec.ofNat 32 k.val) = if x.val = k.val then 1#1 else 0#1 := by
    decide +kernel
  rw [h]
  split <;> simp [Scalar.select]

end Cert.KernelIdeal.Gm
end
-- ==== Proof.GmGroup.lean ====
module

public import proofs.«01_k».proof.Proof.GmStage

/-! The kernel's steps over the four groups, over finite arguments: the mixing and its gradients. -/

@[expose] public section

set_option maxRecDepth 16384

noncomputable section

namespace Cert.KernelIdeal.Gm

open Cert.KernelIdeal Cert.KernelIdeal.Gen Cert.Gm Idealize.ShloMosaic

theorem sel_g0 (a b : EReal) (c : Fin 256) :
    Scalar.select (IntOp.cmpi .eq (BitVec.ofNat 32 (grp c).val) 0#32) a b = if grp c = 0 then a else b := sel_grp a b c 0
theorem sel_g1 (a b : EReal) (c : Fin 256) :
    Scalar.select (IntOp.cmpi .eq (BitVec.ofNat 32 (grp c).val) 1#32) a b = if grp c = 1 then a else b := sel_grp a b c 1
theorem sel_g2 (a b : EReal) (c : Fin 256) :
    Scalar.select (IntOp.cmpi .eq (BitVec.ofNat 32 (grp c).val) 2#32) a b = if grp c = 2 then a else b := sel_grp a b c 2
theorem sel_g3 (a b : EReal) (c : Fin 256) :
    Scalar.select (IntOp.cmpi .eq (BitVec.ofNat 32 (grp c).val) 3#32) a b = if grp c = 3 then a else b := sel_grp a b c 3

theorem sel_l0 (a b : EReal) (l : Fin 128) :
    Scalar.select (IntOp.cmpi .eq (BitVec.ofNat 32 l.val) 0#32) a b = if l.val = 0 then a else b := sel_lane a b l 0
theorem sel_l1 (a b : EReal) (l : Fin 128) :
    Scalar.select (IntOp.cmpi .eq (BitVec.ofNat 32 l.val) 1#32) a b = if l.val = 1 then a else b := sel_lane a b l 1
theorem sel_l2 (a b : EReal) (l : Fin 128) :
    Scalar.select (IntOp.cmpi .eq (BitVec.ofNat 32 l.val) 2#32) a b = if l.val = 2 then a else b := sel_lane a b l 2
theorem sel_l3 (a b : EReal) (l : Fin 128) :
    Scalar.select (IntOp.cmpi .eq (BitVec.ofNat 32 l.val) 3#32) a b = if l.val = 3 then a else b := sel_lane a b l 3

theorem coe_ite_zero (p : Prop) [Decidable p] (a : ℝ) :
    (if p then (a : EReal) else 0) = ((if p then a else 0 : ℝ) : EReal) := by
  split <;> rfl

/-- One of four groups. -/
theorem four (k : Fin 4) : k = 0 ∨ k = 1 ∨ k = 2 ∨ k = 3 := by
  revert k; decide

theorem dsv_real {x0 : Vec Ideal S128x512 .f32} {x5 : Vec Ideal S128x256 .f32} {X : Fin 128 → Fin 512 → ℝ} {D : Fin 128 → Fin 256 → ℝ}
    (h0 : ∀ r c, x0 (ix2 r c) = ((X r c : ℝ) : EReal)) (h5 : ∀ r c, x5 (ix2 r c) = ((D r c : ℝ) : EReal))
    (r : Fin 128) (c : Fin 256) : k0_pay30 (k0_pay12 x0) x5 (ix2 r c) = ((dsv X D r c : ℝ) : EReal) := by
  pointwise [k0_pay30]
  rw [h5, pay12_real h0, ← EReal.coe_mul]
  rfl

section
variable {x0 : Vec Ideal S128x512 .f32} {x4 : Vec Ideal S128x128 .f32} {x5 : Vec Ideal S128x256 .f32}
  {X : Fin 128 → Fin 512 → ℝ} {g b : Fin 256 → ℝ} {W : Fin 4 → Fin 128 → Fin 128 → ℝ}
  {B : Fin 4 → Fin 128 → ℝ} {D : Fin 128 → Fin 256 → ℝ}
  {v : FVec Ideal S128x256 .f32} {w : Fin 4 → Vec Ideal S1x128x128 .f32}

theorem sv_real (hv : ∀ r c, v (ix2 r c) = ((vn X g b r c : ℝ) : EReal))
    (hw : ∀ k r j, w k (ix3 0 r j) = ((W k r j : ℝ) : EReal))
    (h4 : ∀ r (k : Fin 4), x4 (ix2 r ⟨k.val, by omega⟩) = ((B k r : ℝ) : EReal)) (r : Fin 128) (c : Fin 256) :
    k0_pay29 (k0_pay8 x4) v k0_pay18 k0_pay19 (k0_pay25 k0_pay18)
      (k0_pay26 (k0_pay8 x4) v k0_pay18 k0_pay19 k0_pay20 k0_pay21 (k0_pay22 (w 0)) k0_pay23 (w 1) (w 2))
      (k0_pay27 (k0_pay8 x4)) (FloatOps.ofBits FTy.f32 0#32) (w 3) (ix2 r c) = ((sv X g b W B r c : ℝ) : EReal) := by
  pointwise [k0_pay29, k0_pay26, k0_pay27, k0_pay28, k0_pay20, k0_pay21, k0_pay22, k0_pay23, k0_pay24, k0_pay25, k0_pay8]
  have e0 := h4 r 0
  have e1 := h4 r 1
  have e2 := h4 r 2
  have e3 := h4 r 3
  change x4 (ix2 r 0) = _ at e0
  change x4 (ix2 r 1) = _ at e1
  change x4 (ix2 r 2) = _ at e2
  change x4 (ix2 r 3) = _ at e3
  simp only [pay18_at, sel_g0, sel_g1, sel_g2, sel_g3, sel_tril, hw, hv, e0, e1, e2, e3]
  unfold sv wt
  rcases four (grp c) with h | h | h | h <;>
    simp [h, ← EReal.coe_mul, coe_ite_zero, coe_sum]

theorem dvn_real (h0 : ∀ r c, x0 (ix2 r c) = ((X r c : ℝ) : EReal))
    (hw : ∀ k r j, w k (ix3 0 r j) = ((W k r j : ℝ) : EReal))
    (h5 : ∀ r c, x5 (ix2 r c) = ((D r c : ℝ) : EReal)) (j : Fin 128) (c : Fin 256) :
    k0_pay47 k0_pay19 (k0_pay28 k0_pay18) (k0_pay30 (k0_pay12 x0) x5)
      (k0_pay43 k0_pay19 (k0_pay25 k0_pay18) (k0_pay30 (k0_pay12 x0) x5)
        (k0_pay37 k0_pay19 (k0_pay24 k0_pay18) (k0_pay30 (k0_pay12 x0) x5)
          (k0_pay33 (k0_pay12 x0) k0_pay19 k0_pay21 x5 (w 0)) (w 1)) (w 2)) (w 3) (ix2 j c)
      = ((dvn X W D j c : ℝ) : EReal) := by
  pointwise [k0_pay47, k0_pay43, k0_pay37, k0_pay33, k0_pay28, k0_pay24, k0_pay25, k0_pay21]
  simp only [pay18_at, sel_g0, sel_g1, sel_g2, sel_g3, sel_tril, hw, dsv_real h0 h5]
  unfold dvn wt
  rcases four (grp c) with h | h | h | h <;>
    simp [h, ← EReal.coe_mul, coe_ite_zero, coe_sum]

theorem dbs_real (h0 : ∀ r c, x0 (ix2 r c) = ((X r c : ℝ) : EReal))
    (h5 : ∀ r c, x5 (ix2 r c) = ((D r c : ℝ) : EReal)) (a8 : Vec Ideal S128x128 .f32) (r l : Fin 128) :
    k0_pay51
      (k0_pay45 (iota Kind.tc S128x128 32 [1] iota_S128x128_d1_w32)
        (k0_pay41 (iota Kind.tc S128x128 32 [1] iota_S128x128_d1_w32)
          (k0_pay35 (iota Kind.tc S128x128 32 [1] iota_S128x128_d1_w32) k0_pay31 (k0_pay32 (k0_pay12 x0) k0_pay21 x5))
          (k0_pay36 (k0_pay24 k0_pay18) (k0_pay30 (k0_pay12 x0) x5)))
        (k0_pay42 (k0_pay25 k0_pay18) (k0_pay30 (k0_pay12 x0) x5)))
      (k0_pay49 (iota Kind.tc S128x128 32 [1] iota_S128x128_d1_w32)) (FloatOps.ofBits FTy.f32 0#32)
      (k0_pay50 (k0_pay28 k0_pay18) (k0_pay30 (k0_pay12 x0) x5)) a8 (ix2 r l)
      = a8 (ix2 r l) + ((if h : l.val < 4 then dbs X D ⟨l.val, h⟩ r else 0 : ℝ) : EReal) := by
  pointwise [k0_pay51, k0_pay50, k0_pay49, k0_pay45, k0_pay41, k0_pay35, k0_pay31, k0_pay32, k0_pay36, k0_pay42, k0_pay46, k0_pay28, k0_pay24, k0_pay25, k0_pay21]
  simp only [pay18_at, sel_g0, sel_g1, sel_g2, sel_g3, sel_l0, sel_l1, sel_l2, sel_l3, dsv_real h0 h5, coe_ite_zero, coe_sum, ← EReal.coe_add]
  congr 2
  unfold dbs
  obtain ⟨l, hl⟩ := l
  rcases l with _ | _ | _ | _ | l
  · simp
  · simp
  · simp
  · simp
  · simp

theorem dws0_real (h0 : ∀ r c, x0 (ix2 r c) = ((X r c : ℝ) : EReal))
    (h5 : ∀ r c, x5 (ix2 r c) = ((D r c : ℝ) : EReal)) (hv : ∀ r c, v (ix2 r c) = ((vn X g b r c : ℝ) : EReal))
    (a : Vec Ideal S1x128x128 .f32) (r j : Fin 128) :
    k0_pay34 v k0_pay19 (k0_pay32 (k0_pay12 x0) k0_pay21 x5) a (ix3 0 r j)
      = a (ix3 0 r j) + ((dws X g b D 0 r j : ℝ) : EReal) := by
  pointwise [k0_pay34, k0_pay32, k0_pay21]
  simp only [pay18_at, sel_g0, sel_tril, dsv_real h0 h5, hv, ← EReal.coe_mul, coe_ite_zero, coe_sum]
  simp [dws]

theorem dws1_real (h0 : ∀ r c, x0 (ix2 r c) = ((X r c : ℝ) : EReal))
    (h5 : ∀ r c, x5 (ix2 r c) = ((D r c : ℝ) : EReal)) (hv : ∀ r c, v (ix2 r c) = ((vn X g b r c : ℝ) : EReal))
    (a : Vec Ideal S1x128x128 .f32) (r j : Fin 128) :
    k0_pay40 k0_pay19 (k0_pay38 a) (k0_pay39 v (k0_pay24 k0_pay18) (k0_pay30 (k0_pay12 x0) x5)) (FloatOps.ofBits FTy.f32 0#32) (ix3 0 r j)
      = a (ix3 0 r j) + ((dws X g b D 1 r j : ℝ) : EReal) := by
  pointwise [k0_pay40, k0_pay38, k0_pay39, k0_pay36, k0_pay24]
  simp only [pay18_at, sel_g1, sel_tril, dsv_real h0 h5, hv, ← EReal.coe_mul, coe_ite_zero, coe_sum]
  simp [dws]

theorem dws2_real (h0 : ∀ r c, x0 (ix2 r c) = ((X r c : ℝ) : EReal))
    (h5 : ∀ r c, x5 (ix2 r c) = ((D r c : ℝ) : EReal)) (hv : ∀ r c, v (ix2 r c) = ((vn X g b r c : ℝ) : EReal))
    (a : Vec Ideal S1x128x128 .f32) (r j : Fin 128) :
    k0_pay44 v k0_pay19 (k0_pay25 k0_pay18) (k0_pay30 (k0_pay12 x0) x5) a (ix3 0 r j)
      = a (ix3 0 r j) + ((dws X g b D 2 r j : ℝ) : EReal) := by
  pointwise [k0_pay44, k0_pay42, k0_pay25, k0_pay28]
  simp only [pay18_at, sel_g2, sel_tril, dsv_real h0 h5, hv, ← EReal.coe_mul, coe_ite_zero, coe_sum]
  simp [dws]

theorem dws3_real (h0 : ∀ r c, x0 (ix2 r c) = ((X r c : ℝ) : EReal))
    (h5 : ∀ r c, x5 (ix2 r c) = ((D r c : ℝ) : EReal)) (hv : ∀ r c, v (ix2 r c) = ((vn X g b r c : ℝ) : EReal))
    (a : Vec Ideal S1x128x128 .f32) (r j : Fin 128) :
    k0_pay48 v k0_pay19 (k0_pay28 k0_pay18) (k0_pay30 (k0_pay12 x0) x5) a (ix3 0 r j)
      = a (ix3 0 r j) + ((dws X g b D 3 r j : ℝ) : EReal) := by
  pointwise [k0_pay48, k0_pay46, k0_pay25, k0_pay28]
  simp only [pay18_at, sel_g3, sel_tril, dsv_real h0 h5, hv, ← EReal.coe_mul, coe_ite_zero, coe_sum]
  simp [dws]

/-- The layer norm's gradients: row 0 the scale's, row 1 the shift's, the other rows zero. -/
theorem dln_real {xh dv : FVec Ideal S128x256 .f32}
    (hx : ∀ r c, xh (ix2 r c) = ((nrm (vv X r) c : ℝ) : EReal))
    (hd : ∀ r c, dv (ix2 r c) = ((dvn X W D r c : ℝ) : EReal)) (a : Vec Ideal S8x256 .f32) (q : Fin 8) (c : Fin 256) :
    k0_pay52 xh dv a (ix2 q c)
      = a (ix2 q c) + ((if q.val = 0 then dlg X W D c else if q.val = 1 then dlb X W D c else 0 : ℝ) : EReal) := by
  have hq : ∀ (x : Fin 8) (k : Fin 4), IntOp.cmpi .eq (BitVec.ofNat 32 x.val) (BitVec.ofNat 32 k.val) = if x.val = k.val then 1#1 else 0#1 := by
    decide +kernel
  have q0 := hq q 0
  have q1 := hq q 1
  change IntOp.cmpi .eq (BitVec.ofNat 32 q.val) 0#32 = _ at q0
  change IntOp.cmpi .eq (BitVec.ofNat 32 q.val) 1#32 = _ at q1
  pointwise [k0_pay52]
  rw [q0, q1]
  simp only [hx, hd, ← EReal.coe_mul, coe_sum]
  by_cases h : q.val = 0
  · simp [h, Scalar.select, dlg]
  · by_cases h' : q.val = 1
    · simp [h', Scalar.select, dlb]
    · simp [h, h', Scalar.select]

theorem dul_real {dg : FVec Ideal S128x512 .f32} {s : FVec Ideal S128x256 .f32}
    (hg : ∀ r c, dg (ix2 r c) = ((dgel (X r c) : ℝ) : EReal))
    (hs : ∀ r c, s (ix2 r c) = ((sv X g b W B r c : ℝ) : EReal))
    (h5 : ∀ r c, x5 (ix2 r c) = ((D r c : ℝ) : EReal)) (r : Fin 128) (c : Fin 256) :
    k0_pay1 dg s x5 (ix2 r c) = ((dul X g b W B D r c : ℝ) : EReal) := by
  pointwise [k0_pay1]
  simp only [h5, hs, hg, ← EReal.coe_mul]
  rfl

theorem duh_real {dg : FVec Ideal S128x512 .f32} {x1 : Vec Ideal S1x256 .f32} {xh dv : FVec Ideal S128x256 .f32} {y : FVec Ideal S128x1 .f32}
    (hg : ∀ r c, dg (ix2 r c) = ((dgel (X r c) : ℝ) : EReal))
    (hy : ∀ r, y (ix2 r 0) = ((rs (vv X r) : ℝ) : EReal))
    (h1 : ∀ c, x1 (ix2 0 c) = ((g c : ℝ) : EReal))
    (hx : ∀ r c, xh (ix2 r c) = ((nrm (vv X r) c : ℝ) : EReal))
    (hd : ∀ r c, dv (ix2 r c) = ((dvn X W D r c : ℝ) : EReal)) (r : Fin 128) (c : Fin 256) :
    k0_pay2 dg y xh (k0_pay54 (k0_pay6 x1) dv) (k0_pay55 (k0_pay6 x1) xh dv) (ix2 r c) = ((duh X g W D r c : ℝ) : EReal) := by
  pointwise [k0_pay2, k0_pay54, k0_pay55, k0_pay53, k0_pay6]
  simp only [hg, hy, h1, hx, hd, ← EReal.coe_mul, coe_sum, div_256, ← EReal.coe_sub]
  rfl

end
end Cert.KernelIdeal.Gm
end
-- ==== Proof.GmOut.lean ====
module

public import proofs.«01_k».proof.Proof.Gen.KernelIdeal.Frame
public import proofs.«01_k».proof.Proof.GmGroup
public import Idealize.ShloMosaic.Lib.Pipeline.ReadBack
public import Idealize.ShloMosaic.Lib.Pipeline.ValueKit.Tiles
public import Idealize.ShloMosaic.Lib.Pipeline.Value

/-! What one grid point of the kernel leaves in its output blocks, over finite arguments. -/

@[expose] public section

set_option maxRecDepth 16384

noncomputable section

namespace Cert.KernelIdeal.Gm

open Cert.KernelIdeal Cert.KernelIdeal.Gen Cert.Gm Idealize.ShloMosaic Idealize.ShloMosaic.TcCoe

theorem hz : (![0, 0] : Fin 2 → Nat) = fun _ => 0 := by decide

/-- A row of two halves stored one after the other, read at an index. -/
theorem canon2 (w1 w0 : S128x256.Idx → Ideal .bf16) (L : List (View.Piece (Elt Ideal) S128x512 .bf16)) (r : Fin 128) (c : Fin 512)
    (h1 : ∀ a, (![0, 256] : Fin 2 → ℕ) a + (![128, 256] : Fin 2 → ℕ) a ≤ S128x512.size a)
    (h0 : ∀ a, (![0, 0] : Fin 2 → ℕ) a + (![128, 256] : Fin 2 → ℕ) a ≤ S128x512.size a) :
    View.canon ((⟨Rect.unit ![0, 256] ![128, 256] h1, w1⟩ : View.Piece (Elt Ideal) S128x512 .bf16) :: ⟨Rect.unit ![0, 0] ![128, 256] h0, w0⟩ :: L) (ix2 r c)
      = if h : c.val < 256 then w0 (ix2 r ⟨c.val, h⟩) else w1 (ix2 r ⟨c.val - 256, by omega⟩) := by
  split
  · rename_i h
    rw [View.canon_cons_of_not_mem]
    · have e : (ix2 r c : S128x512.Idx) = (Rect.unit (s := S128x512) ![0, 0] ![128, 256] h0).emb (ix2 r (⟨c.val, h⟩ : Fin 256)) := by
        refine funext fun a => Fin.ext ?_
        rw [Rect.emb_apply]
        fin_cases a <;> simp [ix2]
      rw [e, View.canon_cons_emb]
    · rw [Rect.mem_set_unit]
      intro hm
      have := (hm 1).1
      simp [ix2] at this
      omega
  · rename_i h
    have e : (ix2 r c : S128x512.Idx) = (Rect.unit (s := S128x512) ![0, 256] ![128, 256] h1).emb (ix2 r (⟨c.val - 256, by omega⟩ : Fin 256)) := by
      refine funext fun a => Fin.ext ?_
      rw [Rect.emb_apply]
      fin_cases a <;> simp [ix2] <;> omega
    rw [e, View.canon_cons_emb]

/-- Four slabs stored one after the other, read at an index. -/
theorem canon4 (w3 w2 w1 w0 : S1x128x128.Idx → Ideal .f32) (L : List (View.Piece (Elt Ideal) S4x128x128 .f32)) (k : Fin 4) (r j : Fin 128)
    (h3 : ∀ a, (![3, 0, 0] : Fin 3 → ℕ) a + (![1, 128, 128] : Fin 3 → ℕ) a ≤ S4x128x128.size a)
    (h2 : ∀ a, (![2, 0, 0] : Fin 3 → ℕ) a + (![1, 128, 128] : Fin 3 → ℕ) a ≤ S4x128x128.size a)
    (h1 : ∀ a, (![1, 0, 0] : Fin 3 → ℕ) a + (![1, 128, 128] : Fin 3 → ℕ) a ≤ S4x128x128.size a)
    (h0 : ∀ a, (![0, 0, 0] : Fin 3 → ℕ) a + (![1, 128, 128] : Fin 3 → ℕ) a ≤ S4x128x128.size a) :
    View.canon ((⟨Rect.unit ![3, 0, 0] ![1, 128, 128] h3, w3⟩ : View.Piece (Elt Ideal) S4x128x128 .f32) :: ⟨Rect.unit ![2, 0, 0] ![1, 128, 128] h2, w2⟩
        :: ⟨Rect.unit ![1, 0, 0] ![1, 128, 128] h1, w1⟩ :: ⟨Rect.unit ![0, 0, 0] ![1, 128, 128] h0, w0⟩ :: L) (ix3 k r j)
      = (![w0, w1, w2, w3] : Fin 4 → S1x128x128.Idx → Ideal .f32) k (ix3 0 r j) := by
  have hit : ∀ (q : ℕ) (hq : q < 4) (h : ∀ a, (![q, 0, 0] : Fin 3 → ℕ) a + (![1, 128, 128] : Fin 3 → ℕ) a ≤ S4x128x128.size a) w L,
      View.canon ((⟨Rect.unit ![q, 0, 0] ![1, 128, 128] h, w⟩ : View.Piece (Elt Ideal) S4x128x128 .f32) :: L) (ix3 (⟨q, hq⟩ : Fin 4) r j) = w (ix3 0 r j) := by
    intro q hq h w L
    have e : (ix3 (⟨q, hq⟩ : Fin 4) r j : S4x128x128.Idx) = (Rect.unit (s := S4x128x128) ![q, 0, 0] ![1, 128, 128] h).emb (ix3 (0 : Fin 1) r j) := by
      refine funext fun a => Fin.ext ?_
      rw [Rect.emb_apply]
      fin_cases a <;> simp [ix3]
    rw [e, View.canon_cons_emb]
  have miss : ∀ (q : ℕ) (k : Fin 4) (h : ∀ a, (![q, 0, 0] : Fin 3 → ℕ) a + (![1, 128, 128] : Fin 3 → ℕ) a ≤ S4x128x128.size a) w L, k.val < q →
      View.canon ((⟨Rect.unit ![q, 0, 0] ![1, 128, 128] h, w⟩ : View.Piece (Elt Ideal) S4x128x128 .f32) :: L) (ix3 k r j) = View.canon L (ix3 k r j) := by
    intro q k h w L hk
    rw [View.canon_cons_of_not_mem]
    rw [Rect.mem_set_unit]
    intro hm
    have := (hm 0).1
    simp [ix3] at this
    omega
  rcases four k with h | h | h | h <;> subst h
  · rw [miss 3 0 _ _ _ (by decide), miss 2 0 _ _ _ (by decide), miss 1 0 _ _ _ (by decide)]
    exact hit 0 (by decide) _ _ _
  · rw [miss 3 1 _ _ _ (by decide), miss 2 1 _ _ _ (by decide)]
    exact hit 1 (by decide) _ _ _
  · rw [miss 3 2 _ _ _ (by decide)]
    exact hit 2 (by decide) _ _ _
  · exact hit 3 (by decide) _ _ _

/-- One slab loaded, read at an index. -/
theorem ld_slab (x : Vec Ideal S4x128x128 .f32) (k : Fin 4) (r j : Fin 128)
    (h : ∀ a, (![k.val, 0, 0] : Fin 3 → ℕ) a + (![1, 128, 128] : Fin 3 → ℕ) a ≤ S4x128x128.size a) :
    View.ld (Val := Elt Ideal) x (Rect.unit ![k.val, 0, 0] ![1, 128, 128] h) (ix3 0 r j) = x (ix3 k r j) :=
  View.ld_unit_apply_of _ _ _ _ _ _ fun a => by fin_cases a <;> simp [ix3]

/-- The blocks a grid point reads, finite. -/
structure Blk (X : Fin 128 → Fin 512 → ℝ) (g b : Fin 256 → ℝ) (W : Fin 4 → Fin 128 → Fin 128 → ℝ)
    (B : Fin 4 → Fin 128 → ℝ) (D : Fin 128 → Fin 256 → ℝ) (x0 : Vec Ideal S128x512 .f32) (x1 x2 : Vec Ideal S1x256 .f32)
    (x3 : Vec Ideal S4x128x128 .f32) (x4 : Vec Ideal S128x128 .f32) (x5 : Vec Ideal S128x256 .f32) : Prop where
  h0 : ∀ r c, x0 (ix2 r c) = ((X r c : ℝ) : EReal)
  h1 : ∀ c, x1 (ix2 0 c) = ((g c : ℝ) : EReal)
  h2 : ∀ c, x2 (ix2 0 c) = ((b c : ℝ) : EReal)
  h3 : ∀ k r j, x3 (ix3 k r j) = ((W k r j : ℝ) : EReal)
  h4 : ∀ r (k : Fin 4), x4 (ix2 r ⟨k.val, by omega⟩) = ((B k r : ℝ) : EReal)
  h5 : ∀ r c, x5 (ix2 r c) = ((D r c : ℝ) : EReal)

/-- The slab of one group. -/
def slab (x3 : Vec Ideal S4x128x128 .f32) : Fin 4 → Vec Ideal S1x128x128 .f32 :=
  ![View.ld (Val := Elt Ideal) x3 (Rect.unit ![0, 0, 0] ![1, 128, 128] inb_S4x128x128_S1x128x128_0_0_0),
    View.ld (Val := Elt Ideal) x3 (Rect.unit ![1, 0, 0] ![1, 128, 128] inb_S4x128x128_S1x128x128_1_0_0),
    View.ld (Val := Elt Ideal) x3 (Rect.unit ![2, 0, 0] ![1, 128, 128] inb_S4x128x128_S1x128x128_2_0_0),
    View.ld (Val := Elt Ideal) x3 (Rect.unit ![3, 0, 0] ![1, 128, 128] inb_S4x128x128_S1x128x128_3_0_0)]

theorem slab_at (x3 : Vec Ideal S4x128x128 .f32) (k : Fin 4) (r j : Fin 128) : slab x3 k (ix3 0 r j) = x3 (ix3 k r j) := by
  rcases four k with h | h | h | h <;> subst h
  · exact ld_slab x3 0 r j _
  · exact ld_slab x3 1 r j _
  · exact ld_slab x3 2 r j _
  · exact ld_slab x3 3 r j _

theorem pay3_slab (k : Fin 4) (r j : Fin 128)
    (h : ∀ a, (![k.val, 0, 0] : Fin 3 → ℕ) a + (![1, 128, 128] : Fin 3 → ℕ) a ≤ S4x128x128.size a) :
    @Eq EReal (View.ld (Val := Elt Ideal) (e' := .f32) (S := S4x128x128) (k0_pay3 : FVec Ideal S4x128x128 .f32) (Rect.unit ![k.val, 0, 0] ![1, 128, 128] h) (ix3 0 r j)) 0 := by
  refine (ld_slab _ k r j h).trans ?_
  pointwise [k0_pay3]

section
variable (c : Dev nD) (i : grid0.Coords) (arg1 : Memref sig .tc .vmem S128x512 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S128x256 .f32) (harg6 : arg6.IsWhole) (arg8 : Memref sig .tc .vmem S128x512 .bf16) (harg8 : arg8.IsWhole) (arg9 : Memref sig .tc .vmem S4x128x128 .f32) (harg9 : arg9.IsWhole) (arg10 : Memref sig .tc .vmem S128x128 .f32) (harg10 : arg10.IsWhole) (arg11 : Memref sig .tc .vmem S8x256 .f32) (harg11 : arg11.IsWhole)
variable (x0 : Vec Ideal S128x512 .f32) (x1 : Vec Ideal S1x256 .f32) (x2 : Vec Ideal S1x256 .f32) (x3 : Vec Ideal S4x128x128 .f32) (x4 : Vec Ideal S128x128 .f32) (x5 : Vec Ideal S128x256 .f32) (xo7 : Vec Ideal S4x128x128 .f32) (xo8 : Vec Ideal S128x128 .f32) (xo9 : Vec Ideal S8x256 .f32)
  {X : Fin 128 → Fin 512 → ℝ} {g b : Fin 256 → ℝ} {W : Fin 4 → Fin 128 → Fin 128 → ℝ} {B : Fin 4 → Fin 128 → ℝ} {D : Fin 128 → Fin 256 → ℝ}
  (hb : Blk X g b W B D x0 x1 x2 x3 x4 x5)
include hb

theorem out_A_6 (hc0 : cond0_0 i) (r : Fin 128) (q : Fin 512) :
    out0_A_6 c i arg1 harg1 arg2 harg2 arg3 harg3 arg4 harg4 arg5 harg5 arg6 harg6 arg8 harg8 arg9 harg9 arg10 harg10 arg11 harg11 hc0 x0 x1 x2 x3 x4 x5 (ix2 r q)
      = ((if h : q.val < 256 then dul X g b W B D r ⟨q.val, h⟩ else duh X g W D r ⟨q.val - 256, by omega⟩ : ℝ) : EReal) := by
  unfold out0_A_6
  rw [View.read_writes_eq_canon _ _ _ (cover0_A_6 c i arg1 harg1 arg2 harg2 arg3 harg3 arg4 harg4 arg5 harg5 arg6 harg6 arg8 harg8 arg9 harg9 arg10 harg10 arg11 harg11 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread,
    harg9.read_unread, harg10.read_unread, harg11.read_unread, View.ld_unit_zero (S := S128x512) hz, View.ld_unit_zero (S := S1x256) hz,
    View.ld_unit_zero (S := S128x128) hz, View.ld_unit_zero (S := S128x256) hz, View.ld_unit_zero (S := S8x256) hz]
  refine (canon2 _ _ _ r q _ _).trans ?_
  have hw : ∀ k r j, slab x3 k (ix3 0 r j) = ((W k r j : ℝ) : EReal) := fun k r j => (slab_at x3 k r j).trans (hb.h3 k r j)
  have hv := pay17_real hb.h0 hb.h1 hb.h2
  split
  · exact dul_real (pay11_real hb.h0) (sv_real (w := slab x3) hv hw hb.h4) hb.h5 r _
  · exact duh_real (pay11_real hb.h0) (pay15_real hb.h0) hb.h1 (pay16_real hb.h0) (dvn_real (w := slab x3) hb.h0 hw hb.h5) r _

theorem out_A_7 (hc0 : cond0_0 i) (k : Fin 4) (r j : Fin 128) :
    out0_A_7 c i arg1 harg1 arg2 harg2 arg3 harg3 arg4 harg4 arg5 harg5 arg6 harg6 arg8 harg8 arg9 harg9 arg10 harg10 arg11 harg11 hc0 x0 x1 x2 x3 x4 x5 (ix3 k r j) = 0 + ((dws X g b D k r j : ℝ) : EReal) := by
  unfold out0_A_7
  rw [View.read_writes_eq_canon _ _ _ (cover0_A_7 c i arg1 harg1 arg2 harg2 arg3 harg3 arg4 harg4 arg5 harg5 arg6 harg6 arg8 harg8 arg9 harg9 arg10 harg10 arg11 harg11 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread,
    harg9.read_unread, harg10.read_unread, harg11.read_unread, View.ld_unit_zero (S := S128x512) hz, View.ld_unit_zero (S := S1x256) hz,
    View.ld_unit_zero (S := S128x128) hz, View.ld_unit_zero (S := S128x256) hz, View.ld_unit_zero (S := S8x256) hz]
  simp (disch := decide) only [↓View.readCov_skip, View.readCov_fill]
  refine (canon4 _ _ _ _ _ k r j _ _ _ _).trans ?_
  have hv := pay17_real hb.h0 hb.h1 hb.h2
  rcases four k with h | h | h | h <;> subst h
  · exact (dws0_real hb.h0 hb.h5 hv _ r j).trans (congrArg (· + _) (pay3_slab 0 r j _))
  · exact (dws1_real hb.h0 hb.h5 hv _ r j).trans (congrArg (· + _) (pay3_slab 1 r j _))
  · exact (dws2_real hb.h0 hb.h5 hv _ r j).trans (congrArg (· + _) (pay3_slab 2 r j _))
  · exact (dws3_real hb.h0 hb.h5 hv _ r j).trans (congrArg (· + _) (pay3_slab 3 r j _))

theorem out_A_8 (hc0 : cond0_0 i) (r l : Fin 128) :
    out0_A_8 c i arg1 harg1 arg2 harg2 arg3 harg3 arg4 harg4 arg5 harg5 arg6 harg6 arg8 harg8 arg9 harg9 arg10 harg10 arg11 harg11 hc0 x0 x1 x2 x3 x4 x5 (ix2 r l) = 0 + ((if h : l.val < 4 then dbs X D ⟨l.val, h⟩ r else 0 : ℝ) : EReal) := by
  unfold out0_A_8
  rw [View.read_writes_eq_canon _ _ _ (cover0_A_8 c i arg1 harg1 arg2 harg2 arg3 harg3 arg4 harg4 arg5 harg5 arg6 harg6 arg8 harg8 arg9 harg9 arg10 harg10 arg11 harg11 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread,
    harg9.read_unread, harg10.read_unread, harg11.read_unread, View.ld_unit_zero (S := S128x512) hz, View.ld_unit_zero (S := S1x256) hz,
    View.ld_unit_zero (S := S128x128) hz, View.ld_unit_zero (S := S128x256) hz, View.ld_unit_zero (S := S8x256) hz]
  rw [View.canon_cons_unit_zero hz, View.readCov_cons_toLoadRect]
  refine (dbs_real hb.h0 hb.h5 _ r l).trans (congrArg (· + _) ?_)
  pointwise [k0_pay4]

theorem out_A_9 (hc0 : cond0_0 i) (q : Fin 8) (l : Fin 256) :
    out0_A_9 c i arg1 harg1 arg2 harg2 arg3 harg3 arg4 harg4 arg5 harg5 arg6 harg6 arg8 harg8 arg9 harg9 arg10 harg10 arg11 harg11 hc0 x0 x1 x2 x3 x4 x5 (ix2 q l) = 0 + ((if q.val = 0 then dlg X W D l else if q.val = 1 then dlb X W D l else 0 : ℝ) : EReal) := by
  have hw : ∀ k r j, slab x3 k (ix3 0 r j) = ((W k r j : ℝ) : EReal) := fun k r j => (slab_at x3 k r j).trans (hb.h3 k r j)
  unfold out0_A_9
  rw [View.read_writes_eq_canon _ _ _ (cover0_A_9 c i arg1 harg1 arg2 harg2 arg3 harg3 arg4 harg4 arg5 harg5 arg6 harg6 arg8 harg8 arg9 harg9 arg10 harg10 arg11 harg11 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread,
    harg9.read_unread, harg10.read_unread, harg11.read_unread, View.ld_unit_zero (S := S128x512) hz, View.ld_unit_zero (S := S1x256) hz,
    View.ld_unit_zero (S := S128x128) hz, View.ld_unit_zero (S := S128x256) hz, View.ld_unit_zero (S := S8x256) hz]
  rw [View.canon_cons_unit_zero hz, View.readCov_cons_toLoadRect]
  refine (dln_real (pay16_real hb.h0) (dvn_real (w := slab x3) hb.h0 hw hb.h5) _ q l).trans (congrArg (· + _) ?_)
  pointwise [k0_pay5]

theorem out_B_6 (hc0 : ¬cond0_0 i) (r : Fin 128) (q : Fin 512) :
    out0_B_6 c i arg1 harg1 arg2 harg2 arg3 harg3 arg4 harg4 arg5 harg5 arg6 harg6 arg8 harg8 arg9 harg9 arg10 harg10 arg11 harg11 hc0 x0 x1 x2 x3 x4 x5 xo7 xo8 xo9 (ix2 r q)
      = ((if h : q.val < 256 then dul X g b W B D r ⟨q.val, h⟩ else duh X g W D r ⟨q.val - 256, by omega⟩ : ℝ) : EReal) := by
  unfold out0_B_6
  rw [View.read_writes_eq_canon _ _ _ (cover0_B_6 c i arg1 harg1 arg2 harg2 arg3 harg3 arg4 harg4 arg5 harg5 arg6 harg6 arg8 harg8 arg9 harg9 arg10 harg10 arg11 harg11 hc0 x0 x1 x2 x3 x4 x5 xo7 xo8 xo9)]
  unfold kernelRun0_B
  dsimp only
  sl_unfold_words
  simp only [View.readAt_eq_ld, harg1.read_unread, harg2.read_unread, harg3.read_unread, harg4.read_unread, harg5.read_unread, harg6.read_unread,
    harg9.read_unread, harg10.read_unread, harg11.read_unread, View.ld_unit_zero (S := S128x512) hz, View.ld_unit_zero (S := S1x256) hz,
    View.ld_unit_zero (S := S128x128) hz, View.ld_unit_zero (S := S128x256) hz, View.ld_unit_zero (S := S8x256) hz]
  refine (canon2 _ _ _ r q _ _).trans ?_
  have hw : ∀ k r j, slab x3 k (ix3 0 r j) = ((W k r j : ℝ) : EReal) := fun k r j => (slab_at x3 k r j).trans (hb.h3 k r j)
  have hv := pay17_real hb.h0 hb.h1 hb.h2
  split
  · exact dul_real (pay11_real hb.h0) (sv_real (w := slab x3) hv hw hb.h4) hb.h5 r _
  · exact duh_real (pay11_real hb.h0) (pay15_real hb.h0) hb.h1 (pay16_real hb.h0) (dvn_real (w := slab x3) hb.h0 hw hb.h5) r _

theorem out_B_7 (hc0 : ¬cond0_0 i) (k : Fin 4) (r j : Fin 128) :
    out0_B_7 c i arg1 harg1 arg2 harg2 arg3 harg3 arg4 harg4 arg5 harg5 arg6 harg6 arg8 harg8 arg9 harg9 arg10 harg10 arg11 harg11 hc0 x0 x1 x2 x3 x4 x5 xo7 xo8 xo9 (ix3 k r j) = xo7 (ix3 k r j) + ((dws X g b D k r j : ℝ) : EReal) := by
  unfold out0_B_7
  rw [View.read_writes_eq_canon _ _ _ (cover0_B_7 c i arg1 harg1 arg2 harg2 arg3 harg3 arg4 harg4 arg5 harg5 arg6 harg6 arg8 harg8 arg9 harg9 arg10 harg10 arg11 harg11 hc0 x0 x1 x2 x3 x4 x5 xo7 xo8 xo9)]
  unfold kernelRun0_B
  dsimp only
  sl_unfold_words
  simp only [View.readAt_eq_ld, harg1.read_unread, harg2.read_unread, harg3.read_unread, harg4.read_unread, harg5.read_unread, harg6.read_unread,
    harg9.read_unread, harg10.read_unread, harg11.read_unread, View.ld_unit_zero (S := S128x512) hz, View.ld_unit_zero (S := S1x256) hz,
    View.ld_unit_zero (S := S128x128) hz, View.ld_unit_zero (S := S128x256) hz, View.ld_unit_zero (S := S8x256) hz]
  refine (canon4 _ _ _ _ _ k r j _ _ _ _).trans ?_
  have hv := pay17_real hb.h0 hb.h1 hb.h2
  rcases four k with h | h | h | h <;> subst h
  · exact (dws0_real hb.h0 hb.h5 hv _ r j).trans (congrArg (· + _) (ld_slab xo7 0 r j _))
  · exact (dws1_real hb.h0 hb.h5 hv _ r j).trans (congrArg (· + _) (ld_slab xo7 1 r j _))
  · exact (dws2_real hb.h0 hb.h5 hv _ r j).trans (congrArg (· + _) (ld_slab xo7 2 r j _))
  · exact (dws3_real hb.h0 hb.h5 hv _ r j).trans (congrArg (· + _) (ld_slab xo7 3 r j _))

theorem out_B_8 (hc0 : ¬cond0_0 i) (r l : Fin 128) :
    out0_B_8 c i arg1 harg1 arg2 harg2 arg3 harg3 arg4 harg4 arg5 harg5 arg6 harg6 arg8 harg8 arg9 harg9 arg10 harg10 arg11 harg11 hc0 x0 x1 x2 x3 x4 x5 xo7 xo8 xo9 (ix2 r l) = xo8 (ix2 r l) + ((if h : l.val < 4 then dbs X D ⟨l.val, h⟩ r else 0 : ℝ) : EReal) := by
  unfold out0_B_8
  rw [View.read_writes_eq_canon _ _ _ (cover0_B_8 c i arg1 harg1 arg2 harg2 arg3 harg3 arg4 harg4 arg5 harg5 arg6 harg6 arg8 harg8 arg9 harg9 arg10 harg10 arg11 harg11 hc0 x0 x1 x2 x3 x4 x5 xo7 xo8 xo9)]
  unfold kernelRun0_B
  dsimp only
  sl_unfold_words
  simp only [View.readAt_eq_ld, harg1.read_unread, harg2.read_unread, harg3.read_unread, harg4.read_unread, harg5.read_unread, harg6.read_unread,
    harg9.read_unread, harg10.read_unread, harg11.read_unread, View.ld_unit_zero (S := S128x512) hz, View.ld_unit_zero (S := S1x256) hz,
    View.ld_unit_zero (S := S128x128) hz, View.ld_unit_zero (S := S128x256) hz, View.ld_unit_zero (S := S8x256) hz]
  rw [View.canon_unit_zero hz]
  exact dbs_real hb.h0 hb.h5 _ r l

theorem out_B_9 (hc0 : ¬cond0_0 i) (q : Fin 8) (l : Fin 256) :
    out0_B_9 c i arg1 harg1 arg2 harg2 arg3 harg3 arg4 harg4 arg5 harg5 arg6 harg6 arg8 harg8 arg9 harg9 arg10 harg10 arg11 harg11 hc0 x0 x1 x2 x3 x4 x5 xo7 xo8 xo9 (ix2 q l) = xo9 (ix2 q l) + ((if q.val = 0 then dlg X W D l else if q.val = 1 then dlb X W D l else 0 : ℝ) : EReal) := by
  have hw : ∀ k r j, slab x3 k (ix3 0 r j) = ((W k r j : ℝ) : EReal) := fun k r j => (slab_at x3 k r j).trans (hb.h3 k r j)
  unfold out0_B_9
  rw [View.read_writes_eq_canon _ _ _ (cover0_B_9 c i arg1 harg1 arg2 harg2 arg3 harg3 arg4 harg4 arg5 harg5 arg6 harg6 arg8 harg8 arg9 harg9 arg10 harg10 arg11 harg11 hc0 x0 x1 x2 x3 x4 x5 xo7 xo8 xo9)]
  unfold kernelRun0_B
  dsimp only
  sl_unfold_words
  simp only [View.readAt_eq_ld, harg1.read_unread, harg2.read_unread, harg3.read_unread, harg4.read_unread, harg5.read_unread, harg6.read_unread,
    harg9.read_unread, harg10.read_unread, harg11.read_unread, View.ld_unit_zero (S := S128x512) hz, View.ld_unit_zero (S := S1x256) hz,
    View.ld_unit_zero (S := S128x128) hz, View.ld_unit_zero (S := S128x256) hz, View.ld_unit_zero (S := S8x256) hz]
  rw [View.canon_unit_zero hz]
  exact dln_real (pay16_real hb.h0) (dvn_real (w := slab x3) hb.h0 hw hb.h5) _ q l

end
end Cert.KernelIdeal.Gm
end
-- ==== Proof.GmEntry.lean ====
module

public import proofs.«01_k».proof.Proof.GmOut
public import Idealize.ShloMosaic.Lib.StableHlo.ReadAt
public import Idealize.ShloMosaic.Lib.Pipeline.ValueKit.Point

/-! What the kernel's region finds in the buffers the host lines prepare. -/

@[expose] public section

set_option maxRecDepth 16384

noncomputable section

namespace Cert.KernelIdeal.Gm

open Cert.KernelIdeal Cert.KernelIdeal.Gen Cert.Gm Idealize.ShloMosaic Idealize.ShloMosaic.TcCoe

variable (m : (ℓ : Loc nD τ sig) → Buf (Elt Ideal) ℓ)

theorem V_scale (c : Dev nD) (k : Fin 256) : V m c main_v2 (ix2 0 k) = m ((c : Thread nD τ).loc main_arg1) (ix1 k) := by
  unfold V
  after_reads_at
theorem V_shift (c : Dev nD) (k : Fin 256) : V m c main_v3 (ix2 0 k) = m ((c : Thread nD τ).loc main_arg2) (ix1 k) := by
  unfold V
  after_reads_at
theorem V_bias (c : Dev nD) (r : Fin 128) (k : Fin 4) :
    V m c main_v1 (ix2 r ⟨k.val, by omega⟩) = m ((c : Thread nD τ).loc main_arg4) (ix2 k r) := by
  unfold V
  after_reads_at
theorem V_alias (c : Dev nD) (r : Fin 4096) (k : Fin 5120) :
    V m c main_v4_0 (ix2 r k) = m ((c : Thread nD τ).loc main_arg6) (ix2 r k) := by
  unfold V
  after_reads_at
  rfl

theorem idx : ∀ t : Fin grid0.N, win0_0.index t = ![t.val, 9] ∧ win0_1.index t = ![0, 0] ∧ win0_2.index t = ![0, 0]
    ∧ win0_3.index t = ![0, 0, 0] ∧ win0_4.index t = ![0, 0] ∧ win0_5.index t = ![t.val, 2] ∧ win0_6.index t = ![t.val, 9]
    ∧ win0_7.index t = ![0, 0, 0] ∧ win0_8.index t = ![0, 0] ∧ win0_9.index t = ![0, 0] := by
  decide +kernel

theorem blk0 (c : Dev nD) (t : Fin cfg0.N) (r : Fin 128) (q : Fin 512) :
    iblk m c 0 t (ix2 r q) = m ((c : Thread nD τ).loc main_arg0) (ix2 (row t.val r) ⟨4608 + q.val, by omega⟩) := by
  have ht : t.val < 32 := t.isLt
  have hr := row_val ht r
  blk_point [iblk, V, idx t]

theorem blk1 (c : Dev nD) (t : Fin cfg0.N) (k : Fin 256) :
    iblk m c 1 t (ix2 0 k) = m ((c : Thread nD τ).loc main_arg1) (ix1 k) := by
  refine Eq.trans ?_ (V_scale m c k)
  blk_point [iblk, idx t]
theorem blk2 (c : Dev nD) (t : Fin cfg0.N) (k : Fin 256) :
    iblk m c 2 t (ix2 0 k) = m ((c : Thread nD τ).loc main_arg2) (ix1 k) := by
  refine Eq.trans ?_ (V_shift m c k)
  blk_point [iblk, idx t]
theorem blk3 (c : Dev nD) (t : Fin cfg0.N) (k : Fin 4) (r j : Fin 128) :
    iblk m c 3 t (ix3 k r j) = m ((c : Thread nD τ).loc main_arg3) (ix3 k r j) := by
  blk_point [iblk, V, idx t]
theorem blk4 (c : Dev nD) (t : Fin cfg0.N) (r : Fin 128) (k : Fin 4) :
    iblk m c 4 t (ix2 r ⟨k.val, by omega⟩) = m ((c : Thread nD τ).loc main_arg4) (ix2 k r) := by
  refine Eq.trans ?_ (V_bias m c r k)
  blk_point [iblk, idx t]
theorem blk5 (c : Dev nD) (t : Fin cfg0.N) (r : Fin 128) (q : Fin 256) :
    iblk m c 5 t (ix2 r q) = m ((c : Thread nD τ).loc main_arg5) (ix2 (row t.val r) ⟨512 + q.val, by omega⟩) := by
  have ht : t.val < 32 := t.isLt
  have hr := row_val ht r
  blk_point [iblk, V, idx t]

end Cert.KernelIdeal.Gm
end
-- ==== Proof.GmKernel.lean ====
module

public import proofs.«01_k».proof.Proof.GmEntry
public import proofs.«01_k».proof.Proof.Gen.KernelIdeal.Value

/-! The kernel's output arrays, over finite arguments. -/

@[expose] public section

set_option maxRecDepth 16384

noncomputable section

namespace Cert.KernelIdeal.Gm

open Cert.KernelIdeal Cert.KernelIdeal.Gen Cert.Gm Idealize.ShloMosaic Idealize.ShloMosaic.TcCoe

variable (m : (ℓ : Loc nD τ sig) → Buf (Elt Ideal) ℓ)

/-- The arguments on core `c` are the given reals (of the projection only the columns read, of the cotangent likewise). -/
structure Args (c : Dev nD) (P : Fin 4096 → Fin 512 → ℝ) (g b : Fin 256 → ℝ) (W : Fin 4 → Fin 128 → Fin 128 → ℝ)
    (B : Fin 4 → Fin 128 → ℝ) (D : Fin 4096 → Fin 256 → ℝ) : Prop where
  a0 : ∀ r q, m ((c : Thread nD τ).loc main_arg0) (ix2 r ⟨4608 + q.val, by omega⟩) = ((P r q : ℝ) : EReal)
  a1 : ∀ k, m ((c : Thread nD τ).loc main_arg1) (ix1 k) = ((g k : ℝ) : EReal)
  a2 : ∀ k, m ((c : Thread nD τ).loc main_arg2) (ix1 k) = ((b k : ℝ) : EReal)
  a3 : ∀ k r j, m ((c : Thread nD τ).loc main_arg3) (ix3 k r j) = ((W k r j : ℝ) : EReal)
  a4 : ∀ k r, m ((c : Thread nD τ).loc main_arg4) (ix2 k r) = ((B k r : ℝ) : EReal)
  a5 : ∀ r q, m ((c : Thread nD τ).loc main_arg5) (ix2 r ⟨512 + q.val, by omega⟩) = ((D r q : ℝ) : EReal)

section
variable {m} {c : Dev nD} {P : Fin 4096 → Fin 512 → ℝ} {g b : Fin 256 → ℝ} {W : Fin 4 → Fin 128 → Fin 128 → ℝ}
  {B : Fin 4 → Fin 128 → ℝ} {D : Fin 4096 → Fin 256 → ℝ} (h : Args m c P g b W B D)
include h

theorem blk_at (t : Fin cfg0.N) : Blk (fun r => P (row t.val r)) g b W B (fun r => D (row t.val r))
    (iblk m c 0 t) (iblk m c 1 t) (iblk m c 2 t) (iblk m c 3 t) (iblk m c 4 t) (iblk m c 5 t) where
  h0 r q := (blk0 m c t r q).trans (h.a0 _ q)
  h1 k := (blk1 m c t k).trans (h.a1 k)
  h2 k := (blk2 m c t k).trans (h.a2 k)
  h3 k r j := (blk3 m c t k r j).trans (h.a3 k r j)
  h4 r k := (blk4 m c t r k).trans (h.a4 k r)
  h5 r q := (blk5 m c t r q).trans (h.a5 _ q)

theorem outs6 (t : Fin cfg0.N) (r : Fin 128) (q : Fin 512) :
    (outsAt0 m c t.val t.isLt).1 (ix2 r q) = ((allU P g b W B D t.val r q : ℝ) : EReal) := by
  by_cases h0 : t.val % 32 = 0
  · rw [outsAt0_A m c t h0]
    dsimp only
    rw [out_A_6 (hb := blk_at h t)]
    rfl
  · rw [outsAt0_B m c t h0]
    dsimp only
    rw [out_B_6 (hb := blk_at h t)]
    rfl

theorem outs7 (k : Fin 4) (r j : Fin 128) : ∀ (n : ℕ) (hn : n < cfg0.N),
    (outsAt0 m c n hn).2.1 (ix3 k r j) = ((∑ s ∈ Finset.range (n + 1), (dws (fun r => P (row s r)) g b (fun r => D (row s r)) k r j) : ℝ) : EReal)
  | 0, hn => by
    rw [outsAt0_A m c ⟨0, hn⟩ rfl]
    dsimp only
    rw [out_A_7 (hb := blk_at h ⟨0, hn⟩)]
    simp
  | n + 1, hn => by
    have hN : n + 1 < 32 := hn
    have h0 : ¬(n + 1) % 32 = 0 := by omega
    rw [outsAt0_B m c ⟨n + 1, hn⟩ h0]
    dsimp only
    rw [out_B_7 (hb := blk_at h ⟨n + 1, hn⟩)]
    rw [Finset.sum_range_succ, EReal.coe_add]
    exact congrArg (· + _) (outs7 k r j n (Nat.lt_of_succ_lt hn))

theorem arr7 : (dats m 0 c).arrAt 7 cfg0.N = fun i => ((allW P g b D (i 0) (i 1) (i 2) : ℝ) : EReal) := by
  refine (dats m 0 c).arrAt_eq_of_covers 7 _ (by decide +kernel) fun t hf y => ?_
  have ht : t.val = 31 := (by decide +kernel : ∀ t : Fin grid0.N, win0_7.flush t = true → t.val = 31) t hf
  blk_simp [idx t]
  rw [after0_7]
  have e0 : (win0_7.blk t).view.emb y 0 = y 0 := Fin.ext (by refine (win0_7.rect_emb_val t y _).trans ?_; simp [idx t])
  have e1 : (win0_7.blk t).view.emb y 1 = y 1 := Fin.ext (by refine (win0_7.rect_emb_val t y _).trans ?_; simp [idx t])
  have e2 : (win0_7.blk t).view.emb y 2 = y 2 := Fin.ext (by refine (win0_7.rect_emb_val t y _).trans ?_; simp [idx t])
  rw [e0, e1, e2, Idealize.ShloMosaic.ValueIdx.eq_ix3 y]
  refine (outs7 h (y 0) (y 1) (y 2) t.val t.isLt).trans ?_
  rw [ht]
  rfl

theorem outs8 (r l : Fin 128) : ∀ (n : ℕ) (hn : n < cfg0.N),
    (outsAt0 m c n hn).2.2.1 (ix2 r l) = ((∑ s ∈ Finset.range (n + 1), (if h : l.val < 4 then dbs (fun r => P (row s r)) (fun r => D (row s r)) ⟨l.val, h⟩ r else 0) : ℝ) : EReal)
  | 0, hn => by
    rw [outsAt0_A m c ⟨0, hn⟩ rfl]
    dsimp only
    rw [out_A_8 (hb := blk_at h ⟨0, hn⟩)]
    simp
  | n + 1, hn => by
    have hN : n + 1 < 32 := hn
    have h0 : ¬(n + 1) % 32 = 0 := by omega
    rw [outsAt0_B m c ⟨n + 1, hn⟩ h0]
    dsimp only
    rw [out_B_8 (hb := blk_at h ⟨n + 1, hn⟩)]
    rw [Finset.sum_range_succ, EReal.coe_add]
    exact congrArg (· + _) (outs8 r l n (Nat.lt_of_succ_lt hn))

theorem arr8 : (dats m 0 c).arrAt 8 cfg0.N = fun i => ((allB P D (i 0) (i 1) : ℝ) : EReal) := by
  refine (dats m 0 c).arrAt_eq_of_covers 8 _ (by decide +kernel) fun t hf y => ?_
  have ht : t.val = 31 := (by decide +kernel : ∀ t : Fin grid0.N, win0_8.flush t = true → t.val = 31) t hf
  blk_simp [idx t]
  rw [after0_8]
  have e0 : (win0_8.blk t).view.emb y 0 = y 0 := Fin.ext (by refine (win0_8.rect_emb_val t y _).trans ?_; simp [idx t])
  have e1 : (win0_8.blk t).view.emb y 1 = y 1 := Fin.ext (by refine (win0_8.rect_emb_val t y _).trans ?_; simp [idx t])
  rw [e0, e1, Idealize.ShloMosaic.ValueIdx.eq_ix2 y]
  refine (outs8 h (y 0) (y 1) t.val t.isLt).trans ?_
  rw [ht]
  rfl

theorem outs9 (q : Fin 8) (l : Fin 256) : ∀ (n : ℕ) (hn : n < cfg0.N),
    (outsAt0 m c n hn).2.2.2 (ix2 q l) = ((∑ s ∈ Finset.range (n + 1), (if q.val = 0 then dlg (fun r => P (row s r)) W (fun r => D (row s r)) l else if q.val = 1 then dlb (fun r => P (row s r)) W (fun r => D (row s r)) l else 0) : ℝ) : EReal)
  | 0, hn => by
    rw [outsAt0_A m c ⟨0, hn⟩ rfl]
    dsimp only
    rw [out_A_9 (hb := blk_at h ⟨0, hn⟩)]
    simp
  | n + 1, hn => by
    have hN : n + 1 < 32 := hn
    have h0 : ¬(n + 1) % 32 = 0 := by omega
    rw [outsAt0_B m c ⟨n + 1, hn⟩ h0]
    dsimp only
    rw [out_B_9 (hb := blk_at h ⟨n + 1, hn⟩)]
    rw [Finset.sum_range_succ, EReal.coe_add]
    exact congrArg (· + _) (outs9 q l n (Nat.lt_of_succ_lt hn))

theorem arr9 : (dats m 0 c).arrAt 9 cfg0.N = fun i => ((allN P W D (i 0) (i 1) : ℝ) : EReal) := by
  refine (dats m 0 c).arrAt_eq_of_covers 9 _ (by decide +kernel) fun t hf y => ?_
  have ht : t.val = 31 := (by decide +kernel : ∀ t : Fin grid0.N, win0_9.flush t = true → t.val = 31) t hf
  blk_simp [idx t]
  rw [after0_9]
  have e0 : (win0_9.blk t).view.emb y 0 = y 0 := Fin.ext (by refine (win0_9.rect_emb_val t y _).trans ?_; simp [idx t])
  have e1 : (win0_9.blk t).view.emb y 1 = y 1 := Fin.ext (by refine (win0_9.rect_emb_val t y _).trans ?_; simp [idx t])
  rw [e0, e1, Idealize.ShloMosaic.ValueIdx.eq_ix2 y]
  refine (outs9 h (y 0) (y 1) t.val t.isLt).trans ?_
  rw [ht]
  rfl

theorem arr6_in (t : Fin cfg0.N) (r : Fin 128) (q : Fin 512) :
    (dats m 0 c).arrAt 6 cfg0.N (ix2 (row t.val r) ⟨4608 + q.val, by omega⟩) = ((allU P g b W B D t.val r q : ℝ) : EReal) := by
  have hf : (cfg0.win 6).flush t = true := (by decide +kernel : ∀ t : Fin grid0.N, win0_6.flush t = true) t
  have ht : t.val < 32 := t.isLt
  have hb := congrFun (Value.blocks6 m c t hf) (ix2 r q)
  rw [Value.flushed6] at hb
  blk_simp [idx t] at hb
  have e : (win0_6.blk t).view.emb (ix2 r q) = ix2 (row t.val r) ⟨4608 + q.val, by omega⟩ := by
    refine funext fun a => Fin.ext ((win0_6.rect_emb_val t _ a).trans ?_)
    have hr := row_val ht r
    fin_cases a
    · simp [idx t]; omega
    · simp [idx t]
  rw [e] at hb
  exact hb.trans (outs6 h t r q)

omit h in
theorem arr6_out (r : Fin 4096) (k : Fin 5120) (hk : k.val < 4608) :
    (dats m 0 c).arrAt 6 cfg0.N (ix2 r k) = m ((c : Thread nD τ).loc main_arg6) (ix2 r k) := by
  refine (Value.entry6 m c (ix2 r k) fun t _ hmem => ?_).trans (V_alias m c r k)
  mem_blk [idx t] at hmem
  have h1 : 4608 ≤ k.val := hmem.2.1
  omega

end
end Cert.KernelIdeal.Gm
end
-- ==== Proof.GmRef1.lean ====
module

public import proofs.«01_k».proof.Proof.Gen.ReferenceIdeal.Read
public import proofs.«01_k».proof.Proof.GmSpec
public import Idealize.ShloMosaic.PureOps.IdealRules
public import Idealize.ShloMosaic.Lib.Pointwise
public import Idealize.ShloMosaic.Lib.IdealHost

/-! The reference's steps on single rows, over finite arguments: the gelu and the layer norm. -/

@[expose] public section

set_option maxRecDepth 16384

noncomputable section

namespace Cert.ReferenceIdeal.Gm

open Cert.ReferenceIdeal Cert.ReferenceIdeal.Read Cert.Gm Idealize.ShloMosaic

/-- The arguments are the given reals (of the projection only the columns read, of the cotangent likewise). -/
structure Args (x0 : Vec Ideal S4096x5120 .f32) (x1 x2 : Vec Ideal S256 .f32) (x3 : Vec Ideal S4x128x128 .f32)
    (x4 : Vec Ideal S4x128 .f32) (x5 : Vec Ideal S4096x1024 .f32) (P : Fin 4096 → Fin 512 → ℝ) (g b : Fin 256 → ℝ)
    (W : Fin 4 → Fin 128 → Fin 128 → ℝ) (B : Fin 4 → Fin 128 → ℝ) (D : Fin 4096 → Fin 256 → ℝ) : Prop where
  a0 : ∀ r q, x0 (ix2 r ⟨4608 + q.val, by omega⟩) = ((P r q : ℝ) : EReal)
  a1 : ∀ k, x1 (ix1 k) = ((g k : ℝ) : EReal)
  a2 : ∀ k, x2 (ix1 k) = ((b k : ℝ) : EReal)
  a3 : ∀ k r j, x3 (ix3 k r j) = ((W k r j : ℝ) : EReal)
  a4 : ∀ k r, x4 (ix2 k r) = ((B k r : ℝ) : EReal)
  a5 : ∀ r q, x5 (ix2 r ⟨512 + q.val, by omega⟩) = ((D r q : ℝ) : EReal)

variable {x0 : Vec Ideal S4096x5120 .f32} {x1 x2 : Vec Ideal S256 .f32} {x3 : Vec Ideal S4x128x128 .f32}
  {x4 : Vec Ideal S4x128 .f32} {x5 : Vec Ideal S4096x1024 .f32} {P : Fin 4096 → Fin 512 → ℝ} {g b : Fin 256 → ℝ}
  {W : Fin 4 → Fin 128 → Fin 128 → ℝ} {B : Fin 4 → Fin 128 → ℝ} {D : Fin 4096 → Fin 256 → ℝ}
  (h : Args x0 x1 x2 x3 x4 x5 P g b W B D)
include h

/-- Half of the value, as the gelu takes it. -/
theorem v2_real (r : Fin 4096) (q : Fin 512) : val_main_v2 (F := Ideal) x0 (ix2 r q) = ((1 / 2 * P r q : ℝ) : EReal) := by
  pointwise [val_main_v2, val_main_v1, val_main_v0, val_main_cst]
  rw [h.a0, ofBits_half, ← EReal.coe_mul]

omit h in
theorem v5_real (i : S_.Idx) : val_main_v5 (F := Ideal) i = ((√2 : ℝ) : EReal) := by
  show Host.sqrt (constant (F := Ideal) S_ .f32 1073741824#32) i = _
  pointwise []
  rw [ofBits_two, Ideal.sqrt_coe, if_neg (by norm_num)]

theorem v7_real (r : Fin 4096) (q : Fin 512) : val_main_v7 (F := Ideal) x0 (ix2 r q) = ((-(P r q * (√2)⁻¹) : ℝ) : EReal) := by
  pointwise [val_main_v7, val_main_v3, val_main_v0, val_main_v6]
  rw [h.a0, v5_real, Ideal.div_coe (by positivity), ← EReal.coe_neg, ← EReal.coe_mul, one_div, neg_mul]

theorem v10_real (r : Fin 4096) (q : Fin 512) : val_main_v10 (F := Ideal) x0 (ix2 r q) = ((2 * hlf (P r q) : ℝ) : EReal) := by
  pointwise [val_main_v10]
  rw [v7_real h, EReal.coe_neg, Ideal.erfc_neg, erf_real, ← EReal.coe_one, ← EReal.coe_add]
  unfold hlf
  congr 1
  ring

theorem v16_real (r : Fin 4096) (q : Fin 512) : val_main_v16 (F := Ideal) x0 (ix2 r q) = ((Real.exp (-(1 / 2) * P r q * P r q) : ℝ) : EReal) := by
  pointwise [val_main_v16, val_main_v15, val_main_v14]
  rw [v7_real h, ← EReal.coe_neg, ← EReal.coe_mul, Ideal.exp_coe]
  congr 2
  have h2 : (√2 : ℝ)⁻¹ * (√2)⁻¹ = 1 / 2 := by rw [← mul_inv, Real.mul_self_sqrt (by norm_num)]; norm_num
  linear_combination (-(P r q * P r q)) * h2

omit h in
theorem v13_real (i : S_.Idx) : val_main_v13 (F := Ideal) i = ((-(2 * (√Real.pi)⁻¹) : ℝ) : EReal) := by
  pointwise [val_main_v13, val_main_v12, val_main_cst_3, val_main_v11, val_main_v9, val_main_v8, val_main_cst_2, val_main_cst_1]
  have ha : Ideal.atan 1 = ((Real.pi / 4 : ℝ) : EReal) := by
    rw [← EReal.coe_one, Ideal.atan_coe, Real.arctan_one]
  rw [ha, ofBits_two, ofBits_four, ← EReal.coe_mul, mul_div_cancel₀ _ (by norm_num : (4:ℝ) ≠ 0), Ideal.sqrt_coe, if_neg (not_lt.2 Real.pi_pos.le),
    Ideal.div_coe (Real.sqrt_pos.2 Real.pi_pos).ne', ← EReal.coe_mul, ← EReal.coe_neg, one_div]

theorem v19_real (r : Fin 4096) (q : Fin 512) : val_main_v19 (F := Ideal) x0 (ix2 r q)
    = ((-(2 * (√Real.pi)⁻¹) * Real.exp (-(1 / 2) * P r q * P r q) : ℝ) : EReal) := by
  pointwise [val_main_v19, val_main_v18, val_main_v17]
  rw [id_eq, v13_real, v16_real h, ← EReal.coe_mul]

theorem v20_real (r : Fin 4096) (q : Fin 512) : val_main_v20 (F := Ideal) x0 (ix2 r q) = ((gel (P r q) : ℝ) : EReal) := by
  pointwise [val_main_v20]
  rw [v2_real h, v10_real h, ← EReal.coe_mul]
  unfold gel
  congr 1
  ring

theorem v21_real (r : Fin 4096) (c : Fin 256) : val_main_v21 (F := Ideal) x0 (ix2 r c) = ((gel (P r (lo c)) : ℝ) : EReal) := by
  pointwise [val_main_v21]
  exact v20_real h r (lo c)

theorem v22_real (r : Fin 4096) (c : Fin 256) : val_main_v22 (F := Ideal) x0 (ix2 r c) = ((gel (P r (hi c)) : ℝ) : EReal) := by
  pointwise [val_main_v22]
  exact v20_real h r (hi c)

theorem v28_real (r : Fin 4096) (c : Fin 256) : val_main_v28 (F := Ideal) x0 (ix2 r c) = ((cen (fun k => gel (P r (hi k))) c : ℝ) : EReal) := by
  pointwise [val_main_v28, val_main_v27, val_main_v26, val_main_v25, val_main_v24, val_main_v23, val_main_cst_4, val_main_cst_5]
  simp only [v22_real h, coe_sum, div_256, ← EReal.coe_sub]
  rfl

theorem v35_real (r : Fin 4096) : val_main_v35 (F := Ideal) x0 (ix2 r 0) = ((var (fun k => gel (P r (hi k))) + eps : ℝ) : EReal) := by
  pointwise [val_main_v35, val_main_v34, val_main_v33, val_main_v32, val_main_v31, val_main_v30, val_main_v29, val_main_cst_6, val_main_cst_7, val_main_cst_8]
  simp only [v28_real h, ← EReal.coe_mul, coe_sum, div_256, ofBits_eps, ← EReal.coe_add]
  rfl

theorem v36_real (r : Fin 4096) : val_main_v36 (F := Ideal) x0 (ix2 r 0) = ((rs (fun k => gel (P r (hi k))) : ℝ) : EReal) := by
  pointwise [val_main_v36]
  rw [v35_real h, rsqrt_var]

theorem v39_real (r : Fin 4096) : val_main_v39 (F := Ideal) x0 (ix2 r 0)
    = ((-(1 / 2) * (rs (fun k => gel (P r (hi k))) * (var (fun k => gel (P r (hi k))) + eps)⁻¹) : ℝ) : EReal) := by
  pointwise [val_main_v39, val_main_v38, val_main_v37, val_main_cst_9]
  rw [v36_real h, v35_real h, ofBits_neg_half, Ideal.div_coe (var_eps_pos _).ne']
  rw [← EReal.coe_mul, ← EReal.coe_mul, one_div (_ + eps)]

theorem v41_real (r : Fin 4096) (c : Fin 256) : val_main_v41 (F := Ideal) x0 (ix2 r c) = ((nrm (fun k => gel (P r (hi k))) c : ℝ) : EReal) := by
  pointwise [val_main_v41, val_main_v40]
  rw [v28_real h, v36_real h, ← EReal.coe_mul]
  rfl

theorem v47_real (r : Fin 4096) (c : Fin 256) : val_main_v47 (F := Ideal) x0 x1 x2 (ix2 r c)
    = ((nrm (fun k => gel (P r (hi k))) c * g c + b c : ℝ) : EReal) := by
  pointwise [val_main_v47, val_main_v46, val_main_v45, val_main_v44, val_main_v43, val_main_v42]
  rw [v41_real h, h.a1, h.a2, ← EReal.coe_mul, ← EReal.coe_add]

theorem v61_real (r : Fin 4096) (c : Fin 256) : val_main_v61 (F := Ideal) x0 x5 (ix2 r c) = ((gel (P r (lo c)) * D r c : ℝ) : EReal) := by
  pointwise [val_main_v61, val_main_v60]
  rw [v21_real h, h.a5, ← EReal.coe_mul]

end Cert.ReferenceIdeal.Gm
end
-- ==== Proof.GmRef2.lean ====
module

public import proofs.«01_k».proof.Proof.GmRef1

/-! The reference's mixing within each block of rows and its gradients, over finite arguments. -/

@[expose] public section

set_option maxRecDepth 16384

noncomputable section

namespace Cert.ReferenceIdeal.Gm

open Cert.ReferenceIdeal Cert.ReferenceIdeal.Read Cert.Gm Idealize.ShloMosaic

/-- The column of the given group and place in it. -/
def cl (k : Fin 4) (e : Fin 64) : Fin 256 := ⟨64 * k.val + e.val, by omega⟩

theorem grp_cl (k : Fin 4) (e : Fin 64) : grp (cl k e) = k := Fin.ext (by show (64 * k.val + e.val) / 64 = k.val; omega)

/-- The place of a column in its group. -/
def pl (c : Fin 256) : Fin 64 := ⟨c.val % 64, by omega⟩

theorem cl_grp (c : Fin 256) : cl (grp c) (pl c) = c := Fin.ext (by show 64 * (c.val / 64) + c.val % 64 = c.val; omega)

/-- A rank-four index is its coordinates. -/
theorem idx48_at (n : Fin 32) (r : Fin 128) (k : Fin 4) (e : Fin 64) : idx_main_v48 (ix4 n r k e) = ix2 (row n.val r) (cl k e) := by
  have hr := row_val n.isLt r
  funext a
  refine Fin.ext ?_
  fin_cases a
  · show (((n.val * 128 + r.val) * 4 + k.val) * 64 + e.val) / 256 = (row n.val r).val
    omega
  · show (((n.val * 128 + r.val) * 4 + k.val) * 64 + e.val) % 256 = 64 * k.val + e.val
    omega

theorem idx58_at (n : Fin 32) (r : Fin 128) (c : Fin 256) : idx_main_v58 (ix2 (row n.val r) c) = ix4 n r (grp c) (pl c) := by
  have hr := row_val n.isLt r
  funext a
  refine Fin.ext ?_
  fin_cases a
  · show ((row n.val r).val * 256 + c.val) / 32768 = n.val
    omega
  · show ((row n.val r).val * 256 + c.val) / 256 % 128 = r.val
    omega
  · show ((row n.val r).val * 256 + c.val) / 64 % 4 = c.val / 64
    omega
  · show ((row n.val r).val * 256 + c.val) % 64 = c.val % 64
    omega

theorem sel_mask (a b : EReal) (k : Fin 4) (r j : Fin 128) :
    Scalar.select (val_main_v51_1 (F := Ideal) (ix3 k r j)) a b = if j ≤ r then a else b := by
  pointwise [val_main_v51_1, val_main_v50, val_main_call0_v4, val_main_call0_v2, val_main_call0_v0, val_main_call0_v1, val_main_call0_c,
    val_main_call0_v3, val_main_v49, val_main_c, val_main_call0_v5, val_main_call0_c_0]
  have h : ∀ r j : Fin 128, Scalar.select (IntOp.cmpi .sge (IntOp.addi (BitVec.ofNat 32 r.val) 0#32) (BitVec.ofNat 32 j.val)) 1#1 0#1
      = if j ≤ r then 1#1 else 0#1 := by decide +kernel
  rw [h r j]
  split_ifs <;> rfl

/-- A sum over the first and the last of four axes. -/
theorem sum_outer {n0 n1 n2 n3 : ℕ} (hr : (⟨4, ![n0, n1, n2, n3]⟩ : Shape).ReducesTo [0, 3] ⟨2, ![n1, n2]⟩)
    (x : (⟨4, ![n0, n1, n2, n3]⟩ : Shape).Idx → EReal) (init : EReal) (r : Fin n1) (k : Fin n2) :
    Ideal.hostReduceAdd hr x init (ix2 r k) = init + ∑ n : Fin n0, ∑ e : Fin n3, x (ix4 n r k e) := by
  unfold Ideal.hostReduceAdd
  refine congrArg (init + ·) ?_
  rw [← Fintype.sum_prod_type' (f := fun n e => x (ix4 n r k e))]
  have h0 (i) : (hr.drop i (0 : Fin 2)).val = (i 1).val := rfl
  have h1 (i) : (hr.drop i (1 : Fin 2)).val = (i 2).val := rfl
  refine (Finset.sum_bij (fun p _ => ix4 p.1 r k p.2) ?_ ?_ ?_ ?_).symm
  · intro p _
    refine Finset.mem_filter.mpr ⟨Finset.mem_univ _, funext fun b => Fin.ext ?_⟩
    fin_cases b
    · exact h0 _
    · exact h1 _
  · intro p _ q _ e
    exact Prod.ext (congrFun e (0 : Fin 4)) (congrFun e (3 : Fin 4))
  · intro i hi
    have hi := (Finset.mem_filter.mp hi).2
    refine ⟨(i 0, i 3), Finset.mem_univ _, funext fun b => Fin.ext ?_⟩
    fin_cases b
    · rfl
    · exact ((h0 i).symm.trans (congrArg Fin.val (congrFun hi (0 : Fin 2)))).symm
    · exact ((h1 i).symm.trans (congrArg Fin.val (congrFun hi (1 : Fin 2)))).symm
    · rfl
  · intro p _; rfl

variable {x0 : Vec Ideal S4096x5120 .f32} {x1 x2 : Vec Ideal S256 .f32} {x3 : Vec Ideal S4x128x128 .f32}
  {x4 : Vec Ideal S4x128 .f32} {x5 : Vec Ideal S4096x1024 .f32} {P : Fin 4096 → Fin 512 → ℝ} {g b : Fin 256 → ℝ}
  {W : Fin 4 → Fin 128 → Fin 128 → ℝ} {B : Fin 4 → Fin 128 → ℝ} {D : Fin 4096 → Fin 256 → ℝ}
  (h : Args x0 x1 x2 x3 x4 x5 P g b W B D)
include h

theorem v48_real (n : Fin 32) (r : Fin 128) (k : Fin 4) (e : Fin 64) : val_main_v48 (F := Ideal) x0 x1 x2 (ix4 n r k e)
    = ((vn (fun r => P (row n.val r)) g b r (cl k e) : ℝ) : EReal) := by
  rw [val_main_v48_apply, idx48_at, v47_real h]
  rfl

theorem v51_real (k : Fin 4) (r j : Fin 128) : val_main_v51_0 (F := Ideal) x3 (ix3 k r j) = ((wt W k r j : ℝ) : EReal) := by
  pointwise [val_main_v51_0, val_main_call1_v2, val_main_call1_v0]
  rw [sel_mask, h.a3]
  show (if j ≤ r then _ else Ideal.ofBits .f32 0#32) = _
  rw [Ideal.ofBits_zero_f32]
  unfold wt
  split_ifs <;> rfl

theorem v57_real (n : Fin 32) (r : Fin 128) (k : Fin 4) (e : Fin 64) : val_main_v57 (F := Ideal) x0 x1 x2 x3 x4 (ix4 n r k e)
    = ((sv (fun r => P (row n.val r)) g b W B r (cl k e) : ℝ) : EReal) := by
  pointwise [val_main_v57, val_main_v56, val_main_v55, val_main_v54, val_main_v53, val_main_v52]
  simp only [v48_real h, v51_real h, h.a4, ← EReal.coe_mul, coe_sum, ← EReal.coe_add]
  refine congrArg _ ?_
  show _ = (∑ j, wt W (grp (cl k e)) r j * _) + B (grp (cl k e)) r
  rw [grp_cl]
  exact congrArg (· + _) (Finset.sum_congr rfl fun j _ => mul_comm _ _)

theorem v62_real (n : Fin 32) (r : Fin 128) (c : Fin 256) : val_main_v62 (F := Ideal) x0 x1 x2 x3 x4 x5 (ix2 (row n.val r) c)
    = ((D (row n.val r) c * sv (fun r => P (row n.val r)) g b W B r c : ℝ) : EReal) := by
  pointwise [val_main_v62, val_main_v60]
  rw [val_main_v58_apply, idx58_at, v57_real h, cl_grp, h.a5, ← EReal.coe_mul]

theorem v63_real (n : Fin 32) (r : Fin 128) (k : Fin 4) (e : Fin 64) : val_main_v63 (F := Ideal) x0 x5 (ix4 n r k e)
    = ((dsv (fun r => P (row n.val r)) (fun r => D (row n.val r)) r (cl k e) : ℝ) : EReal) := by
  rw [val_main_v63_apply, show idx_main_v63 (ix4 n r k e) = _ from idx48_at n r k e, v61_real h, mul_comm]
  rfl

theorem v73_real (n : Fin 32) (j : Fin 128) (c : Fin 256) : val_main_v73 (F := Ideal) x0 x3 x5 (ix2 (row n.val j) c)
    = ((dvn (fun r => P (row n.val r)) W (fun r => D (row n.val r)) j c : ℝ) : EReal) := by
  rw [val_main_v73_apply, show idx_main_v73 (ix2 (row n.val j) c) = _ from idx58_at n j c]
  pointwise [val_main_v71, val_main_v70, val_main_v68]
  simp only [v63_real h, v51_real h, ← EReal.coe_mul, coe_sum, cl_grp]
  exact congrArg _ (Finset.sum_congr rfl fun r _ => mul_comm _ _)

/-- A column is a group and a place in it. -/
def colEquiv : Fin 4 × Fin 64 ≃ Fin 256 where
  toFun p := cl p.1 p.2
  invFun c := (grp c, pl c)
  left_inv p := Prod.ext (grp_cl _ _) (Fin.ext (by show (64 * p.1.val + p.2.val) % 64 = p.2.val; omega))
  right_inv c := cl_grp c

omit h in
theorem sum_grp (f : Fin 256 → ℝ) (k : Fin 4) : (∑ c, if grp c = k then f c else 0) = ∑ e, f (cl k e) := by
  rw [← colEquiv.sum_comp, Fintype.sum_prod_type]
  show (∑ k', ∑ e, if grp (cl k' e) = k then f (cl k' e) else 0) = _
  simp only [grp_cl]
  rw [Finset.sum_eq_single k]
  · simp
  · intro k' _ hk; simp [hk]
  · simp

theorem v69_real (k : Fin 4) (r j : Fin 128) : val_main_v69 (F := Ideal) x0 x1 x2 x5 (ix3 k r j)
    = ((∑ n : Fin 32, ∑ e : Fin 64, dsv (fun r => P (row n.val r)) (fun r => D (row n.val r)) r (cl k e)
      * vn (fun r => P (row n.val r)) g b j (cl k e) : ℝ) : EReal) := by
  pointwise [val_main_v69, val_main_v68]
  simp only [v63_real h, v48_real h, ← EReal.coe_mul, coe_sum]

theorem v72_real (k : Fin 4) (r j : Fin 128) : val_main_v72 (F := Ideal) x0 x1 x2 x5 (ix3 k r j)
    = ((allW P g b D k r j : ℝ) : EReal) := by
  pointwise [val_main_v72, val_main_call2_v0, val_main_call2_cst]
  rw [sel_mask, v69_real h]
  unfold allW dws
  split_ifs
  · refine congrArg _ ?_
    rw [Finset.sum_range]
    refine Finset.sum_congr rfl fun n _ => ?_
    rw [← sum_grp (fun c => dsv _ _ r c * vn _ g b j c)]
    exact Finset.sum_congr rfl fun c _ => by split_ifs <;> simp
  · simp

theorem v64_real (k : Fin 4) (r : Fin 128) : val_main_v64 (F := Ideal) x0 x5 (ix2 r k)
    = ((∑ n : Fin 32, ∑ e : Fin 64, dsv (fun r => P (row n.val r)) (fun r => D (row n.val r)) r (cl k e) : ℝ) : EReal) := by
  pointwise [val_main_v64, val_main_cst_11]
  rw [sum_outer]
  simp only [v63_real h, coe_sum, zero_add]

theorem v67_real (k : Fin 4) (r : Fin 128) : val_main_v67 (F := Ideal) x0 x5 (ix2 k r)
    = ((∑ n : Fin 32, ∑ e : Fin 64, dsv (fun r => P (row n.val r)) (fun r => D (row n.val r)) r (cl k e) : ℝ) : EReal) := by
  pointwise [val_main_v67, val_main_v66, val_main_cst_12]
  rw [sum_outer]
  simp only [zero_add, Finset.univ_unique, Finset.sum_singleton]
  rw [val_main_v65_apply, ← v64_real h]
  refine congrArg _ (funext fun a => Fin.ext ?_)
  have h0 : (default : Fin 1).val = 0 := rfl
  fin_cases a
  · show ((((default : Fin 1).val * 128 + r.val) * 4 + k.val) * 1 + (default : Fin 1).val) / 4 = r.val
    omega
  · show ((((default : Fin 1).val * 128 + r.val) * 4 + k.val) * 1 + (default : Fin 1).val) % 4 = k.val
    omega

theorem v119_real (r l : Fin 128) : val_main_v119 (F := Ideal) x0 x5 (ix2 r l) = ((allB P D r l : ℝ) : EReal) := by
  pointwise [val_main_v119, val_main_v118, val_main_call3_v0, val_main_c_24]
  unfold allB dbs
  rw [Finset.sum_range]
  split_ifs with hl
  · rw [v67_real h]
    exact congrArg _ (Finset.sum_congr rfl fun n _ => (sum_grp _ _).symm)
  · show (((0#32).toInt : ℝ) : EReal) = _
    simp

end Cert.ReferenceIdeal.Gm
end
-- ==== Proof.GmRef3.lean ====
module

public import proofs.«01_k».proof.Proof.GmRef2

/-! The reference's layer-norm gradient, the gelu's gradient and the four results, over finite arguments. -/

@[expose] public section

set_option maxRecDepth 16384

noncomputable section

namespace Cert.ReferenceIdeal.Gm

open Cert.ReferenceIdeal Cert.ReferenceIdeal.Read Cert.Gm Idealize.ShloMosaic

/-! ### Identities of reals -/

theorem rs_sq (v : Fin 256 → ℝ) : rs v * rs v = (var v + eps)⁻¹ := by
  unfold rs
  rw [← mul_inv, Real.mul_self_sqrt (var_eps_pos v).le]

theorem sum_cen (v : Fin 256 → ℝ) : ∑ k, cen v k = 0 := by
  unfold cen mean
  rw [Finset.sum_sub_distrib, Finset.sum_const, Finset.card_univ, Fintype.card_fin, nsmul_eq_mul]
  push_cast
  ring

/-- The layer norm's gradient, as the chain rule through the mean and the variance leaves it. -/
theorem dnrm_eq (v d : Fin 256 → ℝ) (c : Fin 256) (s : ℝ)
    (hs : s = (∑ k, cen v k * d k) * (-(1 / 2) * (rs v * (var v + eps)⁻¹)) * (1 / 256)) :
    d c * rs v + cen v c * s + s * cen v c + (∑ k, -(d k * rs v + cen v k * s + s * cen v k)) * (1 / 256) = dnrm v d c := by
  have h1 : (∑ k, -(d k * rs v + cen v k * s + s * cen v k)) = -((∑ k, d k) * rs v) := by
    rw [Finset.sum_neg_distrib, Finset.sum_add_distrib, Finset.sum_add_distrib, ← Finset.sum_mul, ← Finset.sum_mul, ← Finset.mul_sum, sum_cen]
    ring
  have h2 : (∑ k, d k * nrm v k) = (∑ k, cen v k * d k) * rs v := by
    rw [Finset.sum_mul]
    exact Finset.sum_congr rfl fun k _ => by unfold nrm; ring
  rw [h1, hs]
  unfold dnrm mean
  rw [h2, ← rs_sq]
  unfold nrm
  ring

/-- The gelu's gradient, as the product rule through the complementary error function leaves it. -/
theorem dgel_eq (x t : ℝ) : -(-(2 * (√Real.pi)⁻¹) * Real.exp (-(1 / 2) * x * x) * (1 / 2 * x * t) * (√2)⁻¹) + 1 / 2 * (t * (2 * hlf x))
    = t * dgel x := by
  unfold dgel
  rw [Real.sqrt_mul (by norm_num), mul_inv]
  ring

/-- A sum over all rows, block by block. -/
theorem sum_rows (f : Fin 4096 → ℝ) : (∑ r, f r) = ∑ n : Fin 32, ∑ r : Fin 128, f (row n.val r) := by
  rw [← Fintype.sum_prod_type' (f := fun (n : Fin 32) (r : Fin 128) => f (row n.val r))]
  refine (Finset.sum_bij' (fun (r : Fin 4096) _ => ((⟨r.val / 128, by omega⟩ : Fin 32), (⟨r.val % 128, by omega⟩ : Fin 128)))
    (fun p _ => row p.1.val p.2) ?_ ?_ ?_ ?_ ?_)
  · intro _ _; exact Finset.mem_univ _
  · intro _ _; exact Finset.mem_univ _
  · intro r _
    refine Fin.ext ((row_val (n := r.val / 128) (by omega) _).trans ?_)
    show 128 * (r.val / 128) + r.val % 128 = r.val
    omega
  · intro p _
    have := row_val p.1.isLt p.2
    refine Prod.ext (Fin.ext ?_) (Fin.ext ?_)
    · show (row p.1.val p.2).val / 128 = p.1.val
      omega
    · show (row p.1.val p.2).val % 128 = p.2.val
      omega
  · intro r _
    refine congrArg f (Fin.ext (Eq.symm ((row_val (n := r.val / 128) (by omega) _).trans ?_)))
    show 128 * (r.val / 128) + r.val % 128 = r.val
    omega

variable {x0 : Vec Ideal S4096x5120 .f32} {x1 x2 : Vec Ideal S256 .f32} {x3 : Vec Ideal S4x128x128 .f32}
  {x4 : Vec Ideal S4x128 .f32} {x5 : Vec Ideal S4096x1024 .f32} {P : Fin 4096 → Fin 512 → ℝ} {g b : Fin 256 → ℝ}
  {W : Fin 4 → Fin 128 → Fin 128 → ℝ} {B : Fin 4 → Fin 128 → ℝ} {D : Fin 4096 → Fin 256 → ℝ}
  (h : Args x0 x1 x2 x3 x4 x5 P g b W B D)
include h

omit h in
/-- Every row is a row of a block. -/
theorem exists_row (r : Fin 4096) : ∃ (n : Fin 32) (j : Fin 128), r = row n.val j :=
  ⟨⟨r.val / 128, by omega⟩, ⟨r.val % 128, by omega⟩, Fin.ext (((row_val (n := r.val / 128) (by omega) _).trans (by
    show 128 * (r.val / 128) + r.val % 128 = r.val
    omega)).symm)⟩

omit h in
/-- A sum of extended reals over all rows, block by block. -/
theorem sum_rows_real (F : Fin 4096 → EReal) (f : Fin 32 → Fin 128 → ℝ) (hF : ∀ n j, F (row n.val j) = ((f n j : ℝ) : EReal)) :
    (∑ r, F r) = ((∑ n, ∑ j, f n j : ℝ) : EReal) := by
  have hr : F = fun r => (((F r).toReal : ℝ) : EReal) := by
    funext r
    obtain ⟨n, j, rfl⟩ := exists_row r
    rw [hF, EReal.toReal_coe]
  rw [hr, coe_sum, sum_rows]
  simp only [hF, EReal.toReal_coe]

/-! ### The scale's and the shift's gradients -/

theorem v76_real (c : Fin 256) : val_main_v76 (F := Ideal) x0 x3 x5 (ix1 c)
    = ((∑ n : Fin 32, dlb (fun r => P (row n.val r)) W (fun r => D (row n.val r)) c : ℝ) : EReal) := by
  pointwise [val_main_v76, val_main_v75, val_main_v74, val_main_cst_13, val_main_cst_14]
  simp only [Finset.univ_unique, Finset.sum_singleton]
  exact sum_rows_real _ _ fun n j => v73_real h n j c

theorem v82_real (c : Fin 256) : val_main_v82 (F := Ideal) x0 x3 x5 (ix1 c)
    = ((∑ n : Fin 32, dlg (fun r => P (row n.val r)) W (fun r => D (row n.val r)) c : ℝ) : EReal) := by
  pointwise [val_main_v82, val_main_v79, val_main_v78, val_main_v77, val_main_cst_15, val_main_cst_16]
  simp only [Finset.univ_unique, Finset.sum_singleton]
  exact sum_rows_real _ _ fun n j => by
    rw [v73_real h n j c, v41_real h, ← EReal.coe_mul, mul_comm]
    rfl

theorem v123_real (q : Fin 8) (c : Fin 256) : val_main_v123 (F := Ideal) x0 x3 x5 (ix2 q c) = ((allN P W D q c : ℝ) : EReal) := by
  pointwise [val_main_v123, val_main_v120, val_main_v121, val_main_v122, val_main_cst_25]
  unfold allN
  rw [Finset.sum_range]
  by_cases h0 : q.val = 0
  · rw [dif_pos (by omega), v82_real h]
    simp only [if_pos h0]
  · rw [dif_neg (by omega)]
    simp only [if_neg h0]
    by_cases h1 : q.val = 1
    · rw [dif_pos (by omega), v76_real h]
      simp only [if_pos h1]
    · rw [dif_neg (by omega)]
      simp only [if_neg h1, Finset.sum_const_zero, EReal.coe_zero]

/-! ### The layer norm's gradient -/

theorem v81_real (n : Fin 32) (r : Fin 128) (c : Fin 256) : val_main_v81 (F := Ideal) x0 x1 x3 x5 (ix2 (row n.val r) c)
    = ((dvn (fun r => P (row n.val r)) W (fun r => D (row n.val r)) r c * g c : ℝ) : EReal) := by
  pointwise [val_main_v81, val_main_v80, val_main_v42]
  rw [v73_real h, h.a1, ← EReal.coe_mul]

theorem v91_real (n : Fin 32) (r : Fin 128) : val_main_v91 (F := Ideal) x0 x1 x3 x5 (ix1 (row n.val r))
    = (((∑ k, cen (vv (fun r => P (row n.val r)) r) k * (dvn (fun r => P (row n.val r)) W (fun r => D (row n.val r)) r k * g k))
      * (-(1 / 2) * (rs (vv (fun r => P (row n.val r)) r) * (var (vv (fun r => P (row n.val r)) r) + eps)⁻¹)) * (1 / 256) : ℝ) : EReal) := by
  pointwise [val_main_v91, val_main_v90, val_main_v88, val_main_v85, val_main_v84, val_main_v83, val_main_v89, val_main_cst_17,
    val_main_cst_18, val_main_cst_19]
  simp only [Finset.univ_unique, Finset.sum_singleton]
  rw [show (default : Fin 1) = 0 from rfl, v39_real h]
  simp only [v81_real h, v28_real h, ← EReal.coe_mul, coe_sum, div_256]
  rfl

theorem v96_real (n : Fin 32) (r : Fin 128) (c : Fin 256) {s : ℝ}
    (hs : val_main_v91 (F := Ideal) x0 x1 x3 x5 (ix1 (row n.val r)) = (s : EReal)) :
    val_main_v96 (F := Ideal) x0 x1 x3 x5 (ix2 (row n.val r) c)
      = ((dvn (fun r => P (row n.val r)) W (fun r => D (row n.val r)) r c * g c * rs (vv (fun r => P (row n.val r)) r)
        + cen (vv (fun r => P (row n.val r)) r) c * s + s * cen (vv (fun r => P (row n.val r)) r) c : ℝ) : EReal) := by
  pointwise [val_main_v96, val_main_v95, val_main_v94, val_main_v93, val_main_v92, val_main_v87, val_main_v86]
  rw [hs, v81_real h, v28_real h, v36_real h]
  simp only [← EReal.coe_mul, ← EReal.coe_add]
  rfl

theorem v104_real (n : Fin 32) (r : Fin 128) (c : Fin 256) : val_main_v104 (F := Ideal) x0 x1 x3 x5 (ix2 (row n.val r) c)
    = ((dnrm (vv (fun r => P (row n.val r)) r) (fun k => dvn (fun r => P (row n.val r)) W (fun r => D (row n.val r)) r k * g k) c : ℝ) : EReal) := by
  pointwise [val_main_v104, val_main_v103, val_main_v102, val_main_v101, val_main_v100, val_main_v99, val_main_v98, val_main_v97,
    val_main_cst_20, val_main_cst_21, val_main_cst_22]
  simp only [v96_real h _ _ _ (v91_real h n r), ← EReal.coe_neg, coe_sum, Finset.univ_unique, Finset.sum_singleton, div_256, ← EReal.coe_add]
  exact congrArg _ (dnrm_eq _ (fun k => dvn _ W _ r k * g k) c _ rfl)

theorem v105_real (n : Fin 32) (r : Fin 128) (q : Fin 512) : val_main_v105 (F := Ideal) x0 x1 x2 x3 x4 x5 (ix2 (row n.val r) q)
    = ((if hq : q.val < 256 then D (row n.val r) ⟨q.val, hq⟩ * sv (fun r => P (row n.val r)) g b W B r ⟨q.val, hq⟩
      else dnrm (vv (fun r => P (row n.val r)) r) (fun k => dvn (fun r => P (row n.val r)) W (fun r => D (row n.val r)) r k * g k)
        ⟨q.val - 256, by omega⟩ : ℝ) : EReal) := by
  pointwise [val_main_v105]
  by_cases hq : q.val < 256
  · rw [dif_pos hq, dif_pos hq, v62_real h]
  · rw [dif_neg hq, dif_neg hq, v104_real h]

/-! ### The gelu's gradient -/

theorem v114_at (n : Fin 32) (r : Fin 128) (q : Fin 512) {t : ℝ}
    (ht : val_main_v105 (F := Ideal) x0 x1 x2 x3 x4 x5 (ix2 (row n.val r) q) = (t : EReal)) :
    val_main_v114 (F := Ideal) x0 x1 x2 x3 x4 x5 (ix2 (row n.val r) q) = ((t * dgel (P (row n.val r) q) : ℝ) : EReal) := by
  pointwise [val_main_v114, val_main_v113, val_main_v112, val_main_v111, val_main_v110, val_main_v109, val_main_v108, val_main_v107,
    val_main_v106, val_main_cst_23]
  rw [ht, v19_real h, v2_real h, v10_real h, v5_real, ofBits_half, ← EReal.coe_mul, ← EReal.coe_mul, Ideal.div_coe (by positivity),
    ← EReal.coe_mul, ← EReal.coe_neg, ← EReal.coe_mul, ← EReal.coe_mul, ← EReal.coe_add, ← dgel_eq, one_div (√2)]

theorem v114_real (n : Fin 32) (r : Fin 128) (q : Fin 512) : val_main_v114 (F := Ideal) x0 x1 x2 x3 x4 x5 (ix2 (row n.val r) q)
    = ((allU P g b W B D n.val r q : ℝ) : EReal) := by
  rw [v114_at h n r q (v105_real h n r q)]
  refine congrArg _ ?_
  unfold allU
  split_ifs with hq
  · rfl
  · refine congrArg (_ * ·) (congrArg (fun p => dgel (P _ p)) (Fin.ext ?_))
    show q.val = 256 + (q.val - 256)
    omega

theorem v117_in (x6 : Vec Ideal S4096x5120 .bf16) (n : Fin 32) (r : Fin 128) (q : Fin 512) :
    val_main_v117 (F := Ideal) x0 x1 x2 x3 x4 x5 x6 (ix2 (row n.val r) ⟨4608 + q.val, by omega⟩) = ((allU P g b W B D n.val r q : ℝ) : EReal) := by
  rw [← v114_real h]
  pointwise [val_main_v117, val_main_v116, val_main_v115]

omit h in
theorem v117_out (x6 : Vec Ideal S4096x5120 .bf16) (r : Fin 4096) (k : Fin 5120) (hk : k.val < 4608) :
    val_main_v117 (F := Ideal) x0 x1 x2 x3 x4 x5 x6 (ix2 r k) = x6 (ix2 r k) := by
  pointwise [val_main_v117, val_main_v116, val_main_v115]
  rw [dif_pos hk]

end Cert.ReferenceIdeal.Gm
end
-- ==== Proof.GmEq.lean ====
module

public import proofs.«01_k».proof.Proof.GmPre
public import proofs.«01_k».proof.Proof.GmKernel
public import proofs.«01_k».proof.Proof.GmRef3

/-! The four arrays of the kernel and of the reference are the same, over finite arguments. -/

@[expose] public section

set_option maxRecDepth 16384

noncomputable section

namespace Cert.Gm

open Idealize.ShloMosaic Idealize.ShloMosaic.TcCoe Cert.KernelIdeal Cert.KernelIdeal.Gen Cert.ReferenceIdeal.Read

variable {m : (ℓ : Loc nD τ sig) → Buf (Elt Ideal) ℓ} {c : Dev nD} {x0 : Vec Ideal S4096x5120 .f32} {x1 x2 : Vec Ideal S256 .f32}
  {x3 : Vec Ideal S4x128x128 .f32} {x4 : Vec Ideal S4x128 .f32} {x5 : Vec Ideal S4096x1024 .f32} {x6 : Vec Ideal S4096x5120 .bf16}
  {P : Fin 4096 → Fin 512 → ℝ} {g b : Fin 256 → ℝ} {W : Fin 4 → Fin 128 → Fin 128 → ℝ}
  {B : Fin 4 → Fin 128 → ℝ} {D : Fin 4096 → Fin 256 → ℝ}
  (hk : Cert.KernelIdeal.Gm.Args m c P g b W B D) (hr : Cert.ReferenceIdeal.Gm.Args x0 x1 x2 x3 x4 x5 P g b W B D)
include hk hr

theorem eq_dproj_at (h6 : x6 = m ((c : Thread nD τ).loc main_arg6)) (r : Fin 4096) (k : Fin 5120) :
    (dats m 0 c).arrAt 6 cfg0.N (ix2 r k) = val_main_v117 (F := Ideal) x0 x1 x2 x3 x4 x5 x6 (ix2 r k) := by
  by_cases hc : k.val < 4608
  · refine (Cert.KernelIdeal.Gm.arr6_out r k hc).trans ?_
    rw [← h6]
    exact (Cert.ReferenceIdeal.Gm.v117_out x6 r k hc).symm
  · obtain ⟨n, j, rfl⟩ := Cert.ReferenceIdeal.Gm.exists_row r
    have e : k = ⟨4608 + (⟨k.val - 4608, by omega⟩ : Fin 512).val, by omega⟩ := Fin.ext (by
      show k.val = 4608 + (k.val - 4608)
      omega)
    rw [e]
    exact (Cert.KernelIdeal.Gm.arr6_in hk n j _).trans (Cert.ReferenceIdeal.Gm.v117_in hr x6 n j _).symm

theorem eq_dproj (h6 : x6 = m ((c : Thread nD τ).loc main_arg6)) :
    (dats m 0 c).arrAt 6 cfg0.N = val_main_v117 (F := Ideal) x0 x1 x2 x3 x4 x5 x6 :=
  funext fun i => (congrArg _ (Idealize.ShloMosaic.ValueIdx.eq_ix2 i)).trans
    ((eq_dproj_at hk hr h6 (i 0) (i 1)).trans (congrArg _ (Idealize.ShloMosaic.ValueIdx.eq_ix2 i).symm))

theorem eq_dws : (dats m 0 c).arrAt 7 cfg0.N = val_main_v72 (F := Ideal) x0 x1 x2 x5 := by
  rw [Cert.KernelIdeal.Gm.arr7 hk]
  funext i
  refine Eq.trans ?_ (congrArg _ (Idealize.ShloMosaic.ValueIdx.eq_ix3 i).symm)
  exact (Cert.ReferenceIdeal.Gm.v72_real hr _ _ _).symm

theorem eq_dbst : (dats m 0 c).arrAt 8 cfg0.N = val_main_v119 (F := Ideal) x0 x5 := by
  rw [Cert.KernelIdeal.Gm.arr8 hk]
  funext i
  refine Eq.trans ?_ (congrArg _ (Idealize.ShloMosaic.ValueIdx.eq_ix2 i).symm)
  exact (Cert.ReferenceIdeal.Gm.v119_real hr _ _).symm

theorem eq_dln : (dats m 0 c).arrAt 9 cfg0.N = val_main_v123 (F := Ideal) x0 x3 x5 := by
  rw [Cert.KernelIdeal.Gm.arr9 hk]
  funext i
  refine Eq.trans ?_ (congrArg _ (Idealize.ShloMosaic.ValueIdx.eq_ix2 i).symm)
  exact (Cert.ReferenceIdeal.Gm.v123_real hr _ _).symm

end Cert.Gm
end
-- ==== Proof.Sums.lean ====
module

public import Idealize.ShloMosaic.PureOps.Ideal
public import Idealize.ShloMosaic.Lib.Pointwise

/-! Sums over the 4096 rows of a device, cut into the blocks of rows that the grid points take. -/

@[expose] public section

noncomputable section

namespace Cert.Dense

theorem zero2 : (![0, 0] : Fin 2 → Nat) = fun _ => 0 := by decide

/-- Row `r` of block `s`, of blocks of `b` rows. -/
def brow (b : ℕ) (s : ℕ) (r : Fin b) : Fin 4096 := ⟨(s * b + r.val) % 4096, Nat.mod_lt _ (by norm_num)⟩

theorem brow_val {b n s : ℕ} (hn : n * b = 4096) (hs : s < n) (r : Fin b) : (brow b s r).val = s * b + r.val := by
  refine Nat.mod_eq_of_lt ?_
  have h1 : (s + 1) * b ≤ n * b := Nat.mul_le_mul_right b hs
  have h2 := r.isLt
  rw [Nat.add_mul, one_mul] at h1
  omega

/-- A sum over all rows is the sum over the blocks of the sums over a block's rows. -/
theorem sum_blocks {M : Type*} [AddCommMonoid M] (b n : ℕ) (hn : n * b = 4096) (f : Fin 4096 → M) :
    ∑ s ∈ Finset.range n, ∑ r : Fin b, f (brow b s r) = ∑ k, f k := by
  rw [Finset.sum_range, ← Finset.sum_product', Finset.univ_product_univ]
  refine Fintype.sum_equiv (finProdFinEquiv.trans (finCongr hn)) _ _ fun x => congrArg f (Fin.ext ?_)
  rw [brow_val hn x.1.isLt]
  simp [finProdFinEquiv]
  ring

open Idealize.ShloMosaic in
/-- The product of the transpose of `a` with `g`. -/
def tmul (K N : ℕ) (a : (⟨2, ![4096, K]⟩ : Shape).Idx → EReal) (g : (⟨2, ![4096, N]⟩ : Shape).Idx → EReal)
    (i : (⟨2, ![K, N]⟩ : Shape).Idx) : EReal :=
  ∑ k : Fin 4096, a (ix2 k (i 0)) * g (ix2 k (i 1))

open Idealize.ShloMosaic in
/-- Summed block of rows by block of rows, two blocks of them, the product is the same. -/
theorem tmul_two {K N B : ℕ} {a : (⟨2, ![4096, K]⟩ : Shape).Idx → EReal} {g : (⟨2, ![4096, N]⟩ : Shape).Idx → EReal}
    {x x' : (⟨2, ![2048, K]⟩ : Shape).Idx → EReal} {y y' : (⟨2, ![2048, B]⟩ : Shape).Idx → EReal} {col : Fin B → Fin N}
    (hx : ∀ k r, x (ix2 k r) = a (ix2 (brow 2048 0 k) r)) (hx' : ∀ k r, x' (ix2 k r) = a (ix2 (brow 2048 1 k) r))
    (hy : ∀ k q, y (ix2 k q) = g (ix2 (brow 2048 0 k) (col q))) (hy' : ∀ k q, y' (ix2 k q) = g (ix2 (brow 2048 1 k) (col q)))
    (r : Fin K) (q : Fin B) :
    (∑ k, x (ix2 k r) * y (ix2 k q)) + ∑ k, x' (ix2 k r) * y' (ix2 k q) = tmul K N a g (ix2 r (col q)) := by
  unfold tmul
  rw [← sum_blocks 2048 2 rfl, Finset.sum_range_succ, Finset.sum_range_one]
  simp only [hx, hx', hy, hy']
  rfl

end Cert.Dense
end
-- ==== Proof.WgInEq.lean ====
module

public import proofs.«01_k».proof.Proof.Gen.WgInIdeal.Value
public import proofs.«01_k».proof.Proof.Gen.WgInReferenceIdeal.Read
public import proofs.«01_k».proof.Proof.Sums
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The gradient of the input projection's weights: what the call's two arrays hold, and what the reference's hold. -/

@[expose] public section

set_option maxRecDepth 16384

noncomputable section

namespace Cert.WgInIdeal.Wg

open Cert.WgInIdeal Cert.WgInIdeal.Gen Cert.Dense Idealize.ShloMosaic Idealize.ShloMosaic.TcCoe

/-- The sum that a grid point adds to its block. -/
theorem pay2_at (v3 : Vec Ideal S1024x1280 .f32) (a : Vec Ideal S2048x1024 .bf16) (g : Vec Ideal S2048x1280 .bf16) (r : Fin 1024) (q : Fin 1280) :
    k0_pay2 v3 a g (ix2 r q) = v3 (ix2 r q) + ∑ k : Fin 2048, a (ix2 k r) * g (ix2 k q) := by
  pointwise [k0_pay2]

theorem pay1_at (r : Fin 1024) (q : Fin 1280) : (k0_pay1 (F := Ideal)) (ix2 r q) = (0 : EReal) := by
  pointwise [k0_pay1]

theorem pay3_at (v : Vec Ideal S1024x1280 .f32) (r : Fin 1024) (q : Fin 1280) : k0_pay3 v (ix2 r q) = v (ix2 r q) := by
  pointwise [k0_pay3]

section
variable (c : Dev nD) (i : grid0.Coords) (arg2 : Memref sig .tc .vmem S2048x1024 .bf16) (harg2 : arg2.IsWhole) (arg3 : Memref sig .tc .vmem S2048x1280 .bf16) (harg3 : arg3.IsWhole) (arg4 : Memref sig .tc .vmem S1024x1280 .f32) (harg4 : arg4.IsWhole) (arg5 : Memref sig .tc .vmem S1024x1280 .bf16) (harg5 : arg5.IsWhole)
  (x0 : Vec Ideal S2048x1024 .bf16) (x1 : Vec Ideal S2048x1280 .bf16) (xo2 : Vec Ideal S1024x1280 .f32)

theorem out_A_2 (hc0 : cond0_0 i) (hc1 : ¬cond0_1 i) :
    out0_A_2 c i arg2 harg2 arg3 harg3 arg4 harg4 arg5 harg5 hc0 hc1 x0 x1 = k0_pay2 k0_pay1 x0 x1 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  simp only [View.readAt_eq_ld, harg2.read_unread, harg3.read_unread, harg4.read_unread, View.ld_unit_zero (S := S2048x1024) zero2,
    View.ld_unit_zero (S := S2048x1280) zero2, View.ld_unit_zero (S := S1024x1280) zero2]
  rw [View.canon_cons_unit_zero zero2, View.readCov_cons_toLoadRect]

theorem out_B_2 (hc0 : ¬cond0_0 i) (hc1 : cond0_1 i) :
    out0_B_2 c i arg2 harg2 arg3 harg3 arg4 harg4 arg5 harg5 hc0 hc1 x0 x1 xo2 = k0_pay2 xo2 x0 x1 := by
  unfold out0_B_2
  rw [View.read_writes_eq_canon _ _ _ (cover0_B_2 c i arg2 harg2 arg3 harg3 arg4 harg4 arg5 harg5 hc0 hc1 x0 x1 xo2)]
  unfold kernelRun0_B
  dsimp only
  sl_unfold_words
  simp only [View.readAt_eq_ld, harg2.read_unread, harg3.read_unread, harg4.read_unread, View.ld_unit_zero (S := S2048x1024) zero2,
    View.ld_unit_zero (S := S2048x1280) zero2, View.ld_unit_zero (S := S1024x1280) zero2]
  rw [View.canon_cons_unit_zero zero2]

theorem out_B_3 (hc0 : ¬cond0_0 i) (hc1 : cond0_1 i) :
    out0_B_3 c i arg2 harg2 arg3 harg3 arg4 harg4 arg5 harg5 hc0 hc1 x0 x1 xo2 = k0_pay3 (k0_pay2 xo2 x0 x1) := by
  unfold out0_B_3
  rw [View.read_writes_eq_canon _ _ _ (cover0_B_3 c i arg2 harg2 arg3 harg3 arg4 harg4 arg5 harg5 hc0 hc1 x0 x1 xo2)]
  unfold kernelRun0_B
  dsimp only
  sl_unfold_words
  simp only [View.readAt_eq_ld, harg2.read_unread, harg3.read_unread, harg4.read_unread, View.ld_unit_zero (S := S2048x1024) zero2,
    View.ld_unit_zero (S := S2048x1280) zero2, View.ld_unit_zero (S := S1024x1280) zero2]
  rw [View.canon_cons_unit_zero zero2, View.readCov_cons_toLoadRect]

end

variable (m : (ℓ : Loc nD τ sig) → Buf (Elt Ideal) ℓ)

theorem idx : ∀ t : Fin grid0.N, win0_0.index t = ![t.val % 2, 0] ∧ win0_1.index t = ![t.val % 2, t.val / 2]
    ∧ win0_2.index t = ![0, t.val / 2] ∧ win0_3.index t = ![0, t.val / 2] := by
  decide +kernel

/-- Column `q` of the block that grid point `t` works on. -/
def col (t : Fin grid0.N) (q : Fin 1280) : Fin 5120 := ⟨t.val / 2 * 1280 + q.val, by have : t.val < 8 := t.isLt; omega⟩

theorem blk0 (c : Dev nD) (t : Fin cfg0.N) (r : Fin 2048) (q : Fin 1024) :
    iblk m c 0 t (ix2 r q) = m ((c : Thread nD τ).loc main_arg0) (ix2 (brow 2048 (t.val % 2) r) q) := by
  have hr := brow_val (b := 2048) (n := 2) rfl (Nat.mod_lt t.val two_pos) r
  blk_point [iblk, V, idx t]
theorem blk1 (c : Dev nD) (t : Fin cfg0.N) (r : Fin 2048) (q : Fin 1280) :
    iblk m c 1 t (ix2 r q) = m ((c : Thread nD τ).loc main_arg1) (ix2 (brow 2048 (t.val % 2) r) (col t q)) := by
  have hr := brow_val (b := 2048) (n := 2) rfl (Nat.mod_lt t.val two_pos) r
  blk_point [iblk, V, idx t, col]

/-- The product of the transposed first argument and the second. -/
def grad (c : Dev nD) : S1024x5120.Idx → EReal :=
  tmul 1024 5120 (m ((c : Thread nD τ).loc main_arg0)) (m ((c : Thread nD τ).loc main_arg1))

/-- The second of the two points of a block leaves the whole sum in it. -/
theorem last (c : Dev nD) (t : Fin cfg0.N) (h1 : t.val % 2 = 1) (r : Fin 1024) (q : Fin 1280) :
    (outsAt0 m c t.val t.isLt).1 (ix2 r q) = grad m c (ix2 r (col t q)) ∧ (outsAt0 m c t.val t.isLt).2 (ix2 r q) = grad m c (ix2 r (col t q)) := by
  have ht : t.val < 8 := t.isLt
  have h0 : ¬t.val % 2 = 0 := by omega
  have hp : t.val - 1 < 8 := by omega
  have e : (outsAt0 m c (t.val - 1) (Nat.lt_of_le_of_lt (Nat.sub_le _ _) t.isLt)).1 = k0_pay2 k0_pay1 (iblk m c 0 ⟨t.val - 1, hp⟩) (iblk m c 1 ⟨t.val - 1, hp⟩) := by
    have := outsAt0_A m c ⟨t.val - 1, hp⟩ (by show (t.val - 1) % 2 = 0; omega) (by show ¬(t.val - 1) % 2 = 1; omega)
    rw [out_A_2] at this
    exact congrArg Prod.fst this
  have hc (q : Fin 1280) : col ⟨t.val - 1, hp⟩ q = col t q := Fin.ext (by show (t.val - 1) / 2 * 1280 + q.val = t.val / 2 * 1280 + q.val; congr 2; omega)
  have e0 : (t.val - 1) % 2 = 0 := by omega
  have key : k0_pay2 (k0_pay2 k0_pay1 (iblk m c 0 ⟨t.val - 1, hp⟩) (iblk m c 1 ⟨t.val - 1, hp⟩)) (iblk m c 0 t) (iblk m c 1 t) (ix2 r q) = grad m c (ix2 r (col t q)) := by
    rw [pay2_at, pay2_at, pay1_at, zero_add]
    refine tmul_two (fun k r => ?_) (fun k r => ?_) (fun k q => ?_) (fun k q => ?_) r q
    · rw [blk0, e0]
    · rw [blk0, h1]
    · rw [blk1, hc, e0]
    · rw [blk1, h1]
  rw [outsAt0_B m c t h0 h1, out_B_2, out_B_3, e]
  exact ⟨key, (pay3_at _ r q).trans key⟩

theorem arr2 (c : Dev nD) : (dats m 0 c).arrAt 2 cfg0.N = grad m c := by
  refine (dats m 0 c).arrAt_eq_of_covers 2 _ (by decide +kernel) fun t hf y => ?_
  have ht : t.val % 2 = 1 := (by decide +kernel : ∀ t : Fin grid0.N, win0_2.flush t = true → t.val % 2 = 1) t hf
  blk_simp [idx t]
  rw [after0_2]
  have e : (win0_2.blk t).view.emb y = ix2 (y 0) (col t (y 1)) := by
    refine funext fun a => Fin.ext ((win0_2.rect_emb_val t _ a).trans ?_)
    fin_cases a <;> simp [idx t, col]
  rw [e, Idealize.ShloMosaic.ValueIdx.eq_ix2 y]
  exact (last m c t ht (y 0) (y 1)).1

theorem arr3 (c : Dev nD) : (dats m 0 c).arrAt 3 cfg0.N = grad m c := by
  refine (dats m 0 c).arrAt_eq_of_covers 3 _ (by decide +kernel) fun t hf y => ?_
  have ht : t.val % 2 = 1 := (by decide +kernel : ∀ t : Fin grid0.N, win0_3.flush t = true → t.val % 2 = 1) t hf
  blk_simp [idx t]
  rw [after0_3]
  have e : (win0_3.blk t).view.emb y = ix2 (y 0) (col t (y 1)) := by
    refine funext fun a => Fin.ext ((win0_3.rect_emb_val t _ a).trans ?_)
    fin_cases a <;> simp [idx t, col]
  rw [e, Idealize.ShloMosaic.ValueIdx.eq_ix2 y]
  exact (last m c t ht (y 0) (y 1)).2

/-- The reference's gradient is the same sum. -/
theorem ref_eq (a : Vec Ideal S4096x1024 .bf16) (g : Vec Ideal S4096x5120 .bf16) :
    Cert.WgInReferenceIdeal.Read.val_main_v5 (F := Ideal) a g = tmul 1024 5120 a g := by
  refine funext fun i => ?_
  rw [Idealize.ShloMosaic.ValueIdx.eq_ix2 i]
  pointwise [Cert.WgInReferenceIdeal.Read.val_main_v5, Cert.WgInReferenceIdeal.Read.val_main_v4, Cert.WgInReferenceIdeal.Read.val_main_v3, Cert.WgInReferenceIdeal.Read.val_main_v1]
  exact Finset.sum_congr rfl fun k _ => mul_comm _ _

end Cert.WgInIdeal.Wg
end
-- ==== Proof.WgOutEq.lean ====
module

public import proofs.«01_k».proof.Proof.Gen.WgOutIdeal.Value
public import proofs.«01_k».proof.Proof.Gen.WgOutReferenceIdeal.Read
public import proofs.«01_k».proof.Proof.Sums
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The gradient of the output projection's weights: what the call's two arrays hold, and what the reference's hold. -/

@[expose] public section

set_option maxRecDepth 16384

noncomputable section

namespace Cert.WgOutIdeal.Wg

open Cert.WgOutIdeal Cert.WgOutIdeal.Gen Cert.Dense Idealize.ShloMosaic Idealize.ShloMosaic.TcCoe

/-- The sum that a grid point adds to its block. -/
theorem pay2_at (v3 : Vec Ideal S1024x1024 .f32) (a : Vec Ideal S2048x1024 .f32) (g : Vec Ideal S2048x1024 .bf16) (r : Fin 1024) (q : Fin 1024) :
    k0_pay2 v3 a g (ix2 r q) = v3 (ix2 r q) + ∑ k : Fin 2048, a (ix2 k r) * g (ix2 k q) := by
  pointwise [k0_pay2]

theorem pay1_at (r : Fin 1024) (q : Fin 1024) : (k0_pay1 (F := Ideal)) (ix2 r q) = (0 : EReal) := by
  pointwise [k0_pay1]

theorem pay3_at (v : Vec Ideal S1024x1024 .f32) (r : Fin 1024) (q : Fin 1024) : k0_pay3 v (ix2 r q) = v (ix2 r q) := by
  pointwise [k0_pay3]

section
variable (c : Dev nD) (i : grid0.Coords) (arg2 : Memref sig .tc .vmem S2048x1024 .f32) (harg2 : arg2.IsWhole) (arg3 : Memref sig .tc .vmem S2048x1024 .bf16) (harg3 : arg3.IsWhole) (arg4 : Memref sig .tc .vmem S1024x1024 .f32) (harg4 : arg4.IsWhole) (arg5 : Memref sig .tc .vmem S1024x1024 .bf16) (harg5 : arg5.IsWhole)
  (x0 : Vec Ideal S2048x1024 .f32) (x1 : Vec Ideal S2048x1024 .bf16) (xo2 : Vec Ideal S1024x1024 .f32)

theorem out_A_2 (hc0 : cond0_0 i) (hc1 : ¬cond0_1 i) :
    out0_A_2 c i arg2 harg2 arg3 harg3 arg4 harg4 arg5 harg5 hc0 hc1 x0 x1 = k0_pay2 k0_pay1 x0 x1 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  simp only [View.readAt_eq_ld, harg2.read_unread, harg3.read_unread, harg4.read_unread, View.ld_unit_zero (S := S2048x1024) zero2,
    View.ld_unit_zero (S := S2048x1024) zero2, View.ld_unit_zero (S := S1024x1024) zero2]
  rw [View.canon_cons_unit_zero zero2, View.readCov_cons_toLoadRect]

theorem out_B_2 (hc0 : ¬cond0_0 i) (hc1 : cond0_1 i) :
    out0_B_2 c i arg2 harg2 arg3 harg3 arg4 harg4 arg5 harg5 hc0 hc1 x0 x1 xo2 = k0_pay2 xo2 x0 x1 := by
  unfold out0_B_2
  rw [View.read_writes_eq_canon _ _ _ (cover0_B_2 c i arg2 harg2 arg3 harg3 arg4 harg4 arg5 harg5 hc0 hc1 x0 x1 xo2)]
  unfold kernelRun0_B
  dsimp only
  sl_unfold_words
  simp only [View.readAt_eq_ld, harg2.read_unread, harg3.read_unread, harg4.read_unread, View.ld_unit_zero (S := S2048x1024) zero2,
    View.ld_unit_zero (S := S2048x1024) zero2, View.ld_unit_zero (S := S1024x1024) zero2]
  rw [View.canon_cons_unit_zero zero2]

theorem out_B_3 (hc0 : ¬cond0_0 i) (hc1 : cond0_1 i) :
    out0_B_3 c i arg2 harg2 arg3 harg3 arg4 harg4 arg5 harg5 hc0 hc1 x0 x1 xo2 = k0_pay3 (k0_pay2 xo2 x0 x1) := by
  unfold out0_B_3
  rw [View.read_writes_eq_canon _ _ _ (cover0_B_3 c i arg2 harg2 arg3 harg3 arg4 harg4 arg5 harg5 hc0 hc1 x0 x1 xo2)]
  unfold kernelRun0_B
  dsimp only
  sl_unfold_words
  simp only [View.readAt_eq_ld, harg2.read_unread, harg3.read_unread, harg4.read_unread, View.ld_unit_zero (S := S2048x1024) zero2,
    View.ld_unit_zero (S := S2048x1024) zero2, View.ld_unit_zero (S := S1024x1024) zero2]
  rw [View.canon_cons_unit_zero zero2, View.readCov_cons_toLoadRect]

end

variable (m : (ℓ : Loc nD τ sig) → Buf (Elt Ideal) ℓ)

theorem idx : ∀ t : Fin grid0.N, win0_0.index t = ![t.val % 2, 0] ∧ win0_1.index t = ![t.val % 2, t.val / 2]
    ∧ win0_2.index t = ![0, t.val / 2] ∧ win0_3.index t = ![0, t.val / 2] := by
  decide +kernel

/-- Column `q` of the block that grid point `t` works on. -/
def col (t : Fin grid0.N) (q : Fin 1024) : Fin 1024 := ⟨t.val / 2 * 1024 + q.val, by have : t.val < 2 := t.isLt; omega⟩

theorem blk0 (c : Dev nD) (t : Fin cfg0.N) (r : Fin 2048) (q : Fin 1024) :
    iblk m c 0 t (ix2 r q) = m ((c : Thread nD τ).loc main_arg0) (ix2 (brow 2048 (t.val % 2) r) q) := by
  have hr := brow_val (b := 2048) (n := 2) rfl (Nat.mod_lt t.val two_pos) r
  blk_point [iblk, V, idx t]
theorem blk1 (c : Dev nD) (t : Fin cfg0.N) (r : Fin 2048) (q : Fin 1024) :
    iblk m c 1 t (ix2 r q) = m ((c : Thread nD τ).loc main_arg1) (ix2 (brow 2048 (t.val % 2) r) (col t q)) := by
  have hr := brow_val (b := 2048) (n := 2) rfl (Nat.mod_lt t.val two_pos) r
  blk_point [iblk, V, idx t, col]

/-- The product of the transposed first argument and the second. -/
def grad (c : Dev nD) : S1024x1024.Idx → EReal :=
  tmul 1024 1024 (m ((c : Thread nD τ).loc main_arg0)) (m ((c : Thread nD τ).loc main_arg1))

/-- The second of the two points of a block leaves the whole sum in it. -/
theorem last (c : Dev nD) (t : Fin cfg0.N) (h1 : t.val % 2 = 1) (r : Fin 1024) (q : Fin 1024) :
    (outsAt0 m c t.val t.isLt).1 (ix2 r q) = grad m c (ix2 r (col t q)) ∧ (outsAt0 m c t.val t.isLt).2 (ix2 r q) = grad m c (ix2 r (col t q)) := by
  have ht : t.val < 2 := t.isLt
  have h0 : ¬t.val % 2 = 0 := by omega
  have hp : t.val - 1 < 2 := by omega
  have e : (outsAt0 m c (t.val - 1) (Nat.lt_of_le_of_lt (Nat.sub_le _ _) t.isLt)).1 = k0_pay2 k0_pay1 (iblk m c 0 ⟨t.val - 1, hp⟩) (iblk m c 1 ⟨t.val - 1, hp⟩) := by
    have := outsAt0_A m c ⟨t.val - 1, hp⟩ (by show (t.val - 1) % 2 = 0; omega) (by show ¬(t.val - 1) % 2 = 1; omega)
    rw [out_A_2] at this
    exact congrArg Prod.fst this
  have hc (q : Fin 1024) : col ⟨t.val - 1, hp⟩ q = col t q := Fin.ext (by show (t.val - 1) / 2 * 1024 + q.val = t.val / 2 * 1024 + q.val; congr 2; omega)
  have e0 : (t.val - 1) % 2 = 0 := by omega
  have key : k0_pay2 (k0_pay2 k0_pay1 (iblk m c 0 ⟨t.val - 1, hp⟩) (iblk m c 1 ⟨t.val - 1, hp⟩)) (iblk m c 0 t) (iblk m c 1 t) (ix2 r q) = grad m c (ix2 r (col t q)) := by
    rw [pay2_at, pay2_at, pay1_at, zero_add]
    refine tmul_two (fun k r => ?_) (fun k r => ?_) (fun k q => ?_) (fun k q => ?_) r q
    · rw [blk0, e0]
    · rw [blk0, h1]
    · rw [blk1, hc, e0]
    · rw [blk1, h1]
  rw [outsAt0_B m c t h0 h1, out_B_2, out_B_3, e]
  exact ⟨key, (pay3_at _ r q).trans key⟩

theorem arr2 (c : Dev nD) : (dats m 0 c).arrAt 2 cfg0.N = grad m c := by
  refine (dats m 0 c).arrAt_eq_of_covers 2 _ (by decide +kernel) fun t hf y => ?_
  have ht : t.val % 2 = 1 := (by decide +kernel : ∀ t : Fin grid0.N, win0_2.flush t = true → t.val % 2 = 1) t hf
  blk_simp [idx t]
  rw [after0_2]
  have e : (win0_2.blk t).view.emb y = ix2 (y 0) (col t (y 1)) := by
    refine funext fun a => Fin.ext ((win0_2.rect_emb_val t _ a).trans ?_)
    fin_cases a <;> simp [idx t, col]
  rw [e, Idealize.ShloMosaic.ValueIdx.eq_ix2 y]
  exact (last m c t ht (y 0) (y 1)).1

theorem arr3 (c : Dev nD) : (dats m 0 c).arrAt 3 cfg0.N = grad m c := by
  refine (dats m 0 c).arrAt_eq_of_covers 3 _ (by decide +kernel) fun t hf y => ?_
  have ht : t.val % 2 = 1 := (by decide +kernel : ∀ t : Fin grid0.N, win0_3.flush t = true → t.val % 2 = 1) t hf
  blk_simp [idx t]
  rw [after0_3]
  have e : (win0_3.blk t).view.emb y = ix2 (y 0) (col t (y 1)) := by
    refine funext fun a => Fin.ext ((win0_3.rect_emb_val t _ a).trans ?_)
    fin_cases a <;> simp [idx t, col]
  rw [e, Idealize.ShloMosaic.ValueIdx.eq_ix2 y]
  exact (last m c t ht (y 0) (y 1)).2

/-- The reference's gradient is the same sum. -/
theorem ref_eq (a : Vec Ideal S4096x1024 .f32) (g : Vec Ideal S4096x1024 .bf16) :
    Cert.WgOutReferenceIdeal.Read.val_main_v4 (F := Ideal) a g = tmul 1024 1024 a g := by
  refine funext fun i => ?_
  rw [Idealize.ShloMosaic.ValueIdx.eq_ix2 i]
  pointwise [Cert.WgOutReferenceIdeal.Read.val_main_v4, Cert.WgOutReferenceIdeal.Read.val_main_v3, Cert.WgOutReferenceIdeal.Read.val_main_v2]
  exact Finset.sum_congr rfl fun k _ => mul_comm _ _

end Cert.WgOutIdeal.Wg
end
-- ==== Proof.WgFfnInEq.lean ====
module

public import proofs.«01_k».proof.Proof.Gen.WgFfnInIdeal.Value
public import proofs.«01_k».proof.Proof.Gen.WgFfnInReferenceIdeal.Read
public import proofs.«01_k».proof.Proof.Sums
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The gradient of the first weights of the channel mixer: what the call's two arrays hold, and what the reference's hold. -/

@[expose] public section

set_option maxRecDepth 16384

noncomputable section

namespace Cert.WgFfnInIdeal.Wg

open Cert.WgFfnInIdeal Cert.WgFfnInIdeal.Gen Cert.Dense Idealize.ShloMosaic Idealize.ShloMosaic.TcCoe

/-- The sum that a grid point adds to its block. -/
theorem pay2_at (v3 : Vec Ideal S1024x1408 .f32) (a : Vec Ideal S2048x1024 .bf16) (g : Vec Ideal S2048x1408 .bf16) (r : Fin 1024) (q : Fin 1408) :
    k0_pay2 v3 a g (ix2 r q) = v3 (ix2 r q) + ∑ k : Fin 2048, a (ix2 k r) * g (ix2 k q) := by
  pointwise [k0_pay2]

theorem pay1_at (r : Fin 1024) (q : Fin 1408) : (k0_pay1 (F := Ideal)) (ix2 r q) = (0 : EReal) := by
  pointwise [k0_pay1]

theorem pay3_at (v : Vec Ideal S1024x1408 .f32) (r : Fin 1024) (q : Fin 1408) : k0_pay3 v (ix2 r q) = v (ix2 r q) := by
  pointwise [k0_pay3]

section
variable (c : Dev nD) (i : grid0.Coords) (arg2 : Memref sig .tc .vmem S2048x1024 .bf16) (harg2 : arg2.IsWhole) (arg3 : Memref sig .tc .vmem S2048x1408 .bf16) (harg3 : arg3.IsWhole) (arg4 : Memref sig .tc .vmem S1024x1408 .f32) (harg4 : arg4.IsWhole) (arg5 : Memref sig .tc .vmem S1024x1408 .bf16) (harg5 : arg5.IsWhole)
  (x0 : Vec Ideal S2048x1024 .bf16) (x1 : Vec Ideal S2048x1408 .bf16) (xo2 : Vec Ideal S1024x1408 .f32)

theorem out_A_2 (hc0 : cond0_0 i) (hc1 : ¬cond0_1 i) :
    out0_A_2 c i arg2 harg2 arg3 harg3 arg4 harg4 arg5 harg5 hc0 hc1 x0 x1 = k0_pay2 k0_pay1 x0 x1 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  simp only [View.readAt_eq_ld, harg2.read_unread, harg3.read_unread, harg4.read_unread, View.ld_unit_zero (S := S2048x1024) zero2,
    View.ld_unit_zero (S := S2048x1408) zero2, View.ld_unit_zero (S := S1024x1408) zero2]
  rw [View.canon_cons_unit_zero zero2, View.readCov_cons_toLoadRect]

theorem out_B_2 (hc0 : ¬cond0_0 i) (hc1 : cond0_1 i) :
    out0_B_2 c i arg2 harg2 arg3 harg3 arg4 harg4 arg5 harg5 hc0 hc1 x0 x1 xo2 = k0_pay2 xo2 x0 x1 := by
  unfold out0_B_2
  rw [View.read_writes_eq_canon _ _ _ (cover0_B_2 c i arg2 harg2 arg3 harg3 arg4 harg4 arg5 harg5 hc0 hc1 x0 x1 xo2)]
  unfold kernelRun0_B
  dsimp only
  sl_unfold_words
  simp only [View.readAt_eq_ld, harg2.read_unread, harg3.read_unread, harg4.read_unread, View.ld_unit_zero (S := S2048x1024) zero2,
    View.ld_unit_zero (S := S2048x1408) zero2, View.ld_unit_zero (S := S1024x1408) zero2]
  rw [View.canon_cons_unit_zero zero2]

theorem out_B_3 (hc0 : ¬cond0_0 i) (hc1 : cond0_1 i) :
    out0_B_3 c i arg2 harg2 arg3 harg3 arg4 harg4 arg5 harg5 hc0 hc1 x0 x1 xo2 = k0_pay3 (k0_pay2 xo2 x0 x1) := by
  unfold out0_B_3
  rw [View.read_writes_eq_canon _ _ _ (cover0_B_3 c i arg2 harg2 arg3 harg3 arg4 harg4 arg5 harg5 hc0 hc1 x0 x1 xo2)]
  unfold kernelRun0_B
  dsimp only
  sl_unfold_words
  simp only [View.readAt_eq_ld, harg2.read_unread, harg3.read_unread, harg4.read_unread, View.ld_unit_zero (S := S2048x1024) zero2,
    View.ld_unit_zero (S := S2048x1408) zero2, View.ld_unit_zero (S := S1024x1408) zero2]
  rw [View.canon_cons_unit_zero zero2, View.readCov_cons_toLoadRect]

end

variable (m : (ℓ : Loc nD τ sig) → Buf (Elt Ideal) ℓ)

theorem idx : ∀ t : Fin grid0.N, win0_0.index t = ![t.val % 2, 0] ∧ win0_1.index t = ![t.val % 2, t.val / 2]
    ∧ win0_2.index t = ![0, t.val / 2] ∧ win0_3.index t = ![0, t.val / 2] := by
  decide +kernel

/-- Column `q` of the block that grid point `t` works on. -/
def col (t : Fin grid0.N) (q : Fin 1408) : Fin 5632 := ⟨t.val / 2 * 1408 + q.val, by have : t.val < 8 := t.isLt; omega⟩

theorem blk0 (c : Dev nD) (t : Fin cfg0.N) (r : Fin 2048) (q : Fin 1024) :
    iblk m c 0 t (ix2 r q) = m ((c : Thread nD τ).loc main_arg0) (ix2 (brow 2048 (t.val % 2) r) q) := by
  have hr := brow_val (b := 2048) (n := 2) rfl (Nat.mod_lt t.val two_pos) r
  blk_point [iblk, V, idx t]
theorem blk1 (c : Dev nD) (t : Fin cfg0.N) (r : Fin 2048) (q : Fin 1408) :
    iblk m c 1 t (ix2 r q) = m ((c : Thread nD τ).loc main_arg1) (ix2 (brow 2048 (t.val % 2) r) (col t q)) := by
  have hr := brow_val (b := 2048) (n := 2) rfl (Nat.mod_lt t.val two_pos) r
  blk_point [iblk, V, idx t, col]

/-- The product of the transposed first argument and the second. -/
def grad (c : Dev nD) : S1024x5632.Idx → EReal :=
  tmul 1024 5632 (m ((c : Thread nD τ).loc main_arg0)) (m ((c : Thread nD τ).loc main_arg1))

/-- The second of the two points of a block leaves the whole sum in it. -/
theorem last (c : Dev nD) (t : Fin cfg0.N) (h1 : t.val % 2 = 1) (r : Fin 1024) (q : Fin 1408) :
    (outsAt0 m c t.val t.isLt).1 (ix2 r q) = grad m c (ix2 r (col t q)) ∧ (outsAt0 m c t.val t.isLt).2 (ix2 r q) = grad m c (ix2 r (col t q)) := by
  have ht : t.val < 8 := t.isLt
  have h0 : ¬t.val % 2 = 0 := by omega
  have hp : t.val - 1 < 8 := by omega
  have e : (outsAt0 m c (t.val - 1) (Nat.lt_of_le_of_lt (Nat.sub_le _ _) t.isLt)).1 = k0_pay2 k0_pay1 (iblk m c 0 ⟨t.val - 1, hp⟩) (iblk m c 1 ⟨t.val - 1, hp⟩) := by
    have := outsAt0_A m c ⟨t.val - 1, hp⟩ (by show (t.val - 1) % 2 = 0; omega) (by show ¬(t.val - 1) % 2 = 1; omega)
    rw [out_A_2] at this
    exact congrArg Prod.fst this
  have hc (q : Fin 1408) : col ⟨t.val - 1, hp⟩ q = col t q := Fin.ext (by show (t.val - 1) / 2 * 1408 + q.val = t.val / 2 * 1408 + q.val; congr 2; omega)
  have e0 : (t.val - 1) % 2 = 0 := by omega
  have key : k0_pay2 (k0_pay2 k0_pay1 (iblk m c 0 ⟨t.val - 1, hp⟩) (iblk m c 1 ⟨t.val - 1, hp⟩)) (iblk m c 0 t) (iblk m c 1 t) (ix2 r q) = grad m c (ix2 r (col t q)) := by
    rw [pay2_at, pay2_at, pay1_at, zero_add]
    refine tmul_two (fun k r => ?_) (fun k r => ?_) (fun k q => ?_) (fun k q => ?_) r q
    · rw [blk0, e0]
    · rw [blk0, h1]
    · rw [blk1, hc, e0]
    · rw [blk1, h1]
  rw [outsAt0_B m c t h0 h1, out_B_2, out_B_3, e]
  exact ⟨key, (pay3_at _ r q).trans key⟩

theorem arr2 (c : Dev nD) : (dats m 0 c).arrAt 2 cfg0.N = grad m c := by
  refine (dats m 0 c).arrAt_eq_of_covers 2 _ (by decide +kernel) fun t hf y => ?_
  have ht : t.val % 2 = 1 := (by decide +kernel : ∀ t : Fin grid0.N, win0_2.flush t = true → t.val % 2 = 1) t hf
  blk_simp [idx t]
  rw [after0_2]
  have e : (win0_2.blk t).view.emb y = ix2 (y 0) (col t (y 1)) := by
    refine funext fun a => Fin.ext ((win0_2.rect_emb_val t _ a).trans ?_)
    fin_cases a <;> simp [idx t, col]
  rw [e, Idealize.ShloMosaic.ValueIdx.eq_ix2 y]
  exact (last m c t ht (y 0) (y 1)).1

theorem arr3 (c : Dev nD) : (dats m 0 c).arrAt 3 cfg0.N = grad m c := by
  refine (dats m 0 c).arrAt_eq_of_covers 3 _ (by decide +kernel) fun t hf y => ?_
  have ht : t.val % 2 = 1 := (by decide +kernel : ∀ t : Fin grid0.N, win0_3.flush t = true → t.val % 2 = 1) t hf
  blk_simp [idx t]
  rw [after0_3]
  have e : (win0_3.blk t).view.emb y = ix2 (y 0) (col t (y 1)) := by
    refine funext fun a => Fin.ext ((win0_3.rect_emb_val t _ a).trans ?_)
    fin_cases a <;> simp [idx t, col]
  rw [e, Idealize.ShloMosaic.ValueIdx.eq_ix2 y]
  exact (last m c t ht (y 0) (y 1)).2

/-- The reference's gradient is the same sum. -/
theorem ref_eq (a : Vec Ideal S4096x1024 .bf16) (g : Vec Ideal S4096x5632 .bf16) :
    Cert.WgFfnInReferenceIdeal.Read.val_main_v5 (F := Ideal) a g = tmul 1024 5632 a g := by
  refine funext fun i => ?_
  rw [Idealize.ShloMosaic.ValueIdx.eq_ix2 i]
  pointwise [Cert.WgFfnInReferenceIdeal.Read.val_main_v5, Cert.WgFfnInReferenceIdeal.Read.val_main_v4, Cert.WgFfnInReferenceIdeal.Read.val_main_v3, Cert.WgFfnInReferenceIdeal.Read.val_main_v1]
  exact Finset.sum_congr rfl fun k _ => mul_comm _ _

end Cert.WgFfnInIdeal.Wg
end
-- ==== Proof.WgFfnOutEq.lean ====
module

public import proofs.«01_k».proof.Proof.Gen.WgFfnOutIdeal.Value
public import proofs.«01_k».proof.Proof.Gen.WgFfnOutReferenceIdeal.Read
public import proofs.«01_k».proof.Proof.Sums
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The gradient of the second weights of the channel mixer: what the call's two arrays hold, and what the reference's hold. -/

@[expose] public section

set_option maxRecDepth 16384

noncomputable section

namespace Cert.WgFfnOutIdeal.Wg

open Cert.WgFfnOutIdeal Cert.WgFfnOutIdeal.Gen Cert.Dense Idealize.ShloMosaic Idealize.ShloMosaic.TcCoe

/-- The sum that a grid point adds to its block. -/
theorem pay2_at (v3 : Vec Ideal S2816x512 .f32) (a : Vec Ideal S2048x2816 .bf16) (g : Vec Ideal S2048x512 .bf16) (r : Fin 2816) (q : Fin 512) :
    k0_pay2 v3 a g (ix2 r q) = v3 (ix2 r q) + ∑ k : Fin 2048, a (ix2 k r) * g (ix2 k q) := by
  pointwise [k0_pay2]

theorem pay1_at (r : Fin 2816) (q : Fin 512) : (k0_pay1 (F := Ideal)) (ix2 r q) = (0 : EReal) := by
  pointwise [k0_pay1]

theorem pay3_at (v : Vec Ideal S2816x512 .f32) (r : Fin 2816) (q : Fin 512) : k0_pay3 v (ix2 r q) = v (ix2 r q) := by
  pointwise [k0_pay3]

section
variable (c : Dev nD) (i : grid0.Coords) (arg2 : Memref sig .tc .vmem S2048x2816 .bf16) (harg2 : arg2.IsWhole) (arg3 : Memref sig .tc .vmem S2048x512 .bf16) (harg3 : arg3.IsWhole) (arg4 : Memref sig .tc .vmem S2816x512 .f32) (harg4 : arg4.IsWhole) (arg5 : Memref sig .tc .vmem S2816x512 .bf16) (harg5 : arg5.IsWhole)
  (x0 : Vec Ideal S2048x2816 .bf16) (x1 : Vec Ideal S2048x512 .bf16) (xo2 : Vec Ideal S2816x512 .f32)

theorem out_A_2 (hc0 : cond0_0 i) (hc1 : ¬cond0_1 i) :
    out0_A_2 c i arg2 harg2 arg3 harg3 arg4 harg4 arg5 harg5 hc0 hc1 x0 x1 = k0_pay2 k0_pay1 x0 x1 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  simp only [View.readAt_eq_ld, harg2.read_unread, harg3.read_unread, harg4.read_unread, View.ld_unit_zero (S := S2048x2816) zero2,
    View.ld_unit_zero (S := S2048x512) zero2, View.ld_unit_zero (S := S2816x512) zero2]
  rw [View.canon_cons_unit_zero zero2, View.readCov_cons_toLoadRect]

theorem out_B_2 (hc0 : ¬cond0_0 i) (hc1 : cond0_1 i) :
    out0_B_2 c i arg2 harg2 arg3 harg3 arg4 harg4 arg5 harg5 hc0 hc1 x0 x1 xo2 = k0_pay2 xo2 x0 x1 := by
  unfold out0_B_2
  rw [View.read_writes_eq_canon _ _ _ (cover0_B_2 c i arg2 harg2 arg3 harg3 arg4 harg4 arg5 harg5 hc0 hc1 x0 x1 xo2)]
  unfold kernelRun0_B
  dsimp only
  sl_unfold_words
  simp only [View.readAt_eq_ld, harg2.read_unread, harg3.read_unread, harg4.read_unread, View.ld_unit_zero (S := S2048x2816) zero2,
    View.ld_unit_zero (S := S2048x512) zero2, View.ld_unit_zero (S := S2816x512) zero2]
  rw [View.canon_cons_unit_zero zero2]

theorem out_B_3 (hc0 : ¬cond0_0 i) (hc1 : cond0_1 i) :
    out0_B_3 c i arg2 harg2 arg3 harg3 arg4 harg4 arg5 harg5 hc0 hc1 x0 x1 xo2 = k0_pay3 (k0_pay2 xo2 x0 x1) := by
  unfold out0_B_3
  rw [View.read_writes_eq_canon _ _ _ (cover0_B_3 c i arg2 harg2 arg3 harg3 arg4 harg4 arg5 harg5 hc0 hc1 x0 x1 xo2)]
  unfold kernelRun0_B
  dsimp only
  sl_unfold_words
  simp only [View.readAt_eq_ld, harg2.read_unread, harg3.read_unread, harg4.read_unread, View.ld_unit_zero (S := S2048x2816) zero2,
    View.ld_unit_zero (S := S2048x512) zero2, View.ld_unit_zero (S := S2816x512) zero2]
  rw [View.canon_cons_unit_zero zero2, View.readCov_cons_toLoadRect]

end

variable (m : (ℓ : Loc nD τ sig) → Buf (Elt Ideal) ℓ)

theorem idx : ∀ t : Fin grid0.N, win0_0.index t = ![t.val % 2, 0] ∧ win0_1.index t = ![t.val % 2, t.val / 2]
    ∧ win0_2.index t = ![0, t.val / 2] ∧ win0_3.index t = ![0, t.val / 2] := by
  decide +kernel

/-- Column `q` of the block that grid point `t` works on. -/
def col (t : Fin grid0.N) (q : Fin 512) : Fin 1024 := ⟨t.val / 2 * 512 + q.val, by have : t.val < 4 := t.isLt; omega⟩

theorem blk0 (c : Dev nD) (t : Fin cfg0.N) (r : Fin 2048) (q : Fin 2816) :
    iblk m c 0 t (ix2 r q) = m ((c : Thread nD τ).loc main_arg0) (ix2 (brow 2048 (t.val % 2) r) q) := by
  have hr := brow_val (b := 2048) (n := 2) rfl (Nat.mod_lt t.val two_pos) r
  blk_point [iblk, V, idx t]
theorem blk1 (c : Dev nD) (t : Fin cfg0.N) (r : Fin 2048) (q : Fin 512) :
    iblk m c 1 t (ix2 r q) = m ((c : Thread nD τ).loc main_arg1) (ix2 (brow 2048 (t.val % 2) r) (col t q)) := by
  have hr := brow_val (b := 2048) (n := 2) rfl (Nat.mod_lt t.val two_pos) r
  blk_point [iblk, V, idx t, col]

/-- The product of the transposed first argument and the second. -/
def grad (c : Dev nD) : S2816x1024.Idx → EReal :=
  tmul 2816 1024 (m ((c : Thread nD τ).loc main_arg0)) (m ((c : Thread nD τ).loc main_arg1))

/-- The second of the two points of a block leaves the whole sum in it. -/
theorem last (c : Dev nD) (t : Fin cfg0.N) (h1 : t.val % 2 = 1) (r : Fin 2816) (q : Fin 512) :
    (outsAt0 m c t.val t.isLt).1 (ix2 r q) = grad m c (ix2 r (col t q)) ∧ (outsAt0 m c t.val t.isLt).2 (ix2 r q) = grad m c (ix2 r (col t q)) := by
  have ht : t.val < 4 := t.isLt
  have h0 : ¬t.val % 2 = 0 := by omega
  have hp : t.val - 1 < 4 := by omega
  have e : (outsAt0 m c (t.val - 1) (Nat.lt_of_le_of_lt (Nat.sub_le _ _) t.isLt)).1 = k0_pay2 k0_pay1 (iblk m c 0 ⟨t.val - 1, hp⟩) (iblk m c 1 ⟨t.val - 1, hp⟩) := by
    have := outsAt0_A m c ⟨t.val - 1, hp⟩ (by show (t.val - 1) % 2 = 0; omega) (by show ¬(t.val - 1) % 2 = 1; omega)
    rw [out_A_2] at this
    exact congrArg Prod.fst this
  have hc (q : Fin 512) : col ⟨t.val - 1, hp⟩ q = col t q := Fin.ext (by show (t.val - 1) / 2 * 512 + q.val = t.val / 2 * 512 + q.val; congr 2; omega)
  have e0 : (t.val - 1) % 2 = 0 := by omega
  have key : k0_pay2 (k0_pay2 k0_pay1 (iblk m c 0 ⟨t.val - 1, hp⟩) (iblk m c 1 ⟨t.val - 1, hp⟩)) (iblk m c 0 t) (iblk m c 1 t) (ix2 r q) = grad m c (ix2 r (col t q)) := by
    rw [pay2_at, pay2_at, pay1_at, zero_add]
    refine tmul_two (fun k r => ?_) (fun k r => ?_) (fun k q => ?_) (fun k q => ?_) r q
    · rw [blk0, e0]
    · rw [blk0, h1]
    · rw [blk1, hc, e0]
    · rw [blk1, h1]
  rw [outsAt0_B m c t h0 h1, out_B_2, out_B_3, e]
  exact ⟨key, (pay3_at _ r q).trans key⟩

theorem arr2 (c : Dev nD) : (dats m 0 c).arrAt 2 cfg0.N = grad m c := by
  refine (dats m 0 c).arrAt_eq_of_covers 2 _ (by decide +kernel) fun t hf y => ?_
  have ht : t.val % 2 = 1 := (by decide +kernel : ∀ t : Fin grid0.N, win0_2.flush t = true → t.val % 2 = 1) t hf
  blk_simp [idx t]
  rw [after0_2]
  have e : (win0_2.blk t).view.emb y = ix2 (y 0) (col t (y 1)) := by
    refine funext fun a => Fin.ext ((win0_2.rect_emb_val t _ a).trans ?_)
    fin_cases a <;> simp [idx t, col]
  rw [e, Idealize.ShloMosaic.ValueIdx.eq_ix2 y]
  exact (last m c t ht (y 0) (y 1)).1

theorem arr3 (c : Dev nD) : (dats m 0 c).arrAt 3 cfg0.N = grad m c := by
  refine (dats m 0 c).arrAt_eq_of_covers 3 _ (by decide +kernel) fun t hf y => ?_
  have ht : t.val % 2 = 1 := (by decide +kernel : ∀ t : Fin grid0.N, win0_3.flush t = true → t.val % 2 = 1) t hf
  blk_simp [idx t]
  rw [after0_3]
  have e : (win0_3.blk t).view.emb y = ix2 (y 0) (col t (y 1)) := by
    refine funext fun a => Fin.ext ((win0_3.rect_emb_val t _ a).trans ?_)
    fin_cases a <;> simp [idx t, col]
  rw [e, Idealize.ShloMosaic.ValueIdx.eq_ix2 y]
  exact (last m c t ht (y 0) (y 1)).2

/-- The reference's gradient is the same sum. -/
theorem ref_eq (a : Vec Ideal S4096x2816 .bf16) (g : Vec Ideal S4096x1024 .bf16) :
    Cert.WgFfnOutReferenceIdeal.Read.val_main_v5 (F := Ideal) a g = tmul 2816 1024 a g := by
  refine funext fun i => ?_
  rw [Idealize.ShloMosaic.ValueIdx.eq_ix2 i]
  pointwise [Cert.WgFfnOutReferenceIdeal.Read.val_main_v5, Cert.WgFfnOutReferenceIdeal.Read.val_main_v4, Cert.WgFfnOutReferenceIdeal.Read.val_main_v3, Cert.WgFfnOutReferenceIdeal.Read.val_main_v1]
  exact Finset.sum_congr rfl fun k _ => mul_comm _ _

end Cert.WgFfnOutIdeal.Wg
end
-- ==== Proof.WgClaims.lean ====
module

public import proofs.«01_k».proof.Defs
public import proofs.«01_k».proof.Proof.Gen.WgIn.Frame
public import proofs.«01_k».proof.Proof.Gen.WgOut.Frame
public import proofs.«01_k».proof.Proof.Gen.WgFfnIn.Frame
public import proofs.«01_k».proof.Proof.Gen.WgFfnOut.Frame
public import proofs.«01_k».proof.Proof.Gen.WgInReferenceIdeal.Run
public import proofs.«01_k».proof.Proof.Gen.WgOutReferenceIdeal.Run
public import proofs.«01_k».proof.Proof.Gen.WgFfnInReferenceIdeal.Run
public import proofs.«01_k».proof.Proof.Gen.WgFfnOutReferenceIdeal.Run
public import proofs.«01_k».proof.Proof.WgInEq
public import proofs.«01_k».proof.Proof.WgOutEq
public import proofs.«01_k».proof.Proof.WgFfnInEq
public import proofs.«01_k».proof.Proof.WgFfnOutEq

/-! The claims of the four weight gradients. -/

@[expose] public section

open Idealize.ShloMosaic

noncomputable section

namespace Cert.Proof

theorem tmul_congr {K N : ℕ} {a a' : (⟨2, ![4096, K]⟩ : Shape).Idx → EReal} {g g' : (⟨2, ![4096, N]⟩ : Shape).Idx → EReal} (ha : a' = a) (hg : g' = g) :
    Cert.Dense.tmul K N a' g' = Cert.Dense.tmul K N a g := by rw [ha, hg]

theorem wgIn_algebraic : Cert.algebraic_WgInIdeal_WgInReferenceIdeal := by
  intro m g m' g' _ hargs
  refine ⟨_, _, Cert.WgInIdeal.Value.run_blocks m g, (θ_run Cert.WgInReferenceIdeal.defs _ _).mono (fun r h c => ?_) (Cert.WgInReferenceIdeal.Value.run m' g')⟩
  obtain ⟨e0, e1⟩ := hargs c
  obtain ⟨h0, h1, hrest⟩ := h c
  have e := (Cert.WgInIdeal.Wg.ref_eq _ _).trans (tmul_congr e0 e1)
  exact ⟨h0.trans ((Cert.WgInReferenceIdeal.Read.val_main_v5_eq _ _).trans (e.trans (Cert.WgInIdeal.Wg.arr2 m c).symm)),
    h1.trans ((Cert.WgInReferenceIdeal.Read.val_main_v6_eq _ _).trans (e.trans (Cert.WgInIdeal.Wg.arr3 m c).symm)), hrest⟩

theorem wgOut_algebraic : Cert.algebraic_WgOutIdeal_WgOutReferenceIdeal := by
  intro m g m' g' _ hargs
  refine ⟨_, _, Cert.WgOutIdeal.Value.run_blocks m g, (θ_run Cert.WgOutReferenceIdeal.defs _ _).mono (fun r h c => ?_) (Cert.WgOutReferenceIdeal.Value.run m' g')⟩
  obtain ⟨e0, e1⟩ := hargs c
  obtain ⟨h0, h1, hrest⟩ := h c
  have e := (Cert.WgOutIdeal.Wg.ref_eq _ _).trans (tmul_congr e0 e1)
  exact ⟨h0.trans ((Cert.WgOutReferenceIdeal.Read.val_main_v4_eq _ _).trans (e.trans (Cert.WgOutIdeal.Wg.arr2 m c).symm)),
    h1.trans ((Cert.WgOutReferenceIdeal.Read.val_main_v5_eq _ _).trans (e.trans (Cert.WgOutIdeal.Wg.arr3 m c).symm)), hrest⟩

theorem wgFfnIn_algebraic : Cert.algebraic_WgFfnInIdeal_WgFfnInReferenceIdeal := by
  intro m g m' g' _ hargs
  refine ⟨_, _, Cert.WgFfnInIdeal.Value.run_blocks m g, (θ_run Cert.WgFfnInReferenceIdeal.defs _ _).mono (fun r h c => ?_) (Cert.WgFfnInReferenceIdeal.Value.run m' g')⟩
  obtain ⟨e0, e1⟩ := hargs c
  obtain ⟨h0, h1, hrest⟩ := h c
  have e := (Cert.WgFfnInIdeal.Wg.ref_eq _ _).trans (tmul_congr e0 e1)
  exact ⟨h0.trans ((Cert.WgFfnInReferenceIdeal.Read.val_main_v5_eq _ _).trans (e.trans (Cert.WgFfnInIdeal.Wg.arr2 m c).symm)),
    h1.trans ((Cert.WgFfnInReferenceIdeal.Read.val_main_v6_eq _ _).trans (e.trans (Cert.WgFfnInIdeal.Wg.arr3 m c).symm)), hrest⟩

theorem wgFfnOut_algebraic : Cert.algebraic_WgFfnOutIdeal_WgFfnOutReferenceIdeal := by
  intro m g m' g' _ hargs
  refine ⟨_, _, Cert.WgFfnOutIdeal.Value.run_blocks m g, (θ_run Cert.WgFfnOutReferenceIdeal.defs _ _).mono (fun r h c => ?_) (Cert.WgFfnOutReferenceIdeal.Value.run m' g')⟩
  obtain ⟨e0, e1⟩ := hargs c
  obtain ⟨h0, h1, hrest⟩ := h c
  have e := (Cert.WgFfnOutIdeal.Wg.ref_eq _ _).trans (tmul_congr e0 e1)
  exact ⟨h0.trans ((Cert.WgFfnOutReferenceIdeal.Read.val_main_v5_eq _ _).trans (e.trans (Cert.WgFfnOutIdeal.Wg.arr2 m c).symm)),
    h1.trans ((Cert.WgFfnOutReferenceIdeal.Read.val_main_v6_eq _ _).trans (e.trans (Cert.WgFfnOutIdeal.Wg.arr3 m c).symm)), hrest⟩

/-! Each reference ends, changing no argument; it declares no semaphore. -/

theorem wgIn_reference_frame : Cert.quiescent_WgInReferenceIdeal := fun m ρ _ =>
  (θ_run Cert.WgInReferenceIdeal.defs _ _).mono (fun r h => ⟨fun c => (h c).2.2, sem_eq_zero_of_no_sems (by decide) r.2⟩) (Cert.WgInReferenceIdeal.Value.run m ρ)

theorem wgOut_reference_frame : Cert.quiescent_WgOutReferenceIdeal := fun m ρ _ =>
  (θ_run Cert.WgOutReferenceIdeal.defs _ _).mono (fun r h => ⟨fun c => (h c).2.2, sem_eq_zero_of_no_sems (by decide) r.2⟩) (Cert.WgOutReferenceIdeal.Value.run m ρ)

theorem wgFfnIn_reference_frame : Cert.quiescent_WgFfnInReferenceIdeal := fun m ρ _ =>
  (θ_run Cert.WgFfnInReferenceIdeal.defs _ _).mono (fun r h => ⟨fun c => (h c).2.2, sem_eq_zero_of_no_sems (by decide) r.2⟩) (Cert.WgFfnInReferenceIdeal.Value.run m ρ)

theorem wgFfnOut_reference_frame : Cert.quiescent_WgFfnOutReferenceIdeal := fun m ρ _ =>
  (θ_run Cert.WgFfnOutReferenceIdeal.defs _ _).mono (fun r h => ⟨fun c => (h c).2.2, sem_eq_zero_of_no_sems (by decide) r.2⟩) (Cert.WgFfnOutReferenceIdeal.Value.run m ρ)

end Cert.Proof
end
-- ==== Proof.NormSpec.lean ====
module

public import proofs.«01_k».proof.Proof.GmSpec

/-! The scaled root-mean-square norm over the reals: one row of 1024 numbers, its gradient, and the gradients of its gains. -/

@[expose] public section

set_option maxRecDepth 16384

noncomputable section

namespace Cert.Norm

open Idealize.ShloMosaic

/-- The mean square of a row, plus the small number. -/
def ms (x : Fin 1024 → ℝ) : ℝ := (∑ k, x k * x k) * (1 / 1024) + Cert.Gm.eps
/-- One over the root of it. -/
def rs (x : Fin 1024 → ℝ) : ℝ := (√(ms x))⁻¹
/-- The row scaled to root mean square one. -/
def xn (x : Fin 1024 → ℝ) (c : Fin 1024) : ℝ := x c * rs x
/-- What a column of the scaled row is multiplied by. -/
def gain (nw sc : Fin 1024 → ℝ) (c : Fin 1024) : ℝ := nw c * (1 + sc c)
/-- The gradient of the row, for a cotangent `d`. -/
def dx (d x nw sc : Fin 1024 → ℝ) (c : Fin 1024) : ℝ :=
  rs x * (d c * gain nw sc c - xn x c * ((∑ k, d k * gain nw sc k * xn x k) * (1 / 1024)))

/-- The cotangent of the product's rows. -/
def cot {n : ℕ} (C : Fin 4096 → Fin n → ℝ) (W : Fin 1024 → Fin n → ℝ) (t : Fin 4096) (k : Fin 1024) : ℝ := ∑ e, C t e * W k e

section
variable (D X : Fin 4096 → Fin 1024 → ℝ)

/-- The gradient of the gain, before the factors that its two parts have. -/
def dgain (c : Fin 1024) : ℝ := ∑ t, D t c * xn (X t) c
/-- The gradient of the shift. -/
def dshift (c : Fin 1024) : ℝ := ∑ t, D t c
end

/-! ### Numbers -/

theorem ms_pos (x : Fin 1024 → ℝ) : 0 < ms x :=
  add_pos_of_nonneg_of_pos (mul_nonneg (Finset.sum_nonneg fun k _ => mul_self_nonneg _) (by norm_num)) Cert.Gm.eps_pos

theorem rsqrt_ms (x : Fin 1024 → ℝ) : Ideal.rsqrt (((ms x : ℝ)) : EReal) = ((rs x : ℝ) : EReal) := by
  have h := ms_pos x
  rw [Ideal.rsqrt_coe, if_neg (not_lt.2 h.le), if_neg h.ne']
  rfl

theorem ofBits_1024 : Ideal.ofBits .f32 1149239296#32 = ((1024 : ℝ) : EReal) := by
  simp [Ideal.ofBits, Ideal.ieee, -EReal.coe_mul]; norm_num

/-- The mean of a row of reals. -/
theorem div_1024 (x : ℝ) : Ideal.div (x : EReal) (Ideal.ofBits .f32 1149239296#32) = ((x * (1 / 1024) : ℝ) : EReal) := by
  rw [ofBits_1024, Ideal.div_coe (by norm_num), ← EReal.coe_mul]

theorem rs_sq (x : Fin 1024 → ℝ) : rs x * rs x = 1 / ms x := by
  rw [rs, ← mul_inv, Real.mul_self_sqrt (ms_pos x).le, one_div]

/-- The derivative through the mean square, added up term by term, is the gradient. -/
theorem dx_terms (d x nw sc : Fin 1024 → ℝ) (c : Fin 1024) (q : ℝ)
    (hq : q = (∑ k, x k * (d k * (1 + sc k) * nw k)) * (-(1 / 2) * (rs x * (1 / ms x))) * (1 / 1024)) :
    d c * (1 + sc c) * nw c * rs x + (x c * q + q * x c) = dx d x nw sc c := by
  have e : (∑ k, d k * gain nw sc k * xn x k) = (∑ k, x k * (d k * (1 + sc k) * nw k)) * rs x := by
    rw [Finset.sum_mul]
    exact Finset.sum_congr rfl fun k _ => by unfold gain xn; ring
  unfold dx
  rw [e, hq, ← rs_sq]
  unfold gain xn
  ring

end Cert.Norm

end
-- ==== Proof.NormPay.lean ====
module

public import proofs.«01_k».proof.Proof.Gen.InBwdIdeal.Skeleton
public import proofs.«01_k».proof.Proof.NormSpec
public import Idealize.ShloMosaic.Lib.Pointwise
public import Idealize.ShloMosaic.Lib.IdealHost

/-! What one block of 512 rows computes, read over the reals. The two norms have the same operations after their products. -/

@[expose] public section

set_option maxRecDepth 16384

noncomputable section

namespace Cert.Norm

open Cert.InBwdIdeal Cert.InBwdIdeal.Gen Idealize.ShloMosaic Idealize.ShloMosaic.TcCoe

theorem row0 (y : S1x1024.Idx) : y = ix2 0 (y 1) :=
  (Idealize.ShloMosaic.ValueIdx.eq_ix2 y).trans (congrArg (ix2 · (y 1)) (Subsingleton.elim (α := Fin 1) _ _))

variable (x : Vec Ideal S512x1024 .f32) (X : Fin 512 → Fin 1024 → ℝ) (hx : ∀ r c, x (ix2 r c) = ((X r c : ℝ) : EReal))
  (nw sc : Vec Ideal S1x1024 .f32) (NW SC : Fin 1024 → ℝ) (hnw : ∀ c, nw (ix2 0 c) = ((NW c : ℝ) : EReal)) (hsc : ∀ c, sc (ix2 0 c) = ((SC c : ℝ) : EReal))
include hx

theorem pay7_real (r : Fin 512) : k0_pay7 x (ix2 r 0) = ((rs (X r) : ℝ) : EReal) := by
  pointwise [k0_pay7]
  simp only [hx, ← EReal.coe_mul, Cert.Gm.coe_sum, div_1024, Cert.Gm.ofBits_eps, ← EReal.coe_add]
  exact rsqrt_ms (X r)

theorem pay8_real (r : Fin 512) (c : Fin 1024) : k0_pay8 x (ix2 r c) = ((xn (X r) c : ℝ) : EReal) := by
  pointwise [k0_pay8]
  rw [pay7_real x X hx, hx, ← EReal.coe_mul]
  rfl

omit hx
include hnw hsc

theorem pay9_real (c : Fin 1024) : k0_pay9 nw sc (ix2 0 c) = ((gain NW SC c : ℝ) : EReal) := by
  pointwise [k0_pay9]
  rw [hnw, hsc, ← EReal.coe_one, ← EReal.coe_add, ← EReal.coe_mul]
  rfl

include hx

/-- The gradient of the rows, given the product's cotangent; the last summand is added as it is. -/
theorem pay2_real (dh : FVec Ideal S512x1024 .f32) (D : Fin 512 → Fin 1024 → ℝ) (hd : ∀ r c, dh (ix2 r c) = ((D r c : ℝ) : EReal))
    (v47 : Vec Ideal S512x1024 .f32) (r : Fin 512) (c : Fin 1024) :
    k0_pay2 dh (k0_pay7 x) (k0_pay8 x) (k0_pay9 nw sc) v47 (ix2 r c) = ((dx (D r) (X r) NW SC c : ℝ) : EReal) + v47 (ix2 r c) := by
  pointwise [k0_pay2]
  simp only [hd, pay7_real x X hx, pay8_real x X hx, pay9_real nw sc NW SC hnw hsc, ← EReal.coe_mul, Cert.Gm.coe_sum, div_1024, ← EReal.coe_sub]
  rfl

omit hx hnw hsc

theorem pay4_at (a : Vec Ideal S1x1024 .f32) (c : Fin 1024) : k0_pay4 a nw (ix2 0 c) = a (ix2 0 c) * nw (ix2 0 c) := by
  pointwise [k0_pay4, k0_pay3]

theorem pay5_at (a : Vec Ideal S1x1024 .f32) (c : Fin 1024) : k0_pay5 a sc (ix2 0 c) = a (ix2 0 c) * (1 + sc (ix2 0 c)) := by
  pointwise [k0_pay5, k0_pay3]

theorem pay10_at (c : Fin 1024) : (k0_pay10 (F := Ideal)) (ix2 0 c) = (0 : EReal) := by
  pointwise [k0_pay10]

theorem pay11_at (c : Fin 1024) : (k0_pay11 (F := Ideal)) (ix2 0 c) = (0 : EReal) := by
  pointwise [k0_pay11]

theorem pay1_at (a : Vec Ideal S1x1024 .f32) (b : FVec Ideal S1024 .f32) (c : Fin 1024) :
    k0_pay1 (k0_pay13 a) b (ix2 0 c) = a (ix2 0 c) + b (ix1 c) := by
  pointwise [k0_pay1, k0_pay13]

end Cert.Norm

end
-- ==== Proof.InBwdKernel.lean ====
module

public import proofs.«01_k».proof.Proof.Gen.InBwdIdeal.Value
public import proofs.«01_k».proof.Proof.NormPay
public import proofs.«01_k».proof.Proof.Sums
public import Idealize.ShloMosaic.Lib.Pipeline.ReadBack
public import Idealize.ShloMosaic.Lib.Pipeline.ValueKit.Tiles
public import Idealize.ShloMosaic.Lib.Pipeline.ValueKit.Point

/-! The gradient of the first norm and its product: what the call's four arrays hold. -/

@[expose] public section

set_option maxRecDepth 16384

noncomputable section

namespace Cert.InBwdIdeal.Nb

open Cert.InBwdIdeal Cert.InBwdIdeal.Gen Cert.Dense Cert.Norm Idealize.ShloMosaic Idealize.ShloMosaic.TcCoe

section
variable (v0 : Vec Ideal S512x5120 .bf16) (v1 : Vec Ideal S1024x5120 .bf16) (C : Fin 512 → Fin 5120 → ℝ) (W : Fin 1024 → Fin 5120 → ℝ)
  (hC : ∀ r e, v0 (ix2 r e) = ((C r e : ℝ) : EReal)) (hW : ∀ k e, v1 (ix2 k e) = ((W k e : ℝ) : EReal))
include hC hW

/-- The cotangent of a block's rows. -/
theorem pay6_real (r : Fin 512) (k : Fin 1024) : k0_pay6 v0 v1 (ix2 r k) = ((∑ e, C r e * W k e : ℝ) : EReal) := by
  pointwise [k0_pay6]
  simp only [hC, hW, ← EReal.coe_mul, Cert.Gm.coe_sum]

theorem pay14_real (k : Fin 1024) : k0_pay14 v0 v1 (ix1 k) = ((∑ r, ∑ e, C r e * W k e : ℝ) : EReal) := by
  pointwise [k0_pay14]
  simp only [pay6_real v0 v1 C W hC hW, Cert.Gm.coe_sum]

theorem pay12_real (x : Vec Ideal S512x1024 .f32) (X : Fin 512 → Fin 1024 → ℝ) (hx : ∀ r c, x (ix2 r c) = ((X r c : ℝ) : EReal))
    (a : Vec Ideal S1x1024 .f32) (k : Fin 1024) :
    k0_pay12 v0 v1 x a (ix2 0 k) = a (ix2 0 k) + ((∑ r, (∑ e, C r e * W k e) * xn (X r) k : ℝ) : EReal) := by
  have h8 (r : Fin 512) : k0_pay8 x (ix2 r k) = ((xn (X r) k : ℝ) : EReal) := pay8_real x X hx r k
  pointwise [k0_pay12]
  simp only [pay6_real v0 v1 C W hC hW, h8, ← EReal.coe_mul, Cert.Gm.coe_sum]

end

section
variable (c : Dev nD) (i : grid0.Coords) (arg1 : Memref sig .tc .vmem S512x5120 .bf16) (harg1 : arg1.IsWhole) (arg2 : Memref sig .tc .vmem S1024x5120 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole)
  (x0 : Vec Ideal S512x5120 .bf16) (x1 : Vec Ideal S1024x5120 .bf16) (x2 : Vec Ideal S512x1024 .f32) (x3 x4 : Vec Ideal S1x1024 .f32) (x5 : Vec Ideal S512x1024 .f32) (xo7 xo9 : Vec Ideal S1x1024 .f32)

theorem out_A_6 (hc0 : cond0_0 i) (hc1 : ¬cond0_1 i) :
    out0_A_6 c i arg1 harg1 arg2 harg2 arg3 harg3 arg4 harg4 arg5 harg5 arg6 harg6 arg7 harg7 arg8 harg8 arg9 harg9 arg10 harg10 hc0 hc1 x0 x1 x2 x3 x4 x5 = k0_pay2 (k0_pay6 x0 x1) (k0_pay7 x2) (k0_pay8 x2) (k0_pay9 x3 x4) x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2]

theorem out_B_6 (hc0 : ¬cond0_0 i) (hc1 : ¬cond0_1 i) :
    out0_B_6 c i arg1 harg1 arg2 harg2 arg3 harg3 arg4 harg4 arg5 harg5 arg6 harg6 arg7 harg7 arg8 harg8 arg9 harg9 arg10 harg10 hc0 hc1 x0 x1 x2 x3 x4 x5 xo7 xo9 = k0_pay2 (k0_pay6 x0 x1) (k0_pay7 x2) (k0_pay8 x2) (k0_pay9 x3 x4) x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2]

theorem out_C_6 (hc0 : ¬cond0_0 i) (hc1 : cond0_1 i) :
    out0_C_6 c i arg1 harg1 arg2 harg2 arg3 harg3 arg4 harg4 arg5 harg5 arg6 harg6 arg7 harg7 arg8 harg8 arg9 harg9 arg10 harg10 hc0 hc1 x0 x1 x2 x3 x4 x5 xo7 xo9 = k0_pay2 (k0_pay6 x0 x1) (k0_pay7 x2) (k0_pay8 x2) (k0_pay9 x3 x4) x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2]

theorem out_A_7 (hc0 : cond0_0 i) (hc1 : ¬cond0_1 i) :
    out0_A_7 c i arg1 harg1 arg2 harg2 arg3 harg3 arg4 harg4 arg5 harg5 arg6 harg6 arg7 harg7 arg8 harg8 arg9 harg9 arg10 harg10 hc0 hc1 x0 x1 x2 x3 x4 x5 = k0_pay12 x0 x1 x2 (k0_pay10 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2, View.readCov_cons_toLoadRect]

theorem out_B_7 (hc0 : ¬cond0_0 i) (hc1 : ¬cond0_1 i) :
    out0_B_7 c i arg1 harg1 arg2 harg2 arg3 harg3 arg4 harg4 arg5 harg5 arg6 harg6 arg7 harg7 arg8 harg8 arg9 harg9 arg10 harg10 hc0 hc1 x0 x1 x2 x3 x4 x5 xo7 xo9 = k0_pay12 x0 x1 x2 xo7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2]

theorem out_C_7 (hc0 : ¬cond0_0 i) (hc1 : cond0_1 i) :
    out0_C_7 c i arg1 harg1 arg2 harg2 arg3 harg3 arg4 harg4 arg5 harg5 arg6 harg6 arg7 harg7 arg8 harg8 arg9 harg9 arg10 harg10 hc0 hc1 x0 x1 x2 x3 x4 x5 xo7 xo9 = k0_pay5 (k0_pay12 x0 x1 x2 xo7) x4 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2, View.readCov_cons_toLoadRect]

theorem out_C_8 (hc0 : ¬cond0_0 i) (hc1 : cond0_1 i) :
    out0_C_8 c i arg1 harg1 arg2 harg2 arg3 harg3 arg4 harg4 arg5 harg5 arg6 harg6 arg7 harg7 arg8 harg8 arg9 harg9 arg10 harg10 hc0 hc1 x0 x1 x2 x3 x4 x5 xo7 xo9 = k0_pay4 (k0_pay12 x0 x1 x2 xo7) x3 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2, View.readCov_cons_toLoadRect]

theorem out_A_9 (hc0 : cond0_0 i) (hc1 : ¬cond0_1 i) :
    out0_A_9 c i arg1 harg1 arg2 harg2 arg3 harg3 arg4 harg4 arg5 harg5 arg6 harg6 arg7 harg7 arg8 harg8 arg9 harg9 arg10 harg10 hc0 hc1 x0 x1 x2 x3 x4 x5 = k0_pay1 (k0_pay13 (k0_pay11 (F := Ideal))) (k0_pay14 x0 x1) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2, View.readCov_cons_toLoadRect]

theorem out_B_9 (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 hc0 hc1 x0 x1 x2 x3 x4 x5 xo7 xo9 = k0_pay1 (k0_pay13 xo9) (k0_pay14 x0 x1) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2]

theorem out_C_9 (hc0 : ¬cond0_0 i) (hc1 : cond0_1 i) :
    out0_C_9 c i arg1 harg1 arg2 harg2 arg3 harg3 arg4 harg4 arg5 harg5 arg6 harg6 arg7 harg7 arg8 harg8 arg9 harg9 arg10 harg10 hc0 hc1 x0 x1 x2 x3 x4 x5 xo7 xo9 = k0_pay1 (k0_pay13 xo9) (k0_pay14 x0 x1) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5120) zero2, View.ld_unit_zero (S := S1024x5120) zero2, View.ld_unit_zero (S := S512x1024) zero2, View.ld_unit_zero (S := S1x1024) zero2]
  rw [View.canon_cons_unit_zero zero2]

end

variable (m : (ℓ : Loc nD τ sig) → Buf (Elt Ideal) ℓ)

theorem idx : ∀ t : Fin grid0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![0, 0] ∧ win0_8.index t = ![0, 0]
    ∧ win0_9.index t = ![0, 0] := by
  decide +kernel

theorem blk0 (c : Dev nD) (t : Fin cfg0.N) (r : Fin 512) (q : Fin 5120) :
    iblk m c 0 t (ix2 r q) = m ((c : Thread nD τ).loc main_arg0) (ix2 (brow 512 t.val r) q) := by
  have hr := brow_val (b := 512) (n := 8) rfl t.isLt r
  blk_point [iblk, V, idx t]
theorem blk1 (c : Dev nD) (t : Fin cfg0.N) (r : Fin 1024) (q : Fin 5120) :
    iblk m c 1 t (ix2 r q) = m ((c : Thread nD τ).loc main_arg1) (ix2 r q) := by
  blk_point [iblk, V, idx t]
theorem blk2 (c : Dev nD) (t : Fin cfg0.N) (r : Fin 512) (q : Fin 1024) :
    iblk m c 2 t (ix2 r q) = m ((c : Thread nD τ).loc main_arg2) (ix2 (brow 512 t.val r) q) := by
  have hr := brow_val (b := 512) (n := 8) rfl t.isLt r
  blk_point [iblk, V, idx t]
theorem blk3 (c : Dev nD) (t : Fin cfg0.N) (q : Fin 1024) :
    iblk m c 3 t (ix2 0 q) = m ((c : Thread nD τ).loc main_arg3) (ix2 0 q) := by
  blk_point [iblk, V, idx t]
theorem blk4 (c : Dev nD) (t : Fin cfg0.N) (q : Fin 1024) :
    iblk m c 4 t (ix2 0 q) = m ((c : Thread nD τ).loc main_arg4) (ix2 0 q) := by
  blk_point [iblk, V, idx t]
theorem blk5 (c : Dev nD) (t : Fin cfg0.N) (r : Fin 512) (q : Fin 1024) :
    iblk m c 5 t (ix2 r q) = m ((c : Thread nD τ).loc main_arg5) (ix2 (brow 512 t.val r) q) := by
  have hr := brow_val (b := 512) (n := 8) rfl t.isLt r
  blk_point [iblk, V, idx t]

/-- The arguments that must be real, as reals. -/
structure Args (c : Dev nD) (C : Fin 4096 → Fin 5120 → ℝ) (W : Fin 1024 → Fin 5120 → ℝ) (X : Fin 4096 → Fin 1024 → ℝ) (NW SC : Fin 1024 → ℝ) : Prop where
  a0 : ∀ t e, m ((c : Thread nD τ).loc main_arg0) (ix2 t e) = ((C t e : ℝ) : EReal)
  a1 : ∀ k e, m ((c : Thread nD τ).loc main_arg1) (ix2 k e) = ((W k e : ℝ) : EReal)
  a2 : ∀ t k, m ((c : Thread nD τ).loc main_arg2) (ix2 t k) = ((X t k : ℝ) : EReal)
  a3 : ∀ k, m ((c : Thread nD τ).loc main_arg3) (ix2 0 k) = ((NW k : ℝ) : EReal)
  a4 : ∀ k, m ((c : Thread nD τ).loc main_arg4) (ix2 0 k) = ((SC k : ℝ) : EReal)

section
variable {m} {c : Dev nD} {C : Fin 4096 → Fin 5120 → ℝ} {W : Fin 1024 → Fin 5120 → ℝ} {X : Fin 4096 → Fin 1024 → ℝ} {NW SC : Fin 1024 → ℝ}
  (h : Args m c C W X NW SC)
include h

/-- A block of the rows' gradient. -/
theorem row6 (t : Fin cfg0.N) (r : Fin 512) (q : Fin 1024) :
    k0_pay2 (k0_pay6 (iblk m c 0 t) (iblk m c 1 t)) (k0_pay7 (iblk m c 2 t)) (k0_pay8 (iblk m c 2 t)) (k0_pay9 (iblk m c 3 t) (iblk m c 4 t)) (iblk m c 5 t) (ix2 r q)
      = ((dx (cot C W (brow 512 t.val r)) (X (brow 512 t.val r)) NW SC q : ℝ) : EReal) + m ((c : Thread nD τ).loc main_arg5) (ix2 (brow 512 t.val r) q) := by
  refine (pay2_real (iblk m c 2 t) (fun r => X (brow 512 t.val r)) (fun r k => (blk2 m c t r k).trans (h.a2 _ _)) (iblk m c 3 t) (iblk m c 4 t) NW SC
    (fun k => (blk3 m c t k).trans (h.a3 k)) (fun k => (blk4 m c t k).trans (h.a4 k)) _ (fun r => cot C W (brow 512 t.val r)) (fun r k => ?_) (iblk m c 5 t) r q).trans ?_
  · exact pay6_real _ _ _ _ (fun r e => (blk0 m c t r e).trans (h.a0 _ e)) (fun k e => (blk1 m c t k e).trans (h.a1 k e)) r k
  · exact congrArg _ (blk5 m c t r q)

theorem outs6 (t : Fin cfg0.N) (r : Fin 512) (q : Fin 1024) : (outsAt0 m c t.val t.isLt).1 (ix2 r q)
      = ((dx (cot C W (brow 512 t.val r)) (X (brow 512 t.val r)) NW SC q : ℝ) : EReal) + m ((c : Thread nD τ).loc main_arg5) (ix2 (brow 512 t.val r) q) := by
  have ht : t.val < 8 := t.isLt
  by_cases h0 : t.val % 8 = 0
  · rw [outsAt0_A m c t h0 (by omega), out_A_6]
    exact row6 h t r q
  · by_cases h1 : t.val % 8 = 7
    · rw [outsAt0_C m c t h0 h1, out_C_6]
      exact row6 h t r q
    · rw [outsAt0_B m c t h0 h1, out_B_6]
      exact row6 h t r q

/-- What a block adds to the gain's gradient, and to the shift's. -/
theorem add7 (t : Fin cfg0.N) (a : Vec Ideal S1x1024 .f32) (q : Fin 1024) : k0_pay12 (iblk m c 0 t) (iblk m c 1 t) (iblk m c 2 t) a (ix2 0 q)
    = a (ix2 0 q) + ((∑ r : Fin 512, cot C W (brow 512 t.val r) q * xn (X (brow 512 t.val r)) q : ℝ) : EReal) :=
  pay12_real _ _ _ _ (fun r e => (blk0 m c t r e).trans (h.a0 _ e)) (fun k e => (blk1 m c t k e).trans (h.a1 k e)) _ _ (fun r k => (blk2 m c t r k).trans (h.a2 _ _)) a q

theorem add9 (t : Fin cfg0.N) (a : Vec Ideal S1x1024 .f32) (q : Fin 1024) : k0_pay1 (k0_pay13 a) (k0_pay14 (iblk m c 0 t) (iblk m c 1 t)) (ix2 0 q)
    = a (ix2 0 q) + ((∑ r : Fin 512, cot C W (brow 512 t.val r) q : ℝ) : EReal) :=
  (pay1_at a _ q).trans (congrArg _ (pay14_real _ _ _ _ (fun r e => (blk0 m c t r e).trans (h.a0 _ e)) (fun k e => (blk1 m c t k e).trans (h.a1 k e)) q))

theorem outs7 (q : Fin 1024) : ∀ (n : ℕ) (hn : n < cfg0.N), n < 7 →
    (outsAt0 m c n hn).2.1 (ix2 0 q) = ((∑ s ∈ Finset.range (n + 1), ∑ r : Fin 512, cot C W (brow 512 s r) q * xn (X (brow 512 s r)) q : ℝ) : EReal)
  | 0, hn, _ => by
    rw [outsAt0_A m c ⟨0, hn⟩ rfl (by show ¬0 % 8 = 7; decide)]
    dsimp only
    rw [out_A_7]
    refine (add7 h ⟨0, hn⟩ _ q).trans ?_
    rw [show k0_pay10 (F := Ideal) (ix2 0 q) = (0 : EReal) from pay10_at q, zero_add, Finset.sum_range_one]
  | n + 1, hn, hl => by
    have h0 : ¬(n + 1) % 8 = 0 := by omega
    have h1 : ¬(n + 1) % 8 = 7 := by omega
    rw [outsAt0_B m c ⟨n + 1, hn⟩ h0 h1]
    dsimp only
    rw [out_B_7]
    refine (add7 h ⟨n + 1, hn⟩ _ q).trans ?_
    rw [Finset.sum_range_succ, EReal.coe_add]
    exact congrArg (· + _) (outs7 q n (Nat.lt_of_succ_lt hn) (by omega))

theorem outs9 (q : Fin 1024) : ∀ (n : ℕ) (hn : n < cfg0.N),
    (outsAt0 m c n hn).2.2.2 (ix2 0 q) = ((∑ s ∈ Finset.range (n + 1), ∑ r : Fin 512, cot C W (brow 512 s r) q : ℝ) : EReal)
  | 0, hn => by
    rw [outsAt0_A m c ⟨0, hn⟩ rfl (by show ¬0 % 8 = 7; decide)]
    dsimp only
    rw [out_A_9]
    refine (add9 h ⟨0, hn⟩ _ q).trans ?_
    rw [show k0_pay11 (F := Ideal) (ix2 0 q) = (0 : EReal) from pay11_at q, zero_add, Finset.sum_range_one]
  | n + 1, hn => by
    have hN : n + 1 < 8 := hn
    have h0 : ¬(n + 1) % 8 = 0 := by omega
    have e : (outsAt0 m c (n + 1) hn).2.2.2 = k0_pay1 (k0_pay13 (outsAt0 m c n (Nat.lt_of_succ_lt hn)).2.2.2) (k0_pay14 (iblk m c 0 ⟨n + 1, hn⟩) (iblk m c 1 ⟨n + 1, hn⟩)) := by
      by_cases h1 : (n + 1) % 8 = 7
      · rw [outsAt0_C m c ⟨n + 1, hn⟩ h0 h1]
        dsimp only
        rw [out_C_9]
        rfl
      · rw [outsAt0_B m c ⟨n + 1, hn⟩ h0 h1]
        dsimp only
        rw [out_B_9]
        rfl
    rw [e]
    refine (add9 h ⟨n + 1, hn⟩ _ q).trans ?_
    rw [Finset.sum_range_succ, EReal.coe_add]
    exact congrArg (· + _) (outs9 q n (Nat.lt_of_succ_lt hn))

/-- After the last block the accumulator holds the gain's gradient. -/
theorem total (t : Fin cfg0.N) (ht : t.val = 7) (q : Fin 1024) :
    k0_pay12 (iblk m c 0 t) (iblk m c 1 t) (iblk m c 2 t) (outsAt0 m c (t.val - 1) (Nat.lt_of_le_of_lt (Nat.sub_le _ _) t.isLt)).2.1 (ix2 0 q)
      = ((dgain (cot C W) X q : ℝ) : EReal) := by
  refine (add7 h t _ q).trans ?_
  rw [outs7 h q _ _ (by omega), ← EReal.coe_add]
  unfold dgain
  rw [← sum_blocks 512 8 rfl, ht]
  exact congrArg _ (Finset.sum_range_succ _ 7).symm

theorem last7 (t : Fin cfg0.N) (ht : t.val = 7) (q : Fin 1024) :
    (outsAt0 m c t.val t.isLt).2.1 (ix2 0 q) = ((dgain (cot C W) X q * (1 + SC q) : ℝ) : EReal) := by
  rw [outsAt0_C m c t (by omega) (by omega)]
  dsimp only
  rw [out_C_7]
  refine (pay5_at _ _ q).trans ?_
  rw [total h t ht q, blk4, h.a4, ← EReal.coe_one, ← EReal.coe_add, ← EReal.coe_mul]

theorem last8 (t : Fin cfg0.N) (ht : t.val = 7) (q : Fin 1024) :
    (outsAt0 m c t.val t.isLt).2.2.1 (ix2 0 q) = ((dgain (cot C W) X q * NW q : ℝ) : EReal) := by
  rw [outsAt0_C m c t (by omega) (by omega)]
  dsimp only
  rw [out_C_8]
  refine (pay4_at _ _ q).trans ?_
  rw [total h t ht q, blk3, h.a3, ← EReal.coe_mul]

theorem last9 (t : Fin cfg0.N) (ht : t.val = 7) (q : Fin 1024) :
    (outsAt0 m c t.val t.isLt).2.2.2 (ix2 0 q) = ((dshift (cot C W) q : ℝ) : EReal) := by
  rw [outs9 h q t.val t.isLt, ht]
  unfold dshift
  rw [← sum_blocks 512 8 rfl]

theorem arr6 : (dats m 0 c).arrAt 6 cfg0.N = fun i => ((dx (cot C W (i 0)) (X (i 0)) NW SC (i 1) : ℝ) : EReal) + m ((c : Thread nD τ).loc main_arg5) i := by
  refine (dats m 0 c).arrAt_eq_of_covers 6 _ (by decide +kernel) fun t hf y => ?_
  have hr := brow_val (b := 512) (n := 8) rfl t.isLt (y 0)
  blk_simp [idx t]
  rw [after0_6]
  have e : (win0_6.blk t).view.emb y = ix2 (brow 512 t.val (y 0)) (y 1) := by
    refine funext fun a => Fin.ext ((win0_6.rect_emb_val t _ a).trans ?_)
    fin_cases a <;> simp [idx t, hr]
  rw [e, Idealize.ShloMosaic.ValueIdx.eq_ix2 y]
  exact outs6 h t (y 0) (y 1)

theorem arr7 : (dats m 0 c).arrAt 7 cfg0.N = fun i => ((dgain (cot C W) X (i 1) * (1 + SC (i 1)) : ℝ) : EReal) := by
  refine (dats m 0 c).arrAt_eq_of_covers 7 _ (by decide +kernel) fun t hf y => ?_
  have ht : t.val = 7 := (by decide +kernel : ∀ t : Fin grid0.N, win0_7.flush t = true → t.val = 7) t hf
  blk_simp [idx t]
  rw [after0_7]
  have e : (win0_7.blk t).view.emb y = ix2 0 (y 1) := by
    refine funext fun a => Fin.ext ((win0_7.rect_emb_val t _ a).trans ?_)
    fin_cases a <;> simp [idx t]
  have ey : y = ix2 0 (y 1) := row0 y
  rw [e, ey]
  exact last7 h t ht (y 1)

theorem arr8 : (dats m 0 c).arrAt 8 cfg0.N = fun i => ((dgain (cot C W) X (i 1) * NW (i 1) : ℝ) : EReal) := by
  refine (dats m 0 c).arrAt_eq_of_covers 8 _ (by decide +kernel) fun t hf y => ?_
  have ht : t.val = 7 := (by decide +kernel : ∀ t : Fin grid0.N, win0_8.flush t = true → t.val = 7) t hf
  blk_simp [idx t]
  rw [after0_8]
  have e : (win0_8.blk t).view.emb y = ix2 0 (y 1) := by
    refine funext fun a => Fin.ext ((win0_8.rect_emb_val t _ a).trans ?_)
    fin_cases a <;> simp [idx t]
  have ey : y = ix2 0 (y 1) := row0 y
  rw [e, ey]
  exact last8 h t ht (y 1)

theorem arr9 : (dats m 0 c).arrAt 9 cfg0.N = fun i => ((dshift (cot C W) (i 1) : ℝ) : EReal) := by
  refine (dats m 0 c).arrAt_eq_of_covers 9 _ (by decide +kernel) fun t hf y => ?_
  have ht : t.val = 7 := (by decide +kernel : ∀ t : Fin grid0.N, win0_9.flush t = true → t.val = 7) t hf
  blk_simp [idx t]
  rw [after0_9]
  have e : (win0_9.blk t).view.emb y = ix2 0 (y 1) := by
    refine funext fun a => Fin.ext ((win0_9.rect_emb_val t _ a).trans ?_)
    fin_cases a <;> simp [idx t]
  have ey : y = ix2 0 (y 1) := row0 y
  rw [e, ey]
  exact last9 h t ht (y 1)

end

end Cert.InBwdIdeal.Nb

end
-- ==== Proof.FfnInBwdKernel.lean ====
module

public import proofs.«01_k».proof.Proof.Gen.FfnInBwdIdeal.Value
public import proofs.«01_k».proof.Proof.NormPay
public import proofs.«01_k».proof.Proof.Sums
public import Idealize.ShloMosaic.Lib.Pipeline.ReadBack
public import Idealize.ShloMosaic.Lib.Pipeline.ValueKit.Tiles
public import Idealize.ShloMosaic.Lib.Pipeline.ValueKit.Point

/-! The gradient of the second norm and its product: what the call's four arrays hold. -/

@[expose] public section

set_option maxRecDepth 16384

noncomputable section

namespace Cert.FfnInBwdIdeal.Nb

open Cert.FfnInBwdIdeal Cert.FfnInBwdIdeal.Gen Cert.Dense Cert.Norm Idealize.ShloMosaic Idealize.ShloMosaic.TcCoe

section
variable (v0 : Vec Ideal S512x5632 .bf16) (v1 : Vec Ideal S1024x5632 .bf16) (C : Fin 512 → Fin 5632 → ℝ) (W : Fin 1024 → Fin 5632 → ℝ)
  (hC : ∀ r e, v0 (ix2 r e) = ((C r e : ℝ) : EReal)) (hW : ∀ k e, v1 (ix2 k e) = ((W k e : ℝ) : EReal))
include hC hW

/-- The cotangent of a block's rows. -/
theorem pay6_real (r : Fin 512) (k : Fin 1024) : k0_pay6 v0 v1 (ix2 r k) = ((∑ e, C r e * W k e : ℝ) : EReal) := by
  pointwise [k0_pay6]
  simp only [hC, hW, ← EReal.coe_mul, Cert.Gm.coe_sum]

theorem pay14_real (k : Fin 1024) : k0_pay14 v0 v1 (ix1 k) = ((∑ r, ∑ e, C r e * W k e : ℝ) : EReal) := by
  pointwise [k0_pay14]
  simp only [pay6_real v0 v1 C W hC hW, Cert.Gm.coe_sum]

theorem pay12_real (x : Vec Ideal S512x1024 .f32) (X : Fin 512 → Fin 1024 → ℝ) (hx : ∀ r c, x (ix2 r c) = ((X r c : ℝ) : EReal))
    (a : Vec Ideal S1x1024 .f32) (k : Fin 1024) :
    k0_pay12 v0 v1 x a (ix2 0 k) = a (ix2 0 k) + ((∑ r, (∑ e, C r e * W k e) * xn (X r) k : ℝ) : EReal) := by
  have h8 (r : Fin 512) : k0_pay8 x (ix2 r k) = ((xn (X r) k : ℝ) : EReal) := pay8_real x X hx r k
  pointwise [k0_pay12]
  simp only [pay6_real v0 v1 C W hC hW, h8, ← EReal.coe_mul, Cert.Gm.coe_sum]

end

section
variable (c : Dev nD) (i : grid0.Coords) (arg1 : Memref sig .tc .vmem S512x5632 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole)
  (x0 : Vec Ideal S512x5632 .bf16) (x1 : Vec Ideal S1024x5632 .bf16) (x2 : Vec Ideal S512x1024 .f32) (x3 x4 : Vec Ideal S1x1024 .f32) (x5 : Vec Ideal S512x1024 .f32) (xo7 xo9 : Vec Ideal S1x1024 .f32)

theorem out_A_6 (hc0 : cond0_0 i) (hc1 : ¬cond0_1 i) :
    out0_A_6 c i arg1 harg1 arg2 harg2 arg3 harg3 arg4 harg4 arg5 harg5 arg6 harg6 arg7 harg7 arg8 harg8 arg9 harg9 arg10 harg10 hc0 hc1 x0 x1 x2 x3 x4 x5 = k0_pay2 (k0_pay6 x0 x1) (k0_pay7 x2) (k0_pay8 x2) (k0_pay9 x3 x4) x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2]

theorem out_B_6 (hc0 : ¬cond0_0 i) (hc1 : ¬cond0_1 i) :
    out0_B_6 c i arg1 harg1 arg2 harg2 arg3 harg3 arg4 harg4 arg5 harg5 arg6 harg6 arg7 harg7 arg8 harg8 arg9 harg9 arg10 harg10 hc0 hc1 x0 x1 x2 x3 x4 x5 xo7 xo9 = k0_pay2 (k0_pay6 x0 x1) (k0_pay7 x2) (k0_pay8 x2) (k0_pay9 x3 x4) x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2]

theorem out_C_6 (hc0 : ¬cond0_0 i) (hc1 : cond0_1 i) :
    out0_C_6 c i arg1 harg1 arg2 harg2 arg3 harg3 arg4 harg4 arg5 harg5 arg6 harg6 arg7 harg7 arg8 harg8 arg9 harg9 arg10 harg10 hc0 hc1 x0 x1 x2 x3 x4 x5 xo7 xo9 = k0_pay2 (k0_pay6 x0 x1) (k0_pay7 x2) (k0_pay8 x2) (k0_pay9 x3 x4) x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2]

theorem out_A_7 (hc0 : cond0_0 i) (hc1 : ¬cond0_1 i) :
    out0_A_7 c i arg1 harg1 arg2 harg2 arg3 harg3 arg4 harg4 arg5 harg5 arg6 harg6 arg7 harg7 arg8 harg8 arg9 harg9 arg10 harg10 hc0 hc1 x0 x1 x2 x3 x4 x5 = k0_pay12 x0 x1 x2 (k0_pay10 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2, View.readCov_cons_toLoadRect]

theorem out_B_7 (hc0 : ¬cond0_0 i) (hc1 : ¬cond0_1 i) :
    out0_B_7 c i arg1 harg1 arg2 harg2 arg3 harg3 arg4 harg4 arg5 harg5 arg6 harg6 arg7 harg7 arg8 harg8 arg9 harg9 arg10 harg10 hc0 hc1 x0 x1 x2 x3 x4 x5 xo7 xo9 = k0_pay12 x0 x1 x2 xo7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2]

theorem out_C_7 (hc0 : ¬cond0_0 i) (hc1 : cond0_1 i) :
    out0_C_7 c i arg1 harg1 arg2 harg2 arg3 harg3 arg4 harg4 arg5 harg5 arg6 harg6 arg7 harg7 arg8 harg8 arg9 harg9 arg10 harg10 hc0 hc1 x0 x1 x2 x3 x4 x5 xo7 xo9 = k0_pay5 (k0_pay12 x0 x1 x2 xo7) x4 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2, View.readCov_cons_toLoadRect]

theorem out_C_8 (hc0 : ¬cond0_0 i) (hc1 : cond0_1 i) :
    out0_C_8 c i arg1 harg1 arg2 harg2 arg3 harg3 arg4 harg4 arg5 harg5 arg6 harg6 arg7 harg7 arg8 harg8 arg9 harg9 arg10 harg10 hc0 hc1 x0 x1 x2 x3 x4 x5 xo7 xo9 = k0_pay4 (k0_pay12 x0 x1 x2 xo7) x3 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2, View.readCov_cons_toLoadRect]

theorem out_A_9 (hc0 : cond0_0 i) (hc1 : ¬cond0_1 i) :
    out0_A_9 c i arg1 harg1 arg2 harg2 arg3 harg3 arg4 harg4 arg5 harg5 arg6 harg6 arg7 harg7 arg8 harg8 arg9 harg9 arg10 harg10 hc0 hc1 x0 x1 x2 x3 x4 x5 = k0_pay1 (k0_pay13 (k0_pay11 (F := Ideal))) (k0_pay14 x0 x1) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2, View.readCov_cons_toLoadRect]

theorem out_B_9 (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 hc0 hc1 x0 x1 x2 x3 x4 x5 xo7 xo9 = k0_pay1 (k0_pay13 xo9) (k0_pay14 x0 x1) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2]

theorem out_C_9 (hc0 : ¬cond0_0 i) (hc1 : cond0_1 i) :
    out0_C_9 c i arg1 harg1 arg2 harg2 arg3 harg3 arg4 harg4 arg5 harg5 arg6 harg6 arg7 harg7 arg8 harg8 arg9 harg9 arg10 harg10 hc0 hc1 x0 x1 x2 x3 x4 x5 xo7 xo9 = k0_pay1 (k0_pay13 xo9) (k0_pay14 x0 x1) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 hc0 hc1 x0 x1 x2 x3 x4 x5 xo7 xo9)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x5632) zero2, View.ld_unit_zero (S := S1024x5632) zero2, View.ld_unit_zero (S := S512x1024) zero2, View.ld_unit_zero (S := S1x1024) zero2]
  rw [View.canon_cons_unit_zero zero2]

end

variable (m : (ℓ : Loc nD τ sig) → Buf (Elt Ideal) ℓ)

theorem idx : ∀ t : Fin grid0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![0, 0] ∧ win0_8.index t = ![0, 0]
    ∧ win0_9.index t = ![0, 0] := by
  decide +kernel

theorem blk0 (c : Dev nD) (t : Fin cfg0.N) (r : Fin 512) (q : Fin 5632) :
    iblk m c 0 t (ix2 r q) = m ((c : Thread nD τ).loc main_arg0) (ix2 (brow 512 t.val r) q) := by
  have hr := brow_val (b := 512) (n := 8) rfl t.isLt r
  blk_point [iblk, V, idx t]
theorem blk1 (c : Dev nD) (t : Fin cfg0.N) (r : Fin 1024) (q : Fin 5632) :
    iblk m c 1 t (ix2 r q) = m ((c : Thread nD τ).loc main_arg1) (ix2 r q) := by
  blk_point [iblk, V, idx t]
theorem blk2 (c : Dev nD) (t : Fin cfg0.N) (r : Fin 512) (q : Fin 1024) :
    iblk m c 2 t (ix2 r q) = m ((c : Thread nD τ).loc main_arg2) (ix2 (brow 512 t.val r) q) := by
  have hr := brow_val (b := 512) (n := 8) rfl t.isLt r
  blk_point [iblk, V, idx t]
theorem blk3 (c : Dev nD) (t : Fin cfg0.N) (q : Fin 1024) :
    iblk m c 3 t (ix2 0 q) = m ((c : Thread nD τ).loc main_arg3) (ix2 0 q) := by
  blk_point [iblk, V, idx t]
theorem blk4 (c : Dev nD) (t : Fin cfg0.N) (q : Fin 1024) :
    iblk m c 4 t (ix2 0 q) = m ((c : Thread nD τ).loc main_arg4) (ix2 0 q) := by
  blk_point [iblk, V, idx t]
theorem blk5 (c : Dev nD) (t : Fin cfg0.N) (r : Fin 512) (q : Fin 1024) :
    iblk m c 5 t (ix2 r q) = m ((c : Thread nD τ).loc main_arg5) (ix2 (brow 512 t.val r) q) := by
  have hr := brow_val (b := 512) (n := 8) rfl t.isLt r
  blk_point [iblk, V, idx t]

/-- The arguments that must be real, as reals. -/
structure Args (c : Dev nD) (C : Fin 4096 → Fin 5632 → ℝ) (W : Fin 1024 → Fin 5632 → ℝ) (X : Fin 4096 → Fin 1024 → ℝ) (NW SC : Fin 1024 → ℝ) : Prop where
  a0 : ∀ t e, m ((c : Thread nD τ).loc main_arg0) (ix2 t e) = ((C t e : ℝ) : EReal)
  a1 : ∀ k e, m ((c : Thread nD τ).loc main_arg1) (ix2 k e) = ((W k e : ℝ) : EReal)
  a2 : ∀ t k, m ((c : Thread nD τ).loc main_arg2) (ix2 t k) = ((X t k : ℝ) : EReal)
  a3 : ∀ k, m ((c : Thread nD τ).loc main_arg3) (ix2 0 k) = ((NW k : ℝ) : EReal)
  a4 : ∀ k, m ((c : Thread nD τ).loc main_arg4) (ix2 0 k) = ((SC k : ℝ) : EReal)

section
variable {m} {c : Dev nD} {C : Fin 4096 → Fin 5632 → ℝ} {W : Fin 1024 → Fin 5632 → ℝ} {X : Fin 4096 → Fin 1024 → ℝ} {NW SC : Fin 1024 → ℝ}
  (h : Args m c C W X NW SC)
include h

/-- A block of the rows' gradient. -/
theorem row6 (t : Fin cfg0.N) (r : Fin 512) (q : Fin 1024) :
    k0_pay2 (k0_pay6 (iblk m c 0 t) (iblk m c 1 t)) (k0_pay7 (iblk m c 2 t)) (k0_pay8 (iblk m c 2 t)) (k0_pay9 (iblk m c 3 t) (iblk m c 4 t)) (iblk m c 5 t) (ix2 r q)
      = ((dx (cot C W (brow 512 t.val r)) (X (brow 512 t.val r)) NW SC q : ℝ) : EReal) + m ((c : Thread nD τ).loc main_arg5) (ix2 (brow 512 t.val r) q) := by
  refine (pay2_real (iblk m c 2 t) (fun r => X (brow 512 t.val r)) (fun r k => (blk2 m c t r k).trans (h.a2 _ _)) (iblk m c 3 t) (iblk m c 4 t) NW SC
    (fun k => (blk3 m c t k).trans (h.a3 k)) (fun k => (blk4 m c t k).trans (h.a4 k)) _ (fun r => cot C W (brow 512 t.val r)) (fun r k => ?_) (iblk m c 5 t) r q).trans ?_
  · exact pay6_real _ _ _ _ (fun r e => (blk0 m c t r e).trans (h.a0 _ e)) (fun k e => (blk1 m c t k e).trans (h.a1 k e)) r k
  · exact congrArg _ (blk5 m c t r q)

theorem outs6 (t : Fin cfg0.N) (r : Fin 512) (q : Fin 1024) : (outsAt0 m c t.val t.isLt).1 (ix2 r q)
      = ((dx (cot C W (brow 512 t.val r)) (X (brow 512 t.val r)) NW SC q : ℝ) : EReal) + m ((c : Thread nD τ).loc main_arg5) (ix2 (brow 512 t.val r) q) := by
  have ht : t.val < 8 := t.isLt
  by_cases h0 : t.val % 8 = 0
  · rw [outsAt0_A m c t h0 (by omega), out_A_6]
    exact row6 h t r q
  · by_cases h1 : t.val % 8 = 7
    · rw [outsAt0_C m c t h0 h1, out_C_6]
      exact row6 h t r q
    · rw [outsAt0_B m c t h0 h1, out_B_6]
      exact row6 h t r q

/-- What a block adds to the gain's gradient, and to the shift's. -/
theorem add7 (t : Fin cfg0.N) (a : Vec Ideal S1x1024 .f32) (q : Fin 1024) : k0_pay12 (iblk m c 0 t) (iblk m c 1 t) (iblk m c 2 t) a (ix2 0 q)
    = a (ix2 0 q) + ((∑ r : Fin 512, cot C W (brow 512 t.val r) q * xn (X (brow 512 t.val r)) q : ℝ) : EReal) :=
  pay12_real _ _ _ _ (fun r e => (blk0 m c t r e).trans (h.a0 _ e)) (fun k e => (blk1 m c t k e).trans (h.a1 k e)) _ _ (fun r k => (blk2 m c t r k).trans (h.a2 _ _)) a q

theorem add9 (t : Fin cfg0.N) (a : Vec Ideal S1x1024 .f32) (q : Fin 1024) : k0_pay1 (k0_pay13 a) (k0_pay14 (iblk m c 0 t) (iblk m c 1 t)) (ix2 0 q)
    = a (ix2 0 q) + ((∑ r : Fin 512, cot C W (brow 512 t.val r) q : ℝ) : EReal) :=
  (pay1_at a _ q).trans (congrArg _ (pay14_real _ _ _ _ (fun r e => (blk0 m c t r e).trans (h.a0 _ e)) (fun k e => (blk1 m c t k e).trans (h.a1 k e)) q))

theorem outs7 (q : Fin 1024) : ∀ (n : ℕ) (hn : n < cfg0.N), n < 7 →
    (outsAt0 m c n hn).2.1 (ix2 0 q) = ((∑ s ∈ Finset.range (n + 1), ∑ r : Fin 512, cot C W (brow 512 s r) q * xn (X (brow 512 s r)) q : ℝ) : EReal)
  | 0, hn, _ => by
    rw [outsAt0_A m c ⟨0, hn⟩ rfl (by show ¬0 % 8 = 7; decide)]
    dsimp only
    rw [out_A_7]
    refine (add7 h ⟨0, hn⟩ _ q).trans ?_
    rw [show k0_pay10 (F := Ideal) (ix2 0 q) = (0 : EReal) from pay10_at q, zero_add, Finset.sum_range_one]
  | n + 1, hn, hl => by
    have h0 : ¬(n + 1) % 8 = 0 := by omega
    have h1 : ¬(n + 1) % 8 = 7 := by omega
    rw [outsAt0_B m c ⟨n + 1, hn⟩ h0 h1]
    dsimp only
    rw [out_B_7]
    refine (add7 h ⟨n + 1, hn⟩ _ q).trans ?_
    rw [Finset.sum_range_succ, EReal.coe_add]
    exact congrArg (· + _) (outs7 q n (Nat.lt_of_succ_lt hn) (by omega))

theorem outs9 (q : Fin 1024) : ∀ (n : ℕ) (hn : n < cfg0.N),
    (outsAt0 m c n hn).2.2.2 (ix2 0 q) = ((∑ s ∈ Finset.range (n + 1), ∑ r : Fin 512, cot C W (brow 512 s r) q : ℝ) : EReal)
  | 0, hn => by
    rw [outsAt0_A m c ⟨0, hn⟩ rfl (by show ¬0 % 8 = 7; decide)]
    dsimp only
    rw [out_A_9]
    refine (add9 h ⟨0, hn⟩ _ q).trans ?_
    rw [show k0_pay11 (F := Ideal) (ix2 0 q) = (0 : EReal) from pay11_at q, zero_add, Finset.sum_range_one]
  | n + 1, hn => by
    have hN : n + 1 < 8 := hn
    have h0 : ¬(n + 1) % 8 = 0 := by omega
    have e : (outsAt0 m c (n + 1) hn).2.2.2 = k0_pay1 (k0_pay13 (outsAt0 m c n (Nat.lt_of_succ_lt hn)).2.2.2) (k0_pay14 (iblk m c 0 ⟨n + 1, hn⟩) (iblk m c 1 ⟨n + 1, hn⟩)) := by
      by_cases h1 : (n + 1) % 8 = 7
      · rw [outsAt0_C m c ⟨n + 1, hn⟩ h0 h1]
        dsimp only
        rw [out_C_9]
        rfl
      · rw [outsAt0_B m c ⟨n + 1, hn⟩ h0 h1]
        dsimp only
        rw [out_B_9]
        rfl
    rw [e]
    refine (add9 h ⟨n + 1, hn⟩ _ q).trans ?_
    rw [Finset.sum_range_succ, EReal.coe_add]
    exact congrArg (· + _) (outs9 q n (Nat.lt_of_succ_lt hn))

/-- After the last block the accumulator holds the gain's gradient. -/
theorem total (t : Fin cfg0.N) (ht : t.val = 7) (q : Fin 1024) :
    k0_pay12 (iblk m c 0 t) (iblk m c 1 t) (iblk m c 2 t) (outsAt0 m c (t.val - 1) (Nat.lt_of_le_of_lt (Nat.sub_le _ _) t.isLt)).2.1 (ix2 0 q)
      = ((dgain (cot C W) X q : ℝ) : EReal) := by
  refine (add7 h t _ q).trans ?_
  rw [outs7 h q _ _ (by omega), ← EReal.coe_add]
  unfold dgain
  rw [← sum_blocks 512 8 rfl, ht]
  exact congrArg _ (Finset.sum_range_succ _ 7).symm

theorem last7 (t : Fin cfg0.N) (ht : t.val = 7) (q : Fin 1024) :
    (outsAt0 m c t.val t.isLt).2.1 (ix2 0 q) = ((dgain (cot C W) X q * (1 + SC q) : ℝ) : EReal) := by
  rw [outsAt0_C m c t (by omega) (by omega)]
  dsimp only
  rw [out_C_7]
  refine (pay5_at _ _ q).trans ?_
  rw [total h t ht q, blk4, h.a4, ← EReal.coe_one, ← EReal.coe_add, ← EReal.coe_mul]

theorem last8 (t : Fin cfg0.N) (ht : t.val = 7) (q : Fin 1024) :
    (outsAt0 m c t.val t.isLt).2.2.1 (ix2 0 q) = ((dgain (cot C W) X q * NW q : ℝ) : EReal) := by
  rw [outsAt0_C m c t (by omega) (by omega)]
  dsimp only
  rw [out_C_8]
  refine (pay4_at _ _ q).trans ?_
  rw [total h t ht q, blk3, h.a3, ← EReal.coe_mul]

theorem last9 (t : Fin cfg0.N) (ht : t.val = 7) (q : Fin 1024) :
    (outsAt0 m c t.val t.isLt).2.2.2 (ix2 0 q) = ((dshift (cot C W) q : ℝ) : EReal) := by
  rw [outs9 h q t.val t.isLt, ht]
  unfold dshift
  rw [← sum_blocks 512 8 rfl]

theorem arr6 : (dats m 0 c).arrAt 6 cfg0.N = fun i => ((dx (cot C W (i 0)) (X (i 0)) NW SC (i 1) : ℝ) : EReal) + m ((c : Thread nD τ).loc main_arg5) i := by
  refine (dats m 0 c).arrAt_eq_of_covers 6 _ (by decide +kernel) fun t hf y => ?_
  have hr := brow_val (b := 512) (n := 8) rfl t.isLt (y 0)
  blk_simp [idx t]
  rw [after0_6]
  have e : (win0_6.blk t).view.emb y = ix2 (brow 512 t.val (y 0)) (y 1) := by
    refine funext fun a => Fin.ext ((win0_6.rect_emb_val t _ a).trans ?_)
    fin_cases a <;> simp [idx t, hr]
  rw [e, Idealize.ShloMosaic.ValueIdx.eq_ix2 y]
  exact outs6 h t (y 0) (y 1)

theorem arr7 : (dats m 0 c).arrAt 7 cfg0.N = fun i => ((dgain (cot C W) X (i 1) * (1 + SC (i 1)) : ℝ) : EReal) := by
  refine (dats m 0 c).arrAt_eq_of_covers 7 _ (by decide +kernel) fun t hf y => ?_
  have ht : t.val = 7 := (by decide +kernel : ∀ t : Fin grid0.N, win0_7.flush t = true → t.val = 7) t hf
  blk_simp [idx t]
  rw [after0_7]
  have e : (win0_7.blk t).view.emb y = ix2 0 (y 1) := by
    refine funext fun a => Fin.ext ((win0_7.rect_emb_val t _ a).trans ?_)
    fin_cases a <;> simp [idx t]
  have ey : y = ix2 0 (y 1) := row0 y
  rw [e, ey]
  exact last7 h t ht (y 1)

theorem arr8 : (dats m 0 c).arrAt 8 cfg0.N = fun i => ((dgain (cot C W) X (i 1) * NW (i 1) : ℝ) : EReal) := by
  refine (dats m 0 c).arrAt_eq_of_covers 8 _ (by decide +kernel) fun t hf y => ?_
  have ht : t.val = 7 := (by decide +kernel : ∀ t : Fin grid0.N, win0_8.flush t = true → t.val = 7) t hf
  blk_simp [idx t]
  rw [after0_8]
  have e : (win0_8.blk t).view.emb y = ix2 0 (y 1) := by
    refine funext fun a => Fin.ext ((win0_8.rect_emb_val t _ a).trans ?_)
    fin_cases a <;> simp [idx t]
  have ey : y = ix2 0 (y 1) := row0 y
  rw [e, ey]
  exact last8 h t ht (y 1)

theorem arr9 : (dats m 0 c).arrAt 9 cfg0.N = fun i => ((dshift (cot C W) (i 1) : ℝ) : EReal) := by
  refine (dats m 0 c).arrAt_eq_of_covers 9 _ (by decide +kernel) fun t hf y => ?_
  have ht : t.val = 7 := (by decide +kernel : ∀ t : Fin grid0.N, win0_9.flush t = true → t.val = 7) t hf
  blk_simp [idx t]
  rw [after0_9]
  have e : (win0_9.blk t).view.emb y = ix2 0 (y 1) := by
    refine funext fun a => Fin.ext ((win0_9.rect_emb_val t _ a).trans ?_)
    fin_cases a <;> simp [idx t]
  have ey : y = ix2 0 (y 1) := row0 y
  rw [e, ey]
  exact last9 h t ht (y 1)

end

end Cert.FfnInBwdIdeal.Nb

end
-- ==== Proof.InBwdRef.lean ====
module

public import proofs.«01_k».proof.Proof.Gen.InBwdReferenceIdeal.Read
public import proofs.«01_k».proof.Proof.NormSpec
public import Idealize.ShloMosaic.Lib.Pointwise
public import Idealize.ShloMosaic.Lib.IdealHost

/-! The gradient of the first norm and its product: what the reference's arrays hold. -/

@[expose] public section

set_option maxRecDepth 16384

noncomputable section

namespace Cert.InBwdReferenceIdeal.Nb

open Cert.InBwdReferenceIdeal Cert.InBwdReferenceIdeal.Read Cert.Norm Idealize.ShloMosaic Idealize.ShloMosaic.TcCoe

/-- The arguments that must be real, as reals. -/
structure Args (x0 : Vec Ideal S4096x5120 .bf16) (x1 : Vec Ideal S1024x5120 .bf16) (x2 : Vec Ideal S4096x1024 .f32) (x3 x4 : Vec Ideal S1x1024 .f32)
    (C : Fin 4096 → Fin 5120 → ℝ) (W : Fin 1024 → Fin 5120 → ℝ) (X : Fin 4096 → Fin 1024 → ℝ) (NW SC : Fin 1024 → ℝ) : Prop where
  a0 : ∀ t e, x0 (ix2 t e) = ((C t e : ℝ) : EReal)
  a1 : ∀ k e, x1 (ix2 k e) = ((W k e : ℝ) : EReal)
  a2 : ∀ t k, x2 (ix2 t k) = ((X t k : ℝ) : EReal)
  a3 : ∀ k, x3 (ix2 0 k) = ((NW k : ℝ) : EReal)
  a4 : ∀ k, x4 (ix2 0 k) = ((SC k : ℝ) : EReal)

variable {x0 : Vec Ideal S4096x5120 .bf16} {x1 : Vec Ideal S1024x5120 .bf16} {x2 : Vec Ideal S4096x1024 .f32} {x3 x4 : Vec Ideal S1x1024 .f32}
  {C : Fin 4096 → Fin 5120 → ℝ} {W : Fin 1024 → Fin 5120 → ℝ} {X : Fin 4096 → Fin 1024 → ℝ} {NW SC : Fin 1024 → ℝ} (h : Args x0 x1 x2 x3 x4 C W X NW SC)
include h

theorem v8_real (t : Fin 4096) : val_main_v8 (F := Ideal) x2 (ix2 t 0) = ((ms (X t) : ℝ) : EReal) := by
  pointwise [val_main_v8, val_main_v7, val_main_v6, val_main_v5, val_main_v4, val_main_v3, val_main_v2, val_main_cst_0, val_main_cst_1, val_main_cst_2]
  simp only [h.a2, ← EReal.coe_mul, Cert.Gm.coe_sum, div_1024, Cert.Gm.ofBits_eps, ← EReal.coe_add]
  rfl

theorem v9_real (t : Fin 4096) : val_main_v9 (F := Ideal) x2 (ix2 t 0) = ((rs (X t) : ℝ) : EReal) := by
  pointwise [val_main_v9]
  rw [v8_real h, rsqrt_ms]

theorem v12_real (t : Fin 4096) : val_main_v12 (F := Ideal) x2 (ix2 t 0) = ((-(1 / 2) * (rs (X t) * (1 / ms (X t))) : ℝ) : EReal) := by
  pointwise [val_main_v12, val_main_v11, val_main_v10, val_main_cst_3]
  rw [v8_real h, v9_real h, Cert.Gm.ofBits_neg_half, Ideal.div_coe (ms_pos (X t)).ne', ← EReal.coe_mul, ← EReal.coe_mul]

theorem v14_real (t : Fin 4096) (k : Fin 1024) : val_main_v14 (F := Ideal) x2 (ix2 t k) = ((xn (X t) k : ℝ) : EReal) := by
  pointwise [val_main_v14, val_main_v13]
  rw [v9_real h, h.a2, ← EReal.coe_mul]
  rfl

theorem v25_real (t : Fin 4096) (k : Fin 1024) : val_main_v25 (F := Ideal) x0 x1 (ix2 t k) = ((cot C W t k : ℝ) : EReal) := by
  pointwise [val_main_v25, val_main_v24, val_main_v1]
  simp only [h.a0, h.a1, ← EReal.coe_mul, Cert.Gm.coe_sum]
  rfl

theorem v32_real (t : Fin 4096) (k : Fin 1024) : val_main_v32 (F := Ideal) x0 x1 x4 (ix2 t k) = ((cot C W t k * (1 + SC k) : ℝ) : EReal) := by
  pointwise [val_main_v32, val_main_v31, val_main_v18, val_main_v17, val_main_cst_4]
  rw [v25_real h, h.a4, ← EReal.coe_one, ← EReal.coe_add, ← EReal.coe_mul]

theorem v37_real (t : Fin 4096) (k : Fin 1024) : val_main_v37 (F := Ideal) x0 x1 x3 x4 (ix2 t k) = ((cot C W t k * (1 + SC k) * NW k : ℝ) : EReal) := by
  pointwise [val_main_v37, val_main_v36]
  rw [v32_real h, h.a3, ← EReal.coe_mul]

/-- What the mean square's derivative gives to each number of a row, before the factor of that number. -/
theorem v48_real (t : Fin 4096) (k : Fin 1024) : val_main_v48 (F := Ideal) x0 x1 x2 x3 x4 (ix2 t k)
    = (((∑ k, X t k * (cot C W t k * (1 + SC k) * NW k)) * (-(1 / 2) * (rs (X t) * (1 / ms (X t)))) * (1 / 1024) : ℝ) : EReal) := by
  pointwise [val_main_v48, val_main_v47, val_main_v46, val_main_v45, val_main_v44, val_main_v40, val_main_v39, val_main_v38, val_main_cst_8, val_main_cst_9, val_main_cst_10]
  simp only [Finset.univ_unique, Finset.sum_singleton]
  rw [show (default : Fin 1) = 0 from rfl, v12_real h]
  simp only [h.a2, v37_real h, ← EReal.coe_mul, Cert.Gm.coe_sum, div_1024]

theorem dx_eq (x5 : Vec Ideal S4096x1024 .f32) (t : Fin 4096) (k : Fin 1024) :
    val_main_v52 (F := Ideal) x0 x1 x2 x3 x4 x5 (ix2 t k) = ((dx (cot C W t) (X t) NW SC k : ℝ) : EReal) + x5 (ix2 t k) := by
  pointwise [val_main_v52, val_main_v51, val_main_v50, val_main_v49, val_main_v43, val_main_v42, val_main_v41]
  rw [v48_real h, v37_real h, v9_real h, h.a2, ← dx_terms (cot C W t) (X t) NW SC k _ rfl, add_assoc, add_assoc, ← EReal.coe_mul, ← EReal.coe_mul, ← EReal.coe_mul,
    ← EReal.coe_add, ← EReal.coe_add, add_comm]

theorem dshift_eq (k : Fin 1024) : val_main_v27 (F := Ideal) x0 x1 (ix2 0 k) = ((dshift (cot C W) k : ℝ) : EReal) := by
  pointwise [val_main_v27, val_main_v26, val_main_cst_5]
  simp only [v25_real h, Cert.Gm.coe_sum]
  rfl

theorem dscale_eq (k : Fin 1024) : val_main_v30 (F := Ideal) x0 x1 x2 x3 (ix2 0 k) = ((dgain (cot C W) X k * NW k : ℝ) : EReal) := by
  pointwise [val_main_v30, val_main_v29, val_main_v28, val_main_v16, val_main_v15, val_main_cst_6]
  simp only [v25_real h, v14_real h, h.a3, ← EReal.coe_mul, Cert.Gm.coe_sum]
  unfold dgain
  rw [Finset.sum_mul]
  exact congrArg _ (Finset.sum_congr rfl fun t _ => by ring)

theorem dnw_eq (k : Fin 1024) : val_main_v35 (F := Ideal) x0 x1 x2 x4 (ix2 0 k) = ((dgain (cot C W) X k * (1 + SC k) : ℝ) : EReal) := by
  pointwise [val_main_v35, val_main_v34, val_main_v33, val_main_cst_7]
  simp only [v32_real h, v14_real h, ← EReal.coe_mul, Cert.Gm.coe_sum]
  unfold dgain
  rw [Finset.sum_mul]
  exact congrArg _ (Finset.sum_congr rfl fun t _ => by ring)

end Cert.InBwdReferenceIdeal.Nb

end
-- ==== Proof.FfnInBwdRef.lean ====
module

public import proofs.«01_k».proof.Proof.Gen.FfnInBwdReferenceIdeal.Read
public import proofs.«01_k».proof.Proof.NormSpec
public import Idealize.ShloMosaic.Lib.Pointwise
public import Idealize.ShloMosaic.Lib.IdealHost

/-! The gradient of the second norm and its product: what the reference's arrays hold. -/

@[expose] public section

set_option maxRecDepth 16384

noncomputable section

namespace Cert.FfnInBwdReferenceIdeal.Nb

open Cert.FfnInBwdReferenceIdeal Cert.FfnInBwdReferenceIdeal.Read Cert.Norm Idealize.ShloMosaic Idealize.ShloMosaic.TcCoe

/-- The arguments that must be real, as reals. -/
structure Args (x0 : Vec Ideal S4096x5632 .bf16) (x1 : Vec Ideal S1024x5632 .bf16) (x2 : Vec Ideal S4096x1024 .f32) (x3 x4 : Vec Ideal S1x1024 .f32)
    (C : Fin 4096 → Fin 5632 → ℝ) (W : Fin 1024 → Fin 5632 → ℝ) (X : Fin 4096 → Fin 1024 → ℝ) (NW SC : Fin 1024 → ℝ) : Prop where
  a0 : ∀ t e, x0 (ix2 t e) = ((C t e : ℝ) : EReal)
  a1 : ∀ k e, x1 (ix2 k e) = ((W k e : ℝ) : EReal)
  a2 : ∀ t k, x2 (ix2 t k) = ((X t k : ℝ) : EReal)
  a3 : ∀ k, x3 (ix2 0 k) = ((NW k : ℝ) : EReal)
  a4 : ∀ k, x4 (ix2 0 k) = ((SC k : ℝ) : EReal)

variable {x0 : Vec Ideal S4096x5632 .bf16} {x1 : Vec Ideal S1024x5632 .bf16} {x2 : Vec Ideal S4096x1024 .f32} {x3 x4 : Vec Ideal S1x1024 .f32}
  {C : Fin 4096 → Fin 5632 → ℝ} {W : Fin 1024 → Fin 5632 → ℝ} {X : Fin 4096 → Fin 1024 → ℝ} {NW SC : Fin 1024 → ℝ} (h : Args x0 x1 x2 x3 x4 C W X NW SC)
include h

theorem v8_real (t : Fin 4096) : val_main_v8 (F := Ideal) x2 (ix2 t 0) = ((ms (X t) : ℝ) : EReal) := by
  pointwise [val_main_v8, val_main_v7, val_main_v6, val_main_v5, val_main_v4, val_main_v3, val_main_v2, val_main_cst_0, val_main_cst_1, val_main_cst_2]
  simp only [h.a2, ← EReal.coe_mul, Cert.Gm.coe_sum, div_1024, Cert.Gm.ofBits_eps, ← EReal.coe_add]
  rfl

theorem v9_real (t : Fin 4096) : val_main_v9 (F := Ideal) x2 (ix2 t 0) = ((rs (X t) : ℝ) : EReal) := by
  pointwise [val_main_v9]
  rw [v8_real h, rsqrt_ms]

theorem v12_real (t : Fin 4096) : val_main_v12 (F := Ideal) x2 (ix2 t 0) = ((-(1 / 2) * (rs (X t) * (1 / ms (X t))) : ℝ) : EReal) := by
  pointwise [val_main_v12, val_main_v11, val_main_v10, val_main_cst_3]
  rw [v8_real h, v9_real h, Cert.Gm.ofBits_neg_half, Ideal.div_coe (ms_pos (X t)).ne', ← EReal.coe_mul, ← EReal.coe_mul]

theorem v14_real (t : Fin 4096) (k : Fin 1024) : val_main_v14 (F := Ideal) x2 (ix2 t k) = ((xn (X t) k : ℝ) : EReal) := by
  pointwise [val_main_v14, val_main_v13]
  rw [v9_real h, h.a2, ← EReal.coe_mul]
  rfl

theorem v25_real (t : Fin 4096) (k : Fin 1024) : val_main_v25 (F := Ideal) x0 x1 (ix2 t k) = ((cot C W t k : ℝ) : EReal) := by
  pointwise [val_main_v25, val_main_v24, val_main_v1]
  simp only [h.a0, h.a1, ← EReal.coe_mul, Cert.Gm.coe_sum]
  rfl

theorem v32_real (t : Fin 4096) (k : Fin 1024) : val_main_v32 (F := Ideal) x0 x1 x4 (ix2 t k) = ((cot C W t k * (1 + SC k) : ℝ) : EReal) := by
  pointwise [val_main_v32, val_main_v31, val_main_v18, val_main_v17, val_main_cst_4]
  rw [v25_real h, h.a4, ← EReal.coe_one, ← EReal.coe_add, ← EReal.coe_mul]

theorem v37_real (t : Fin 4096) (k : Fin 1024) : val_main_v37 (F := Ideal) x0 x1 x3 x4 (ix2 t k) = ((cot C W t k * (1 + SC k) * NW k : ℝ) : EReal) := by
  pointwise [val_main_v37, val_main_v36]
  rw [v32_real h, h.a3, ← EReal.coe_mul]

/-- What the mean square's derivative gives to each number of a row, before the factor of that number. -/
theorem v48_real (t : Fin 4096) (k : Fin 1024) : val_main_v48 (F := Ideal) x0 x1 x2 x3 x4 (ix2 t k)
    = (((∑ k, X t k * (cot C W t k * (1 + SC k) * NW k)) * (-(1 / 2) * (rs (X t) * (1 / ms (X t)))) * (1 / 1024) : ℝ) : EReal) := by
  pointwise [val_main_v48, val_main_v47, val_main_v46, val_main_v45, val_main_v44, val_main_v40, val_main_v39, val_main_v38, val_main_cst_8, val_main_cst_9, val_main_cst_10]
  simp only [Finset.univ_unique, Finset.sum_singleton]
  rw [show (default : Fin 1) = 0 from rfl, v12_real h]
  simp only [h.a2, v37_real h, ← EReal.coe_mul, Cert.Gm.coe_sum, div_1024]

theorem dx_eq (x5 : Vec Ideal S4096x1024 .f32) (t : Fin 4096) (k : Fin 1024) :
    val_main_v52 (F := Ideal) x0 x1 x2 x3 x4 x5 (ix2 t k) = ((dx (cot C W t) (X t) NW SC k : ℝ) : EReal) + x5 (ix2 t k) := by
  pointwise [val_main_v52, val_main_v51, val_main_v50, val_main_v49, val_main_v43, val_main_v42, val_main_v41]
  rw [v48_real h, v37_real h, v9_real h, h.a2, ← dx_terms (cot C W t) (X t) NW SC k _ rfl, add_assoc, add_assoc, ← EReal.coe_mul, ← EReal.coe_mul, ← EReal.coe_mul,
    ← EReal.coe_add, ← EReal.coe_add, add_comm]

theorem dshift_eq (k : Fin 1024) : val_main_v27 (F := Ideal) x0 x1 (ix2 0 k) = ((dshift (cot C W) k : ℝ) : EReal) := by
  pointwise [val_main_v27, val_main_v26, val_main_cst_5]
  simp only [v25_real h, Cert.Gm.coe_sum]
  rfl

theorem dscale_eq (k : Fin 1024) : val_main_v30 (F := Ideal) x0 x1 x2 x3 (ix2 0 k) = ((dgain (cot C W) X k * NW k : ℝ) : EReal) := by
  pointwise [val_main_v30, val_main_v29, val_main_v28, val_main_v16, val_main_v15, val_main_cst_6]
  simp only [v25_real h, v14_real h, h.a3, ← EReal.coe_mul, Cert.Gm.coe_sum]
  unfold dgain
  rw [Finset.sum_mul]
  exact congrArg _ (Finset.sum_congr rfl fun t _ => by ring)

theorem dnw_eq (k : Fin 1024) : val_main_v35 (F := Ideal) x0 x1 x2 x4 (ix2 0 k) = ((dgain (cot C W) X k * (1 + SC k) : ℝ) : EReal) := by
  pointwise [val_main_v35, val_main_v34, val_main_v33, val_main_cst_7]
  simp only [v32_real h, v14_real h, ← EReal.coe_mul, Cert.Gm.coe_sum]
  unfold dgain
  rw [Finset.sum_mul]
  exact congrArg _ (Finset.sum_congr rfl fun t _ => by ring)

end Cert.FfnInBwdReferenceIdeal.Nb

end
-- ==== Proof.NormClaims.lean ====
module

public import proofs.«01_k».proof.Defs
public import proofs.«01_k».proof.Proof.Gen.InBwd.Frame
public import proofs.«01_k».proof.Proof.Gen.FfnInBwd.Frame
public import proofs.«01_k».proof.Proof.Gen.InBwdReferenceIdeal.Run
public import proofs.«01_k».proof.Proof.Gen.FfnInBwdReferenceIdeal.Run
public import proofs.«01_k».proof.Proof.InBwdKernel
public import proofs.«01_k».proof.Proof.FfnInBwdKernel
public import proofs.«01_k».proof.Proof.InBwdRef
public import proofs.«01_k».proof.Proof.FfnInBwdRef
public import proofs.«01_k».proof.Proof.GmPre

/-! The claims of the two norms' gradients. -/

@[expose] public section

open Idealize.ShloMosaic

noncomputable section

namespace Cert.Proof

instance : Cert.Pre_finite_in.Facts where
  bitsLt_bf16_f32 := by decide
  bcast_S_S4096x5120 := by decide
  bcast_S_S1024x5120 := by decide
  bcast_S_S4096x1024 := by decide
  bcast_S_S1x1024 := by decide

/-- Under the precondition the arguments that the derivative depends on are real. -/
theorem inBwd_real (m : (ℓ : Loc Cert.InBwdIdeal.nD Cert.InBwdIdeal.τ Cert.InBwdIdeal.sig) → Buf (Elt Ideal) ℓ) (h : Cert.Pre_InBwdIdeal_finite_in m) (c : Dev Cert.InBwdIdeal.nD) :
    Cert.InBwdIdeal.Nb.Args m c (fun a b => ((m ((c.tc : Thread Cert.InBwdIdeal.nD Cert.InBwdIdeal.τ).loc Cert.InBwdIdeal.main_arg0) (ix2 a b) : EReal).toReal : ℝ)) (fun a b => ((m ((c.tc : Thread Cert.InBwdIdeal.nD Cert.InBwdIdeal.τ).loc Cert.InBwdIdeal.main_arg1) (ix2 a b) : EReal).toReal : ℝ))
      (fun a b => ((m ((c.tc : Thread Cert.InBwdIdeal.nD Cert.InBwdIdeal.τ).loc Cert.InBwdIdeal.main_arg2) (ix2 a b) : EReal).toReal : ℝ)) (fun b => ((m ((c.tc : Thread Cert.InBwdIdeal.nD Cert.InBwdIdeal.τ).loc Cert.InBwdIdeal.main_arg3) (ix2 0 b) : EReal).toReal : ℝ)) (fun b => ((m ((c.tc : Thread Cert.InBwdIdeal.nD Cert.InBwdIdeal.τ).loc Cert.InBwdIdeal.main_arg4) (ix2 0 b) : EReal).toReal : ℝ)) := by
  have top (i) : constant (F := Ideal) Cert.Pre_finite_in.S_ .f32 0x7F800000#32 i = ⊤ := Cert.Gm.ofBits_inf
  obtain ⟨h0, h1, h2, h3, h4⟩ := h c
  exact ⟨fun a b => Cert.Gm.real_of_lt _ _ (fun i => top _) h0 (ix2 a b), fun a b => Cert.Gm.real_of_lt _ _ (fun i => top _) h1 (ix2 a b),
    fun a b => Cert.Gm.real_of_lt _ _ (fun i => top _) h2 (ix2 a b), fun b => Cert.Gm.real_of_lt _ _ (fun i => top _) h3 (ix2 0 b),
    fun b => Cert.Gm.real_of_lt _ _ (fun i => top _) h4 (ix2 0 b)⟩

theorem inBwd_algebraic : Cert.algebraic_InBwdIdeal_InBwdReferenceIdeal_pre_finite_in := by
  intro m g m' g' hpre hargs
  refine ⟨_, _, _, _, Cert.InBwdIdeal.Value.run_blocks m g, (θ_run Cert.InBwdReferenceIdeal.defs _ _).mono (fun r h c => ?_) (Cert.InBwdReferenceIdeal.Value.run m' g')⟩
  have hk := inBwd_real m hpre c
  obtain ⟨e0, e1, e2, e3, e4, e5⟩ := hargs c
  obtain ⟨h0, h1, h2, h3, hrest⟩ := h c
  have hr : Cert.InBwdReferenceIdeal.Nb.Args _ _ _ _ _ _ _ _ _ _ :=
    ⟨fun a b => (congrFun e0 _).trans (hk.a0 a b), fun a b => (congrFun e1 _).trans (hk.a1 a b), fun a b => (congrFun e2 _).trans (hk.a2 a b),
      fun b => (congrFun e3 _).trans (hk.a3 b), fun b => (congrFun e4 _).trans (hk.a4 b)⟩
  refine ⟨h0.trans ((Cert.InBwdReferenceIdeal.Read.val_main_v52_eq m' c).trans (Eq.trans ?_ (Cert.InBwdIdeal.Nb.arr6 hk).symm)),
    h1.trans ((Cert.InBwdReferenceIdeal.Read.val_main_v35_eq _ _ _ _).trans (Eq.trans ?_ (Cert.InBwdIdeal.Nb.arr7 hk).symm)),
    h2.trans ((Cert.InBwdReferenceIdeal.Read.val_main_v30_eq _ _ _ _).trans (Eq.trans ?_ (Cert.InBwdIdeal.Nb.arr8 hk).symm)),
    h3.trans ((Cert.InBwdReferenceIdeal.Read.val_main_v27_eq _ _).trans (Eq.trans ?_ (Cert.InBwdIdeal.Nb.arr9 hk).symm)), hrest⟩
  · refine funext fun i => ?_
    rw [Idealize.ShloMosaic.ValueIdx.eq_ix2 i]
    exact (Cert.InBwdReferenceIdeal.Nb.dx_eq hr _ (i 0) (i 1)).trans (congrArg _ (congrFun e5 _))
  · refine funext fun i => ?_
    rw [Cert.Norm.row0 i]
    exact Cert.InBwdReferenceIdeal.Nb.dnw_eq hr (i 1)
  · refine funext fun i => ?_
    rw [Cert.Norm.row0 i]
    exact Cert.InBwdReferenceIdeal.Nb.dscale_eq hr (i 1)
  · refine funext fun i => ?_
    rw [Cert.Norm.row0 i]
    exact Cert.InBwdReferenceIdeal.Nb.dshift_eq hr (i 1)

/-- The reference ends, changing no argument; it declares no semaphore. -/
theorem inBwd_reference_frame : Cert.quiescent_InBwdReferenceIdeal := fun m ρ _ =>
  (θ_run Cert.InBwdReferenceIdeal.defs _ _).mono (fun r h => ⟨fun c => (h c).2.2.2.2, sem_eq_zero_of_no_sems (by decide) r.2⟩) (Cert.InBwdReferenceIdeal.Value.run m ρ)

instance : Cert.Pre_finite_ffn_in.Facts where
  bitsLt_bf16_f32 := by decide
  bcast_S_S4096x5632 := by decide
  bcast_S_S1024x5632 := by decide
  bcast_S_S4096x1024 := by decide
  bcast_S_S1x1024 := by decide

/-- Under the precondition the arguments that the derivative depends on are real. -/
theorem ffnInBwd_real (m : (ℓ : Loc Cert.FfnInBwdIdeal.nD Cert.FfnInBwdIdeal.τ Cert.FfnInBwdIdeal.sig) → Buf (Elt Ideal) ℓ) (h : Cert.Pre_FfnInBwdIdeal_finite_ffn_in m) (c : Dev Cert.FfnInBwdIdeal.nD) :
    Cert.FfnInBwdIdeal.Nb.Args m c (fun a b => ((m ((c.tc : Thread Cert.FfnInBwdIdeal.nD Cert.FfnInBwdIdeal.τ).loc Cert.FfnInBwdIdeal.main_arg0) (ix2 a b) : EReal).toReal : ℝ)) (fun a b => ((m ((c.tc : Thread Cert.FfnInBwdIdeal.nD Cert.FfnInBwdIdeal.τ).loc Cert.FfnInBwdIdeal.main_arg1) (ix2 a b) : EReal).toReal : ℝ))
      (fun a b => ((m ((c.tc : Thread Cert.FfnInBwdIdeal.nD Cert.FfnInBwdIdeal.τ).loc Cert.FfnInBwdIdeal.main_arg2) (ix2 a b) : EReal).toReal : ℝ)) (fun b => ((m ((c.tc : Thread Cert.FfnInBwdIdeal.nD Cert.FfnInBwdIdeal.τ).loc Cert.FfnInBwdIdeal.main_arg3) (ix2 0 b) : EReal).toReal : ℝ)) (fun b => ((m ((c.tc : Thread Cert.FfnInBwdIdeal.nD Cert.FfnInBwdIdeal.τ).loc Cert.FfnInBwdIdeal.main_arg4) (ix2 0 b) : EReal).toReal : ℝ)) := by
  have top (i) : constant (F := Ideal) Cert.Pre_finite_ffn_in.S_ .f32 0x7F800000#32 i = ⊤ := Cert.Gm.ofBits_inf
  obtain ⟨h0, h1, h2, h3, h4⟩ := h c
  exact ⟨fun a b => Cert.Gm.real_of_lt _ _ (fun i => top _) h0 (ix2 a b), fun a b => Cert.Gm.real_of_lt _ _ (fun i => top _) h1 (ix2 a b),
    fun a b => Cert.Gm.real_of_lt _ _ (fun i => top _) h2 (ix2 a b), fun b => Cert.Gm.real_of_lt _ _ (fun i => top _) h3 (ix2 0 b),
    fun b => Cert.Gm.real_of_lt _ _ (fun i => top _) h4 (ix2 0 b)⟩

theorem ffnInBwd_algebraic : Cert.algebraic_FfnInBwdIdeal_FfnInBwdReferenceIdeal_pre_finite_ffn_in := by
  intro m g m' g' hpre hargs
  refine ⟨_, _, _, _, Cert.FfnInBwdIdeal.Value.run_blocks m g, (θ_run Cert.FfnInBwdReferenceIdeal.defs _ _).mono (fun r h c => ?_) (Cert.FfnInBwdReferenceIdeal.Value.run m' g')⟩
  have hk := ffnInBwd_real m hpre c
  obtain ⟨e0, e1, e2, e3, e4, e5⟩ := hargs c
  obtain ⟨h0, h1, h2, h3, hrest⟩ := h c
  have hr : Cert.FfnInBwdReferenceIdeal.Nb.Args _ _ _ _ _ _ _ _ _ _ :=
    ⟨fun a b => (congrFun e0 _).trans (hk.a0 a b), fun a b => (congrFun e1 _).trans (hk.a1 a b), fun a b => (congrFun e2 _).trans (hk.a2 a b),
      fun b => (congrFun e3 _).trans (hk.a3 b), fun b => (congrFun e4 _).trans (hk.a4 b)⟩
  refine ⟨h0.trans ((Cert.FfnInBwdReferenceIdeal.Read.val_main_v52_eq m' c).trans (Eq.trans ?_ (Cert.FfnInBwdIdeal.Nb.arr6 hk).symm)),
    h1.trans ((Cert.FfnInBwdReferenceIdeal.Read.val_main_v35_eq _ _ _ _).trans (Eq.trans ?_ (Cert.FfnInBwdIdeal.Nb.arr7 hk).symm)),
    h2.trans ((Cert.FfnInBwdReferenceIdeal.Read.val_main_v30_eq _ _ _ _).trans (Eq.trans ?_ (Cert.FfnInBwdIdeal.Nb.arr8 hk).symm)),
    h3.trans ((Cert.FfnInBwdReferenceIdeal.Read.val_main_v27_eq _ _).trans (Eq.trans ?_ (Cert.FfnInBwdIdeal.Nb.arr9 hk).symm)), hrest⟩
  · refine funext fun i => ?_
    rw [Idealize.ShloMosaic.ValueIdx.eq_ix2 i]
    exact (Cert.FfnInBwdReferenceIdeal.Nb.dx_eq hr _ (i 0) (i 1)).trans (congrArg _ (congrFun e5 _))
  · refine funext fun i => ?_
    rw [Cert.Norm.row0 i]
    exact Cert.FfnInBwdReferenceIdeal.Nb.dnw_eq hr (i 1)
  · refine funext fun i => ?_
    rw [Cert.Norm.row0 i]
    exact Cert.FfnInBwdReferenceIdeal.Nb.dscale_eq hr (i 1)
  · refine funext fun i => ?_
    rw [Cert.Norm.row0 i]
    exact Cert.FfnInBwdReferenceIdeal.Nb.dshift_eq hr (i 1)

/-- The reference ends, changing no argument; it declares no semaphore. -/
theorem ffnInBwd_reference_frame : Cert.quiescent_FfnInBwdReferenceIdeal := fun m ρ _ =>
  (θ_run Cert.FfnInBwdReferenceIdeal.defs _ _).mono (fun r h => ⟨fun c => (h c).2.2.2.2, sem_eq_zero_of_no_sems (by decide) r.2⟩) (Cert.FfnInBwdReferenceIdeal.Value.run m ρ)

end Cert.Proof
end
-- ==== Proof.Silu.lean ====
module

public import proofs.«01_k».proof.Proof.GmSpec
public import Mathlib.Analysis.SpecialFunctions.Trigonometric.DerivHyp

/-! The logistic function, written with a hyperbolic tangent. -/

@[expose] public section

noncomputable section

namespace Cert.Dense

open Idealize.ShloMosaic

theorem half_tanh (x : ℝ) : 1 / 2 * Real.tanh (1 / 2 * x) + 1 / 2 = (1 + Real.exp (-x))⁻¹ := by
  have e : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have hp := Real.exp_pos (1 / 2 * x)
  have hn := Real.exp_pos (-(1 / 2 * x))
  rw [Real.tanh_eq_sinh_div_cosh, Real.sinh_eq, Real.cosh_eq, e]
  set a := Real.exp (1 / 2 * x)
  set b := Real.exp (-(1 / 2 * x))
  have hb : b = a⁻¹ := by field_simp; linarith [h1]
  rw [hb]
  field_simp
  ring

/-- With the patterns of one half, at the infinities too. -/
theorem sigmoid (x : EReal) : Ideal.ofBits .f32 1056964608#32 * Ideal.tanh (Ideal.ofBits .f32 1056964608#32 * x) + Ideal.ofBits .f32 1056964608#32 = Ideal.logistic x := by
  rw [Cert.Gm.ofBits_half]
  have hp : (0 : ℝ) < 1 / 2 := by norm_num
  induction x using EReal.rec with
  | bot =>
    rw [EReal.coe_mul_bot_of_pos hp, Ideal.logistic_bot, show Ideal.tanh ⊥ = ((-1 : ℝ) : EReal) from rfl, ← EReal.coe_mul, ← EReal.coe_add]
    norm_num
  | top =>
    rw [EReal.coe_mul_top_of_pos hp, Ideal.logistic_top, show Ideal.tanh ⊤ = ((1 : ℝ) : EReal) from rfl, ← EReal.coe_mul, ← EReal.coe_add]
    norm_num
  | coe r =>
    rw [Ideal.logistic_coe, ← EReal.coe_mul, show Ideal.tanh ((1 / 2 * r : ℝ) : EReal) = ((Real.tanh (1 / 2 * r) : ℝ) : EReal) from rfl, ← EReal.coe_mul, ← EReal.coe_add, half_tanh]

end Cert.Dense

end
-- ==== Proof.FwdSpec.lean ====
module

public import proofs.«01_k».proof.Proof.Silu
public import proofs.«01_k».proof.Proof.Sums

/-! The forward products of a layer, as functions of whole arrays over the extended reals. -/

@[expose] public section

noncomputable section

namespace Cert.Dense

open Idealize.ShloMosaic

/-- A row, normed and modulated. -/
def normMod (x nw sc sh : Fin 1024 → EReal) (k : Fin 1024) : EReal :=
  x k * Ideal.rsqrt (Ideal.div (∑ j, x j * x j) (Ideal.ofBits .f32 1149239296#32) + Ideal.ofBits .f32 897988541#32) * nw k * (1 + sc k) + sh k

def hidden (x : (⟨2, ![4096, 1024]⟩ : Shape).Idx → EReal) (nw sc sh : (⟨2, ![1, 1024]⟩ : Shape).Idx → EReal) (t : Fin 4096) (k : Fin 1024) : EReal :=
  normMod (fun k => x (ix2 t k)) (fun k => nw (ix2 0 k)) (fun k => sc (ix2 0 k)) (fun k => sh (ix2 0 k)) k

/-- A row times a matrix. -/
def rowMul {K N : ℕ} (a : Fin K → EReal) (w : (⟨2, ![K, N]⟩ : Shape).Idx → EReal) (q : Fin N) : EReal := ∑ k, a k * w (ix2 k q)

/-- The gate's activation. -/
def silu (z : EReal) : EReal := z * Ideal.logistic z

/-- Two halves of a row: the first gates the second. -/
def gated (p : Fin 5632 → EReal) (q : Fin 2816) : EReal := silu (p ⟨q.val, by omega⟩) * p ⟨2816 + q.val, by omega⟩

def product {K N : ℕ} (y : (⟨2, ![4096, K]⟩ : Shape).Idx → EReal) (w : (⟨2, ![K, N]⟩ : Shape).Idx → EReal) (t : Fin 4096) (q : Fin N) : EReal :=
  rowMul (fun k => y (ix2 t k)) w q

/-- The product, gated and added to the residual stream. -/
def resid {K : ℕ} (y : (⟨2, ![4096, K]⟩ : Shape).Idx → EReal) (w : (⟨2, ![K, 1024]⟩ : Shape).Idx → EReal) (x : (⟨2, ![4096, 1024]⟩ : Shape).Idx → EReal)
    (g : (⟨2, ![1, 1024]⟩ : Shape).Idx → EReal) (t : Fin 4096) (q : Fin 1024) : EReal :=
  x (ix2 t q) + g (ix2 0 q) * product y w t q

end Cert.Dense

end
-- ==== Proof.InFwdEq.lean ====
module

public import proofs.«01_k».proof.Proof.Gen.InFwdIdeal.Value
public import proofs.«01_k».proof.Proof.Gen.InFwdReferenceIdeal.Read
public import proofs.«01_k».proof.Proof.FwdSpec
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The norm, the modulation and the input projection: what the call's arrays and the reference's hold. -/

@[expose] public section

set_option maxRecDepth 16384

noncomputable section

namespace Cert.InFwdIdeal.Fw

open Cert.InFwdIdeal Cert.InFwdIdeal.Gen Cert.Dense Idealize.ShloMosaic Idealize.ShloMosaic.TcCoe

section
variable (x : Vec Ideal S512x1024 .f32) (nw sc sh : Vec Ideal S1x1024 .f32) (w : Vec Ideal S1024x5120 .bf16)

theorem hid_at (r : Fin 512) (k : Fin 1024) : k0_pay1 x nw sc sh (ix2 r k)
    = normMod (fun k => x (ix2 r k)) (fun k => nw (ix2 0 k)) (fun k => sc (ix2 0 k)) (fun k => sh (ix2 0 k)) k := by
  pointwise [k0_pay1]
  rfl

theorem mul_at (r : Fin 512) (q : Fin 5120) : k0_pay2 x nw sc sh w (ix2 r q)
    = rowMul (normMod (fun k => x (ix2 r k)) (fun k => nw (ix2 0 k)) (fun k => sc (ix2 0 k)) (fun k => sh (ix2 0 k))) w q := by
  pointwise [k0_pay2]
  simp only [hid_at]
  rfl

end

variable (m : (ℓ : Loc nD τ sig) → Buf (Elt Ideal) ℓ)

theorem idx : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] := by
  decide +kernel

theorem blk0 (c : Dev nD) (t : Fin cfg0.N) (r : Fin 512) (q : Fin 1024) :
    iblk m c 0 t (ix2 r q) = m ((c : Thread nD τ).loc main_arg0) (ix2 (brow 512 t.val r) q) := by
  have hr := brow_val (b := 512) (n := 8) rfl t.isLt r
  blk_point [iblk, V, idx t]
theorem blk1 (c : Dev nD) (t : Fin cfg0.N) (q : Fin 1024) :
    iblk m c 1 t (ix2 0 q) = m ((c : Thread nD τ).loc main_arg1) (ix2 0 q) := by
  blk_point [iblk, V, idx t]
theorem blk2 (c : Dev nD) (t : Fin cfg0.N) (q : Fin 1024) :
    iblk m c 2 t (ix2 0 q) = m ((c : Thread nD τ).loc main_arg2) (ix2 0 q) := by
  blk_point [iblk, V, idx t]
theorem blk3 (c : Dev nD) (t : Fin cfg0.N) (q : Fin 1024) :
    iblk m c 3 t (ix2 0 q) = m ((c : Thread nD τ).loc main_arg3) (ix2 0 q) := by
  blk_point [iblk, V, idx t]
theorem blk4 (c : Dev nD) (t : Fin cfg0.N) (r : Fin 1024) (q : Fin 5120) :
    iblk m c 4 t (ix2 r q) = m ((c : Thread nD τ).loc main_arg4) (ix2 r q) := by
  blk_point [iblk, V, idx t]

theorem hid_blk (c : Dev nD) (t : Fin cfg0.N) (r : Fin 512) :
    normMod (fun k => iblk m c 0 t (ix2 r k)) (fun k => iblk m c 1 t (ix2 0 k)) (fun k => iblk m c 2 t (ix2 0 k)) (fun k => iblk m c 3 t (ix2 0 k))
      = hidden (m ((c : Thread nD τ).loc main_arg0)) (m ((c : Thread nD τ).loc main_arg1)) (m ((c : Thread nD τ).loc main_arg2)) (m ((c : Thread nD τ).loc main_arg3)) (brow 512 t.val r) := by
  simp only [blk0, blk1, blk2, blk3]
  rfl

theorem mul_blk (c : Dev nD) (t : Fin cfg0.N) (r : Fin 512) (q : Fin 5120) :
    k0_pay2 (iblk m c 0 t) (iblk m c 1 t) (iblk m c 2 t) (iblk m c 3 t) (iblk m c 4 t) (ix2 r q)
      = rowMul (hidden (m ((c : Thread nD τ).loc main_arg0)) (m ((c : Thread nD τ).loc main_arg1)) (m ((c : Thread nD τ).loc main_arg2)) (m ((c : Thread nD τ).loc main_arg3)) (brow 512 t.val r)) (m ((c : Thread nD τ).loc main_arg4)) q := by
  refine (mul_at _ _ _ _ _ r q).trans ?_
  rw [hid_blk]
  unfold rowMul
  simp only [blk4]

theorem arr5 (c : Dev nD) : (dats m 0 c).arrAt 5 cfg0.N = fun i => hidden (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  have hr := brow_val (b := 512) (n := 8) rfl t.isLt (y 0)
  blk_simp [idx t]
  rw [after0_5]
  have e : (win0_5.blk t).view.emb y = ix2 (brow 512 t.val (y 0)) (y 1) := by
    refine funext fun a => Fin.ext ((win0_5.rect_emb_val t _ a).trans ?_)
    fin_cases a <;> simp [idx t, hr]
  rw [e, Idealize.ShloMosaic.ValueIdx.eq_ix2 y]
  unfold out0_5
  rw [View.canon_cons_unit_zero zero2]
  simp only [View.ld_unit_zero (S := S512x1024) zero2, View.ld_unit_zero (S := S1x1024) zero2, View.ld_unit_zero (S := S1024x5120) zero2]
  exact (hid_at _ _ _ _ (y 0) (y 1)).trans (congrFun (hid_blk m c t (y 0)) (y 1))

theorem arr6 (c : Dev nD) : (dats m 0 c).arrAt 6 cfg0.N = fun i => rowMul (hidden (m ((c : Thread nD τ).loc main_arg0)) (m ((c : Thread nD τ).loc main_arg1)) (m ((c : Thread nD τ).loc main_arg2)) (m ((c : Thread nD τ).loc main_arg3)) (i 0)) (m ((c : Thread nD τ).loc main_arg4)) (i 1) := by
  refine (dats m 0 c).arrAt_eq_of_covers 6 _ (by decide +kernel) fun t hf y => ?_
  have hr := brow_val (b := 512) (n := 8) rfl t.isLt (y 0)
  blk_simp [idx t]
  rw [after0_6]
  have e : (win0_6.blk t).view.emb y = ix2 (brow 512 t.val (y 0)) (y 1) := by
    refine funext fun a => Fin.ext ((win0_6.rect_emb_val t _ a).trans ?_)
    fin_cases a <;> simp [idx t, hr]
  rw [e, Idealize.ShloMosaic.ValueIdx.eq_ix2 y]
  unfold out0_6
  rw [View.canon_cons_unit_zero zero2]
  simp only [View.ld_unit_zero (S := S512x1024) zero2, View.ld_unit_zero (S := S1x1024) zero2, View.ld_unit_zero (S := S1024x5120) zero2]
  exact mul_blk m c t (y 0) (y 1)

end Cert.InFwdIdeal.Fw

namespace Cert.InFwdReferenceIdeal.Fw

open Cert.InFwdReferenceIdeal Cert.InFwdReferenceIdeal.Read Cert.Dense Idealize.ShloMosaic Idealize.ShloMosaic.TcCoe

variable (x0 : Vec Ideal S4096x1024 .f32) (x1 x2 x3 : Vec Ideal S1x1024 .f32) (x4 : Vec Ideal S1024x5120 .bf16)

theorem hid_at (t : Fin 4096) (k : Fin 1024) : val_main_v17 (F := Ideal) x0 x1 x2 x3 (ix2 t k) = hidden x0 x1 x2 x3 t k := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem hid : val_main_v18 (F := Ideal) x0 x1 x2 x3 = fun i => hidden x0 x1 x2 x3 (i 0) (i 1) := by
  refine funext fun i => ?_
  rw [Idealize.ShloMosaic.ValueIdx.eq_ix2 i]
  pointwise [val_main_v18]
  exact hid_at x0 x1 x2 x3 (i 0) (i 1)

theorem mul_at (t : Fin 4096) (q : Fin 5120) : val_main_v20 (F := Ideal) x0 x1 x2 x3 x4 (ix2 t q) = rowMul (hidden x0 x1 x2 x3 t) x4 q := by
  pointwise [val_main_v20, val_main_v19]
  simp only [hid_at]
  rfl

theorem mul : val_main_v20 (F := Ideal) x0 x1 x2 x3 x4 = fun i => rowMul (hidden x0 x1 x2 x3 (i 0)) x4 (i 1) := by
  refine funext fun i => ?_
  rw [Idealize.ShloMosaic.ValueIdx.eq_ix2 i]
  exact mul_at x0 x1 x2 x3 x4 (i 0) (i 1)

end Cert.InFwdReferenceIdeal.Fw

end
-- ==== Proof.FfnInFwdEq.lean ====
module

public import proofs.«01_k».proof.Proof.Gen.FfnInFwdIdeal.Value
public import proofs.«01_k».proof.Proof.Gen.FfnInFwdReferenceIdeal.Read
public import proofs.«01_k».proof.Proof.FwdSpec
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The norm, the modulation, the product and the gate of the feed-forward layer: what the call's arrays and the reference's hold. -/

@[expose] public section

set_option maxRecDepth 16384

noncomputable section

namespace Cert.FfnInFwdIdeal.Fw

open Cert.FfnInFwdIdeal Cert.FfnInFwdIdeal.Gen Cert.Dense Idealize.ShloMosaic Idealize.ShloMosaic.TcCoe

section
variable (x : Vec Ideal S512x1024 .f32) (nw sc sh : Vec Ideal S1x1024 .f32) (w : Vec Ideal S1024x5632 .bf16)

theorem hid_at (r : Fin 512) (k : Fin 1024) : k0_pay2 x nw sc sh (ix2 r k)
    = normMod (fun k => x (ix2 r k)) (fun k => nw (ix2 0 k)) (fun k => sc (ix2 0 k)) (fun k => sh (ix2 0 k)) k := by
  pointwise [k0_pay2]
  rfl

theorem mul_at (r : Fin 512) (q : Fin 5632) : k0_pay3 x nw sc sh w (ix2 r q)
    = rowMul (normMod (fun k => x (ix2 r k)) (fun k => nw (ix2 0 k)) (fun k => sc (ix2 0 k)) (fun k => sh (ix2 0 k))) w q := by
  pointwise [k0_pay3]
  simp only [hid_at]
  rfl

theorem trunc_at (r : Fin 512) (q : Fin 5632) : k0_pay4 x nw sc sh w (ix2 r q) = k0_pay3 x nw sc sh w (ix2 r q) := by
  pointwise [k0_pay4]

theorem act_at (r : Fin 512) (q : Fin 2816) : k0_pay1 (k0_pay3 x nw sc sh w) (k0_pay5 x nw sc sh w) (k0_pay6 x nw sc sh w) (k0_pay7 (F := Ideal)) (ix2 r q)
    = silu (k0_pay3 x nw sc sh w (ix2 r ⟨q.val, by omega⟩)) * (k0_pay3 x nw sc sh w (ix2 r ⟨2816 + q.val, by omega⟩) : EReal) := by
  pointwise [k0_pay1, k0_pay5, k0_pay6, k0_pay7]
  rw [sigmoid]
  rfl

end

variable (m : (ℓ : Loc nD τ sig) → Buf (Elt Ideal) ℓ)

theorem idx : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] := by
  decide +kernel

theorem blk0 (c : Dev nD) (t : Fin cfg0.N) (r : Fin 512) (q : Fin 1024) :
    iblk m c 0 t (ix2 r q) = m ((c : Thread nD τ).loc main_arg0) (ix2 (brow 512 t.val r) q) := by
  have hr := brow_val (b := 512) (n := 8) rfl t.isLt r
  blk_point [iblk, V, idx t]
theorem blk1 (c : Dev nD) (t : Fin cfg0.N) (q : Fin 1024) :
    iblk m c 1 t (ix2 0 q) = m ((c : Thread nD τ).loc main_arg1) (ix2 0 q) := by
  blk_point [iblk, V, idx t]
theorem blk2 (c : Dev nD) (t : Fin cfg0.N) (q : Fin 1024) :
    iblk m c 2 t (ix2 0 q) = m ((c : Thread nD τ).loc main_arg2) (ix2 0 q) := by
  blk_point [iblk, V, idx t]
theorem blk3 (c : Dev nD) (t : Fin cfg0.N) (q : Fin 1024) :
    iblk m c 3 t (ix2 0 q) = m ((c : Thread nD τ).loc main_arg3) (ix2 0 q) := by
  blk_point [iblk, V, idx t]
theorem blk4 (c : Dev nD) (t : Fin cfg0.N) (r : Fin 1024) (q : Fin 5632) :
    iblk m c 4 t (ix2 r q) = m ((c : Thread nD τ).loc main_arg4) (ix2 r q) := by
  blk_point [iblk, V, idx t]

theorem hid_blk (c : Dev nD) (t : Fin cfg0.N) (r : Fin 512) :
    normMod (fun k => iblk m c 0 t (ix2 r k)) (fun k => iblk m c 1 t (ix2 0 k)) (fun k => iblk m c 2 t (ix2 0 k)) (fun k => iblk m c 3 t (ix2 0 k))
      = hidden (m ((c : Thread nD τ).loc main_arg0)) (m ((c : Thread nD τ).loc main_arg1)) (m ((c : Thread nD τ).loc main_arg2)) (m ((c : Thread nD τ).loc main_arg3)) (brow 512 t.val r) := by
  simp only [blk0, blk1, blk2, blk3]
  rfl

theorem mul_blk (c : Dev nD) (t : Fin cfg0.N) (r : Fin 512) (q : Fin 5632) :
    k0_pay3 (iblk m c 0 t) (iblk m c 1 t) (iblk m c 2 t) (iblk m c 3 t) (iblk m c 4 t) (ix2 r q)
      = rowMul (hidden (m ((c : Thread nD τ).loc main_arg0)) (m ((c : Thread nD τ).loc main_arg1)) (m ((c : Thread nD τ).loc main_arg2)) (m ((c : Thread nD τ).loc main_arg3)) (brow 512 t.val r)) (m ((c : Thread nD τ).loc main_arg4)) q := by
  refine (mul_at _ _ _ _ _ r q).trans ?_
  rw [hid_blk]
  unfold rowMul
  simp only [blk4]

theorem act_blk (c : Dev nD) (t : Fin cfg0.N) (r : Fin 512) (q : Fin 2816) :
    k0_pay1 (k0_pay3 (iblk m c 0 t) (iblk m c 1 t) (iblk m c 2 t) (iblk m c 3 t) (iblk m c 4 t)) (k0_pay5 (iblk m c 0 t) (iblk m c 1 t) (iblk m c 2 t) (iblk m c 3 t) (iblk m c 4 t))
        (k0_pay6 (iblk m c 0 t) (iblk m c 1 t) (iblk m c 2 t) (iblk m c 3 t) (iblk m c 4 t)) (k0_pay7 (F := Ideal)) (ix2 r q)
      = gated (rowMul (hidden (m ((c : Thread nD τ).loc main_arg0)) (m ((c : Thread nD τ).loc main_arg1)) (m ((c : Thread nD τ).loc main_arg2)) (m ((c : Thread nD τ).loc main_arg3)) (brow 512 t.val r)) (m ((c : Thread nD τ).loc main_arg4))) q := by
  refine (act_at _ _ _ _ _ r q).trans ?_
  rw [mul_blk, mul_blk]
  rfl

theorem arr5 (c : Dev nD) : (dats m 0 c).arrAt 5 cfg0.N = fun i => hidden (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  have hr := brow_val (b := 512) (n := 8) rfl t.isLt (y 0)
  blk_simp [idx t]
  rw [after0_5]
  have e : (win0_5.blk t).view.emb y = ix2 (brow 512 t.val (y 0)) (y 1) := by
    refine funext fun a => Fin.ext ((win0_5.rect_emb_val t _ a).trans ?_)
    fin_cases a <;> simp [idx t, hr]
  rw [e, Idealize.ShloMosaic.ValueIdx.eq_ix2 y]
  unfold out0_5
  rw [View.canon_cons_unit_zero zero2]
  simp only [View.ld_unit_zero (S := S512x1024) zero2, View.ld_unit_zero (S := S1x1024) zero2, View.ld_unit_zero (S := S1024x5632) zero2]
  exact (hid_at _ _ _ _ (y 0) (y 1)).trans (congrFun (hid_blk m c t (y 0)) (y 1))

theorem arr6 (c : Dev nD) : (dats m 0 c).arrAt 6 cfg0.N = fun i => rowMul (hidden (m ((c : Thread nD τ).loc main_arg0)) (m ((c : Thread nD τ).loc main_arg1)) (m ((c : Thread nD τ).loc main_arg2)) (m ((c : Thread nD τ).loc main_arg3)) (i 0)) (m ((c : Thread nD τ).loc main_arg4)) (i 1) := by
  refine (dats m 0 c).arrAt_eq_of_covers 6 _ (by decide +kernel) fun t hf y => ?_
  have hr := brow_val (b := 512) (n := 8) rfl t.isLt (y 0)
  blk_simp [idx t]
  rw [after0_6]
  have e : (win0_6.blk t).view.emb y = ix2 (brow 512 t.val (y 0)) (y 1) := by
    refine funext fun a => Fin.ext ((win0_6.rect_emb_val t _ a).trans ?_)
    fin_cases a <;> simp [idx t, hr]
  rw [e, Idealize.ShloMosaic.ValueIdx.eq_ix2 y]
  unfold out0_6
  rw [View.canon_cons_unit_zero zero2]
  simp only [View.ld_unit_zero (S := S512x1024) zero2, View.ld_unit_zero (S := S1x1024) zero2, View.ld_unit_zero (S := S1024x5632) zero2]
  exact (trunc_at _ _ _ _ _ (y 0) (y 1)).trans (mul_blk m c t (y 0) (y 1))

theorem arr7 (c : Dev nD) : (dats m 0 c).arrAt 7 cfg0.N = fun i => gated (rowMul (hidden (m ((c : Thread nD τ).loc main_arg0)) (m ((c : Thread nD τ).loc main_arg1)) (m ((c : Thread nD τ).loc main_arg2)) (m ((c : Thread nD τ).loc main_arg3)) (i 0)) (m ((c : Thread nD τ).loc main_arg4))) (i 1) := by
  refine (dats m 0 c).arrAt_eq_of_covers 7 _ (by decide +kernel) fun t hf y => ?_
  have hr := brow_val (b := 512) (n := 8) rfl t.isLt (y 0)
  blk_simp [idx t]
  rw [after0_7]
  have e : (win0_7.blk t).view.emb y = ix2 (brow 512 t.val (y 0)) (y 1) := by
    refine funext fun a => Fin.ext ((win0_7.rect_emb_val t _ a).trans ?_)
    fin_cases a <;> simp [idx t, hr]
  rw [e, Idealize.ShloMosaic.ValueIdx.eq_ix2 y]
  unfold out0_7
  rw [View.canon_cons_unit_zero zero2]
  simp only [View.ld_unit_zero (S := S512x1024) zero2, View.ld_unit_zero (S := S1x1024) zero2, View.ld_unit_zero (S := S1024x5632) zero2]
  exact act_blk m c t (y 0) (y 1)

end Cert.FfnInFwdIdeal.Fw

namespace Cert.FfnInFwdReferenceIdeal.Fw

open Cert.FfnInFwdReferenceIdeal Cert.FfnInFwdReferenceIdeal.Read Cert.Dense Idealize.ShloMosaic Idealize.ShloMosaic.TcCoe

variable (x0 : Vec Ideal S4096x1024 .f32) (x1 x2 x3 : Vec Ideal S1x1024 .f32) (x4 : Vec Ideal S1024x5632 .bf16)

theorem hid_at (t : Fin 4096) (k : Fin 1024) : val_main_v17 (F := Ideal) x0 x1 x2 x3 (ix2 t k) = hidden x0 x1 x2 x3 t k := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem hid : val_main_v24 (F := Ideal) x0 x1 x2 x3 = fun i => hidden x0 x1 x2 x3 (i 0) (i 1) := by
  refine funext fun i => ?_
  rw [Idealize.ShloMosaic.ValueIdx.eq_ix2 i]
  pointwise [val_main_v24]
  exact hid_at x0 x1 x2 x3 (i 0) (i 1)

theorem mul_at (t : Fin 4096) (q : Fin 5632) : val_main_v19 (F := Ideal) x0 x1 x2 x3 x4 (ix2 t q) = rowMul (hidden x0 x1 x2 x3 t) x4 q := by
  pointwise [val_main_v19, val_main_v18]
  simp only [hid_at]
  rfl

theorem mul : val_main_v25 (F := Ideal) x0 x1 x2 x3 x4 = fun i => rowMul (hidden x0 x1 x2 x3 (i 0)) x4 (i 1) := by
  refine funext fun i => ?_
  rw [Idealize.ShloMosaic.ValueIdx.eq_ix2 i]
  pointwise [val_main_v25]
  exact mul_at x0 x1 x2 x3 x4 (i 0) (i 1)

theorem act_at (t : Fin 4096) (q : Fin 2816) : val_main_v26 (F := Ideal) x0 x1 x2 x3 x4 (ix2 t q) = gated (rowMul (hidden x0 x1 x2 x3 t) x4) q := by
  pointwise [val_main_v26, val_main_v23, val_main_v22, val_main_v21, val_main_v20, val_main_call0_v0, val_main_call0_v1, val_main_call0_cst, val_main_call0_v2, val_main_call0_v3,
    val_main_call0_cst_0, val_main_call0_v4, val_main_call0_v5]
  simp only [mul_at]
  rfl

theorem act : val_main_v26 (F := Ideal) x0 x1 x2 x3 x4 = fun i => gated (rowMul (hidden x0 x1 x2 x3 (i 0)) x4) (i 1) := by
  refine funext fun i => ?_
  rw [Idealize.ShloMosaic.ValueIdx.eq_ix2 i]
  exact act_at x0 x1 x2 x3 x4 (i 0) (i 1)

end Cert.FfnInFwdReferenceIdeal.Fw

end
-- ==== Proof.OutFwdEq.lean ====
module

public import proofs.«01_k».proof.Proof.Gen.OutFwdIdeal.Value
public import proofs.«01_k».proof.Proof.Gen.OutFwdReferenceIdeal.Read
public import proofs.«01_k».proof.Proof.FwdSpec
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The output projection, gated and added to the residual stream: what the call's arrays and the reference's hold. -/

@[expose] public section

set_option maxRecDepth 16384

noncomputable section

namespace Cert.OutFwdIdeal.Fw

open Cert.OutFwdIdeal Cert.OutFwdIdeal.Gen Cert.Dense Idealize.ShloMosaic Idealize.ShloMosaic.TcCoe

section
variable (y : Vec Ideal S512x1024 .f32) (w : Vec Ideal S1024x1024 .bf16) (x : Vec Ideal S512x1024 .f32) (g : Vec Ideal S1x1024 .f32)

theorem mul_at (r : Fin 512) (q : Fin 1024) : k0_pay1 y w (ix2 r q) = rowMul (fun k => y (ix2 r k)) w q := by
  pointwise [k0_pay1]
  rfl

theorem resid_at (r : Fin 512) (q : Fin 1024) : k0_pay2 y w x g (ix2 r q) = x (ix2 r q) + g (ix2 0 q) * rowMul (fun k => y (ix2 r k)) w q := by
  pointwise [k0_pay2]
  rw [mul_at]

end

variable (m : (ℓ : Loc nD τ sig) → Buf (Elt Ideal) ℓ)

theorem idx : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] := by
  decide +kernel

theorem blk0 (c : Dev nD) (t : Fin cfg0.N) (r : Fin 512) (q : Fin 1024) :
    iblk m c 0 t (ix2 r q) = m ((c : Thread nD τ).loc main_arg0) (ix2 (brow 512 t.val r) q) := by
  have hr := brow_val (b := 512) (n := 8) rfl t.isLt r
  blk_point [iblk, V, idx t]
theorem blk1 (c : Dev nD) (t : Fin cfg0.N) (r : Fin 1024) (q : Fin 1024) :
    iblk m c 1 t (ix2 r q) = m ((c : Thread nD τ).loc main_arg1) (ix2 r q) := by
  blk_point [iblk, V, idx t]
theorem blk2 (c : Dev nD) (t : Fin cfg0.N) (r : Fin 512) (q : Fin 1024) :
    iblk m c 2 t (ix2 r q) = m ((c : Thread nD τ).loc main_arg2) (ix2 (brow 512 t.val r) q) := by
  have hr := brow_val (b := 512) (n := 8) rfl t.isLt r
  blk_point [iblk, V, idx t]
theorem blk3 (c : Dev nD) (t : Fin cfg0.N) (q : Fin 1024) :
    iblk m c 3 t (ix2 0 q) = m ((c : Thread nD τ).loc main_arg3) (ix2 0 q) := by
  blk_point [iblk, V, idx t]

theorem mul_blk (c : Dev nD) (t : Fin cfg0.N) (r : Fin 512) (q : Fin 1024) :
    rowMul (K := 1024) (fun k => iblk m c 0 t (ix2 r k)) (iblk m c 1 t) q = product (m ((c : Thread nD τ).loc main_arg0)) (m ((c : Thread nD τ).loc main_arg1)) (brow 512 t.val r) q := by
  unfold rowMul
  simp only [blk0, blk1]
  rfl

theorem resid_blk (c : Dev nD) (t : Fin cfg0.N) (r : Fin 512) (q : Fin 1024) :
    k0_pay2 (iblk m c 0 t) (iblk m c 1 t) (iblk m c 2 t) (iblk m c 3 t) (ix2 r q) = resid (m ((c : Thread nD τ).loc main_arg0)) (m ((c : Thread nD τ).loc main_arg1)) (m ((c : Thread nD τ).loc main_arg2)) (m ((c : Thread nD τ).loc main_arg3)) (brow 512 t.val r) q := by
  refine (resid_at _ _ _ _ r q).trans ?_
  rw [mul_blk, blk2, blk3]
  rfl

theorem arr4 (c : Dev nD) : (dats m 0 c).arrAt 4 cfg0.N = fun i => resid (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  have hr := brow_val (b := 512) (n := 8) rfl t.isLt (y 0)
  blk_simp [idx t]
  rw [after0_4]
  have e : (win0_4.blk t).view.emb y = ix2 (brow 512 t.val (y 0)) (y 1) := by
    refine funext fun a => Fin.ext ((win0_4.rect_emb_val t _ a).trans ?_)
    fin_cases a <;> simp [idx t, hr]
  rw [e, Idealize.ShloMosaic.ValueIdx.eq_ix2 y]
  unfold out0_4
  rw [View.canon_cons_unit_zero zero2]
  simp only [View.ld_unit_zero (S := S512x1024) zero2, View.ld_unit_zero (S := S1x1024) zero2, View.ld_unit_zero (S := S512x1024) zero2, View.ld_unit_zero (S := S1024x1024) zero2]
  exact resid_blk m c t (y 0) (y 1)

theorem arr5 (c : Dev nD) : (dats m 0 c).arrAt 5 cfg0.N = fun i => product (m ((c : Thread nD τ).loc main_arg0)) (m ((c : Thread nD τ).loc main_arg1)) (i 0) (i 1) := by
  refine (dats m 0 c).arrAt_eq_of_covers 5 _ (by decide +kernel) fun t hf y => ?_
  have hr := brow_val (b := 512) (n := 8) rfl t.isLt (y 0)
  blk_simp [idx t]
  rw [after0_5]
  have e : (win0_5.blk t).view.emb y = ix2 (brow 512 t.val (y 0)) (y 1) := by
    refine funext fun a => Fin.ext ((win0_5.rect_emb_val t _ a).trans ?_)
    fin_cases a <;> simp [idx t, hr]
  rw [e, Idealize.ShloMosaic.ValueIdx.eq_ix2 y]
  unfold out0_5
  rw [View.canon_cons_unit_zero zero2]
  simp only [View.ld_unit_zero (S := S512x1024) zero2, View.ld_unit_zero (S := S1x1024) zero2, View.ld_unit_zero (S := S512x1024) zero2, View.ld_unit_zero (S := S1024x1024) zero2]
  exact (mul_at _ _ (y 0) (y 1)).trans (mul_blk m c t (y 0) (y 1))

end Cert.OutFwdIdeal.Fw

namespace Cert.OutFwdReferenceIdeal.Fw

open Cert.OutFwdReferenceIdeal Cert.OutFwdReferenceIdeal.Read Cert.Dense Idealize.ShloMosaic Idealize.ShloMosaic.TcCoe

variable (x0 : Vec Ideal S4096x1024 .f32) (x1 : Vec Ideal S1024x1024 .bf16) (x2 : Vec Ideal S4096x1024 .f32) (x3 : Vec Ideal S1x1024 .f32)

theorem mul : val_main_v1 (F := Ideal) x0 x1 = fun i => product x0 x1 (i 0) (i 1) := by
  refine funext fun i => ?_
  rw [Idealize.ShloMosaic.ValueIdx.eq_ix2 i]
  pointwise [val_main_v1, val_main_v0]
  rfl

theorem out : val_main_v4 (F := Ideal) x0 x1 x2 x3 = fun i => resid x0 x1 x2 x3 (i 0) (i 1) := by
  refine funext fun i => ?_
  rw [Idealize.ShloMosaic.ValueIdx.eq_ix2 i]
  pointwise [val_main_v4, val_main_v3, val_main_v2]
  rw [mul]
  rfl

end Cert.OutFwdReferenceIdeal.Fw

end
-- ==== Proof.FfnOutFwdEq.lean ====
module

public import proofs.«01_k».proof.Proof.Gen.FfnOutFwdIdeal.Value
public import proofs.«01_k».proof.Proof.Gen.FfnOutFwdReferenceIdeal.Read
public import proofs.«01_k».proof.Proof.FwdSpec
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The feed-forward output, gated and added to the residual stream: what the call's arrays and the reference's hold. -/

@[expose] public section

set_option maxRecDepth 16384

noncomputable section

namespace Cert.FfnOutFwdIdeal.Fw

open Cert.FfnOutFwdIdeal Cert.FfnOutFwdIdeal.Gen Cert.Dense Idealize.ShloMosaic Idealize.ShloMosaic.TcCoe

section
variable (y : Vec Ideal S512x2816 .bf16) (w : Vec Ideal S2816x1024 .bf16) (x : Vec Ideal S512x1024 .f32) (g : Vec Ideal S1x1024 .f32)

theorem mul_at (r : Fin 512) (q : Fin 1024) : k0_pay1 y w (ix2 r q) = rowMul (fun k => y (ix2 r k)) w q := by
  pointwise [k0_pay1]
  rfl

theorem resid_at (r : Fin 512) (q : Fin 1024) : k0_pay2 y w x g (ix2 r q) = x (ix2 r q) + g (ix2 0 q) * rowMul (fun k => y (ix2 r k)) w q := by
  pointwise [k0_pay2]
  rw [mul_at]

end

variable (m : (ℓ : Loc nD τ sig) → Buf (Elt Ideal) ℓ)

theorem idx : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] := by
  decide +kernel

theorem blk0 (c : Dev nD) (t : Fin cfg0.N) (r : Fin 512) (q : Fin 2816) :
    iblk m c 0 t (ix2 r q) = m ((c : Thread nD τ).loc main_arg0) (ix2 (brow 512 t.val r) q) := by
  have hr := brow_val (b := 512) (n := 8) rfl t.isLt r
  blk_point [iblk, V, idx t]
theorem blk1 (c : Dev nD) (t : Fin cfg0.N) (r : Fin 2816) (q : Fin 1024) :
    iblk m c 1 t (ix2 r q) = m ((c : Thread nD τ).loc main_arg1) (ix2 r q) := by
  blk_point [iblk, V, idx t]
theorem blk2 (c : Dev nD) (t : Fin cfg0.N) (r : Fin 512) (q : Fin 1024) :
    iblk m c 2 t (ix2 r q) = m ((c : Thread nD τ).loc main_arg2) (ix2 (brow 512 t.val r) q) := by
  have hr := brow_val (b := 512) (n := 8) rfl t.isLt r
  blk_point [iblk, V, idx t]
theorem blk3 (c : Dev nD) (t : Fin cfg0.N) (q : Fin 1024) :
    iblk m c 3 t (ix2 0 q) = m ((c : Thread nD τ).loc main_arg3) (ix2 0 q) := by
  blk_point [iblk, V, idx t]

theorem mul_blk (c : Dev nD) (t : Fin cfg0.N) (r : Fin 512) (q : Fin 1024) :
    rowMul (K := 2816) (fun k => iblk m c 0 t (ix2 r k)) (iblk m c 1 t) q = product (m ((c : Thread nD τ).loc main_arg0)) (m ((c : Thread nD τ).loc main_arg1)) (brow 512 t.val r) q := by
  unfold rowMul
  simp only [blk0, blk1]
  rfl

theorem resid_blk (c : Dev nD) (t : Fin cfg0.N) (r : Fin 512) (q : Fin 1024) :
    k0_pay2 (iblk m c 0 t) (iblk m c 1 t) (iblk m c 2 t) (iblk m c 3 t) (ix2 r q) = resid (m ((c : Thread nD τ).loc main_arg0)) (m ((c : Thread nD τ).loc main_arg1)) (m ((c : Thread nD τ).loc main_arg2)) (m ((c : Thread nD τ).loc main_arg3)) (brow 512 t.val r) q := by
  refine (resid_at _ _ _ _ r q).trans ?_
  rw [mul_blk, blk2, blk3]
  rfl

theorem arr4 (c : Dev nD) : (dats m 0 c).arrAt 4 cfg0.N = fun i => resid (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  have hr := brow_val (b := 512) (n := 8) rfl t.isLt (y 0)
  blk_simp [idx t]
  rw [after0_4]
  have e : (win0_4.blk t).view.emb y = ix2 (brow 512 t.val (y 0)) (y 1) := by
    refine funext fun a => Fin.ext ((win0_4.rect_emb_val t _ a).trans ?_)
    fin_cases a <;> simp [idx t, hr]
  rw [e, Idealize.ShloMosaic.ValueIdx.eq_ix2 y]
  unfold out0_4
  rw [View.canon_cons_unit_zero zero2]
  simp only [View.ld_unit_zero (S := S512x1024) zero2, View.ld_unit_zero (S := S1x1024) zero2, View.ld_unit_zero (S := S512x2816) zero2, View.ld_unit_zero (S := S2816x1024) zero2]
  exact resid_blk m c t (y 0) (y 1)

theorem arr5 (c : Dev nD) : (dats m 0 c).arrAt 5 cfg0.N = fun i => product (m ((c : Thread nD τ).loc main_arg0)) (m ((c : Thread nD τ).loc main_arg1)) (i 0) (i 1) := by
  refine (dats m 0 c).arrAt_eq_of_covers 5 _ (by decide +kernel) fun t hf y => ?_
  have hr := brow_val (b := 512) (n := 8) rfl t.isLt (y 0)
  blk_simp [idx t]
  rw [after0_5]
  have e : (win0_5.blk t).view.emb y = ix2 (brow 512 t.val (y 0)) (y 1) := by
    refine funext fun a => Fin.ext ((win0_5.rect_emb_val t _ a).trans ?_)
    fin_cases a <;> simp [idx t, hr]
  rw [e, Idealize.ShloMosaic.ValueIdx.eq_ix2 y]
  unfold out0_5
  rw [View.canon_cons_unit_zero zero2]
  simp only [View.ld_unit_zero (S := S512x1024) zero2, View.ld_unit_zero (S := S1x1024) zero2, View.ld_unit_zero (S := S512x2816) zero2, View.ld_unit_zero (S := S2816x1024) zero2]
  exact (mul_at _ _ (y 0) (y 1)).trans (mul_blk m c t (y 0) (y 1))

end Cert.FfnOutFwdIdeal.Fw

namespace Cert.FfnOutFwdReferenceIdeal.Fw

open Cert.FfnOutFwdReferenceIdeal Cert.FfnOutFwdReferenceIdeal.Read Cert.Dense Idealize.ShloMosaic Idealize.ShloMosaic.TcCoe

variable (x0 : Vec Ideal S4096x2816 .bf16) (x1 : Vec Ideal S2816x1024 .bf16) (x2 : Vec Ideal S4096x1024 .f32) (x3 : Vec Ideal S1x1024 .f32)

theorem mul : val_main_v2 (F := Ideal) x0 x1 = fun i => product x0 x1 (i 0) (i 1) := by
  refine funext fun i => ?_
  rw [Idealize.ShloMosaic.ValueIdx.eq_ix2 i]
  pointwise [val_main_v2, val_main_v1, val_main_v0]
  rfl

theorem out : val_main_v5 (F := Ideal) x0 x1 x2 x3 = fun i => resid x0 x1 x2 x3 (i 0) (i 1) := by
  refine funext fun i => ?_
  rw [Idealize.ShloMosaic.ValueIdx.eq_ix2 i]
  pointwise [val_main_v5, val_main_v4, val_main_v3]
  rw [mul]
  rfl

end Cert.FfnOutFwdReferenceIdeal.Fw

end
-- ==== Proof.FwdClaims.lean ====
module

public import proofs.«01_k».proof.Defs
public import proofs.«01_k».proof.Proof.Gen.InFwd.Frame
public import proofs.«01_k».proof.Proof.Gen.InFwdReferenceIdeal.Run
public import proofs.«01_k».proof.Proof.InFwdEq
public import proofs.«01_k».proof.Proof.Gen.FfnInFwd.Frame
public import proofs.«01_k».proof.Proof.Gen.FfnInFwdReferenceIdeal.Run
public import proofs.«01_k».proof.Proof.FfnInFwdEq
public import proofs.«01_k».proof.Proof.Gen.OutFwd.Frame
public import proofs.«01_k».proof.Proof.Gen.OutFwdReferenceIdeal.Run
public import proofs.«01_k».proof.Proof.OutFwdEq
public import proofs.«01_k».proof.Proof.Gen.FfnOutFwd.Frame
public import proofs.«01_k».proof.Proof.Gen.FfnOutFwdReferenceIdeal.Run
public import proofs.«01_k».proof.Proof.FfnOutFwdEq

/-! The claims of the forward products. -/

@[expose] public section

open Idealize.ShloMosaic

noncomputable section

namespace Cert.Proof

theorem inFwd_algebraic : Cert.algebraic_InFwdIdeal_InFwdReferenceIdeal := by
  intro m g m' g' _ hargs
  refine ⟨_, _, Cert.InFwdIdeal.Value.run_blocks m g, (θ_run Cert.InFwdReferenceIdeal.defs _ _).mono (fun r h c => ?_) (Cert.InFwdReferenceIdeal.Value.run m' g')⟩
  obtain ⟨e0, e1, e2, e3, e4⟩ := hargs c
  obtain ⟨h0, h1, hrest⟩ := h c
  exact ⟨h0.trans ((Cert.InFwdReferenceIdeal.Read.val_main_v18_eq _ _ _ _ ).trans ((Cert.InFwdReferenceIdeal.Fw.hid _ _ _ _ ).trans (by rw [Cert.InFwdIdeal.Fw.arr5, e0, e1, e2, e3]; rfl))),
    h1.trans ((Cert.InFwdReferenceIdeal.Read.val_main_v20_eq _ _ _ _ _ ).trans ((Cert.InFwdReferenceIdeal.Fw.mul _ _ _ _ _ ).trans (by rw [Cert.InFwdIdeal.Fw.arr6, e0, e1, e2, e3, e4]; rfl))), hrest⟩

/-- The reference ends, changing no argument; it declares no semaphore. -/
theorem inFwd_reference_frame : Cert.quiescent_InFwdReferenceIdeal := fun m ρ _ =>
  (θ_run Cert.InFwdReferenceIdeal.defs _ _).mono (fun r h => ⟨fun c => (h c).2.2, sem_eq_zero_of_no_sems (by decide) r.2⟩) (Cert.InFwdReferenceIdeal.Value.run m ρ)

theorem ffnInFwd_algebraic : Cert.algebraic_FfnInFwdIdeal_FfnInFwdReferenceIdeal := by
  intro m g m' g' _ hargs
  refine ⟨_, _, _, Cert.FfnInFwdIdeal.Value.run_blocks m g, (θ_run Cert.FfnInFwdReferenceIdeal.defs _ _).mono (fun r h c => ?_) (Cert.FfnInFwdReferenceIdeal.Value.run m' g')⟩
  obtain ⟨e0, e1, e2, e3, e4⟩ := hargs c
  obtain ⟨h0, h1, h2, hrest⟩ := h c
  exact ⟨h0.trans ((Cert.FfnInFwdReferenceIdeal.Read.val_main_v24_eq _ _ _ _ ).trans ((Cert.FfnInFwdReferenceIdeal.Fw.hid _ _ _ _ ).trans (by rw [Cert.FfnInFwdIdeal.Fw.arr5, e0, e1, e2, e3]; rfl))),
    h1.trans ((Cert.FfnInFwdReferenceIdeal.Read.val_main_v25_eq _ _ _ _ _ ).trans ((Cert.FfnInFwdReferenceIdeal.Fw.mul _ _ _ _ _ ).trans (by rw [Cert.FfnInFwdIdeal.Fw.arr6, e0, e1, e2, e3, e4]; rfl))),
    h2.trans ((Cert.FfnInFwdReferenceIdeal.Read.val_main_v26_eq _ _ _ _ _ ).trans ((Cert.FfnInFwdReferenceIdeal.Fw.act _ _ _ _ _ ).trans (by rw [Cert.FfnInFwdIdeal.Fw.arr7, e0, e1, e2, e3, e4]; rfl))), hrest⟩

/-- The reference ends, changing no argument; it declares no semaphore. -/
theorem ffnInFwd_reference_frame : Cert.quiescent_FfnInFwdReferenceIdeal := fun m ρ _ =>
  (θ_run Cert.FfnInFwdReferenceIdeal.defs _ _).mono (fun r h => ⟨fun c => (h c).2.2.2, sem_eq_zero_of_no_sems (by decide) r.2⟩) (Cert.FfnInFwdReferenceIdeal.Value.run m ρ)

theorem outFwd_algebraic : Cert.algebraic_OutFwdIdeal_OutFwdReferenceIdeal := by
  intro m g m' g' _ hargs
  refine ⟨_, _, Cert.OutFwdIdeal.Value.run_blocks m g, (θ_run Cert.OutFwdReferenceIdeal.defs _ _).mono (fun r h c => ?_) (Cert.OutFwdReferenceIdeal.Value.run m' g')⟩
  obtain ⟨e0, e1, e2, e3⟩ := hargs c
  obtain ⟨h0, h1, hrest⟩ := h c
  exact ⟨h0.trans ((Cert.OutFwdReferenceIdeal.Read.val_main_v4_eq _ _ _ _ ).trans ((Cert.OutFwdReferenceIdeal.Fw.out _ _ _ _ ).trans (by rw [Cert.OutFwdIdeal.Fw.arr4, e0, e1, e2, e3]; rfl))),
    h1.trans ((Cert.OutFwdReferenceIdeal.Read.val_main_v1_eq _ _ ).trans ((Cert.OutFwdReferenceIdeal.Fw.mul _ _ ).trans (by rw [Cert.OutFwdIdeal.Fw.arr5, e0, e1]; rfl))), hrest⟩

/-- The reference ends, changing no argument; it declares no semaphore. -/
theorem outFwd_reference_frame : Cert.quiescent_OutFwdReferenceIdeal := fun m ρ _ =>
  (θ_run Cert.OutFwdReferenceIdeal.defs _ _).mono (fun r h => ⟨fun c => (h c).2.2, sem_eq_zero_of_no_sems (by decide) r.2⟩) (Cert.OutFwdReferenceIdeal.Value.run m ρ)

theorem ffnOutFwd_algebraic : Cert.algebraic_FfnOutFwdIdeal_FfnOutFwdReferenceIdeal := by
  intro m g m' g' _ hargs
  refine ⟨_, _, Cert.FfnOutFwdIdeal.Value.run_blocks m g, (θ_run Cert.FfnOutFwdReferenceIdeal.defs _ _).mono (fun r h c => ?_) (Cert.FfnOutFwdReferenceIdeal.Value.run m' g')⟩
  obtain ⟨e0, e1, e2, e3⟩ := hargs c
  obtain ⟨h0, h1, hrest⟩ := h c
  exact ⟨h0.trans ((Cert.FfnOutFwdReferenceIdeal.Read.val_main_v5_eq _ _ _ _ ).trans ((Cert.FfnOutFwdReferenceIdeal.Fw.out _ _ _ _ ).trans (by rw [Cert.FfnOutFwdIdeal.Fw.arr4, e0, e1, e2, e3]; rfl))),
    h1.trans ((Cert.FfnOutFwdReferenceIdeal.Read.val_main_v2_eq _ _ ).trans ((Cert.FfnOutFwdReferenceIdeal.Fw.mul _ _ ).trans (by rw [Cert.FfnOutFwdIdeal.Fw.arr5, e0, e1]; rfl))), hrest⟩

/-- The reference ends, changing no argument; it declares no semaphore. -/
theorem ffnOutFwd_reference_frame : Cert.quiescent_FfnOutFwdReferenceIdeal := fun m ρ _ =>
  (θ_run Cert.FfnOutFwdReferenceIdeal.defs _ _).mono (fun r h => ⟨fun c => (h c).2.2, sem_eq_zero_of_no_sems (by decide) r.2⟩) (Cert.FfnOutFwdReferenceIdeal.Value.run m ρ)

end Cert.Proof

end
-- ==== Proof.BwdSpec.lean ====
module

public import proofs.«01_k».proof.Proof.FwdSpec

/-! The gradient of a gated product that is added to the residual stream, as functions of whole arrays over the extended reals. -/

@[expose] public section

noncomputable section

namespace Cert.Dense

open Idealize.ShloMosaic

/-- The cotangent of the product: the rows' cotangent times the gate. -/
def cotan {R : ℕ} (ct : (⟨2, ![R, 1024]⟩ : Shape).Idx → EReal) (g : (⟨2, ![1, 1024]⟩ : Shape).Idx → EReal) (t : Fin R) (k : Fin 1024) : EReal :=
  ct (ix2 t k) * g (ix2 0 k)

/-- A row times the transpose of a matrix. -/
def rowMulT {K : ℕ} (a : Fin 1024 → EReal) (w : (⟨2, ![K, 1024]⟩ : Shape).Idx → EReal) (f : Fin K) : EReal := ∑ k, a k * w (ix2 f k)

/-- The cotangent of the gate at one row, the product being `o`. -/
def weigh (ct : (⟨2, ![4096, 1024]⟩ : Shape).Idx → EReal) (o : Fin 4096 → Fin 1024 → EReal) (k : Fin 1024) (t : Fin 4096) : EReal := ct (ix2 t k) * o t k

/-- The gate's gradient. -/
def dgate (ct : (⟨2, ![4096, 1024]⟩ : Shape).Idx → EReal) (o : Fin 4096 → Fin 1024 → EReal) (k : Fin 1024) : EReal := ∑ t, weigh ct o k t

/-- The product of the gated activation. -/
def gatedProduct (w : (⟨2, ![2816, 1024]⟩ : Shape).Idx → EReal) (gu : (⟨2, ![4096, 5632]⟩ : Shape).Idx → EReal) (t : Fin 4096) (q : Fin 1024) : EReal :=
  rowMul (gated (fun j => gu (ix2 t j))) w q

/-- The gradient of the gated activation: `d` is its cotangent, the first half is the gate's and the second the other factor's. -/
def dgated (d : Fin 2816 → EReal) (gu : Fin 5632 → EReal) (j : Fin 5632) : EReal :=
  if h : j.val < 2816 then
    d ⟨j.val, h⟩ * gu ⟨2816 + j.val, by omega⟩ * (Ideal.logistic (gu j) * (1 + gu j * (1 - Ideal.logistic (gu j))))
  else d ⟨j.val - 2816, by omega⟩ * silu (gu ⟨j.val - 2816, by omega⟩)

/-- The two forms of the derivative of the gate's activation. -/
theorem dsilu (d g : ℝ) : (d : EReal) * (Ideal.logistic g * (1 + g * (1 - Ideal.logistic g)))
    = d * Ideal.logistic g + g * d * (Ideal.logistic g * (1 - Ideal.logistic g)) := by
  rw [Ideal.logistic_coe, ← EReal.coe_one]
  simp only [← EReal.coe_mul, ← EReal.coe_add, ← EReal.coe_sub]
  congr 1
  ring

end Cert.Dense

end
-- ==== Proof.OutBwdEq.lean ====
module

public import proofs.«01_k».proof.Proof.Gen.OutBwdIdeal.Value
public import proofs.«01_k».proof.Proof.Gen.OutBwdReferenceIdeal.Read
public import proofs.«01_k».proof.Proof.BwdSpec
public import proofs.«01_k».proof.Proof.NormPay
public import Idealize.ShloMosaic.Lib.StableHlo.ReadAt
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The gradient of the output projection, its gate and its argument: what the call's arrays and the reference's hold. -/

@[expose] public section

set_option maxRecDepth 16384

noncomputable section

namespace Cert.OutBwdIdeal.Bw

open Cert.OutBwdIdeal Cert.OutBwdIdeal.Gen Cert.Dense Idealize.ShloMosaic Idealize.ShloMosaic.TcCoe

section
variable (v0 : Vec Ideal S512x1024 .f32) (v1 : Vec Ideal S1x1024 .f32) (w : Vec Ideal S1024x1024 .bf16) (o : Vec Ideal S512x1024 .f32) (a : Vec Ideal S1x1024 .f32)

theorem cot_at (r : Fin 512) (k : Fin 1024) : k0_pay1 v0 v1 (ix2 r k) = cotan v0 v1 r k := by
  pointwise [k0_pay1]
  rfl

theorem back_at (r : Fin 512) (f : Fin 1024) : k0_pay4 v0 v1 w (ix2 r f) = rowMulT (cotan v0 v1 r) w f := by
  pointwise [k0_pay4]
  simp only [cot_at]
  rfl

theorem zero_at (k : Fin 1024) : k0_pay2 (F := Ideal) (ix2 0 k) = (0 : EReal) := by
  pointwise [k0_pay2]

theorem acc_at (k : Fin 1024) : k0_pay3 v0 o a (ix2 0 k) = a (ix2 0 k) + ∑ r : Fin 512, v0 (ix2 r k) * o (ix2 r k) := by
  pointwise [k0_pay3]

end

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole)
  (x0 : Vec Ideal S512x1024 .f32) (x1 : Vec Ideal S1x1024 .f32) (x2 : Vec Ideal S512x1024 .f32) (x3 : Vec Ideal S1024x1024 .bf16) (xo6 : Vec Ideal S1x1024 .f32)
theorem out_A_4 (hc0 : cond0_0 i) :
    out0_A_4 c i arg1 harg1 arg2 harg2 arg3 harg3 arg4 harg4 arg5 harg5 arg6 harg6 arg7 harg7 hc0 x0 x1 x2 x3 = k0_pay4 x0 x1 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S512x1024) zero2, View.ld_unit_zero (S := S1x1024) zero2, View.ld_unit_zero (S := S1024x1024) zero2]
  rw [View.canon_cons_unit_zero zero2]

theorem out_A_5 (hc0 : cond0_0 i) :
    out0_A_5 c i arg1 harg1 arg2 harg2 arg3 harg3 arg4 harg4 arg5 harg5 arg6 harg6 arg7 harg7 hc0 x0 x1 x2 x3 = k0_pay1 x0 x1 := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S512x1024) zero2, View.ld_unit_zero (S := S1x1024) zero2, View.ld_unit_zero (S := S1024x1024) zero2]
  rw [View.canon_cons_unit_zero zero2]

theorem out_A_6 (hc0 : cond0_0 i) :
    out0_A_6 c i arg1 harg1 arg2 harg2 arg3 harg3 arg4 harg4 arg5 harg5 arg6 harg6 arg7 harg7 hc0 x0 x1 x2 x3 = k0_pay3 x0 x2 (k0_pay2 (F := Ideal)) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S512x1024) zero2, View.ld_unit_zero (S := S1x1024) zero2, View.ld_unit_zero (S := S1024x1024) zero2]
  rw [View.canon_cons_unit_zero zero2, View.readCov_cons_toLoadRect]

theorem out_B_4 (hc0 : ¬cond0_0 i) :
    out0_B_4 c i arg1 harg1 arg2 harg2 arg3 harg3 arg4 harg4 arg5 harg5 arg6 harg6 arg7 harg7 hc0 x0 x1 x2 x3 xo6 = k0_pay4 x0 x1 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S512x1024) zero2, View.ld_unit_zero (S := S1x1024) zero2, View.ld_unit_zero (S := S1024x1024) zero2]
  rw [View.canon_cons_unit_zero zero2]

theorem out_B_5 (hc0 : ¬cond0_0 i) :
    out0_B_5 c i arg1 harg1 arg2 harg2 arg3 harg3 arg4 harg4 arg5 harg5 arg6 harg6 arg7 harg7 hc0 x0 x1 x2 x3 xo6 = k0_pay1 x0 x1 := by
  unfold out0_B_5
  rw [View.read_writes_eq_canon _ _ _ (cover0_B_5 c i arg1 harg1 arg2 harg2 arg3 harg3 arg4 harg4 arg5 harg5 arg6 harg6 arg7 harg7 hc0 x0 x1 x2 x3 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S512x1024) zero2, View.ld_unit_zero (S := S1x1024) zero2, View.ld_unit_zero (S := S1024x1024) zero2]
  rw [View.canon_cons_unit_zero zero2]

theorem out_B_6 (hc0 : ¬cond0_0 i) :
    out0_B_6 c i arg1 harg1 arg2 harg2 arg3 harg3 arg4 harg4 arg5 harg5 arg6 harg6 arg7 harg7 hc0 x0 x1 x2 x3 xo6 = k0_pay3 x0 x2 xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S512x1024) zero2, View.ld_unit_zero (S := S1x1024) zero2, View.ld_unit_zero (S := S1024x1024) zero2]
  rw [View.canon_cons_unit_zero zero2]

end

variable (m : (ℓ : Loc nD τ sig) → Buf (Elt Ideal) ℓ)

theorem idx : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] := by
  decide +kernel

theorem V_o (c : Dev nD) (t : Fin 4096) (q : Fin 1024) : V m c main_v1 (ix2 t q) = product (m ((c : Thread nD τ).loc main_arg3)) (m ((c : Thread nD τ).loc main_arg2)) t q := by
  unfold V
  after_reads_at
  rfl

theorem blk0 (c : Dev nD) (t : Fin cfg0.N) (r : Fin 512) (q : Fin 1024) :
    iblk m c 0 t (ix2 r q) = m ((c : Thread nD τ).loc main_arg0) (ix2 (brow 512 t.val r) q) := by
  have hr := brow_val (b := 512) (n := 8) rfl t.isLt r
  blk_point [iblk, V, idx t]
theorem blk1 (c : Dev nD) (t : Fin cfg0.N) (q : Fin 1024) :
    iblk m c 1 t (ix2 0 q) = m ((c : Thread nD τ).loc main_arg1) (ix2 0 q) := by
  blk_point [iblk, V, idx t]
theorem blk2 (c : Dev nD) (t : Fin cfg0.N) (r : Fin 512) (q : Fin 1024) : iblk m c 2 t (ix2 r q) = product (m ((c : Thread nD τ).loc main_arg3)) (m ((c : Thread nD τ).loc main_arg2)) (brow 512 t.val r) q := by
  have hr := brow_val (b := 512) (n := 8) rfl t.isLt r
  refine Eq.trans ?_ (V_o m c (brow 512 t.val r) q)
  blk_point [iblk, idx t]
theorem blk3 (c : Dev nD) (t : Fin cfg0.N) (r : Fin 1024) (q : Fin 1024) :
    iblk m c 3 t (ix2 r q) = m ((c : Thread nD τ).loc main_arg2) (ix2 r q) := by
  blk_point [iblk, V, idx t]

theorem cot_blk (c : Dev nD) (t : Fin cfg0.N) (r : Fin 512) :
    cotan (R := 512) (iblk m c 0 t) (iblk m c 1 t) r = cotan (m ((c : Thread nD τ).loc main_arg0)) (m ((c : Thread nD τ).loc main_arg1)) (brow 512 t.val r) := by
  funext k
  exact congrArg₂ (fun a b : EReal => a * b) (blk0 m c t r k) (blk1 m c t k)

theorem back_blk (c : Dev nD) (t : Fin cfg0.N) (r : Fin 512) (f : Fin 1024) :
    rowMulT (cotan (R := 512) (iblk m c 0 t) (iblk m c 1 t) r) (iblk m c 3 t) f = rowMulT (cotan (m ((c : Thread nD τ).loc main_arg0)) (m ((c : Thread nD τ).loc main_arg1)) (brow 512 t.val r)) (m ((c : Thread nD τ).loc main_arg2)) f := by
  rw [cot_blk]
  unfold rowMulT
  simp only [blk3]

theorem acc_blk (c : Dev nD) (t : Fin cfg0.N) (a : Vec Ideal S1x1024 .f32) (q : Fin 1024) : k0_pay3 (iblk m c 0 t) (iblk m c 2 t) a (ix2 0 q)
    = a (ix2 0 q) + ∑ r : Fin 512, weigh (m ((c : Thread nD τ).loc main_arg0)) (product (m ((c : Thread nD τ).loc main_arg3)) (m ((c : Thread nD τ).loc main_arg2))) q (brow 512 t.val r) := by
  refine (acc_at _ _ a q).trans ?_
  simp only [blk0, blk2]
  rfl

theorem outs4 (c : Dev nD) (t : Fin cfg0.N) (r : Fin 512) (f : Fin 1024) :
    (outsAt0 m c t.val t.isLt).1 (ix2 r f) = rowMulT (cotan (m ((c : Thread nD τ).loc main_arg0)) (m ((c : Thread nD τ).loc main_arg1)) (brow 512 t.val r)) (m ((c : Thread nD τ).loc main_arg2)) f := by
  by_cases h0 : t.val % 8 = 0
  · rw [outsAt0_A m c t h0, out_A_4]
    exact (back_at _ _ _ r f).trans (back_blk m c t r f)
  · rw [outsAt0_B m c t h0, out_B_4]
    exact (back_at _ _ _ r f).trans (back_blk m c t r f)

theorem outs5 (c : Dev nD) (t : Fin cfg0.N) (r : Fin 512) (k : Fin 1024) :
    (outsAt0 m c t.val t.isLt).2.1 (ix2 r k) = cotan (m ((c : Thread nD τ).loc main_arg0)) (m ((c : Thread nD τ).loc main_arg1)) (brow 512 t.val r) k := by
  by_cases h0 : t.val % 8 = 0
  · rw [outsAt0_A m c t h0]
    dsimp only
    rw [out_A_5]
    exact (cot_at _ _ r k).trans (congrFun (cot_blk m c t r) k)
  · rw [outsAt0_B m c t h0]
    dsimp only
    rw [out_B_5]
    exact (cot_at _ _ r k).trans (congrFun (cot_blk m c t r) k)

theorem outs6 (c : Dev nD) (q : Fin 1024) : ∀ (n : ℕ) (hn : n < cfg0.N), (outsAt0 m c n hn).2.2 (ix2 0 q)
    = ∑ s ∈ Finset.range (n + 1), ∑ r : Fin 512, weigh (m ((c : Thread nD τ).loc main_arg0)) (product (m ((c : Thread nD τ).loc main_arg3)) (m ((c : Thread nD τ).loc main_arg2))) q (brow 512 s r)
  | 0, hn => by
    rw [outsAt0_A m c ⟨0, hn⟩ rfl]
    dsimp only
    rw [out_A_6]
    refine (acc_blk m c ⟨0, hn⟩ _ q).trans ?_
    rw [zero_at, zero_add, Finset.sum_range_one]
  | n + 1, hn => by
    have hN : n + 1 < 8 := hn
    have h0 : ¬(n + 1) % 8 = 0 := by omega
    rw [outsAt0_B m c ⟨n + 1, hn⟩ h0]
    dsimp only
    rw [out_B_6]
    refine (acc_blk m c ⟨n + 1, hn⟩ _ q).trans ?_
    rw [Finset.sum_range_succ]
    exact congrArg (· + _) (outs6 c q n (Nat.lt_of_succ_lt hn))

theorem arr4 (c : Dev nD) : (dats m 0 c).arrAt 4 cfg0.N = fun i => rowMulT (cotan (m ((c : Thread nD τ).loc main_arg0)) (m ((c : Thread nD τ).loc main_arg1)) (i 0)) (m ((c : Thread nD τ).loc main_arg2)) (i 1) := by
  refine (dats m 0 c).arrAt_eq_of_covers 4 _ (by decide +kernel) fun t hf y => ?_
  have hr := brow_val (b := 512) (n := 8) rfl t.isLt (y 0)
  blk_simp [idx t]
  rw [after0_4]
  have e : (win0_4.blk t).view.emb y = ix2 (brow 512 t.val (y 0)) (y 1) := by
    refine funext fun a => Fin.ext ((win0_4.rect_emb_val t _ a).trans ?_)
    fin_cases a <;> simp [idx t, hr]
  rw [e, Idealize.ShloMosaic.ValueIdx.eq_ix2 y]
  exact outs4 m c t (y 0) (y 1)

theorem arr5 (c : Dev nD) : (dats m 0 c).arrAt 5 cfg0.N = fun i => cotan (m ((c : Thread nD τ).loc main_arg0)) (m ((c : Thread nD τ).loc main_arg1)) (i 0) (i 1) := by
  refine (dats m 0 c).arrAt_eq_of_covers 5 _ (by decide +kernel) fun t hf y => ?_
  have hr := brow_val (b := 512) (n := 8) rfl t.isLt (y 0)
  blk_simp [idx t]
  rw [after0_5]
  have e : (win0_5.blk t).view.emb y = ix2 (brow 512 t.val (y 0)) (y 1) := by
    refine funext fun a => Fin.ext ((win0_5.rect_emb_val t _ a).trans ?_)
    fin_cases a <;> simp [idx t, hr]
  rw [e, Idealize.ShloMosaic.ValueIdx.eq_ix2 y]
  exact outs5 m c t (y 0) (y 1)

theorem arr6 (c : Dev nD) : (dats m 0 c).arrAt 6 cfg0.N = fun i => dgate (m ((c : Thread nD τ).loc main_arg0)) (product (m ((c : Thread nD τ).loc main_arg3)) (m ((c : Thread nD τ).loc main_arg2))) (i 1) := by
  refine (dats m 0 c).arrAt_eq_of_covers 6 _ (by decide +kernel) fun t hf y => ?_
  have ht : t.val = 7 := (by decide +kernel : ∀ t : Fin grid0.N, win0_6.flush t = true → t.val = 7) t hf
  blk_simp [idx t]
  rw [after0_6]
  have e : (win0_6.blk t).view.emb y = ix2 0 (y 1) := by
    refine funext fun a => Fin.ext ((win0_6.rect_emb_val t _ a).trans ?_)
    fin_cases a <;> simp [idx t]
  have ey : y = ix2 0 (y 1) := Cert.Norm.row0 y
  rw [e, ey]
  refine (outs6 m c (y 1) t.val t.isLt).trans ?_
  rw [ht]
  exact sum_blocks 512 8 rfl _

end Cert.OutBwdIdeal.Bw

namespace Cert.OutBwdReferenceIdeal.Bw

open Cert.OutBwdReferenceIdeal Cert.OutBwdReferenceIdeal.Read Cert.Dense Idealize.ShloMosaic Idealize.ShloMosaic.TcCoe

variable (x0 : Vec Ideal S4096x1024 .f32) (x1 : Vec Ideal S1x1024 .f32) (x2 : Vec Ideal S1024x1024 .bf16) (x3 : Vec Ideal S4096x1024 .f32)

theorem o_at (t : Fin 4096) (q : Fin 1024) : val_main_v1 (F := Ideal) x2 x3 (ix2 t q) = product x3 x2 t q := by
  pointwise [val_main_v1, val_main_v0]
  rfl

theorem dgate_at (k : Fin 1024) : val_main_v8 (F := Ideal) x0 x2 x3 (ix2 0 k) = dgate x0 (product x3 x2) k := by
  pointwise [val_main_v8, val_main_v7, val_main_v6, val_main_cst]
  simp only [o_at]
  rfl

theorem dgate_eq : val_main_v8 (F := Ideal) x0 x2 x3 = fun i => dgate x0 (product x3 x2) (i 1) := by
  refine funext fun i => ?_
  rw [Cert.Norm.row0 i]
  exact dgate_at x0 x2 x3 (i 1)

theorem cot_at (t : Fin 4096) (k : Fin 1024) : val_main_v5 (F := Ideal) x0 x1 (ix2 t k) = cotan x0 x1 t k := by
  pointwise [val_main_v5, val_main_v4]
  exact mul_comm _ _

theorem gx : val_main_v10 (F := Ideal) x0 x1 = fun i => cotan x0 x1 (i 0) (i 1) := by
  refine funext fun i => ?_
  rw [Idealize.ShloMosaic.ValueIdx.eq_ix2 i]
  pointwise [val_main_v10]
  exact cot_at x0 x1 (i 0) (i 1)

theorem back_at (t : Fin 4096) (f : Fin 1024) : val_main_v9 (F := Ideal) x0 x1 x2 (ix2 t f) = rowMulT (cotan x0 x1 t) x2 f := by
  pointwise [val_main_v9, val_main_v0]
  simp only [cot_at]
  rfl

theorem back : val_main_v9 (F := Ideal) x0 x1 x2 = fun i => rowMulT (cotan x0 x1 (i 0)) x2 (i 1) := by
  refine funext fun i => ?_
  rw [Idealize.ShloMosaic.ValueIdx.eq_ix2 i]
  exact back_at x0 x1 x2 (i 0) (i 1)

end Cert.OutBwdReferenceIdeal.Bw

end
-- ==== Proof.FfnOutBwdEq.lean ====
module

public import proofs.«01_k».proof.Proof.Gen.FfnOutBwdIdeal.Value
public import proofs.«01_k».proof.Proof.Gen.FfnOutBwdReferenceIdeal.Read
public import proofs.«01_k».proof.Proof.BwdSpec
public import proofs.«01_k».proof.Proof.NormPay
public import Idealize.ShloMosaic.Lib.StableHlo.ReadAt
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The gradient of the feed-forward output, its gate and the gated activation: what the call's arrays and the reference's hold. -/

@[expose] public section

set_option maxRecDepth 16384

noncomputable section

namespace Cert.FfnOutBwdIdeal.Bw

open Cert.FfnOutBwdIdeal Cert.FfnOutBwdIdeal.Gen Cert.Dense Idealize.ShloMosaic Idealize.ShloMosaic.TcCoe

section
variable (v0 : Vec Ideal S512x1024 .f32) (v1 : Vec Ideal S1x1024 .f32) (w : Vec Ideal S2816x1024 .bf16) (o : Vec Ideal S512x1024 .f32) (a : Vec Ideal S1x1024 .f32)

theorem cot_at (r : Fin 512) (k : Fin 1024) : k0_pay3 v0 v1 (ix2 r k) = cotan v0 v1 r k := by
  pointwise [k0_pay3]
  rfl

theorem back_at (r : Fin 512) (f : Fin 2816) : k0_pay6 v0 v1 w (ix2 r f) = rowMulT (cotan v0 v1 r) w f := by
  pointwise [k0_pay6]
  simp only [cot_at]
  rfl

theorem zero_at (k : Fin 1024) : k0_pay4 (F := Ideal) (ix2 0 k) = (0 : EReal) := by
  pointwise [k0_pay4]

theorem acc_at (k : Fin 1024) : k0_pay5 v0 o a (ix2 0 k) = a (ix2 0 k) + ∑ r : Fin 512, v0 (ix2 r k) * o (ix2 r k) := by
  pointwise [k0_pay5]

end

/-- Two halves stored one after the other, read at an index. -/
theorem canon2 (w1 w0 : S512x2816.Idx → Ideal .bf16) (L : List (View.Piece (Elt Ideal) S512x5632 .bf16)) (r : Fin 512) (c : Fin 5632)
    (h1 : ∀ a, (![0, 2816] : Fin 2 → ℕ) a + (![512, 2816] : Fin 2 → ℕ) a ≤ S512x5632.size a)
    (h0 : ∀ a, (![0, 0] : Fin 2 → ℕ) a + (![512, 2816] : Fin 2 → ℕ) a ≤ S512x5632.size a) :
    View.canon ((⟨Rect.unit ![0, 2816] ![512, 2816] h1, w1⟩ : View.Piece (Elt Ideal) S512x5632 .bf16) :: ⟨Rect.unit ![0, 0] ![512, 2816] h0, w0⟩ :: L) (ix2 r c)
      = if h : c.val < 2816 then w0 (ix2 r ⟨c.val, h⟩) else w1 (ix2 r ⟨c.val - 2816, by omega⟩) := by
  split
  · rename_i h
    rw [View.canon_cons_of_not_mem]
    · have e : (ix2 r c : S512x5632.Idx) = (Rect.unit (s := S512x5632) ![0, 0] ![512, 2816] h0).emb (ix2 r (⟨c.val, h⟩ : Fin 2816)) := by
        refine funext fun a => Fin.ext ?_
        rw [Rect.emb_apply]
        fin_cases a <;> simp [ix2]
      rw [e, View.canon_cons_emb]
    · rw [Rect.mem_set_unit]
      intro hm
      have := (hm 1).1
      simp [ix2] at this
      omega
  · rename_i h
    have e : (ix2 r c : S512x5632.Idx) = (Rect.unit (s := S512x5632) ![0, 2816] ![512, 2816] h1).emb (ix2 r (⟨c.val - 2816, by omega⟩ : Fin 2816)) := by
      refine funext fun a => Fin.ext ?_
      rw [Rect.emb_apply]
      fin_cases a <;> simp [ix2] <;> omega
    rw [e, View.canon_cons_emb]

/-- A half loaded, read at an index. -/
theorem ld_half (x : Vec Ideal S512x5632 .bf16) (b : ℕ) (r : Fin 512) (f : Fin 2816) (hb : b + 2816 ≤ 5632)
    (h : ∀ a, (![0, b] : Fin 2 → ℕ) a + (![512, 2816] : Fin 2 → ℕ) a ≤ S512x5632.size a) :
    View.ld (Val := Elt Ideal) x (Rect.unit ![0, b] ![512, 2816] h) (ix2 r f) = x (ix2 r ⟨b + f.val, by omega⟩) :=
  View.ld_unit_apply_of _ _ _ _ _ _ fun a => by fin_cases a <;> simp [ix2]

/-- The loaded halves of a block. -/
abbrev half0 (x : Vec Ideal S512x5632 .bf16) : Vec Ideal S512x2816 .bf16 :=
  View.ld (Val := Elt Ideal) x (Rect.unit (s := S512x5632) ![0, 0] S512x2816.size inb_S512x5632_S512x2816_0_0)
abbrev half1 (x : Vec Ideal S512x5632 .bf16) : Vec Ideal S512x2816 .bf16 :=
  View.ld (Val := Elt Ideal) x (Rect.unit (s := S512x5632) ![0, 2816] S512x2816.size inb_S512x5632_S512x2816_0_2816)

section
variable (v0 : Vec Ideal S512x1024 .f32) (v1 : Vec Ideal S1x1024 .f32) (w : Vec Ideal S2816x1024 .bf16) (x : Vec Ideal S512x5632 .bf16)

theorem first_at (r : Fin 512) (f : Fin 2816) : k0_pay1 (k0_pay7 (half0 x)) (k0_pay8 v0 v1 w (half1 x)) (k0_pay9 (half0 x)) (k0_pay10 (F := Ideal)) (ix2 r f)
    = rowMulT (cotan v0 v1 r) w f * x (ix2 r ⟨2816 + f.val, by omega⟩)
      * (Ideal.logistic (x (ix2 r ⟨f.val, by omega⟩)) * (1 + x (ix2 r ⟨f.val, by omega⟩) * (1 - Ideal.logistic (x (ix2 r ⟨f.val, by omega⟩))) : EReal)) := by
  have e0 : half0 x (ix2 r f) = x (ix2 r ⟨f.val, by omega⟩) := (ld_half x 0 r f (by omega) _).trans (congrArg (fun j => x (ix2 r j)) (Fin.ext (Nat.zero_add _)))
  have e1 : half1 x (ix2 r f) = x (ix2 r ⟨2816 + f.val, by omega⟩) := ld_half x 2816 r f (by omega) _
  pointwise [k0_pay1, k0_pay7, k0_pay8, k0_pay9, k0_pay10]
  rw [sigmoid, back_at, e0, e1]

theorem second_at (r : Fin 512) (f : Fin 2816) : k0_pay2 (k0_pay6 v0 v1 w) (k0_pay7 (half0 x)) (ix2 r f)
    = rowMulT (cotan v0 v1 r) w f * silu (x (ix2 r ⟨f.val, by omega⟩)) := by
  have e0 : half0 x (ix2 r f) = x (ix2 r ⟨f.val, by omega⟩) := (ld_half x 0 r f (by omega) _).trans (congrArg (fun j => x (ix2 r j)) (Fin.ext (Nat.zero_add _)))
  pointwise [k0_pay2, k0_pay7]
  rw [sigmoid, back_at, e0]
  rfl

end

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S2816x1024 .bf16) (harg4 : arg4.IsWhole) (arg5 : Memref sig .tc .vmem S512x5632 .bf16) (harg5 : arg5.IsWhole) (arg6 : Memref sig .tc .vmem S512x5632 .bf16) (harg6 : arg6.IsWhole) (arg7 : Memref sig .tc .vmem S512x1024 .bf16) (harg7 : arg7.IsWhole) (arg8 : Memref sig .tc .vmem S1x1024 .f32) (harg8 : arg8.IsWhole)
  (x0 : Vec Ideal S512x1024 .f32) (x1 : Vec Ideal S1x1024 .f32) (x2 : Vec Ideal S512x1024 .f32) (x3 : Vec Ideal S2816x1024 .bf16) (x4 : Vec Ideal S512x5632 .bf16) (xo7 : Vec Ideal S1x1024 .f32)
theorem out_A_5 (hc0 : cond0_0 i) (r : Fin 512) (j : Fin 5632) :
    out0_A_5 c i arg1 harg1 arg2 harg2 arg3 harg3 arg4 harg4 arg5 harg5 arg6 harg6 arg7 harg7 arg8 harg8 hc0 x0 x1 x2 x3 x4 (ix2 r j) = dgated (rowMulT (cotan x0 x1 r) x3) (fun j => x4 (ix2 r j)) j := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S512x1024) zero2, View.ld_unit_zero (S := S1x1024) zero2, View.ld_unit_zero (S := S2816x1024) zero2]
  refine (canon2 _ _ _ r j _ _).trans ?_
  unfold dgated
  split
  · exact first_at x0 x1 x3 x4 r _
  · exact second_at x0 x1 x3 x4 r _

theorem out_A_6 (hc0 : cond0_0 i) :
    out0_A_6 c i arg1 harg1 arg2 harg2 arg3 harg3 arg4 harg4 arg5 harg5 arg6 harg6 arg7 harg7 arg8 harg8 hc0 x0 x1 x2 x3 x4 = k0_pay3 x0 x1 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S512x1024) zero2, View.ld_unit_zero (S := S1x1024) zero2, View.ld_unit_zero (S := S2816x1024) zero2]
  rw [View.canon_cons_unit_zero zero2]

theorem out_A_7 (hc0 : cond0_0 i) :
    out0_A_7 c i arg1 harg1 arg2 harg2 arg3 harg3 arg4 harg4 arg5 harg5 arg6 harg6 arg7 harg7 arg8 harg8 hc0 x0 x1 x2 x3 x4 = k0_pay5 x0 x2 (k0_pay4 (F := Ideal)) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S512x1024) zero2, View.ld_unit_zero (S := S1x1024) zero2, View.ld_unit_zero (S := S2816x1024) zero2]
  rw [View.canon_cons_unit_zero zero2, View.readCov_cons_toLoadRect]

theorem out_B_5 (hc0 : ¬cond0_0 i) (r : Fin 512) (j : Fin 5632) :
    out0_B_5 c i arg1 harg1 arg2 harg2 arg3 harg3 arg4 harg4 arg5 harg5 arg6 harg6 arg7 harg7 arg8 harg8 hc0 x0 x1 x2 x3 x4 xo7 (ix2 r j) = dgated (rowMulT (cotan x0 x1 r) x3) (fun j => x4 (ix2 r j)) j := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo7)]
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S512x1024) zero2, View.ld_unit_zero (S := S1x1024) zero2, View.ld_unit_zero (S := S2816x1024) zero2]
  refine (canon2 _ _ _ r j _ _).trans ?_
  unfold dgated
  split
  · exact first_at x0 x1 x3 x4 r _
  · exact second_at x0 x1 x3 x4 r _

theorem out_B_6 (hc0 : ¬cond0_0 i) :
    out0_B_6 c i arg1 harg1 arg2 harg2 arg3 harg3 arg4 harg4 arg5 harg5 arg6 harg6 arg7 harg7 arg8 harg8 hc0 x0 x1 x2 x3 x4 xo7 = k0_pay3 x0 x1 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo7)]
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S512x1024) zero2, View.ld_unit_zero (S := S1x1024) zero2, View.ld_unit_zero (S := S2816x1024) zero2]
  rw [View.canon_cons_unit_zero zero2]

theorem out_B_7 (hc0 : ¬cond0_0 i) :
    out0_B_7 c i arg1 harg1 arg2 harg2 arg3 harg3 arg4 harg4 arg5 harg5 arg6 harg6 arg7 harg7 arg8 harg8 hc0 x0 x1 x2 x3 x4 xo7 = k0_pay5 x0 x2 xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo7)]
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S512x1024) zero2, View.ld_unit_zero (S := S1x1024) zero2, View.ld_unit_zero (S := S2816x1024) zero2]
  rw [View.canon_cons_unit_zero zero2]

end

variable (m : (ℓ : Loc nD τ sig) → Buf (Elt Ideal) ℓ)

theorem idx : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] := by
  decide +kernel

theorem V_o (c : Dev nD) (t : Fin 4096) (q : Fin 1024) : V m c main_v6 (ix2 t q) = gatedProduct (m ((c : Thread nD τ).loc main_arg2)) (m ((c : Thread nD τ).loc main_arg3)) t q := by
  unfold V
  after_reads_at
  rfl

theorem blk0 (c : Dev nD) (t : Fin cfg0.N) (r : Fin 512) (q : Fin 1024) :
    iblk m c 0 t (ix2 r q) = m ((c : Thread nD τ).loc main_arg0) (ix2 (brow 512 t.val r) q) := by
  have hr := brow_val (b := 512) (n := 8) rfl t.isLt r
  blk_point [iblk, V, idx t]
theorem blk1 (c : Dev nD) (t : Fin cfg0.N) (q : Fin 1024) :
    iblk m c 1 t (ix2 0 q) = m ((c : Thread nD τ).loc main_arg1) (ix2 0 q) := by
  blk_point [iblk, V, idx t]
theorem blk2 (c : Dev nD) (t : Fin cfg0.N) (r : Fin 512) (q : Fin 1024) : iblk m c 2 t (ix2 r q) = gatedProduct (m ((c : Thread nD τ).loc main_arg2)) (m ((c : Thread nD τ).loc main_arg3)) (brow 512 t.val r) q := by
  have hr := brow_val (b := 512) (n := 8) rfl t.isLt r
  refine Eq.trans ?_ (V_o m c (brow 512 t.val r) q)
  blk_point [iblk, idx t]
theorem blk3 (c : Dev nD) (t : Fin cfg0.N) (r : Fin 2816) (q : Fin 1024) :
    iblk m c 3 t (ix2 r q) = m ((c : Thread nD τ).loc main_arg2) (ix2 r q) := by
  blk_point [iblk, V, idx t]
theorem blk4 (c : Dev nD) (t : Fin cfg0.N) (r : Fin 512) (q : Fin 5632) :
    iblk m c 4 t (ix2 r q) = m ((c : Thread nD τ).loc main_arg3) (ix2 (brow 512 t.val r) q) := by
  have hr := brow_val (b := 512) (n := 8) rfl t.isLt r
  blk_point [iblk, V, idx t]

theorem cot_blk (c : Dev nD) (t : Fin cfg0.N) (r : Fin 512) :
    cotan (R := 512) (iblk m c 0 t) (iblk m c 1 t) r = cotan (m ((c : Thread nD τ).loc main_arg0)) (m ((c : Thread nD τ).loc main_arg1)) (brow 512 t.val r) := by
  funext k
  exact congrArg₂ (fun a b : EReal => a * b) (blk0 m c t r k) (blk1 m c t k)

theorem back_blk (c : Dev nD) (t : Fin cfg0.N) (r : Fin 512) (f : Fin 2816) :
    rowMulT (cotan (R := 512) (iblk m c 0 t) (iblk m c 1 t) r) (iblk m c 3 t) f = rowMulT (cotan (m ((c : Thread nD τ).loc main_arg0)) (m ((c : Thread nD τ).loc main_arg1)) (brow 512 t.val r)) (m ((c : Thread nD τ).loc main_arg2)) f := by
  rw [cot_blk]
  unfold rowMulT
  simp only [blk3]

theorem acc_blk (c : Dev nD) (t : Fin cfg0.N) (a : Vec Ideal S1x1024 .f32) (q : Fin 1024) : k0_pay5 (iblk m c 0 t) (iblk m c 2 t) a (ix2 0 q)
    = a (ix2 0 q) + ∑ r : Fin 512, weigh (m ((c : Thread nD τ).loc main_arg0)) (gatedProduct (m ((c : Thread nD τ).loc main_arg2)) (m ((c : Thread nD τ).loc main_arg3))) q (brow 512 t.val r) := by
  refine (acc_at _ _ a q).trans ?_
  simp only [blk0, blk2]
  rfl

theorem outs5 (c : Dev nD) (t : Fin cfg0.N) (r : Fin 512) (j : Fin 5632) :
    (outsAt0 m c t.val t.isLt).1 (ix2 r j) = dgated (rowMulT (cotan (m ((c : Thread nD τ).loc main_arg0)) (m ((c : Thread nD τ).loc main_arg1)) (brow 512 t.val r)) (m ((c : Thread nD τ).loc main_arg2))) (fun j => (m ((c : Thread nD τ).loc main_arg3)) (ix2 (brow 512 t.val r) j)) j := by
  have e : dgated (rowMulT (cotan (R := 512) (iblk m c 0 t) (iblk m c 1 t) r) (iblk m c 3 t)) (fun j => iblk m c 4 t (ix2 r j)) j
      = dgated (rowMulT (cotan (m ((c : Thread nD τ).loc main_arg0)) (m ((c : Thread nD τ).loc main_arg1)) (brow 512 t.val r)) (m ((c : Thread nD τ).loc main_arg2))) (fun j => (m ((c : Thread nD τ).loc main_arg3)) (ix2 (brow 512 t.val r) j)) j := by
    rw [funext (back_blk m c t r), funext (blk4 m c t r)]
  by_cases h0 : t.val % 8 = 0
  · rw [outsAt0_A m c t h0]
    dsimp only
    rw [out_A_5]
    exact e
  · rw [outsAt0_B m c t h0]
    dsimp only
    rw [out_B_5]
    exact e

theorem outs6 (c : Dev nD) (t : Fin cfg0.N) (r : Fin 512) (k : Fin 1024) :
    (outsAt0 m c t.val t.isLt).2.1 (ix2 r k) = cotan (m ((c : Thread nD τ).loc main_arg0)) (m ((c : Thread nD τ).loc main_arg1)) (brow 512 t.val r) k := by
  by_cases h0 : t.val % 8 = 0
  · rw [outsAt0_A m c t h0]
    dsimp only
    rw [out_A_6]
    exact (cot_at _ _ r k).trans (congrFun (cot_blk m c t r) k)
  · rw [outsAt0_B m c t h0]
    dsimp only
    rw [out_B_6]
    exact (cot_at _ _ r k).trans (congrFun (cot_blk m c t r) k)

theorem outs7 (c : Dev nD) (q : Fin 1024) : ∀ (n : ℕ) (hn : n < cfg0.N), (outsAt0 m c n hn).2.2 (ix2 0 q)
    = ∑ s ∈ Finset.range (n + 1), ∑ r : Fin 512, weigh (m ((c : Thread nD τ).loc main_arg0)) (gatedProduct (m ((c : Thread nD τ).loc main_arg2)) (m ((c : Thread nD τ).loc main_arg3))) q (brow 512 s r)
  | 0, hn => by
    rw [outsAt0_A m c ⟨0, hn⟩ rfl]
    dsimp only
    rw [out_A_7]
    refine (acc_blk m c ⟨0, hn⟩ _ q).trans ?_
    rw [zero_at, zero_add, Finset.sum_range_one]
  | n + 1, hn => by
    have hN : n + 1 < 8 := hn
    have h0 : ¬(n + 1) % 8 = 0 := by omega
    rw [outsAt0_B m c ⟨n + 1, hn⟩ h0]
    dsimp only
    rw [out_B_7]
    refine (acc_blk m c ⟨n + 1, hn⟩ _ q).trans ?_
    rw [Finset.sum_range_succ]
    exact congrArg (· + _) (outs7 c q n (Nat.lt_of_succ_lt hn))

theorem arr5 (c : Dev nD) : (dats m 0 c).arrAt 5 cfg0.N = fun i => dgated (rowMulT (cotan (m ((c : Thread nD τ).loc main_arg0)) (m ((c : Thread nD τ).loc main_arg1)) (i 0)) (m ((c : Thread nD τ).loc main_arg2))) (fun j => (m ((c : Thread nD τ).loc main_arg3)) (ix2 (i 0) j)) (i 1) := by
  refine (dats m 0 c).arrAt_eq_of_covers 5 _ (by decide +kernel) fun t hf y => ?_
  have hr := brow_val (b := 512) (n := 8) rfl t.isLt (y 0)
  blk_simp [idx t]
  rw [after0_5]
  have e : (win0_5.blk t).view.emb y = ix2 (brow 512 t.val (y 0)) (y 1) := by
    refine funext fun a => Fin.ext ((win0_5.rect_emb_val t _ a).trans ?_)
    fin_cases a <;> simp [idx t, hr]
  rw [e, Idealize.ShloMosaic.ValueIdx.eq_ix2 y]
  exact outs5 m c t (y 0) (y 1)

theorem arr6 (c : Dev nD) : (dats m 0 c).arrAt 6 cfg0.N = fun i => cotan (m ((c : Thread nD τ).loc main_arg0)) (m ((c : Thread nD τ).loc main_arg1)) (i 0) (i 1) := by
  refine (dats m 0 c).arrAt_eq_of_covers 6 _ (by decide +kernel) fun t hf y => ?_
  have hr := brow_val (b := 512) (n := 8) rfl t.isLt (y 0)
  blk_simp [idx t]
  rw [after0_6]
  have e : (win0_6.blk t).view.emb y = ix2 (brow 512 t.val (y 0)) (y 1) := by
    refine funext fun a => Fin.ext ((win0_6.rect_emb_val t _ a).trans ?_)
    fin_cases a <;> simp [idx t, hr]
  rw [e, Idealize.ShloMosaic.ValueIdx.eq_ix2 y]
  exact outs6 m c t (y 0) (y 1)

theorem arr7 (c : Dev nD) : (dats m 0 c).arrAt 7 cfg0.N = fun i => dgate (m ((c : Thread nD τ).loc main_arg0)) (gatedProduct (m ((c : Thread nD τ).loc main_arg2)) (m ((c : Thread nD τ).loc main_arg3))) (i 1) := by
  refine (dats m 0 c).arrAt_eq_of_covers 7 _ (by decide +kernel) fun t hf y => ?_
  have ht : t.val = 7 := (by decide +kernel : ∀ t : Fin grid0.N, win0_7.flush t = true → t.val = 7) t hf
  blk_simp [idx t]
  rw [after0_7]
  have e : (win0_7.blk t).view.emb y = ix2 0 (y 1) := by
    refine funext fun a => Fin.ext ((win0_7.rect_emb_val t _ a).trans ?_)
    fin_cases a <;> simp [idx t]
  have ey : y = ix2 0 (y 1) := Cert.Norm.row0 y
  rw [e, ey]
  refine (outs7 m c (y 1) t.val t.isLt).trans ?_
  rw [ht]
  exact sum_blocks 512 8 rfl _

end Cert.FfnOutBwdIdeal.Bw

namespace Cert.FfnOutBwdReferenceIdeal.Bw

open Cert.FfnOutBwdReferenceIdeal Cert.FfnOutBwdReferenceIdeal.Read Cert.Dense Idealize.ShloMosaic Idealize.ShloMosaic.TcCoe

variable (x0 : Vec Ideal S4096x1024 .f32) (x1 : Vec Ideal S1x1024 .f32) (x2 : Vec Ideal S2816x1024 .bf16) (x3 : Vec Ideal S4096x5632 .bf16)

theorem o_at (t : Fin 4096) (q : Fin 1024) : val_main_v6 (F := Ideal) x2 x3 (ix2 t q) = gatedProduct x2 x3 t q := by
  pointwise [val_main_v6, val_main_v0, val_main_v5, val_main_v4_0, val_main_v4_2, val_main_v3, val_main_v2, val_main_v1, val_main_call0_v0, val_main_call0_v1, val_main_call0_cst, val_main_call0_v2, val_main_call0_v3, val_main_call0_cst_0, val_main_call0_v4]
  rfl

theorem dgate_at (k : Fin 1024) : val_main_v13 (F := Ideal) x0 x2 x3 (ix2 0 k) = dgate x0 (gatedProduct x2 x3) k := by
  pointwise [val_main_v13, val_main_v12, val_main_v11, val_main_cst]
  simp only [o_at]
  rfl

theorem dgate_eq : val_main_v13 (F := Ideal) x0 x2 x3 = fun i => dgate x0 (gatedProduct x2 x3) (i 1) := by
  refine funext fun i => ?_
  rw [Cert.Norm.row0 i]
  exact dgate_at x0 x2 x3 (i 1)

theorem cot_at (t : Fin 4096) (k : Fin 1024) : val_main_v10 (F := Ideal) x0 x1 (ix2 t k) = cotan x0 x1 t k := by
  pointwise [val_main_v10, val_main_v9]
  exact mul_comm _ _

theorem gx : val_main_v20 (F := Ideal) x0 x1 = fun i => cotan x0 x1 (i 0) (i 1) := by
  refine funext fun i => ?_
  rw [Idealize.ShloMosaic.ValueIdx.eq_ix2 i]
  pointwise [val_main_v20]
  exact cot_at x0 x1 (i 0) (i 1)

theorem back_at (t : Fin 4096) (f : Fin 2816) : val_main_v14 (F := Ideal) x0 x1 x2 (ix2 t f) = rowMulT (cotan x0 x1 t) x2 f := by
  pointwise [val_main_v14, val_main_v0]
  simp only [cot_at]
  rfl

theorem first_at (t : Fin 4096) (f : Fin 2816) (d g : ℝ) (hd : rowMulT (cotan x0 x1 t) x2 f * x3 (ix2 t ⟨2816 + f.val, by omega⟩) = (d : EReal))
    (hg : x3 (ix2 t ⟨f.val, by omega⟩) = (g : EReal)) :
    val_main_v17 (F := Ideal) x0 x1 x2 x3 (ix2 t f) = rowMulT (cotan x0 x1 t) x2 f * x3 (ix2 t ⟨2816 + f.val, by omega⟩)
      * (Ideal.logistic (x3 (ix2 t ⟨f.val, by omega⟩)) * (1 + x3 (ix2 t ⟨f.val, by omega⟩) * (1 - Ideal.logistic (x3 (ix2 t ⟨f.val, by omega⟩))) : EReal)) := by
  rw [hd, hg, dsilu d g]
  pointwise [val_main_v17, val_main_call1_v0, val_main_call1_v1, val_main_call1_v2, val_main_v16, val_main_v3, val_main_v2, val_main_v1, val_main_v4_0, val_main_v4_1, val_main_v4_2, val_main_call0_v0, val_main_call0_v1, val_main_call0_cst, val_main_call0_v2, val_main_call0_v3, val_main_call0_cst_0, val_main_call0_v4, val_main_call0_cst_1, val_main_call0_v6, val_main_call0_v7]
  rw [back_at, hd, hg]
  rfl

theorem second_at (t : Fin 4096) (f : Fin 2816) :
    val_main_v15 (F := Ideal) x0 x1 x2 x3 (ix2 t f) = rowMulT (cotan x0 x1 t) x2 f * silu (x3 (ix2 t ⟨f.val, by omega⟩)) := by
  pointwise [val_main_v15, val_main_v3, val_main_v2, val_main_v1, val_main_v4_0, val_main_v4_1, val_main_v4_2, val_main_call0_v0, val_main_call0_v1, val_main_call0_cst, val_main_call0_v2, val_main_call0_v3, val_main_call0_cst_0, val_main_call0_v4, val_main_call0_cst_1, val_main_call0_v6, val_main_call0_v7]
  rw [back_at]
  exact mul_comm _ _

/-- The gradient of the gated activation where its arguments are real: `d` and `g` are what its first half is made of. -/
theorem dgated_at (t : Fin 4096) (j : Fin 5632) (d g : Fin 2816 → ℝ) (hd : ∀ f, rowMulT (cotan x0 x1 t) x2 f * x3 (ix2 t ⟨2816 + f.val, by omega⟩) = (d f : EReal))
    (hg : ∀ f : Fin 2816, x3 (ix2 t ⟨f.val, by omega⟩) = (g f : EReal)) :
    val_main_v19 (F := Ideal) x0 x1 x2 x3 (ix2 t j) = dgated (rowMulT (cotan x0 x1 t) x2) (fun j => x3 (ix2 t j)) j := by
  pointwise [val_main_v19]
  unfold val_main_v18 dgated
  split
  · rename_i h
    refine Eq.trans (concatenate_pair_apply_left (t := S4096x5632) (s₁ := S4096x2816) (s₂ := S4096x2816) 1 _ _ _ _ rfl (ix2 t (⟨j.val, h⟩ : Fin 2816)) fun b => by fin_cases b <;> rfl) ?_
    exact first_at x0 x1 x2 x3 t ⟨j.val, h⟩ _ _ (hd _) (hg _)
  · rename_i h
    refine Eq.trans (concatenate_pair_apply_right (t := S4096x5632) (s₁ := S4096x2816) (s₂ := S4096x2816) 1 _ _ _ _ rfl rfl (ix2 t (⟨j.val - 2816, by omega⟩ : Fin 2816)) (fun b hb => ?_) ?_) ?_
    · fin_cases b
      · rfl
      · exact absurd rfl hb
    · show j.val - 2816 + 2816 = j.val
      omega
    · exact second_at x0 x1 x2 x3 t ⟨j.val - 2816, by omega⟩

end Cert.FfnOutBwdReferenceIdeal.Bw

end
-- ==== Proof.BwdClaims.lean ====
module

public import proofs.«01_k».proof.Defs
public import proofs.«01_k».proof.Proof.Gen.OutBwd.Frame
public import proofs.«01_k».proof.Proof.Gen.OutBwdReferenceIdeal.Run
public import proofs.«01_k».proof.Proof.OutBwdEq
public import proofs.«01_k».proof.Proof.Gen.FfnOutBwd.Frame
public import proofs.«01_k».proof.Proof.Gen.FfnOutBwdReferenceIdeal.Run
public import proofs.«01_k».proof.Proof.FfnOutBwdEq
public import proofs.«01_k».proof.Proof.GmPre

/-! The claims of the gradients of the two products that are added to the residual stream. -/

@[expose] public section

open Idealize.ShloMosaic

noncomputable section

namespace Cert.Proof

theorem outBwd_algebraic : Cert.algebraic_OutBwdIdeal_OutBwdReferenceIdeal := by
  intro m g m' g' _ hargs
  refine ⟨_, _, _, Cert.OutBwdIdeal.Value.run_blocks m g, (θ_run Cert.OutBwdReferenceIdeal.defs _ _).mono (fun r h c => ?_) (Cert.OutBwdReferenceIdeal.Value.run m' g')⟩
  obtain ⟨e0, e1, e2, e3⟩ := hargs c
  obtain ⟨h0, h1, h2, hrest⟩ := h c
  exact ⟨h0.trans ((Cert.OutBwdReferenceIdeal.Read.val_main_v9_eq _ _ _).trans ((Cert.OutBwdReferenceIdeal.Bw.back _ _ _).trans (by rw [Cert.OutBwdIdeal.Bw.arr4, e0, e1, e2]; rfl))),
    h1.trans ((Cert.OutBwdReferenceIdeal.Read.val_main_v10_eq _ _).trans ((Cert.OutBwdReferenceIdeal.Bw.gx _ _).trans (by rw [Cert.OutBwdIdeal.Bw.arr5, e0, e1]; rfl))),
    h2.trans ((Cert.OutBwdReferenceIdeal.Read.val_main_v8_eq _ _ _).trans ((Cert.OutBwdReferenceIdeal.Bw.dgate_eq _ _ _).trans (by rw [Cert.OutBwdIdeal.Bw.arr6, e0, e2, e3]; rfl))), hrest⟩

/-- The reference ends, changing no argument; it declares no semaphore. -/
theorem outBwd_reference_frame : Cert.quiescent_OutBwdReferenceIdeal := fun m ρ _ =>
  (θ_run Cert.OutBwdReferenceIdeal.defs _ _).mono (fun r h => ⟨fun c => (h c).2.2.2, sem_eq_zero_of_no_sems (by decide) r.2⟩) (Cert.OutBwdReferenceIdeal.Value.run m ρ)

instance finite_ffn_out_facts : Cert.Pre_finite_ffn_out.Facts where
  bcast_S_S4096x1024 := by decide
  bcast_S_S1x1024 := by decide
  bitsLt_bf16_f32 := by decide
  bcast_S_S2816x1024 := by decide
  bcast_S_S4096x5632 := by decide

/-- The cotangent of the activation times the gated factor, where the arguments are real. -/
theorem real_product (x0 : (⟨2, ![4096, 1024]⟩ : Shape).Idx → EReal) (x1 : (⟨2, ![1, 1024]⟩ : Shape).Idx → EReal) (x2 : (⟨2, ![2816, 1024]⟩ : Shape).Idx → EReal) (u : EReal)
    (h0 : ∀ i, x0 i = ((x0 i).toReal : ℝ)) (h1 : ∀ i, x1 i = ((x1 i).toReal : ℝ)) (h2 : ∀ i, x2 i = ((x2 i).toReal : ℝ)) (hu : u = (u.toReal : ℝ)) (t : Fin 4096) (f : Fin 2816) :
    Cert.Dense.rowMulT (Cert.Dense.cotan x0 x1 t) x2 f * u
      = (((∑ k, (x0 (ix2 t k)).toReal * (x1 (ix2 0 k)).toReal * (x2 (ix2 f k)).toReal) * u.toReal : ℝ) : EReal) := by
  rw [EReal.coe_mul, ← hu, ← Cert.Gm.coe_sum]
  refine congrArg (· * u) (Finset.sum_congr rfl fun k _ => ?_)
  rw [EReal.coe_mul, EReal.coe_mul, ← h0, ← h1, ← h2]
  rfl

theorem ffnOutBwd_algebraic : Cert.algebraic_FfnOutBwdIdeal_FfnOutBwdReferenceIdeal_pre_finite_ffn_out := by
  intro m g m' g' hpre hargs
  refine ⟨_, _, _, Cert.FfnOutBwdIdeal.Value.run_blocks m g, (θ_run Cert.FfnOutBwdReferenceIdeal.defs _ _).mono (fun r h c => ?_) (Cert.FfnOutBwdReferenceIdeal.Value.run m' g')⟩
  have top (i) : constant (F := Ideal) Cert.Pre_finite_ffn_out.S_ .f32 0x7F800000#32 i = ⊤ := Cert.Gm.ofBits_inf
  obtain ⟨p0, p1, p2, p3⟩ := hpre c
  obtain ⟨e0, e1, e2, e3⟩ := hargs c
  obtain ⟨h0, h1, h2, hrest⟩ := h c
  refine ⟨h0.trans ((Cert.FfnOutBwdReferenceIdeal.Read.val_main_v19_eq _ _ _ _).trans ?_),
    h1.trans ((Cert.FfnOutBwdReferenceIdeal.Read.val_main_v20_eq _ _).trans ((Cert.FfnOutBwdReferenceIdeal.Bw.gx _ _).trans (by rw [Cert.FfnOutBwdIdeal.Bw.arr6, e0, e1]; rfl))),
    h2.trans ((Cert.FfnOutBwdReferenceIdeal.Read.val_main_v13_eq _ _ _).trans ((Cert.FfnOutBwdReferenceIdeal.Bw.dgate_eq _ _ _).trans (by rw [Cert.FfnOutBwdIdeal.Bw.arr7, e0, e2, e3]; rfl))), hrest⟩
  rw [Cert.FfnOutBwdIdeal.Bw.arr5, e0, e1, e2, e3]
  refine funext fun i => ?_
  rw [Idealize.ShloMosaic.ValueIdx.eq_ix2 i]
  exact Cert.FfnOutBwdReferenceIdeal.Bw.dgated_at _ _ _ _ (i 0) (i 1) _ _
    (fun f => real_product _ _ _ _ (Cert.Gm.real_of_lt _ _ (fun i => top _) p0) (Cert.Gm.real_of_lt _ _ (fun i => top _) p1) (Cert.Gm.real_of_lt _ _ (fun i => top _) p2) (Cert.Gm.real_of_lt _ _ (fun i => top _) p3 _) (i 0) f)
    (fun f => Cert.Gm.real_of_lt _ _ (fun i => top _) p3 _)

/-- The reference ends, changing no argument; it declares no semaphore. -/
theorem ffnOutBwd_reference_frame : Cert.quiescent_FfnOutBwdReferenceIdeal := fun m ρ _ =>
  (θ_run Cert.FfnOutBwdReferenceIdeal.defs _ _).mono (fun r h => ⟨fun c => (h c).2.2.2, sem_eq_zero_of_no_sems (by decide) r.2⟩) (Cert.FfnOutBwdReferenceIdeal.Value.run m ρ)

end Cert.Proof

end
-- ==== Proof.LossFwdEq.lean ====
module

public import proofs.«01_k».proof.Proof.Gen.LossFwdIdeal.Value
public import proofs.«01_k».proof.Proof.Gen.LossFwdReferenceIdeal.Read
public import proofs.«01_k».proof.Proof.FwdSpec
public import proofs.«01_k».proof.Proof.NormPay
public import proofs.«01_k».proof.Proof.Sums
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The last layer's feed-forward output with the loss and its gradient: what the call's arrays and the reference's hold. -/

@[expose] public section

set_option maxRecDepth 16384

noncomputable section

namespace Cert.Dense

open Idealize.ShloMosaic

/-- The difference between the output and the target. -/
def err {R : ℕ} (y : (⟨2, ![R, 2816]⟩ : Shape).Idx → EReal) (w : (⟨2, ![2816, 1024]⟩ : Shape).Idx → EReal) (x : (⟨2, ![R, 1024]⟩ : Shape).Idx → EReal)
    (g : (⟨2, ![1, 1024]⟩ : Shape).Idx → EReal) (tgt : (⟨2, ![R, 1024]⟩ : Shape).Idx → EReal) (t : Fin R) (k : Fin 1024) : EReal :=
  x (ix2 t k) + g (ix2 0 k) * rowMul (fun j => y (ix2 t j)) w k - tgt (ix2 t k)

def sq (e : EReal) : EReal := e * e

/-- The gradient of the loss by the output: the difference over the number of features. -/
def dloss (e : EReal) : EReal := e * ((1 / 1024 : ℝ) : EReal)

/-- Half of the sum of squares over the number of features. -/
def halfMean (e : Fin 4096 → Fin 1024 → EReal) : EReal := (∑ k, ∑ t, sq (e t k)) * ((1 / 2048 : ℝ) : EReal)

theorem sq_nonneg (e : EReal) : 0 ≤ sq e := by
  unfold sq
  rcases le_total 0 e with h | h
  · exact mul_nonneg h h
  · rw [← neg_mul_neg]
    exact mul_nonneg (EReal.neg_nonneg.2 h) (EReal.neg_nonneg.2 h)

/-- A factor taken out of a sum of terms that are not negative. -/
theorem sum_mul_of_nonneg {ι : Type} (s : Finset ι) (f : ι → EReal) (hf : ∀ i, 0 ≤ f i) (a : EReal) : ∑ i ∈ s, f i * a = (∑ i ∈ s, f i) * a := by
  classical
  induction s using Finset.induction_on with
  | empty => simp
  | insert i s hi ih =>
    rw [Finset.sum_insert hi, Finset.sum_insert hi, ih, EReal.right_distrib_of_nonneg (hf i) (Finset.sum_nonneg fun j _ => hf j)]

/-- Half of the sum of the rows' means of squares. -/
theorem half_means (e : Fin 4096 → Fin 1024 → EReal) :
    ((1 / 2 : ℝ) : EReal) * ∑ t, (∑ k, sq (e t k)) * ((1 / 1024 : ℝ) : EReal) = halfMean e := by
  unfold halfMean
  rw [sum_mul_of_nonneg _ _ (fun t => Finset.sum_nonneg fun k _ => sq_nonneg _), Finset.sum_comm, mul_comm, mul_assoc, ← EReal.coe_mul]
  norm_num

theorem dloss_eq (e : EReal) : ((1 / 2048 : ℝ) : EReal) * (((2 : ℝ) : EReal) * e) = dloss e := by
  unfold dloss
  rw [← mul_assoc, ← EReal.coe_mul, mul_comm]
  norm_num

theorem ofBits_inv1024 : Ideal.ofBits .f32 981467136#32 = ((1 / 1024 : ℝ) : EReal) := by
  simp [Ideal.ofBits, Ideal.ieee, -EReal.coe_mul]; norm_num

theorem ofBits_inv2048 : Ideal.ofBits .f32 973078528#32 = ((1 / 2048 : ℝ) : EReal) := by
  simp [Ideal.ofBits, Ideal.ieee, -EReal.coe_mul]; norm_num

end Cert.Dense

namespace Cert.LossFwdIdeal.Lo

open Cert.LossFwdIdeal Cert.LossFwdIdeal.Gen Cert.Dense Idealize.ShloMosaic Idealize.ShloMosaic.TcCoe

section
variable (y : Vec Ideal S512x2816 .bf16) (w : Vec Ideal S2816x1024 .bf16) (x : Vec Ideal S512x1024 .f32) (g : Vec Ideal S1x1024 .f32) (tgt : Vec Ideal S512x1024 .f32) (a : Vec Ideal S1x1024 .f32)

theorem mul_at (r : Fin 512) (q : Fin 1024) : k0_pay1 y w (ix2 r q) = rowMul (fun k => y (ix2 r k)) w q := by
  pointwise [k0_pay1]
  rfl

theorem err_at (r : Fin 512) (q : Fin 1024) : k0_pay3 y w x g tgt (ix2 r q) = err y w x g tgt r q := by
  pointwise [k0_pay3]
  rw [mul_at]
  rfl

theorem dy_at (r : Fin 512) (q : Fin 1024) : k0_pay4 y w x g tgt (ix2 r q) = dloss (err y w x g tgt r q) := by
  pointwise [k0_pay4]
  rw [err_at, ofBits_inv1024]
  rfl

theorem zero_at (k : Fin 1024) : k0_pay2 (F := Ideal) (ix2 0 k) = (0 : EReal) := by
  pointwise [k0_pay2]

theorem acc_at (k : Fin 1024) : k0_pay5 y w x g tgt a (ix2 0 k) = a (ix2 0 k) + ∑ r : Fin 512, sq (err y w x g tgt r k) := by
  pointwise [k0_pay5]
  simp only [err_at]
  rfl

theorem loss_at (p : Fin 8) (q : Fin 128) : k0_pay6 a (ix2 p q) = (∑ k, a (ix2 0 k)) * ((1 / 2048 : ℝ) : EReal) := by
  pointwise [k0_pay6]
  rw [ofBits_inv2048]

end

section
variable (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x128 .f32) (harg8 : arg8.IsWhole) (arg9 : Memref sig .tc .vmem S1x1024 .f32) (harg9 : arg9.IsWhole)
  (x0 : Vec Ideal S512x2816 .bf16) (x1 : Vec Ideal S2816x1024 .bf16) (x2 : Vec Ideal S512x1024 .f32) (x3 : Vec Ideal S1x1024 .f32) (x4 : Vec Ideal S512x1024 .f32) (xs0 : Vec Ideal S1x1024 .f32)

theorem out_A_5 (hc0 : cond0_0 i) (hc1 : ¬cond0_1 i) :
    out0_A_5 c i arg1 harg1 arg2 harg2 arg3 harg3 arg4 harg4 arg5 harg5 arg6 harg6 arg7 harg7 arg8 harg8 arg9 harg9 hc0 hc1 x0 x1 x2 x3 x4 = k0_pay4 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2]

theorem out_A_6 (hc0 : cond0_0 i) (hc1 : ¬cond0_1 i) :
    out0_A_6 c i arg1 harg1 arg2 harg2 arg3 harg3 arg4 harg4 arg5 harg5 arg6 harg6 arg7 harg7 arg8 harg8 arg9 harg9 hc0 hc1 x0 x1 x2 x3 x4 = k0_pay1 x0 x1 := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2]

theorem out_B_5 (hc0 : ¬cond0_0 i) (hc1 : ¬cond0_1 i) :
    out0_B_5 c i arg1 harg1 arg2 harg2 arg3 harg3 arg4 harg4 arg5 harg5 arg6 harg6 arg7 harg7 arg8 harg8 arg9 harg9 hc0 hc1 x0 x1 x2 x3 x4 xs0 = k0_pay4 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2]

theorem out_B_6 (hc0 : ¬cond0_0 i) (hc1 : ¬cond0_1 i) :
    out0_B_6 c i arg1 harg1 arg2 harg2 arg3 harg3 arg4 harg4 arg5 harg5 arg6 harg6 arg7 harg7 arg8 harg8 arg9 harg9 hc0 hc1 x0 x1 x2 x3 x4 xs0 = k0_pay1 x0 x1 := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 x4 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2]

theorem out_C_5 (hc0 : ¬cond0_0 i) (hc1 : cond0_1 i) :
    out0_C_5 c i arg1 harg1 arg2 harg2 arg3 harg3 arg4 harg4 arg5 harg5 arg6 harg6 arg7 harg7 arg8 harg8 arg9 harg9 hc0 hc1 x0 x1 x2 x3 x4 xs0 = k0_pay4 x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2]

theorem out_C_6 (hc0 : ¬cond0_0 i) (hc1 : cond0_1 i) :
    out0_C_6 c i arg1 harg1 arg2 harg2 arg3 harg3 arg4 harg4 arg5 harg5 arg6 harg6 arg7 harg7 arg8 harg8 arg9 harg9 hc0 hc1 x0 x1 x2 x3 x4 xs0 = k0_pay1 x0 x1 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2]

theorem sout_A (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 = k0_pay5 x0 x1 x2 x3 x4 (k0_pay2 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2, View.readCov_cons_toLoadRect]

theorem sout_B (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 xs0 = k0_pay5 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2]

theorem sout_C (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x0 x1 x2 x3 x4 xs0 = k0_pay5 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2]

theorem out_C_7 (hc0 : ¬cond0_0 i) (hc1 : cond0_1 i) :
    out0_C_7 c i arg1 harg1 arg2 harg2 arg3 harg3 arg4 harg4 arg5 harg5 arg6 harg6 arg7 harg7 arg8 harg8 arg9 harg9 hc0 hc1 x0 x1 x2 x3 x4 xs0 = k0_pay6 (k0_pay5 x0 x1 x2 x3 x4 xs0) := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x2816) zero2, View.ld_unit_zero (S := S2816x1024) zero2, View.ld_unit_zero (S := S512x1024) zero2, View.ld_unit_zero (S := S1x1024) zero2]
  rw [View.canon_cons_unit_zero zero2, View.readCov_cons_toLoadRect]

end

variable (m : (ℓ : Loc nD τ sig) → Buf (Elt Ideal) ℓ)

theorem idx : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] := by
  decide +kernel

theorem blk0 (c : Dev nD) (t : Fin cfg0.N) (r : Fin 512) (q : Fin 2816) :
    iblk m c 0 t (ix2 r q) = m ((c : Thread nD τ).loc main_arg0) (ix2 (brow 512 t.val r) q) := by
  have hr := brow_val (b := 512) (n := 8) rfl t.isLt r
  blk_point [iblk, V, idx t]
theorem blk1 (c : Dev nD) (t : Fin cfg0.N) (r : Fin 2816) (q : Fin 1024) :
    iblk m c 1 t (ix2 r q) = m ((c : Thread nD τ).loc main_arg1) (ix2 r q) := by
  blk_point [iblk, V, idx t]
theorem blk2 (c : Dev nD) (t : Fin cfg0.N) (r : Fin 512) (q : Fin 1024) :
    iblk m c 2 t (ix2 r q) = m ((c : Thread nD τ).loc main_arg2) (ix2 (brow 512 t.val r) q) := by
  have hr := brow_val (b := 512) (n := 8) rfl t.isLt r
  blk_point [iblk, V, idx t]
theorem blk3 (c : Dev nD) (t : Fin cfg0.N) (q : Fin 1024) :
    iblk m c 3 t (ix2 0 q) = m ((c : Thread nD τ).loc main_arg3) (ix2 0 q) := by
  blk_point [iblk, V, idx t]
theorem blk4 (c : Dev nD) (t : Fin cfg0.N) (r : Fin 512) (q : Fin 1024) :
    iblk m c 4 t (ix2 r q) = m ((c : Thread nD τ).loc main_arg4) (ix2 (brow 512 t.val r) q) := by
  have hr := brow_val (b := 512) (n := 8) rfl t.isLt r
  blk_point [iblk, V, idx t]

theorem mul_blk (c : Dev nD) (t : Fin cfg0.N) (r : Fin 512) (q : Fin 1024) :
    rowMul (K := 2816) (fun k => iblk m c 0 t (ix2 r k)) (iblk m c 1 t) q = rowMul (K := 2816) (fun k => (m ((c : Thread nD τ).loc main_arg0)) (ix2 (brow 512 t.val r) k)) (m ((c : Thread nD τ).loc main_arg1)) q := by
  unfold rowMul
  simp only [blk0, blk1]

theorem err_blk (c : Dev nD) (t : Fin cfg0.N) (r : Fin 512) (q : Fin 1024) :
    err (R := 512) (iblk m c 0 t) (iblk m c 1 t) (iblk m c 2 t) (iblk m c 3 t) (iblk m c 4 t) r q = err (R := 4096) (m ((c : Thread nD τ).loc main_arg0)) (m ((c : Thread nD τ).loc main_arg1)) (m ((c : Thread nD τ).loc main_arg2)) (m ((c : Thread nD τ).loc main_arg3)) (m ((c : Thread nD τ).loc main_arg4)) (brow 512 t.val r) q := by
  unfold err
  rw [mul_blk, blk2, blk3, blk4]

/-- What a block's rows add to a feature's sum of squares. -/
def part (c : Dev nD) (q : Fin 1024) (s : ℕ) : EReal := ∑ r : Fin 512, sq (err (R := 4096) (m ((c : Thread nD τ).loc main_arg0)) (m ((c : Thread nD τ).loc main_arg1)) (m ((c : Thread nD τ).loc main_arg2)) (m ((c : Thread nD τ).loc main_arg3)) (m ((c : Thread nD τ).loc main_arg4)) (brow 512 s r) q)

theorem acc_blk (c : Dev nD) (t : Fin cfg0.N) (a : Vec Ideal S1x1024 .f32) (q : Fin 1024) :
    k0_pay5 (iblk m c 0 t) (iblk m c 1 t) (iblk m c 2 t) (iblk m c 3 t) (iblk m c 4 t) a (ix2 0 q) = a (ix2 0 q) + part m c q t.val := by
  refine (acc_at _ _ _ _ _ a q).trans ?_
  simp only [err_blk]
  rfl

theorem outs5 (c : Dev nD) (t : Fin cfg0.N) (r : Fin 512) (q : Fin 1024) :
    (outsAt0 m c t.val t.isLt).1 (ix2 r q) = dloss (err (R := 4096) (m ((c : Thread nD τ).loc main_arg0)) (m ((c : Thread nD τ).loc main_arg1)) (m ((c : Thread nD τ).loc main_arg2)) (m ((c : Thread nD τ).loc main_arg3)) (m ((c : Thread nD τ).loc main_arg4)) (brow 512 t.val r) q) := by
  have hN : t.val < 8 := t.isLt
  have e := (dy_at _ _ _ _ _ r q).trans (congrArg dloss (err_blk m c t r q))
  by_cases h0 : t.val % 8 = 0
  · rw [outsAt0_A m c t h0 (by omega)]
    dsimp only
    rw [out_A_5]
    exact e
  · by_cases h1 : t.val % 8 = 7
    · rw [outsAt0_C m c t h0 h1]
      dsimp only
      rw [out_C_5]
      exact e
    · rw [outsAt0_B m c t h0 h1]
      dsimp only
      rw [out_B_5]
      exact e

theorem outs6 (c : Dev nD) (t : Fin cfg0.N) (r : Fin 512) (q : Fin 1024) :
    (outsAt0 m c t.val t.isLt).2.1 (ix2 r q) = product (m ((c : Thread nD τ).loc main_arg0)) (m ((c : Thread nD τ).loc main_arg1)) (brow 512 t.val r) q := by
  have hN : t.val < 8 := t.isLt
  have e := (mul_at _ _ r q).trans (mul_blk m c t r q)
  by_cases h0 : t.val % 8 = 0
  · rw [outsAt0_A m c t h0 (by omega)]
    dsimp only
    rw [out_A_6]
    exact e
  · by_cases h1 : t.val % 8 = 7
    · rw [outsAt0_C m c t h0 h1]
      dsimp only
      rw [out_C_6]
      exact e
    · rw [outsAt0_B m c t h0 h1]
      dsimp only
      rw [out_B_6]
      exact e

/-- The feature sums carried between the blocks. -/
theorem outs8 (c : Dev nD) (q : Fin 1024) : ∀ (n : ℕ) (hn : n < cfg0.N), n < 7 → (outsAt0 m c n hn).2.2.2 (ix2 0 q) = ∑ s ∈ Finset.range (n + 1), part m c q s
  | 0, hn, _ => by
    rw [outsAt0_A m c ⟨0, hn⟩ rfl (by show ¬0 % 8 = 7; decide)]
    dsimp only
    rw [sout_A]
    refine (acc_blk m c ⟨0, hn⟩ _ q).trans ?_
    rw [zero_at, zero_add, Finset.sum_range_one]
  | n + 1, hn, hl => by
    have h0 : ¬(n + 1) % 8 = 0 := by omega
    have h1 : ¬(n + 1) % 8 = 7 := by omega
    rw [outsAt0_B m c ⟨n + 1, hn⟩ h0 h1]
    dsimp only
    rw [sout_B]
    refine (acc_blk m c ⟨n + 1, hn⟩ _ q).trans ?_
    rw [Finset.sum_range_succ]
    exact congrArg (· + _) (outs8 c q n (Nat.lt_of_succ_lt hn) (by omega))

theorem outs7 (c : Dev nD) (p : Fin 8) (q : Fin 128) : ∀ (n : ℕ) (hn : n < cfg0.N), n = 7 →
    (outsAt0 m c n hn).2.2.1 (ix2 p q) = halfMean (err (R := 4096) (m ((c : Thread nD τ).loc main_arg0)) (m ((c : Thread nD τ).loc main_arg1)) (m ((c : Thread nD τ).loc main_arg2)) (m ((c : Thread nD τ).loc main_arg3)) (m ((c : Thread nD τ).loc main_arg4)))
  | 0, hn, h => absurd h (by decide)
  | n + 1, hn, h => by
    have h0 : ¬(n + 1) % 8 = 0 := by omega
    have h1 : (n + 1) % 8 = 7 := by omega
    rw [outsAt0_C m c ⟨n + 1, hn⟩ h0 h1]
    dsimp only
    rw [out_C_7]
    refine (loss_at _ p q).trans ?_
    unfold halfMean
    refine congrArg (· * _) (Finset.sum_congr rfl fun k _ => ?_)
    refine (acc_blk m c ⟨n + 1, hn⟩ _ k).trans ?_
    refine Eq.trans ?_ (sum_blocks 512 8 rfl _)
    refine Eq.trans (congrArg (· + _) (outs8 m c k n (Nat.lt_of_succ_lt hn) (by omega))) ?_
    rw [← Finset.sum_range_succ, h]
    rfl

theorem arr5 (c : Dev nD) : (dats m 0 c).arrAt 5 cfg0.N = fun i => dloss (err (R := 4096) (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)) := by
  refine (dats m 0 c).arrAt_eq_of_covers 5 _ (by decide +kernel) fun t hf y => ?_
  have hr := brow_val (b := 512) (n := 8) rfl t.isLt (y 0)
  blk_simp [idx t]
  rw [after0_5]
  have e : (win0_5.blk t).view.emb y = ix2 (brow 512 t.val (y 0)) (y 1) := by
    refine funext fun a => Fin.ext ((win0_5.rect_emb_val t _ a).trans ?_)
    fin_cases a <;> simp [idx t, hr]
  rw [e, Idealize.ShloMosaic.ValueIdx.eq_ix2 y]
  exact outs5 m c t (y 0) (y 1)

theorem arr6 (c : Dev nD) : (dats m 0 c).arrAt 6 cfg0.N = fun i => product (m ((c : Thread nD τ).loc main_arg0)) (m ((c : Thread nD τ).loc main_arg1)) (i 0) (i 1) := by
  refine (dats m 0 c).arrAt_eq_of_covers 6 _ (by decide +kernel) fun t hf y => ?_
  have hr := brow_val (b := 512) (n := 8) rfl t.isLt (y 0)
  blk_simp [idx t]
  rw [after0_6]
  have e : (win0_6.blk t).view.emb y = ix2 (brow 512 t.val (y 0)) (y 1) := by
    refine funext fun a => Fin.ext ((win0_6.rect_emb_val t _ a).trans ?_)
    fin_cases a <;> simp [idx t, hr]
  rw [e, Idealize.ShloMosaic.ValueIdx.eq_ix2 y]
  exact outs6 m c t (y 0) (y 1)

theorem arr7 (c : Dev nD) : (dats m 0 c).arrAt 7 cfg0.N = fun _ => halfMean (err (R := 4096) (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t hf y => ?_
  have ht : t.val = 7 := (by decide +kernel : ∀ t : Fin grid0.N, win0_7.flush t = true → t.val = 7) t hf
  blk_simp [idx t]
  rw [after0_7, Idealize.ShloMosaic.ValueIdx.eq_ix2 y]
  exact outs7 m c (y 0) (y 1) t.val t.isLt ht

end Cert.LossFwdIdeal.Lo

namespace Cert.LossFwdReferenceIdeal.Lo

open Cert.LossFwdReferenceIdeal Cert.LossFwdReferenceIdeal.Read Cert.Dense Idealize.ShloMosaic Idealize.ShloMosaic.TcCoe

variable (x0 : Vec Ideal S4096x2816 .bf16) (x1 : Vec Ideal S2816x1024 .bf16) (x2 : Vec Ideal S4096x1024 .f32) (x3 : Vec Ideal S1x1024 .f32) (x4 : Vec Ideal S4096x1024 .f32)

theorem mul_at (t : Fin 4096) (q : Fin 1024) : val_main_v2 (F := Ideal) x0 x1 (ix2 t q) = product x0 x1 t q := by
  pointwise [val_main_v2, val_main_v1, val_main_v0]
  rfl

theorem mul : val_main_v2 (F := Ideal) x0 x1 = fun i => product x0 x1 (i 0) (i 1) := by
  refine funext fun i => ?_
  rw [Idealize.ShloMosaic.ValueIdx.eq_ix2 i]
  exact mul_at x0 x1 (i 0) (i 1)

theorem err_at (t : Fin 4096) (q : Fin 1024) : val_main_v6 (F := Ideal) x0 x1 x2 x3 x4 (ix2 t q) = err x0 x1 x2 x3 x4 t q := by
  pointwise [val_main_v6, val_main_v5, val_main_v4, val_main_v3]
  rw [mul_at]
  rfl

theorem dy_at (t : Fin 4096) (q : Fin 1024) : val_main_v20 (F := Ideal) x0 x1 x2 x3 x4 (ix2 t q) = dloss (err x0 x1 x2 x3 x4 t q) := by
  pointwise [val_main_v20, val_main_v19, val_main_v18, val_main_v17, val_main_v16, val_main_v15, val_main_v9, val_main_v8, val_main_cst, val_main_cst_4, val_main_cst_5, val_main_cst_6]
  rw [err_at, Cert.Gm.ofBits_two, Cert.Gm.ofBits_half, Cert.Norm.ofBits_1024, Ideal.div_coe (by norm_num), ← EReal.coe_mul]
  refine Eq.trans ?_ (dloss_eq _)
  norm_num

theorem dy : val_main_v20 (F := Ideal) x0 x1 x2 x3 x4 = fun i => dloss (err x0 x1 x2 x3 x4 (i 0) (i 1)) := by
  refine funext fun i => ?_
  rw [Idealize.ShloMosaic.ValueIdx.eq_ix2 i]
  exact dy_at x0 x1 x2 x3 x4 (i 0) (i 1)

theorem mean_at (t : Fin 4096) : val_main_v12 (F := Ideal) x0 x1 x2 x3 x4 (ix1 t) = (∑ k, sq (err x0 x1 x2 x3 x4 t k)) * ((1 / 1024 : ℝ) : EReal) := by
  pointwise [val_main_v12, val_main_v11, val_main_v10, val_main_v7, val_main_cst_0, val_main_cst_1]
  simp only [err_at]
  rw [Cert.Norm.ofBits_1024, Ideal.div_coe (by norm_num)]
  rfl

theorem loss_at (p : Fin 8) (q : Fin 128) : val_main_v21 (F := Ideal) x0 x1 x2 x3 x4 (ix2 p q) = halfMean (err x0 x1 x2 x3 x4) := by
  pointwise [val_main_v21, val_main_v14, val_main_v13, val_main_cst_2, val_main_cst_3]
  simp only [mean_at]
  rw [Cert.Gm.ofBits_half]
  exact half_means _

theorem loss : val_main_v21 (F := Ideal) x0 x1 x2 x3 x4 = fun _ => halfMean (err x0 x1 x2 x3 x4) := by
  refine funext fun i => ?_
  rw [Idealize.ShloMosaic.ValueIdx.eq_ix2 i]
  exact loss_at x0 x1 x2 x3 x4 (i 0) (i 1)

end Cert.LossFwdReferenceIdeal.Lo

end
-- ==== Proof.LossClaims.lean ====
module

public import proofs.«01_k».proof.Defs
public import proofs.«01_k».proof.Proof.Gen.LossFwd.Frame
public import proofs.«01_k».proof.Proof.Gen.LossFwdReferenceIdeal.Run
public import proofs.«01_k».proof.Proof.LossFwdEq

/-! The claims of the last layer's output with the loss. -/

@[expose] public section

open Idealize.ShloMosaic

noncomputable section

namespace Cert.Proof

theorem lossFwd_algebraic : Cert.algebraic_LossFwdIdeal_LossFwdReferenceIdeal := by
  intro m g m' g' _ hargs
  refine ⟨_, _, _, Cert.LossFwdIdeal.Value.run_blocks m g, (θ_run Cert.LossFwdReferenceIdeal.defs _ _).mono (fun r h c => ?_) (Cert.LossFwdReferenceIdeal.Value.run m' g')⟩
  obtain ⟨e0, e1, e2, e3, e4⟩ := hargs c
  obtain ⟨h0, h1, h2, hrest⟩ := h c
  exact ⟨h0.trans ((Cert.LossFwdReferenceIdeal.Read.val_main_v20_eq _ _ _ _ _).trans ((Cert.LossFwdReferenceIdeal.Lo.dy _ _ _ _ _).trans (by rw [Cert.LossFwdIdeal.Lo.arr5, e0, e1, e2, e3, e4]; rfl))),
    h1.trans ((Cert.LossFwdReferenceIdeal.Read.val_main_v2_eq _ _).trans ((Cert.LossFwdReferenceIdeal.Lo.mul _ _).trans (by rw [Cert.LossFwdIdeal.Lo.arr6, e0, e1]; rfl))),
    h2.trans ((Cert.LossFwdReferenceIdeal.Read.val_main_v21_eq _ _ _ _ _).trans ((Cert.LossFwdReferenceIdeal.Lo.loss _ _ _ _ _).trans (by rw [Cert.LossFwdIdeal.Lo.arr7, e0, e1, e2, e3, e4]; rfl))), hrest⟩

/-- The reference ends, changing no argument; it declares no semaphore. -/
theorem lossFwd_reference_frame : Cert.quiescent_LossFwdReferenceIdeal := fun m ρ _ =>
  (θ_run Cert.LossFwdReferenceIdeal.defs _ _).mono (fun r h => ⟨fun c => (h c).2.2.2, sem_eq_zero_of_no_sems (by decide) r.2⟩) (Cert.LossFwdReferenceIdeal.Value.run m ρ)

end Cert.Proof

end
-- ==== Proof.AdamSpec.lean ====
module

public import Idealize.ShloMosaic.Lib.IdealHost

/-! One step of the optimiser at one entry, over the extended reals. -/

@[expose] public section

noncomputable section

namespace Cert.Adam

open Idealize.ShloMosaic

/-- The new first moment: 0.9·m + 0.1·g. -/
def first (m g : EReal) : EReal := Ideal.ofBits .f32 0x3F666666#32 * m + Ideal.ofBits .f32 0x3DCCCCCD#32 * g

/-- The new second moment: 0.999·v + 0.001·g². -/
def second (v g : EReal) : EReal := Ideal.ofBits .f32 0x3F7FBE77#32 * v + Ideal.ofBits .f32 0x3A83126F#32 * (g * g)

/-- The step of the weight, from the new moments, with the weight decay. -/
def delta (w g m v : EReal) : EReal :=
  Ideal.ofBits .f32 0xBA83126F#32 * (Ideal.div (Ideal.div (first m g) (Ideal.ofBits .f32 0x3F26BD02#32))
    (Ideal.sqrt (Ideal.div (second v g) (Ideal.ofBits .f32 0x3C231ACC#32)) + Ideal.ofBits .f32 0x322BCC77#32) + Ideal.ofBits .f32 0x3C23D70A#32 * w)

end Cert.Adam

end
-- ==== Proof.AdamModEq.lean ====
module

public import proofs.«01_k».proof.Proof.Gen.AdamModIdeal.Value
public import proofs.«01_k».proof.Proof.Gen.AdamModReferenceIdeal.Read
public import proofs.«01_k».proof.Proof.AdamSpec
public import proofs.«01_k».proof.Proof.Sums
public import Idealize.ShloMosaic.Lib.Pipeline.ReadBack
public import Idealize.ShloMosaic.Lib.Pipeline.ValueKit.Tiles
public import Idealize.ShloMosaic.Lib.Pipeline.ValueKit.Point

/-! The optimiser's step of the modulation's weight: what the call's arrays and the reference's hold. -/

@[expose] public section

set_option maxRecDepth 16384

noncomputable section

namespace Cert.AdamModIdeal.Step

open Cert.AdamModIdeal Cert.AdamModIdeal.Gen Cert.Adam Cert.Dense Idealize.ShloMosaic Idealize.ShloMosaic.TcCoe

section
variable (a w m v : Vec Ideal S128x1536 .f32) (y : (S128x1536 : Shape).Idx)

theorem mom_at : k0_pay1 a m y = first (m y) (a y) := rfl
theorem vel_at : k0_pay2 a v y = second (v y) (a y) := rfl
theorem step_at : k0_pay3 a w m v y = delta (w y) (a y) (m y) (v y) := rfl

end

variable (m : (ℓ : Loc nD τ sig) → Buf (Elt Ideal) ℓ)

theorem blk0 (c : Dev nD) (t : Fin cfg0.N) (y : (S128x1536 : Shape).Idx) : iblk m c 0 t y = m ((c : Thread nD τ).loc main_arg0) ((win0_4.blk t).view.emb y) := rfl
theorem blk1 (c : Dev nD) (t : Fin cfg0.N) (y : (S128x1536 : Shape).Idx) : iblk m c 1 t y = m ((c : Thread nD τ).loc main_arg1) ((win0_4.blk t).view.emb y) := rfl
theorem blk2 (c : Dev nD) (t : Fin cfg0.N) (y : (S128x1536 : Shape).Idx) : iblk m c 2 t y = m ((c : Thread nD τ).loc main_arg2) ((win0_4.blk t).view.emb y) := rfl
theorem blk3 (c : Dev nD) (t : Fin cfg0.N) (y : (S128x1536 : Shape).Idx) : iblk m c 3 t y = m ((c : Thread nD τ).loc main_arg3) ((win0_4.blk t).view.emb y) := rfl

theorem arr4 (c : Dev nD) : (dats m 0 c).arrAt 4 cfg0.N = fun i => m ((c : Thread nD τ).loc main_arg0) i := by
  refine (dats m 0 c).arrAt_eq_of_covers 4 _ (by decide +kernel) fun t hf y => ?_
  rw [after0_4]
  unfold out0_4
  rw [View.canon_cons_unit_zero zero2]
  simp only [View.ld_unit_zero (S := S128x1536) zero2]
  exact (congrFun (View.ld_unit_zero (S := S128x1536) zero2 _ _) _).trans (blk0 m c t y)

theorem arr5 (c : Dev nD) : (dats m 0 c).arrAt 5 cfg0.N = fun i => delta (m ((c : Thread nD τ).loc main_arg1) i) (m ((c : Thread nD τ).loc main_arg0) i) (m ((c : Thread nD τ).loc main_arg2) i) (m ((c : Thread nD τ).loc main_arg3) i) := by
  refine (dats m 0 c).arrAt_eq_of_covers 5 _ (by decide +kernel) fun t hf y => ?_
  rw [after0_5]
  unfold out0_5
  rw [View.canon_cons_unit_zero zero2]
  simp only [View.ld_unit_zero (S := S128x1536) zero2]
  refine (step_at _ _ _ _ y).trans ?_
  rw [blk0, blk1, blk2, blk3]
  rfl

theorem arr6 (c : Dev nD) : (dats m 0 c).arrAt 6 cfg0.N = fun i => first (m ((c : Thread nD τ).loc main_arg2) i) (m ((c : Thread nD τ).loc main_arg0) i) := by
  refine (dats m 0 c).arrAt_eq_of_covers 6 _ (by decide +kernel) fun t hf y => ?_
  rw [after0_6]
  unfold out0_6
  rw [View.canon_cons_unit_zero zero2]
  simp only [View.ld_unit_zero (S := S128x1536) zero2]
  refine (mom_at _ _ y).trans ?_
  rw [blk0, blk2]
  rfl

theorem arr7 (c : Dev nD) : (dats m 0 c).arrAt 7 cfg0.N = fun i => second (m ((c : Thread nD τ).loc main_arg3) i) (m ((c : Thread nD τ).loc main_arg0) i) := by
  refine (dats m 0 c).arrAt_eq_of_covers 7 _ (by decide +kernel) fun t hf y => ?_
  rw [after0_7]
  unfold out0_7
  rw [View.canon_cons_unit_zero zero2]
  simp only [View.ld_unit_zero (S := S128x1536) zero2]
  refine (vel_at _ _ y).trans ?_
  rw [blk0, blk3]
  rfl

end Cert.AdamModIdeal.Step

namespace Cert.AdamModReferenceIdeal.Step

open Cert.AdamModReferenceIdeal Cert.AdamModReferenceIdeal.Read Cert.Adam Idealize.ShloMosaic Idealize.ShloMosaic.TcCoe

variable (a w m v : Vec Ideal S4096x1536 .f32)

theorem mom : val_main_v4 (F := Ideal) a m = fun i => first (m i) (a i) := rfl
theorem vel : val_main_v10 (F := Ideal) a v = fun i => second (v i) (a i) := rfl
theorem step : val_main_v23 (F := Ideal) a w m v = fun i => delta (w i) (a i) (m i) (v i) := rfl

end Cert.AdamModReferenceIdeal.Step

end
-- ==== Proof.AdamConvEq.lean ====
module

public import proofs.«01_k».proof.Proof.Gen.AdamConvIdeal.Value
public import proofs.«01_k».proof.Proof.Gen.AdamConvReferenceIdeal.Read
public import proofs.«01_k».proof.Proof.AdamSpec
public import proofs.«01_k».proof.Proof.Sums
public import Idealize.ShloMosaic.Lib.Pipeline.ReadBack
public import Idealize.ShloMosaic.Lib.Pipeline.ValueKit.Tiles
public import Idealize.ShloMosaic.Lib.Pipeline.ValueKit.Point

/-! The optimiser's step of the convolution's weight: what the call's arrays and the reference's hold. -/

@[expose] public section

set_option maxRecDepth 16384

noncomputable section

namespace Cert.AdamConvIdeal.Step

open Cert.AdamConvIdeal Cert.AdamConvIdeal.Gen Cert.Adam Cert.Dense Idealize.ShloMosaic Idealize.ShloMosaic.TcCoe

section
variable (a w m v : Vec Ideal S16x384 .f32) (y : (S16x384 : Shape).Idx)

theorem mom_at : k0_pay1 a m y = first (m y) (a y) := rfl
theorem vel_at : k0_pay2 a v y = second (v y) (a y) := rfl
theorem step_at : k0_pay3 a w m v y = delta (w y) (a y) (m y) (v y) := rfl

end

variable (m : (ℓ : Loc nD τ sig) → Buf (Elt Ideal) ℓ)

theorem blk0 (c : Dev nD) (t : Fin cfg0.N) (y : (S16x384 : Shape).Idx) : iblk m c 0 t y = m ((c : Thread nD τ).loc main_arg0) ((win0_4.blk t).view.emb y) := rfl
theorem blk1 (c : Dev nD) (t : Fin cfg0.N) (y : (S16x384 : Shape).Idx) : iblk m c 1 t y = m ((c : Thread nD τ).loc main_arg1) ((win0_4.blk t).view.emb y) := rfl
theorem blk2 (c : Dev nD) (t : Fin cfg0.N) (y : (S16x384 : Shape).Idx) : iblk m c 2 t y = m ((c : Thread nD τ).loc main_arg2) ((win0_4.blk t).view.emb y) := rfl
theorem blk3 (c : Dev nD) (t : Fin cfg0.N) (y : (S16x384 : Shape).Idx) : iblk m c 3 t y = m ((c : Thread nD τ).loc main_arg3) ((win0_4.blk t).view.emb y) := rfl

theorem arr4 (c : Dev nD) : (dats m 0 c).arrAt 4 cfg0.N = fun i => m ((c : Thread nD τ).loc main_arg0) i := by
  refine (dats m 0 c).arrAt_eq_of_covers 4 _ (by decide +kernel) fun t hf y => ?_
  rw [after0_4]
  unfold out0_4
  rw [View.canon_cons_unit_zero zero2]
  simp only [View.ld_unit_zero (S := S16x384) zero2]
  exact (congrFun (View.ld_unit_zero (S := S16x384) zero2 _ _) _).trans (blk0 m c t y)

theorem arr5 (c : Dev nD) : (dats m 0 c).arrAt 5 cfg0.N = fun i => delta (m ((c : Thread nD τ).loc main_arg1) i) (m ((c : Thread nD τ).loc main_arg0) i) (m ((c : Thread nD τ).loc main_arg2) i) (m ((c : Thread nD τ).loc main_arg3) i) := by
  refine (dats m 0 c).arrAt_eq_of_covers 5 _ (by decide +kernel) fun t hf y => ?_
  rw [after0_5]
  unfold out0_5
  rw [View.canon_cons_unit_zero zero2]
  simp only [View.ld_unit_zero (S := S16x384) zero2]
  refine (step_at _ _ _ _ y).trans ?_
  rw [blk0, blk1, blk2, blk3]
  rfl

theorem arr6 (c : Dev nD) : (dats m 0 c).arrAt 6 cfg0.N = fun i => first (m ((c : Thread nD τ).loc main_arg2) i) (m ((c : Thread nD τ).loc main_arg0) i) := by
  refine (dats m 0 c).arrAt_eq_of_covers 6 _ (by decide +kernel) fun t hf y => ?_
  rw [after0_6]
  unfold out0_6
  rw [View.canon_cons_unit_zero zero2]
  simp only [View.ld_unit_zero (S := S16x384) zero2]
  refine (mom_at _ _ y).trans ?_
  rw [blk0, blk2]
  rfl

theorem arr7 (c : Dev nD) : (dats m 0 c).arrAt 7 cfg0.N = fun i => second (m ((c : Thread nD τ).loc main_arg3) i) (m ((c : Thread nD τ).loc main_arg0) i) := by
  refine (dats m 0 c).arrAt_eq_of_covers 7 _ (by decide +kernel) fun t hf y => ?_
  rw [after0_7]
  unfold out0_7
  rw [View.canon_cons_unit_zero zero2]
  simp only [View.ld_unit_zero (S := S16x384) zero2]
  refine (vel_at _ _ y).trans ?_
  rw [blk0, blk3]
  rfl

end Cert.AdamConvIdeal.Step

namespace Cert.AdamConvReferenceIdeal.Step

open Cert.AdamConvReferenceIdeal Cert.AdamConvReferenceIdeal.Read Cert.Adam Idealize.ShloMosaic Idealize.ShloMosaic.TcCoe

variable (a w m v : Vec Ideal S16x384 .f32)

theorem mom : val_main_v4 (F := Ideal) a m = fun i => first (m i) (a i) := rfl
theorem vel : val_main_v10 (F := Ideal) a v = fun i => second (v i) (a i) := rfl
theorem step : val_main_v23 (F := Ideal) a w m v = fun i => delta (w i) (a i) (m i) (v i) := rfl

end Cert.AdamConvReferenceIdeal.Step

end
-- ==== Proof.AdamInEq.lean ====
module

public import proofs.«01_k».proof.Proof.Gen.AdamInIdeal.Value
public import proofs.«01_k».proof.Proof.Gen.AdamInReferenceIdeal.Read
public import proofs.«01_k».proof.Proof.AdamSpec
public import proofs.«01_k».proof.Proof.Sums
public import Idealize.ShloMosaic.Lib.Pipeline.ReadBack
public import Idealize.ShloMosaic.Lib.Pipeline.ValueKit.Tiles
public import Idealize.ShloMosaic.Lib.Pipeline.ValueKit.Point

/-! The optimiser's step of the input product's weight: what the call's arrays and the reference's hold. -/

@[expose] public section

set_option maxRecDepth 16384

noncomputable section

namespace Cert.AdamInIdeal.Step

open Cert.AdamInIdeal Cert.AdamInIdeal.Value Cert.Adam Idealize.ShloMosaic Idealize.ShloMosaic.TcCoe

variable (a b w m v : Vec Ideal S4096x1218 .f32)

theorem grad : G5 (F := Ideal) a b = fun i => (a i : EReal) + b i := rfl
theorem step : G6 (F := Ideal) a b w m v = fun i => delta (w i) ((a i : EReal) + b i) (m i) (v i) := rfl
theorem mom : G7 (F := Ideal) a b m = fun i => first (m i) ((a i : EReal) + b i) := rfl
theorem vel : G8 (F := Ideal) a b v = fun i => second (v i) ((a i : EReal) + b i) := rfl

end Cert.AdamInIdeal.Step

namespace Cert.AdamInReferenceIdeal.Step

open Cert.AdamInReferenceIdeal Cert.AdamInReferenceIdeal.Read Cert.Adam Idealize.ShloMosaic Idealize.ShloMosaic.TcCoe

variable (a b w m v : Vec Ideal S4096x1218 .f32)

theorem grad : val_main_v0 (F := Ideal) a b = fun i => (a i : EReal) + b i := rfl
theorem mom : val_main_v5 (F := Ideal) a b m = fun i => first (m i) ((a i : EReal) + b i) := rfl
theorem vel : val_main_v11 (F := Ideal) a b v = fun i => second (v i) ((a i : EReal) + b i) := rfl
theorem step : val_main_v24 (F := Ideal) a b w m v = fun i => delta (w i) ((a i : EReal) + b i) (m i) (v i) := rfl

end Cert.AdamInReferenceIdeal.Step

end
-- ==== Proof.AdamOutEq.lean ====
module

public import proofs.«01_k».proof.Proof.Gen.AdamOutIdeal.Value
public import proofs.«01_k».proof.Proof.Gen.AdamOutReferenceIdeal.Read
public import proofs.«01_k».proof.Proof.AdamSpec
public import proofs.«01_k».proof.Proof.Sums
public import Idealize.ShloMosaic.Lib.Pipeline.ReadBack
public import Idealize.ShloMosaic.Lib.Pipeline.ValueKit.Tiles
public import Idealize.ShloMosaic.Lib.Pipeline.ValueKit.Point

/-! The optimiser's step of the mixers' output weight: what the call's arrays and the reference's hold. -/

@[expose] public section

set_option maxRecDepth 16384

noncomputable section

namespace Cert.AdamOutIdeal.Step

open Cert.AdamOutIdeal Cert.AdamOutIdeal.Value Cert.Adam Idealize.ShloMosaic Idealize.ShloMosaic.TcCoe

variable (a b w m v : Vec Ideal S1024x1024 .f32)

theorem grad : G5 (F := Ideal) a b = fun i => (a i : EReal) + b i := rfl
theorem step : G6 (F := Ideal) a b w m v = fun i => delta (w i) ((a i : EReal) + b i) (m i) (v i) := rfl
theorem mom : G7 (F := Ideal) a b m = fun i => first (m i) ((a i : EReal) + b i) := rfl
theorem vel : G8 (F := Ideal) a b v = fun i => second (v i) ((a i : EReal) + b i) := rfl

end Cert.AdamOutIdeal.Step

namespace Cert.AdamOutReferenceIdeal.Step

open Cert.AdamOutReferenceIdeal Cert.AdamOutReferenceIdeal.Read Cert.Adam Idealize.ShloMosaic Idealize.ShloMosaic.TcCoe

variable (a b w m v : Vec Ideal S1024x1024 .f32)

theorem grad : val_main_v0 (F := Ideal) a b = fun i => (a i : EReal) + b i := rfl
theorem mom : val_main_v5 (F := Ideal) a b m = fun i => first (m i) ((a i : EReal) + b i) := rfl
theorem vel : val_main_v11 (F := Ideal) a b v = fun i => second (v i) ((a i : EReal) + b i) := rfl
theorem step : val_main_v24 (F := Ideal) a b w m v = fun i => delta (w i) ((a i : EReal) + b i) (m i) (v i) := rfl

end Cert.AdamOutReferenceIdeal.Step

end
-- ==== Proof.AdamFfnInEq.lean ====
module

public import proofs.«01_k».proof.Proof.Gen.AdamFfnInIdeal.Value
public import proofs.«01_k».proof.Proof.Gen.AdamFfnInReferenceIdeal.Read
public import proofs.«01_k».proof.Proof.AdamSpec
public import proofs.«01_k».proof.Proof.Sums
public import Idealize.ShloMosaic.Lib.Pipeline.ReadBack
public import Idealize.ShloMosaic.Lib.Pipeline.ValueKit.Tiles
public import Idealize.ShloMosaic.Lib.Pipeline.ValueKit.Point

/-! The optimiser's step of the feed-forward input's weight: what the call's arrays and the reference's hold. -/

@[expose] public section

set_option maxRecDepth 16384

noncomputable section

namespace Cert.AdamFfnInIdeal.Step

open Cert.AdamFfnInIdeal Cert.AdamFfnInIdeal.Value Cert.Adam Idealize.ShloMosaic Idealize.ShloMosaic.TcCoe

variable (a b w m v : Vec Ideal S4096x1408 .f32)

theorem grad : G5 (F := Ideal) a b = fun i => (a i : EReal) + b i := rfl
theorem step : G6 (F := Ideal) a b w m v = fun i => delta (w i) ((a i : EReal) + b i) (m i) (v i) := rfl
theorem mom : G7 (F := Ideal) a b m = fun i => first (m i) ((a i : EReal) + b i) := rfl
theorem vel : G8 (F := Ideal) a b v = fun i => second (v i) ((a i : EReal) + b i) := rfl

end Cert.AdamFfnInIdeal.Step

namespace Cert.AdamFfnInReferenceIdeal.Step

open Cert.AdamFfnInReferenceIdeal Cert.AdamFfnInReferenceIdeal.Read Cert.Adam Idealize.ShloMosaic Idealize.ShloMosaic.TcCoe

variable (a b w m v : Vec Ideal S4096x1408 .f32)

theorem grad : val_main_v0 (F := Ideal) a b = fun i => (a i : EReal) + b i := rfl
theorem mom : val_main_v5 (F := Ideal) a b m = fun i => first (m i) ((a i : EReal) + b i) := rfl
theorem vel : val_main_v11 (F := Ideal) a b v = fun i => second (v i) ((a i : EReal) + b i) := rfl
theorem step : val_main_v24 (F := Ideal) a b w m v = fun i => delta (w i) ((a i : EReal) + b i) (m i) (v i) := rfl

end Cert.AdamFfnInReferenceIdeal.Step

end
-- ==== Proof.AdamFfnOutEq.lean ====
module

public import proofs.«01_k».proof.Proof.Gen.AdamFfnOutIdeal.Value
public import proofs.«01_k».proof.Proof.Gen.AdamFfnOutReferenceIdeal.Read
public import proofs.«01_k».proof.Proof.AdamSpec
public import proofs.«01_k».proof.Proof.Sums
public import Idealize.ShloMosaic.Lib.Pipeline.ReadBack
public import Idealize.ShloMosaic.Lib.Pipeline.ValueKit.Tiles
public import Idealize.ShloMosaic.Lib.Pipeline.ValueKit.Point

/-! The optimiser's step of the feed-forward output's weight: what the call's arrays and the reference's hold. -/

@[expose] public section

set_option maxRecDepth 16384

noncomputable section

namespace Cert.AdamFfnOutIdeal.Step

open Cert.AdamFfnOutIdeal Cert.AdamFfnOutIdeal.Value Cert.Adam Idealize.ShloMosaic Idealize.ShloMosaic.TcCoe

variable (a b w m v : Vec Ideal S2816x1024 .f32)

theorem grad : G5 (F := Ideal) a b = fun i => (a i : EReal) + b i := rfl
theorem step : G6 (F := Ideal) a b w m v = fun i => delta (w i) ((a i : EReal) + b i) (m i) (v i) := rfl
theorem mom : G7 (F := Ideal) a b m = fun i => first (m i) ((a i : EReal) + b i) := rfl
theorem vel : G8 (F := Ideal) a b v = fun i => second (v i) ((a i : EReal) + b i) := rfl

end Cert.AdamFfnOutIdeal.Step

namespace Cert.AdamFfnOutReferenceIdeal.Step

open Cert.AdamFfnOutReferenceIdeal Cert.AdamFfnOutReferenceIdeal.Read Cert.Adam Idealize.ShloMosaic Idealize.ShloMosaic.TcCoe

variable (a b w m v : Vec Ideal S2816x1024 .f32)

theorem grad : val_main_v0 (F := Ideal) a b = fun i => (a i : EReal) + b i := rfl
theorem mom : val_main_v5 (F := Ideal) a b m = fun i => first (m i) ((a i : EReal) + b i) := rfl
theorem vel : val_main_v11 (F := Ideal) a b v = fun i => second (v i) ((a i : EReal) + b i) := rfl
theorem step : val_main_v24 (F := Ideal) a b w m v = fun i => delta (w i) ((a i : EReal) + b i) (m i) (v i) := rfl

end Cert.AdamFfnOutReferenceIdeal.Step

end
-- ==== Proof.AdamSmallEq.lean ====
module

public import proofs.«01_k».proof.Proof.Gen.AdamSmallIdeal.Value
public import proofs.«01_k».proof.Proof.Gen.AdamSmallReferenceIdeal.Read
public import proofs.«01_k».proof.Proof.AdamSpec
public import proofs.«01_k».proof.Proof.Sums
public import Idealize.ShloMosaic.Lib.Pipeline.ReadBack
public import Idealize.ShloMosaic.Lib.Pipeline.ValueKit.Tiles
public import Idealize.ShloMosaic.Lib.Pipeline.ValueKit.Point

/-! The optimiser's step of the small weights, packed in rows of 128: what the call's arrays and the reference's hold. -/

@[expose] public section

set_option maxRecDepth 16384

noncomputable section

namespace Cert.Adam

open Idealize.ShloMosaic

/-- The gradient: the sum over the devices. -/
def total (a : (⟨3, ![8, 2568, 128]⟩ : Shape).Idx → EReal) (i : (⟨2, ![2568, 128]⟩ : Shape).Idx) : EReal := ∑ k : Fin 8, a (ix3 k (i 0) (i 1))

end Cert.Adam

namespace Cert.AdamSmallIdeal.Step

open Cert.AdamSmallIdeal Cert.AdamSmallIdeal.Gen Cert.Adam Cert.Dense Idealize.ShloMosaic Idealize.ShloMosaic.TcCoe

section
variable (a w m v : Vec Ideal S24x128 .f32) (y : (S24x128 : Shape).Idx)

theorem mom_at : k0_pay1 a m y = first (m y) (a y) := rfl
theorem vel_at : k0_pay2 a v y = second (v y) (a y) := rfl
theorem step_at : k0_pay3 a w m v y = delta (w y) (a y) (m y) (v y) := rfl

theorem total_at (x : Vec Ideal S8x24x128 .f32) (w m v : Vec Ideal S24x128 .f32) (r : Fin 24) (q : Fin 128) :
    k0_pay5 x w m v (ix2 r q) = ∑ k : Fin 8, (x (ix3 k r q) : EReal) := by
  rw [Fin.sum_univ_eight]
  unfold k0_pay5
  pointwise [k0_pay4]

end

variable (m : (ℓ : Loc nD τ sig) → Buf (Elt Ideal) ℓ)

theorem blk1 (c : Dev nD) (t : Fin cfg0.N) (y : (S24x128 : Shape).Idx) : iblk m c 1 t y = m ((c : Thread nD τ).loc main_arg1) ((win0_4.blk t).view.emb y) := rfl
theorem blk2 (c : Dev nD) (t : Fin cfg0.N) (y : (S24x128 : Shape).Idx) : iblk m c 2 t y = m ((c : Thread nD τ).loc main_arg2) ((win0_4.blk t).view.emb y) := rfl
theorem blk3 (c : Dev nD) (t : Fin cfg0.N) (y : (S24x128 : Shape).Idx) : iblk m c 3 t y = m ((c : Thread nD τ).loc main_arg3) ((win0_4.blk t).view.emb y) := rfl

theorem idx : ∀ t : Fin grid0.N, win0_0.index t = ![0, t.val, 0] ∧ win0_4.index t = ![t.val, 0] := by
  decide +kernel

theorem blk0 (c : Dev nD) (t : Fin cfg0.N) (y : (S24x128 : Shape).Idx) :
    k0_pay5 (iblk m c 0 t) (iblk m c 1 t) (iblk m c 2 t) (iblk m c 3 t) y = total (m ((c : Thread nD τ).loc main_arg0)) ((win0_4.blk t).view.emb y) := by
  refine (congrArg _ (Idealize.ShloMosaic.ValueIdx.eq_ix2 y)).trans ((total_at _ _ _ _ (y 0) (y 1)).trans (Finset.sum_congr rfl fun k _ => ?_))
  refine congrArg (m ((c : Thread nD τ).loc main_arg0)) (funext fun a => Fin.ext ((win0_0.rect_emb_val t _ a).trans ?_))
  have e0 := win0_4.rect_emb_val t y 0
  have e1 := win0_4.rect_emb_val t y 1
  fin_cases a
  · simp [idx t, ix3]
  · exact Eq.trans (by simp [idx t, ix3]) e0.symm
  · exact Eq.trans (by simp [idx t, ix3]) e1.symm

theorem arr4 (c : Dev nD) : (dats m 0 c).arrAt 4 cfg0.N = fun i => total (m ((c : Thread nD τ).loc main_arg0)) i := by
  refine (dats m 0 c).arrAt_eq_of_covers 4 _ (by decide +kernel) fun t hf y => ?_
  rw [after0_4]
  unfold out0_4
  rw [View.canon_cons_unit_zero zero2]
  simp only [View.ld_unit_zero (S := S24x128) zero2]
  exact blk0 m c t y

theorem arr5 (c : Dev nD) : (dats m 0 c).arrAt 5 cfg0.N = fun i => delta (m ((c : Thread nD τ).loc main_arg1) i) (total (m ((c : Thread nD τ).loc main_arg0)) i) (m ((c : Thread nD τ).loc main_arg2) i) (m ((c : Thread nD τ).loc main_arg3) i) := by
  refine (dats m 0 c).arrAt_eq_of_covers 5 _ (by decide +kernel) fun t hf y => ?_
  rw [after0_5]
  unfold out0_5
  rw [View.canon_cons_unit_zero zero2]
  simp only [View.ld_unit_zero (S := S24x128) zero2]
  refine (step_at _ _ _ _ y).trans ?_
  rw [blk0, blk1, blk2, blk3]
  rfl

theorem arr6 (c : Dev nD) : (dats m 0 c).arrAt 6 cfg0.N = fun i => first (m ((c : Thread nD τ).loc main_arg2) i) (total (m ((c : Thread nD τ).loc main_arg0)) i) := by
  refine (dats m 0 c).arrAt_eq_of_covers 6 _ (by decide +kernel) fun t hf y => ?_
  rw [after0_6]
  unfold out0_6
  rw [View.canon_cons_unit_zero zero2]
  simp only [View.ld_unit_zero (S := S24x128) zero2]
  refine (mom_at _ _ y).trans ?_
  rw [blk0, blk2]
  rfl

theorem arr7 (c : Dev nD) : (dats m 0 c).arrAt 7 cfg0.N = fun i => second (m ((c : Thread nD τ).loc main_arg3) i) (total (m ((c : Thread nD τ).loc main_arg0)) i) := by
  refine (dats m 0 c).arrAt_eq_of_covers 7 _ (by decide +kernel) fun t hf y => ?_
  rw [after0_7]
  unfold out0_7
  rw [View.canon_cons_unit_zero zero2]
  simp only [View.ld_unit_zero (S := S24x128) zero2]
  refine (vel_at _ _ y).trans ?_
  rw [blk0, blk3]
  rfl

end Cert.AdamSmallIdeal.Step

namespace Cert.AdamSmallReferenceIdeal.Step

open Cert.AdamSmallReferenceIdeal Cert.AdamSmallReferenceIdeal.Read Cert.Adam Idealize.ShloMosaic Idealize.ShloMosaic.TcCoe

variable (a : Vec Ideal S8x2568x128 .f32) (w m v : Vec Ideal S2568x128 .f32)

theorem grad : val_main_v0 (F := Ideal) a = total a := by
  refine funext fun i => ?_
  rw [val_main_v0_apply, val_main_cst_apply]
  have z : (FloatOps.ofBits (F := Ideal) .f32 0x00000000#32 : EReal) = 0 := by simp [FloatOps.ofBits, Ideal.ofBits, Ideal.ieee]
  refine (congrArg (fun x : EReal => x + _) z).trans ((zero_add _).trans ?_)
  refine Finset.sum_congr rfl fun k _ => congrArg a (funext fun b => ?_)
  fin_cases b <;> rfl

theorem mom : val_main_v5 (F := Ideal) a m = fun i => first (m i) (total a i) := by rw [← grad]; rfl
theorem vel : val_main_v11 (F := Ideal) a v = fun i => second (v i) (total a i) := by rw [← grad]; rfl
theorem step : val_main_v24 (F := Ideal) a w m v = fun i => delta (w i) (total a i) (m i) (v i) := by rw [← grad]; rfl

end Cert.AdamSmallReferenceIdeal.Step

end
-- ==== Proof.AdamClaims.lean ====
module

public import proofs.«01_k».proof.Defs
public import proofs.«01_k».proof.Proof.Gen.AdamMod.Frame
public import proofs.«01_k».proof.Proof.Gen.AdamModReferenceIdeal.Run
public import proofs.«01_k».proof.Proof.AdamModEq
public import proofs.«01_k».proof.Proof.Gen.AdamConv.Frame
public import proofs.«01_k».proof.Proof.Gen.AdamConvReferenceIdeal.Run
public import proofs.«01_k».proof.Proof.AdamConvEq
public import proofs.«01_k».proof.Proof.Gen.AdamIn.Frame
public import proofs.«01_k».proof.Proof.Gen.AdamInReferenceIdeal.Run
public import proofs.«01_k».proof.Proof.AdamInEq
public import proofs.«01_k».proof.Proof.Gen.AdamOut.Frame
public import proofs.«01_k».proof.Proof.Gen.AdamOutReferenceIdeal.Run
public import proofs.«01_k».proof.Proof.AdamOutEq
public import proofs.«01_k».proof.Proof.Gen.AdamFfnIn.Frame
public import proofs.«01_k».proof.Proof.Gen.AdamFfnInReferenceIdeal.Run
public import proofs.«01_k».proof.Proof.AdamFfnInEq
public import proofs.«01_k».proof.Proof.Gen.AdamFfnOut.Frame
public import proofs.«01_k».proof.Proof.Gen.AdamFfnOutReferenceIdeal.Run
public import proofs.«01_k».proof.Proof.AdamFfnOutEq
public import proofs.«01_k».proof.Proof.Gen.AdamSmall.Frame
public import proofs.«01_k».proof.Proof.Gen.AdamSmallReferenceIdeal.Run
public import proofs.«01_k».proof.Proof.AdamSmallEq

/-! The claims of the optimiser's steps. -/

@[expose] public section

open Idealize.ShloMosaic

noncomputable section

namespace Cert.Proof

theorem adamMod_algebraic : Cert.algebraic_AdamModIdeal_AdamModReferenceIdeal := by
  intro m g m' g' _ hargs
  refine ⟨_, _, _, _, Cert.AdamModIdeal.Value.run_blocks m g, (θ_run Cert.AdamModReferenceIdeal.defs _ _).mono (fun r h c => ?_) (Cert.AdamModReferenceIdeal.Value.run m' g')⟩
  obtain ⟨e0, e1, e2, e3⟩ := hargs c
  obtain ⟨h0, h1, h2, h3, hrest⟩ := h c
  exact ⟨h0.trans (by rw [Cert.AdamModIdeal.Step.arr4, e0]),
    h1.trans ((Cert.AdamModReferenceIdeal.Read.val_main_v23_eq _ _ _ _).trans ((Cert.AdamModReferenceIdeal.Step.step _ _ _ _).trans (by rw [Cert.AdamModIdeal.Step.arr5, e0, e1, e2, e3]; rfl))),
    h2.trans ((Cert.AdamModReferenceIdeal.Read.val_main_v4_eq _ _).trans ((Cert.AdamModReferenceIdeal.Step.mom _ _).trans (by rw [Cert.AdamModIdeal.Step.arr6, e0, e2]; rfl))),
    h3.trans ((Cert.AdamModReferenceIdeal.Read.val_main_v10_eq _ _).trans ((Cert.AdamModReferenceIdeal.Step.vel _ _).trans (by rw [Cert.AdamModIdeal.Step.arr7, e0, e3]; rfl))), hrest⟩

/-- The reference ends, changing no argument; it declares no semaphore. -/
theorem adamMod_reference_frame : Cert.quiescent_AdamModReferenceIdeal := fun m ρ _ =>
  (θ_run Cert.AdamModReferenceIdeal.defs _ _).mono (fun r h => ⟨fun c => (h c).2.2.2.2, sem_eq_zero_of_no_sems (by decide) r.2⟩) (Cert.AdamModReferenceIdeal.Value.run m ρ)

theorem adamConv_algebraic : Cert.algebraic_AdamConvIdeal_AdamConvReferenceIdeal := by
  intro m g m' g' _ hargs
  refine ⟨_, _, _, _, Cert.AdamConvIdeal.Value.run_blocks m g, (θ_run Cert.AdamConvReferenceIdeal.defs _ _).mono (fun r h c => ?_) (Cert.AdamConvReferenceIdeal.Value.run m' g')⟩
  obtain ⟨e0, e1, e2, e3⟩ := hargs c
  obtain ⟨h0, h1, h2, h3, hrest⟩ := h c
  exact ⟨h0.trans (by rw [Cert.AdamConvIdeal.Step.arr4, e0]),
    h1.trans ((Cert.AdamConvReferenceIdeal.Read.val_main_v23_eq _ _ _ _).trans ((Cert.AdamConvReferenceIdeal.Step.step _ _ _ _).trans (by rw [Cert.AdamConvIdeal.Step.arr5, e0, e1, e2, e3]; rfl))),
    h2.trans ((Cert.AdamConvReferenceIdeal.Read.val_main_v4_eq _ _).trans ((Cert.AdamConvReferenceIdeal.Step.mom _ _).trans (by rw [Cert.AdamConvIdeal.Step.arr6, e0, e2]; rfl))),
    h3.trans ((Cert.AdamConvReferenceIdeal.Read.val_main_v10_eq _ _).trans ((Cert.AdamConvReferenceIdeal.Step.vel _ _).trans (by rw [Cert.AdamConvIdeal.Step.arr7, e0, e3]; rfl))), hrest⟩

/-- The reference ends, changing no argument; it declares no semaphore. -/
theorem adamConv_reference_frame : Cert.quiescent_AdamConvReferenceIdeal := fun m ρ _ =>
  (θ_run Cert.AdamConvReferenceIdeal.defs _ _).mono (fun r h => ⟨fun c => (h c).2.2.2.2, sem_eq_zero_of_no_sems (by decide) r.2⟩) (Cert.AdamConvReferenceIdeal.Value.run m ρ)

theorem adamIn_algebraic : Cert.algebraic_AdamInIdeal_AdamInReferenceIdeal := by
  intro m g m' g' _ hargs
  refine ⟨_, _, _, _, Cert.AdamInIdeal.Value.run m g, (θ_run Cert.AdamInReferenceIdeal.defs _ _).mono (fun r h c => ?_) (Cert.AdamInReferenceIdeal.Value.run m' g')⟩
  obtain ⟨e0, e1, e2, e3, e4⟩ := hargs c
  obtain ⟨h0, h1, h2, h3, hrest⟩ := h c
  exact ⟨h0.trans ((Cert.AdamInReferenceIdeal.Read.val_main_v0_eq _ _).trans ((Cert.AdamInReferenceIdeal.Step.grad _ _).trans (by rw [Cert.AdamInIdeal.Step.grad, e0, e1]))),
    h1.trans ((Cert.AdamInReferenceIdeal.Read.val_main_v24_eq _ _ _ _ _).trans ((Cert.AdamInReferenceIdeal.Step.step _ _ _ _ _).trans (by rw [Cert.AdamInIdeal.Step.step, e0, e1, e2, e3, e4]))),
    h2.trans ((Cert.AdamInReferenceIdeal.Read.val_main_v5_eq _ _ _).trans ((Cert.AdamInReferenceIdeal.Step.mom _ _ _).trans (by rw [Cert.AdamInIdeal.Step.mom, e0, e1, e3]))),
    h3.trans ((Cert.AdamInReferenceIdeal.Read.val_main_v11_eq _ _ _).trans ((Cert.AdamInReferenceIdeal.Step.vel _ _ _).trans (by rw [Cert.AdamInIdeal.Step.vel, e0, e1, e4]))), hrest⟩

/-- The reference ends, changing no argument; it declares no semaphore. -/
theorem adamIn_reference_frame : Cert.quiescent_AdamInReferenceIdeal := fun m ρ _ =>
  (θ_run Cert.AdamInReferenceIdeal.defs _ _).mono (fun r h => ⟨fun c => (h c).2.2.2.2, sem_eq_zero_of_no_sems (by decide) r.2⟩) (Cert.AdamInReferenceIdeal.Value.run m ρ)

theorem adamOut_algebraic : Cert.algebraic_AdamOutIdeal_AdamOutReferenceIdeal := by
  intro m g m' g' _ hargs
  refine ⟨_, _, _, _, Cert.AdamOutIdeal.Value.run m g, (θ_run Cert.AdamOutReferenceIdeal.defs _ _).mono (fun r h c => ?_) (Cert.AdamOutReferenceIdeal.Value.run m' g')⟩
  obtain ⟨e0, e1, e2, e3, e4⟩ := hargs c
  obtain ⟨h0, h1, h2, h3, hrest⟩ := h c
  exact ⟨h0.trans ((Cert.AdamOutReferenceIdeal.Read.val_main_v0_eq _ _).trans ((Cert.AdamOutReferenceIdeal.Step.grad _ _).trans (by rw [Cert.AdamOutIdeal.Step.grad, e0, e1]))),
    h1.trans ((Cert.AdamOutReferenceIdeal.Read.val_main_v24_eq _ _ _ _ _).trans ((Cert.AdamOutReferenceIdeal.Step.step _ _ _ _ _).trans (by rw [Cert.AdamOutIdeal.Step.step, e0, e1, e2, e3, e4]))),
    h2.trans ((Cert.AdamOutReferenceIdeal.Read.val_main_v5_eq _ _ _).trans ((Cert.AdamOutReferenceIdeal.Step.mom _ _ _).trans (by rw [Cert.AdamOutIdeal.Step.mom, e0, e1, e3]))),
    h3.trans ((Cert.AdamOutReferenceIdeal.Read.val_main_v11_eq _ _ _).trans ((Cert.AdamOutReferenceIdeal.Step.vel _ _ _).trans (by rw [Cert.AdamOutIdeal.Step.vel, e0, e1, e4]))), hrest⟩

/-- The reference ends, changing no argument; it declares no semaphore. -/
theorem adamOut_reference_frame : Cert.quiescent_AdamOutReferenceIdeal := fun m ρ _ =>
  (θ_run Cert.AdamOutReferenceIdeal.defs _ _).mono (fun r h => ⟨fun c => (h c).2.2.2.2, sem_eq_zero_of_no_sems (by decide) r.2⟩) (Cert.AdamOutReferenceIdeal.Value.run m ρ)

theorem adamFfnIn_algebraic : Cert.algebraic_AdamFfnInIdeal_AdamFfnInReferenceIdeal := by
  intro m g m' g' _ hargs
  refine ⟨_, _, _, _, Cert.AdamFfnInIdeal.Value.run m g, (θ_run Cert.AdamFfnInReferenceIdeal.defs _ _).mono (fun r h c => ?_) (Cert.AdamFfnInReferenceIdeal.Value.run m' g')⟩
  obtain ⟨e0, e1, e2, e3, e4⟩ := hargs c
  obtain ⟨h0, h1, h2, h3, hrest⟩ := h c
  exact ⟨h0.trans ((Cert.AdamFfnInReferenceIdeal.Read.val_main_v0_eq _ _).trans ((Cert.AdamFfnInReferenceIdeal.Step.grad _ _).trans (by rw [Cert.AdamFfnInIdeal.Step.grad, e0, e1]))),
    h1.trans ((Cert.AdamFfnInReferenceIdeal.Read.val_main_v24_eq _ _ _ _ _).trans ((Cert.AdamFfnInReferenceIdeal.Step.step _ _ _ _ _).trans (by rw [Cert.AdamFfnInIdeal.Step.step, e0, e1, e2, e3, e4]))),
    h2.trans ((Cert.AdamFfnInReferenceIdeal.Read.val_main_v5_eq _ _ _).trans ((Cert.AdamFfnInReferenceIdeal.Step.mom _ _ _).trans (by rw [Cert.AdamFfnInIdeal.Step.mom, e0, e1, e3]))),
    h3.trans ((Cert.AdamFfnInReferenceIdeal.Read.val_main_v11_eq _ _ _).trans ((Cert.AdamFfnInReferenceIdeal.Step.vel _ _ _).trans (by rw [Cert.AdamFfnInIdeal.Step.vel, e0, e1, e4]))), hrest⟩

/-- The reference ends, changing no argument; it declares no semaphore. -/
theorem adamFfnIn_reference_frame : Cert.quiescent_AdamFfnInReferenceIdeal := fun m ρ _ =>
  (θ_run Cert.AdamFfnInReferenceIdeal.defs _ _).mono (fun r h => ⟨fun c => (h c).2.2.2.2, sem_eq_zero_of_no_sems (by decide) r.2⟩) (Cert.AdamFfnInReferenceIdeal.Value.run m ρ)

theorem adamFfnOut_algebraic : Cert.algebraic_AdamFfnOutIdeal_AdamFfnOutReferenceIdeal := by
  intro m g m' g' _ hargs
  refine ⟨_, _, _, _, Cert.AdamFfnOutIdeal.Value.run m g, (θ_run Cert.AdamFfnOutReferenceIdeal.defs _ _).mono (fun r h c => ?_) (Cert.AdamFfnOutReferenceIdeal.Value.run m' g')⟩
  obtain ⟨e0, e1, e2, e3, e4⟩ := hargs c
  obtain ⟨h0, h1, h2, h3, hrest⟩ := h c
  exact ⟨h0.trans ((Cert.AdamFfnOutReferenceIdeal.Read.val_main_v0_eq _ _).trans ((Cert.AdamFfnOutReferenceIdeal.Step.grad _ _).trans (by rw [Cert.AdamFfnOutIdeal.Step.grad, e0, e1]))),
    h1.trans ((Cert.AdamFfnOutReferenceIdeal.Read.val_main_v24_eq _ _ _ _ _).trans ((Cert.AdamFfnOutReferenceIdeal.Step.step _ _ _ _ _).trans (by rw [Cert.AdamFfnOutIdeal.Step.step, e0, e1, e2, e3, e4]))),
    h2.trans ((Cert.AdamFfnOutReferenceIdeal.Read.val_main_v5_eq _ _ _).trans ((Cert.AdamFfnOutReferenceIdeal.Step.mom _ _ _).trans (by rw [Cert.AdamFfnOutIdeal.Step.mom, e0, e1, e3]))),
    h3.trans ((Cert.AdamFfnOutReferenceIdeal.Read.val_main_v11_eq _ _ _).trans ((Cert.AdamFfnOutReferenceIdeal.Step.vel _ _ _).trans (by rw [Cert.AdamFfnOutIdeal.Step.vel, e0, e1, e4]))), hrest⟩

/-- The reference ends, changing no argument; it declares no semaphore. -/
theorem adamFfnOut_reference_frame : Cert.quiescent_AdamFfnOutReferenceIdeal := fun m ρ _ =>
  (θ_run Cert.AdamFfnOutReferenceIdeal.defs _ _).mono (fun r h => ⟨fun c => (h c).2.2.2.2, sem_eq_zero_of_no_sems (by decide) r.2⟩) (Cert.AdamFfnOutReferenceIdeal.Value.run m ρ)

theorem adamSmall_algebraic : Cert.algebraic_AdamSmallIdeal_AdamSmallReferenceIdeal := by
  intro m g m' g' _ hargs
  refine ⟨_, _, _, _, Cert.AdamSmallIdeal.Value.run_blocks m g, (θ_run Cert.AdamSmallReferenceIdeal.defs _ _).mono (fun r h c => ?_) (Cert.AdamSmallReferenceIdeal.Value.run m' g')⟩
  obtain ⟨e0, e1, e2, e3⟩ := hargs c
  obtain ⟨h0, h1, h2, h3, hrest⟩ := h c
  exact ⟨h0.trans ((Cert.AdamSmallReferenceIdeal.Read.val_main_v0_eq _).trans ((Cert.AdamSmallReferenceIdeal.Step.grad _).trans (by rw [Cert.AdamSmallIdeal.Step.arr4, e0]))),
    h1.trans ((Cert.AdamSmallReferenceIdeal.Read.val_main_v24_eq _ _ _ _).trans ((Cert.AdamSmallReferenceIdeal.Step.step _ _ _ _).trans (by rw [Cert.AdamSmallIdeal.Step.arr5, e0, e1, e2, e3]; rfl))),
    h2.trans ((Cert.AdamSmallReferenceIdeal.Read.val_main_v5_eq _ _).trans ((Cert.AdamSmallReferenceIdeal.Step.mom _ _).trans (by rw [Cert.AdamSmallIdeal.Step.arr6, e0, e2]; rfl))),
    h3.trans ((Cert.AdamSmallReferenceIdeal.Read.val_main_v11_eq _ _).trans ((Cert.AdamSmallReferenceIdeal.Step.vel _ _).trans (by rw [Cert.AdamSmallIdeal.Step.arr7, e0, e3]; rfl))), hrest⟩

/-- The reference ends, changing no argument; it declares no semaphore. -/
theorem adamSmall_reference_frame : Cert.quiescent_AdamSmallReferenceIdeal := fun m ρ _ =>
  (θ_run Cert.AdamSmallReferenceIdeal.defs _ _).mono (fun r h => ⟨fun c => (h c).2.2.2.2, sem_eq_zero_of_no_sems (by decide) r.2⟩) (Cert.AdamSmallReferenceIdeal.Value.run m ρ)

end Cert.Proof
end
-- ==== Proof.ModEq.lean ====
module

public import proofs.«01_k».proof.Proof.Gen.ModBwdIdeal.Value
public import proofs.«01_k».proof.Proof.Gen.ModBwdReferenceIdeal.Read
public import proofs.«01_k».proof.Proof.FwdSpec
public import Idealize.ShloMosaic.Lib.Pipeline.ReadBack
public import Idealize.ShloMosaic.Lib.Pipeline.ValueKit.Tiles
public import Idealize.ShloMosaic.Lib.Pipeline.ValueKit.Point
public import Idealize.ShloMosaic.Lib.IdealHost

/-! The gradient of the modulation's weight: what the call's array and the reference's hold. -/

@[expose] public section

set_option maxRecDepth 16384

noncomputable section

namespace Cert.Dense

open Idealize.ShloMosaic

/-- Entry (d, e) of layer l: the sum over the batch of silu(c) times the modulation's cotangent. -/
def modGrad (c : (⟨2, ![8, 1024]⟩ : Shape).Idx → EReal) (ct : (⟨3, ![4, 8, 1536]⟩ : Shape).Idx → EReal) (l : Fin 4) (d : Fin 1024) (e : Fin 1536) : EReal :=
  ∑ b : Fin 8, silu (c (ix2 b d)) * ct (ix3 l b e)

theorem zero3 : (![0, 0, 0] : Fin 3 → Nat) = fun _ => 0 := by decide

end Cert.Dense

namespace Cert.ModBwdIdeal.Mod

open Cert.ModBwdIdeal Cert.ModBwdIdeal.Gen Cert.Dense Idealize.ShloMosaic Idealize.ShloMosaic.TcCoe

theorem grad_at (c : Vec Ideal S8x1024 .f32) (ct : Vec Ideal S1x8x1536 .f32) (d : Fin 1024) (e : Fin 1536) :
    k0_pay1 c ct (ix3 0 d e) = ∑ b : Fin 8, silu (c (ix2 b d)) * (ct (ix3 0 b e) : EReal) := by
  pointwise [k0_pay1]
  simp only [sigmoid]
  rfl

variable (m : (ℓ : Loc nD τ sig) → Buf (Elt Ideal) ℓ)

theorem idx : ∀ t : Fin grid0.N, win0_0.index t = ![0, 0] ∧ win0_1.index t = ![t.val, 0, 0] ∧ win0_2.index t = ![t.val, 0, 0] := by
  decide +kernel

theorem blk0 (c : Dev nD) (t : Fin cfg0.N) (b : Fin 8) (d : Fin 1024) :
    iblk m c 0 t (ix2 b d) = m ((c : Thread nD τ).loc main_arg0) (ix2 b d) := by
  blk_point [iblk, V, idx t]
theorem blk1 (c : Dev nD) (t : Fin cfg0.N) (b : Fin 8) (e : Fin 1536) :
    iblk m c 1 t (ix3 0 b e) = m ((c : Thread nD τ).loc main_arg1) (ix3 (⟨t.val, t.isLt⟩ : Fin 4) b e) := by
  blk_point [iblk, V, idx t]

theorem arr2 (c : Dev nD) : (dats m 0 c).arrAt 2 cfg0.N = fun i => modGrad (m ((c : Thread nD τ).loc main_arg0)) (m ((c : Thread nD τ).loc main_arg1)) (i 0) (i 1) (i 2) := by
  refine (dats m 0 c).arrAt_eq_of_covers 2 _ (by decide +kernel) fun t hf y => ?_
  blk_simp [idx t]
  rw [after0_2]
  have h0 : y 0 = (0 : Fin 1) := Subsingleton.elim (α := Fin 1) _ _
  have e : (win0_2.blk t).view.emb y = ix3 (⟨t.val, t.isLt⟩ : Fin 4) (y 1) (y 2) := by
    refine funext fun a => Fin.ext ((win0_2.rect_emb_val t _ a).trans ?_)
    fin_cases a <;> simp [idx t]
  rw [e, Idealize.ShloMosaic.ValueIdx.eq_ix3 y, h0]
  unfold out0_2
  rw [View.canon_cons_unit_zero zero3]
  simp only [View.ld_unit_zero (S := S8x1024) zero2, View.ld_unit_zero (S := S1x8x1536) zero3]
  exact (grad_at _ _ (y 1) (y 2)).trans (Finset.sum_congr rfl fun b _ => congrArg₂ (fun u v : EReal => silu u * v) (blk0 m c t b (y 1)) (blk1 m c t b (y 2)))

end Cert.ModBwdIdeal.Mod

namespace Cert.ModBwdReferenceIdeal.Mod

open Cert.ModBwdReferenceIdeal Cert.ModBwdReferenceIdeal.Read Cert.Dense Idealize.ShloMosaic Idealize.ShloMosaic.TcCoe

theorem grad (x0 : Vec Ideal S8x1024 .f32) (x1 : Vec Ideal S4x8x1536 .f32) :
    val_main_v6 (F := Ideal) x0 x1 = fun i => modGrad x0 x1 (i 0) (i 1) (i 2) := by
  refine funext fun i => ?_
  rw [Idealize.ShloMosaic.ValueIdx.eq_ix3 i]
  pointwise [val_main_v6, val_main_v5, val_main_v4, val_main_v1, val_main_call0_v0, val_main_call0_v1, val_main_call0_cst, val_main_call0_v2, val_main_call0_v3, val_main_call0_cst_0, val_main_call0_v4, val_main_call0_v5]
  refine Finset.sum_congr rfl fun b _ => (mul_comm _ _).trans ?_
  rfl

end Cert.ModBwdReferenceIdeal.Mod

end
-- ==== Proof.ModClaims.lean ====
module

public import proofs.«01_k».proof.Defs
public import proofs.«01_k».proof.Proof.Gen.ModBwd.Frame
public import proofs.«01_k».proof.Proof.Gen.ModBwdReferenceIdeal.Run
public import proofs.«01_k».proof.Proof.ModEq

/-! The claims of the gradient of the modulation's weight. -/

@[expose] public section

open Idealize.ShloMosaic

noncomputable section

namespace Cert.Proof

theorem modBwd_algebraic : Cert.algebraic_ModBwdIdeal_ModBwdReferenceIdeal := by
  intro m g m' g' _ hargs
  refine ⟨_, Cert.ModBwdIdeal.Value.run_blocks m g, (θ_run Cert.ModBwdReferenceIdeal.defs _ _).mono (fun r h c => ?_) (Cert.ModBwdReferenceIdeal.Value.run m' g')⟩
  obtain ⟨e0, e1⟩ := hargs c
  obtain ⟨h0, hrest⟩ := h c
  exact ⟨h0.trans ((Cert.ModBwdReferenceIdeal.Read.val_main_v6_eq _ _).trans ((Cert.ModBwdReferenceIdeal.Mod.grad _ _).trans (by rw [Cert.ModBwdIdeal.Mod.arr2, e0, e1]; rfl))), hrest⟩

/-- The reference ends, changing no argument; it declares no semaphore. -/
theorem modBwd_reference_frame : Cert.quiescent_ModBwdReferenceIdeal := fun m ρ _ =>
  (θ_run Cert.ModBwdReferenceIdeal.defs _ _).mono (fun r h => ⟨fun c => (h c).2, sem_eq_zero_of_no_sems (by decide) r.2⟩) (Cert.ModBwdReferenceIdeal.Value.run m ρ)

end Cert.Proof
end
-- ==== Proof.ConvSpec.lean ====
module

public import proofs.«01_k».proof.Proof.FwdSpec
public import Idealize.ShloMosaic.Lib.ValueIdx

/-! The gradient of the causal convolution and its SiLU, one channel at a time, over the extended reals. -/

@[expose] public section

noncomputable section

namespace Cert.Conv

open Idealize.ShloMosaic

/-- One channel of the projection, and of the cotangent; the four taps of one channel. -/
def projChan (x : (⟨2, ![4096, 5120]⟩ : Shape).Idx → EReal) (k : Fin 1536) (t : Fin 4096) : EReal := x (ix2 t ⟨k.val, by omega⟩)
def actChan (d : (⟨2, ![4096, 1536]⟩ : Shape).Idx → EReal) (k : Fin 1536) (t : Fin 4096) : EReal := d (ix2 t k)
def tapChan (w : (⟨2, ![4, 1536]⟩ : Shape).Idx → EReal) (k : Fin 1536) (j : Fin 4) : EReal := w (ix2 j k)

/-- The sequence `s` positions later: zero before position `s`. -/
def later (f : Fin 4096 → EReal) (s : ℕ) (t : Fin 4096) : EReal := if s ≤ t.val then f ⟨t.val - s, by omega⟩ else 0

/-- The sequence `s` positions earlier: zero at the last `s` positions. -/
def earlier (f : Fin 4096 → EReal) (s : ℕ) (t : Fin 4096) : EReal := if h : t.val + s < 4096 then f ⟨t.val + s, h⟩ else 0

/-- The convolution: the last of the four taps falls on the position itself. -/
def pre (x : Fin 4096 → EReal) (w : Fin 4 → EReal) (t : Fin 4096) : EReal :=
  x t * w 3 + later (fun u => x u * w 0) 3 t + later (fun u => x u * w 1) 2 t + later (fun u => x u * w 2) 1 t

/-- The cotangent before SiLU. -/
def cot (x : Fin 4096 → EReal) (w : Fin 4 → EReal) (d : Fin 4096 → EReal) (t : Fin 4096) : EReal :=
  d t * (Ideal.logistic (pre x w t) * (1 + pre x w t * (1 - Ideal.logistic (pre x w t))))

/-- The input's gradient. -/
def dx (x : Fin 4096 → EReal) (w : Fin 4 → EReal) (d : Fin 4096 → EReal) (t : Fin 4096) : EReal :=
  cot x w d t * w 3 + earlier (fun u => cot x w d u * w 0) 3 t + earlier (fun u => cot x w d u * w 1) 2 t
    + earlier (fun u => cot x w d u * w 2) 1 t

/-- The gradient of the tap that lies `s` positions back. -/
def tap (x : Fin 4096 → EReal) (w : Fin 4 → EReal) (d : Fin 4096 → EReal) (s : ℕ) : EReal := ∑ t, earlier (cot x w d) s t * x t

/-- The taps' gradients, four of eight rows. -/
def dw (x : Fin 4096 → EReal) (w : Fin 4 → EReal) (d : Fin 4096 → EReal) (q : Fin 8) : EReal := if q.val < 4 then tap x w d (3 - q.val) else 0

theorem later_mul (f : Fin 4096 → EReal) (a : EReal) (s : ℕ) (t : Fin 4096) : later (fun u => f u * a) s t = later f s t * a := by
  unfold later
  split <;> simp

theorem earlier_mul (f : Fin 4096 → EReal) (a : EReal) (s : ℕ) (t : Fin 4096) : earlier (fun u => f u * a) s t = earlier f s t * a := by
  unfold earlier
  split <;> simp

theorem later_zero (f : Fin 4096 → EReal) (t : Fin 4096) : later f 0 t = f t := if_pos (Nat.zero_le _)

/-- Padded by `p` rows in front and read three rows down. -/
theorem earlier_pad (f : Fin 4096 → EReal) (p s : ℕ) (t : Fin 4096) (hp : p + s = 3) :
    (if h : p ≤ 3 + t.val ∧ 3 + t.val - p < 4096 then f ⟨3 + t.val - p, h.2⟩ else 0) = earlier f s t := by
  unfold earlier
  split <;> rename_i h
  · rw [dif_pos (by omega)]
    exact congrArg f (Fin.ext (by show 3 + t.val - p = t.val + s; omega))
  · rw [dif_neg (by omega)]

/-- One sequence moved against another, whichever of the two is moved. -/
theorem sum_shift (f g : Fin 4096 → EReal) (s : ℕ) : ∑ t, earlier f s t * g t = ∑ t, later g s t * f t := by
  have e (t : Fin 4096) : earlier f s t * g t = ∑ u : Fin 4096, if u.val = t.val + s then f u * g t else 0 := by
    unfold earlier
    split
    · rename_i h
      rw [Finset.sum_eq_single (⟨t.val + s, h⟩ : Fin 4096)]
      · rw [if_pos rfl]
      · intro u _ hu
        rw [if_neg fun e => hu (Fin.ext e)]
      · simp
    · rename_i h
      rw [Finset.sum_eq_zero, zero_mul]
      intro u _
      rw [if_neg]
      omega
  have l (u : Fin 4096) : later g s u * f u = ∑ t : Fin 4096, if u.val = t.val + s then f u * g t else 0 := by
    unfold later
    split
    · rename_i h
      rw [Finset.sum_eq_single (⟨u.val - s, by omega⟩ : Fin 4096)]
      · rw [if_pos (by show u.val = u.val - s + s; omega), mul_comm]
      · intro t _ ht
        rw [if_neg fun e => ht (Fin.ext (by show t.val = u.val - s; omega))]
      · simp
    · rename_i h
      rw [Finset.sum_eq_zero, zero_mul]
      intro t _
      rw [if_neg]
      omega
  simp only [e, l]
  exact Finset.sum_comm

/-- The two forms of the derivative of the gate's activation, at a finite cotangent. -/
theorem dsilu_of_real (d : ℝ) (g : EReal) : (d : EReal) * (Ideal.logistic g * (1 + g * (1 - Ideal.logistic g)))
    = d * Ideal.logistic g + g * d * (Ideal.logistic g * (1 - Ideal.logistic g)) := by
  induction g using EReal.rec with
  | bot => simp [Ideal.logistic_bot]
  | top => simp [Ideal.logistic_top, show (1 : EReal) - 1 = 0 from by rw [← EReal.coe_one, ← EReal.coe_sub]; simp]
  | coe g =>
    rw [Ideal.logistic_coe, ← EReal.coe_one]
    simp only [← EReal.coe_mul, ← EReal.coe_add, ← EReal.coe_sub]
    congr 1
    ring

theorem select_of {α : Type} (p : Prop) [Decidable p] (c : BitVec 1) (h : c = BitVec.ofBool (decide p)) (a b : α) :
    Scalar.select c a b = if p then a else b := by
  subst h
  by_cases hp : p <;> simp [hp, Scalar.select]

theorem row_int (t : Fin 4096) : (BitVec.ofNat 32 t.val).toInt = t.val := by
  have := t.isLt
  rw [BitVec.toInt_eq_toNat_cond, BitVec.toNat_ofNat, Nat.mod_eq_of_lt (by omega), if_pos (by omega)]

theorem from_row (s : Fin 4096) (t : Fin 4096) : IntOp.cmpi .sge (BitVec.ofNat 32 t.val) (BitVec.ofNat 32 s.val) = BitVec.ofBool (decide (s.val ≤ t.val)) := by
  unfold IntOp.cmpi
  refine congrArg BitVec.ofBool (decide_eq_decide.mpr ?_)
  rw [row_int, row_int]
  omega

theorem below_row (s : Fin 4096) (t : Fin 4096) : IntOp.cmpi .slt (BitVec.ofNat 32 t.val) (BitVec.ofNat 32 s.val) = BitVec.ofBool (decide (t.val < s.val)) := by
  unfold IntOp.cmpi
  refine congrArg BitVec.ofBool (decide_eq_decide.mpr ?_)
  rw [row_int, row_int]
  omega

theorem row_eq (q k : Fin 8) : IntOp.cmpi .eq (BitVec.ofNat 32 q.val) (BitVec.ofNat 32 k.val) = BitVec.ofBool (decide (q.val = k.val)) := by
  revert q k
  decide

/-- A rotation masked below row `s` is the sequence moved later. -/
theorem sel_later (f : Fin 4096 → EReal) (s t : Fin 4096) (u : Fin 4096) (hu : u.val = (t.val + 4096 - s.val) % 4096) :
    Scalar.select (IntOp.cmpi .sge (BitVec.ofNat 32 t.val) (BitVec.ofNat 32 s.val)) (f u) 0 = later f s.val t := by
  rw [select_of (s.val ≤ t.val) _ (from_row s t)]
  unfold later
  split
  · refine congrArg f (Fin.ext ?_)
    show u.val = t.val - s.val
    have := t.isLt
    omega
  · rfl

/-- A rotation masked from row `4096 - s` on is the sequence moved earlier. -/
theorem sel_earlier (f : Fin 4096 → EReal) (s : ℕ) (r t : Fin 4096) (h : r.val + s = 4096) (u : Fin 4096) (hu : u.val = (t.val + 4096 - r.val) % 4096) :
    Scalar.select (IntOp.cmpi .slt (BitVec.ofNat 32 t.val) (BitVec.ofNat 32 r.val)) (f u) 0 = earlier f s t := by
  rw [select_of (t.val < r.val) _ (below_row r t)]
  unfold earlier
  have := t.isLt
  split
  · rw [dif_pos (by omega)]
    refine congrArg f (Fin.ext ?_)
    show u.val = t.val + s
    omega
  · rw [dif_neg (by omega)]

end Cert.Conv

end
-- ==== Proof.ConvKernel.lean ====
module

public import proofs.«01_k».proof.Proof.Gen.ConvBwdIdeal.Value
public import proofs.«01_k».proof.Proof.ConvSpec
public import Idealize.ShloMosaic.Lib.Pipeline.ReadBack
public import Idealize.ShloMosaic.Lib.Pipeline.ValueKit.Tiles
public import Idealize.ShloMosaic.Lib.Pipeline.ValueKit.Point
public import Idealize.ShloMosaic.Lib.StableHlo.ReadAt
public import Idealize.ShloMosaic.Lib.IdealHost

/-! The gradient of the convolution: what one grid point leaves in its output blocks. -/

@[expose] public section

set_option maxRecDepth 100000

noncomputable section

namespace Cert.ConvBwdIdeal.Cv

open Cert.ConvBwdIdeal Cert.ConvBwdIdeal.Gen Cert.Conv Cert.Dense Idealize.ShloMosaic Idealize.ShloMosaic.TcCoe

/-- One channel of a block. -/
def chan (x : Vec Ideal S4096x128 .f32) (l : Fin 128) (t : Fin 4096) : EReal := x (ix2 t l)

/-- The four taps of one channel of a block. -/
def taps (w : Vec Ideal S8x128 .f32) (l : Fin 128) (j : Fin 4) : EReal := w (ix2 ⟨j.val, by omega⟩ l)

section
variable (x d : Vec Ideal S4096x128 .f32) (w : Vec Ideal S8x128 .f32) (t : Fin 4096) (l : Fin 128)

theorem pre_at : k0_pay2 x w (ix2 t l) = pre (chan x l) (taps w l) t := by
  pointwise [k0_pay2, k0_pay1]
  exact congrArg₂ (· + ·) (congrArg₂ (· + ·) (congrArg (_ + ·)
    (sel_later (fun u => chan x l u * taps w l 0) 3 t _ rfl)) (sel_later (fun u => chan x l u * taps w l 1) 2 t _ rfl))
    (sel_later (fun u => chan x l u * taps w l 2) 1 t _ rfl)

theorem cot_at : k0_pay4 d (k0_pay2 x w) (k0_pay3 x w) (ix2 t l) = cot (chan x l) (taps w l) (chan d l) t := by
  pointwise [k0_pay4, k0_pay3]
  simp only [sigmoid, pre_at]
  rfl

theorem back3 (p q : Vec Ideal S4096x128 .f32) : k0_pay5 d p q (ix2 t l) = earlier (chan (k0_pay4 d p q) l) 3 t := by
  pointwise [k0_pay5]
  exact sel_earlier (chan (k0_pay4 d p q) l) 3 4093 t (by decide) _ rfl
theorem back2 (p q : Vec Ideal S4096x128 .f32) : k0_pay7 d p q (ix2 t l) = earlier (chan (k0_pay4 d p q) l) 2 t := by
  pointwise [k0_pay7]
  exact sel_earlier (chan (k0_pay4 d p q) l) 2 4094 t (by decide) _ rfl
theorem back1 (p q : Vec Ideal S4096x128 .f32) : k0_pay10 d p q (ix2 t l) = earlier (chan (k0_pay4 d p q) l) 1 t := by
  pointwise [k0_pay10]
  exact sel_earlier (chan (k0_pay4 d p q) l) 1 4095 t (by decide) _ rfl

theorem chan_cot : chan (k0_pay4 d (k0_pay2 x w) (k0_pay3 x w)) l = cot (chan x l) (taps w l) (chan d l) :=
  funext fun t => cot_at x d w t l

theorem sum8 (v : Vec Ideal S8x128 .f32) (p q : Vec Ideal S4096x128 .f32) : k0_pay8 v d p q (ix2 t l)
    = k0_pay4 d p q (ix2 t l) * v (ix2 3 l) + k0_pay5 d p q (ix2 t l) * v (ix2 0 l) + k0_pay7 d p q (ix2 t l) * v (ix2 1 l) := by
  pointwise [k0_pay8]

theorem dx_at : k0_pay12 (k0_pay8 (k0_pay1 w) d (k0_pay2 x w) (k0_pay3 x w)) (k0_pay10 d (k0_pay2 x w) (k0_pay3 x w)) (k0_pay11 (k0_pay1 w)) (ix2 t l)
    = dx (chan x l) (taps w l) (chan d l) t := by
  have hw (j : Fin 8) : k0_pay1 w (ix2 j l) = w (ix2 j l) := by pointwise [k0_pay1]
  pointwise [k0_pay12, k0_pay11]
  rw [sum8, back3, back2, back1, cot_at, hw, hw, hw, hw, chan_cot]
  unfold dx
  simp only [earlier_mul]
  rfl

theorem dw_at (q : Fin 8) : k0_pay13 x (k0_pay4 d (k0_pay2 x w) (k0_pay3 x w)) (k0_pay6 x d (k0_pay2 x w) (k0_pay3 x w))
      (k0_pay9 x d (k0_pay2 x w) (k0_pay3 x w)) (k0_pay10 d (k0_pay2 x w) (k0_pay3 x w)) (ix2 q l)
    = dw (chan x l) (taps w l) (chan d l) q := by
  have h6 : k0_pay6 x d (k0_pay2 x w) (k0_pay3 x w) (ix2 0 l) = tap (chan x l) (taps w l) (chan d l) 3 := by
    pointwise [k0_pay6]
    exact Finset.sum_congr rfl fun u _ => congrArg (· * chan x l u) ((back3 d u l _ _).trans (by rw [chan_cot]))
  have h9 : k0_pay9 x d (k0_pay2 x w) (k0_pay3 x w) (ix2 0 l) = tap (chan x l) (taps w l) (chan d l) 2 := by
    pointwise [k0_pay9]
    exact Finset.sum_congr rfl fun u _ => congrArg (· * chan x l u) ((back2 d u l _ _).trans (by rw [chan_cot]))
  have h10 : ∑ u, (k0_pay10 d (k0_pay2 x w) (k0_pay3 x w) (ix2 u l) : EReal) * x (ix2 u l) = tap (chan x l) (taps w l) (chan d l) 1 :=
    Finset.sum_congr rfl fun u _ => congrArg (· * chan x l u) ((back1 d u l _ _).trans (by rw [chan_cot]))
  have h4 : ∑ u, (k0_pay4 d (k0_pay2 x w) (k0_pay3 x w) (ix2 u l) : EReal) * x (ix2 u l) = tap (chan x l) (taps w l) (chan d l) 0 :=
    Finset.sum_congr rfl fun u _ => congrArg (· * chan x l u) ((cot_at x d w u l).trans (by unfold earlier; rw [dif_pos (by omega)]; rfl))
  pointwise [k0_pay13]
  have e0 (a b : EReal) : Scalar.select (IntOp.cmpi .eq (BitVec.ofNat 32 q.val) 0#32) a b = if q.val = 0 then a else b := select_of _ _ (row_eq q 0) a b
  have e1 (a b : EReal) : Scalar.select (IntOp.cmpi .eq (BitVec.ofNat 32 q.val) 1#32) a b = if q.val = 1 then a else b := select_of _ _ (row_eq q 1) a b
  have e2 (a b : EReal) : Scalar.select (IntOp.cmpi .eq (BitVec.ofNat 32 q.val) 2#32) a b = if q.val = 2 then a else b := select_of _ _ (row_eq q 2) a b
  have e3 (a b : EReal) : Scalar.select (IntOp.cmpi .eq (BitVec.ofNat 32 q.val) 3#32) a b = if q.val = 3 then a else b := select_of _ _ (row_eq q 3) a b
  rw [h6, h9, h10, h4, e0, e1, e2, e3]
  unfold dw
  fin_cases q <;> simp

end

section
variable (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S4096x128 .f32) (harg3 : arg3.IsWhole) (arg5 : Memref sig .tc .vmem S4096x128 .bf16) (harg5 : arg5.IsWhole) (arg6 : Memref sig .tc .vmem S8x128 .f32) (harg6 : arg6.IsWhole)
variable (x : Vec Ideal S4096x128 .f32) (w : Vec Ideal S8x128 .f32) (d : Vec Ideal S4096x128 .f32)

theorem out3 (t : Fin 4096) (l : Fin 128) : out0_A_3 c i arg1 harg1 arg2 harg2 arg3 harg3 arg5 harg5 arg6 harg6 x w d (ix2 t l) = dx (chan x l) (taps w l) (chan d l) t := by
  unfold out0_A_3
  rw [View.read_writes_eq_canon _ _ _ (cover0_A_3 c i arg1 harg1 arg2 harg2 arg3 harg3 arg5 harg5 arg6 harg6 x w d)]
  unfold kernelRun0_A
  dsimp only
  sl_unfold_words
  simp only [View.readAt_eq_ld, harg1.read_unread, harg2.read_unread, harg3.read_unread,
    View.ld_unit_zero (S := S4096x128) zero2, View.ld_unit_zero (S := S8x128) zero2]
  rw [View.canon_cons_unit_zero zero2]
  exact dx_at x d w t l

theorem out4 (q : Fin 8) (l : Fin 128) : out0_A_4 c i arg1 harg1 arg2 harg2 arg3 harg3 arg5 harg5 arg6 harg6 x w d (ix2 q l) = dw (chan x l) (taps w l) (chan d l) q := by
  unfold out0_A_4
  rw [View.read_writes_eq_canon _ _ _ (cover0_A_4 c i arg1 harg1 arg2 harg2 arg3 harg3 arg5 harg5 arg6 harg6 x w d)]
  unfold kernelRun0_A
  dsimp only
  sl_unfold_words
  simp only [View.readAt_eq_ld, harg1.read_unread, harg2.read_unread, harg3.read_unread,
    View.ld_unit_zero (S := S4096x128) zero2, View.ld_unit_zero (S := S8x128) zero2]
  rw [View.canon_cons_unit_zero zero2]
  exact dw_at x d w l q

end

end Cert.ConvBwdIdeal.Cv

end
-- ==== Proof.ConvArr.lean ====
module

public import proofs.«01_k».proof.Proof.ConvKernel

/-! The gradient of the convolution: what the call's arrays hold, channel by channel. -/

@[expose] public section

set_option maxRecDepth 100000

noncomputable section

namespace Cert.ConvBwdIdeal.Cv

open Cert.ConvBwdIdeal Cert.ConvBwdIdeal.Gen Cert.Conv Cert.Dense Idealize.ShloMosaic Idealize.ShloMosaic.TcCoe

variable (m : (ℓ : Loc nD τ sig) → Buf (Elt Ideal) ℓ)

theorem idx : ∀ t : Fin grid0.N, win0_0.index t = ![0, t.val] ∧ win0_1.index t = ![0, t.val] ∧ win0_2.index t = ![0, t.val]
    ∧ win0_3.index t = ![0, t.val] ∧ win0_4.index t = ![0, t.val] := by
  decide +kernel

/-- Channel `l` of block `t`. -/
def col (t : Fin cfg0.N) (l : Fin 128) : Fin 1536 := ⟨t.val * 128 + l.val, by have : t.val < 12 := t.isLt; omega⟩

theorem V_alias (c : Dev nD) (r : Fin 4096) (k : Fin 5120) :
    V m c main_v1_0 (ix2 r k) = m ((c : Thread nD τ).loc main_arg3) (ix2 r k) := by
  unfold V
  after_reads_at
  rfl
theorem V_taps (c : Dev nD) (j : Fin 4) (k : Fin 1536) :
    V m c main_v0 (ix2 (⟨j.val, by omega⟩ : Fin 8) k) = m ((c : Thread nD τ).loc main_arg1) (ix2 j k) := by
  unfold V
  after_reads_at

theorem blk0 (c : Dev nD) (t : Fin cfg0.N) (r : Fin 4096) (l : Fin 128) :
    iblk m c 0 t (ix2 r l) = m ((c : Thread nD τ).loc main_arg0) (ix2 r ⟨(col t l).val, by omega⟩) := by
  have ht : t.val < 12 := t.isLt
  blk_point [iblk, V, idx t, col]
theorem blk1 (c : Dev nD) (t : Fin cfg0.N) (j : Fin 4) (l : Fin 128) :
    iblk m c 1 t (ix2 (⟨j.val, by omega⟩ : Fin 8) l) = m ((c : Thread nD τ).loc main_arg1) (ix2 j (col t l)) := by
  have ht : t.val < 12 := t.isLt
  refine Eq.trans ?_ (V_taps m c j (col t l))
  blk_point [iblk, idx t, col]
theorem blk2 (c : Dev nD) (t : Fin cfg0.N) (r : Fin 4096) (l : Fin 128) :
    iblk m c 2 t (ix2 r l) = m ((c : Thread nD τ).loc main_arg2) (ix2 r (col t l)) := by
  have ht : t.val < 12 := t.isLt
  blk_point [iblk, V, idx t, col]

theorem chans (c : Dev nD) (t : Fin cfg0.N) (l : Fin 128) :
    chan (iblk m c 0 t) l = projChan (m ((c : Thread nD τ).loc main_arg0)) (col t l)
      ∧ taps (iblk m c 1 t) l = tapChan (m ((c : Thread nD τ).loc main_arg1)) (col t l)
      ∧ chan (iblk m c 2 t) l = actChan (m ((c : Thread nD τ).loc main_arg2)) (col t l) :=
  ⟨funext fun r => blk0 m c t r l, funext fun j => blk1 m c t j l, funext fun r => blk2 m c t r l⟩

/-- The two arrays' entries in channel `k`. -/
def dxAt (c : Dev nD) (k : Fin 1536) (r : Fin 4096) : EReal :=
  dx (projChan (m ((c : Thread nD τ).loc main_arg0)) k) (tapChan (m ((c : Thread nD τ).loc main_arg1)) k) (actChan (m ((c : Thread nD τ).loc main_arg2)) k) r
def dwAt (c : Dev nD) (k : Fin 1536) (q : Fin 8) : EReal :=
  dw (projChan (m ((c : Thread nD τ).loc main_arg0)) k) (tapChan (m ((c : Thread nD τ).loc main_arg1)) k) (actChan (m ((c : Thread nD τ).loc main_arg2)) k) q

theorem outs3 (c : Dev nD) (t : Fin cfg0.N) (r : Fin 4096) (l : Fin 128) : (outsAt0 m c t).1 (ix2 r l) = dxAt m c (col t l) r := by
  obtain ⟨h0, h1, h2⟩ := chans m c t l
  unfold outsAt0
  dsimp only
  rw [out3, h0, h1, h2]
  rfl
theorem outs4 (c : Dev nD) (t : Fin cfg0.N) (q : Fin 8) (l : Fin 128) : (outsAt0 m c t).2 (ix2 q l) = dwAt m c (col t l) q := by
  obtain ⟨h0, h1, h2⟩ := chans m c t l
  unfold outsAt0
  dsimp only
  rw [out4, h0, h1, h2]
  rfl

theorem arr3_in (c : Dev nD) (t : Fin cfg0.N) (r : Fin 4096) (l : Fin 128) :
    (dats m 0 c).arrAt 3 cfg0.N (ix2 r ⟨(col t l).val, by omega⟩) = dxAt m c (col t l) r := by
  have hf : (cfg0.win 3).flush t = true := (by decide +kernel : ∀ t : Fin grid0.N, win0_3.flush t = true) t
  have ht : t.val < 12 := t.isLt
  have hb := congrFun (Value.blocks3 m c t hf) (ix2 r l)
  rw [Value.flushed3] at hb
  blk_simp [idx t] at hb
  have e : (win0_3.blk t).view.emb (ix2 r l) = ix2 r ⟨(col t l).val, by omega⟩ := by
    refine funext fun a => Fin.ext ((win0_3.rect_emb_val t _ a).trans ?_)
    fin_cases a
    · simp [idx t]
    · simp [idx t, col]
  rw [e] at hb
  exact hb.trans (outs3 m c t r l)

theorem arr3_out (c : Dev nD) (r : Fin 4096) (k : Fin 5120) (hk : 1536 ≤ k.val) :
    (dats m 0 c).arrAt 3 cfg0.N (ix2 r k) = m ((c : Thread nD τ).loc main_arg3) (ix2 r k) := by
  refine (Value.entry3 m c (ix2 r k) fun t _ hmem => ?_).trans (V_alias m c r k)
  have ht : t.val < 12 := t.isLt
  mem_blk [idx t] at hmem
  have h1 : k.val < t.val * 128 + 128 := hmem.2.2
  omega

/-- The gradient's array: the channels of the convolution, the others kept. -/
theorem arr3 (c : Dev nD) (r : Fin 4096) (k : Fin 5120) :
    (dats m 0 c).arrAt 3 cfg0.N (ix2 r k) = if h : k.val < 1536 then dxAt m c ⟨k.val, h⟩ r else m ((c : Thread nD τ).loc main_arg3) (ix2 r k) := by
  split
  · rename_i h
    have e : (⟨k.val, h⟩ : Fin 1536) = col (⟨k.val / 128, (by omega : k.val / 128 < 12)⟩ : Fin cfg0.N) ⟨k.val % 128, by omega⟩ :=
      Fin.ext (by unfold col; show k.val = k.val / 128 * 128 + k.val % 128; omega)
    have := arr3_in m c (⟨k.val / 128, (by omega : k.val / 128 < 12)⟩ : Fin cfg0.N) r ⟨k.val % 128, by omega⟩
    refine Eq.trans ?_ (this.trans (congrArg (fun j => dxAt m c j r) e.symm))
    exact congrArg (fun j => (dats m 0 c).arrAt 3 cfg0.N (ix2 r j)) (Fin.ext (Fin.mk.inj_iff.mp e))
  · rename_i h
    exact arr3_out m c r k (by omega)

theorem arr4 (c : Dev nD) : (dats m 0 c).arrAt 4 cfg0.N = fun i => dwAt m c (i 1) (i 0) := by
  refine (dats m 0 c).arrAt_eq_of_covers 4 _ (by decide +kernel) fun t hf y => ?_
  have ht : t.val < 12 := t.isLt
  blk_simp [idx t]
  rw [after0_4]
  have e0 : (win0_4.blk t).view.emb y 0 = y 0 := Fin.ext (by refine (win0_4.rect_emb_val t y _).trans ?_; simp [idx t])
  have e1 : (win0_4.blk t).view.emb y 1 = col t (y 1) := Fin.ext (by refine (win0_4.rect_emb_val t y _).trans ?_; simp [idx t, col])
  rw [e0, e1, Idealize.ShloMosaic.ValueIdx.eq_ix2 y]
  exact outs4 m c t (y 0) (y 1)

end Cert.ConvBwdIdeal.Cv

end
-- ==== Proof.ConvRef.lean ====
module

public import proofs.«01_k».proof.Proof.Gen.ConvBwdReferenceIdeal.Read
public import proofs.«01_k».proof.Proof.ConvSpec
public import Idealize.ShloMosaic.Lib.Pipeline.ValueKit.Point
public import Idealize.ShloMosaic.Lib.IdealHost

/-! The gradient of the convolution: what the reference's arrays hold, at a finite cotangent. -/

@[expose] public section

set_option maxRecDepth 100000

noncomputable section

namespace Cert.ConvBwdReferenceIdeal.Cv

open Cert.ConvBwdReferenceIdeal Cert.ConvBwdReferenceIdeal.Read Cert.Conv Cert.Dense Idealize.ShloMosaic Idealize.ShloMosaic.TcCoe

variable (x0 : Vec Ideal S4096x5120 .f32) (x1 : Vec Ideal S4x1536 .f32) (x2 : Vec Ideal S4096x1536 .f32)

theorem rows_at (t : Fin 4099) (k : Fin 1536) : val_main_v2 (F := Ideal) x0 (ix2 t k) = if h : t.val < 3 then (0 : EReal) else projChan x0 k ⟨t.val - 3, by omega⟩ := by
  pointwise [val_main_v2, val_main_v1, val_main_cst, val_main_v0]
  rfl

theorem later3 (t : Fin 4096) (k : Fin 1536) : val_main_v4 (F := Ideal) x0 (ix2 t k) = later (projChan x0 k) 3 t := by
  pointwise [val_main_v4]
  rw [rows_at]
  unfold later
  split <;> rename_i h
  · rw [if_neg (by simp at h; omega)]
  · rw [if_pos (by simp at h; omega)]
theorem later2 (t : Fin 4096) (k : Fin 1536) : val_main_v10 (F := Ideal) x0 (ix2 t k) = later (projChan x0 k) 2 t := by
  pointwise [val_main_v10]
  rw [rows_at]
  unfold later
  split <;> rename_i h
  · rw [if_neg (by simp at h; omega)]
  · rw [if_pos (by simp at h; omega)]
    exact congrArg _ (Fin.ext (by simp; omega))
theorem later1 (t : Fin 4096) (k : Fin 1536) : val_main_v15 (F := Ideal) x0 (ix2 t k) = later (projChan x0 k) 1 t := by
  pointwise [val_main_v15]
  rw [rows_at]
  unfold later
  split <;> rename_i h
  · rw [if_neg (by simp at h; omega)]
  · rw [if_pos (by simp at h; omega)]
    exact congrArg _ (Fin.ext (by simp; omega))
theorem later0 (t : Fin 4096) (k : Fin 1536) : val_main_v20 (F := Ideal) x0 (ix2 t k) = projChan x0 k t := by
  pointwise [val_main_v20]
  rw [rows_at, dif_neg (by simp)]
  exact congrArg _ (Fin.ext (by simp))

theorem pre_at (t : Fin 4096) (k : Fin 1536) : val_main_v24 (F := Ideal) x0 x1 (ix2 t k) = pre (projChan x0 k) (tapChan x1 k) t := by
  pointwise [val_main_v24, val_main_v23, val_main_v19, val_main_v18, val_main_v14, val_main_v13, val_main_v9, val_main_v8, val_main_cst_1,
    val_main_v7, val_main_v22, val_main_v21, val_main_v17, val_main_v16, val_main_v12, val_main_v11, val_main_v6, val_main_v5]
  simp only [later0, later1, later2, later3]
  unfold pre
  simp only [later_mul]
  show (_ * tapChan x1 k 0 + _ * tapChan x1 k 1 + _ * tapChan x1 k 2 + _ * tapChan x1 k 3 : EReal) = _
  ac_rfl

theorem cot_at (h : ∀ t k, ∃ r : ℝ, x2 (ix2 t k) = (r : EReal)) (t : Fin 4096) (k : Fin 1536) :
    val_main_v26 (F := Ideal) x0 x1 x2 (ix2 t k) = cot (projChan x0 k) (tapChan x1 k) (actChan x2 k) t := by
  obtain ⟨r, hr⟩ := h t k
  pointwise [val_main_v26, val_main_call1_v1, val_main_call1_v2, val_main_call1_v0, val_main_v25_1, val_main_v25_2, val_main_call0_v7, val_main_call0_v6,
    val_main_call0_cst_1, val_main_call0_v4, val_main_call0_cst_0, val_main_call0_v3, val_main_call0_v2, val_main_call0_cst, val_main_call0_v1, val_main_call0_v0]
  rw [pre_at, hr]
  unfold cot actChan
  rw [hr, dsilu_of_real]
  rfl

section
variable (h : ∀ t k, ∃ r : ℝ, x2 (ix2 t k) = (r : EReal))
include h

theorem dx_at (t : Fin 4096) (k : Fin 1536) : val_main_v63 (F := Ideal) x0 x1 x2 (ix2 t k) = dx (projChan x0 k) (tapChan x1 k) (actChan x2 k) t := by
  pointwise [val_main_v63, val_main_v62, val_main_v60, val_main_v51, val_main_v42, val_main_v33, val_main_v41, val_main_v50, val_main_v59,
    val_main_cst_4, val_main_cst_7, val_main_cst_10, val_main_cst_13, val_main_v31, val_main_v38, val_main_v47, val_main_v56,
    val_main_v30, val_main_v37, val_main_v46, val_main_v55, val_main_v21, val_main_v16, val_main_v11, val_main_v5]
  simp only [cot_at x0 x1 x2 h]
  unfold dx
  have e0 : (if h : 3 + t.val < 4096 then cot (projChan x0 k) (tapChan x1 k) (actChan x2 k) ⟨3 + t.val, h⟩ * tapChan x1 k 0 else 0)
      = earlier (fun u => cot (projChan x0 k) (tapChan x1 k) (actChan x2 k) u * tapChan x1 k 0) 3 t := by
    unfold earlier
    simp only [add_comm 3 t.val]
  refine (congrArg₂ (· + ·) (congrArg₂ (· + ·) (congrArg (_ + ·)
    (earlier_pad (fun u => cot (projChan x0 k) (tapChan x1 k) (actChan x2 k) u * tapChan x1 k 2) 2 1 t rfl))
    (earlier_pad (fun u => cot (projChan x0 k) (tapChan x1 k) (actChan x2 k) u * tapChan x1 k 1) 1 2 t rfl)) e0).trans ?_
  show (_ * tapChan x1 k 3 + _ + _ + _ : EReal) = _
  ac_rfl

theorem tap_at (k : Fin 1536) :
    val_main_v28 (F := Ideal) x0 x1 x2 (ix1 k) = tap (projChan x0 k) (tapChan x1 k) (actChan x2 k) 0
      ∧ val_main_v35 (F := Ideal) x0 x1 x2 (ix1 k) = tap (projChan x0 k) (tapChan x1 k) (actChan x2 k) 1
      ∧ val_main_v44 (F := Ideal) x0 x1 x2 (ix1 k) = tap (projChan x0 k) (tapChan x1 k) (actChan x2 k) 2
      ∧ val_main_v53 (F := Ideal) x0 x1 x2 (ix1 k) = tap (projChan x0 k) (tapChan x1 k) (actChan x2 k) 3 := by
  unfold tap
  simp only [sum_shift, later_zero]
  refine ⟨?_, ?_, ?_, ?_⟩
  · pointwise [val_main_v28, val_main_v27, val_main_cst_2]
    simp only [cot_at x0 x1 x2 h, later0]
  · pointwise [val_main_v35, val_main_v34, val_main_cst_5]
    simp only [cot_at x0 x1 x2 h, later1]
  · pointwise [val_main_v44, val_main_v43, val_main_cst_8]
    simp only [cot_at x0 x1 x2 h, later2]
  · pointwise [val_main_v53, val_main_v52, val_main_cst_11]
    simp only [cot_at x0 x1 x2 h, later3]

theorem dw_at (q : Fin 8) (k : Fin 1536) : val_main_v66 (F := Ideal) x0 x1 x2 (ix2 q k) = dw (projChan x0 k) (tapChan x1 k) (actChan x2 k) q := by
  pointwise [val_main_v66, val_main_v58, val_main_v57, val_main_v49, val_main_v48, val_main_v40, val_main_v39, val_main_v32, val_main_cst_3, val_main_cst_6,
    val_main_cst_9, val_main_cst_12, val_main_v29, val_main_v36, val_main_v45, val_main_v54, val_main_call2_v0, val_main_c]
  obtain ⟨h0, h1, h2, h3⟩ := tap_at x0 x1 x2 h k
  have hz : (FloatOps.sitofp FTy.f32 0#32 : Ideal .f32) = (0 : EReal) := by
    show (((0#32 : BitVec 32).toInt : ℝ) : EReal) = 0
    simp
  rw [h0, h1, h2, h3, hz]
  unfold dw
  fin_cases q <;> simp

end

theorem kept (x3 : Vec Ideal S4096x5120 .bf16) (t : Fin 4096) (k : Fin 5120) : val_main_v65 (F := Ideal) x0 x1 x2 x3 (ix2 t k)
    = if h : k.val < 1536 then val_main_v63 (F := Ideal) x0 x1 x2 (ix2 t ⟨k.val, h⟩) else x3 (ix2 t k) := by
  pointwise [val_main_v65, val_main_v64]
  split <;> rename_i h
  · rfl
  · exact congrArg (fun j => x3 (ix2 t j)) (Fin.ext (by show 1536 + (k.val - 1536) = k.val; omega))

end Cert.ConvBwdReferenceIdeal.Cv

end
-- ==== Proof.ConvClaims.lean ====
module

public import proofs.«01_k».proof.Defs
public import proofs.«01_k».proof.Proof.Gen.ConvBwd.Frame
public import proofs.«01_k».proof.Proof.ConvArr
public import proofs.«01_k».proof.Proof.ConvRef
public import proofs.«01_k».proof.Proof.GmPre

/-! The claims of the gradient of the convolution. -/

@[expose] public section

open Idealize.ShloMosaic

noncomputable section

namespace Cert.Proof

instance finite_conv_facts : Cert.Pre_finite_conv.Facts where
  bcast_S_S4096x1536 := by decide

theorem convBwd_algebraic : Cert.algebraic_ConvBwdIdeal_ConvBwdReferenceIdeal_pre_finite_conv := by
  intro m g m' g' hpre hargs
  refine ⟨_, _, Cert.ConvBwdIdeal.Value.run_blocks m g, (θ_run Cert.ConvBwdReferenceIdeal.defs _ _).mono (fun r h c => ?_) (Cert.ConvBwdReferenceIdeal.Value.run m' g')⟩
  have top (i) : constant (F := Ideal) Cert.Pre_finite_conv.S_ .f32 0x7F800000#32 i = ⊤ := Cert.Gm.ofBits_inf
  have hd (t : Fin 4096) (k : Fin 1536) : ∃ r : ℝ, (m ((c.tc : Thread Cert.ConvBwdIdeal.nD Cert.ConvBwdIdeal.τ).loc Cert.ConvBwdIdeal.main_arg2) (ix2 t k) : EReal) = (r : EReal) :=
    ⟨_, Cert.Gm.real_of_lt _ _ (fun i => top _) (hpre c) (ix2 t k)⟩
  obtain ⟨e0, e1, e2, e3⟩ := hargs c
  obtain ⟨h0, h1, hrest⟩ := h c
  refine ⟨h0.trans ((Cert.ConvBwdReferenceIdeal.Read.val_main_v65_eq _ _).trans ?_), h1.trans ((Cert.ConvBwdReferenceIdeal.Read.val_main_v66_eq _ _).trans ?_), hrest⟩
  · rw [e0, e1, e2, e3]
    refine funext fun i => ?_
    rw [Idealize.ShloMosaic.ValueIdx.eq_ix2 i]
    refine (Cert.ConvBwdReferenceIdeal.Cv.kept _ _ _ _ (i 0) (i 1)).trans (Eq.trans ?_ (Cert.ConvBwdIdeal.Cv.arr3 m c (i 0) (i 1)).symm)
    split
    · exact Cert.ConvBwdReferenceIdeal.Cv.dx_at _ _ _ hd (i 0) _
    · rfl
  · rw [e0, e1, e2, Cert.ConvBwdIdeal.Cv.arr4]
    refine funext fun i => ?_
    rw [Idealize.ShloMosaic.ValueIdx.eq_ix2 i]
    exact Cert.ConvBwdReferenceIdeal.Cv.dw_at _ _ _ hd (i 0) (i 1)

/-- The reference ends, changing no argument; it declares no semaphore. -/
theorem convBwd_reference_frame : Cert.quiescent_ConvBwdReferenceIdeal := fun m ρ _ =>
  (θ_run Cert.ConvBwdReferenceIdeal.defs _ _).mono (fun r h => ⟨fun c => (h c).2.2, sem_eq_zero_of_no_sems (by decide) r.2⟩) (Cert.ConvBwdReferenceIdeal.Value.run m ρ)

end Cert.Proof

end
-- ==== Proof.SwPoints.lean ====
/- The points of the attention's norm and rotation gradient: what each does, and which buffers it uses. -/
module

public import proofs.«01_k».proof.Proof.Gen.SwBwdIdeal.Frame
public import proofs.«01_k».proof.Proof.Gen.SwBwdIdeal.Skeleton
public import Idealize.ShloMosaic.Lib.Pipeline.TableIdle

@[expose] public section

set_option maxRecDepth 16384

noncomputable section

namespace Cert.Sw

open Cert.SwBwdIdeal Cert.SwBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The pass over the values: the cotangent is copied. -/
abbrev cond0_0 (i : grid0.Coords) : Prop := k0_cond1 i = 1#1
/-- It is taken at the points 8 to 15. -/
theorem hcond0_0 : ∀ t : Fin cfg0.N, cond0_0 (grid0.coords t) ↔ t.val / 8 % 3 = 1 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val / 8 % 3 = 1)

/-- The first point of the pass over the keys, and of the pass over the queries. -/
abbrev cond0_1 (i : grid0.Coords) : Prop := k0_cond2 i = 1#1
/-- It is taken at the points 0 and 16. -/
theorem hcond0_1 : ∀ t : Fin cfg0.N, cond0_1 (grid0.coords t) ↔ t.val % 16 = 0 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 16 = 0)

/-- The passes over the keys and over the queries. -/
abbrev cond0_2 (i : grid0.Coords) : Prop := k0_cond3 i = 1#1
/-- They are the points 0 to 7 and 16 to 23. -/
theorem hcond0_2 : ∀ t : Fin cfg0.N, cond0_2 (grid0.coords t) ↔ t.val / 8 % 3 ≠ 1 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val / 8 % 3 ≠ 1)

/-- Every window but the last is used at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6_A : ∀ t : Fin cfg0.N, ¬cond0_0 (grid0.coords t) → cond0_1 (grid0.coords t) → cond0_2 (grid0.coords t) → cfg0.idle 6 (grid0.coords t) = false := by decide +kernel
theorem liveAt0_6_B : ∀ t : Fin cfg0.N, ¬cond0_0 (grid0.coords t) → ¬cond0_1 (grid0.coords t) → cond0_2 (grid0.coords t) → cfg0.idle 6 (grid0.coords t) = false := by decide +kernel
theorem liveAt0_6_C : ∀ t : Fin cfg0.N, cond0_0 (grid0.coords t) → ¬cond0_1 (grid0.coords t) → ¬cond0_2 (grid0.coords t) → cfg0.idle 6 (grid0.coords t) = false := by decide +kernel
/-- Whether the weights' gradient is yet to be written: before point 0, and after the points 15 and 23, at which its block is written back. -/
def freshTab0_7 : ℕ → Bool
  | 0 => true
  | n + 1 => (0x808000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- The weights' gradient is written in the passes over the keys and the queries, and left as it is in the pass over the values. -/
theorem liveAt0_7_A : ∀ t : Fin cfg0.N, ¬cond0_0 (grid0.coords t) → cond0_1 (grid0.coords t) → cond0_2 (grid0.coords t) → cfg0.idle 7 (grid0.coords t) = false := by decide +kernel
theorem liveAt0_7_B : ∀ t : Fin cfg0.N, ¬cond0_0 (grid0.coords t) → ¬cond0_1 (grid0.coords t) → cond0_2 (grid0.coords t) → cfg0.idle 7 (grid0.coords t) = false := by decide +kernel
/-- After a pass's first point the block holds what an earlier point left there; so it does in all of the pass over the values. -/
theorem notFresh0_7_B : ∀ t : Fin cfg0.N, ¬cond0_0 (grid0.coords t) → ¬cond0_1 (grid0.coords t) → cond0_2 (grid0.coords t) → cfg0.fresh 7 t.val = false := by
  intro t; rw [fresh0_7_eq t]; revert t; decide +kernel
theorem idleAt0_7_C : ∀ t : Fin cfg0.N, cond0_0 (grid0.coords t) → ¬cond0_1 (grid0.coords t) → ¬cond0_2 (grid0.coords t) → cfg0.idle 7 (grid0.coords t) = true := by decide +kernel
theorem notFresh0_7_C : ∀ t : Fin cfg0.N, cond0_0 (grid0.coords t) → ¬cond0_1 (grid0.coords t) → ¬cond0_2 (grid0.coords t) → cfg0.fresh 7 t.val = false := by
  intro t; rw [fresh0_7_eq t]; revert t; decide +kernel

/-- The outputs' buffers, and each window's buffer at a point. -/
abbrev VO0_6 : View sig .tc .vmem S512x256 .bf16 := (Memref.whole cc0_stg6_0 : Memref sig .tc .vmem S512x256 .bf16).view
abbrev VO0_7 : View sig .tc .vmem S1x1x256 .f32 := (Memref.whole cc0_stg7_0 : Memref sig .tc .vmem S1x1x256 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)

end Cert.Sw

end
-- ==== Proof.SwRun.lean ====
/- The body run at each kind of point. -/
module

public import proofs.«01_k».proof.Proof.SwPoints

@[expose] public section

set_option maxRecDepth 16384

noncomputable section

namespace Cert.Sw

open Cert.SwBwdIdeal Cert.SwBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
/-- A run of the body at the first point of a pass over the keys or the queries, with what it stores. -/
def kernelRun0_A (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) :
    Σ' (L6 : List (View.Piece (Elt F) S512x256 .bf16)), { L7 : List (View.Piece (Elt F) S1x1x256 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)) -∗ K ⟨⟩))
          ⊢ wp frame (wpE (defs₀ (F := F)) Variants.none c none) E (cc0_sw_prep_bwd0 i arg2 harg2 arg3 harg3 arg4 harg4 arg5 harg5 arg6 harg6 (Memref.whole main_arg6) (Memref.isWhole_whole _) arg8 harg8 arg9 harg9 arg10 harg10) K } := by
  refine ⟨?_, ?_, fun E K => ?run⟩
  case run =>
    simp only [cc0_sw_prep_bwd0_eq_skeleton]; unfold cc0_sw_prep_bwd0_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg8.read_unread _
      iexact H5
    isplitl [H6]; · iexists _; iexact H6
    iexists _; iexact H7

set_option maxHeartbeats 1000000 in
/-- A run at a later point of such a pass: the gradient goes on from what it finds. -/
def kernelRun0_B (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : ¬cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) (xo7 : Vec F S1x1x256 .f32) :
    Σ' (L6 : List (View.Piece (Elt F) S512x256 .bf16)), { L7 : List (View.Piece (Elt F) S1x1x256 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ d, owns (c : Thread nD τ) arg9 fullShare d) ∗ owns (c : Thread nD τ) arg10 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)) -∗ K ⟨⟩))
          ⊢ wp frame (wpE (defs₀ (F := F)) Variants.none c none) E (cc0_sw_prep_bwd0 i arg2 harg2 arg3 harg3 arg4 harg4 arg5 harg5 arg6 harg6 (Memref.whole main_arg6) (Memref.isWhole_whole _) arg8 harg8 arg9 harg9 arg10 harg10) K } := by
  refine ⟨?_, ?_, fun E K => ?run⟩
  case run =>
    simp only [cc0_sw_prep_bwd0_eq_skeleton]; unfold cc0_sw_prep_bwd0_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5; obtain rfl := harg10.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg8.read_unread _
      iexact H5
    isplitl [H6]; · iexists _; iexact H6
    iexists _; iexact H7

set_option maxHeartbeats 1000000 in
/-- A run in the pass over the values, which leaves the gradient alone. -/
def kernelRun0_C (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : cond0_0 i) (hc1 : ¬cond0_1 i) (hc2 : ¬cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) :
    Σ' (L6 : List (View.Piece (Elt F) S512x256 .bf16)), { L7 : List (View.Piece (Elt F) S1x1x256 .f32) //
      ∀ (xi7 : Vec F S1x1x256 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ d, owns (c : Thread nD τ) arg9 fullShare d) ∗ owns (c : Thread nD τ) arg10 fullShare xi7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7) -∗ K ⟨⟩))
          ⊢ wp frame (wpE (defs₀ (F := F)) Variants.none c none) E (cc0_sw_prep_bwd0 i arg2 harg2 arg3 harg3 arg4 harg4 arg5 harg5 arg6 harg6 (Memref.whole main_arg6) (Memref.isWhole_whole _) arg8 harg8 arg9 harg9 arg10 harg10) K } := by
  refine ⟨?_, [], fun xi7 E K => ?run⟩
  case run =>
    simp only [cc0_sw_prep_bwd0_eq_skeleton]; unfold cc0_sw_prep_bwd0_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5; obtain rfl := harg10.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg8.read_unread _
      iexact H5
    isplitl [H6]; · iexists _; iexact H6
    iexists _; isplitr; · ipureintro; exact harg10.read_unread _
    iexact H7

end Cert.Sw

end
-- ==== Proof.SwFrame.lean ====
/- The frame of the attention's norm and rotation gradient over the extended reals. The gradient of the keys' weights is written at the points 0 to 7, carried through the pass over the values, and written back at the end of that pass. -/
module

public import proofs.«01_k».proof.Proof.SwRun
public import Idealize.ShloMosaic.Lib.Claim

@[expose] public section

set_option maxRecDepth 16384

noncomputable section

namespace Cert.Sw

open Cert.SwBwdIdeal Cert.SwBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stores cover the outputs' blocks, and so name what they hold after each kind of point. -/
theorem cover0_A_6 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) (y : S512x256.Idx) :
    ∃ pc ∈ (kernelRun0_A c i arg2 harg2 arg3 harg3 arg4 harg4 arg5 harg5 arg6 harg6 arg8 harg8 arg9 harg9 arg10 harg10 hc0 hc1 hc2 x0 x1 x2 x3 x4 x5).1, y ∈ pc.1.set :=
  View.cover_of_tiledL (kernelRun0_A c i arg2 harg2 arg3 harg3 arg4 harg4 arg5 harg5 arg6 harg6 arg8 harg8 arg9 harg9 arg10 harg10 hc0 hc1 hc2 x0 x1 x2 x3 x4 x5).1 S512x256.size (by sl_kernel_rfl) y

def out0_A_6 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) : Vec F S512x256 .bf16 :=
  VO0_6.read (Elt F) (VO0_6.writes (Elt F) VO0_6.junk (kernelRun0_A c i arg2 harg2 arg3 harg3 arg4 harg4 arg5 harg5 arg6 harg6 arg8 harg8 arg9 harg9 arg10 harg10 hc0 hc1 hc2 x0 x1 x2 x3 x4 x5).1)

theorem cover0_A_7 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) (y : S1x1x256.Idx) :
    ∃ pc ∈ (kernelRun0_A c i arg2 harg2 arg3 harg3 arg4 harg4 arg5 harg5 arg6 harg6 arg8 harg8 arg9 harg9 arg10 harg10 hc0 hc1 hc2 x0 x1 x2 x3 x4 x5).2.1, y ∈ pc.1.set :=
  View.cover_of_tiledL (kernelRun0_A c i arg2 harg2 arg3 harg3 arg4 harg4 arg5 harg5 arg6 harg6 arg8 harg8 arg9 harg9 arg10 harg10 hc0 hc1 hc2 x0 x1 x2 x3 x4 x5).2.1 S1x1x256.size (by sl_kernel_rfl) y

def out0_A_7 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) : Vec F S1x1x256 .f32 :=
  VO0_7.read (Elt F) (VO0_7.writes (Elt F) VO0_7.junk (kernelRun0_A c i arg2 harg2 arg3 harg3 arg4 harg4 arg5 harg5 arg6 harg6 arg8 harg8 arg9 harg9 arg10 harg10 hc0 hc1 hc2 x0 x1 x2 x3 x4 x5).2.1)

theorem cover0_B_6 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : ¬cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) (xo7 : Vec F S1x1x256 .f32) (y : S512x256.Idx) :
    ∃ pc ∈ (kernelRun0_B c i arg2 harg2 arg3 harg3 arg4 harg4 arg5 harg5 arg6 harg6 arg8 harg8 arg9 harg9 arg10 harg10 hc0 hc1 hc2 x0 x1 x2 x3 x4 x5 xo7).1, y ∈ pc.1.set :=
  View.cover_of_tiledL (kernelRun0_B c i arg2 harg2 arg3 harg3 arg4 harg4 arg5 harg5 arg6 harg6 arg8 harg8 arg9 harg9 arg10 harg10 hc0 hc1 hc2 x0 x1 x2 x3 x4 x5 xo7).1 S512x256.size (by sl_kernel_rfl) y

def out0_B_6 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : ¬cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) (xo7 : Vec F S1x1x256 .f32) : Vec F S512x256 .bf16 :=
  VO0_6.read (Elt F) (VO0_6.writes (Elt F) VO0_6.junk (kernelRun0_B c i arg2 harg2 arg3 harg3 arg4 harg4 arg5 harg5 arg6 harg6 arg8 harg8 arg9 harg9 arg10 harg10 hc0 hc1 hc2 x0 x1 x2 x3 x4 x5 xo7).1)

theorem cover0_B_7 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : ¬cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) (xo7 : Vec F S1x1x256 .f32) (y : S1x1x256.Idx) :
    ∃ pc ∈ (kernelRun0_B c i arg2 harg2 arg3 harg3 arg4 harg4 arg5 harg5 arg6 harg6 arg8 harg8 arg9 harg9 arg10 harg10 hc0 hc1 hc2 x0 x1 x2 x3 x4 x5 xo7).2.1, y ∈ pc.1.set :=
  View.cover_of_tiledL (kernelRun0_B c i arg2 harg2 arg3 harg3 arg4 harg4 arg5 harg5 arg6 harg6 arg8 harg8 arg9 harg9 arg10 harg10 hc0 hc1 hc2 x0 x1 x2 x3 x4 x5 xo7).2.1 S1x1x256.size (by sl_kernel_rfl) y

def out0_B_7 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : ¬cond0_0 i) (hc1 : ¬cond0_1 i) (hc2 : cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) (xo7 : Vec F S1x1x256 .f32) : Vec F S1x1x256 .f32 :=
  VO0_7.read (Elt F) (VO0_7.writes (Elt F) VO0_7.junk (kernelRun0_B c i arg2 harg2 arg3 harg3 arg4 harg4 arg5 harg5 arg6 harg6 arg8 harg8 arg9 harg9 arg10 harg10 hc0 hc1 hc2 x0 x1 x2 x3 x4 x5 xo7).2.1)

theorem cover0_C_6 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : cond0_0 i) (hc1 : ¬cond0_1 i) (hc2 : ¬cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) (y : S512x256.Idx) :
    ∃ pc ∈ (kernelRun0_C c i arg2 harg2 arg3 harg3 arg4 harg4 arg5 harg5 arg6 harg6 arg8 harg8 arg9 harg9 arg10 harg10 hc0 hc1 hc2 x0 x1 x2 x3 x4 x5).1, y ∈ pc.1.set :=
  View.cover_of_tiledL (kernelRun0_C c i arg2 harg2 arg3 harg3 arg4 harg4 arg5 harg5 arg6 harg6 arg8 harg8 arg9 harg9 arg10 harg10 hc0 hc1 hc2 x0 x1 x2 x3 x4 x5).1 S512x256.size (by sl_kernel_rfl) y

def out0_C_6 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : cond0_0 i) (hc1 : ¬cond0_1 i) (hc2 : ¬cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) : Vec F S512x256 .bf16 :=
  VO0_6.read (Elt F) (VO0_6.writes (Elt F) VO0_6.junk (kernelRun0_C c i arg2 harg2 arg3 harg3 arg4 harg4 arg5 harg5 arg6 harg6 arg8 harg8 arg9 harg9 arg10 harg10 hc0 hc1 hc2 x0 x1 x2 x3 x4 x5).1)

def out0_C_7 (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole) (hc0 : cond0_0 i) (hc1 : ¬cond0_1 i) (hc2 : ¬cond0_2 i)
    (x0 : Vec F S512x256 .f32) (x1 : Vec F S1x1x256 .f32) (x2 : Vec F S512x256 .f32) (x3 : Vec F S512x256 .f32) (x4 : Vec F S1x2x512x128 .f32) (x5 : Vec F S1x1x256 .f32) (xo7 : Vec F S1x1x256 .f32) : Vec F S1x1x256 .f32 := xo7

/-- What the outputs hold after each point. -/
def outsAt0 (c : Dev nD) : (n : ℕ) → n < cfg0.N → Vec F S512x256 .bf16 × Vec F S1x1x256 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (fun h => (fun h => by (try dsimp only at h); omega) ((hcond0_0 ⟨0, hn⟩).mp h)) ((hcond0_1 ⟨0, hn⟩).mpr (Nat.zero_mod _)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (fun h => (fun h => by (try dsimp only at h); omega) ((hcond0_0 ⟨0, hn⟩).mp h)) ((hcond0_1 ⟨0, hn⟩).mpr (Nat.zero_mod _)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) / 8 % 3 = 1 then
      if h1 : (n + 1) % 16 = 0 then
        False.elim (by have hN : n + 1 < 24 := lt_of_lt_of_eq hn (show cfg0.N = 24 from N_0); omega)
      else
        if h2 : (n + 1) / 8 % 3 ≠ 1 then
          False.elim (by have hN : n + 1 < 24 := lt_of_lt_of_eq hn (show cfg0.N = 24 from N_0); omega)
        else
          (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
    else
      if h1 : (n + 1) % 16 = 0 then
        if h2 : (n + 1) / 8 % 3 ≠ 1 then
          (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
        else
          False.elim (by have hN : n + 1 < 24 := lt_of_lt_of_eq hn (show cfg0.N = 24 from N_0); omega)
      else
        if h2 : (n + 1) / 8 % 3 ≠ 1 then
          (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
        else
          False.elim (by have hN : n + 1 < 24 := lt_of_lt_of_eq hn (show cfg0.N = 24 from N_0); omega)

/-- At each kind of point that is what its run leaves. -/
theorem outsAt0_A (c : Dev nD) (t : Fin cfg0.N) (h0 : ¬t.val / 8 % 3 = 1) (h1 : t.val % 16 = 0) (h2 : t.val / 8 % 3 ≠ 1) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) ((hcond0_2 t).mpr h2) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) ((hcond0_2 t).mpr h2) (iblk m c 0 t) (iblk m c 1 t) (iblk m c 2 t) (iblk m c 3 t) (iblk m c 4 t) (iblk m c 5 t)) := by
  obtain ⟨n, hn⟩ := t
  cases n with
  | zero => exact rfl
  | succ n => exact (dif_neg h0).trans ((dif_pos h1).trans ((dif_pos h2).trans rfl))

theorem outsAt0_B (c : Dev nD) (t : Fin cfg0.N) (h0 : ¬t.val / 8 % 3 = 1) (h1 : ¬t.val % 16 = 0) (h2 : t.val / 8 % 3 ≠ 1) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h1); exact absurd (Nat.zero_mod _) h1)
  | succ n => exact (dif_neg h0).trans ((dif_neg h1).trans ((dif_pos h2).trans rfl))

theorem outsAt0_C (c : Dev nD) (t : Fin cfg0.N) (h0 : t.val / 8 % 3 = 1) (h1 : ¬t.val % 16 = 0) (h2 : ¬t.val / 8 % 3 ≠ 1) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t), out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact by omega)
  | succ n => exact (dif_pos h0).trans ((dif_neg h1).trans ((dif_neg h2).trans rfl))

/-- What is claimed of the buffers at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2
  Φ _ := Pipeline.ΦA spec0 c
  q _ := fullShare
  owed _ := 0

/-- The arrays and buffers, one by one. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The pass over the values carries the gradient of the keys. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 24 := lt_of_lt_of_eq t.isLt (show cfg0.N = 24 from N_0)
  rw [after0_7, after0_7]
  by_cases h0 : t.val / 8 % 3 = 1
  · by_cases h1 : t.val % 16 = 0
    · exfalso; omega
    · by_cases h2 : t.val / 8 % 3 ≠ 1
      · exfalso; omega
      · rw [outsAt0_C m c t h0 h1 h2]
        dsimp only
        unfold out0_C_7
        rfl
  · by_cases h1 : t.val % 16 = 0
    · by_cases h2 : t.val / 8 % 3 ≠ 1
      · rw [liveAt0_7_A t (fun h => h0 ((hcond0_0 t).mp h)) ((hcond0_1 t).mpr h1) ((hcond0_2 t).mpr h2)] at hi
        exact absurd hi Bool.false_ne_true
      · exfalso; omega
    · by_cases h2 : t.val / 8 % 3 ≠ 1
      · rw [liveAt0_7_B t (fun h => h0 ((hcond0_0 t).mp h)) (fun h => h1 ((hcond0_1 t).mp h)) ((hcond0_2 t).mpr h2)] at hi
        exact absurd hi Bool.false_ne_true
      · exfalso; omega
/-- After a pass's first point the gradient is the one that the point before left. -/
theorem before0_7_B (c : Dev nD) (t : Fin cfg0.N) (h0 : ¬t.val / 8 % 3 = 1) (h1 : ¬t.val % 16 = 0) (h2 : t.val / 8 % 3 ≠ 1) (d) :
    (dats m 0 c).before 7 t d = (outsAt0 m c (t.val - 1) (Nat.lt_of_le_of_lt (Nat.sub_le _ _) t.isLt)).2 := by
  rw [Dat.before_out_traj _ 7 rfl (fun _ _ => rfl) (hcarry0_7 m c) t.val t rfl d,
    if_neg (by rw [notFresh0_7_B t (fun h => h0 ((hcond0_0 t).mp h)) (fun h => h1 ((hcond0_1 t).mp h)) ((hcond0_2 t).mpr h2)]; exact Bool.false_ne_true)]
  dsimp only [dats]

/-- An input's buffer is left as it was. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]

/-- In the pass over the values the gradient's buffer is left as it was found: a point before has written it. At point 15, where it is written back, it therefore holds what is said of it. -/
theorem leaves0_7_C (c : Dev nD) (t : Fin cfg0.N) (h0 : t.val / 8 % 3 = 1) (h1 : ¬t.val % 16 = 0) (h2 : ¬t.val / 8 % 3 ≠ 1) (d) :
    owns (c : Thread nD τ) (ms0_7 t) fullShare ((dats m 0 c).before 7 t d) ⊢ (dats m 0 c).leavesExact 7 t := by
  have hi := idleAt0_7_C t ((hcond0_0 t).mpr h0) (fun h => h1 ((hcond0_1 t).mp h)) (fun h => h2 ((hcond0_2 t).mp h))
  have hn := notFresh0_7_C t ((hcond0_0 t).mpr h0) (fun h => h1 ((hcond0_1 t).mp h)) (fun h => h2 ((hcond0_2 t).mp h))
  have hb : (dats m 0 c).before 7 t d = (dats m 0 c).after 7 t := by
    rw [Dat.before_out_traj _ 7 rfl (fun _ _ => rfl) (hcarry0_7 m c) t.val t rfl d, if_neg (by rw [hn]; exact Bool.false_ne_true)]
    exact (hcarry0_7 m c t (by omega) hi hn).symm
  unfold Dat.leavesExact
  rw [hi]
  cases hf : (cfg0.win 7).flush t
  · iintro H; iexists d; iexact H
  · rw [hb]

/-- What the body is called with at a point, and what it leaves. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2400000 in
/-- The body run at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  have hN : t.val < 24 := lt_of_lt_of_eq t.isLt (show cfg0.N = 24 from N_0)
  by_cases h0 : t.val / 8 % 3 = 1
  · by_cases h1 : t.val % 16 = 0
    · exfalso; omega
    · by_cases h2 : t.val / 8 % 3 ≠ 1
      · exfalso; omega
      · rw [leaves0_0, leaves0_1, leaves0_2, leaves0_3, leaves0_4, leaves0_5]
        rw [show (dats m 0 c).leavesExact 6 t = owns (c : Thread nD τ) (ms0_6 t) fullShare ((dats m 0 c).after 6 t) from by
      unfold Dat.leavesExact; rw [liveAt0_6_C t ((hcond0_0 t).mpr h0) (fun h => h1 ((hcond0_1 t).mp h)) (fun h => h2 ((hcond0_2 t).mp h))], after0_6]
        rw [outsAt0_C m c t h0 h1 h2]
        unfold out0_C_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        iintro ⟨H0, H1, H2, H3, H4, H5, ⟨%e6, H6⟩, H7⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _)
        iapply (leaves0_7_C m c t h0 h1 h2 d7)
        iexact H7
  · by_cases h1 : t.val % 16 = 0
    · by_cases h2 : t.val / 8 % 3 ≠ 1
      · rw [leaves0_0, leaves0_1, leaves0_2, leaves0_3, leaves0_4, leaves0_5]
        rw [show (dats m 0 c).leavesExact 6 t = owns (c : Thread nD τ) (ms0_6 t) fullShare ((dats m 0 c).after 6 t) from by
      unfold Dat.leavesExact; rw [liveAt0_6_A t (fun h => h0 ((hcond0_0 t).mp h)) ((hcond0_1 t).mpr h1) ((hcond0_2 t).mpr h2)], after0_6]
        rw [show (dats m 0 c).leavesExact 7 t = owns (c : Thread nD τ) (ms0_7 t) fullShare ((dats m 0 c).after 7 t) from by
      unfold Dat.leavesExact; rw [liveAt0_7_A t (fun h => h0 ((hcond0_0 t).mp h)) ((hcond0_1 t).mpr h1) ((hcond0_2 t).mpr h2)], after0_7]
        rw [outsAt0_A m c t h0 h1 h2]
        unfold out0_A_6 out0_A_7; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iintro ⟨H0, H1, H2, H3, H4, H5, ⟨%e6, H6⟩, ⟨%e7, H7⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _)
      · exfalso; omega
    · by_cases h2 : t.val / 8 % 3 ≠ 1
      · rw [leaves0_0, leaves0_1, leaves0_2, leaves0_3, leaves0_4, leaves0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [liveAt0_7_B t (fun h => h0 ((hcond0_0 t).mp h)) (fun h => h1 ((hcond0_1 t).mp h)) ((hcond0_2 t).mpr h2)], after0_7]
        rw [outsAt0_B m c t h0 h1 h2]
        simp only [before0_7_B m c t h0 h1 h2]
        unfold out0_B_6 out0_B_7; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        iintro ⟨H0, H1, H2, H3, H4, H5, ⟨%e6, H6⟩, ⟨%e7, H7⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _)
        unfold owns; iexists _; isplitr
        swap; · iexact H7
        ipureintro; exact View.read_writes_of_cover _ _ _ _ _ (cover0_B_7 c _ _ _ _ _ _ _ _ _ _ _ _ _ _ _ _ _ _ _ _ _ _ _ _ _ _ _)
      · exfalso; omega

theorem defs₀_row (t : Fin cfg0.N) :
    defs₀ (F := F) .tc cfg0.body (cfg0.bodyArgs t (cfg0.slots t)) = bodyAt0 t := by
  unfold defs₀; rw [Defs.onTc_tc]

/-- The body does at every point what is claimed of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program ends, with its arrays at what the points leave there. -/
theorem run_main : θ_run defs (onTc (τ := τ) (main (F := F))) (s₀ m ρ) (Pipeline.FramePost cfgs (dats m) 0 (V m)) :=
  (θ_run defs _ _).mono (fun _ h => h.1) (run_main_quiescent m ρ)

/-- It leaves its arguments unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Sw

end
-- ==== Proof.SwPrinted.lean ====
module

public import proofs.«01_k».proof.Defs
public import proofs.«01_k».proof.Proof.Gen.SwBwd.Frame
public import proofs.«01_k».proof.Proof.SwFrame

/-! The dilated attention's preparation, backward, as it is printed: it is the program whose frame was proved at every reading of the floats. -/

@[expose] public section

set_option maxRecDepth 100000

open Idealize.ShloMosaic

noncomputable section

namespace Cert.Proof

/-- The printed call and the idealized call are the same definition of the
    pipeline's body, as nothing is rewritten. -/
theorem sw_defs₀ : @Cert.SwBwd.defs₀ Bits _ _ = @Cert.SwBwdIdeal.defs₀ Bits _ _ := by
  refine congrArg Defs.onTc (funext fun l => funext fun x => ?_)
  match l, x with
  | 0, (t, s) => rfl

theorem sw_defs : @Cert.SwBwd.defs Bits _ _ = @Cert.SwBwdIdeal.defs Bits _ _ :=
  congrArg (Pipeline.defs (Cert.SwBwd.pcfgs (F := Bits))) sw_defs₀

/-- The printed call, on machine words, ends and changes no argument: it is the
    idealized call, whose frame is proved for any numbers. -/
theorem swBwd_frame : Cert.quiescent_SwBwd := fun m ρ _ => by
  have h := Cert.Sw.frame (F := Bits) m ρ
  rw [← sw_defs] at h
  exact h

end Cert.Proof

end
-- ==== Proof.SwValue.lean ====
/- The arrays that the attention's norm and rotation gradient leaves. -/
module

public import proofs.«01_k».proof.Proof.SwFrame
public import Idealize.ShloMosaic.Lib.Pipeline.Value

@[expose] public section

set_option maxRecDepth 16384

noncomputable section

namespace Cert.Sw

open Cert.SwBwdIdeal Cert.SwBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What is written back of the columns: each point writes its own block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

theorem entry6 (c : Dev nD) (i : S4096x5120.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- What is written back of the gradient. -/
theorem flushed7 (c : Dev nD) (t : Fin cfg0.N) :
    (dats m 0 c).flushed 7 t = (cfg0.win 7).cut (grid0.coords t) ((outsAt0 m c t.val t.isLt).2) := by
  show (cfg0.win 7).cut (grid0.coords t) ((dats m 0 c).after 7 t) = _
  rw [after0_7]

theorem entry7 (c : Dev nD) (i : S2x1x256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- The arrays after the run. -/
theorem post6 (r : PUnit × MemSt nD τ sig (Elt F)) (h : Pipeline.FramePost cfgs (dats m) 0 (V m) r) (c : Dev nD) :
    r.2.mem ((c : Thread nD τ).loc main_v20_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v20_1) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 5).trans (((dats m 0 c).arrAt_in 5 rfl _).trans ((A_eq m c 5).trans (V_main_arg7 m c)))

/-- The run, with every array at its end named. -/
theorem run_blocks : θ_run defs (onTc (τ := τ) (main (F := F))) ⟨m, fun _ => 0, ρ⟩ fun r => ∀ c : Dev nD,
      r.2.mem ((c : Thread nD τ).loc main_v20_0) = (dats m 0 c).arrAt 6 cfg0.N
      ∧ r.2.mem ((c : Thread nD τ).loc main_v20_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.Sw

end
-- ==== Proof.SwSpec.lean ====
module

public import proofs.«01_k».proof.Proof.GmSpec

/-! The dilated attention's preparation over the reals: one head's scaled norm, its partial rotation, and their gradients. -/

@[expose] public section

set_option maxRecDepth 16384

noncomputable section

namespace Cert.Sw

open Idealize.ShloMosaic

/-- Column `k` of head `h` among the 256 columns of a group. -/
def lane (h : Fin 4) (k : Fin 64) : Fin 256 := ⟨64 * h.val + k.val, by omega⟩
/-- The head of a column. -/
def hd (b : Fin 256) : Fin 4 := ⟨b.val / 64, by omega⟩
/-- The place of a column in its head. -/
def ln (b : Fin 256) : Fin 64 := ⟨b.val % 64, by omega⟩
/-- One head of a row. -/
def head (x : Fin 256 → ℝ) (h : Fin 4) (k : Fin 64) : ℝ := x (lane h k)

theorem lane_hd (b : Fin 256) : lane (hd b) (ln b) = b := Fin.ext (by show 64 * (b.val / 64) + b.val % 64 = b.val; omega)
theorem hd_lane (h : Fin 4) (k : Fin 64) : hd (lane h k) = h := Fin.ext (by show (64 * h.val + k.val) / 64 = h.val; omega)
theorem ln_lane (h : Fin 4) (k : Fin 64) : ln (lane h k) = k := Fin.ext (by show (64 * h.val + k.val) % 64 = k.val; omega)

/-- The mean square of a head, plus the small number. -/
def ms (x : Fin 64 → ℝ) : ℝ := (∑ k, x k * x k) * (1 / 64) + Cert.Gm.eps
/-- One over the root of it. -/
def rs (x : Fin 64 → ℝ) : ℝ := (√(ms x))⁻¹
/-- The head scaled to root mean square one. -/
def xn (x : Fin 64 → ℝ) (k : Fin 64) : ℝ := x k * rs x
/-- The cotangent of the normed head, from the cotangent `d` of its partial rotation. -/
def turn (C S : Fin 8 → ℝ) (d : Fin 64 → ℝ) (k : Fin 64) : ℝ :=
  if h : k.val < 8 then d k * C ⟨k.val, h⟩ + d ⟨k.val + 8, by omega⟩ * S ⟨k.val, h⟩
  else if h' : k.val < 16 then d k * C ⟨k.val - 8, by omega⟩ - d ⟨k.val - 8, by omega⟩ * S ⟨k.val - 8, by omega⟩
  else d k
/-- The gradient of the head, for a cotangent `e` of the normed head. -/
def dx (e x w : Fin 64 → ℝ) (k : Fin 64) : ℝ := rs x * (e k * w k - xn x k * ((∑ j, e j * w j * xn x j) * (1 / 64)))

theorem ms_pos (x : Fin 64 → ℝ) : 0 < ms x :=
  add_pos_of_nonneg_of_pos (mul_nonneg (Finset.sum_nonneg fun k _ => mul_self_nonneg _) (by norm_num)) Cert.Gm.eps_pos

theorem rsqrt_ms (x : Fin 64 → ℝ) : Ideal.rsqrt (((ms x : ℝ)) : EReal) = ((rs x : ℝ) : EReal) := by
  have h := ms_pos x
  rw [Ideal.rsqrt_coe, if_neg (not_lt.2 h.le), if_neg h.ne']
  rfl

theorem rs_sq (x : Fin 64 → ℝ) : rs x * rs x = 1 / ms x := by
  rw [rs, ← mul_inv, Real.mul_self_sqrt (ms_pos x).le, one_div]

theorem ofBits_64 : Ideal.ofBits .f32 1115684864#32 = ((64 : ℝ) : EReal) := by
  simp [Ideal.ofBits, Ideal.ieee, -EReal.coe_mul]; norm_num
theorem ofBits_64th : Ideal.ofBits .f32 1015021568#32 = ((1 / 64 : ℝ) : EReal) := by
  simp [Ideal.ofBits, Ideal.ieee, -EReal.coe_mul]; norm_num
theorem ofBits_neg_one : Ideal.ofBits .f32 3212836864#32 = ((-1 : ℝ) : EReal) := by
  simp [Ideal.ofBits, Ideal.ieee, -EReal.coe_mul]; norm_num
theorem ofBits_neg_half : Ideal.ofBits .f32 3204448256#32 = ((-(1 / 2) : ℝ) : EReal) := by
  simp [Ideal.ofBits, Ideal.ieee, -EReal.coe_mul]; norm_num

/-- The derivative through the mean square, added up term by term, is the gradient. -/
theorem dx_terms (e x w : Fin 64 → ℝ) (k : Fin 64) (q : ℝ) (hq : q = (∑ j, x j * (e j * w j)) * (-(1 / 2) * (rs x * (1 / ms x))) * (1 / 64)) :
    e k * w k * rs x + x k * q + q * x k = dx e x w k := by
  have h : (∑ j, e j * w j * xn x j) = (∑ j, x j * (e j * w j)) * rs x := by
    rw [Finset.sum_mul]
    exact Finset.sum_congr rfl fun j _ => by unfold xn; ring
  unfold dx
  rw [h, hq, ← rs_sq]
  unfold xn
  ring

/-- A sum over the columns of one head. -/
theorem sum_head (f : Fin 256 → ℝ) (b : Fin 256) : ∑ a, f a * (if a.val / 64 = b.val / 64 then 1 else 0) = ∑ k, f (lane (hd b) k) := by
  rw [← (finProdFinEquiv (m := 4) (n := 64)).sum_comp, Fintype.sum_prod_type, Finset.sum_eq_single (hd b) ?_ (fun h => absurd (Finset.mem_univ _) h)]
  · refine Finset.sum_congr rfl fun k _ => ?_
    have e : finProdFinEquiv (m := 4) (n := 64) (hd b, k) = lane (hd b) k := Fin.ext (by show k.val + 64 * (b.val / 64) = 64 * (b.val / 64) + k.val; omega)
    rw [e, if_pos (by show (64 * (b.val / 64) + k.val) / 64 = b.val / 64; omega), mul_one]
  · intro h _ hne
    refine Finset.sum_eq_zero fun k _ => ?_
    have hv : h.val ≠ b.val / 64 := fun he => hne (Fin.ext he)
    rw [if_neg (by show ¬(k.val + 64 * h.val) / 64 = b.val / 64; omega), mul_zero]

/-- The entry of the rotation's matrix in row `a` and column `b`. -/
def rotR (a b : Fin 256) : ℝ := (if b.val % 64 < 8 ∧ a.val = b.val + 8 then -1 else 0) + (if (8 ≤ b.val % 64 ∧ b.val % 64 < 16) ∧ a.val + 8 = b.val then 1 else 0)

/-- What the rotation's matrix makes of a row. -/
def swap (f : Fin 256 → ℝ) (b : Fin 256) : ℝ :=
  if h : b.val % 64 < 8 then f ⟨b.val + 8, by omega⟩ else if h' : b.val % 64 < 16 then -f ⟨b.val - 8, by omega⟩ else 0

theorem sum_swap (f : Fin 256 → ℝ) (b : Fin 256) : ∑ a, f a * rotR b a = swap f b := by
  have hb := b.isLt
  unfold swap
  split_ifs with h h'
  · rw [Finset.sum_eq_single ⟨b.val + 8, by omega⟩ (fun a _ hne => ?_) (fun h => absurd (Finset.mem_univ _) h)]
    · unfold rotR
      rw [if_neg (by show ¬((b.val + 8) % 64 < 8 ∧ b.val = b.val + 8 + 8); omega), if_pos (by show (8 ≤ (b.val + 8) % 64 ∧ (b.val + 8) % 64 < 16) ∧ b.val + 8 = b.val + 8; omega), zero_add, mul_one]
    · have : a.val ≠ b.val + 8 := fun he => hne (Fin.ext he)
      unfold rotR
      rw [if_neg (by omega), if_neg (by omega), add_zero, mul_zero]
  · rw [Finset.sum_eq_single ⟨b.val - 8, by omega⟩ (fun a _ hne => ?_) (fun h => absurd (Finset.mem_univ _) h)]
    · unfold rotR
      rw [if_pos (by show (b.val - 8) % 64 < 8 ∧ b.val = b.val - 8 + 8; omega), if_neg (by show ¬((8 ≤ (b.val - 8) % 64 ∧ (b.val - 8) % 64 < 16) ∧ b.val + 8 = b.val - 8); omega), add_zero, mul_neg_one]
    · have : a.val ≠ b.val - 8 := fun he => hne (Fin.ext he)
      unfold rotR
      rw [if_neg (by omega), if_neg (by omega), add_zero, mul_zero]
  · refine Finset.sum_eq_zero fun a _ => ?_
    unfold rotR
    rw [if_neg (by omega), if_neg (by omega), add_zero, mul_zero]

/-- A table of the rotation along the 256 columns: every head has the eight numbers twice, then a number for the columns that keep their place. -/
def table (T : Fin 8 → ℝ) (z : ℝ) (b : Fin 256) : ℝ :=
  if h : b.val % 64 < 8 then T ⟨b.val % 64, h⟩ else if h' : b.val % 64 < 16 then T ⟨b.val % 64 - 8, by omega⟩ else z

theorem turn_at (C S : Fin 8 → ℝ) (d : Fin 256 → ℝ) (b : Fin 256) :
    d b * table C 1 b + swap (fun a => d a * table S 0 a) b = turn C S (head d (hd b)) (ln b) := by
  have hb := b.isLt
  have e0 : head d (hd b) (ln b) = d b := congrArg d (lane_hd b)
  unfold swap turn
  by_cases h : b.val % 64 < 8
  · rw [dif_pos h, dif_pos (show (ln b).val < 8 from h), e0]
    unfold table
    dsimp only
    rw [dif_pos h, dif_neg (by show ¬(b.val + 8) % 64 < 8; omega), dif_pos (by show (b.val + 8) % 64 < 16; omega)]
    have e1 : head d (hd b) ⟨(ln b).val + 8, by show b.val % 64 + 8 < 64; omega⟩ = d ⟨b.val + 8, by omega⟩ :=
      congrArg d (Fin.ext (by show 64 * (b.val / 64) + (b.val % 64 + 8) = b.val + 8; omega))
    rw [e1]
    exact congrArg (fun j => d b * C _ + d _ * S j) (Fin.ext (by show (b.val + 8) % 64 - 8 = b.val % 64; omega))
  · rw [dif_neg h, dif_neg (show ¬(ln b).val < 8 from h)]
    by_cases h' : b.val % 64 < 16
    · rw [dif_pos h', dif_pos (show (ln b).val < 16 from h'), e0]
      unfold table
      dsimp only
      rw [dif_neg h, dif_pos h', dif_pos (by show (b.val - 8) % 64 < 8; omega)]
      have e1 : head d (hd b) ⟨(ln b).val - 8, by show b.val % 64 - 8 < 64; omega⟩ = d ⟨b.val - 8, by omega⟩ :=
        congrArg d (Fin.ext (by show 64 * (b.val / 64) + (b.val % 64 - 8) = b.val - 8; omega))
      rw [e1, ← sub_eq_add_neg]
      exact congrArg (fun j => d b * C _ - d _ * S j) (Fin.ext (by show (b.val - 8) % 64 = b.val % 64 - 8; omega))
    · rw [dif_neg h', dif_neg (show ¬(ln b).val < 16 from h'), e0]
      unfold table
      rw [dif_neg h, dif_neg h', mul_one, add_zero]

/-- The half of a block that holds a column, and the column's place in it. -/
def halfOf (b : Fin 256) : Fin 2 := ⟨b.val / 128, by omega⟩
def inHalf (b : Fin 256) : Fin 128 := ⟨b.val % 128, by omega⟩
/-- The cotangent of a normed head. -/
def cotH (D : Fin 4096 → Fin 256 → ℝ) (C S : Fin 4096 → Fin 8 → ℝ) (r : Fin 4096) (h : Fin 4) : Fin 64 → ℝ := turn (C r) (S r) (head (D r) h)
/-- The gradient of a group's columns. -/
def gx (X D : Fin 4096 → Fin 256 → ℝ) (W : Fin 64 → ℝ) (C S : Fin 4096 → Fin 8 → ℝ) (r : Fin 4096) (b : Fin 256) : ℝ :=
  dx (cotH D C S r (hd b)) (head (X r) (hd b)) W (ln b)
/-- One row's part in the gradient of the norm's weight. -/
def gwr (X D : Fin 4096 → Fin 256 → ℝ) (C S : Fin 4096 → Fin 8 → ℝ) (b : Fin 256) (r : Fin 4096) : ℝ :=
  cotH D C S r (hd b) (ln b) * xn (head (X r) (hd b)) (ln b)

theorem div_64 (x : ℝ) : Ideal.div (x : EReal) (Ideal.ofBits .f32 1115684864#32) = ((x * (1 / 64) : ℝ) : EReal) := by
  rw [ofBits_64, Ideal.div_coe (by norm_num), ← EReal.coe_mul]

end Cert.Sw

end
-- ==== Proof.SwKernel.lean ====
module

public import proofs.«01_k».proof.Proof.SwValue
public import proofs.«01_k».proof.Proof.SwSpec
public import Idealize.ShloMosaic.Lib.Pipeline.ReadBack
public import Idealize.ShloMosaic.Lib.Pipeline.ValueKit.Tiles
public import Idealize.ShloMosaic.Lib.Pipeline.ValueKit.Point
public import Idealize.ShloMosaic.Lib.StableHlo.ReadAt
public import Idealize.ShloMosaic.Lib.IdealHost

/-! The dilated attention's preparation, backward: what one grid point leaves in its output blocks, at real inputs. -/

@[expose] public section

set_option maxRecDepth 100000

noncomputable section

namespace Cert.Sw

open Cert.SwBwdIdeal Cert.SwBwdIdeal.Gen Idealize.ShloMosaic Idealize.ShloMosaic.TcCoe

/-! ### The two matrices -/

theorem floor_row (a b : Fin 256) : k0_pay5 (ix2 a b) = BitVec.ofNat 32 (a.val / 64) := by
  pointwise [k0_pay5]
  clear b
  revert a
  decide +kernel
theorem floor_col (a b : Fin 256) : Scalar.select (k0_pay7 (ix2 a b)) (IntOp.subi (k0_pay6 (ix2 a b)) 1#32) (k0_pay6 (ix2 a b)) = BitVec.ofNat 32 (b.val / 64) := by
  pointwise [k0_pay7, k0_pay6]
  clear a
  revert b
  decide +kernel

theorem one_bit (p : Prop) [Decidable p] : (FloatOps.sitofp FTy.f32 (BitVec.zeroExtend 32 (BitVec.ofBool (decide p))) : Ideal .f32) = (((if p then 1 else 0 : ℝ)) : EReal) := by
  by_cases h : p
  · simp only [h, decide_true, if_true]
    show ((((BitVec.zeroExtend 32 (BitVec.ofBool true)) : BitVec 32).toInt : ℝ) : EReal) = _
    simp
  · simp only [h, decide_false, if_false]
    show ((((BitVec.zeroExtend 32 (BitVec.ofBool false)) : BitVec 32).toInt : ℝ) : EReal) = _
    simp

theorem nat_eq (a b : ℕ) (ha : a < 4096) (hb : b < 4096) : IntOp.cmpi .eq (BitVec.ofNat 32 a) (BitVec.ofNat 32 b) = BitVec.ofBool (decide (a = b)) := by
  unfold IntOp.cmpi
  refine congrArg BitVec.ofBool (decide_eq_decide.mpr ⟨fun h => ?_, fun h => by rw [h]⟩)
  have := congrArg BitVec.toNat h
  rwa [BitVec.toNat_ofNat, BitVec.toNat_ofNat, Nat.mod_eq_of_lt (by omega), Nat.mod_eq_of_lt (by omega)] at this

theorem same_at (a b : Fin 256) : k0_pay9 (F := Ideal) k0_pay5 k0_pay6 k0_pay7 (ix2 a b) = (((if a.val / 64 = b.val / 64 then 1 else 0 : ℝ)) : EReal) := by
  pointwise [k0_pay9]
  rw [floor_row, floor_col, nat_eq _ _ (by omega) (by omega)]
  exact one_bit _

/-- The remainder of a column number by 64, as the body has it. -/
def rem (b : BitVec 32) : BitVec 32 :=
  Scalar.select (IntOp.andi (IntOp.xori (IntOp.cmpi .slt (IntOp.remsi .vector b (Scalar.select (Scalar.cmpi .eq 64#32 0#32) 1#32 64#32)) 0#32)
      (Scalar.cmpi .slt (Scalar.select (Scalar.cmpi .eq 64#32 0#32) 1#32 64#32) 0#32))
      (IntOp.cmpi .ne (IntOp.remsi .vector b (Scalar.select (Scalar.cmpi .eq 64#32 0#32) 1#32 64#32)) 0#32))
    (IntOp.addi (IntOp.remsi .vector b (Scalar.select (Scalar.cmpi .eq 64#32 0#32) 1#32 64#32)) (Scalar.select (Scalar.cmpi .eq 64#32 0#32) 1#32 64#32))
    (IntOp.remsi .vector b (Scalar.select (Scalar.cmpi .eq 64#32 0#32) 1#32 64#32))

theorem rem_lt8 : ∀ b : Fin 256, IntOp.cmpi .slt (rem (BitVec.ofNat 32 b.val)) 8#32 = BitVec.ofBool (decide (b.val % 64 < 8)) := by decide +kernel
theorem rem_mid : ∀ b : Fin 256, IntOp.andi (IntOp.cmpi .sge (rem (BitVec.ofNat 32 b.val)) 8#32) (IntOp.cmpi .slt (rem (BitVec.ofNat 32 b.val)) 16#32)
    = BitVec.ofBool (decide (8 ≤ b.val % 64 ∧ b.val % 64 < 16)) := by decide +kernel
theorem below (a b : Fin 256) : IntOp.cmpi .eq (BitVec.ofNat 32 a.val) (IntOp.addi (BitVec.ofNat 32 b.val) 8#32) = BitVec.ofBool (decide (a.val = b.val + 8)) := by
  have e : IntOp.addi (BitVec.ofNat 32 b.val) 8#32 = BitVec.ofNat 32 (b.val + 8) := by
    revert b
    decide +kernel
  rw [e, nat_eq _ _ (by omega) (by omega)]
theorem above (a b : Fin 256) : IntOp.cmpi .eq (BitVec.ofNat 32 a.val) (IntOp.subi (BitVec.ofNat 32 b.val) 8#32) = BitVec.ofBool (decide (a.val + 8 = b.val)) := by
  by_cases hb : 8 ≤ b.val
  · have e : ∀ b : Fin 256, 8 ≤ b.val → IntOp.subi (BitVec.ofNat 32 b.val) 8#32 = BitVec.ofNat 32 (b.val - 8) := by decide +kernel
    rw [e b hb, nat_eq _ _ (by omega) (by omega)]
    exact congrArg BitVec.ofBool (decide_eq_decide.mpr (by omega))
  · have e : ∀ b : Fin 256, ¬8 ≤ b.val → ∀ a : Fin 256, IntOp.cmpi .eq (BitVec.ofNat 32 a.val) (IntOp.subi (BitVec.ofNat 32 b.val) 8#32) = 0#1 := by decide +kernel
    rw [e b hb a, decide_eq_false (by omega)]
    rfl
theorem and_bit (p q : Prop) [Decidable p] [Decidable q] : IntOp.andi (BitVec.ofBool (decide p)) (BitVec.ofBool (decide q)) = BitVec.ofBool (decide (p ∧ q)) := by
  by_cases hp : p <;> by_cases hq : q <;> simp [hp, hq] <;> decide
theorem select_bit {α : Type} (p : Prop) [Decidable p] (a b : α) : Scalar.select (BitVec.ofBool (decide p)) a b = if p then a else b := by
  by_cases hp : p <;> simp [hp, Scalar.select]

theorem rot_at (a b : Fin 256) : k0_pay8 (F := Ideal) (iota .tc S256x256 32 [0] iota_S256x256_d0_w32) (iota .tc S256x256 32 [1] iota_S256x256_d1_w32) (ix2 a b)
    = ((rotR a b : ℝ) : EReal) := by
  pointwise [k0_pay8]
  change Scalar.select (IntOp.andi (IntOp.cmpi .slt (rem (BitVec.ofNat 32 b.val)) 8#32) _) (_ : EReal) 0
    + Scalar.select (IntOp.andi (IntOp.andi (IntOp.cmpi .sge (rem (BitVec.ofNat 32 b.val)) 8#32) (IntOp.cmpi .slt (rem (BitVec.ofNat 32 b.val)) 16#32)) _) (1 : EReal) 0 = _
  rw [rem_lt8, rem_mid, below, above, and_bit, and_bit, select_bit, select_bit, ofBits_neg_one, ← EReal.coe_one, ← EReal.coe_zero]
  unfold rotR
  rw [EReal.coe_add]
  refine congrArg₂ (· + ·) ?_ ?_ <;> split <;> rfl

/-! ### One block of 512 rows -/

/-- The two matrices, named. -/
abbrev sameM : FVec Ideal S256x256 .f32 := k0_pay9 (F := Ideal) k0_pay5 k0_pay6 k0_pay7
abbrev rotM : FVec Ideal S256x256 .f32 := k0_pay8 (F := Ideal) (iota .tc S256x256 32 [0] iota_S256x256_d0_w32) (iota .tc S256x256 32 [1] iota_S256x256_d1_w32)

/-- Split in two parts and multiplied by a matrix of reals, a row is multiplied by it. -/
theorem split_sum (f q : Fin 256 → ℝ) : (∑ a, (f a : EReal) * (q a : EReal)) + ∑ a, ((f a : EReal) - (f a : EReal)) * (q a : EReal) = ((∑ a, f a * q a : ℝ) : EReal) := by
  simp only [← EReal.coe_mul, ← EReal.coe_sub, Cert.Gm.coe_sum, ← EReal.coe_add, sub_self, zero_mul, Finset.sum_const_zero, add_zero]

/-- The cotangent of the normed columns of a row. -/
def cotR (D CT ST : Fin 256 → ℝ) (b : Fin 256) : ℝ := D b * CT b + swap (fun a => D a * ST a) b
/-- The normed columns of a row, before the weight. -/
def nrm (x : Fin 256 → ℝ) (b : Fin 256) : ℝ := xn (head x (hd b)) (ln b)
/-- The gradient of the columns of a row. -/
def dcol (e x w : Fin 256 → ℝ) (b : Fin 256) : ℝ := dx (head e (hd b)) (head x (hd b)) (head w (hd b)) (ln b)

section
variable (x d ct st : Vec Ideal S512x256 .f32) (w : Vec Ideal S1x1x256 .f32) (X D CT ST : Fin 512 → Fin 256 → ℝ) (W : Fin 256 → ℝ)
  (hx : ∀ r b, x (ix2 r b) = ((X r b : ℝ) : EReal)) (hd' : ∀ r b, d (ix2 r b) = ((D r b : ℝ) : EReal))
  (hct : ∀ r b, ct (ix2 r b) = ((CT r b : ℝ) : EReal)) (hst : ∀ r b, st (ix2 r b) = ((ST r b : ℝ) : EReal))
  (hw : ∀ b, w (ix3 0 0 b) = ((W b : ℝ) : EReal))

include hx in
theorem rs_real (r : Fin 512) (b : Fin 256) : k0_pay11 sameM x (ix2 r b) = ((rs (head (X r) (hd b)) : ℝ) : EReal) := by
  pointwise [k0_pay11]
  simp only [same_at, hx, ← EReal.coe_mul]
  simp only [EReal.coe_mul (X r _ * X r _) (ite _ _ _)]
  rw [split_sum (fun a => X r a * X r a), sum_head, ofBits_64th, Cert.Gm.ofBits_eps, ← EReal.coe_mul, ← EReal.coe_add]
  exact rsqrt_ms (head (X r) (hd b))

include hx in
theorem nrm_real (r : Fin 512) (b : Fin 256) : k0_pay12 sameM x (ix2 r b) = ((nrm (X r) b : ℝ) : EReal) := by
  pointwise [k0_pay12]
  rw [rs_real x X hx, hx, ← EReal.coe_mul]
  unfold nrm xn
  exact congrArg (fun j => ((X r j * _ : ℝ) : EReal)) (lane_hd b).symm

include hd' hct hst in
theorem cot_real (r : Fin 512) (b : Fin 256) : k0_pay13 d rotM ct st (ix2 r b) = ((cotR (D r) (CT r) (ST r) b : ℝ) : EReal) := by
  pointwise [k0_pay13]
  simp only [rot_at, hd', hct, hst, ← EReal.coe_mul (D r _)]
  rw [split_sum (fun a => D r a * ST r a), sum_swap, ← EReal.coe_add]
  rfl

theorem weight_at (b : Fin 256) : k0_pay10 w (ix2 0 b) = w (ix3 0 0 b) := by
  pointwise [k0_pay10]

include hx hd' hct hst hw in
theorem dx_real (r : Fin 512) (b : Fin 256) :
    k0_pay4 sameM (k0_pay10 w) (k0_pay11 sameM x) (k0_pay12 sameM x) (k0_pay13 d rotM ct st) (ix2 r b)
      = ((dcol (cotR (D r) (CT r) (ST r)) (X r) W b : ℝ) : EReal) := by
  pointwise [k0_pay4]
  simp only [same_at, rs_real x X hx, nrm_real x X hx, cot_real d ct st D CT ST hd' hct hst, weight_at, hw, ← EReal.coe_mul (cotR _ _ _ _), ← EReal.coe_mul (_ * W _)]
  rw [split_sum (fun a => cotR (D r) (CT r) (ST r) a * W a * nrm (X r) a), sum_head, ofBits_64th, ← EReal.coe_mul, ← EReal.coe_mul, ← EReal.coe_sub, ← EReal.coe_mul]
  unfold dcol dx
  have e (f : Fin 256 → ℝ) : head f (hd b) (ln b) = f b := congrArg f (lane_hd b)
  have e' (k : Fin 64) : nrm (X r) (lane (hd b) k) = xn (head (X r) (hd b)) k := by unfold nrm; rw [hd_lane, ln_lane]
  simp only [e, e']
  rfl

include hx hd' hct hst in
theorem dw_real (a : Vec Ideal S1x1x256 .f32) (b : Fin 256) :
    k0_pay3 (k0_pay14 d rotM sameM x ct st a) (ix3 0 0 b) = a (ix3 0 0 b) + ((∑ r, cotR (D r) (CT r) (ST r) b * nrm (X r) b : ℝ) : EReal) := by
  pointwise [k0_pay3, k0_pay14]
  simp only [nrm_real x X hx, cot_real d ct st D CT ST hd' hct hst, ← EReal.coe_mul, Cert.Gm.coe_sum]

end

theorem halves_at (u v : Vec Ideal S1x1x512x128 .f32) (r : Fin 512) (b : Fin 256) :
    k0_pay1 u v (ix2 r b) = if h : b.val < 128 then u (ix4 0 0 r ⟨b.val, h⟩) else v (ix4 0 0 r ⟨b.val - 128, by omega⟩) := by
  pointwise [k0_pay1]
theorem copy_at (u v : Vec Ideal S1x1x512x128 .f32) (r : Fin 512) (b : Fin 256) : k0_pay2 u v (ix2 r b) = k0_pay1 u v (ix2 r b) := by
  pointwise [k0_pay2]

end Cert.Sw

end
-- ==== Proof.SwOut.lean ====
module

public import proofs.«01_k».proof.Proof.SwKernel
public import proofs.«01_k».proof.Proof.Sums

/-! The dilated attention's preparation, backward: the output blocks of one grid point, at real inputs. -/

@[expose] public section

set_option maxRecDepth 100000

noncomputable section

namespace Cert.Sw

open Cert.SwBwdIdeal Cert.SwBwdIdeal.Gen Idealize.ShloMosaic Idealize.ShloMosaic.TcCoe

theorem zero3 : (![0, 0, 0] : Fin 3 → ℕ) = fun _ => 0 := by decide

/-- Entry `(r, b)` of a group's cotangent: its first 128 columns are in the first half of the block. -/
def wide (x : Vec Ideal S1x2x512x128 .f32) (r : Fin 512) (b : Fin 256) : EReal :=
  if h : b.val < 128 then x (ix4 0 0 r ⟨b.val, h⟩) else x (ix4 0 1 r ⟨b.val - 128, by omega⟩)

/-- The two halves of a block, loaded and put side by side. -/
theorem wide_at (x : Vec Ideal S1x2x512x128 .f32) (r : Fin 512) (b : Fin 256)
    (h : ∀ a, (![0, 0, 0, 0] : Fin 4 → ℕ) a + (![1, 1, 512, 128] : Fin 4 → ℕ) a ≤ S1x2x512x128.size a)
    (h' : ∀ a, (![0, 1, 0, 0] : Fin 4 → ℕ) a + (![1, 1, 512, 128] : Fin 4 → ℕ) a ≤ S1x2x512x128.size a) :
    k0_pay1 (View.ld (Val := Elt Ideal) x (Rect.unit ![0, 0, 0, 0] ![1, 1, 512, 128] h)) (View.ld (Val := Elt Ideal) x (Rect.unit ![0, 1, 0, 0] ![1, 1, 512, 128] h')) (ix2 r b)
      = wide x r b := by
  refine (halves_at _ _ r b).trans ?_
  unfold wide
  by_cases hb : b.val < 128
  · rw [dif_pos hb, dif_pos hb]
    exact View.ld_unit_apply_of _ _ _ _ _ _ fun a => by fin_cases a <;> simp [ix4]
  · rw [dif_neg hb, dif_neg hb]
    exact View.ld_unit_apply_of _ _ _ _ _ _ fun a => by fin_cases a <;> simp [ix4]

/-- The blocks a grid point reads, finite. -/
structure Blk (X D CT ST : Fin 512 → Fin 256 → ℝ) (W : Fin 256 → ℝ) (x0 : Vec Ideal S512x256 .f32) (x1 : Vec Ideal S1x1x256 .f32)
    (x2 x3 : Vec Ideal S512x256 .f32) (x4 : Vec Ideal S1x2x512x128 .f32) : Prop where
  h0 : ∀ r b, x0 (ix2 r b) = ((X r b : ℝ) : EReal)
  h1 : ∀ b, x1 (ix3 0 0 b) = ((W b : ℝ) : EReal)
  h2 : ∀ r b, x2 (ix2 r b) = ((CT r b : ℝ) : EReal)
  h3 : ∀ r b, x3 (ix2 r b) = ((ST r b : ℝ) : EReal)
  h4 : ∀ r b, wide x4 r b = ((D r b : ℝ) : EReal)

/-- What a block of rows adds to the gradient of the weight. -/
def dwb (X D CT ST : Fin 512 → Fin 256 → ℝ) (b : Fin 256) : ℝ := ∑ r, cotR (D r) (CT r) (ST r) b * nrm (X r) b

section
variable (c : Dev nD) (i : grid0.Coords) (arg2 : Memref sig .tc .vmem S512x256 .f32) (harg2 : arg2.IsWhole) (arg3 : Memref sig .tc .vmem S1x1x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x2x512x128 .f32) (harg6 : arg6.IsWhole) (arg8 : Memref sig .tc .vmem S1x1x256 .f32) (harg8 : arg8.IsWhole) (arg9 : Memref sig .tc .vmem S512x256 .bf16) (harg9 : arg9.IsWhole) (arg10 : Memref sig .tc .vmem S1x1x256 .f32) (harg10 : arg10.IsWhole)
variable (x0 : Vec Ideal S512x256 .f32) (x1 : Vec Ideal S1x1x256 .f32) (x2 x3 : Vec Ideal S512x256 .f32) (x4 : Vec Ideal S1x2x512x128 .f32) (x5 xo7 : Vec Ideal S1x1x256 .f32)
  {X D CT ST : Fin 512 → Fin 256 → ℝ} {W : Fin 256 → ℝ}

theorem out_A_6 (hc0 : ¬cond0_0 i) (hc1 : cond0_1 i) (hc2 : cond0_2 i) (hb : Blk X D CT ST W x0 x1 x2 x3 x4) (r : Fin 512) (b : Fin 256) :
    out0_A_6 c i arg2 harg2 arg3 harg3 arg4 harg4 arg5 harg5 arg6 harg6 arg8 harg8 arg9 harg9 arg10 harg10 hc0 hc1 hc2 x0 x1 x2 x3 x4 x5 (ix2 r b)
      = ((dcol (cotR (D r) (CT r) (ST r)) (X r) W b : ℝ) : EReal) := by
  unfold out0_A_6
  rw [View.read_writes_eq_canon _ _ _ (cover0_A_6 c i arg2 harg2 arg3 harg3 arg4 harg4 arg5 harg5 arg6 harg6 arg8 harg8 arg9 harg9 arg10 harg10 hc0 hc1 hc2 x0 x1 x2 x3 x4 x5)]
  unfold kernelRun0_A
  dsimp only
  sl_unfold_words
  simp only [View.readAt_eq_ld, harg2.read_unread, harg3.read_unread, harg4.read_unread, harg5.read_unread, harg6.read_unread, harg8.read_unread, harg9.read_unread, harg10.read_unread,
    View.ld_unit_zero (S := S512x256) Cert.Dense.zero2, View.ld_unit_zero (S := S1x1x256) zero3]
  rw [View.canon_cons_unit_zero Cert.Dense.zero2]
  exact dx_real _ _ _ _ _ X D CT ST W hb.h0 (fun r b => (wide_at x4 r b _ _).trans (hb.h4 r b)) hb.h2 hb.h3 hb.h1 r b

theorem out_A_7 (hc0 : ¬cond0_0 i) (hc1 : cond0_1 i) (hc2 : cond0_2 i) (hb : Blk X D CT ST W x0 x1 x2 x3 x4) (b : Fin 256) :
    out0_A_7 c i arg2 harg2 arg3 harg3 arg4 harg4 arg5 harg5 arg6 harg6 arg8 harg8 arg9 harg9 arg10 harg10 hc0 hc1 hc2 x0 x1 x2 x3 x4 x5 (ix3 0 0 b)
      = x5 (ix3 0 0 b) + ((dwb X D CT ST b : ℝ) : EReal) := by
  unfold out0_A_7
  rw [View.read_writes_eq_canon _ _ _ (cover0_A_7 c i arg2 harg2 arg3 harg3 arg4 harg4 arg5 harg5 arg6 harg6 arg8 harg8 arg9 harg9 arg10 harg10 hc0 hc1 hc2 x0 x1 x2 x3 x4 x5)]
  unfold kernelRun0_A
  dsimp only
  sl_unfold_words
  simp only [View.readAt_eq_ld, harg2.read_unread, harg3.read_unread, harg4.read_unread, harg5.read_unread, harg6.read_unread, harg8.read_unread, harg9.read_unread, harg10.read_unread,
    View.ld_unit_zero (S := S512x256) Cert.Dense.zero2, View.ld_unit_zero (S := S1x1x256) zero3]
  rw [View.canon_cons_unit_zero zero3, View.readCov_cons_toLoadRect]
  exact dw_real _ _ _ _ X D CT ST hb.h0 (fun r b => (wide_at x4 r b _ _).trans (hb.h4 r b)) hb.h2 hb.h3 _ b

theorem out_B_6 (hc0 : ¬cond0_0 i) (hc1 : ¬cond0_1 i) (hc2 : cond0_2 i) (hb : Blk X D CT ST W x0 x1 x2 x3 x4) (r : Fin 512) (b : Fin 256) :
    out0_B_6 c i arg2 harg2 arg3 harg3 arg4 harg4 arg5 harg5 arg6 harg6 arg8 harg8 arg9 harg9 arg10 harg10 hc0 hc1 hc2 x0 x1 x2 x3 x4 x5 xo7 (ix2 r b)
      = ((dcol (cotR (D r) (CT r) (ST r)) (X r) W b : ℝ) : EReal) := by
  unfold out0_B_6
  rw [View.read_writes_eq_canon _ _ _ (cover0_B_6 c i arg2 harg2 arg3 harg3 arg4 harg4 arg5 harg5 arg6 harg6 arg8 harg8 arg9 harg9 arg10 harg10 hc0 hc1 hc2 x0 x1 x2 x3 x4 x5 xo7)]
  unfold kernelRun0_B
  dsimp only
  sl_unfold_words
  simp only [View.readAt_eq_ld, harg2.read_unread, harg3.read_unread, harg4.read_unread, harg5.read_unread, harg6.read_unread, harg8.read_unread, harg9.read_unread, harg10.read_unread,
    View.ld_unit_zero (S := S512x256) Cert.Dense.zero2, View.ld_unit_zero (S := S1x1x256) zero3]
  rw [View.canon_cons_unit_zero Cert.Dense.zero2]
  exact dx_real _ _ _ _ _ X D CT ST W hb.h0 (fun r b => (wide_at x4 r b _ _).trans (hb.h4 r b)) hb.h2 hb.h3 hb.h1 r b

theorem out_B_7 (hc0 : ¬cond0_0 i) (hc1 : ¬cond0_1 i) (hc2 : cond0_2 i) (hb : Blk X D CT ST W x0 x1 x2 x3 x4) (b : Fin 256) :
    out0_B_7 c i arg2 harg2 arg3 harg3 arg4 harg4 arg5 harg5 arg6 harg6 arg8 harg8 arg9 harg9 arg10 harg10 hc0 hc1 hc2 x0 x1 x2 x3 x4 x5 xo7 (ix3 0 0 b)
      = xo7 (ix3 0 0 b) + ((dwb X D CT ST b : ℝ) : EReal) := by
  unfold out0_B_7
  rw [View.read_writes_eq_canon _ _ _ (cover0_B_7 c i arg2 harg2 arg3 harg3 arg4 harg4 arg5 harg5 arg6 harg6 arg8 harg8 arg9 harg9 arg10 harg10 hc0 hc1 hc2 x0 x1 x2 x3 x4 x5 xo7)]
  unfold kernelRun0_B
  dsimp only
  sl_unfold_words
  simp only [View.readAt_eq_ld, harg2.read_unread, harg3.read_unread, harg4.read_unread, harg5.read_unread, harg6.read_unread, harg8.read_unread, harg9.read_unread, harg10.read_unread,
    View.ld_unit_zero (S := S512x256) Cert.Dense.zero2, View.ld_unit_zero (S := S1x1x256) zero3]
  rw [View.canon_cons_unit_zero zero3]
  exact dw_real _ _ _ _ X D CT ST hb.h0 (fun r b => (wide_at x4 r b _ _).trans (hb.h4 r b)) hb.h2 hb.h3 _ b

theorem out_C_6 (hc0 : cond0_0 i) (hc1 : ¬cond0_1 i) (hc2 : ¬cond0_2 i) (r : Fin 512) (b : Fin 256) :
    out0_C_6 c i arg2 harg2 arg3 harg3 arg4 harg4 arg5 harg5 arg6 harg6 arg8 harg8 arg9 harg9 arg10 harg10 hc0 hc1 hc2 x0 x1 x2 x3 x4 x5 (ix2 r b)
      = wide x4 r b := by
  unfold out0_C_6
  rw [View.read_writes_eq_canon _ _ _ (cover0_C_6 c i arg2 harg2 arg3 harg3 arg4 harg4 arg5 harg5 arg6 harg6 arg8 harg8 arg9 harg9 arg10 harg10 hc0 hc1 hc2 x0 x1 x2 x3 x4 x5)]
  unfold kernelRun0_C
  dsimp only
  sl_unfold_words
  simp only [View.readAt_eq_ld, harg2.read_unread, harg3.read_unread, harg4.read_unread, harg5.read_unread, harg6.read_unread, harg8.read_unread, harg9.read_unread, harg10.read_unread,
    View.ld_unit_zero (S := S512x256) Cert.Dense.zero2, View.ld_unit_zero (S := S1x1x256) zero3]
  rw [View.canon_cons_unit_zero Cert.Dense.zero2]
  exact (copy_at _ _ r b).trans (wide_at x4 r b _ _)

end

end Cert.Sw

end
-- ==== Proof.SwEntry.lean ====
module

public import proofs.«01_k».proof.Proof.SwOut

/-! What the call of the dilated attention's preparation, backward, finds in its blocks. -/

@[expose] public section

set_option maxRecDepth 100000

noncomputable section

namespace Cert.Sw

open Cert.SwBwdIdeal Cert.SwBwdIdeal.Gen Cert.Dense Idealize.ShloMosaic Idealize.ShloMosaic.TcCoe

variable (m : (ℓ : Loc nD τ sig) → Buf (Elt Ideal) ℓ)

theorem V_alias (c : Dev nD) (r : Fin 4096) (k : Fin 5120) :
    V m c main_v20_0 (ix2 r k) = m ((c : Thread nD τ).loc main_arg6) (ix2 r k) := by
  unfold V
  after_reads_at
  rfl
theorem V_wq (c : Dev nD) (b : Fin 256) : V m c main_v9 (ix3 0 0 b) = m ((c : Thread nD τ).loc main_arg1) (ix1 (ln b)) := by
  unfold V
  after_reads_at
  after_reads_at
  rfl
theorem V_wk (c : Dev nD) (b : Fin 256) : V m c main_v9 (ix3 1 0 b) = m ((c : Thread nD τ).loc main_arg2) (ix1 (ln b)) := by
  unfold V
  after_reads_at
  after_reads_at
  rfl

/-- One row of a table, as the call finds it. -/
def tab (T : Fin 8 → EReal) (z : EReal) (b : Fin 256) : EReal :=
  if h : b.val % 64 < 8 then T ⟨b.val % 64, h⟩ else if h' : b.val % 64 < 16 then T ⟨b.val % 64 - 8, by omega⟩ else z

theorem tab_lo (T : Fin 8 → EReal) (z : EReal) (b : Fin 256) (h : b.val % 64 < 8) : tab T z b = T ⟨b.val % 64, h⟩ := dif_pos h
theorem tab_mid (T : Fin 8 → EReal) (z : EReal) (b : Fin 256) (h : ¬b.val % 64 < 8) (h' : b.val % 64 < 16) : tab T z b = T ⟨b.val % 64 - 8, by omega⟩ :=
  (dif_neg h).trans (dif_pos h')
theorem tab_hi (T : Fin 8 → EReal) (z : EReal) (b : Fin 256) (h : ¬b.val % 64 < 8) (h' : ¬b.val % 64 < 16) : tab T z b = z :=
  (dif_neg h).trans (dif_neg h')

theorem tab_real {T : Fin 8 → EReal} {z : EReal} {R : Fin 8 → ℝ} {y : ℝ} (h : ∀ k, T k = (R k : EReal)) (hz : z = (y : EReal)) (b : Fin 256) :
    tab T z b = ((table R y b : ℝ) : EReal) := by
  unfold tab table
  split_ifs
  · exact h _
  · exact h _
  · exact hz

theorem V_cos (c : Dev nD) (r : Fin 4096) (b : Fin 256) : V m c main_v16 (ix2 r b) = tab (fun k => m ((c : Thread nD τ).loc main_arg3) (ix2 r k)) 1 b := by
  unfold V
  after_reads_at
  after_reads_at
  by_cases h : b.val % 64 < 8
  · rw [dif_pos h]
    exact (tab_lo (fun k => m ((c : Thread nD τ).loc main_arg3) (ix2 r k)) 1 b h).symm
  · rw [dif_neg h]
    by_cases h' : b.val % 64 - 8 < 8
    · have h2 : b.val % 64 < 16 := by omega
      rw [dif_pos h']
      exact (tab_mid (fun k => m ((c : Thread nD τ).loc main_arg3) (ix2 r k)) 1 b h h2).symm
    · have h2 : ¬b.val % 64 < 16 := by omega
      rw [dif_neg h']
      exact (tab_hi (fun k => m ((c : Thread nD τ).loc main_arg3) (ix2 r k)) 1 b h h2).symm
theorem V_sin (c : Dev nD) (r : Fin 4096) (b : Fin 256) : V m c main_v19 (ix2 r b) = tab (fun k => m ((c : Thread nD τ).loc main_arg4) (ix2 r k)) 0 b := by
  unfold V
  after_reads_at
  after_reads_at
  by_cases h : b.val % 64 < 8
  · rw [dif_pos h]
    exact (tab_lo (fun k => m ((c : Thread nD τ).loc main_arg4) (ix2 r k)) 0 b h).symm
  · rw [dif_neg h]
    by_cases h' : b.val % 64 - 8 < 8
    · have h2 : b.val % 64 < 16 := by omega
      rw [dif_pos h']
      exact (tab_mid (fun k => m ((c : Thread nD τ).loc main_arg4) (ix2 r k)) 0 b h h2).symm
    · have h2 : ¬b.val % 64 < 16 := by omega
      rw [dif_neg h']
      exact (tab_hi (fun k => m ((c : Thread nD τ).loc main_arg4) (ix2 r k)) 0 b h h2).symm

theorem idx : ∀ t : Fin grid0.N, win0_0.index t = ![t.val % 8, 9 + (t.val / 8 + 1) % 3] ∧ win0_1.index t = ![1 - t.val / 16, 0, 0]
    ∧ win0_2.index t = ![t.val % 8, 0] ∧ win0_3.index t = ![t.val % 8, 0] ∧ win0_4.index t = ![t.val / 8, 0, t.val % 8, 0]
    ∧ win0_5.index t = ![t.val / 16, 0, 0] ∧ win0_6.index t = ![t.val % 8, 9 + (t.val / 8 + 1) % 3] ∧ win0_7.index t = ![t.val / 16, 0, 0] := by
  decide +kernel

/-- The row of the device that is row `r` of point `t`'s blocks. -/
def rowAt (t : ℕ) (r : Fin 512) : Fin 4096 := brow 512 (t % 8) r
theorem rowAt_val (t : ℕ) (r : Fin 512) : (rowAt t r).val = t % 8 * 512 + r.val := brow_val (n := 8) rfl (Nat.mod_lt _ (by norm_num)) r

theorem blk0 (c : Dev nD) (t : Fin cfg0.N) (r : Fin 512) (b : Fin 256) :
    iblk m c 0 t (ix2 r b) = m ((c : Thread nD τ).loc main_arg0) (ix2 (rowAt t.val r) ⟨2304 + (t.val / 8 + 1) % 3 * 256 + b.val, by omega⟩) := by
  have ht : t.val < 24 := t.isLt
  have hr := rowAt_val t.val r
  blk_point [iblk, V, idx t]
theorem blk1 (c : Dev nD) (t : Fin cfg0.N) (b : Fin 256) :
    iblk m c 1 t (ix3 0 0 b) = V m c main_v9 (ix3 ⟨1 - t.val / 16, by omega⟩ 0 b) := by
  have ht : t.val < 24 := t.isLt
  blk_point [iblk, idx t]
theorem blk2 (c : Dev nD) (t : Fin cfg0.N) (r : Fin 512) (b : Fin 256) :
    iblk m c 2 t (ix2 r b) = V m c main_v16 (ix2 (rowAt t.val r) b) := by
  have ht : t.val < 24 := t.isLt
  have hr := rowAt_val t.val r
  blk_point [iblk, idx t]
theorem blk3 (c : Dev nD) (t : Fin cfg0.N) (r : Fin 512) (b : Fin 256) :
    iblk m c 3 t (ix2 r b) = V m c main_v19 (ix2 (rowAt t.val r) b) := by
  have ht : t.val < 24 := t.isLt
  have hr := rowAt_val t.val r
  blk_point [iblk, idx t]
theorem blk4 (c : Dev nD) (t : Fin cfg0.N) (r : Fin 512) (g : Fin 2) (l : Fin 128) :
    iblk m c 4 t (ix4 0 g r l) = m ((c : Thread nD τ).loc main_arg5) (ix4 ⟨t.val / 8, by have : t.val < 24 := t.isLt; omega⟩ g (rowAt t.val r) l) := by
  have ht : t.val < 24 := t.isLt
  have hr := rowAt_val t.val r
  blk_point [iblk, V, idx t]
theorem blk5 (c : Dev nD) (t : Fin cfg0.N) (b : Fin 256) :
    iblk m c 5 t (ix3 0 0 b) = m ((c : Thread nD τ).loc main_arg7) (ix3 ⟨t.val / 16, by have : t.val < 24 := t.isLt; omega⟩ 0 b) := by
  have ht : t.val < 24 := t.isLt
  blk_point [iblk, V, idx t]

end Cert.Sw

end
-- ==== Proof.SwArr.lean ====
module

public import proofs.«01_k».proof.Proof.SwEntry

/-! The dilated attention's preparation, backward: what the call's arrays hold, over finite arguments. -/

@[expose] public section

set_option maxRecDepth 100000

noncomputable section

namespace Cert.Sw

open Cert.SwBwdIdeal Cert.SwBwdIdeal.Gen Cert.Dense Idealize.ShloMosaic Idealize.ShloMosaic.TcCoe

variable (m : (ℓ : Loc nD τ sig) → Buf (Elt Ideal) ℓ)

/-- Column `b` of the keys (`p = 0`) or of the queries (`p = 1`) in the projection. -/
def pcol (p : Fin 2) (b : Fin 256) : Fin 5120 := ⟨2304 + (1 - p.val) * 256 + b.val, by omega⟩
/-- Where the cotangent of the keys or of the queries is. -/
def third (p : Fin 2) : Fin 3 := ⟨2 * p.val, by omega⟩
/-- The gradient of the norms' weights so far. -/
def dnwAt (c : Dev nD) (p : Fin 2) (b : Fin 256) : EReal := m ((c : Thread nD τ).loc main_arg7) (ix3 p 0 b)

theorem wide_half (x : Vec Ideal S1x2x512x128 .f32) (r : Fin 512) (b : Fin 256) : wide x r b = x (ix4 0 (halfOf b) r (inHalf b)) := by
  have hb := b.isLt
  unfold wide
  by_cases h : b.val < 128
  · rw [dif_pos h]
    refine congrArg x (congrArg₂ (fun g l => ix4 0 g r l) (Fin.ext ?_) (Fin.ext ?_))
    · show 0 = b.val / 128; omega
    · show b.val = b.val % 128; omega
  · rw [dif_neg h]
    refine congrArg x (congrArg₂ (fun g l => ix4 0 g r l) (Fin.ext ?_) (Fin.ext ?_))
    · show 1 = b.val / 128; omega
    · show b.val - 128 = b.val % 128; omega

/-- The arguments on core `c` are the given reals: those that the keys (0) and the queries (1) take. -/
structure Args (c : Dev nD) (X D : Fin 2 → Fin 4096 → Fin 256 → ℝ) (W : Fin 2 → Fin 64 → ℝ) (C S : Fin 4096 → Fin 8 → ℝ) : Prop where
  a0 : ∀ p r b, m ((c : Thread nD τ).loc main_arg0) (ix2 r (pcol p b)) = ((X p r b : ℝ) : EReal)
  a1 : ∀ k, m ((c : Thread nD τ).loc main_arg1) (ix1 k) = ((W 1 k : ℝ) : EReal)
  a2 : ∀ k, m ((c : Thread nD τ).loc main_arg2) (ix1 k) = ((W 0 k : ℝ) : EReal)
  a3 : ∀ r k, m ((c : Thread nD τ).loc main_arg3) (ix2 r k) = ((C r k : ℝ) : EReal)
  a4 : ∀ r k, m ((c : Thread nD τ).loc main_arg4) (ix2 r k) = ((S r k : ℝ) : EReal)
  a5 : ∀ p r b, m ((c : Thread nD τ).loc main_arg5) (ix4 (third p) (halfOf b) r (inHalf b)) = ((D p r b : ℝ) : EReal)

theorem cot_eq (D : Fin 4096 → Fin 256 → ℝ) (C S : Fin 4096 → Fin 8 → ℝ) (r : Fin 4096) :
    cotR (D r) (table (C r) 1) (table (S r) 0) = fun b => cotH D C S r (hd b) (ln b) :=
  funext fun b => turn_at (C r) (S r) (D r) b

theorem dcol_eq (X D : Fin 4096 → Fin 256 → ℝ) (W : Fin 64 → ℝ) (C S : Fin 4096 → Fin 8 → ℝ) (r : Fin 4096) (b : Fin 256) :
    dcol (cotR (D r) (table (C r) 1) (table (S r) 0)) (X r) (fun b => W (ln b)) b = gx X D W C S r b := by
  have e1 : head (fun b => cotH D C S r (hd b) (ln b)) (hd b) = cotH D C S r (hd b) := funext fun k => by
    show cotH D C S r (hd (lane _ _)) (ln (lane _ _)) = _
    rw [hd_lane, ln_lane]
  have e2 : head (fun b => W (ln b)) (hd b) = W := funext fun k => by
    show W (ln (lane _ _)) = _
    rw [ln_lane]
  rw [cot_eq]
  unfold dcol gx
  rw [e1, e2]

/-- What a block of rows adds to the gradient of the weight, row by row. -/
theorem dwb_eq (X D : Fin 4096 → Fin 256 → ℝ) (C S : Fin 4096 → Fin 8 → ℝ) (t : ℕ) (b : Fin 256) :
    dwb (fun r => X (rowAt t r)) (fun r => D (rowAt t r)) (fun r => table (C (rowAt t r)) 1) (fun r => table (S (rowAt t r)) 0) b
      = ∑ r, gwr X D C S b (rowAt t r) :=
  Finset.sum_congr rfl fun r _ => congrArg (· * _) (congrFun (cot_eq D C S (rowAt t r)) b)

section
variable {m} {c : Dev nD} {X D : Fin 2 → Fin 4096 → Fin 256 → ℝ} {W : Fin 2 → Fin 64 → ℝ} {C S : Fin 4096 → Fin 8 → ℝ} (h : Args m c X D W C S)
include h

theorem blk_at (t : Fin cfg0.N) (p : Fin 2) (hp : t.val / 8 = 2 * p.val) :
    Blk (fun r => X p (rowAt t.val r)) (fun r => D p (rowAt t.val r)) (fun r => table (C (rowAt t.val r)) 1) (fun r => table (S (rowAt t.val r)) 0)
      (fun b => W p (ln b)) (iblk m c 0 t) (iblk m c 1 t) (iblk m c 2 t) (iblk m c 3 t) (iblk m c 4 t) where
  h0 r b := (blk0 m c t r b).trans ((congrArg (fun j => m ((c : Thread nD τ).loc main_arg0) (ix2 (rowAt t.val r) j))
    (Fin.ext (by show 2304 + (t.val / 8 + 1) % 3 * 256 + b.val = 2304 + (1 - p.val) * 256 + b.val; omega))).trans (h.a0 p _ b))
  h1 b := by
    refine (blk1 m c t b).trans ?_
    fin_cases p
    · refine (congrArg (fun j => V m c main_v9 (ix3 j 0 b)) (Fin.ext (?_ : 1 - t.val / 16 = 1))).trans ((V_wk m c b).trans (h.a2 _))
      change t.val / 8 = 0 at hp
      omega
    · refine (congrArg (fun j => V m c main_v9 (ix3 j 0 b)) (Fin.ext (?_ : 1 - t.val / 16 = 0))).trans ((V_wq m c b).trans (h.a1 _))
      change t.val / 8 = 2 at hp
      omega
  h2 r b := (blk2 m c t r b).trans ((V_cos m c _ b).trans (tab_real (h.a3 _) rfl b))
  h3 r b := (blk3 m c t r b).trans ((V_sin m c _ b).trans (tab_real (h.a4 _) rfl b))
  h4 r b := (wide_half _ r b).trans ((blk4 m c t r _ _).trans ((congrArg (fun j => m ((c : Thread nD τ).loc main_arg5) (ix4 j (halfOf b) (rowAt t.val r) (inHalf b)))
    (Fin.ext hp)).trans (h.a5 p _ b)))

theorem outs6 (t : Fin cfg0.N) (p : Fin 2) (hp : t.val / 8 = 2 * p.val) (r : Fin 512) (b : Fin 256) :
    (outsAt0 m c t.val t.isLt).1 (ix2 r b) = ((gx (X p) (D p) (W p) C S (rowAt t.val r) b : ℝ) : EReal) := by
  have h0 : ¬t.val / 8 % 3 = 1 := by omega
  refine Eq.trans ?_ (congrArg _ (dcol_eq (X p) (D p) (W p) C S (rowAt t.val r) b))
  by_cases h1 : t.val % 16 = 0
  · rw [outsAt0_A m c t h0 h1 h0]
    dsimp only
    exact out_A_6 (hb := blk_at h t p hp) ..
  · rw [outsAt0_B m c t h0 h1 h0]
    dsimp only
    exact out_B_6 (hb := blk_at h t p hp) ..

theorem first7 (t : Fin cfg0.N) (p : Fin 2) (hp : t.val / 8 = 2 * p.val) (h1 : t.val % 16 = 0) (b : Fin 256) :
    (outsAt0 m c t.val t.isLt).2 (ix3 0 0 b) = dnwAt m c p b + ((∑ r, gwr (X p) (D p) C S b (rowAt t.val r) : ℝ) : EReal) := by
  have h0 : ¬t.val / 8 % 3 = 1 := by omega
  rw [outsAt0_A m c t h0 h1 h0]
  dsimp only
  refine (out_A_7 (hb := blk_at h t p hp) ..).trans (congrArg₂ (· + ·) ?_ (congrArg _ (dwb_eq (X p) (D p) C S t.val b)))
  refine (blk5 m c t b).trans (congrArg (fun j => m ((c : Thread nD τ).loc main_arg7) (ix3 j 0 b)) (Fin.ext ?_))
  show t.val / 16 = p.val
  omega

theorem next7 (t : Fin cfg0.N) (p : Fin 2) (hp : t.val / 8 = 2 * p.val) (h1 : ¬t.val % 16 = 0) (b : Fin 256) :
    (outsAt0 m c t.val t.isLt).2 (ix3 0 0 b)
      = (outsAt0 m c (t.val - 1) (Nat.lt_of_le_of_lt (Nat.sub_le _ _) t.isLt)).2 (ix3 0 0 b) + ((∑ r, gwr (X p) (D p) C S b (rowAt t.val r) : ℝ) : EReal) := by
  have h0 : ¬t.val / 8 % 3 = 1 := by omega
  rw [outsAt0_B m c t h0 h1 h0]
  dsimp only
  exact (out_B_7 (hb := blk_at h t p hp) ..).trans (congrArg (_ + ·) (congrArg _ (dwb_eq (X p) (D p) C S t.val b)))

theorem outs7 (p : Fin 2) (b : Fin 256) : ∀ (n : ℕ) (t : Fin cfg0.N), t.val = 16 * p.val + n → n < 8 → (outsAt0 m c t.val t.isLt).2 (ix3 0 0 b)
      = dnwAt m c p b + ((∑ s ∈ Finset.range (n + 1), ∑ r, gwr (X p) (D p) C S b (brow 512 s r) : ℝ) : EReal)
  | 0, t, ht, hn => by
    refine (first7 h t p (by omega) (by omega) b).trans ?_
    unfold rowAt
    rw [zero_add, Finset.sum_range_one, (by omega : t.val % 8 = 0)]
  | n + 1, t, ht, hn => by
    refine (next7 h t p (by omega) (by omega) b).trans ?_
    unfold rowAt
    rw [Finset.sum_range_succ, EReal.coe_add, ← add_assoc, (by omega : t.val % 8 = n + 1)]
    exact congrArg (· + _) (outs7 p b n ⟨t.val - 1, Nat.lt_of_le_of_lt (Nat.sub_le _ _) t.isLt⟩ (by show t.val - 1 = _; omega) (by omega))

/-- In the pass over the values the gradient of the keys' weight stays. -/
theorem stays7 (b : Fin 256) : ∀ (n : ℕ) (t : Fin cfg0.N), t.val = 8 + n → n < 8 → (outsAt0 m c t.val t.isLt).2 (ix3 0 0 b)
      = dnwAt m c 0 b + ((∑ s ∈ Finset.range 8, ∑ r, gwr (X 0) (D 0) C S b (brow 512 s r) : ℝ) : EReal)
  | 0, t, ht, hn => by
    rw [outsAt0_C m c t (by omega) (by omega) (by omega)]
    exact outs7 h 0 b 7 ⟨t.val - 1, Nat.lt_of_le_of_lt (Nat.sub_le _ _) t.isLt⟩ (by show t.val - 1 = 7; omega) (by decide)
  | n + 1, t, ht, hn => by
    rw [outsAt0_C m c t (by omega) (by omega) (by omega)]
    exact stays7 b n ⟨t.val - 1, Nat.lt_of_le_of_lt (Nat.sub_le _ _) t.isLt⟩ (by show t.val - 1 = _; omega) (by omega)

/-- The gradient of the norms' weights: the keys' first, then the queries'. -/
theorem arr7 : (dats m 0 c).arrAt 7 cfg0.N = fun i => dnwAt m c (i 0) (i 2) + ((∑ r, gwr (X (i 0)) (D (i 0)) C S (i 2) r : ℝ) : EReal) := by
  refine (dats m 0 c).arrAt_eq_of_covers 7 _ (by decide +kernel) fun t hf y => ?_
  have ht : t.val = 15 ∨ t.val = 23 := (by decide +kernel : ∀ t : Fin grid0.N, win0_7.flush t = true → t.val = 15 ∨ t.val = 23) t hf
  blk_simp [idx t]
  rw [after0_7]
  have hy0 : (y 0).val = 0 := Nat.lt_one_iff.mp (y 0).isLt
  have ey : y = ix3 0 0 (y 2) := (Idealize.ShloMosaic.ValueIdx.eq_ix3 y).trans
    (congrArg₂ (fun a b => ix3 a b (y 2)) (Fin.ext hy0) (Fin.ext (Nat.lt_one_iff.mp (y 1).isLt)))
  have e2 : (win0_7.blk t).view.emb y 2 = y 2 := Fin.ext (by refine (win0_7.rect_emb_val t y _).trans ?_; simp [idx t])
  have e0 : (win0_7.blk t).view.emb y 0 = (⟨t.val / 16, by omega⟩ : Fin 2) := Fin.ext (by refine (win0_7.rect_emb_val t y _).trans ?_; simp [idx t, hy0])
  rw [e0, e2, ← sum_blocks 512 8 rfl]
  refine (congrArg _ ey).trans ?_
  obtain h1 | h1 := ht
  · rw [show (⟨t.val / 16, by omega⟩ : Fin 2) = 0 from Fin.ext (by show t.val / 16 = 0; omega)]
    exact stays7 h (y 2) 7 t h1 (by decide)
  · rw [show (⟨t.val / 16, by omega⟩ : Fin 2) = 1 from Fin.ext (by show t.val / 16 = 1; omega)]
    exact outs7 h 1 (y 2) 7 t h1 (by decide)

theorem arr6_qk (t : Fin cfg0.N) (p : Fin 2) (hp : t.val / 8 = 2 * p.val) (r : Fin 512) (b : Fin 256) :
    (dats m 0 c).arrAt 6 cfg0.N (ix2 (rowAt t.val r) (pcol p b)) = ((gx (X p) (D p) (W p) C S (rowAt t.val r) b : ℝ) : EReal) := by
  have hf : (cfg0.win 6).flush t = true := (by decide +kernel : ∀ t : Fin grid0.N, win0_6.flush t = true) t
  have ht : t.val < 24 := t.isLt
  have hb := congrFun (blocks6 m c t hf) (ix2 r b)
  rw [flushed6] at hb
  blk_simp [idx t] at hb
  have e : (win0_6.blk t).view.emb (ix2 r b) = ix2 (rowAt t.val r) (pcol p b) := by
    refine funext fun a => Fin.ext ((win0_6.rect_emb_val t _ a).trans ?_)
    have hr := rowAt_val t.val r
    fin_cases a
    · simp [idx t, hr]
    · simp [idx t, pcol]; omega
  rw [e] at hb
  exact hb.trans (outs6 h t p hp r b)

end

/-- The values' columns are the cotangent's. -/
theorem arr6_v (c : Dev nD) (t : Fin cfg0.N) (hp : t.val / 8 = 1) (r : Fin 512) (b : Fin 256) :
    (dats m 0 c).arrAt 6 cfg0.N (ix2 (rowAt t.val r) ⟨2816 + b.val, by omega⟩) = m ((c : Thread nD τ).loc main_arg5) (ix4 1 (halfOf b) (rowAt t.val r) (inHalf b)) := by
  have hf : (cfg0.win 6).flush t = true := (by decide +kernel : ∀ t : Fin grid0.N, win0_6.flush t = true) t
  have ht : t.val < 24 := t.isLt
  have hb := congrFun (blocks6 m c t hf) (ix2 r b)
  rw [flushed6] at hb
  blk_simp [idx t] at hb
  have e : (win0_6.blk t).view.emb (ix2 r b) = ix2 (rowAt t.val r) ⟨2816 + b.val, by omega⟩ := by
    refine funext fun a => Fin.ext ((win0_6.rect_emb_val t _ a).trans ?_)
    have hr := rowAt_val t.val r
    fin_cases a
    · simp [idx t, hr]
    · simp [idx t, hp]
  rw [e] at hb
  refine hb.trans ?_
  rw [outsAt0_C m c t (by omega) (by omega) (by omega)]
  dsimp only
  refine (out_C_6 ..).trans ((wide_half _ r b).trans ((blk4 m c t r _ _).trans ?_))
  exact congrArg (fun j => m ((c : Thread nD τ).loc main_arg5) (ix4 j (halfOf b) (rowAt t.val r) (inHalf b))) (Fin.ext hp)

theorem arr6_out (c : Dev nD) (r : Fin 4096) (k : Fin 5120) (hk : k.val < 2304 ∨ 3072 ≤ k.val) :
    (dats m 0 c).arrAt 6 cfg0.N (ix2 r k) = m ((c : Thread nD τ).loc main_arg6) (ix2 r k) := by
  refine (entry6 m c (ix2 r k) fun t _ hmem => ?_).trans (V_alias m c r k)
  mem_blk [idx t] at hmem
  have h1 : (9 + (t.val / 8 + 1) % 3) * 256 ≤ k.val := hmem.2.1
  have h2 : k.val < (9 + (t.val / 8 + 1) % 3) * 256 + 256 := hmem.2.2
  omega

/-! The same at a row of the array: the pass's block that holds it. -/

/-- The point of a pass that holds a row. -/
def pointOf (n : ℕ) (hn : n < 3) (r : Fin 4096) : Fin cfg0.N := ⟨8 * n + r.val / 512, by show _ < 24; omega⟩

theorem pointOf_row (n : ℕ) (hn : n < 3) (r : Fin 4096) : rowAt (pointOf n hn r).val ⟨r.val % 512, Nat.mod_lt _ (by norm_num)⟩ = r :=
  Fin.ext ((rowAt_val _ _).trans (by show (8 * n + r.val / 512) % 8 * 512 + r.val % 512 = r.val; omega))

theorem row_qk {m} {c : Dev nD} {X D W C S} (h : Args m c X D W C S) (p : Fin 2) (r : Fin 4096) (b : Fin 256) :
    (dats m 0 c).arrAt 6 cfg0.N (ix2 r (pcol p b)) = ((gx (X p) (D p) (W p) C S r b : ℝ) : EReal) := by
  have e := arr6_qk h (pointOf (2 * p.val) (by omega) r) p (by show (8 * (2 * p.val) + r.val / 512) / 8 = 2 * p.val; omega)
    ⟨r.val % 512, Nat.mod_lt _ (by norm_num)⟩ b
  rwa [pointOf_row] at e

theorem row_v (c : Dev nD) (r : Fin 4096) (b : Fin 256) :
    (dats m 0 c).arrAt 6 cfg0.N (ix2 r ⟨2816 + b.val, by omega⟩) = m ((c : Thread nD τ).loc main_arg5) (ix4 1 (halfOf b) r (inHalf b)) := by
  have e := arr6_v m c (pointOf 1 (by norm_num) r) (by show (8 * 1 + r.val / 512) / 8 = 1; omega) ⟨r.val % 512, Nat.mod_lt _ (by norm_num)⟩ b
  rwa [pointOf_row] at e

end Cert.Sw

end
-- ==== Proof.SwRef.lean ====
module

public import proofs.«01_k».proof.Proof.Gen.SwBwdReferenceIdeal.Read
public import proofs.«01_k».proof.Proof.SwSpec
public import Idealize.ShloMosaic.Lib.Pipeline.ValueKit.Point
public import Idealize.ShloMosaic.Lib.IdealHost

/-! The dilated attention's preparation, backward: what the reference's arrays hold, at real arguments. -/

@[expose] public section

set_option maxRecDepth 100000

noncomputable section

namespace Cert.SwBwdReferenceIdeal.Sr

open Cert.SwBwdReferenceIdeal Cert.SwBwdReferenceIdeal.Read Cert.Sw Idealize.ShloMosaic Idealize.ShloMosaic.TcCoe

/-- The arguments that a group takes are the given reals: for the queries' lines, columns 2304 to 2559 and the last third of the cotangent. -/
structure Real (X D : Fin 4096 → Fin 256 → ℝ) (W : Fin 64 → ℝ) (C S : Fin 4096 → Fin 8 → ℝ)
    (x0 : Vec Ideal S4096x5120 .f32) (x1 : Vec Ideal S64 .f32) (x3 x4 : Vec Ideal S4096x8 .f32) (x5 : Vec Ideal S3x2x4096x128 .f32) : Prop where
  a0 : ∀ r (b : Fin 256), x0 (ix2 r ⟨2304 + b.val, by omega⟩) = ((X r b : ℝ) : EReal)
  a1 : ∀ k, x1 (ix1 k) = ((W k : ℝ) : EReal)
  a3 : ∀ r k, x3 (ix2 r k) = ((C r k : ℝ) : EReal)
  a4 : ∀ r k, x4 (ix2 r k) = ((S r k : ℝ) : EReal)
  a5 : ∀ r b, x5 (ix4 2 (halfOf b) r (inHalf b)) = ((D r b : ℝ) : EReal)

section
variable {X D : Fin 4096 → Fin 256 → ℝ} {W : Fin 64 → ℝ} {C S : Fin 4096 → Fin 8 → ℝ}
  {x0 : Vec Ideal S4096x5120 .f32} {x1 : Vec Ideal S64 .f32} {x3 x4 : Vec Ideal S4096x8 .f32} {x5 : Vec Ideal S3x2x4096x128 .f32}
  (h : Real X D W C S x0 x1 x3 x4 x5)
include h

theorem v12_real (r : Fin 4096) (q : Fin 4) (k : Fin 64) : val_main_v12 (F := Ideal) x0 (ix3 r q k) = ((head (X r) q k : ℝ) : EReal) := by
  pointwise [val_main_v12, val_main_v8]
  refine Eq.trans (congrArg (fun j => x0 (ix2 r j)) (Fin.ext ?_)) (h.a0 r (lane q k))
  simp [lane]
  omega

theorem v13_real (q : Fin 4) (k : Fin 64) : val_main_v13 (F := Ideal) x1 (ix2 q k) = ((W k : ℝ) : EReal) := by
  pointwise [val_main_v13, val_main_v11, val_main_v10, val_main_v9]
  refine Eq.trans (congrArg (fun j => x1 (ix1 j)) (Fin.ext ?_)) (h.a1 k)
  simp

theorem v7_real (r : Fin 4096) (q : Fin 4) (k : Fin 64) : val_main_v7 (F := Ideal) x5 (ix3 r q k) = ((head (D r) q k : ℝ) : EReal) := by
  pointwise [val_main_v7, val_main_v6, val_main_v1, val_main_v0]
  refine Eq.trans ?_ (h.a5 r (lane q k))
  congr 1
  refine congrArg₂ (fun a b => ix4 2 a r b) (Fin.ext ?_) (Fin.ext ?_)
  · show q.val / 2 = (64 * q.val + k.val) / 128
    omega
  · show q.val % 2 * 64 + k.val = (64 * q.val + k.val) % 128
    omega

theorem v64_real (r : Fin 4096) (q : Fin 4) (k : Fin 64) : val_main_v64 (F := Ideal) x3 x4 x5 (ix3 r q k) = ((cotH D C S r q k : ℝ) : EReal) := by
  pointwise [val_main_v64, val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46, val_main_v34, val_main_v33,
    val_main_cst_3, val_main_cst_4, val_main_cst_5]
  simp only [v7_real h, h.a3, h.a4, ← EReal.coe_neg, ← EReal.coe_mul, ← EReal.coe_add]
  unfold cotH turn
  by_cases c : k.val < 8
  · have c1 : ¬(16 ≤ k.val ∧ k.val - 16 < 48) := by omega
    have c2 : ¬(8 ≤ k.val ∧ k.val - 8 < 8) := by omega
    simp only [c, c1, c2, dite_true, dite_false]
    rw [zero_add, zero_add, add_comm (head (D r) q k * _)]
    exact congrArg (fun j => ((head (D r) q j * _ + _ : ℝ) : EReal)) (Fin.ext (Nat.add_comm 8 k.val))
  by_cases c' : k.val < 16
  · have c1 : ¬(16 ≤ k.val ∧ k.val - 16 < 48) := by omega
    have c2 : (8 ≤ k.val ∧ k.val - 8 < 8) := by omega
    simp only [c, c', c1, c2, dite_true, dite_false]
    simp only [and_self, dite_true, zero_add, add_zero]
    rw [sub_eq_add_neg, ← neg_mul]
    exact congrArg (fun j => ((head (D r) q j * _ + _ : ℝ) : EReal)) (Fin.ext (by show 8 + (k.val - 8) = k.val; omega))
  · have c1 : (16 ≤ k.val ∧ k.val - 16 < 48) := by omega
    have c2 : ¬(8 ≤ k.val ∧ k.val - 8 < 8) := by omega
    simp only [c, c', c1, c2, dite_true, dite_false]
    simp only [and_self, dite_true, add_zero]
    exact congrArg (fun j => ((head (D r) q j : ℝ) : EReal)) (Fin.ext (by show 16 + (k.val - 16) = k.val; omega))

theorem v20_real (r : Fin 4096) (q : Fin 4) : val_main_v20 (F := Ideal) x0 (ix3 r q 0) = ((ms (head (X r) q) : ℝ) : EReal) := by
  pointwise [val_main_v20, val_main_v19, val_main_v18, val_main_v17, val_main_v16, val_main_v15, val_main_v14, val_main_cst, val_main_cst_0, val_main_cst_1]
  simp only [v12_real h, ← EReal.coe_mul, Cert.Gm.coe_sum, div_64, Cert.Gm.ofBits_eps, ← EReal.coe_add]
  rfl
theorem v21_real (r : Fin 4096) (q : Fin 4) : val_main_v21 (F := Ideal) x0 (ix3 r q 0) = ((rs (head (X r) q) : ℝ) : EReal) := by
  pointwise [val_main_v21]
  rw [v20_real h]
  exact rsqrt_ms _
theorem v24_real (r : Fin 4096) (q : Fin 4) : val_main_v24 (F := Ideal) x0 (ix3 r q 0)
    = ((-(1 / 2) * (rs (head (X r) q) * (1 / ms (head (X r) q))) : ℝ) : EReal) := by
  pointwise [val_main_v24, val_main_v23, val_main_v22, val_main_cst_2]
  rw [v20_real h, v21_real h, ofBits_neg_half, Ideal.div_coe (ms_pos _).ne', ← EReal.coe_mul, ← EReal.coe_mul]
theorem v26_real (r : Fin 4096) (q : Fin 4) (k : Fin 64) : val_main_v26 (F := Ideal) x0 (ix3 r q k) = ((xn (head (X r) q) k : ℝ) : EReal) := by
  pointwise [val_main_v26, val_main_v25]
  rw [v12_real h, v21_real h, ← EReal.coe_mul]
  rfl
theorem v69_real (r : Fin 4096) (q : Fin 4) (k : Fin 64) : val_main_v69 (F := Ideal) x1 x3 x4 x5 (ix3 r q k) = ((cotH D C S r q k * W k : ℝ) : EReal) := by
  pointwise [val_main_v69, val_main_v68, val_main_v27]
  rw [v64_real h, v13_real h, ← EReal.coe_mul]

theorem v85_real (b : Fin 256) : val_main_v85 (F := Ideal) x0 x3 x4 x5 (ix1 b) = ((∑ r, gwr X D C S b r : ℝ) : EReal) := by
  pointwise [val_main_v85, val_main_v70, val_main_v67, val_main_v66, val_main_v65, val_main_cst_6, val_main_cst_7]
  simp only [Finset.univ_unique, Finset.sum_singleton]
  refine Eq.trans (Finset.sum_congr rfl fun r _ => ?_) (Cert.Gm.coe_sum fun r => gwr X D C S b r)
  refine Eq.trans (congrArg₂ (· * ·) (v26_real h r (hd b) (ln b)) (v64_real h r (hd b) (ln b))) ?_
  rw [← EReal.coe_mul, mul_comm]
  rfl

theorem v79_real (r : Fin 4096) (q : Fin 4) : val_main_v79 (F := Ideal) x0 x1 x3 x4 x5 (ix2 r q)
    = (((∑ j, head (X r) q j * (cotH D C S r q j * W j)) * (-(1 / 2) * (rs (head (X r) q) * (1 / ms (head (X r) q)))) * (1 / 64) : ℝ) : EReal) := by
  pointwise [val_main_v79, val_main_v78, val_main_v77, val_main_v76, val_main_v73, val_main_v72, val_main_v71, val_main_cst_8, val_main_cst_9, val_main_cst_10]
  simp only [v12_real h, v69_real h, ← EReal.coe_mul, Cert.Gm.coe_sum]
  rw [Finset.univ_unique, Finset.sum_singleton]
  refine Eq.trans (congrArg (fun z => Ideal.div (_ * z) _) (v24_real h r q)) ?_
  rw [← EReal.coe_mul, div_64]

theorem v86_real (r : Fin 4096) (b : Fin 256) : val_main_v86 (F := Ideal) x0 x1 x3 x4 x5 (ix2 r b) = ((gx X D W C S r b : ℝ) : EReal) := by
  pointwise [val_main_v86, val_main_v84, val_main_v83, val_main_v82, val_main_v81, val_main_v80, val_main_v75, val_main_v74]
  have e := congrArg Real.toEReal (dx_terms (cotH D C S r (hd b)) (head (X r) (hd b)) W (ln b) _ rfl)
  rw [EReal.coe_add, EReal.coe_add, EReal.coe_mul (_ * _), EReal.coe_mul (head _ _ _), EReal.coe_mul _ (head _ _ _),
    ← v69_real h, ← v21_real h, ← v12_real h, ← v79_real h] at e
  exact e

end

/-! The keys' lines are the queries' at the projection's columns and the cotangent's thirds moved along. -/

/-- The projection with the keys' columns where the queries' were. -/
def keyCols (x0 : Vec Ideal S4096x5120 .f32) : Vec Ideal S4096x5120 .f32 := fun i => x0 (ix2 (i 0) ⟨((i 1).val + 256) % 5120, Nat.mod_lt _ (by norm_num)⟩)
/-- The cotangent with the first third where the last was. -/
def firstThird (x5 : Vec Ideal S3x2x4096x128 .f32) : Vec Ideal S3x2x4096x128 .f32 :=
  fun i => x5 (ix4 ⟨((i 0).val + 1) % 3, Nat.mod_lt _ (by norm_num)⟩ (i 1) (i 2) (i 3))

theorem v91_eq (x0 : Vec Ideal S4096x5120 .f32) : val_main_v91 (F := Ideal) x0 = val_main_v12 (F := Ideal) (keyCols x0) := by
  funext i
  obtain ⟨r, q, k, rfl⟩ : ∃ (r : Fin 4096) (q : Fin 4) (k : Fin 64), i = ix3 r q k := ⟨i 0, i 1, i 2, by funext d; fin_cases d <;> rfl⟩
  pointwise [val_main_v91, val_main_v87, val_main_v12, val_main_v8]
  exact congrArg (fun j => x0 (ix2 r j)) (Fin.ext (by show 2560 + (q.val * 64 + k.val) = (2304 + (q.val * 64 + k.val) + 256) % 5120; omega))
theorem v3_eq (x5 : Vec Ideal S3x2x4096x128 .f32) : val_main_v3 (F := Ideal) x5 = val_main_v7 (F := Ideal) (firstThird x5) := by
  funext i
  obtain ⟨r, q, k, rfl⟩ : ∃ (r : Fin 4096) (q : Fin 4) (k : Fin 64), i = ix3 r q k := ⟨i 0, i 1, i 2, by funext d; fin_cases d <;> rfl⟩
  pointwise [val_main_v3, val_main_v2, val_main_v7, val_main_v6, val_main_v1, val_main_v0]
  exact congrArg (fun j => x5 (ix4 j ⟨q.val / 2, by omega⟩ r ⟨q.val % 2 * 64 + k.val, by omega⟩)) (Fin.ext rfl : (0 : Fin 3) = ⟨((2 : Fin 3).val + 1) % 3, _⟩)

theorem v163_eq (x0 : Vec Ideal S4096x5120 .f32) (x2 : Vec Ideal S64 .f32) (x3 x4 : Vec Ideal S4096x8 .f32) (x5 : Vec Ideal S3x2x4096x128 .f32) :
    val_main_v163 (F := Ideal) x0 x2 x3 x4 x5 = val_main_v84 (F := Ideal) (keyCols x0) x2 x3 x4 (firstThird x5) := by
  simp only [val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_cst_11, val_main_cst_12, val_main_cst_13, val_main_cst_14, val_main_cst_15, val_main_cst_16, val_main_cst_17, val_main_cst_18, val_main_cst_19, val_main_cst_20, val_main_cst_21, val_main_cst_22]
  rw [v91_eq, v3_eq]
  rfl
theorem v164_eq (x0 : Vec Ideal S4096x5120 .f32) (x3 x4 : Vec Ideal S4096x8 .f32) (x5 : Vec Ideal S3x2x4096x128 .f32) :
    val_main_v164 (F := Ideal) x0 x3 x4 x5 = val_main_v85 (F := Ideal) (keyCols x0) x3 x4 (firstThird x5) := by
  simp only [val_main_v164, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_cst_11, val_main_cst_12, val_main_cst_13, val_main_cst_14, val_main_cst_15, val_main_cst_16, val_main_cst_17, val_main_cst_18, val_main_cst_19, val_main_cst_20, val_main_cst_21, val_main_cst_22]
  rw [v91_eq, v3_eq]
  rfl

theorem v165_eq (x0 : Vec Ideal S4096x5120 .f32) (x2 : Vec Ideal S64 .f32) (x3 x4 : Vec Ideal S4096x8 .f32) (x5 : Vec Ideal S3x2x4096x128 .f32) :
    val_main_v165 (F := Ideal) x0 x2 x3 x4 x5 = val_main_v86 (F := Ideal) (keyCols x0) x2 x3 x4 (firstThird x5) := by
  simp only [val_main_v165, v163_eq]
  rfl

section
variable (x0 : Vec Ideal S4096x5120 .f32) (x1 x2 : Vec Ideal S64 .f32) (x3 x4 : Vec Ideal S4096x8 .f32) (x5 : Vec Ideal S3x2x4096x128 .f32)
  (x6 : Vec Ideal S4096x5120 .bf16) (x7 : Vec Ideal S2x1x256 .f32)

/-- The projection's gradient, column by column. -/
theorem v171_at (r : Fin 4096) (k : Fin 5120) : val_main_v171 (F := Ideal) x0 x1 x2 x3 x4 x5 x6 (ix2 r k)
    = (if h : k.val < 2304 then x6 (ix2 r k)
      else if h : k.val - 2304 < 768 then
        if h' : k.val - 2304 < 256 then val_main_v86 (F := Ideal) x0 x1 x3 x4 x5 (ix2 r ⟨k.val - 2304, h'⟩)
        else if h'' : k.val - 2304 - 256 < 256 then val_main_v165 (F := Ideal) x0 x2 x3 x4 x5 (ix2 r ⟨k.val - 2304 - 256, h''⟩)
        else x5 (ix4 1 (halfOf ⟨k.val - 2304 - 256 - 256, by omega⟩) r (inHalf ⟨k.val - 2304 - 256 - 256, by omega⟩))
      else x6 (ix2 r ⟨3072 + (k.val - 2304 - 768), by omega⟩) : EReal) := by
  pointwise [val_main_v171, val_main_v170, val_main_v169, val_main_v168, val_main_v167, val_main_v166, val_main_v5, val_main_v4, val_main_v1, val_main_v0]
  have e : ∀ a : Fin 256, (ix4 (n0 := 3) 1 ⟨a.val / 64 / 2, by omega⟩ r ⟨a.val / 64 % 2 * 64 + a.val % 64, by omega⟩) = ix4 1 (halfOf a) r (inHalf a) := by
    intro a
    refine congrArg₂ (fun a b => ix4 1 a r b) (Fin.ext ?_) (Fin.ext ?_)
    · show a.val / 64 / 2 = a.val / 128
      omega
    · show a.val / 64 % 2 * 64 + a.val % 64 = a.val % 128
      omega
  split_ifs <;> first
    | rfl
    | (exfalso; omega)
    | exact congrArg x5 (e ⟨k.val - 2304 - 256 - 256, by omega⟩)

/-- The norms' weights' gradient: the keys' first, then the queries'. -/
theorem v176_at (p : Fin 2) (z : Fin 1) (b : Fin 256) : val_main_v176 (F := Ideal) x0 x3 x4 x5 x7 (ix3 p z b)
    = x7 (ix3 p z b) + (if p.val < 1 then val_main_v164 (F := Ideal) x0 x3 x4 x5 (ix1 b) else val_main_v85 (F := Ideal) x0 x3 x4 x5 (ix1 b) : EReal) := by
  pointwise [val_main_v176, val_main_v175, val_main_v174, val_main_v173, val_main_v172]
  split <;> rfl

theorem v171_out (r : Fin 4096) (k : Fin 5120) (hk : k.val < 2304 ∨ 3072 ≤ k.val) : val_main_v171 (F := Ideal) x0 x1 x2 x3 x4 x5 x6 (ix2 r k) = x6 (ix2 r k) := by
  rw [v171_at]
  split_ifs
  · rfl
  · omega
  · omega
  · omega
  · exact congrArg (fun j => x6 (ix2 r j)) (Fin.ext (by show 3072 + (k.val - 2304 - 768) = k.val; omega))
theorem v171_v (r : Fin 4096) (b : Fin 256) : val_main_v171 (F := Ideal) x0 x1 x2 x3 x4 x5 x6 (ix2 r ⟨2816 + b.val, by omega⟩)
    = x5 (ix4 1 (halfOf b) r (inHalf b)) := by
  rw [v171_at]
  split_ifs <;> try (exfalso; dsimp only at *; omega)
  exact congrArg (fun b => x5 (ix4 1 (halfOf b) r (inHalf b))) (Fin.ext (by show 2816 + b.val - 2304 - 256 - 256 = b.val; omega))
end

section
variable {X D : Fin 4096 → Fin 256 → ℝ} {W : Fin 64 → ℝ} {C S : Fin 4096 → Fin 8 → ℝ}
  {x0 : Vec Ideal S4096x5120 .f32} {x1 x2 : Vec Ideal S64 .f32} {x3 x4 : Vec Ideal S4096x8 .f32} {x5 : Vec Ideal S3x2x4096x128 .f32}
  {x6 : Vec Ideal S4096x5120 .bf16} {x7 : Vec Ideal S2x1x256 .f32}

theorem v171_q (h : Real X D W C S x0 x1 x3 x4 x5) (r : Fin 4096) (b : Fin 256) :
    val_main_v171 (F := Ideal) x0 x1 x2 x3 x4 x5 x6 (ix2 r ⟨2304 + b.val, by omega⟩) = ((gx X D W C S r b : ℝ) : EReal) := by
  rw [v171_at, ← v86_real h]
  split_ifs <;> try (exfalso; dsimp only at *; omega)
  exact congrArg (fun b => val_main_v86 (F := Ideal) x0 x1 x3 x4 x5 (ix2 r b)) (Fin.ext (by show 2304 + b.val - 2304 = b.val; omega))
theorem v171_k (h : Real X D W C S (keyCols x0) x2 x3 x4 (firstThird x5)) (r : Fin 4096) (b : Fin 256) :
    val_main_v171 (F := Ideal) x0 x1 x2 x3 x4 x5 x6 (ix2 r ⟨2560 + b.val, by omega⟩) = ((gx X D W C S r b : ℝ) : EReal) := by
  rw [v171_at, ← v86_real h, ← v165_eq]
  split_ifs <;> try (exfalso; dsimp only at *; omega)
  exact congrArg (fun b => val_main_v165 (F := Ideal) x0 x2 x3 x4 x5 (ix2 r b)) (Fin.ext (by show 2560 + b.val - 2304 - 256 = b.val; omega))
theorem v176_q (h : Real X D W C S x0 x1 x3 x4 x5) (z : Fin 1) (b : Fin 256) :
    val_main_v176 (F := Ideal) x0 x3 x4 x5 x7 (ix3 1 z b) = (x7 (ix3 1 z b) + ((∑ r, gwr X D C S b r : ℝ) : EReal) : EReal) := by
  rw [v176_at, ← v85_real h]
  rfl
theorem v176_k (h : Real X D W C S (keyCols x0) x2 x3 x4 (firstThird x5)) (z : Fin 1) (b : Fin 256) :
    val_main_v176 (F := Ideal) x0 x3 x4 x5 x7 (ix3 0 z b) = (x7 (ix3 0 z b) + ((∑ r, gwr X D C S b r : ℝ) : EReal) : EReal) := by
  rw [v176_at, ← v85_real h, ← v164_eq]
  rfl
end

end Cert.SwBwdReferenceIdeal.Sr

end
-- ==== Proof.SwClaims.lean ====
module

public import proofs.«01_k».proof.Defs
public import proofs.«01_k».proof.Proof.Gen.SwBwd.Frame
public import proofs.«01_k».proof.Proof.SwArr
public import proofs.«01_k».proof.Proof.SwRef
public import proofs.«01_k».proof.Proof.GmPre

/-! The claims of the dilated attention's preparation, backward. -/

@[expose] public section

open Idealize.ShloMosaic

noncomputable section

namespace Cert.Proof

instance finite_sw_facts : Cert.Pre_finite_sw.Facts where
  slices_S4096x5120_S4096x512_0_2304 := by decide
  slices_S3x2x4096x128_S1x2x4096x128_0_0_0_0 := by decide
  shapeCasts_S1x2x4096x128_S2x4096x128 := by decide
  slices_S3x2x4096x128_S1x2x4096x128_2_0_0_0 := by decide
  bcast_S_S4096x512 := by decide
  bcast_S_S64 := by decide
  bcast_S_S4096x8 := by decide
  bcast_S_S2x4096x128 := by decide

open Cert.SwBwdIdeal Cert.Sw in
/-- The arguments under the precondition are reals. -/
theorem sw_args (m : (ℓ : Loc nD τ sig) → Buf (Elt Ideal) ℓ) (hpre : Cert.Pre_SwBwdIdeal_finite_sw m) (c : Dev nD) : ∃ X D W C S, Args m c X D W C S := by
  have top (i) : constant (F := Ideal) Cert.Pre_finite_sw.S_ .f32 0x7F800000#32 i = ⊤ := Cert.Gm.ofBits_inf
  obtain ⟨h0, h1, h2, h3, h4, h5, h6⟩ := hpre c
  refine ⟨fun p r b => (m ((c.tc : Thread nD τ).loc main_arg0) (ix2 r (pcol p b)) : EReal).toReal,
    fun p r b => (m ((c.tc : Thread nD τ).loc main_arg5) (ix4 (third p) (halfOf b) r (inHalf b)) : EReal).toReal,
    fun p k => if p.val = 1 then (m ((c.tc : Thread nD τ).loc main_arg1) (ix1 k) : EReal).toReal else (m ((c.tc : Thread nD τ).loc main_arg2) (ix1 k) : EReal).toReal,
    fun r k => (m ((c.tc : Thread nD τ).loc main_arg3) (ix2 r k) : EReal).toReal,
    fun r k => (m ((c.tc : Thread nD τ).loc main_arg4) (ix2 r k) : EReal).toReal,
    fun p r b => ?_, fun k => Cert.Gm.real_of_lt _ _ (fun i => top _) h1 (ix1 k), fun k => Cert.Gm.real_of_lt _ _ (fun i => top _) h2 (ix1 k),
    fun r k => Cert.Gm.real_of_lt _ _ (fun i => top _) h3 (ix2 r k), fun r k => Cert.Gm.real_of_lt _ _ (fun i => top _) h4 (ix2 r k), fun p r b => ?_⟩
  · have e := Cert.Gm.real_of_lt _ _ (fun i => top _) h0 (ix2 r ⟨(1 - p.val) * 256 + b.val, by omega⟩)
    pointwise [] at e
    have ek : (⟨2304 + ((1 - p.val) * 256 + b.val), by omega⟩ : Fin 5120) = pcol p b := Fin.ext (Nat.add_assoc ..).symm
    rwa [ek] at e
  · have e5 := Cert.Gm.real_of_lt _ _ (fun i => top _) h5 (ix3 (halfOf b) r (inHalf b))
    have e6 := Cert.Gm.real_of_lt _ _ (fun i => top _) h6 (ix3 (halfOf b) r (inHalf b))
    pointwise [] at e5
    pointwise [] at e6
    obtain rfl | rfl : p = 0 ∨ p = 1 := by omega
    · exact e5
    · exact e6

section
open Cert.SwBwdIdeal Cert.Sw
variable {m : (ℓ : Loc nD τ sig) → Buf (Elt Ideal) ℓ} {c : Dev nD} {X D W C S} (A : Args m c X D W C S)
include A

/-- The queries' lines take the reals of the second group. -/
theorem sw_queries : Cert.SwBwdReferenceIdeal.Sr.Real (X 1) (D 1) (W 1) C S (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5)) where
  a0 r b := (congrArg (fun j => m ((c.tc : Thread nD τ).loc main_arg0) (ix2 r j)) (Fin.ext (by show 2304 + b.val = 2304 + (1 - 1) * 256 + b.val; omega))).trans (A.a0 1 r b)
  a1 := A.a1
  a3 := A.a3
  a4 := A.a4
  a5 := A.a5 1

/-- The keys' lines take the reals of the first group. -/
theorem sw_keys : Cert.SwBwdReferenceIdeal.Sr.Real (X 0) (D 0) (W 0) C S (Cert.SwBwdReferenceIdeal.Sr.keyCols (m ((c.tc : Thread nD τ).loc main_arg0)))
    (m ((c.tc : Thread nD τ).loc main_arg2)) (m ((c.tc : Thread nD τ).loc main_arg3)) (m ((c.tc : Thread nD τ).loc main_arg4))
    (Cert.SwBwdReferenceIdeal.Sr.firstThird (m ((c.tc : Thread nD τ).loc main_arg5))) where
  a0 r b := (congrArg (fun j => m ((c.tc : Thread nD τ).loc main_arg0) (ix2 r j))
    (Fin.ext (by show (2304 + b.val + 256) % 5120 = 2304 + (1 - 0) * 256 + b.val; omega))).trans (A.a0 0 r b)
  a1 := A.a2
  a3 := A.a3
  a4 := A.a4
  a5 r b := (congrArg (fun j => m ((c.tc : Thread nD τ).loc main_arg5) (ix4 j (halfOf b) r (inHalf b)))
    (Fin.ext rfl : (⟨((2 : Fin 3).val + 1) % 3, Nat.mod_lt _ (by norm_num)⟩ : Fin 3) = third 0)).trans (A.a5 0 r b)

end

/-- A column is the queries', the keys' or the values', or none of these. -/
theorem sw_column (k : Fin 5120) : (k.val < 2304 ∨ 3072 ≤ k.val) ∨ (∃ b : Fin 256, k = ⟨2304 + b.val, by omega⟩)
    ∨ (∃ b : Fin 256, k = ⟨2560 + b.val, by omega⟩) ∨ ∃ b : Fin 256, k = ⟨2816 + b.val, by omega⟩ := by
  obtain h | h | h | h : (k.val < 2304 ∨ 3072 ≤ k.val) ∨ (2304 ≤ k.val ∧ k.val < 2560) ∨ (2560 ≤ k.val ∧ k.val < 2816) ∨ 2816 ≤ k.val ∧ k.val < 3072 := by omega
  · exact .inl h
  · exact .inr (.inl ⟨⟨k.val - 2304, by omega⟩, Fin.ext (by show k.val = 2304 + (k.val - 2304); omega)⟩)
  · exact .inr (.inr (.inl ⟨⟨k.val - 2560, by omega⟩, Fin.ext (by show k.val = 2560 + (k.val - 2560); omega)⟩))
  · exact .inr (.inr (.inr ⟨⟨k.val - 2816, by omega⟩, Fin.ext (by show k.val = 2816 + (k.val - 2816); omega)⟩))

open Cert.SwBwdIdeal Cert.Sw in
theorem swBwd_algebraic : Cert.algebraic_SwBwdIdeal_SwBwdReferenceIdeal_pre_finite_sw := by
  intro m g m' g' hpre hargs
  refine ⟨_, _, Cert.Sw.run_blocks m g, (θ_run Cert.SwBwdReferenceIdeal.defs _ _).mono (fun r h c => ?_) (Cert.SwBwdReferenceIdeal.Value.run m' g')⟩
  obtain ⟨X, D, W, C, S, A⟩ := sw_args m hpre c
  obtain ⟨e0, e1, e2, e3, e4, e5, e6, e7⟩ := hargs c
  obtain ⟨h0, h1, hrest⟩ := h c
  have hq := sw_queries A
  have hk := sw_keys A
  have r1 := h1.trans (Cert.SwBwdReferenceIdeal.Read.val_main_v176_eq _)
  have r0 := h0.trans (Cert.SwBwdReferenceIdeal.Read.val_main_v171_eq _)
  refine ⟨r0.trans ?_, r1.trans ?_, hrest⟩ <;> clear r0 r1 h0 h1 hrest
  · refine Eq.trans (b := Cert.SwBwdReferenceIdeal.Read.val_main_v171 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))) ?_ (funext fun i => ?_)
    · rw [← e0, ← e1, ← e2, ← e3, ← e4, ← e5, ← e6]
    rw [Idealize.ShloMosaic.ValueIdx.eq_ix2 i]
    obtain ⟨r, hr⟩ : ∃ r : Fin 4096, r = i 0 := ⟨_, rfl⟩
    obtain ⟨k, hc⟩ : ∃ k : Fin 5120, k = i 1 := ⟨_, rfl⟩
    rw [← hr, ← hc]
    clear hr hc
    obtain hk' | ⟨b, rfl⟩ | ⟨b, rfl⟩ | ⟨b, rfl⟩ := sw_column k
    · exact (Cert.SwBwdReferenceIdeal.Sr.v171_out _ _ _ _ _ _ _ r k hk').trans (arr6_out m c r k hk').symm
    · refine (Cert.SwBwdReferenceIdeal.Sr.v171_q hq r b).trans ((row_qk A 1 r b).symm.trans (congrArg (fun j => (dats m 0 c).arrAt 6 cfg0.N (ix2 r j)) (Fin.ext ?_)))
      show 2304 + (1 - 1) * 256 + b.val = 2304 + b.val
      omega
    · refine (Cert.SwBwdReferenceIdeal.Sr.v171_k hk r b).trans ((row_qk A 0 r b).symm.trans (congrArg (fun j => (dats m 0 c).arrAt 6 cfg0.N (ix2 r j)) (Fin.ext ?_)))
      show 2304 + (1 - 0) * 256 + b.val = 2560 + b.val
      omega
    · exact (Cert.SwBwdReferenceIdeal.Sr.v171_v _ _ _ _ _ _ _ r b).trans (row_v m c r b).symm
  · refine Eq.trans (b := Cert.SwBwdReferenceIdeal.Read.val_main_v176 (F := Ideal) (m ((c.tc : Thread nD τ).loc main_arg0)) (m ((c.tc : Thread nD τ).loc main_arg3))
      (m ((c.tc : Thread nD τ).loc main_arg4)) (m ((c.tc : Thread nD τ).loc main_arg5)) (m ((c.tc : Thread nD τ).loc main_arg7))) ?_ ?_
    · rw [← e0, ← e3, ← e4, ← e5, ← e7]
    rw [arr7 A]
    have both : ∀ (p : Fin 2) (z : Fin 1) (b : Fin 256), Cert.SwBwdReferenceIdeal.Read.val_main_v176 (F := Ideal) (m ((c.tc : Thread nD τ).loc main_arg0))
        (m ((c.tc : Thread nD τ).loc main_arg3)) (m ((c.tc : Thread nD τ).loc main_arg4)) (m ((c.tc : Thread nD τ).loc main_arg5))
        (m ((c.tc : Thread nD τ).loc main_arg7)) (ix3 p z b) = dnwAt m c p b + ((∑ r, gwr (X p) (D p) C S b r : ℝ) : EReal) := by
      intro p z b
      obtain rfl : z = 0 := Subsingleton.elim _ _
      obtain rfl | rfl : p = 0 ∨ p = 1 := by omega
      · exact Cert.SwBwdReferenceIdeal.Sr.v176_k hk 0 b
      · exact Cert.SwBwdReferenceIdeal.Sr.v176_q hq 0 b
    refine funext fun i => ?_
    rw [Idealize.ShloMosaic.ValueIdx.eq_ix3 i]
    exact both (i 0) (i 1) (i 2)

/-- The reference ends, changing no argument; it declares no semaphore. -/
theorem swBwd_reference_frame : Cert.quiescent_SwBwdReferenceIdeal := fun m ρ _ =>
  (θ_run Cert.SwBwdReferenceIdeal.defs _ _).mono (fun r h => ⟨fun c => (h c).2.2, sem_eq_zero_of_no_sems (by decide) r.2⟩) (Cert.SwBwdReferenceIdeal.Value.run m ρ)

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.GmEq
public import proofs.«01_k».proof.Proof.WgClaims
public import proofs.«01_k».proof.Proof.NormClaims
public import proofs.«01_k».proof.Proof.FwdClaims
public import proofs.«01_k».proof.Proof.BwdClaims
public import proofs.«01_k».proof.Proof.LossClaims
public import proofs.«01_k».proof.Proof.AdamClaims
public import proofs.«01_k».proof.Proof.ModClaims
public import proofs.«01_k».proof.Proof.ConvClaims
public import proofs.«01_k».proof.Proof.SwPrinted
public import proofs.«01_k».proof.Proof.SwClaims

@[expose] public section

open Idealize.ShloMosaic

noncomputable section

namespace Cert.Proof

instance : Cert.Pre_finite.Facts where
  slices_S4096x5120_S4096x512_0_4608 := by decide
  slices_S4096x1024_S4096x256_0_512 := by decide
  bcast_S_S4096x512 := by decide
  bcast_S_S256 := by decide
  bcast_S_S4x128x128 := by decide
  bcast_S_S4x128 := by decide
  bcast_S_S4096x256 := by decide

/-- The kernel's four arrays are the reference's, for finite arguments. -/
theorem gm_algebraic : Cert.algebraic_KernelIdeal_ReferenceIdeal_pre_finite := by
  intro m g m' g' hpre hargs
  refine ⟨_, _, _, _, Cert.KernelIdeal.Value.run_blocks m g, (θ_run Cert.ReferenceIdeal.defs _ _).mono (fun r h c => ?_) (Cert.ReferenceIdeal.Value.run m' g')⟩
  obtain ⟨f0, f1, f2, f3, f4, f5⟩ := Cert.Gm.pre_real m hpre c
  obtain ⟨e0, e1, e2, e3, e4, e5, e6⟩ := hargs c
  obtain ⟨h0, h1, h2, h3, hrest⟩ := h c
  have hk : Cert.KernelIdeal.Gm.Args m c _ _ _ _ _ _ :=
    ⟨f0, fun k => f1 _, fun k => f2 _, fun k r j => f3 _, fun k r => f4 _, f5⟩
  have hr : Cert.ReferenceIdeal.Gm.Args _ _ _ _ _ _ _ _ _ _ _ _ :=
    ⟨fun r q => (congrFun e0 _).trans (f0 r q), fun k => (congrFun e1 _).trans (f1 _), fun k => (congrFun e2 _).trans (f2 _),
      fun k r j => (congrFun e3 _).trans (f3 _), fun k r => (congrFun e4 _).trans (f4 _), fun r q => (congrFun e5 _).trans (f5 r q)⟩
  exact ⟨h0.trans ((Cert.ReferenceIdeal.Read.val_main_v117_eq _).trans (Cert.Gm.eq_dproj hk hr e6).symm),
    h1.trans ((Cert.ReferenceIdeal.Read.val_main_v72_eq _).trans (Cert.Gm.eq_dws hk hr).symm),
    h2.trans ((Cert.ReferenceIdeal.Read.val_main_v119_eq _).trans (Cert.Gm.eq_dbst hk hr).symm),
    h3.trans ((Cert.ReferenceIdeal.Read.val_main_v123_eq _).trans (Cert.Gm.eq_dln hk hr).symm), hrest⟩

/-- The reference ends, changing no argument; it declares no semaphore. -/
theorem gm_reference_frame : Cert.quiescent_ReferenceIdeal := fun m ρ _ =>
  (θ_run Cert.ReferenceIdeal.defs _ _).mono (fun r h => ⟨fun c => (h c).2.2.2.2, Idealize.ShloMosaic.sem_eq_zero_of_no_sems (by decide) r.2⟩) (Cert.ReferenceIdeal.Value.run m ρ)

theorem claim : Cert.Claim := by
  exact ⟨Cert.Kernel.Gen.facts, Cert.KernelIdeal.Gen.facts, Cert.ReferenceIdeal.Gen.facts,
    Cert.WgIn.Gen.facts, Cert.WgInIdeal.Gen.facts, Cert.WgInReferenceIdeal.Gen.facts,
    Cert.WgOut.Gen.facts, Cert.WgOutIdeal.Gen.facts, Cert.WgOutReferenceIdeal.Gen.facts,
    Cert.WgFfnIn.Gen.facts, Cert.WgFfnInIdeal.Gen.facts, Cert.WgFfnInReferenceIdeal.Gen.facts,
    Cert.WgFfnOut.Gen.facts, Cert.WgFfnOutIdeal.Gen.facts, Cert.WgFfnOutReferenceIdeal.Gen.facts,
    Cert.InBwd.Gen.facts, Cert.InBwdIdeal.Gen.facts, Cert.InBwdReferenceIdeal.Gen.facts,
    Cert.FfnInBwd.Gen.facts, Cert.FfnInBwdIdeal.Gen.facts, Cert.FfnInBwdReferenceIdeal.Gen.facts,
    Cert.OutBwd.Gen.facts, Cert.OutBwdIdeal.Gen.facts, Cert.OutBwdReferenceIdeal.Gen.facts,
    Cert.FfnOutBwd.Gen.facts, Cert.FfnOutBwdIdeal.Gen.facts, Cert.FfnOutBwdReferenceIdeal.Gen.facts,
    Cert.InFwd.Gen.facts, Cert.InFwdIdeal.Gen.facts, Cert.InFwdReferenceIdeal.Gen.facts,
    Cert.FfnInFwd.Gen.facts, Cert.FfnInFwdIdeal.Gen.facts, Cert.FfnInFwdReferenceIdeal.Gen.facts,
    Cert.OutFwd.Gen.facts, Cert.OutFwdIdeal.Gen.facts, Cert.OutFwdReferenceIdeal.Gen.facts,
    Cert.FfnOutFwd.Gen.facts, Cert.FfnOutFwdIdeal.Gen.facts, Cert.FfnOutFwdReferenceIdeal.Gen.facts,
    Cert.LossFwd.Gen.facts, Cert.LossFwdIdeal.Gen.facts, Cert.LossFwdReferenceIdeal.Gen.facts,
    Cert.ModBwd.Gen.facts, Cert.ModBwdIdeal.Gen.facts, Cert.ModBwdReferenceIdeal.Gen.facts,
    Cert.AdamMod.Gen.facts, Cert.AdamModIdeal.Gen.facts, Cert.AdamModReferenceIdeal.Gen.facts,
    Cert.AdamConv.Gen.facts, Cert.AdamConvIdeal.Gen.facts, Cert.AdamConvReferenceIdeal.Gen.facts,
    Cert.AdamIn.Gen.facts, Cert.AdamInIdeal.Gen.facts, Cert.AdamInReferenceIdeal.Gen.facts,
    Cert.AdamOut.Gen.facts, Cert.AdamOutIdeal.Gen.facts, Cert.AdamOutReferenceIdeal.Gen.facts,
    Cert.AdamFfnIn.Gen.facts, Cert.AdamFfnInIdeal.Gen.facts, Cert.AdamFfnInReferenceIdeal.Gen.facts,
    Cert.AdamFfnOut.Gen.facts, Cert.AdamFfnOutIdeal.Gen.facts, Cert.AdamFfnOutReferenceIdeal.Gen.facts,
    Cert.AdamSmall.Gen.facts, Cert.AdamSmallIdeal.Gen.facts, Cert.AdamSmallReferenceIdeal.Gen.facts,
    Cert.ConvBwd.Gen.facts, Cert.ConvBwdIdeal.Gen.facts, Cert.ConvBwdReferenceIdeal.Gen.facts,
    Cert.SwBwd.Gen.facts, Cert.SwBwdIdeal.Gen.facts, Cert.SwBwdReferenceIdeal.Gen.facts,
    inferInstance, inferInstance, inferInstance, inferInstance, inferInstance, inferInstance,
    fun m ρ _ => Cert.Kernel.Gen.frame m ρ, fun m ρ _ => Cert.KernelIdeal.Gen.frame m ρ, fun m ρ _ => Cert.KernelIdeal.Gen.frame m ρ,
    gm_reference_frame, fun m ρ _ => gm_reference_frame m ρ trivial,
    fun m ρ _ => Cert.WgIn.Gen.frame m ρ, fun m ρ _ => Cert.WgInIdeal.Gen.frame m ρ, wgIn_reference_frame,
    fun m ρ _ => Cert.WgOut.Gen.frame m ρ, fun m ρ _ => Cert.WgOutIdeal.Gen.frame m ρ, wgOut_reference_frame,
    fun m ρ _ => Cert.WgFfnIn.Gen.frame m ρ, fun m ρ _ => Cert.WgFfnInIdeal.Gen.frame m ρ, wgFfnIn_reference_frame,
    fun m ρ _ => Cert.WgFfnOut.Gen.frame m ρ, fun m ρ _ => Cert.WgFfnOutIdeal.Gen.frame m ρ, wgFfnOut_reference_frame,
    fun m ρ _ => Cert.InBwd.Gen.frame m ρ, fun m ρ _ => Cert.InBwdIdeal.Gen.frame m ρ, fun m ρ _ => Cert.InBwdIdeal.Gen.frame m ρ,
    inBwd_reference_frame, fun m ρ _ => inBwd_reference_frame m ρ trivial,
    fun m ρ _ => Cert.FfnInBwd.Gen.frame m ρ, fun m ρ _ => Cert.FfnInBwdIdeal.Gen.frame m ρ, fun m ρ _ => Cert.FfnInBwdIdeal.Gen.frame m ρ,
    ffnInBwd_reference_frame, fun m ρ _ => ffnInBwd_reference_frame m ρ trivial,
    fun m ρ _ => Cert.OutBwd.Gen.frame m ρ, fun m ρ _ => Cert.OutBwdIdeal.Gen.frame m ρ, outBwd_reference_frame,
    fun m ρ _ => Cert.FfnOutBwd.Gen.frame m ρ, fun m ρ _ => Cert.FfnOutBwdIdeal.Gen.frame m ρ, fun m ρ _ => Cert.FfnOutBwdIdeal.Gen.frame m ρ,
    ffnOutBwd_reference_frame, fun m ρ _ => ffnOutBwd_reference_frame m ρ trivial,
    fun m ρ _ => Cert.InFwd.Gen.frame m ρ, fun m ρ _ => Cert.InFwdIdeal.Gen.frame m ρ, inFwd_reference_frame,
    fun m ρ _ => Cert.FfnInFwd.Gen.frame m ρ, fun m ρ _ => Cert.FfnInFwdIdeal.Gen.frame m ρ, ffnInFwd_reference_frame,
    fun m ρ _ => Cert.OutFwd.Gen.frame m ρ, fun m ρ _ => Cert.OutFwdIdeal.Gen.frame m ρ, outFwd_reference_frame,
    fun m ρ _ => Cert.FfnOutFwd.Gen.frame m ρ, fun m ρ _ => Cert.FfnOutFwdIdeal.Gen.frame m ρ, ffnOutFwd_reference_frame,
    fun m ρ _ => Cert.LossFwd.Gen.frame m ρ, fun m ρ _ => Cert.LossFwdIdeal.Gen.frame m ρ, lossFwd_reference_frame,
    fun m ρ _ => Cert.ModBwd.Gen.frame m ρ, fun m ρ _ => Cert.ModBwdIdeal.Gen.frame m ρ, modBwd_reference_frame,
    fun m ρ _ => Cert.AdamMod.Gen.frame m ρ, fun m ρ _ => Cert.AdamModIdeal.Gen.frame m ρ, adamMod_reference_frame,
    fun m ρ _ => Cert.AdamConv.Gen.frame m ρ, fun m ρ _ => Cert.AdamConvIdeal.Gen.frame m ρ, adamConv_reference_frame,
    fun m ρ _ => Cert.AdamIn.Gen.frame m ρ, fun m ρ _ => Cert.AdamInIdeal.Gen.frame m ρ, adamIn_reference_frame,
    fun m ρ _ => Cert.AdamOut.Gen.frame m ρ, fun m ρ _ => Cert.AdamOutIdeal.Gen.frame m ρ, adamOut_reference_frame,
    fun m ρ _ => Cert.AdamFfnIn.Gen.frame m ρ, fun m ρ _ => Cert.AdamFfnInIdeal.Gen.frame m ρ, adamFfnIn_reference_frame,
    fun m ρ _ => Cert.AdamFfnOut.Gen.frame m ρ, fun m ρ _ => Cert.AdamFfnOutIdeal.Gen.frame m ρ, adamFfnOut_reference_frame,
    fun m ρ _ => Cert.AdamSmall.Gen.frame m ρ, fun m ρ _ => Cert.AdamSmallIdeal.Gen.frame m ρ, adamSmall_reference_frame,
    fun m ρ _ => Cert.ConvBwd.Gen.frame m ρ, fun m ρ _ => Cert.ConvBwdIdeal.Gen.frame m ρ, fun m ρ _ => Cert.ConvBwdIdeal.Gen.frame m ρ,
    convBwd_reference_frame, fun m ρ _ => convBwd_reference_frame m ρ trivial,
    swBwd_frame, fun m ρ _ => Cert.Sw.frame m ρ, fun m ρ _ => Cert.Sw.frame m ρ,
    swBwd_reference_frame, fun m ρ _ => swBwd_reference_frame m ρ trivial,
    ⟨IdealRules.named_const.statement Cert.KernelIdeal.κ "sqrt_half" .f32 0x3F3504F3#32 _ rfl,
      IdealRules.named_const.statement Cert.KernelIdeal.κ "inv_sqrt_2pi" .f32 0x3ECC422A#32 _ rfl⟩, gm_algebraic,
    trivial, wgIn_algebraic,
    trivial, wgOut_algebraic,
    trivial, wgFfnIn_algebraic,
    trivial, wgFfnOut_algebraic,
    trivial, inBwd_algebraic,
    trivial, ffnInBwd_algebraic,
    trivial, outBwd_algebraic,
    trivial, ffnOutBwd_algebraic,
    trivial, inFwd_algebraic,
    trivial, ffnInFwd_algebraic,
    trivial, outFwd_algebraic,
    trivial, ffnOutFwd_algebraic,
    trivial, lossFwd_algebraic,
    trivial, modBwd_algebraic,
    trivial, adamMod_algebraic,
    trivial, adamConv_algebraic,
    trivial, adamIn_algebraic,
    trivial, adamOut_algebraic,
    trivial, adamFfnIn_algebraic,
    trivial, adamFfnOut_algebraic,
    trivial, adamSmall_algebraic,
    trivial, convBwd_algebraic,
    trivial, swBwd_algebraic⟩

end Cert.Proof
end
